-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gains_finite [hPre_gains_finite : Cert.Pre_gains_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gains_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gains_finite [hPre_gains_finite : Cert.Pre_gains_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gains_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpGradIdeal (m : (ℓ : Loc Cert.UpGradIdeal.nD Cert.UpGradIdeal.τ Cert.UpGradIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_UpWeightGradIdeal (m : (ℓ : Loc Cert.UpWeightGradIdeal.nD Cert.UpWeightGradIdeal.τ Cert.UpWeightGradIdeal.sig) → Buf (Elt Ideal) ℓ) : Prop :=
  True

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownGradIdeal (m : (ℓ : Loc Cert.DownGradIdeal.nD Cert.DownGradIdeal.τ Cert.DownGradIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DownWeightGradIdeal (m : (ℓ : Loc Cert.DownWeightGradIdeal.nD Cert.DownWeightGradIdeal.τ Cert.DownWeightGradIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_LossGradIdeal (m : (ℓ : Loc Cert.LossGradIdeal.nD Cert.LossGradIdeal.τ Cert.LossGradIdeal.sig) → Buf (Elt Ideal) ℓ) : Prop :=
  True

def Pre_DwSquare (m : (ℓ : Loc Cert.DwSquare.nD Cert.DwSquare.τ Cert.DwSquare.sig) → Buf (Elt Bits) ℓ) : Prop :=
  True

def Pre_DwSquareIdeal (m : (ℓ : Loc Cert.DwSquareIdeal.nD Cert.DwSquareIdeal.τ Cert.DwSquareIdeal.sig) → Buf (Elt Ideal) ℓ) : Prop :=
  True

def Pre_SquareWeightGradIdeal (m : (ℓ : Loc Cert.SquareWeightGradIdeal.nD Cert.SquareWeightGradIdeal.τ Cert.SquareWeightGradIdeal.sig) → Buf (Elt Ideal) ℓ) : Prop :=
  True

def Pre_MemoProj (m : (ℓ : Loc Cert.MemoProj.nD Cert.MemoProj.τ Cert.MemoProj.sig) → Buf (Elt Bits) ℓ) : Prop :=
  True

def Pre_MemoProjIdeal (m : (ℓ : Loc Cert.MemoProjIdeal.nD Cert.MemoProjIdeal.τ Cert.MemoProjIdeal.sig) → Buf (Elt Ideal) ℓ) : Prop :=
  True

def Pre_MemoryOutIdeal (m : (ℓ : Loc Cert.MemoryOutIdeal.nD Cert.MemoryOutIdeal.τ Cert.MemoryOutIdeal.sig) → Buf (Elt Ideal) ℓ) : Prop :=
  True

def Pre_MemoBwd (m : (ℓ : Loc Cert.MemoBwd.nD Cert.MemoBwd.τ Cert.MemoBwd.sig) → Buf (Elt Bits) ℓ) : Prop :=
  True

def Pre_MemoBwdIdeal (m : (ℓ : Loc Cert.MemoBwdIdeal.nD Cert.MemoBwdIdeal.τ Cert.MemoBwdIdeal.sig) → Buf (Elt Ideal) ℓ) : Prop :=
  True

def Pre_MemoryOutGradIdeal (m : (ℓ : Loc Cert.MemoryOutGradIdeal.nD Cert.MemoryOutGradIdeal.τ Cert.MemoryOutGradIdeal.sig) → Buf (Elt Ideal) ℓ) : Prop :=
  True

def Pre_MemqBwd (m : (ℓ : Loc Cert.MemqBwd.nD Cert.MemqBwd.τ Cert.MemqBwd.sig) → Buf (Elt Bits) ℓ) : Prop :=
  True

def Pre_MemqBwdIdeal (m : (ℓ : Loc Cert.MemqBwdIdeal.nD Cert.MemqBwdIdeal.τ Cert.MemqBwdIdeal.sig) → Buf (Elt Ideal) ℓ) : Prop :=
  True

def Pre_MemoryQueryGradIdeal (m : (ℓ : Loc Cert.MemoryQueryGradIdeal.nD Cert.MemoryQueryGradIdeal.τ Cert.MemoryQueryGradIdeal.sig) → Buf (Elt Ideal) ℓ) : Prop :=
  True

def Pre_MemqProj (m : (ℓ : Loc Cert.MemqProj.nD Cert.MemqProj.τ Cert.MemqProj.sig) → Buf (Elt Bits) ℓ) : Prop :=
  True

def Pre_MemqProjIdeal (m : (ℓ : Loc Cert.MemqProjIdeal.nD Cert.MemqProjIdeal.τ Cert.MemqProjIdeal.sig) → Buf (Elt Ideal) ℓ) : Prop :=
  True

def Pre_MemoryQueryIdeal (m : (ℓ : Loc Cert.MemoryQueryIdeal.nD Cert.MemoryQueryIdeal.τ Cert.MemoryQueryIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProductIdeal (m : (ℓ : Loc Cert.UpProductIdeal.nD Cert.UpProductIdeal.τ Cert.UpProductIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InGradIdeal (m : (ℓ : Loc Cert.InGradIdeal.nD Cert.InGradIdeal.τ Cert.InGradIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProductIdeal (m : (ℓ : Loc Cert.InProductIdeal.nD Cert.InProductIdeal.τ Cert.InProductIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_MixOutIdeal (m : (ℓ : Loc Cert.MixOutIdeal.nD Cert.MixOutIdeal.τ Cert.MixOutIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInStepIdeal (m : (ℓ : Loc Cert.AdamInStepIdeal.nD Cert.AdamInStepIdeal.τ Cert.AdamInStepIdeal.sig) → Buf (Elt Ideal) ℓ) : Prop :=
  True

def Pre_AdamUq (m : (ℓ : Loc Cert.AdamUq.nD Cert.AdamUq.τ Cert.AdamUq.sig) → Buf (Elt Bits) ℓ) : Prop :=
  True

def Pre_AdamUqIdeal (m : (ℓ : Loc Cert.AdamUqIdeal.nD Cert.AdamUqIdeal.τ Cert.AdamUqIdeal.sig) → Buf (Elt Ideal) ℓ) : Prop :=
  True

def Pre_AdamUqStepIdeal (m : (ℓ : Loc Cert.AdamUqStepIdeal.nD Cert.AdamUqStepIdeal.τ Cert.AdamUqStepIdeal.sig) → Buf (Elt Ideal) ℓ) : Prop :=
  True

def Pre_AdamUkv (m : (ℓ : Loc Cert.AdamUkv.nD Cert.AdamUkv.τ Cert.AdamUkv.sig) → Buf (Elt Bits) ℓ) : Prop :=
  True

def Pre_AdamUkvIdeal (m : (ℓ : Loc Cert.AdamUkvIdeal.nD Cert.AdamUkvIdeal.τ Cert.AdamUkvIdeal.sig) → Buf (Elt Ideal) ℓ) : Prop :=
  True

def Pre_AdamUkvStepIdeal (m : (ℓ : Loc Cert.AdamUkvStepIdeal.nD Cert.AdamUkvStepIdeal.τ Cert.AdamUkvStepIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareStepIdeal (m : (ℓ : Loc Cert.AdamSquareStepIdeal.nD Cert.AdamSquareStepIdeal.τ Cert.AdamSquareStepIdeal.sig) → Buf (Elt Ideal) ℓ) : Prop :=
  True

def Pre_AdamMemKv (m : (ℓ : Loc Cert.AdamMemKv.nD Cert.AdamMemKv.τ Cert.AdamMemKv.sig) → Buf (Elt Bits) ℓ) : Prop :=
  True

def Pre_AdamMemKvIdeal (m : (ℓ : Loc Cert.AdamMemKvIdeal.nD Cert.AdamMemKvIdeal.τ Cert.AdamMemKvIdeal.sig) → Buf (Elt Ideal) ℓ) : Prop :=
  True

def Pre_AdamMemKvStepIdeal (m : (ℓ : Loc Cert.AdamMemKvStepIdeal.nD Cert.AdamMemKvStepIdeal.τ Cert.AdamMemKvStepIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpStepIdeal (m : (ℓ : Loc Cert.AdamUpStepIdeal.nD Cert.AdamUpStepIdeal.τ Cert.AdamUpStepIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownStepIdeal (m : (ℓ : Loc Cert.AdamDownStepIdeal.nD Cert.AdamDownStepIdeal.τ Cert.AdamDownStepIdeal.sig) → Buf (Elt Ideal) ℓ) : Prop :=
  True

def Pre_DwOutU (m : (ℓ : Loc Cert.DwOutU.nD Cert.DwOutU.τ Cert.DwOutU.sig) → Buf (Elt Bits) ℓ) : Prop :=
  True

def Pre_DwOutUIdeal (m : (ℓ : Loc Cert.DwOutUIdeal.nD Cert.DwOutUIdeal.τ Cert.DwOutUIdeal.sig) → Buf (Elt Ideal) ℓ) : Prop :=
  True

def Pre_OutUWeightGradIdeal (m : (ℓ : Loc Cert.OutUWeightGradIdeal.nD Cert.OutUWeightGradIdeal.τ Cert.OutUWeightGradIdeal.sig) → Buf (Elt Ideal) ℓ) : Prop :=
  True

def Pre_DwUq (m : (ℓ : Loc Cert.DwUq.nD Cert.DwUq.τ Cert.DwUq.sig) → Buf (Elt Bits) ℓ) : Prop :=
  True

def Pre_DwUqIdeal (m : (ℓ : Loc Cert.DwUqIdeal.nD Cert.DwUqIdeal.τ Cert.DwUqIdeal.sig) → Buf (Elt Ideal) ℓ) : Prop :=
  True

def Pre_UqWeightGradIdeal (m : (ℓ : Loc Cert.UqWeightGradIdeal.nD Cert.UqWeightGradIdeal.τ Cert.UqWeightGradIdeal.sig) → Buf (Elt Ideal) ℓ) : Prop :=
  True

def Pre_DwUkv (m : (ℓ : Loc Cert.DwUkv.nD Cert.DwUkv.τ Cert.DwUkv.sig) → Buf (Elt Bits) ℓ) : Prop :=
  True

def Pre_DwUkvIdeal (m : (ℓ : Loc Cert.DwUkvIdeal.nD Cert.DwUkvIdeal.τ Cert.DwUkvIdeal.sig) → Buf (Elt Ideal) ℓ) : Prop :=
  True

def Pre_UkvWeightGradIdeal (m : (ℓ : Loc Cert.UkvWeightGradIdeal.nD Cert.UkvWeightGradIdeal.τ Cert.UkvWeightGradIdeal.sig) → Buf (Elt Ideal) ℓ) : Prop :=
  True

def Pre_DwInQuery (m : (ℓ : Loc Cert.DwInQuery.nD Cert.DwInQuery.τ Cert.DwInQuery.sig) → Buf (Elt Bits) ℓ) : Prop :=
  True

def Pre_DwInQueryIdeal (m : (ℓ : Loc Cert.DwInQueryIdeal.nD Cert.DwInQueryIdeal.τ Cert.DwInQueryIdeal.sig) → Buf (Elt Ideal) ℓ) : Prop :=
  True

def Pre_InQueryWeightGradIdeal (m : (ℓ : Loc Cert.InQueryWeightGradIdeal.nD Cert.InQueryWeightGradIdeal.τ Cert.InQueryWeightGradIdeal.sig) → Buf (Elt Ideal) ℓ) : Prop :=
  True

def Pre_DwInKv (m : (ℓ : Loc Cert.DwInKv.nD Cert.DwInKv.τ Cert.DwInKv.sig) → Buf (Elt Bits) ℓ) : Prop :=
  True

def Pre_DwInKvIdeal (m : (ℓ : Loc Cert.DwInKvIdeal.nD Cert.DwInKvIdeal.τ Cert.DwInKvIdeal.sig) → Buf (Elt Ideal) ℓ) : Prop :=
  True

def Pre_InKvWeightGradIdeal (m : (ℓ : Loc Cert.InKvWeightGradIdeal.nD Cert.InKvWeightGradIdeal.τ Cert.InKvWeightGradIdeal.sig) → Buf (Elt Ideal) ℓ) : Prop :=
  True

def Pre_DwInRope (m : (ℓ : Loc Cert.DwInRope.nD Cert.DwInRope.τ Cert.DwInRope.sig) → Buf (Elt Bits) ℓ) : Prop :=
  True

def Pre_DwInRopeIdeal (m : (ℓ : Loc Cert.DwInRopeIdeal.nD Cert.DwInRopeIdeal.τ Cert.DwInRopeIdeal.sig) → Buf (Elt Ideal) ℓ) : Prop :=
  True

def Pre_InRopeWeightGradIdeal (m : (ℓ : Loc Cert.InRopeWeightGradIdeal.nD Cert.InRopeWeightGradIdeal.τ Cert.InRopeWeightGradIdeal.sig) → Buf (Elt Ideal) ℓ) : Prop :=
  True

def Pre_DwMemKv (m : (ℓ : Loc Cert.DwMemKv.nD Cert.DwMemKv.τ Cert.DwMemKv.sig) → Buf (Elt Bits) ℓ) : Prop :=
  True

def Pre_DwMemKvIdeal (m : (ℓ : Loc Cert.DwMemKvIdeal.nD Cert.DwMemKvIdeal.τ Cert.DwMemKvIdeal.sig) → Buf (Elt Ideal) ℓ) : Prop :=
  True

def Pre_MemKvWeightGradIdeal (m : (ℓ : Loc Cert.MemKvWeightGradIdeal.nD Cert.MemKvWeightGradIdeal.τ Cert.MemKvWeightGradIdeal.sig) → Buf (Elt Ideal) ℓ) : Prop :=
  True

def Pre_MemkvBwd (m : (ℓ : Loc Cert.MemkvBwd.nD Cert.MemkvBwd.τ Cert.MemkvBwd.sig) → Buf (Elt Bits) ℓ) : Prop :=
  True

def Pre_MemkvBwdIdeal (m : (ℓ : Loc Cert.MemkvBwdIdeal.nD Cert.MemkvBwdIdeal.τ Cert.MemkvBwdIdeal.sig) → Buf (Elt Ideal) ℓ) : Prop :=
  True

def Pre_MemoryKvGradIdeal (m : (ℓ : Loc Cert.MemoryKvGradIdeal.nD Cert.MemoryKvGradIdeal.τ Cert.MemoryKvGradIdeal.sig) → Buf (Elt Ideal) ℓ) : Prop :=
  True

def Pre_QueryUpBwd (m : (ℓ : Loc Cert.QueryUpBwd.nD Cert.QueryUpBwd.τ Cert.QueryUpBwd.sig) → Buf (Elt Bits) ℓ) : Prop :=
  True

def Pre_QueryUpBwdIdeal (m : (ℓ : Loc Cert.QueryUpBwdIdeal.nD Cert.QueryUpBwdIdeal.τ Cert.QueryUpBwdIdeal.sig) → Buf (Elt Ideal) ℓ) : Prop :=
  True

def Pre_QueryLatentGradIdeal (m : (ℓ : Loc Cert.QueryLatentGradIdeal.nD Cert.QueryLatentGradIdeal.τ Cert.QueryLatentGradIdeal.sig) → Buf (Elt Ideal) ℓ) : Prop :=
  True

def Pre_KvUpBwd (m : (ℓ : Loc Cert.KvUpBwd.nD Cert.KvUpBwd.τ Cert.KvUpBwd.sig) → Buf (Elt Bits) ℓ) : Prop :=
  True

def Pre_KvUpBwdIdeal (m : (ℓ : Loc Cert.KvUpBwdIdeal.nD Cert.KvUpBwdIdeal.τ Cert.KvUpBwdIdeal.sig) → Buf (Elt Ideal) ℓ) : Prop :=
  True

def Pre_KvLatentGradIdeal (m : (ℓ : Loc Cert.KvLatentGradIdeal.nD Cert.KvLatentGradIdeal.τ Cert.KvLatentGradIdeal.sig) → Buf (Elt Ideal) ℓ) : Prop :=
  True

def Pre_ConvNormBwd (m : (ℓ : Loc Cert.ConvNormBwd.nD Cert.ConvNormBwd.τ Cert.ConvNormBwd.sig) → Buf (Elt Bits) ℓ) : Prop :=
  True

def Pre_ConvNormBwdIdeal (m : (ℓ : Loc Cert.ConvNormBwdIdeal.nD Cert.ConvNormBwdIdeal.τ Cert.ConvNormBwdIdeal.sig) → Buf (Elt Ideal) ℓ) : Prop :=
  True

def Pre_ConvNormBwdIdeal_conv_finite [hPre_conv_finite : Cert.Pre_conv_finite.Facts] (m : (ℓ : Loc Cert.ConvNormBwdIdeal.nD Cert.ConvNormBwdIdeal.τ Cert.ConvNormBwdIdeal.sig) → Buf (Elt Ideal) ℓ) : Prop :=
  ∀ c : Dev Cert.ConvNormBwdIdeal.nD,
    (Cert.Pre_conv_finite.fn (F := Ideal) (m ((c.tc : Thread Cert.ConvNormBwdIdeal.nD Cert.ConvNormBwdIdeal.τ).loc Cert.ConvNormBwdIdeal.main_arg0)) (m ((c.tc : Thread Cert.ConvNormBwdIdeal.nD Cert.ConvNormBwdIdeal.τ).loc Cert.ConvNormBwdIdeal.main_arg1)) (m ((c.tc : Thread Cert.ConvNormBwdIdeal.nD Cert.ConvNormBwdIdeal.τ).loc Cert.ConvNormBwdIdeal.main_arg2)) (m ((c.tc : Thread Cert.ConvNormBwdIdeal.nD Cert.ConvNormBwdIdeal.τ).loc Cert.ConvNormBwdIdeal.main_arg3))) = (fun _ => 1#1)

def Pre_ConvNormGradIdeal (m : (ℓ : Loc Cert.ConvNormGradIdeal.nD Cert.ConvNormGradIdeal.τ Cert.ConvNormGradIdeal.sig) → Buf (Elt Ideal) ℓ) : Prop :=
  True

def Pre_ConvNormGradIdeal_conv_finite [hPre_conv_finite : Cert.Pre_conv_finite.Facts] (m : (ℓ : Loc Cert.ConvNormGradIdeal.nD Cert.ConvNormGradIdeal.τ Cert.ConvNormGradIdeal.sig) → Buf (Elt Ideal) ℓ) : Prop :=
  ∀ c : Dev Cert.ConvNormGradIdeal.nD,
    (Cert.Pre_conv_finite.fn (F := Ideal) (m ((c.tc : Thread Cert.ConvNormGradIdeal.nD Cert.ConvNormGradIdeal.τ).loc Cert.ConvNormGradIdeal.main_arg0)) (m ((c.tc : Thread Cert.ConvNormGradIdeal.nD Cert.ConvNormGradIdeal.τ).loc Cert.ConvNormGradIdeal.main_arg1)) (m ((c.tc : Thread Cert.ConvNormGradIdeal.nD Cert.ConvNormGradIdeal.τ).loc Cert.ConvNormGradIdeal.main_arg2)) (m ((c.tc : Thread Cert.ConvNormGradIdeal.nD Cert.ConvNormGradIdeal.τ).loc Cert.ConvNormGradIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gains_finite [hKernelIdeal : Cert.KernelIdeal.Facts] [hPre_gains_finite : Cert.Pre_gains_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gains_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gains_finite [hReferenceIdeal : Cert.ReferenceIdeal.Facts] [hPre_gains_finite : Cert.Pre_gains_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gains_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4)
      ∧ r.2.mem ((c.tc : Thread Cert.UpBwd.nD Cert.UpBwd.τ).loc Cert.UpBwd.main_arg5) = m ((c.tc : Thread Cert.UpBwd.nD Cert.UpBwd.τ).loc Cert.UpBwd.main_arg5))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
      ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
      ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2)
      ∧ r.2.mem ((c.tc : Thread Cert.UpGradIdeal.nD Cert.UpGradIdeal.τ).loc Cert.UpGradIdeal.main_arg3) = m ((c.tc : Thread Cert.UpGradIdeal.nD Cert.UpGradIdeal.τ).loc Cert.UpGradIdeal.main_arg3)
      ∧ r.2.mem ((c.tc : Thread Cert.UpGradIdeal.nD Cert.UpGradIdeal.τ).loc Cert.UpGradIdeal.main_arg4) = m ((c.tc : Thread Cert.UpGradIdeal.nD Cert.UpGradIdeal.τ).loc Cert.UpGradIdeal.main_arg4)
      ∧ r.2.mem ((c.tc : Thread Cert.UpGradIdeal.nD Cert.UpGradIdeal.τ).loc Cert.UpGradIdeal.main_arg5) = m ((c.tc : Thread Cert.UpGradIdeal.nD Cert.UpGradIdeal.τ).loc Cert.UpGradIdeal.main_arg5))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_UpWeightGradIdeal [hUpWeightGradIdeal : Cert.UpWeightGradIdeal.Facts] : Prop :=
  ∀ (m : (ℓ : Loc Cert.UpWeightGradIdeal.nD Cert.UpWeightGradIdeal.τ Cert.UpWeightGradIdeal.sig) → Buf (Elt Ideal) ℓ) (g : Dev Cert.UpWeightGradIdeal.nD → PrngReg), Pre_UpWeightGradIdeal m →
    θ_run (Cert.UpWeightGradIdeal.defs (F := Ideal)) (onTc (τ := Cert.UpWeightGradIdeal.τ) (Cert.UpWeightGradIdeal.main (F := Ideal))) ⟨m, fun _ => 0, g⟩ (fun r => (∀ c : Dev Cert.UpWeightGradIdeal.nD,
      r.2.mem ((c.tc : Thread Cert.UpWeightGradIdeal.nD Cert.UpWeightGradIdeal.τ).loc Cert.UpWeightGradIdeal.main_arg0) = m ((c.tc : Thread Cert.UpWeightGradIdeal.nD Cert.UpWeightGradIdeal.τ).loc Cert.UpWeightGradIdeal.main_arg0)
      ∧ r.2.mem ((c.tc : Thread Cert.UpWeightGradIdeal.nD Cert.UpWeightGradIdeal.τ).loc Cert.UpWeightGradIdeal.main_arg1) = m ((c.tc : Thread Cert.UpWeightGradIdeal.nD Cert.UpWeightGradIdeal.τ).loc Cert.UpWeightGradIdeal.main_arg1))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DownWeightGradIdeal [hDownWeightGradIdeal : Cert.DownWeightGradIdeal.Facts] : Prop :=
  ∀ (m : (ℓ : Loc Cert.DownWeightGradIdeal.nD Cert.DownWeightGradIdeal.τ Cert.DownWeightGradIdeal.sig) → Buf (Elt Ideal) ℓ) (g : Dev Cert.DownWeightGradIdeal.nD → PrngReg), Pre_DownWeightGradIdeal m →
    θ_run (Cert.DownWeightGradIdeal.defs (F := Ideal)) (onTc (τ := Cert.DownWeightGradIdeal.τ) (Cert.DownWeightGradIdeal.main (F := Ideal))) ⟨m, fun _ => 0, g⟩ (fun r => (∀ c : Dev Cert.DownWeightGradIdeal.nD,
      r.2.mem ((c.tc : Thread Cert.DownWeightGradIdeal.nD Cert.DownWeightGradIdeal.τ).loc Cert.DownWeightGradIdeal.main_arg0) = m ((c.tc : Thread Cert.DownWeightGradIdeal.nD Cert.DownWeightGradIdeal.τ).loc Cert.DownWeightGradIdeal.main_arg0)
      ∧ r.2.mem ((c.tc : Thread Cert.DownWeightGradIdeal.nD Cert.DownWeightGradIdeal.τ).loc Cert.DownWeightGradIdeal.main_arg1) = m ((c.tc : Thread Cert.DownWeightGradIdeal.nD Cert.DownWeightGradIdeal.τ).loc Cert.DownWeightGradIdeal.main_arg1))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2)
      ∧ r.2.mem ((c.tc : Thread Cert.LossGradIdeal.nD Cert.LossGradIdeal.τ).loc Cert.LossGradIdeal.main_arg3) = m ((c.tc : Thread Cert.LossGradIdeal.nD Cert.LossGradIdeal.τ).loc Cert.LossGradIdeal.main_arg3))
      ∧ r.2.sem = fun _ => 0)

def quiescent_DwSquare [hDwSquare : Cert.DwSquare.Facts] : Prop :=
  ∀ (m : (ℓ : Loc Cert.DwSquare.nD Cert.DwSquare.τ Cert.DwSquare.sig) → Buf (Elt Bits) ℓ) (g : Dev Cert.DwSquare.nD → PrngReg), Pre_DwSquare m →
    θ_run (Cert.DwSquare.defs (F := Bits)) (onTc (τ := Cert.DwSquare.τ) (Cert.DwSquare.main (F := Bits))) ⟨m, fun _ => 0, g⟩ (fun r => (∀ c : Dev Cert.DwSquare.nD,
      r.2.mem ((c.tc : Thread Cert.DwSquare.nD Cert.DwSquare.τ).loc Cert.DwSquare.main_arg0) = m ((c.tc : Thread Cert.DwSquare.nD Cert.DwSquare.τ).loc Cert.DwSquare.main_arg0)
      ∧ r.2.mem ((c.tc : Thread Cert.DwSquare.nD Cert.DwSquare.τ).loc Cert.DwSquare.main_arg1) = m ((c.tc : Thread Cert.DwSquare.nD Cert.DwSquare.τ).loc Cert.DwSquare.main_arg1))
      ∧ r.2.sem = fun _ => 0)

def quiescent_DwSquareIdeal [hDwSquareIdeal : Cert.DwSquareIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg), Pre_DwSquareIdeal m →
    θ_run (Cert.DwSquareIdeal.defs (F := Ideal)) (onTc (τ := Cert.DwSquareIdeal.τ) (Cert.DwSquareIdeal.main (F := Ideal))) ⟨m, fun _ => 0, g⟩ (fun r => (∀ c : Dev Cert.DwSquareIdeal.nD,
      r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
      ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ r.2.sem = fun _ => 0)

def quiescent_SquareWeightGradIdeal [hSquareWeightGradIdeal : Cert.SquareWeightGradIdeal.Facts] : Prop :=
  ∀ (m : (ℓ : Loc Cert.SquareWeightGradIdeal.nD Cert.SquareWeightGradIdeal.τ Cert.SquareWeightGradIdeal.sig) → Buf (Elt Ideal) ℓ) (g : Dev Cert.SquareWeightGradIdeal.nD → PrngReg), Pre_SquareWeightGradIdeal m →
    θ_run (Cert.SquareWeightGradIdeal.defs (F := Ideal)) (onTc (τ := Cert.SquareWeightGradIdeal.τ) (Cert.SquareWeightGradIdeal.main (F := Ideal))) ⟨m, fun _ => 0, g⟩ (fun r => (∀ c : Dev Cert.SquareWeightGradIdeal.nD,
      r.2.mem ((c.tc : Thread Cert.SquareWeightGradIdeal.nD Cert.SquareWeightGradIdeal.τ).loc Cert.SquareWeightGradIdeal.main_arg0) = m ((c.tc : Thread Cert.SquareWeightGradIdeal.nD Cert.SquareWeightGradIdeal.τ).loc Cert.SquareWeightGradIdeal.main_arg0)
      ∧ r.2.mem ((c.tc : Thread Cert.SquareWeightGradIdeal.nD Cert.SquareWeightGradIdeal.τ).loc Cert.SquareWeightGradIdeal.main_arg1) = m ((c.tc : Thread Cert.SquareWeightGradIdeal.nD Cert.SquareWeightGradIdeal.τ).loc Cert.SquareWeightGradIdeal.main_arg1))
      ∧ r.2.sem = fun _ => 0)

def quiescent_MemoProj [hMemoProj : Cert.MemoProj.Facts] : Prop :=
  ∀ (m : (ℓ : Loc Cert.MemoProj.nD Cert.MemoProj.τ Cert.MemoProj.sig) → Buf (Elt Bits) ℓ) (g : Dev Cert.MemoProj.nD → PrngReg), Pre_MemoProj m →
    θ_run (Cert.MemoProj.defs (F := Bits)) (onTc (τ := Cert.MemoProj.τ) (Cert.MemoProj.main (F := Bits))) ⟨m, fun _ => 0, g⟩ (fun r => (∀ c : Dev Cert.MemoProj.nD,
      r.2.mem ((c.tc : Thread Cert.MemoProj.nD Cert.MemoProj.τ).loc Cert.MemoProj.main_arg0) = m ((c.tc : Thread Cert.MemoProj.nD Cert.MemoProj.τ).loc Cert.MemoProj.main_arg0)
      ∧ r.2.mem ((c.tc : Thread Cert.MemoProj.nD Cert.MemoProj.τ).loc Cert.MemoProj.main_arg1) = m ((c.tc : Thread Cert.MemoProj.nD Cert.MemoProj.τ).loc Cert.MemoProj.main_arg1)
      ∧ r.2.mem ((c.tc : Thread Cert.MemoProj.nD Cert.MemoProj.τ).loc Cert.MemoProj.main_arg2) = m ((c.tc : Thread Cert.MemoProj.nD Cert.MemoProj.τ).loc Cert.MemoProj.main_arg2))
      ∧ r.2.sem = fun _ => 0)

def quiescent_MemoProjIdeal [hMemoProjIdeal : Cert.MemoProjIdeal.Facts] : Prop :=
  ∀ (m : (ℓ : Loc Cert.MemoProjIdeal.nD Cert.MemoProjIdeal.τ Cert.MemoProjIdeal.sig) → Buf (Elt Ideal) ℓ) (g : Dev Cert.MemoProjIdeal.nD → PrngReg), Pre_MemoProjIdeal m →
    θ_run (Cert.MemoProjIdeal.defs (F := Ideal)) (onTc (τ := Cert.MemoProjIdeal.τ) (Cert.MemoProjIdeal.main (F := Ideal))) ⟨m, fun _ => 0, g⟩ (fun r => (∀ c : Dev Cert.MemoProjIdeal.nD,
      r.2.mem ((c.tc : Thread Cert.MemoProjIdeal.nD Cert.MemoProjIdeal.τ).loc Cert.MemoProjIdeal.main_arg0) = m ((c.tc : Thread Cert.MemoProjIdeal.nD Cert.MemoProjIdeal.τ).loc Cert.MemoProjIdeal.main_arg0)
      ∧ r.2.mem ((c.tc : Thread Cert.MemoProjIdeal.nD Cert.MemoProjIdeal.τ).loc Cert.MemoProjIdeal.main_arg1) = m ((c.tc : Thread Cert.MemoProjIdeal.nD Cert.MemoProjIdeal.τ).loc Cert.MemoProjIdeal.main_arg1)
      ∧ r.2.mem ((c.tc : Thread Cert.MemoProjIdeal.nD Cert.MemoProjIdeal.τ).loc Cert.MemoProjIdeal.main_arg2) = m ((c.tc : Thread Cert.MemoProjIdeal.nD Cert.MemoProjIdeal.τ).loc Cert.MemoProjIdeal.main_arg2))
      ∧ r.2.sem = fun _ => 0)

def quiescent_MemoryOutIdeal [hMemoryOutIdeal : Cert.MemoryOutIdeal.Facts] : Prop :=
  ∀ (m : (ℓ : Loc Cert.MemoryOutIdeal.nD Cert.MemoryOutIdeal.τ Cert.MemoryOutIdeal.sig) → Buf (Elt Ideal) ℓ) (g : Dev Cert.MemoryOutIdeal.nD → PrngReg), Pre_MemoryOutIdeal m →
    θ_run (Cert.MemoryOutIdeal.defs (F := Ideal)) (onTc (τ := Cert.MemoryOutIdeal.τ) (Cert.MemoryOutIdeal.main (F := Ideal))) ⟨m, fun _ => 0, g⟩ (fun r => (∀ c : Dev Cert.MemoryOutIdeal.nD,
      r.2.mem ((c.tc : Thread Cert.MemoryOutIdeal.nD Cert.MemoryOutIdeal.τ).loc Cert.MemoryOutIdeal.main_arg0) = m ((c.tc : Thread Cert.MemoryOutIdeal.nD Cert.MemoryOutIdeal.τ).loc Cert.MemoryOutIdeal.main_arg0)
      ∧ r.2.mem ((c.tc : Thread Cert.MemoryOutIdeal.nD Cert.MemoryOutIdeal.τ).loc Cert.MemoryOutIdeal.main_arg1) = m ((c.tc : Thread Cert.MemoryOutIdeal.nD Cert.MemoryOutIdeal.τ).loc Cert.MemoryOutIdeal.main_arg1)
      ∧ r.2.mem ((c.tc : Thread Cert.MemoryOutIdeal.nD Cert.MemoryOutIdeal.τ).loc Cert.MemoryOutIdeal.main_arg2) = m ((c.tc : Thread Cert.MemoryOutIdeal.nD Cert.MemoryOutIdeal.τ).loc Cert.MemoryOutIdeal.main_arg2))
      ∧ r.2.sem = fun _ => 0)

def quiescent_MemoBwd [hMemoBwd : Cert.MemoBwd.Facts] : Prop :=
  ∀ (m : (ℓ : Loc Cert.MemoBwd.nD Cert.MemoBwd.τ Cert.MemoBwd.sig) → Buf (Elt Bits) ℓ) (g : Dev Cert.MemoBwd.nD → PrngReg), Pre_MemoBwd m →
    θ_run (Cert.MemoBwd.defs (F := Bits)) (onTc (τ := Cert.MemoBwd.τ) (Cert.MemoBwd.main (F := Bits))) ⟨m, fun _ => 0, g⟩ (fun r => (∀ c : Dev Cert.MemoBwd.nD,
      r.2.mem ((c.tc : Thread Cert.MemoBwd.nD Cert.MemoBwd.τ).loc Cert.MemoBwd.main_arg0) = m ((c.tc : Thread Cert.MemoBwd.nD Cert.MemoBwd.τ).loc Cert.MemoBwd.main_arg0)
      ∧ r.2.mem ((c.tc : Thread Cert.MemoBwd.nD Cert.MemoBwd.τ).loc Cert.MemoBwd.main_arg1) = m ((c.tc : Thread Cert.MemoBwd.nD Cert.MemoBwd.τ).loc Cert.MemoBwd.main_arg1))
      ∧ r.2.sem = fun _ => 0)

def quiescent_MemoBwdIdeal [hMemoBwdIdeal : Cert.MemoBwdIdeal.Facts] : Prop :=
  ∀ (m : (ℓ : Loc Cert.MemoBwdIdeal.nD Cert.MemoBwdIdeal.τ Cert.MemoBwdIdeal.sig) → Buf (Elt Ideal) ℓ) (g : Dev Cert.MemoBwdIdeal.nD → PrngReg), Pre_MemoBwdIdeal m →
    θ_run (Cert.MemoBwdIdeal.defs (F := Ideal)) (onTc (τ := Cert.MemoBwdIdeal.τ) (Cert.MemoBwdIdeal.main (F := Ideal))) ⟨m, fun _ => 0, g⟩ (fun r => (∀ c : Dev Cert.MemoBwdIdeal.nD,
      r.2.mem ((c.tc : Thread Cert.MemoBwdIdeal.nD Cert.MemoBwdIdeal.τ).loc Cert.MemoBwdIdeal.main_arg0) = m ((c.tc : Thread Cert.MemoBwdIdeal.nD Cert.MemoBwdIdeal.τ).loc Cert.MemoBwdIdeal.main_arg0)
      ∧ r.2.mem ((c.tc : Thread Cert.MemoBwdIdeal.nD Cert.MemoBwdIdeal.τ).loc Cert.MemoBwdIdeal.main_arg1) = m ((c.tc : Thread Cert.MemoBwdIdeal.nD Cert.MemoBwdIdeal.τ).loc Cert.MemoBwdIdeal.main_arg1))
      ∧ r.2.sem = fun _ => 0)

def quiescent_MemoryOutGradIdeal [hMemoryOutGradIdeal : Cert.MemoryOutGradIdeal.Facts] : Prop :=
  ∀ (m : (ℓ : Loc Cert.MemoryOutGradIdeal.nD Cert.MemoryOutGradIdeal.τ Cert.MemoryOutGradIdeal.sig) → Buf (Elt Ideal) ℓ) (g : Dev Cert.MemoryOutGradIdeal.nD → PrngReg), Pre_MemoryOutGradIdeal m →
    θ_run (Cert.MemoryOutGradIdeal.defs (F := Ideal)) (onTc (τ := Cert.MemoryOutGradIdeal.τ) (Cert.MemoryOutGradIdeal.main (F := Ideal))) ⟨m, fun _ => 0, g⟩ (fun r => (∀ c : Dev Cert.MemoryOutGradIdeal.nD,
      r.2.mem ((c.tc : Thread Cert.MemoryOutGradIdeal.nD Cert.MemoryOutGradIdeal.τ).loc Cert.MemoryOutGradIdeal.main_arg0) = m ((c.tc : Thread Cert.MemoryOutGradIdeal.nD Cert.MemoryOutGradIdeal.τ).loc Cert.MemoryOutGradIdeal.main_arg0)
      ∧ r.2.mem ((c.tc : Thread Cert.MemoryOutGradIdeal.nD Cert.MemoryOutGradIdeal.τ).loc Cert.MemoryOutGradIdeal.main_arg1) = m ((c.tc : Thread Cert.MemoryOutGradIdeal.nD Cert.MemoryOutGradIdeal.τ).loc Cert.MemoryOutGradIdeal.main_arg1))
      ∧ r.2.sem = fun _ => 0)

def quiescent_MemqBwd [hMemqBwd : Cert.MemqBwd.Facts] : Prop :=
  ∀ (m : (ℓ : Loc Cert.MemqBwd.nD Cert.MemqBwd.τ Cert.MemqBwd.sig) → Buf (Elt Bits) ℓ) (g : Dev Cert.MemqBwd.nD → PrngReg), Pre_MemqBwd m →
    θ_run (Cert.MemqBwd.defs (F := Bits)) (onTc (τ := Cert.MemqBwd.τ) (Cert.MemqBwd.main (F := Bits))) ⟨m, fun _ => 0, g⟩ (fun r => (∀ c : Dev Cert.MemqBwd.nD,
      r.2.mem ((c.tc : Thread Cert.MemqBwd.nD Cert.MemqBwd.τ).loc Cert.MemqBwd.main_arg0) = m ((c.tc : Thread Cert.MemqBwd.nD Cert.MemqBwd.τ).loc Cert.MemqBwd.main_arg0)
      ∧ r.2.mem ((c.tc : Thread Cert.MemqBwd.nD Cert.MemqBwd.τ).loc Cert.MemqBwd.main_arg1) = m ((c.tc : Thread Cert.MemqBwd.nD Cert.MemqBwd.τ).loc Cert.MemqBwd.main_arg1)
      ∧ r.2.mem ((c.tc : Thread Cert.MemqBwd.nD Cert.MemqBwd.τ).loc Cert.MemqBwd.main_arg2) = m ((c.tc : Thread Cert.MemqBwd.nD Cert.MemqBwd.τ).loc Cert.MemqBwd.main_arg2)
      ∧ r.2.mem ((c.tc : Thread Cert.MemqBwd.nD Cert.MemqBwd.τ).loc Cert.MemqBwd.main_arg3) = m ((c.tc : Thread Cert.MemqBwd.nD Cert.MemqBwd.τ).loc Cert.MemqBwd.main_arg3)
      ∧ r.2.mem ((c.tc : Thread Cert.MemqBwd.nD Cert.MemqBwd.τ).loc Cert.MemqBwd.main_arg4) = m ((c.tc : Thread Cert.MemqBwd.nD Cert.MemqBwd.τ).loc Cert.MemqBwd.main_arg4))
      ∧ r.2.sem = fun _ => 0)

def quiescent_MemqBwdIdeal [hMemqBwdIdeal : Cert.MemqBwdIdeal.Facts] : Prop :=
  ∀ (m : (ℓ : Loc Cert.MemqBwdIdeal.nD Cert.MemqBwdIdeal.τ Cert.MemqBwdIdeal.sig) → Buf (Elt Ideal) ℓ) (g : Dev Cert.MemqBwdIdeal.nD → PrngReg), Pre_MemqBwdIdeal m →
    θ_run (Cert.MemqBwdIdeal.defs (F := Ideal)) (onTc (τ := Cert.MemqBwdIdeal.τ) (Cert.MemqBwdIdeal.main (F := Ideal))) ⟨m, fun _ => 0, g⟩ (fun r => (∀ c : Dev Cert.MemqBwdIdeal.nD,
      r.2.mem ((c.tc : Thread Cert.MemqBwdIdeal.nD Cert.MemqBwdIdeal.τ).loc Cert.MemqBwdIdeal.main_arg0) = m ((c.tc : Thread Cert.MemqBwdIdeal.nD Cert.MemqBwdIdeal.τ).loc Cert.MemqBwdIdeal.main_arg0)
      ∧ r.2.mem ((c.tc : Thread Cert.MemqBwdIdeal.nD Cert.MemqBwdIdeal.τ).loc Cert.MemqBwdIdeal.main_arg1) = m ((c.tc : Thread Cert.MemqBwdIdeal.nD Cert.MemqBwdIdeal.τ).loc Cert.MemqBwdIdeal.main_arg1)
      ∧ r.2.mem ((c.tc : Thread Cert.MemqBwdIdeal.nD Cert.MemqBwdIdeal.τ).loc Cert.MemqBwdIdeal.main_arg2) = m ((c.tc : Thread Cert.MemqBwdIdeal.nD Cert.MemqBwdIdeal.τ).loc Cert.MemqBwdIdeal.main_arg2)
      ∧ r.2.mem ((c.tc : Thread Cert.MemqBwdIdeal.nD Cert.MemqBwdIdeal.τ).loc Cert.MemqBwdIdeal.main_arg3) = m ((c.tc : Thread Cert.MemqBwdIdeal.nD Cert.MemqBwdIdeal.τ).loc Cert.MemqBwdIdeal.main_arg3)
      ∧ r.2.mem ((c.tc : Thread Cert.MemqBwdIdeal.nD Cert.MemqBwdIdeal.τ).loc Cert.MemqBwdIdeal.main_arg4) = m ((c.tc : Thread Cert.MemqBwdIdeal.nD Cert.MemqBwdIdeal.τ).loc Cert.MemqBwdIdeal.main_arg4))
      ∧ r.2.sem = fun _ => 0)

def quiescent_MemoryQueryGradIdeal [hMemoryQueryGradIdeal : Cert.MemoryQueryGradIdeal.Facts] : Prop :=
  ∀ (m : (ℓ : Loc Cert.MemoryQueryGradIdeal.nD Cert.MemoryQueryGradIdeal.τ Cert.MemoryQueryGradIdeal.sig) → Buf (Elt Ideal) ℓ) (g : Dev Cert.MemoryQueryGradIdeal.nD → PrngReg), Pre_MemoryQueryGradIdeal m →
    θ_run (Cert.MemoryQueryGradIdeal.defs (F := Ideal)) (onTc (τ := Cert.MemoryQueryGradIdeal.τ) (Cert.MemoryQueryGradIdeal.main (F := Ideal))) ⟨m, fun _ => 0, g⟩ (fun r => (∀ c : Dev Cert.MemoryQueryGradIdeal.nD,
      r.2.mem ((c.tc : Thread Cert.MemoryQueryGradIdeal.nD Cert.MemoryQueryGradIdeal.τ).loc Cert.MemoryQueryGradIdeal.main_arg0) = m ((c.tc : Thread Cert.MemoryQueryGradIdeal.nD Cert.MemoryQueryGradIdeal.τ).loc Cert.MemoryQueryGradIdeal.main_arg0)
      ∧ r.2.mem ((c.tc : Thread Cert.MemoryQueryGradIdeal.nD Cert.MemoryQueryGradIdeal.τ).loc Cert.MemoryQueryGradIdeal.main_arg1) = m ((c.tc : Thread Cert.MemoryQueryGradIdeal.nD Cert.MemoryQueryGradIdeal.τ).loc Cert.MemoryQueryGradIdeal.main_arg1)
      ∧ r.2.mem ((c.tc : Thread Cert.MemoryQueryGradIdeal.nD Cert.MemoryQueryGradIdeal.τ).loc Cert.MemoryQueryGradIdeal.main_arg2) = m ((c.tc : Thread Cert.MemoryQueryGradIdeal.nD Cert.MemoryQueryGradIdeal.τ).loc Cert.MemoryQueryGradIdeal.main_arg2)
      ∧ r.2.mem ((c.tc : Thread Cert.MemoryQueryGradIdeal.nD Cert.MemoryQueryGradIdeal.τ).loc Cert.MemoryQueryGradIdeal.main_arg3) = m ((c.tc : Thread Cert.MemoryQueryGradIdeal.nD Cert.MemoryQueryGradIdeal.τ).loc Cert.MemoryQueryGradIdeal.main_arg3)
      ∧ r.2.mem ((c.tc : Thread Cert.MemoryQueryGradIdeal.nD Cert.MemoryQueryGradIdeal.τ).loc Cert.MemoryQueryGradIdeal.main_arg4) = m ((c.tc : Thread Cert.MemoryQueryGradIdeal.nD Cert.MemoryQueryGradIdeal.τ).loc Cert.MemoryQueryGradIdeal.main_arg4))
      ∧ r.2.sem = fun _ => 0)

def quiescent_MemqProj [hMemqProj : Cert.MemqProj.Facts] : Prop :=
  ∀ (m : (ℓ : Loc Cert.MemqProj.nD Cert.MemqProj.τ Cert.MemqProj.sig) → Buf (Elt Bits) ℓ) (g : Dev Cert.MemqProj.nD → PrngReg), Pre_MemqProj m →
    θ_run (Cert.MemqProj.defs (F := Bits)) (onTc (τ := Cert.MemqProj.τ) (Cert.MemqProj.main (F := Bits))) ⟨m, fun _ => 0, g⟩ (fun r => (∀ c : Dev Cert.MemqProj.nD,
      r.2.mem ((c.tc : Thread Cert.MemqProj.nD Cert.MemqProj.τ).loc Cert.MemqProj.main_arg0) = m ((c.tc : Thread Cert.MemqProj.nD Cert.MemqProj.τ).loc Cert.MemqProj.main_arg0)
      ∧ r.2.mem ((c.tc : Thread Cert.MemqProj.nD Cert.MemqProj.τ).loc Cert.MemqProj.main_arg1) = m ((c.tc : Thread Cert.MemqProj.nD Cert.MemqProj.τ).loc Cert.MemqProj.main_arg1)
      ∧ r.2.mem ((c.tc : Thread Cert.MemqProj.nD Cert.MemqProj.τ).loc Cert.MemqProj.main_arg2) = m ((c.tc : Thread Cert.MemqProj.nD Cert.MemqProj.τ).loc Cert.MemqProj.main_arg2))
      ∧ r.2.sem = fun _ => 0)

def quiescent_MemqProjIdeal [hMemqProjIdeal : Cert.MemqProjIdeal.Facts] : Prop :=
  ∀ (m : (ℓ : Loc Cert.MemqProjIdeal.nD Cert.MemqProjIdeal.τ Cert.MemqProjIdeal.sig) → Buf (Elt Ideal) ℓ) (g : Dev Cert.MemqProjIdeal.nD → PrngReg), Pre_MemqProjIdeal m →
    θ_run (Cert.MemqProjIdeal.defs (F := Ideal)) (onTc (τ := Cert.MemqProjIdeal.τ) (Cert.MemqProjIdeal.main (F := Ideal))) ⟨m, fun _ => 0, g⟩ (fun r => (∀ c : Dev Cert.MemqProjIdeal.nD,
      r.2.mem ((c.tc : Thread Cert.MemqProjIdeal.nD Cert.MemqProjIdeal.τ).loc Cert.MemqProjIdeal.main_arg0) = m ((c.tc : Thread Cert.MemqProjIdeal.nD Cert.MemqProjIdeal.τ).loc Cert.MemqProjIdeal.main_arg0)
      ∧ r.2.mem ((c.tc : Thread Cert.MemqProjIdeal.nD Cert.MemqProjIdeal.τ).loc Cert.MemqProjIdeal.main_arg1) = m ((c.tc : Thread Cert.MemqProjIdeal.nD Cert.MemqProjIdeal.τ).loc Cert.MemqProjIdeal.main_arg1)
      ∧ r.2.mem ((c.tc : Thread Cert.MemqProjIdeal.nD Cert.MemqProjIdeal.τ).loc Cert.MemqProjIdeal.main_arg2) = m ((c.tc : Thread Cert.MemqProjIdeal.nD Cert.MemqProjIdeal.τ).loc Cert.MemqProjIdeal.main_arg2))
      ∧ r.2.sem = fun _ => 0)

def quiescent_MemoryQueryIdeal [hMemoryQueryIdeal : Cert.MemoryQueryIdeal.Facts] : Prop :=
  ∀ (m : (ℓ : Loc Cert.MemoryQueryIdeal.nD Cert.MemoryQueryIdeal.τ Cert.MemoryQueryIdeal.sig) → Buf (Elt Ideal) ℓ) (g : Dev Cert.MemoryQueryIdeal.nD → PrngReg), Pre_MemoryQueryIdeal m →
    θ_run (Cert.MemoryQueryIdeal.defs (F := Ideal)) (onTc (τ := Cert.MemoryQueryIdeal.τ) (Cert.MemoryQueryIdeal.main (F := Ideal))) ⟨m, fun _ => 0, g⟩ (fun r => (∀ c : Dev Cert.MemoryQueryIdeal.nD,
      r.2.mem ((c.tc : Thread Cert.MemoryQueryIdeal.nD Cert.MemoryQueryIdeal.τ).loc Cert.MemoryQueryIdeal.main_arg0) = m ((c.tc : Thread Cert.MemoryQueryIdeal.nD Cert.MemoryQueryIdeal.τ).loc Cert.MemoryQueryIdeal.main_arg0)
      ∧ r.2.mem ((c.tc : Thread Cert.MemoryQueryIdeal.nD Cert.MemoryQueryIdeal.τ).loc Cert.MemoryQueryIdeal.main_arg1) = m ((c.tc : Thread Cert.MemoryQueryIdeal.nD Cert.MemoryQueryIdeal.τ).loc Cert.MemoryQueryIdeal.main_arg1)
      ∧ r.2.mem ((c.tc : Thread Cert.MemoryQueryIdeal.nD Cert.MemoryQueryIdeal.τ).loc Cert.MemoryQueryIdeal.main_arg2) = m ((c.tc : Thread Cert.MemoryQueryIdeal.nD Cert.MemoryQueryIdeal.τ).loc Cert.MemoryQueryIdeal.main_arg2))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1)
      ∧ r.2.mem ((c.tc : Thread Cert.UpProj.nD Cert.UpProj.τ).loc Cert.UpProj.main_arg2) = m ((c.tc : Thread Cert.UpProj.nD Cert.UpProj.τ).loc Cert.UpProj.main_arg2))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
      ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2))
      ∧ r.2.sem = fun _ => 0)

def quiescent_UpProductIdeal [hUpProductIdeal : Cert.UpProductIdeal.Facts] : Prop :=
  ∀ (m : (ℓ : Loc Cert.UpProductIdeal.nD Cert.UpProductIdeal.τ Cert.UpProductIdeal.sig) → Buf (Elt Ideal) ℓ) (g : Dev Cert.UpProductIdeal.nD → PrngReg), Pre_UpProductIdeal m →
    θ_run (Cert.UpProductIdeal.defs (F := Ideal)) (onTc (τ := Cert.UpProductIdeal.τ) (Cert.UpProductIdeal.main (F := Ideal))) ⟨m, fun _ => 0, g⟩ (fun r => (∀ c : Dev Cert.UpProductIdeal.nD,
      r.2.mem ((c.tc : Thread Cert.UpProductIdeal.nD Cert.UpProductIdeal.τ).loc Cert.UpProductIdeal.main_arg0) = m ((c.tc : Thread Cert.UpProductIdeal.nD Cert.UpProductIdeal.τ).loc Cert.UpProductIdeal.main_arg0)
      ∧ r.2.mem ((c.tc : Thread Cert.UpProductIdeal.nD Cert.UpProductIdeal.τ).loc Cert.UpProductIdeal.main_arg1) = m ((c.tc : Thread Cert.UpProductIdeal.nD Cert.UpProductIdeal.τ).loc Cert.UpProductIdeal.main_arg1)
      ∧ r.2.mem ((c.tc : Thread Cert.UpProductIdeal.nD Cert.UpProductIdeal.τ).loc Cert.UpProductIdeal.main_arg2) = m ((c.tc : Thread Cert.UpProductIdeal.nD Cert.UpProductIdeal.τ).loc Cert.UpProductIdeal.main_arg2))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
      ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5)
      ∧ r.2.mem ((c.tc : Thread Cert.InGradIdeal.nD Cert.InGradIdeal.τ).loc Cert.InGradIdeal.main_arg6) = m ((c.tc : Thread Cert.InGradIdeal.nD Cert.InGradIdeal.τ).loc Cert.InGradIdeal.main_arg6)
      ∧ r.2.mem ((c.tc : Thread Cert.InGradIdeal.nD Cert.InGradIdeal.τ).loc Cert.InGradIdeal.main_arg7) = m ((c.tc : Thread Cert.InGradIdeal.nD Cert.InGradIdeal.τ).loc Cert.InGradIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProductIdeal [hInProductIdeal : Cert.InProductIdeal.Facts] : Prop :=
  ∀ (m : (ℓ : Loc Cert.InProductIdeal.nD Cert.InProductIdeal.τ Cert.InProductIdeal.sig) → Buf (Elt Ideal) ℓ) (g : Dev Cert.InProductIdeal.nD → PrngReg), Pre_InProductIdeal m →
    θ_run (Cert.InProductIdeal.defs (F := Ideal)) (onTc (τ := Cert.InProductIdeal.τ) (Cert.InProductIdeal.main (F := Ideal))) ⟨m, fun _ => 0, g⟩ (fun r => (∀ c : Dev Cert.InProductIdeal.nD,
      r.2.mem ((c.tc : Thread Cert.InProductIdeal.nD Cert.InProductIdeal.τ).loc Cert.InProductIdeal.main_arg0) = m ((c.tc : Thread Cert.InProductIdeal.nD Cert.InProductIdeal.τ).loc Cert.InProductIdeal.main_arg0)
      ∧ r.2.mem ((c.tc : Thread Cert.InProductIdeal.nD Cert.InProductIdeal.τ).loc Cert.InProductIdeal.main_arg1) = m ((c.tc : Thread Cert.InProductIdeal.nD Cert.InProductIdeal.τ).loc Cert.InProductIdeal.main_arg1)
      ∧ r.2.mem ((c.tc : Thread Cert.InProductIdeal.nD Cert.InProductIdeal.τ).loc Cert.InProductIdeal.main_arg2) = m ((c.tc : Thread Cert.InProductIdeal.nD Cert.InProductIdeal.τ).loc Cert.InProductIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInStepIdeal [hAdamInStepIdeal : Cert.AdamInStepIdeal.Facts] : Prop :=
  ∀ (m : (ℓ : Loc Cert.AdamInStepIdeal.nD Cert.AdamInStepIdeal.τ Cert.AdamInStepIdeal.sig) → Buf (Elt Ideal) ℓ) (g : Dev Cert.AdamInStepIdeal.nD → PrngReg), Pre_AdamInStepIdeal m →
    θ_run (Cert.AdamInStepIdeal.defs (F := Ideal)) (onTc (τ := Cert.AdamInStepIdeal.τ) (Cert.AdamInStepIdeal.main (F := Ideal))) ⟨m, fun _ => 0, g⟩ (fun r => (∀ c : Dev Cert.AdamInStepIdeal.nD,
      r.2.mem ((c.tc : Thread Cert.AdamInStepIdeal.nD Cert.AdamInStepIdeal.τ).loc Cert.AdamInStepIdeal.main_arg0) = m ((c.tc : Thread Cert.AdamInStepIdeal.nD Cert.AdamInStepIdeal.τ).loc Cert.AdamInStepIdeal.main_arg0)
      ∧ r.2.mem ((c.tc : Thread Cert.AdamInStepIdeal.nD Cert.AdamInStepIdeal.τ).loc Cert.AdamInStepIdeal.main_arg1) = m ((c.tc : Thread Cert.AdamInStepIdeal.nD Cert.AdamInStepIdeal.τ).loc Cert.AdamInStepIdeal.main_arg1)
      ∧ r.2.mem ((c.tc : Thread Cert.AdamInStepIdeal.nD Cert.AdamInStepIdeal.τ).loc Cert.AdamInStepIdeal.main_arg2) = m ((c.tc : Thread Cert.AdamInStepIdeal.nD Cert.AdamInStepIdeal.τ).loc Cert.AdamInStepIdeal.main_arg2)
      ∧ r.2.mem ((c.tc : Thread Cert.AdamInStepIdeal.nD Cert.AdamInStepIdeal.τ).loc Cert.AdamInStepIdeal.main_arg3) = m ((c.tc : Thread Cert.AdamInStepIdeal.nD Cert.AdamInStepIdeal.τ).loc Cert.AdamInStepIdeal.main_arg3))
      ∧ r.2.sem = fun _ => 0)

def quiescent_AdamUq [hAdamUq : Cert.AdamUq.Facts] : Prop :=
  ∀ (m : (ℓ : Loc Cert.AdamUq.nD Cert.AdamUq.τ Cert.AdamUq.sig) → Buf (Elt Bits) ℓ) (g : Dev Cert.AdamUq.nD → PrngReg), Pre_AdamUq m →
    θ_run (Cert.AdamUq.defs (F := Bits)) (onTc (τ := Cert.AdamUq.τ) (Cert.AdamUq.main (F := Bits))) ⟨m, fun _ => 0, g⟩ (fun r => (∀ c : Dev Cert.AdamUq.nD,
      r.2.mem ((c.tc : Thread Cert.AdamUq.nD Cert.AdamUq.τ).loc Cert.AdamUq.main_arg0) = m ((c.tc : Thread Cert.AdamUq.nD Cert.AdamUq.τ).loc Cert.AdamUq.main_arg0)
      ∧ r.2.mem ((c.tc : Thread Cert.AdamUq.nD Cert.AdamUq.τ).loc Cert.AdamUq.main_arg1) = m ((c.tc : Thread Cert.AdamUq.nD Cert.AdamUq.τ).loc Cert.AdamUq.main_arg1)
      ∧ r.2.mem ((c.tc : Thread Cert.AdamUq.nD Cert.AdamUq.τ).loc Cert.AdamUq.main_arg2) = m ((c.tc : Thread Cert.AdamUq.nD Cert.AdamUq.τ).loc Cert.AdamUq.main_arg2)
      ∧ r.2.mem ((c.tc : Thread Cert.AdamUq.nD Cert.AdamUq.τ).loc Cert.AdamUq.main_arg3) = m ((c.tc : Thread Cert.AdamUq.nD Cert.AdamUq.τ).loc Cert.AdamUq.main_arg3))
      ∧ r.2.sem = fun _ => 0)

def quiescent_AdamUqIdeal [hAdamUqIdeal : Cert.AdamUqIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg), Pre_AdamUqIdeal m →
    θ_run (Cert.AdamUqIdeal.defs (F := Ideal)) (onTc (τ := Cert.AdamUqIdeal.τ) (Cert.AdamUqIdeal.main (F := Ideal))) ⟨m, fun _ => 0, g⟩ (fun r => (∀ c : Dev Cert.AdamUqIdeal.nD,
      r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
      ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
      ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
      ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3))
      ∧ r.2.sem = fun _ => 0)

def quiescent_AdamUqStepIdeal [hAdamUqStepIdeal : Cert.AdamUqStepIdeal.Facts] : Prop :=
  ∀ (m : (ℓ : Loc Cert.AdamUqStepIdeal.nD Cert.AdamUqStepIdeal.τ Cert.AdamUqStepIdeal.sig) → Buf (Elt Ideal) ℓ) (g : Dev Cert.AdamUqStepIdeal.nD → PrngReg), Pre_AdamUqStepIdeal m →
    θ_run (Cert.AdamUqStepIdeal.defs (F := Ideal)) (onTc (τ := Cert.AdamUqStepIdeal.τ) (Cert.AdamUqStepIdeal.main (F := Ideal))) ⟨m, fun _ => 0, g⟩ (fun r => (∀ c : Dev Cert.AdamUqStepIdeal.nD,
      r.2.mem ((c.tc : Thread Cert.AdamUqStepIdeal.nD Cert.AdamUqStepIdeal.τ).loc Cert.AdamUqStepIdeal.main_arg0) = m ((c.tc : Thread Cert.AdamUqStepIdeal.nD Cert.AdamUqStepIdeal.τ).loc Cert.AdamUqStepIdeal.main_arg0)
      ∧ r.2.mem ((c.tc : Thread Cert.AdamUqStepIdeal.nD Cert.AdamUqStepIdeal.τ).loc Cert.AdamUqStepIdeal.main_arg1) = m ((c.tc : Thread Cert.AdamUqStepIdeal.nD Cert.AdamUqStepIdeal.τ).loc Cert.AdamUqStepIdeal.main_arg1)
      ∧ r.2.mem ((c.tc : Thread Cert.AdamUqStepIdeal.nD Cert.AdamUqStepIdeal.τ).loc Cert.AdamUqStepIdeal.main_arg2) = m ((c.tc : Thread Cert.AdamUqStepIdeal.nD Cert.AdamUqStepIdeal.τ).loc Cert.AdamUqStepIdeal.main_arg2)
      ∧ r.2.mem ((c.tc : Thread Cert.AdamUqStepIdeal.nD Cert.AdamUqStepIdeal.τ).loc Cert.AdamUqStepIdeal.main_arg3) = m ((c.tc : Thread Cert.AdamUqStepIdeal.nD Cert.AdamUqStepIdeal.τ).loc Cert.AdamUqStepIdeal.main_arg3))
      ∧ r.2.sem = fun _ => 0)

def quiescent_AdamUkv [hAdamUkv : Cert.AdamUkv.Facts] : Prop :=
  ∀ (m : (ℓ : Loc Cert.AdamUkv.nD Cert.AdamUkv.τ Cert.AdamUkv.sig) → Buf (Elt Bits) ℓ) (g : Dev Cert.AdamUkv.nD → PrngReg), Pre_AdamUkv m →
    θ_run (Cert.AdamUkv.defs (F := Bits)) (onTc (τ := Cert.AdamUkv.τ) (Cert.AdamUkv.main (F := Bits))) ⟨m, fun _ => 0, g⟩ (fun r => (∀ c : Dev Cert.AdamUkv.nD,
      r.2.mem ((c.tc : Thread Cert.AdamUkv.nD Cert.AdamUkv.τ).loc Cert.AdamUkv.main_arg0) = m ((c.tc : Thread Cert.AdamUkv.nD Cert.AdamUkv.τ).loc Cert.AdamUkv.main_arg0)
      ∧ r.2.mem ((c.tc : Thread Cert.AdamUkv.nD Cert.AdamUkv.τ).loc Cert.AdamUkv.main_arg1) = m ((c.tc : Thread Cert.AdamUkv.nD Cert.AdamUkv.τ).loc Cert.AdamUkv.main_arg1)
      ∧ r.2.mem ((c.tc : Thread Cert.AdamUkv.nD Cert.AdamUkv.τ).loc Cert.AdamUkv.main_arg2) = m ((c.tc : Thread Cert.AdamUkv.nD Cert.AdamUkv.τ).loc Cert.AdamUkv.main_arg2)
      ∧ r.2.mem ((c.tc : Thread Cert.AdamUkv.nD Cert.AdamUkv.τ).loc Cert.AdamUkv.main_arg3) = m ((c.tc : Thread Cert.AdamUkv.nD Cert.AdamUkv.τ).loc Cert.AdamUkv.main_arg3))
      ∧ r.2.sem = fun _ => 0)

def quiescent_AdamUkvIdeal [hAdamUkvIdeal : Cert.AdamUkvIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg), Pre_AdamUkvIdeal m →
    θ_run (Cert.AdamUkvIdeal.defs (F := Ideal)) (onTc (τ := Cert.AdamUkvIdeal.τ) (Cert.AdamUkvIdeal.main (F := Ideal))) ⟨m, fun _ => 0, g⟩ (fun r => (∀ c : Dev Cert.AdamUkvIdeal.nD,
      r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
      ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
      ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
      ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3))
      ∧ r.2.sem = fun _ => 0)

def quiescent_AdamUkvStepIdeal [hAdamUkvStepIdeal : Cert.AdamUkvStepIdeal.Facts] : Prop :=
  ∀ (m : (ℓ : Loc Cert.AdamUkvStepIdeal.nD Cert.AdamUkvStepIdeal.τ Cert.AdamUkvStepIdeal.sig) → Buf (Elt Ideal) ℓ) (g : Dev Cert.AdamUkvStepIdeal.nD → PrngReg), Pre_AdamUkvStepIdeal m →
    θ_run (Cert.AdamUkvStepIdeal.defs (F := Ideal)) (onTc (τ := Cert.AdamUkvStepIdeal.τ) (Cert.AdamUkvStepIdeal.main (F := Ideal))) ⟨m, fun _ => 0, g⟩ (fun r => (∀ c : Dev Cert.AdamUkvStepIdeal.nD,
      r.2.mem ((c.tc : Thread Cert.AdamUkvStepIdeal.nD Cert.AdamUkvStepIdeal.τ).loc Cert.AdamUkvStepIdeal.main_arg0) = m ((c.tc : Thread Cert.AdamUkvStepIdeal.nD Cert.AdamUkvStepIdeal.τ).loc Cert.AdamUkvStepIdeal.main_arg0)
      ∧ r.2.mem ((c.tc : Thread Cert.AdamUkvStepIdeal.nD Cert.AdamUkvStepIdeal.τ).loc Cert.AdamUkvStepIdeal.main_arg1) = m ((c.tc : Thread Cert.AdamUkvStepIdeal.nD Cert.AdamUkvStepIdeal.τ).loc Cert.AdamUkvStepIdeal.main_arg1)
      ∧ r.2.mem ((c.tc : Thread Cert.AdamUkvStepIdeal.nD Cert.AdamUkvStepIdeal.τ).loc Cert.AdamUkvStepIdeal.main_arg2) = m ((c.tc : Thread Cert.AdamUkvStepIdeal.nD Cert.AdamUkvStepIdeal.τ).loc Cert.AdamUkvStepIdeal.main_arg2)
      ∧ r.2.mem ((c.tc : Thread Cert.AdamUkvStepIdeal.nD Cert.AdamUkvStepIdeal.τ).loc Cert.AdamUkvStepIdeal.main_arg3) = m ((c.tc : Thread Cert.AdamUkvStepIdeal.nD Cert.AdamUkvStepIdeal.τ).loc Cert.AdamUkvStepIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareStepIdeal [hAdamSquareStepIdeal : Cert.AdamSquareStepIdeal.Facts] : Prop :=
  ∀ (m : (ℓ : Loc Cert.AdamSquareStepIdeal.nD Cert.AdamSquareStepIdeal.τ Cert.AdamSquareStepIdeal.sig) → Buf (Elt Ideal) ℓ) (g : Dev Cert.AdamSquareStepIdeal.nD → PrngReg), Pre_AdamSquareStepIdeal m →
    θ_run (Cert.AdamSquareStepIdeal.defs (F := Ideal)) (onTc (τ := Cert.AdamSquareStepIdeal.τ) (Cert.AdamSquareStepIdeal.main (F := Ideal))) ⟨m, fun _ => 0, g⟩ (fun r => (∀ c : Dev Cert.AdamSquareStepIdeal.nD,
      r.2.mem ((c.tc : Thread Cert.AdamSquareStepIdeal.nD Cert.AdamSquareStepIdeal.τ).loc Cert.AdamSquareStepIdeal.main_arg0) = m ((c.tc : Thread Cert.AdamSquareStepIdeal.nD Cert.AdamSquareStepIdeal.τ).loc Cert.AdamSquareStepIdeal.main_arg0)
      ∧ r.2.mem ((c.tc : Thread Cert.AdamSquareStepIdeal.nD Cert.AdamSquareStepIdeal.τ).loc Cert.AdamSquareStepIdeal.main_arg1) = m ((c.tc : Thread Cert.AdamSquareStepIdeal.nD Cert.AdamSquareStepIdeal.τ).loc Cert.AdamSquareStepIdeal.main_arg1)
      ∧ r.2.mem ((c.tc : Thread Cert.AdamSquareStepIdeal.nD Cert.AdamSquareStepIdeal.τ).loc Cert.AdamSquareStepIdeal.main_arg2) = m ((c.tc : Thread Cert.AdamSquareStepIdeal.nD Cert.AdamSquareStepIdeal.τ).loc Cert.AdamSquareStepIdeal.main_arg2)
      ∧ r.2.mem ((c.tc : Thread Cert.AdamSquareStepIdeal.nD Cert.AdamSquareStepIdeal.τ).loc Cert.AdamSquareStepIdeal.main_arg3) = m ((c.tc : Thread Cert.AdamSquareStepIdeal.nD Cert.AdamSquareStepIdeal.τ).loc Cert.AdamSquareStepIdeal.main_arg3))
      ∧ r.2.sem = fun _ => 0)

def quiescent_AdamMemKv [hAdamMemKv : Cert.AdamMemKv.Facts] : Prop :=
  ∀ (m : (ℓ : Loc Cert.AdamMemKv.nD Cert.AdamMemKv.τ Cert.AdamMemKv.sig) → Buf (Elt Bits) ℓ) (g : Dev Cert.AdamMemKv.nD → PrngReg), Pre_AdamMemKv m →
    θ_run (Cert.AdamMemKv.defs (F := Bits)) (onTc (τ := Cert.AdamMemKv.τ) (Cert.AdamMemKv.main (F := Bits))) ⟨m, fun _ => 0, g⟩ (fun r => (∀ c : Dev Cert.AdamMemKv.nD,
      r.2.mem ((c.tc : Thread Cert.AdamMemKv.nD Cert.AdamMemKv.τ).loc Cert.AdamMemKv.main_arg0) = m ((c.tc : Thread Cert.AdamMemKv.nD Cert.AdamMemKv.τ).loc Cert.AdamMemKv.main_arg0)
      ∧ r.2.mem ((c.tc : Thread Cert.AdamMemKv.nD Cert.AdamMemKv.τ).loc Cert.AdamMemKv.main_arg1) = m ((c.tc : Thread Cert.AdamMemKv.nD Cert.AdamMemKv.τ).loc Cert.AdamMemKv.main_arg1)
      ∧ r.2.mem ((c.tc : Thread Cert.AdamMemKv.nD Cert.AdamMemKv.τ).loc Cert.AdamMemKv.main_arg2) = m ((c.tc : Thread Cert.AdamMemKv.nD Cert.AdamMemKv.τ).loc Cert.AdamMemKv.main_arg2)
      ∧ r.2.mem ((c.tc : Thread Cert.AdamMemKv.nD Cert.AdamMemKv.τ).loc Cert.AdamMemKv.main_arg3) = m ((c.tc : Thread Cert.AdamMemKv.nD Cert.AdamMemKv.τ).loc Cert.AdamMemKv.main_arg3))
      ∧ r.2.sem = fun _ => 0)

def quiescent_AdamMemKvIdeal [hAdamMemKvIdeal : Cert.AdamMemKvIdeal.Facts] : Prop :=
  ∀ (m : (ℓ : Loc Cert.AdamMemKvIdeal.nD Cert.AdamMemKvIdeal.τ Cert.AdamMemKvIdeal.sig) → Buf (Elt Ideal) ℓ) (g : Dev Cert.AdamMemKvIdeal.nD → PrngReg), Pre_AdamMemKvIdeal m →
    θ_run (Cert.AdamMemKvIdeal.defs (F := Ideal)) (onTc (τ := Cert.AdamMemKvIdeal.τ) (Cert.AdamMemKvIdeal.main (F := Ideal))) ⟨m, fun _ => 0, g⟩ (fun r => (∀ c : Dev Cert.AdamMemKvIdeal.nD,
      r.2.mem ((c.tc : Thread Cert.AdamMemKvIdeal.nD Cert.AdamMemKvIdeal.τ).loc Cert.AdamMemKvIdeal.main_arg0) = m ((c.tc : Thread Cert.AdamMemKvIdeal.nD Cert.AdamMemKvIdeal.τ).loc Cert.AdamMemKvIdeal.main_arg0)
      ∧ r.2.mem ((c.tc : Thread Cert.AdamMemKvIdeal.nD Cert.AdamMemKvIdeal.τ).loc Cert.AdamMemKvIdeal.main_arg1) = m ((c.tc : Thread Cert.AdamMemKvIdeal.nD Cert.AdamMemKvIdeal.τ).loc Cert.AdamMemKvIdeal.main_arg1)
      ∧ r.2.mem ((c.tc : Thread Cert.AdamMemKvIdeal.nD Cert.AdamMemKvIdeal.τ).loc Cert.AdamMemKvIdeal.main_arg2) = m ((c.tc : Thread Cert.AdamMemKvIdeal.nD Cert.AdamMemKvIdeal.τ).loc Cert.AdamMemKvIdeal.main_arg2)
      ∧ r.2.mem ((c.tc : Thread Cert.AdamMemKvIdeal.nD Cert.AdamMemKvIdeal.τ).loc Cert.AdamMemKvIdeal.main_arg3) = m ((c.tc : Thread Cert.AdamMemKvIdeal.nD Cert.AdamMemKvIdeal.τ).loc Cert.AdamMemKvIdeal.main_arg3))
      ∧ r.2.sem = fun _ => 0)

def quiescent_AdamMemKvStepIdeal [hAdamMemKvStepIdeal : Cert.AdamMemKvStepIdeal.Facts] : Prop :=
  ∀ (m : (ℓ : Loc Cert.AdamMemKvStepIdeal.nD Cert.AdamMemKvStepIdeal.τ Cert.AdamMemKvStepIdeal.sig) → Buf (Elt Ideal) ℓ) (g : Dev Cert.AdamMemKvStepIdeal.nD → PrngReg), Pre_AdamMemKvStepIdeal m →
    θ_run (Cert.AdamMemKvStepIdeal.defs (F := Ideal)) (onTc (τ := Cert.AdamMemKvStepIdeal.τ) (Cert.AdamMemKvStepIdeal.main (F := Ideal))) ⟨m, fun _ => 0, g⟩ (fun r => (∀ c : Dev Cert.AdamMemKvStepIdeal.nD,
      r.2.mem ((c.tc : Thread Cert.AdamMemKvStepIdeal.nD Cert.AdamMemKvStepIdeal.τ).loc Cert.AdamMemKvStepIdeal.main_arg0) = m ((c.tc : Thread Cert.AdamMemKvStepIdeal.nD Cert.AdamMemKvStepIdeal.τ).loc Cert.AdamMemKvStepIdeal.main_arg0)
      ∧ r.2.mem ((c.tc : Thread Cert.AdamMemKvStepIdeal.nD Cert.AdamMemKvStepIdeal.τ).loc Cert.AdamMemKvStepIdeal.main_arg1) = m ((c.tc : Thread Cert.AdamMemKvStepIdeal.nD Cert.AdamMemKvStepIdeal.τ).loc Cert.AdamMemKvStepIdeal.main_arg1)
      ∧ r.2.mem ((c.tc : Thread Cert.AdamMemKvStepIdeal.nD Cert.AdamMemKvStepIdeal.τ).loc Cert.AdamMemKvStepIdeal.main_arg2) = m ((c.tc : Thread Cert.AdamMemKvStepIdeal.nD Cert.AdamMemKvStepIdeal.τ).loc Cert.AdamMemKvStepIdeal.main_arg2)
      ∧ r.2.mem ((c.tc : Thread Cert.AdamMemKvStepIdeal.nD Cert.AdamMemKvStepIdeal.τ).loc Cert.AdamMemKvStepIdeal.main_arg3) = m ((c.tc : Thread Cert.AdamMemKvStepIdeal.nD Cert.AdamMemKvStepIdeal.τ).loc Cert.AdamMemKvStepIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpStepIdeal [hAdamUpStepIdeal : Cert.AdamUpStepIdeal.Facts] : Prop :=
  ∀ (m : (ℓ : Loc Cert.AdamUpStepIdeal.nD Cert.AdamUpStepIdeal.τ Cert.AdamUpStepIdeal.sig) → Buf (Elt Ideal) ℓ) (g : Dev Cert.AdamUpStepIdeal.nD → PrngReg), Pre_AdamUpStepIdeal m →
    θ_run (Cert.AdamUpStepIdeal.defs (F := Ideal)) (onTc (τ := Cert.AdamUpStepIdeal.τ) (Cert.AdamUpStepIdeal.main (F := Ideal))) ⟨m, fun _ => 0, g⟩ (fun r => (∀ c : Dev Cert.AdamUpStepIdeal.nD,
      r.2.mem ((c.tc : Thread Cert.AdamUpStepIdeal.nD Cert.AdamUpStepIdeal.τ).loc Cert.AdamUpStepIdeal.main_arg0) = m ((c.tc : Thread Cert.AdamUpStepIdeal.nD Cert.AdamUpStepIdeal.τ).loc Cert.AdamUpStepIdeal.main_arg0)
      ∧ r.2.mem ((c.tc : Thread Cert.AdamUpStepIdeal.nD Cert.AdamUpStepIdeal.τ).loc Cert.AdamUpStepIdeal.main_arg1) = m ((c.tc : Thread Cert.AdamUpStepIdeal.nD Cert.AdamUpStepIdeal.τ).loc Cert.AdamUpStepIdeal.main_arg1)
      ∧ r.2.mem ((c.tc : Thread Cert.AdamUpStepIdeal.nD Cert.AdamUpStepIdeal.τ).loc Cert.AdamUpStepIdeal.main_arg2) = m ((c.tc : Thread Cert.AdamUpStepIdeal.nD Cert.AdamUpStepIdeal.τ).loc Cert.AdamUpStepIdeal.main_arg2)
      ∧ r.2.mem ((c.tc : Thread Cert.AdamUpStepIdeal.nD Cert.AdamUpStepIdeal.τ).loc Cert.AdamUpStepIdeal.main_arg3) = m ((c.tc : Thread Cert.AdamUpStepIdeal.nD Cert.AdamUpStepIdeal.τ).loc Cert.AdamUpStepIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownStepIdeal [hAdamDownStepIdeal : Cert.AdamDownStepIdeal.Facts] : Prop :=
  ∀ (m : (ℓ : Loc Cert.AdamDownStepIdeal.nD Cert.AdamDownStepIdeal.τ Cert.AdamDownStepIdeal.sig) → Buf (Elt Ideal) ℓ) (g : Dev Cert.AdamDownStepIdeal.nD → PrngReg), Pre_AdamDownStepIdeal m →
    θ_run (Cert.AdamDownStepIdeal.defs (F := Ideal)) (onTc (τ := Cert.AdamDownStepIdeal.τ) (Cert.AdamDownStepIdeal.main (F := Ideal))) ⟨m, fun _ => 0, g⟩ (fun r => (∀ c : Dev Cert.AdamDownStepIdeal.nD,
      r.2.mem ((c.tc : Thread Cert.AdamDownStepIdeal.nD Cert.AdamDownStepIdeal.τ).loc Cert.AdamDownStepIdeal.main_arg0) = m ((c.tc : Thread Cert.AdamDownStepIdeal.nD Cert.AdamDownStepIdeal.τ).loc Cert.AdamDownStepIdeal.main_arg0)
      ∧ r.2.mem ((c.tc : Thread Cert.AdamDownStepIdeal.nD Cert.AdamDownStepIdeal.τ).loc Cert.AdamDownStepIdeal.main_arg1) = m ((c.tc : Thread Cert.AdamDownStepIdeal.nD Cert.AdamDownStepIdeal.τ).loc Cert.AdamDownStepIdeal.main_arg1)
      ∧ r.2.mem ((c.tc : Thread Cert.AdamDownStepIdeal.nD Cert.AdamDownStepIdeal.τ).loc Cert.AdamDownStepIdeal.main_arg2) = m ((c.tc : Thread Cert.AdamDownStepIdeal.nD Cert.AdamDownStepIdeal.τ).loc Cert.AdamDownStepIdeal.main_arg2)
      ∧ r.2.mem ((c.tc : Thread Cert.AdamDownStepIdeal.nD Cert.AdamDownStepIdeal.τ).loc Cert.AdamDownStepIdeal.main_arg3) = m ((c.tc : Thread Cert.AdamDownStepIdeal.nD Cert.AdamDownStepIdeal.τ).loc Cert.AdamDownStepIdeal.main_arg3))
      ∧ r.2.sem = fun _ => 0)

def quiescent_DwOutU [hDwOutU : Cert.DwOutU.Facts] : Prop :=
  ∀ (m : (ℓ : Loc Cert.DwOutU.nD Cert.DwOutU.τ Cert.DwOutU.sig) → Buf (Elt Bits) ℓ) (g : Dev Cert.DwOutU.nD → PrngReg), Pre_DwOutU m →
    θ_run (Cert.DwOutU.defs (F := Bits)) (onTc (τ := Cert.DwOutU.τ) (Cert.DwOutU.main (F := Bits))) ⟨m, fun _ => 0, g⟩ (fun r => (∀ c : Dev Cert.DwOutU.nD,
      r.2.mem ((c.tc : Thread Cert.DwOutU.nD Cert.DwOutU.τ).loc Cert.DwOutU.main_arg0) = m ((c.tc : Thread Cert.DwOutU.nD Cert.DwOutU.τ).loc Cert.DwOutU.main_arg0)
      ∧ r.2.mem ((c.tc : Thread Cert.DwOutU.nD Cert.DwOutU.τ).loc Cert.DwOutU.main_arg1) = m ((c.tc : Thread Cert.DwOutU.nD Cert.DwOutU.τ).loc Cert.DwOutU.main_arg1))
      ∧ r.2.sem = fun _ => 0)

def quiescent_DwOutUIdeal [hDwOutUIdeal : Cert.DwOutUIdeal.Facts] : Prop :=
  ∀ (m : (ℓ : Loc Cert.DwOutUIdeal.nD Cert.DwOutUIdeal.τ Cert.DwOutUIdeal.sig) → Buf (Elt Ideal) ℓ) (g : Dev Cert.DwOutUIdeal.nD → PrngReg), Pre_DwOutUIdeal m →
    θ_run (Cert.DwOutUIdeal.defs (F := Ideal)) (onTc (τ := Cert.DwOutUIdeal.τ) (Cert.DwOutUIdeal.main (F := Ideal))) ⟨m, fun _ => 0, g⟩ (fun r => (∀ c : Dev Cert.DwOutUIdeal.nD,
      r.2.mem ((c.tc : Thread Cert.DwOutUIdeal.nD Cert.DwOutUIdeal.τ).loc Cert.DwOutUIdeal.main_arg0) = m ((c.tc : Thread Cert.DwOutUIdeal.nD Cert.DwOutUIdeal.τ).loc Cert.DwOutUIdeal.main_arg0)
      ∧ r.2.mem ((c.tc : Thread Cert.DwOutUIdeal.nD Cert.DwOutUIdeal.τ).loc Cert.DwOutUIdeal.main_arg1) = m ((c.tc : Thread Cert.DwOutUIdeal.nD Cert.DwOutUIdeal.τ).loc Cert.DwOutUIdeal.main_arg1))
      ∧ r.2.sem = fun _ => 0)

def quiescent_OutUWeightGradIdeal [hOutUWeightGradIdeal : Cert.OutUWeightGradIdeal.Facts] : Prop :=
  ∀ (m : (ℓ : Loc Cert.OutUWeightGradIdeal.nD Cert.OutUWeightGradIdeal.τ Cert.OutUWeightGradIdeal.sig) → Buf (Elt Ideal) ℓ) (g : Dev Cert.OutUWeightGradIdeal.nD → PrngReg), Pre_OutUWeightGradIdeal m →
    θ_run (Cert.OutUWeightGradIdeal.defs (F := Ideal)) (onTc (τ := Cert.OutUWeightGradIdeal.τ) (Cert.OutUWeightGradIdeal.main (F := Ideal))) ⟨m, fun _ => 0, g⟩ (fun r => (∀ c : Dev Cert.OutUWeightGradIdeal.nD,
      r.2.mem ((c.tc : Thread Cert.OutUWeightGradIdeal.nD Cert.OutUWeightGradIdeal.τ).loc Cert.OutUWeightGradIdeal.main_arg0) = m ((c.tc : Thread Cert.OutUWeightGradIdeal.nD Cert.OutUWeightGradIdeal.τ).loc Cert.OutUWeightGradIdeal.main_arg0)
      ∧ r.2.mem ((c.tc : Thread Cert.OutUWeightGradIdeal.nD Cert.OutUWeightGradIdeal.τ).loc Cert.OutUWeightGradIdeal.main_arg1) = m ((c.tc : Thread Cert.OutUWeightGradIdeal.nD Cert.OutUWeightGradIdeal.τ).loc Cert.OutUWeightGradIdeal.main_arg1))
      ∧ r.2.sem = fun _ => 0)

def quiescent_DwUq [hDwUq : Cert.DwUq.Facts] : Prop :=
  ∀ (m : (ℓ : Loc Cert.DwUq.nD Cert.DwUq.τ Cert.DwUq.sig) → Buf (Elt Bits) ℓ) (g : Dev Cert.DwUq.nD → PrngReg), Pre_DwUq m →
    θ_run (Cert.DwUq.defs (F := Bits)) (onTc (τ := Cert.DwUq.τ) (Cert.DwUq.main (F := Bits))) ⟨m, fun _ => 0, g⟩ (fun r => (∀ c : Dev Cert.DwUq.nD,
      r.2.mem ((c.tc : Thread Cert.DwUq.nD Cert.DwUq.τ).loc Cert.DwUq.main_arg0) = m ((c.tc : Thread Cert.DwUq.nD Cert.DwUq.τ).loc Cert.DwUq.main_arg0)
      ∧ r.2.mem ((c.tc : Thread Cert.DwUq.nD Cert.DwUq.τ).loc Cert.DwUq.main_arg1) = m ((c.tc : Thread Cert.DwUq.nD Cert.DwUq.τ).loc Cert.DwUq.main_arg1))
      ∧ r.2.sem = fun _ => 0)

def quiescent_DwUqIdeal [hDwUqIdeal : Cert.DwUqIdeal.Facts] : Prop :=
  ∀ (m : (ℓ : Loc Cert.DwUqIdeal.nD Cert.DwUqIdeal.τ Cert.DwUqIdeal.sig) → Buf (Elt Ideal) ℓ) (g : Dev Cert.DwUqIdeal.nD → PrngReg), Pre_DwUqIdeal m →
    θ_run (Cert.DwUqIdeal.defs (F := Ideal)) (onTc (τ := Cert.DwUqIdeal.τ) (Cert.DwUqIdeal.main (F := Ideal))) ⟨m, fun _ => 0, g⟩ (fun r => (∀ c : Dev Cert.DwUqIdeal.nD,
      r.2.mem ((c.tc : Thread Cert.DwUqIdeal.nD Cert.DwUqIdeal.τ).loc Cert.DwUqIdeal.main_arg0) = m ((c.tc : Thread Cert.DwUqIdeal.nD Cert.DwUqIdeal.τ).loc Cert.DwUqIdeal.main_arg0)
      ∧ r.2.mem ((c.tc : Thread Cert.DwUqIdeal.nD Cert.DwUqIdeal.τ).loc Cert.DwUqIdeal.main_arg1) = m ((c.tc : Thread Cert.DwUqIdeal.nD Cert.DwUqIdeal.τ).loc Cert.DwUqIdeal.main_arg1))
      ∧ r.2.sem = fun _ => 0)

def quiescent_UqWeightGradIdeal [hUqWeightGradIdeal : Cert.UqWeightGradIdeal.Facts] : Prop :=
  ∀ (m : (ℓ : Loc Cert.UqWeightGradIdeal.nD Cert.UqWeightGradIdeal.τ Cert.UqWeightGradIdeal.sig) → Buf (Elt Ideal) ℓ) (g : Dev Cert.UqWeightGradIdeal.nD → PrngReg), Pre_UqWeightGradIdeal m →
    θ_run (Cert.UqWeightGradIdeal.defs (F := Ideal)) (onTc (τ := Cert.UqWeightGradIdeal.τ) (Cert.UqWeightGradIdeal.main (F := Ideal))) ⟨m, fun _ => 0, g⟩ (fun r => (∀ c : Dev Cert.UqWeightGradIdeal.nD,
      r.2.mem ((c.tc : Thread Cert.UqWeightGradIdeal.nD Cert.UqWeightGradIdeal.τ).loc Cert.UqWeightGradIdeal.main_arg0) = m ((c.tc : Thread Cert.UqWeightGradIdeal.nD Cert.UqWeightGradIdeal.τ).loc Cert.UqWeightGradIdeal.main_arg0)
      ∧ r.2.mem ((c.tc : Thread Cert.UqWeightGradIdeal.nD Cert.UqWeightGradIdeal.τ).loc Cert.UqWeightGradIdeal.main_arg1) = m ((c.tc : Thread Cert.UqWeightGradIdeal.nD Cert.UqWeightGradIdeal.τ).loc Cert.UqWeightGradIdeal.main_arg1))
      ∧ r.2.sem = fun _ => 0)

def quiescent_DwUkv [hDwUkv : Cert.DwUkv.Facts] : Prop :=
  ∀ (m : (ℓ : Loc Cert.DwUkv.nD Cert.DwUkv.τ Cert.DwUkv.sig) → Buf (Elt Bits) ℓ) (g : Dev Cert.DwUkv.nD → PrngReg), Pre_DwUkv m →
    θ_run (Cert.DwUkv.defs (F := Bits)) (onTc (τ := Cert.DwUkv.τ) (Cert.DwUkv.main (F := Bits))) ⟨m, fun _ => 0, g⟩ (fun r => (∀ c : Dev Cert.DwUkv.nD,
      r.2.mem ((c.tc : Thread Cert.DwUkv.nD Cert.DwUkv.τ).loc Cert.DwUkv.main_arg0) = m ((c.tc : Thread Cert.DwUkv.nD Cert.DwUkv.τ).loc Cert.DwUkv.main_arg0)
      ∧ r.2.mem ((c.tc : Thread Cert.DwUkv.nD Cert.DwUkv.τ).loc Cert.DwUkv.main_arg1) = m ((c.tc : Thread Cert.DwUkv.nD Cert.DwUkv.τ).loc Cert.DwUkv.main_arg1))
      ∧ r.2.sem = fun _ => 0)

def quiescent_DwUkvIdeal [hDwUkvIdeal : Cert.DwUkvIdeal.Facts] : Prop :=
  ∀ (m : (ℓ : Loc Cert.DwUkvIdeal.nD Cert.DwUkvIdeal.τ Cert.DwUkvIdeal.sig) → Buf (Elt Ideal) ℓ) (g : Dev Cert.DwUkvIdeal.nD → PrngReg), Pre_DwUkvIdeal m →
    θ_run (Cert.DwUkvIdeal.defs (F := Ideal)) (onTc (τ := Cert.DwUkvIdeal.τ) (Cert.DwUkvIdeal.main (F := Ideal))) ⟨m, fun _ => 0, g⟩ (fun r => (∀ c : Dev Cert.DwUkvIdeal.nD,
      r.2.mem ((c.tc : Thread Cert.DwUkvIdeal.nD Cert.DwUkvIdeal.τ).loc Cert.DwUkvIdeal.main_arg0) = m ((c.tc : Thread Cert.DwUkvIdeal.nD Cert.DwUkvIdeal.τ).loc Cert.DwUkvIdeal.main_arg0)
      ∧ r.2.mem ((c.tc : Thread Cert.DwUkvIdeal.nD Cert.DwUkvIdeal.τ).loc Cert.DwUkvIdeal.main_arg1) = m ((c.tc : Thread Cert.DwUkvIdeal.nD Cert.DwUkvIdeal.τ).loc Cert.DwUkvIdeal.main_arg1))
      ∧ r.2.sem = fun _ => 0)

def quiescent_UkvWeightGradIdeal [hUkvWeightGradIdeal : Cert.UkvWeightGradIdeal.Facts] : Prop :=
  ∀ (m : (ℓ : Loc Cert.UkvWeightGradIdeal.nD Cert.UkvWeightGradIdeal.τ Cert.UkvWeightGradIdeal.sig) → Buf (Elt Ideal) ℓ) (g : Dev Cert.UkvWeightGradIdeal.nD → PrngReg), Pre_UkvWeightGradIdeal m →
    θ_run (Cert.UkvWeightGradIdeal.defs (F := Ideal)) (onTc (τ := Cert.UkvWeightGradIdeal.τ) (Cert.UkvWeightGradIdeal.main (F := Ideal))) ⟨m, fun _ => 0, g⟩ (fun r => (∀ c : Dev Cert.UkvWeightGradIdeal.nD,
      r.2.mem ((c.tc : Thread Cert.UkvWeightGradIdeal.nD Cert.UkvWeightGradIdeal.τ).loc Cert.UkvWeightGradIdeal.main_arg0) = m ((c.tc : Thread Cert.UkvWeightGradIdeal.nD Cert.UkvWeightGradIdeal.τ).loc Cert.UkvWeightGradIdeal.main_arg0)
      ∧ r.2.mem ((c.tc : Thread Cert.UkvWeightGradIdeal.nD Cert.UkvWeightGradIdeal.τ).loc Cert.UkvWeightGradIdeal.main_arg1) = m ((c.tc : Thread Cert.UkvWeightGradIdeal.nD Cert.UkvWeightGradIdeal.τ).loc Cert.UkvWeightGradIdeal.main_arg1))
      ∧ r.2.sem = fun _ => 0)

def quiescent_DwInQuery [hDwInQuery : Cert.DwInQuery.Facts] : Prop :=
  ∀ (m : (ℓ : Loc Cert.DwInQuery.nD Cert.DwInQuery.τ Cert.DwInQuery.sig) → Buf (Elt Bits) ℓ) (g : Dev Cert.DwInQuery.nD → PrngReg), Pre_DwInQuery m →
    θ_run (Cert.DwInQuery.defs (F := Bits)) (onTc (τ := Cert.DwInQuery.τ) (Cert.DwInQuery.main (F := Bits))) ⟨m, fun _ => 0, g⟩ (fun r => (∀ c : Dev Cert.DwInQuery.nD,
      r.2.mem ((c.tc : Thread Cert.DwInQuery.nD Cert.DwInQuery.τ).loc Cert.DwInQuery.main_arg0) = m ((c.tc : Thread Cert.DwInQuery.nD Cert.DwInQuery.τ).loc Cert.DwInQuery.main_arg0)
      ∧ r.2.mem ((c.tc : Thread Cert.DwInQuery.nD Cert.DwInQuery.τ).loc Cert.DwInQuery.main_arg1) = m ((c.tc : Thread Cert.DwInQuery.nD Cert.DwInQuery.τ).loc Cert.DwInQuery.main_arg1))
      ∧ r.2.sem = fun _ => 0)

def quiescent_DwInQueryIdeal [hDwInQueryIdeal : Cert.DwInQueryIdeal.Facts] : Prop :=
  ∀ (m : (ℓ : Loc Cert.DwInQueryIdeal.nD Cert.DwInQueryIdeal.τ Cert.DwInQueryIdeal.sig) → Buf (Elt Ideal) ℓ) (g : Dev Cert.DwInQueryIdeal.nD → PrngReg), Pre_DwInQueryIdeal m →
    θ_run (Cert.DwInQueryIdeal.defs (F := Ideal)) (onTc (τ := Cert.DwInQueryIdeal.τ) (Cert.DwInQueryIdeal.main (F := Ideal))) ⟨m, fun _ => 0, g⟩ (fun r => (∀ c : Dev Cert.DwInQueryIdeal.nD,
      r.2.mem ((c.tc : Thread Cert.DwInQueryIdeal.nD Cert.DwInQueryIdeal.τ).loc Cert.DwInQueryIdeal.main_arg0) = m ((c.tc : Thread Cert.DwInQueryIdeal.nD Cert.DwInQueryIdeal.τ).loc Cert.DwInQueryIdeal.main_arg0)
      ∧ r.2.mem ((c.tc : Thread Cert.DwInQueryIdeal.nD Cert.DwInQueryIdeal.τ).loc Cert.DwInQueryIdeal.main_arg1) = m ((c.tc : Thread Cert.DwInQueryIdeal.nD Cert.DwInQueryIdeal.τ).loc Cert.DwInQueryIdeal.main_arg1))
      ∧ r.2.sem = fun _ => 0)

def quiescent_InQueryWeightGradIdeal [hInQueryWeightGradIdeal : Cert.InQueryWeightGradIdeal.Facts] : Prop :=
  ∀ (m : (ℓ : Loc Cert.InQueryWeightGradIdeal.nD Cert.InQueryWeightGradIdeal.τ Cert.InQueryWeightGradIdeal.sig) → Buf (Elt Ideal) ℓ) (g : Dev Cert.InQueryWeightGradIdeal.nD → PrngReg), Pre_InQueryWeightGradIdeal m →
    θ_run (Cert.InQueryWeightGradIdeal.defs (F := Ideal)) (onTc (τ := Cert.InQueryWeightGradIdeal.τ) (Cert.InQueryWeightGradIdeal.main (F := Ideal))) ⟨m, fun _ => 0, g⟩ (fun r => (∀ c : Dev Cert.InQueryWeightGradIdeal.nD,
      r.2.mem ((c.tc : Thread Cert.InQueryWeightGradIdeal.nD Cert.InQueryWeightGradIdeal.τ).loc Cert.InQueryWeightGradIdeal.main_arg0) = m ((c.tc : Thread Cert.InQueryWeightGradIdeal.nD Cert.InQueryWeightGradIdeal.τ).loc Cert.InQueryWeightGradIdeal.main_arg0)
      ∧ r.2.mem ((c.tc : Thread Cert.InQueryWeightGradIdeal.nD Cert.InQueryWeightGradIdeal.τ).loc Cert.InQueryWeightGradIdeal.main_arg1) = m ((c.tc : Thread Cert.InQueryWeightGradIdeal.nD Cert.InQueryWeightGradIdeal.τ).loc Cert.InQueryWeightGradIdeal.main_arg1))
      ∧ r.2.sem = fun _ => 0)

def quiescent_DwInKv [hDwInKv : Cert.DwInKv.Facts] : Prop :=
  ∀ (m : (ℓ : Loc Cert.DwInKv.nD Cert.DwInKv.τ Cert.DwInKv.sig) → Buf (Elt Bits) ℓ) (g : Dev Cert.DwInKv.nD → PrngReg), Pre_DwInKv m →
    θ_run (Cert.DwInKv.defs (F := Bits)) (onTc (τ := Cert.DwInKv.τ) (Cert.DwInKv.main (F := Bits))) ⟨m, fun _ => 0, g⟩ (fun r => (∀ c : Dev Cert.DwInKv.nD,
      r.2.mem ((c.tc : Thread Cert.DwInKv.nD Cert.DwInKv.τ).loc Cert.DwInKv.main_arg0) = m ((c.tc : Thread Cert.DwInKv.nD Cert.DwInKv.τ).loc Cert.DwInKv.main_arg0)
      ∧ r.2.mem ((c.tc : Thread Cert.DwInKv.nD Cert.DwInKv.τ).loc Cert.DwInKv.main_arg1) = m ((c.tc : Thread Cert.DwInKv.nD Cert.DwInKv.τ).loc Cert.DwInKv.main_arg1))
      ∧ r.2.sem = fun _ => 0)

def quiescent_DwInKvIdeal [hDwInKvIdeal : Cert.DwInKvIdeal.Facts] : Prop :=
  ∀ (m : (ℓ : Loc Cert.DwInKvIdeal.nD Cert.DwInKvIdeal.τ Cert.DwInKvIdeal.sig) → Buf (Elt Ideal) ℓ) (g : Dev Cert.DwInKvIdeal.nD → PrngReg), Pre_DwInKvIdeal m →
    θ_run (Cert.DwInKvIdeal.defs (F := Ideal)) (onTc (τ := Cert.DwInKvIdeal.τ) (Cert.DwInKvIdeal.main (F := Ideal))) ⟨m, fun _ => 0, g⟩ (fun r => (∀ c : Dev Cert.DwInKvIdeal.nD,
      r.2.mem ((c.tc : Thread Cert.DwInKvIdeal.nD Cert.DwInKvIdeal.τ).loc Cert.DwInKvIdeal.main_arg0) = m ((c.tc : Thread Cert.DwInKvIdeal.nD Cert.DwInKvIdeal.τ).loc Cert.DwInKvIdeal.main_arg0)
      ∧ r.2.mem ((c.tc : Thread Cert.DwInKvIdeal.nD Cert.DwInKvIdeal.τ).loc Cert.DwInKvIdeal.main_arg1) = m ((c.tc : Thread Cert.DwInKvIdeal.nD Cert.DwInKvIdeal.τ).loc Cert.DwInKvIdeal.main_arg1))
      ∧ r.2.sem = fun _ => 0)

def quiescent_InKvWeightGradIdeal [hInKvWeightGradIdeal : Cert.InKvWeightGradIdeal.Facts] : Prop :=
  ∀ (m : (ℓ : Loc Cert.InKvWeightGradIdeal.nD Cert.InKvWeightGradIdeal.τ Cert.InKvWeightGradIdeal.sig) → Buf (Elt Ideal) ℓ) (g : Dev Cert.InKvWeightGradIdeal.nD → PrngReg), Pre_InKvWeightGradIdeal m →
    θ_run (Cert.InKvWeightGradIdeal.defs (F := Ideal)) (onTc (τ := Cert.InKvWeightGradIdeal.τ) (Cert.InKvWeightGradIdeal.main (F := Ideal))) ⟨m, fun _ => 0, g⟩ (fun r => (∀ c : Dev Cert.InKvWeightGradIdeal.nD,
      r.2.mem ((c.tc : Thread Cert.InKvWeightGradIdeal.nD Cert.InKvWeightGradIdeal.τ).loc Cert.InKvWeightGradIdeal.main_arg0) = m ((c.tc : Thread Cert.InKvWeightGradIdeal.nD Cert.InKvWeightGradIdeal.τ).loc Cert.InKvWeightGradIdeal.main_arg0)
      ∧ r.2.mem ((c.tc : Thread Cert.InKvWeightGradIdeal.nD Cert.InKvWeightGradIdeal.τ).loc Cert.InKvWeightGradIdeal.main_arg1) = m ((c.tc : Thread Cert.InKvWeightGradIdeal.nD Cert.InKvWeightGradIdeal.τ).loc Cert.InKvWeightGradIdeal.main_arg1))
      ∧ r.2.sem = fun _ => 0)

def quiescent_DwInRope [hDwInRope : Cert.DwInRope.Facts] : Prop :=
  ∀ (m : (ℓ : Loc Cert.DwInRope.nD Cert.DwInRope.τ Cert.DwInRope.sig) → Buf (Elt Bits) ℓ) (g : Dev Cert.DwInRope.nD → PrngReg), Pre_DwInRope m →
    θ_run (Cert.DwInRope.defs (F := Bits)) (onTc (τ := Cert.DwInRope.τ) (Cert.DwInRope.main (F := Bits))) ⟨m, fun _ => 0, g⟩ (fun r => (∀ c : Dev Cert.DwInRope.nD,
      r.2.mem ((c.tc : Thread Cert.DwInRope.nD Cert.DwInRope.τ).loc Cert.DwInRope.main_arg0) = m ((c.tc : Thread Cert.DwInRope.nD Cert.DwInRope.τ).loc Cert.DwInRope.main_arg0)
      ∧ r.2.mem ((c.tc : Thread Cert.DwInRope.nD Cert.DwInRope.τ).loc Cert.DwInRope.main_arg1) = m ((c.tc : Thread Cert.DwInRope.nD Cert.DwInRope.τ).loc Cert.DwInRope.main_arg1))
      ∧ r.2.sem = fun _ => 0)

def quiescent_DwInRopeIdeal [hDwInRopeIdeal : Cert.DwInRopeIdeal.Facts] : Prop :=
  ∀ (m : (ℓ : Loc Cert.DwInRopeIdeal.nD Cert.DwInRopeIdeal.τ Cert.DwInRopeIdeal.sig) → Buf (Elt Ideal) ℓ) (g : Dev Cert.DwInRopeIdeal.nD → PrngReg), Pre_DwInRopeIdeal m →
    θ_run (Cert.DwInRopeIdeal.defs (F := Ideal)) (onTc (τ := Cert.DwInRopeIdeal.τ) (Cert.DwInRopeIdeal.main (F := Ideal))) ⟨m, fun _ => 0, g⟩ (fun r => (∀ c : Dev Cert.DwInRopeIdeal.nD,
      r.2.mem ((c.tc : Thread Cert.DwInRopeIdeal.nD Cert.DwInRopeIdeal.τ).loc Cert.DwInRopeIdeal.main_arg0) = m ((c.tc : Thread Cert.DwInRopeIdeal.nD Cert.DwInRopeIdeal.τ).loc Cert.DwInRopeIdeal.main_arg0)
      ∧ r.2.mem ((c.tc : Thread Cert.DwInRopeIdeal.nD Cert.DwInRopeIdeal.τ).loc Cert.DwInRopeIdeal.main_arg1) = m ((c.tc : Thread Cert.DwInRopeIdeal.nD Cert.DwInRopeIdeal.τ).loc Cert.DwInRopeIdeal.main_arg1))
      ∧ r.2.sem = fun _ => 0)

def quiescent_InRopeWeightGradIdeal [hInRopeWeightGradIdeal : Cert.InRopeWeightGradIdeal.Facts] : Prop :=
  ∀ (m : (ℓ : Loc Cert.InRopeWeightGradIdeal.nD Cert.InRopeWeightGradIdeal.τ Cert.InRopeWeightGradIdeal.sig) → Buf (Elt Ideal) ℓ) (g : Dev Cert.InRopeWeightGradIdeal.nD → PrngReg), Pre_InRopeWeightGradIdeal m →
    θ_run (Cert.InRopeWeightGradIdeal.defs (F := Ideal)) (onTc (τ := Cert.InRopeWeightGradIdeal.τ) (Cert.InRopeWeightGradIdeal.main (F := Ideal))) ⟨m, fun _ => 0, g⟩ (fun r => (∀ c : Dev Cert.InRopeWeightGradIdeal.nD,
      r.2.mem ((c.tc : Thread Cert.InRopeWeightGradIdeal.nD Cert.InRopeWeightGradIdeal.τ).loc Cert.InRopeWeightGradIdeal.main_arg0) = m ((c.tc : Thread Cert.InRopeWeightGradIdeal.nD Cert.InRopeWeightGradIdeal.τ).loc Cert.InRopeWeightGradIdeal.main_arg0)
      ∧ r.2.mem ((c.tc : Thread Cert.InRopeWeightGradIdeal.nD Cert.InRopeWeightGradIdeal.τ).loc Cert.InRopeWeightGradIdeal.main_arg1) = m ((c.tc : Thread Cert.InRopeWeightGradIdeal.nD Cert.InRopeWeightGradIdeal.τ).loc Cert.InRopeWeightGradIdeal.main_arg1))
      ∧ r.2.sem = fun _ => 0)

def quiescent_DwMemKv [hDwMemKv : Cert.DwMemKv.Facts] : Prop :=
  ∀ (m : (ℓ : Loc Cert.DwMemKv.nD Cert.DwMemKv.τ Cert.DwMemKv.sig) → Buf (Elt Bits) ℓ) (g : Dev Cert.DwMemKv.nD → PrngReg), Pre_DwMemKv m →
    θ_run (Cert.DwMemKv.defs (F := Bits)) (onTc (τ := Cert.DwMemKv.τ) (Cert.DwMemKv.main (F := Bits))) ⟨m, fun _ => 0, g⟩ (fun r => (∀ c : Dev Cert.DwMemKv.nD,
      r.2.mem ((c.tc : Thread Cert.DwMemKv.nD Cert.DwMemKv.τ).loc Cert.DwMemKv.main_arg0) = m ((c.tc : Thread Cert.DwMemKv.nD Cert.DwMemKv.τ).loc Cert.DwMemKv.main_arg0)
      ∧ r.2.mem ((c.tc : Thread Cert.DwMemKv.nD Cert.DwMemKv.τ).loc Cert.DwMemKv.main_arg1) = m ((c.tc : Thread Cert.DwMemKv.nD Cert.DwMemKv.τ).loc Cert.DwMemKv.main_arg1))
      ∧ r.2.sem = fun _ => 0)

def quiescent_DwMemKvIdeal [hDwMemKvIdeal : Cert.DwMemKvIdeal.Facts] : Prop :=
  ∀ (m : (ℓ : Loc Cert.DwMemKvIdeal.nD Cert.DwMemKvIdeal.τ Cert.DwMemKvIdeal.sig) → Buf (Elt Ideal) ℓ) (g : Dev Cert.DwMemKvIdeal.nD → PrngReg), Pre_DwMemKvIdeal m →
    θ_run (Cert.DwMemKvIdeal.defs (F := Ideal)) (onTc (τ := Cert.DwMemKvIdeal.τ) (Cert.DwMemKvIdeal.main (F := Ideal))) ⟨m, fun _ => 0, g⟩ (fun r => (∀ c : Dev Cert.DwMemKvIdeal.nD,
      r.2.mem ((c.tc : Thread Cert.DwMemKvIdeal.nD Cert.DwMemKvIdeal.τ).loc Cert.DwMemKvIdeal.main_arg0) = m ((c.tc : Thread Cert.DwMemKvIdeal.nD Cert.DwMemKvIdeal.τ).loc Cert.DwMemKvIdeal.main_arg0)
      ∧ r.2.mem ((c.tc : Thread Cert.DwMemKvIdeal.nD Cert.DwMemKvIdeal.τ).loc Cert.DwMemKvIdeal.main_arg1) = m ((c.tc : Thread Cert.DwMemKvIdeal.nD Cert.DwMemKvIdeal.τ).loc Cert.DwMemKvIdeal.main_arg1))
      ∧ r.2.sem = fun _ => 0)

def quiescent_MemKvWeightGradIdeal [hMemKvWeightGradIdeal : Cert.MemKvWeightGradIdeal.Facts] : Prop :=
  ∀ (m : (ℓ : Loc Cert.MemKvWeightGradIdeal.nD Cert.MemKvWeightGradIdeal.τ Cert.MemKvWeightGradIdeal.sig) → Buf (Elt Ideal) ℓ) (g : Dev Cert.MemKvWeightGradIdeal.nD → PrngReg), Pre_MemKvWeightGradIdeal m →
    θ_run (Cert.MemKvWeightGradIdeal.defs (F := Ideal)) (onTc (τ := Cert.MemKvWeightGradIdeal.τ) (Cert.MemKvWeightGradIdeal.main (F := Ideal))) ⟨m, fun _ => 0, g⟩ (fun r => (∀ c : Dev Cert.MemKvWeightGradIdeal.nD,
      r.2.mem ((c.tc : Thread Cert.MemKvWeightGradIdeal.nD Cert.MemKvWeightGradIdeal.τ).loc Cert.MemKvWeightGradIdeal.main_arg0) = m ((c.tc : Thread Cert.MemKvWeightGradIdeal.nD Cert.MemKvWeightGradIdeal.τ).loc Cert.MemKvWeightGradIdeal.main_arg0)
      ∧ r.2.mem ((c.tc : Thread Cert.MemKvWeightGradIdeal.nD Cert.MemKvWeightGradIdeal.τ).loc Cert.MemKvWeightGradIdeal.main_arg1) = m ((c.tc : Thread Cert.MemKvWeightGradIdeal.nD Cert.MemKvWeightGradIdeal.τ).loc Cert.MemKvWeightGradIdeal.main_arg1))
      ∧ r.2.sem = fun _ => 0)

def quiescent_MemkvBwd [hMemkvBwd : Cert.MemkvBwd.Facts] : Prop :=
  ∀ (m : (ℓ : Loc Cert.MemkvBwd.nD Cert.MemkvBwd.τ Cert.MemkvBwd.sig) → Buf (Elt Bits) ℓ) (g : Dev Cert.MemkvBwd.nD → PrngReg), Pre_MemkvBwd m →
    θ_run (Cert.MemkvBwd.defs (F := Bits)) (onTc (τ := Cert.MemkvBwd.τ) (Cert.MemkvBwd.main (F := Bits))) ⟨m, fun _ => 0, g⟩ (fun r => (∀ c : Dev Cert.MemkvBwd.nD,
      r.2.mem ((c.tc : Thread Cert.MemkvBwd.nD Cert.MemkvBwd.τ).loc Cert.MemkvBwd.main_arg0) = m ((c.tc : Thread Cert.MemkvBwd.nD Cert.MemkvBwd.τ).loc Cert.MemkvBwd.main_arg0)
      ∧ r.2.mem ((c.tc : Thread Cert.MemkvBwd.nD Cert.MemkvBwd.τ).loc Cert.MemkvBwd.main_arg1) = m ((c.tc : Thread Cert.MemkvBwd.nD Cert.MemkvBwd.τ).loc Cert.MemkvBwd.main_arg1)
      ∧ r.2.mem ((c.tc : Thread Cert.MemkvBwd.nD Cert.MemkvBwd.τ).loc Cert.MemkvBwd.main_arg2) = m ((c.tc : Thread Cert.MemkvBwd.nD Cert.MemkvBwd.τ).loc Cert.MemkvBwd.main_arg2)
      ∧ r.2.mem ((c.tc : Thread Cert.MemkvBwd.nD Cert.MemkvBwd.τ).loc Cert.MemkvBwd.main_arg3) = m ((c.tc : Thread Cert.MemkvBwd.nD Cert.MemkvBwd.τ).loc Cert.MemkvBwd.main_arg3))
      ∧ r.2.sem = fun _ => 0)

def quiescent_MemkvBwdIdeal [hMemkvBwdIdeal : Cert.MemkvBwdIdeal.Facts] : Prop :=
  ∀ (m : (ℓ : Loc Cert.MemkvBwdIdeal.nD Cert.MemkvBwdIdeal.τ Cert.MemkvBwdIdeal.sig) → Buf (Elt Ideal) ℓ) (g : Dev Cert.MemkvBwdIdeal.nD → PrngReg), Pre_MemkvBwdIdeal m →
    θ_run (Cert.MemkvBwdIdeal.defs (F := Ideal)) (onTc (τ := Cert.MemkvBwdIdeal.τ) (Cert.MemkvBwdIdeal.main (F := Ideal))) ⟨m, fun _ => 0, g⟩ (fun r => (∀ c : Dev Cert.MemkvBwdIdeal.nD,
      r.2.mem ((c.tc : Thread Cert.MemkvBwdIdeal.nD Cert.MemkvBwdIdeal.τ).loc Cert.MemkvBwdIdeal.main_arg0) = m ((c.tc : Thread Cert.MemkvBwdIdeal.nD Cert.MemkvBwdIdeal.τ).loc Cert.MemkvBwdIdeal.main_arg0)
      ∧ r.2.mem ((c.tc : Thread Cert.MemkvBwdIdeal.nD Cert.MemkvBwdIdeal.τ).loc Cert.MemkvBwdIdeal.main_arg1) = m ((c.tc : Thread Cert.MemkvBwdIdeal.nD Cert.MemkvBwdIdeal.τ).loc Cert.MemkvBwdIdeal.main_arg1)
      ∧ r.2.mem ((c.tc : Thread Cert.MemkvBwdIdeal.nD Cert.MemkvBwdIdeal.τ).loc Cert.MemkvBwdIdeal.main_arg2) = m ((c.tc : Thread Cert.MemkvBwdIdeal.nD Cert.MemkvBwdIdeal.τ).loc Cert.MemkvBwdIdeal.main_arg2)
      ∧ r.2.mem ((c.tc : Thread Cert.MemkvBwdIdeal.nD Cert.MemkvBwdIdeal.τ).loc Cert.MemkvBwdIdeal.main_arg3) = m ((c.tc : Thread Cert.MemkvBwdIdeal.nD Cert.MemkvBwdIdeal.τ).loc Cert.MemkvBwdIdeal.main_arg3))
      ∧ r.2.sem = fun _ => 0)

def quiescent_MemoryKvGradIdeal [hMemoryKvGradIdeal : Cert.MemoryKvGradIdeal.Facts] : Prop :=
  ∀ (m : (ℓ : Loc Cert.MemoryKvGradIdeal.nD Cert.MemoryKvGradIdeal.τ Cert.MemoryKvGradIdeal.sig) → Buf (Elt Ideal) ℓ) (g : Dev Cert.MemoryKvGradIdeal.nD → PrngReg), Pre_MemoryKvGradIdeal m →
    θ_run (Cert.MemoryKvGradIdeal.defs (F := Ideal)) (onTc (τ := Cert.MemoryKvGradIdeal.τ) (Cert.MemoryKvGradIdeal.main (F := Ideal))) ⟨m, fun _ => 0, g⟩ (fun r => (∀ c : Dev Cert.MemoryKvGradIdeal.nD,
      r.2.mem ((c.tc : Thread Cert.MemoryKvGradIdeal.nD Cert.MemoryKvGradIdeal.τ).loc Cert.MemoryKvGradIdeal.main_arg0) = m ((c.tc : Thread Cert.MemoryKvGradIdeal.nD Cert.MemoryKvGradIdeal.τ).loc Cert.MemoryKvGradIdeal.main_arg0)
      ∧ r.2.mem ((c.tc : Thread Cert.MemoryKvGradIdeal.nD Cert.MemoryKvGradIdeal.τ).loc Cert.MemoryKvGradIdeal.main_arg1) = m ((c.tc : Thread Cert.MemoryKvGradIdeal.nD Cert.MemoryKvGradIdeal.τ).loc Cert.MemoryKvGradIdeal.main_arg1)
      ∧ r.2.mem ((c.tc : Thread Cert.MemoryKvGradIdeal.nD Cert.MemoryKvGradIdeal.τ).loc Cert.MemoryKvGradIdeal.main_arg2) = m ((c.tc : Thread Cert.MemoryKvGradIdeal.nD Cert.MemoryKvGradIdeal.τ).loc Cert.MemoryKvGradIdeal.main_arg2)
      ∧ r.2.mem ((c.tc : Thread Cert.MemoryKvGradIdeal.nD Cert.MemoryKvGradIdeal.τ).loc Cert.MemoryKvGradIdeal.main_arg3) = m ((c.tc : Thread Cert.MemoryKvGradIdeal.nD Cert.MemoryKvGradIdeal.τ).loc Cert.MemoryKvGradIdeal.main_arg3))
      ∧ r.2.sem = fun _ => 0)

def quiescent_QueryUpBwd [hQueryUpBwd : Cert.QueryUpBwd.Facts] : Prop :=
  ∀ (m : (ℓ : Loc Cert.QueryUpBwd.nD Cert.QueryUpBwd.τ Cert.QueryUpBwd.sig) → Buf (Elt Bits) ℓ) (g : Dev Cert.QueryUpBwd.nD → PrngReg), Pre_QueryUpBwd m →
    θ_run (Cert.QueryUpBwd.defs (F := Bits)) (onTc (τ := Cert.QueryUpBwd.τ) (Cert.QueryUpBwd.main (F := Bits))) ⟨m, fun _ => 0, g⟩ (fun r => (∀ c : Dev Cert.QueryUpBwd.nD,
      r.2.mem ((c.tc : Thread Cert.QueryUpBwd.nD Cert.QueryUpBwd.τ).loc Cert.QueryUpBwd.main_arg0) = m ((c.tc : Thread Cert.QueryUpBwd.nD Cert.QueryUpBwd.τ).loc Cert.QueryUpBwd.main_arg0)
      ∧ r.2.mem ((c.tc : Thread Cert.QueryUpBwd.nD Cert.QueryUpBwd.τ).loc Cert.QueryUpBwd.main_arg1) = m ((c.tc : Thread Cert.QueryUpBwd.nD Cert.QueryUpBwd.τ).loc Cert.QueryUpBwd.main_arg1)
      ∧ r.2.mem ((c.tc : Thread Cert.QueryUpBwd.nD Cert.QueryUpBwd.τ).loc Cert.QueryUpBwd.main_arg2) = m ((c.tc : Thread Cert.QueryUpBwd.nD Cert.QueryUpBwd.τ).loc Cert.QueryUpBwd.main_arg2)
      ∧ r.2.mem ((c.tc : Thread Cert.QueryUpBwd.nD Cert.QueryUpBwd.τ).loc Cert.QueryUpBwd.main_arg3) = m ((c.tc : Thread Cert.QueryUpBwd.nD Cert.QueryUpBwd.τ).loc Cert.QueryUpBwd.main_arg3))
      ∧ r.2.sem = fun _ => 0)

def quiescent_QueryUpBwdIdeal [hQueryUpBwdIdeal : Cert.QueryUpBwdIdeal.Facts] : Prop :=
  ∀ (m : (ℓ : Loc Cert.QueryUpBwdIdeal.nD Cert.QueryUpBwdIdeal.τ Cert.QueryUpBwdIdeal.sig) → Buf (Elt Ideal) ℓ) (g : Dev Cert.QueryUpBwdIdeal.nD → PrngReg), Pre_QueryUpBwdIdeal m →
    θ_run (Cert.QueryUpBwdIdeal.defs (F := Ideal)) (onTc (τ := Cert.QueryUpBwdIdeal.τ) (Cert.QueryUpBwdIdeal.main (F := Ideal))) ⟨m, fun _ => 0, g⟩ (fun r => (∀ c : Dev Cert.QueryUpBwdIdeal.nD,
      r.2.mem ((c.tc : Thread Cert.QueryUpBwdIdeal.nD Cert.QueryUpBwdIdeal.τ).loc Cert.QueryUpBwdIdeal.main_arg0) = m ((c.tc : Thread Cert.QueryUpBwdIdeal.nD Cert.QueryUpBwdIdeal.τ).loc Cert.QueryUpBwdIdeal.main_arg0)
      ∧ r.2.mem ((c.tc : Thread Cert.QueryUpBwdIdeal.nD Cert.QueryUpBwdIdeal.τ).loc Cert.QueryUpBwdIdeal.main_arg1) = m ((c.tc : Thread Cert.QueryUpBwdIdeal.nD Cert.QueryUpBwdIdeal.τ).loc Cert.QueryUpBwdIdeal.main_arg1)
      ∧ r.2.mem ((c.tc : Thread Cert.QueryUpBwdIdeal.nD Cert.QueryUpBwdIdeal.τ).loc Cert.QueryUpBwdIdeal.main_arg2) = m ((c.tc : Thread Cert.QueryUpBwdIdeal.nD Cert.QueryUpBwdIdeal.τ).loc Cert.QueryUpBwdIdeal.main_arg2)
      ∧ r.2.mem ((c.tc : Thread Cert.QueryUpBwdIdeal.nD Cert.QueryUpBwdIdeal.τ).loc Cert.QueryUpBwdIdeal.main_arg3) = m ((c.tc : Thread Cert.QueryUpBwdIdeal.nD Cert.QueryUpBwdIdeal.τ).loc Cert.QueryUpBwdIdeal.main_arg3))
      ∧ r.2.sem = fun _ => 0)

def quiescent_QueryLatentGradIdeal [hQueryLatentGradIdeal : Cert.QueryLatentGradIdeal.Facts] : Prop :=
  ∀ (m : (ℓ : Loc Cert.QueryLatentGradIdeal.nD Cert.QueryLatentGradIdeal.τ Cert.QueryLatentGradIdeal.sig) → Buf (Elt Ideal) ℓ) (g : Dev Cert.QueryLatentGradIdeal.nD → PrngReg), Pre_QueryLatentGradIdeal m →
    θ_run (Cert.QueryLatentGradIdeal.defs (F := Ideal)) (onTc (τ := Cert.QueryLatentGradIdeal.τ) (Cert.QueryLatentGradIdeal.main (F := Ideal))) ⟨m, fun _ => 0, g⟩ (fun r => (∀ c : Dev Cert.QueryLatentGradIdeal.nD,
      r.2.mem ((c.tc : Thread Cert.QueryLatentGradIdeal.nD Cert.QueryLatentGradIdeal.τ).loc Cert.QueryLatentGradIdeal.main_arg0) = m ((c.tc : Thread Cert.QueryLatentGradIdeal.nD Cert.QueryLatentGradIdeal.τ).loc Cert.QueryLatentGradIdeal.main_arg0)
      ∧ r.2.mem ((c.tc : Thread Cert.QueryLatentGradIdeal.nD Cert.QueryLatentGradIdeal.τ).loc Cert.QueryLatentGradIdeal.main_arg1) = m ((c.tc : Thread Cert.QueryLatentGradIdeal.nD Cert.QueryLatentGradIdeal.τ).loc Cert.QueryLatentGradIdeal.main_arg1)
      ∧ r.2.mem ((c.tc : Thread Cert.QueryLatentGradIdeal.nD Cert.QueryLatentGradIdeal.τ).loc Cert.QueryLatentGradIdeal.main_arg2) = m ((c.tc : Thread Cert.QueryLatentGradIdeal.nD Cert.QueryLatentGradIdeal.τ).loc Cert.QueryLatentGradIdeal.main_arg2)
      ∧ r.2.mem ((c.tc : Thread Cert.QueryLatentGradIdeal.nD Cert.QueryLatentGradIdeal.τ).loc Cert.QueryLatentGradIdeal.main_arg3) = m ((c.tc : Thread Cert.QueryLatentGradIdeal.nD Cert.QueryLatentGradIdeal.τ).loc Cert.QueryLatentGradIdeal.main_arg3))
      ∧ r.2.sem = fun _ => 0)

def quiescent_KvUpBwd [hKvUpBwd : Cert.KvUpBwd.Facts] : Prop :=
  ∀ (m : (ℓ : Loc Cert.KvUpBwd.nD Cert.KvUpBwd.τ Cert.KvUpBwd.sig) → Buf (Elt Bits) ℓ) (g : Dev Cert.KvUpBwd.nD → PrngReg), Pre_KvUpBwd m →
    θ_run (Cert.KvUpBwd.defs (F := Bits)) (onTc (τ := Cert.KvUpBwd.τ) (Cert.KvUpBwd.main (F := Bits))) ⟨m, fun _ => 0, g⟩ (fun r => (∀ c : Dev Cert.KvUpBwd.nD,
      r.2.mem ((c.tc : Thread Cert.KvUpBwd.nD Cert.KvUpBwd.τ).loc Cert.KvUpBwd.main_arg0) = m ((c.tc : Thread Cert.KvUpBwd.nD Cert.KvUpBwd.τ).loc Cert.KvUpBwd.main_arg0)
      ∧ r.2.mem ((c.tc : Thread Cert.KvUpBwd.nD Cert.KvUpBwd.τ).loc Cert.KvUpBwd.main_arg1) = m ((c.tc : Thread Cert.KvUpBwd.nD Cert.KvUpBwd.τ).loc Cert.KvUpBwd.main_arg1)
      ∧ r.2.mem ((c.tc : Thread Cert.KvUpBwd.nD Cert.KvUpBwd.τ).loc Cert.KvUpBwd.main_arg2) = m ((c.tc : Thread Cert.KvUpBwd.nD Cert.KvUpBwd.τ).loc Cert.KvUpBwd.main_arg2)
      ∧ r.2.mem ((c.tc : Thread Cert.KvUpBwd.nD Cert.KvUpBwd.τ).loc Cert.KvUpBwd.main_arg3) = m ((c.tc : Thread Cert.KvUpBwd.nD Cert.KvUpBwd.τ).loc Cert.KvUpBwd.main_arg3))
      ∧ r.2.sem = fun _ => 0)

def quiescent_KvUpBwdIdeal [hKvUpBwdIdeal : Cert.KvUpBwdIdeal.Facts] : Prop :=
  ∀ (m : (ℓ : Loc Cert.KvUpBwdIdeal.nD Cert.KvUpBwdIdeal.τ Cert.KvUpBwdIdeal.sig) → Buf (Elt Ideal) ℓ) (g : Dev Cert.KvUpBwdIdeal.nD → PrngReg), Pre_KvUpBwdIdeal m →
    θ_run (Cert.KvUpBwdIdeal.defs (F := Ideal)) (onTc (τ := Cert.KvUpBwdIdeal.τ) (Cert.KvUpBwdIdeal.main (F := Ideal))) ⟨m, fun _ => 0, g⟩ (fun r => (∀ c : Dev Cert.KvUpBwdIdeal.nD,
      r.2.mem ((c.tc : Thread Cert.KvUpBwdIdeal.nD Cert.KvUpBwdIdeal.τ).loc Cert.KvUpBwdIdeal.main_arg0) = m ((c.tc : Thread Cert.KvUpBwdIdeal.nD Cert.KvUpBwdIdeal.τ).loc Cert.KvUpBwdIdeal.main_arg0)
      ∧ r.2.mem ((c.tc : Thread Cert.KvUpBwdIdeal.nD Cert.KvUpBwdIdeal.τ).loc Cert.KvUpBwdIdeal.main_arg1) = m ((c.tc : Thread Cert.KvUpBwdIdeal.nD Cert.KvUpBwdIdeal.τ).loc Cert.KvUpBwdIdeal.main_arg1)
      ∧ r.2.mem ((c.tc : Thread Cert.KvUpBwdIdeal.nD Cert.KvUpBwdIdeal.τ).loc Cert.KvUpBwdIdeal.main_arg2) = m ((c.tc : Thread Cert.KvUpBwdIdeal.nD Cert.KvUpBwdIdeal.τ).loc Cert.KvUpBwdIdeal.main_arg2)
      ∧ r.2.mem ((c.tc : Thread Cert.KvUpBwdIdeal.nD Cert.KvUpBwdIdeal.τ).loc Cert.KvUpBwdIdeal.main_arg3) = m ((c.tc : Thread Cert.KvUpBwdIdeal.nD Cert.KvUpBwdIdeal.τ).loc Cert.KvUpBwdIdeal.main_arg3))
      ∧ r.2.sem = fun _ => 0)

def quiescent_KvLatentGradIdeal [hKvLatentGradIdeal : Cert.KvLatentGradIdeal.Facts] : Prop :=
  ∀ (m : (ℓ : Loc Cert.KvLatentGradIdeal.nD Cert.KvLatentGradIdeal.τ Cert.KvLatentGradIdeal.sig) → Buf (Elt Ideal) ℓ) (g : Dev Cert.KvLatentGradIdeal.nD → PrngReg), Pre_KvLatentGradIdeal m →
    θ_run (Cert.KvLatentGradIdeal.defs (F := Ideal)) (onTc (τ := Cert.KvLatentGradIdeal.τ) (Cert.KvLatentGradIdeal.main (F := Ideal))) ⟨m, fun _ => 0, g⟩ (fun r => (∀ c : Dev Cert.KvLatentGradIdeal.nD,
      r.2.mem ((c.tc : Thread Cert.KvLatentGradIdeal.nD Cert.KvLatentGradIdeal.τ).loc Cert.KvLatentGradIdeal.main_arg0) = m ((c.tc : Thread Cert.KvLatentGradIdeal.nD Cert.KvLatentGradIdeal.τ).loc Cert.KvLatentGradIdeal.main_arg0)
      ∧ r.2.mem ((c.tc : Thread Cert.KvLatentGradIdeal.nD Cert.KvLatentGradIdeal.τ).loc Cert.KvLatentGradIdeal.main_arg1) = m ((c.tc : Thread Cert.KvLatentGradIdeal.nD Cert.KvLatentGradIdeal.τ).loc Cert.KvLatentGradIdeal.main_arg1)
      ∧ r.2.mem ((c.tc : Thread Cert.KvLatentGradIdeal.nD Cert.KvLatentGradIdeal.τ).loc Cert.KvLatentGradIdeal.main_arg2) = m ((c.tc : Thread Cert.KvLatentGradIdeal.nD Cert.KvLatentGradIdeal.τ).loc Cert.KvLatentGradIdeal.main_arg2)
      ∧ r.2.mem ((c.tc : Thread Cert.KvLatentGradIdeal.nD Cert.KvLatentGradIdeal.τ).loc Cert.KvLatentGradIdeal.main_arg3) = m ((c.tc : Thread Cert.KvLatentGradIdeal.nD Cert.KvLatentGradIdeal.τ).loc Cert.KvLatentGradIdeal.main_arg3))
      ∧ r.2.sem = fun _ => 0)

def quiescent_ConvNormBwd [hConvNormBwd : Cert.ConvNormBwd.Facts] : Prop :=
  ∀ (m : (ℓ : Loc Cert.ConvNormBwd.nD Cert.ConvNormBwd.τ Cert.ConvNormBwd.sig) → Buf (Elt Bits) ℓ) (g : Dev Cert.ConvNormBwd.nD → PrngReg), Pre_ConvNormBwd m →
    θ_run (Cert.ConvNormBwd.defs (F := Bits)) (onTc (τ := Cert.ConvNormBwd.τ) (Cert.ConvNormBwd.main (F := Bits))) ⟨m, fun _ => 0, g⟩ (fun r => (∀ c : Dev Cert.ConvNormBwd.nD,
      r.2.mem ((c.tc : Thread Cert.ConvNormBwd.nD Cert.ConvNormBwd.τ).loc Cert.ConvNormBwd.main_arg0) = m ((c.tc : Thread Cert.ConvNormBwd.nD Cert.ConvNormBwd.τ).loc Cert.ConvNormBwd.main_arg0)
      ∧ r.2.mem ((c.tc : Thread Cert.ConvNormBwd.nD Cert.ConvNormBwd.τ).loc Cert.ConvNormBwd.main_arg1) = m ((c.tc : Thread Cert.ConvNormBwd.nD Cert.ConvNormBwd.τ).loc Cert.ConvNormBwd.main_arg1)
      ∧ r.2.mem ((c.tc : Thread Cert.ConvNormBwd.nD Cert.ConvNormBwd.τ).loc Cert.ConvNormBwd.main_arg2) = m ((c.tc : Thread Cert.ConvNormBwd.nD Cert.ConvNormBwd.τ).loc Cert.ConvNormBwd.main_arg2)
      ∧ r.2.mem ((c.tc : Thread Cert.ConvNormBwd.nD Cert.ConvNormBwd.τ).loc Cert.ConvNormBwd.main_arg3) = m ((c.tc : Thread Cert.ConvNormBwd.nD Cert.ConvNormBwd.τ).loc Cert.ConvNormBwd.main_arg3))
      ∧ r.2.sem = fun _ => 0)

def quiescent_ConvNormBwdIdeal [hConvNormBwdIdeal : Cert.ConvNormBwdIdeal.Facts] : Prop :=
  ∀ (m : (ℓ : Loc Cert.ConvNormBwdIdeal.nD Cert.ConvNormBwdIdeal.τ Cert.ConvNormBwdIdeal.sig) → Buf (Elt Ideal) ℓ) (g : Dev Cert.ConvNormBwdIdeal.nD → PrngReg), Pre_ConvNormBwdIdeal m →
    θ_run (Cert.ConvNormBwdIdeal.defs (F := Ideal)) (onTc (τ := Cert.ConvNormBwdIdeal.τ) (Cert.ConvNormBwdIdeal.main (F := Ideal))) ⟨m, fun _ => 0, g⟩ (fun r => (∀ c : Dev Cert.ConvNormBwdIdeal.nD,
      r.2.mem ((c.tc : Thread Cert.ConvNormBwdIdeal.nD Cert.ConvNormBwdIdeal.τ).loc Cert.ConvNormBwdIdeal.main_arg0) = m ((c.tc : Thread Cert.ConvNormBwdIdeal.nD Cert.ConvNormBwdIdeal.τ).loc Cert.ConvNormBwdIdeal.main_arg0)
      ∧ r.2.mem ((c.tc : Thread Cert.ConvNormBwdIdeal.nD Cert.ConvNormBwdIdeal.τ).loc Cert.ConvNormBwdIdeal.main_arg1) = m ((c.tc : Thread Cert.ConvNormBwdIdeal.nD Cert.ConvNormBwdIdeal.τ).loc Cert.ConvNormBwdIdeal.main_arg1)
      ∧ r.2.mem ((c.tc : Thread Cert.ConvNormBwdIdeal.nD Cert.ConvNormBwdIdeal.τ).loc Cert.ConvNormBwdIdeal.main_arg2) = m ((c.tc : Thread Cert.ConvNormBwdIdeal.nD Cert.ConvNormBwdIdeal.τ).loc Cert.ConvNormBwdIdeal.main_arg2)
      ∧ r.2.mem ((c.tc : Thread Cert.ConvNormBwdIdeal.nD Cert.ConvNormBwdIdeal.τ).loc Cert.ConvNormBwdIdeal.main_arg3) = m ((c.tc : Thread Cert.ConvNormBwdIdeal.nD Cert.ConvNormBwdIdeal.τ).loc Cert.ConvNormBwdIdeal.main_arg3))
      ∧ r.2.sem = fun _ => 0)

def quiescent_ConvNormBwdIdeal_pre_conv_finite [hConvNormBwdIdeal : Cert.ConvNormBwdIdeal.Facts] [hPre_conv_finite : Cert.Pre_conv_finite.Facts] : Prop :=
  ∀ (m : (ℓ : Loc Cert.ConvNormBwdIdeal.nD Cert.ConvNormBwdIdeal.τ Cert.ConvNormBwdIdeal.sig) → Buf (Elt Ideal) ℓ) (g : Dev Cert.ConvNormBwdIdeal.nD → PrngReg), Pre_ConvNormBwdIdeal_conv_finite m →
    θ_run (Cert.ConvNormBwdIdeal.defs (F := Ideal)) (onTc (τ := Cert.ConvNormBwdIdeal.τ) (Cert.ConvNormBwdIdeal.main (F := Ideal))) ⟨m, fun _ => 0, g⟩ (fun r => (∀ c : Dev Cert.ConvNormBwdIdeal.nD,
      r.2.mem ((c.tc : Thread Cert.ConvNormBwdIdeal.nD Cert.ConvNormBwdIdeal.τ).loc Cert.ConvNormBwdIdeal.main_arg0) = m ((c.tc : Thread Cert.ConvNormBwdIdeal.nD Cert.ConvNormBwdIdeal.τ).loc Cert.ConvNormBwdIdeal.main_arg0)
      ∧ r.2.mem ((c.tc : Thread Cert.ConvNormBwdIdeal.nD Cert.ConvNormBwdIdeal.τ).loc Cert.ConvNormBwdIdeal.main_arg1) = m ((c.tc : Thread Cert.ConvNormBwdIdeal.nD Cert.ConvNormBwdIdeal.τ).loc Cert.ConvNormBwdIdeal.main_arg1)
      ∧ r.2.mem ((c.tc : Thread Cert.ConvNormBwdIdeal.nD Cert.ConvNormBwdIdeal.τ).loc Cert.ConvNormBwdIdeal.main_arg2) = m ((c.tc : Thread Cert.ConvNormBwdIdeal.nD Cert.ConvNormBwdIdeal.τ).loc Cert.ConvNormBwdIdeal.main_arg2)
      ∧ r.2.mem ((c.tc : Thread Cert.ConvNormBwdIdeal.nD Cert.ConvNormBwdIdeal.τ).loc Cert.ConvNormBwdIdeal.main_arg3) = m ((c.tc : Thread Cert.ConvNormBwdIdeal.nD Cert.ConvNormBwdIdeal.τ).loc Cert.ConvNormBwdIdeal.main_arg3))
      ∧ r.2.sem = fun _ => 0)

def quiescent_ConvNormGradIdeal [hConvNormGradIdeal : Cert.ConvNormGradIdeal.Facts] : Prop :=
  ∀ (m : (ℓ : Loc Cert.ConvNormGradIdeal.nD Cert.ConvNormGradIdeal.τ Cert.ConvNormGradIdeal.sig) → Buf (Elt Ideal) ℓ) (g : Dev Cert.ConvNormGradIdeal.nD → PrngReg), Pre_ConvNormGradIdeal m →
    θ_run (Cert.ConvNormGradIdeal.defs (F := Ideal)) (onTc (τ := Cert.ConvNormGradIdeal.τ) (Cert.ConvNormGradIdeal.main (F := Ideal))) ⟨m, fun _ => 0, g⟩ (fun r => (∀ c : Dev Cert.ConvNormGradIdeal.nD,
      r.2.mem ((c.tc : Thread Cert.ConvNormGradIdeal.nD Cert.ConvNormGradIdeal.τ).loc Cert.ConvNormGradIdeal.main_arg0) = m ((c.tc : Thread Cert.ConvNormGradIdeal.nD Cert.ConvNormGradIdeal.τ).loc Cert.ConvNormGradIdeal.main_arg0)
      ∧ r.2.mem ((c.tc : Thread Cert.ConvNormGradIdeal.nD Cert.ConvNormGradIdeal.τ).loc Cert.ConvNormGradIdeal.main_arg1) = m ((c.tc : Thread Cert.ConvNormGradIdeal.nD Cert.ConvNormGradIdeal.τ).loc Cert.ConvNormGradIdeal.main_arg1)
      ∧ r.2.mem ((c.tc : Thread Cert.ConvNormGradIdeal.nD Cert.ConvNormGradIdeal.τ).loc Cert.ConvNormGradIdeal.main_arg2) = m ((c.tc : Thread Cert.ConvNormGradIdeal.nD Cert.ConvNormGradIdeal.τ).loc Cert.ConvNormGradIdeal.main_arg2)
      ∧ r.2.mem ((c.tc : Thread Cert.ConvNormGradIdeal.nD Cert.ConvNormGradIdeal.τ).loc Cert.ConvNormGradIdeal.main_arg3) = m ((c.tc : Thread Cert.ConvNormGradIdeal.nD Cert.ConvNormGradIdeal.τ).loc Cert.ConvNormGradIdeal.main_arg3))
      ∧ r.2.sem = fun _ => 0)

def quiescent_ConvNormGradIdeal_pre_conv_finite [hConvNormGradIdeal : Cert.ConvNormGradIdeal.Facts] [hPre_conv_finite : Cert.Pre_conv_finite.Facts] : Prop :=
  ∀ (m : (ℓ : Loc Cert.ConvNormGradIdeal.nD Cert.ConvNormGradIdeal.τ Cert.ConvNormGradIdeal.sig) → Buf (Elt Ideal) ℓ) (g : Dev Cert.ConvNormGradIdeal.nD → PrngReg), Pre_ConvNormGradIdeal_conv_finite m →
    θ_run (Cert.ConvNormGradIdeal.defs (F := Ideal)) (onTc (τ := Cert.ConvNormGradIdeal.τ) (Cert.ConvNormGradIdeal.main (F := Ideal))) ⟨m, fun _ => 0, g⟩ (fun r => (∀ c : Dev Cert.ConvNormGradIdeal.nD,
      r.2.mem ((c.tc : Thread Cert.ConvNormGradIdeal.nD Cert.ConvNormGradIdeal.τ).loc Cert.ConvNormGradIdeal.main_arg0) = m ((c.tc : Thread Cert.ConvNormGradIdeal.nD Cert.ConvNormGradIdeal.τ).loc Cert.ConvNormGradIdeal.main_arg0)
      ∧ r.2.mem ((c.tc : Thread Cert.ConvNormGradIdeal.nD Cert.ConvNormGradIdeal.τ).loc Cert.ConvNormGradIdeal.main_arg1) = m ((c.tc : Thread Cert.ConvNormGradIdeal.nD Cert.ConvNormGradIdeal.τ).loc Cert.ConvNormGradIdeal.main_arg1)
      ∧ r.2.mem ((c.tc : Thread Cert.ConvNormGradIdeal.nD Cert.ConvNormGradIdeal.τ).loc Cert.ConvNormGradIdeal.main_arg2) = m ((c.tc : Thread Cert.ConvNormGradIdeal.nD Cert.ConvNormGradIdeal.τ).loc Cert.ConvNormGradIdeal.main_arg2)
      ∧ r.2.mem ((c.tc : Thread Cert.ConvNormGradIdeal.nD Cert.ConvNormGradIdeal.τ).loc Cert.ConvNormGradIdeal.main_arg3) = m ((c.tc : Thread Cert.ConvNormGradIdeal.nD Cert.ConvNormGradIdeal.τ).loc Cert.ConvNormGradIdeal.main_arg3))
      ∧ r.2.sem = fun _ => 0)

def preserves_Kernel_KernelIdeal : Prop :=
  True

def algebraic_KernelIdeal_ReferenceIdeal_pre_gains_finite [hKernelIdeal : Cert.KernelIdeal.Facts] [hReferenceIdeal : Cert.ReferenceIdeal.Facts] [hPre_gains_finite : Cert.Pre_gains_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gains_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_v143) = v2 c
          ∧ r.2.mem ((c.tc : Thread Cert.ReferenceIdeal.nD Cert.ReferenceIdeal.τ).loc Cert.ReferenceIdeal.main_v122) = v3 c
          ∧ r.2.mem ((c.tc : Thread Cert.ReferenceIdeal.nD Cert.ReferenceIdeal.τ).loc Cert.ReferenceIdeal.main_v101) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_UpBwd_UpBwdIdeal : Prop :=
  True

def algebraic_UpBwdIdeal_UpGradIdeal [hUpBwdIdeal : Cert.UpBwdIdeal.Facts] [hUpGradIdeal : Cert.UpGradIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpGradIdeal.nD Cert.UpGradIdeal.τ Cert.UpGradIdeal.sig) → Buf (Elt Ideal) ℓ) (g' : Dev Cert.UpGradIdeal.nD → PrngReg), Pre_UpBwdIdeal m →
    (∀ c : Dev Cert.UpBwdIdeal.nD,
      m' ((c.tc : Thread Cert.UpGradIdeal.nD Cert.UpGradIdeal.τ).loc Cert.UpGradIdeal.main_arg0) = m ((c.tc : Thread Cert.UpBwdIdeal.nD Cert.UpBwdIdeal.τ).loc Cert.UpBwdIdeal.main_arg0)
      ∧ m' ((c.tc : Thread Cert.UpGradIdeal.nD Cert.UpGradIdeal.τ).loc Cert.UpGradIdeal.main_arg1) = m ((c.tc : Thread Cert.UpBwdIdeal.nD Cert.UpBwdIdeal.τ).loc Cert.UpBwdIdeal.main_arg1)
      ∧ m' ((c.tc : Thread Cert.UpGradIdeal.nD Cert.UpGradIdeal.τ).loc Cert.UpGradIdeal.main_arg2) = m ((c.tc : Thread Cert.UpBwdIdeal.nD Cert.UpBwdIdeal.τ).loc Cert.UpBwdIdeal.main_arg2)
      ∧ m' ((c.tc : Thread Cert.UpGradIdeal.nD Cert.UpGradIdeal.τ).loc Cert.UpGradIdeal.main_arg3) = m ((c.tc : Thread Cert.UpBwdIdeal.nD Cert.UpBwdIdeal.τ).loc Cert.UpBwdIdeal.main_arg3)
      ∧ m' ((c.tc : Thread Cert.UpGradIdeal.nD Cert.UpGradIdeal.τ).loc Cert.UpGradIdeal.main_arg4) = m ((c.tc : Thread Cert.UpBwdIdeal.nD Cert.UpBwdIdeal.τ).loc Cert.UpBwdIdeal.main_arg4)
      ∧ m' ((c.tc : Thread Cert.UpGradIdeal.nD Cert.UpGradIdeal.τ).loc Cert.UpGradIdeal.main_arg5) = m ((c.tc : Thread Cert.UpBwdIdeal.nD Cert.UpBwdIdeal.τ).loc Cert.UpBwdIdeal.main_arg5)) →
    ∃ (v0 : (c : Dev Cert.UpBwdIdeal.nD) → Buf (Elt Ideal) ((c.tc : Thread Cert.UpBwdIdeal.nD Cert.UpBwdIdeal.τ).loc Cert.UpBwdIdeal.main_v2_0)) (v1 : (c : Dev Cert.UpBwdIdeal.nD) → Buf (Elt Ideal) ((c.tc : Thread Cert.UpBwdIdeal.nD Cert.UpBwdIdeal.τ).loc Cert.UpBwdIdeal.main_v2_1)) (v2 : (c : Dev Cert.UpBwdIdeal.nD) → Buf (Elt Ideal) ((c.tc : Thread Cert.UpBwdIdeal.nD Cert.UpBwdIdeal.τ).loc Cert.UpBwdIdeal.main_v2_2)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v2_0) = v0 c
          ∧ r.2.mem ((c.tc : Thread Cert.UpBwdIdeal.nD Cert.UpBwdIdeal.τ).loc Cert.UpBwdIdeal.main_v2_1) = v1 c
          ∧ r.2.mem ((c.tc : Thread Cert.UpBwdIdeal.nD Cert.UpBwdIdeal.τ).loc Cert.UpBwdIdeal.main_v2_2) = v2 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
          ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5))
      ∧ θ_run (Cert.UpGradIdeal.defs (F := Ideal)) (onTc (τ := Cert.UpGradIdeal.τ) (Cert.UpGradIdeal.main (F := Ideal))) ⟨m', fun _ => 0, g'⟩ (fun r => ∀ c : Dev Cert.UpGradIdeal.nD,
          r.2.mem ((c.tc : Thread Cert.UpGradIdeal.nD Cert.UpGradIdeal.τ).loc Cert.UpGradIdeal.main_v39) = v0 c
          ∧ r.2.mem ((c.tc : Thread Cert.UpGradIdeal.nD Cert.UpGradIdeal.τ).loc Cert.UpGradIdeal.main_v40) = v1 c
          ∧ r.2.mem ((c.tc : Thread Cert.UpGradIdeal.nD Cert.UpGradIdeal.τ).loc Cert.UpGradIdeal.main_v22) = v2 c
          ∧ r.2.mem ((c.tc : Thread Cert.UpGradIdeal.nD Cert.UpGradIdeal.τ).loc Cert.UpGradIdeal.main_arg0) = m' ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m' ((c.tc : Thread Cert.UpGradIdeal.nD Cert.UpGradIdeal.τ).loc Cert.UpGradIdeal.main_arg1)
          ∧ r.2.mem ((c.tc : Thread Cert.UpGradIdeal.nD Cert.UpGradIdeal.τ).loc Cert.UpGradIdeal.main_arg2) = m' ((c.tc : Thread Cert.UpGradIdeal.nD Cert.UpGradIdeal.τ).loc Cert.UpGradIdeal.main_arg2)
          ∧ r.2.mem ((c.tc : Thread Cert.UpGradIdeal.nD Cert.UpGradIdeal.τ).loc Cert.UpGradIdeal.main_arg3) = m' ((c.tc : Thread Cert.UpGradIdeal.nD Cert.UpGradIdeal.τ).loc Cert.UpGradIdeal.main_arg3)
          ∧ r.2.mem ((c.tc : Thread Cert.UpGradIdeal.nD Cert.UpGradIdeal.τ).loc Cert.UpGradIdeal.main_arg4) = m' ((c.tc : Thread Cert.UpGradIdeal.nD Cert.UpGradIdeal.τ).loc Cert.UpGradIdeal.main_arg4)
          ∧ r.2.mem ((c.tc : Thread Cert.UpGradIdeal.nD Cert.UpGradIdeal.τ).loc Cert.UpGradIdeal.main_arg5) = m' ((c.tc : Thread Cert.UpGradIdeal.nD Cert.UpGradIdeal.τ).loc Cert.UpGradIdeal.main_arg5))

def preserves_DwUp_DwUpIdeal : Prop :=
  True

def algebraic_DwUpIdeal_UpWeightGradIdeal [hDwUpIdeal : Cert.DwUpIdeal.Facts] [hUpWeightGradIdeal : Cert.UpWeightGradIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.UpWeightGradIdeal.nD Cert.UpWeightGradIdeal.τ Cert.UpWeightGradIdeal.sig) → Buf (Elt Ideal) ℓ) (g' : Dev Cert.UpWeightGradIdeal.nD → PrngReg), Pre_DwUpIdeal m →
    (∀ c : Dev Cert.DwUpIdeal.nD,
      m' ((c.tc : Thread Cert.UpWeightGradIdeal.nD Cert.UpWeightGradIdeal.τ).loc Cert.UpWeightGradIdeal.main_arg0) = m ((c.tc : Thread Cert.DwUpIdeal.nD Cert.DwUpIdeal.τ).loc Cert.DwUpIdeal.main_arg0)
      ∧ m' ((c.tc : Thread Cert.UpWeightGradIdeal.nD Cert.UpWeightGradIdeal.τ).loc Cert.UpWeightGradIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.UpWeightGradIdeal.defs (F := Ideal)) (onTc (τ := Cert.UpWeightGradIdeal.τ) (Cert.UpWeightGradIdeal.main (F := Ideal))) ⟨m', fun _ => 0, g'⟩ (fun r => ∀ c : Dev Cert.UpWeightGradIdeal.nD,
          r.2.mem ((c.tc : Thread Cert.UpWeightGradIdeal.nD Cert.UpWeightGradIdeal.τ).loc Cert.UpWeightGradIdeal.main_v5) = v0 c
          ∧ r.2.mem ((c.tc : Thread Cert.UpWeightGradIdeal.nD Cert.UpWeightGradIdeal.τ).loc Cert.UpWeightGradIdeal.main_arg0) = m' ((c.tc : Thread Cert.UpWeightGradIdeal.nD Cert.UpWeightGradIdeal.τ).loc Cert.UpWeightGradIdeal.main_arg0)
          ∧ r.2.mem ((c.tc : Thread Cert.UpWeightGradIdeal.nD Cert.UpWeightGradIdeal.τ).loc Cert.UpWeightGradIdeal.main_arg1) = m' ((c.tc : Thread Cert.UpWeightGradIdeal.nD Cert.UpWeightGradIdeal.τ).loc Cert.UpWeightGradIdeal.main_arg1))

def preserves_DownBwd_DownBwdIdeal : Prop :=
  True

def algebraic_DownBwdIdeal_DownGradIdeal [hDownBwdIdeal : Cert.DownBwdIdeal.Facts] [hDownGradIdeal : Cert.DownGradIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownGradIdeal.nD Cert.DownGradIdeal.τ Cert.DownGradIdeal.sig) → Buf (Elt Ideal) ℓ) (g' : Dev Cert.DownGradIdeal.nD → PrngReg), Pre_DownBwdIdeal m →
    (∀ c : Dev Cert.DownBwdIdeal.nD,
      m' ((c.tc : Thread Cert.DownGradIdeal.nD Cert.DownGradIdeal.τ).loc Cert.DownGradIdeal.main_arg0) = m ((c.tc : Thread Cert.DownBwdIdeal.nD Cert.DownBwdIdeal.τ).loc Cert.DownBwdIdeal.main_arg0)
      ∧ m' ((c.tc : Thread Cert.DownGradIdeal.nD Cert.DownGradIdeal.τ).loc Cert.DownGradIdeal.main_arg1) = m ((c.tc : Thread Cert.DownBwdIdeal.nD Cert.DownBwdIdeal.τ).loc Cert.DownBwdIdeal.main_arg1)) →
    ∃ (v0 : (c : Dev Cert.DownBwdIdeal.nD) → Buf (Elt Ideal) ((c.tc : Thread Cert.DownBwdIdeal.nD Cert.DownBwdIdeal.τ).loc Cert.DownBwdIdeal.main_v0)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v0) = v0 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1))
      ∧ θ_run (Cert.DownGradIdeal.defs (F := Ideal)) (onTc (τ := Cert.DownGradIdeal.τ) (Cert.DownGradIdeal.main (F := Ideal))) ⟨m', fun _ => 0, g'⟩ (fun r => ∀ c : Dev Cert.DownGradIdeal.nD,
          r.2.mem ((c.tc : Thread Cert.DownGradIdeal.nD Cert.DownGradIdeal.τ).loc Cert.DownGradIdeal.main_v4) = v0 c
          ∧ r.2.mem ((c.tc : Thread Cert.DownGradIdeal.nD Cert.DownGradIdeal.τ).loc Cert.DownGradIdeal.main_arg0) = m' ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m' ((c.tc : Thread Cert.DownGradIdeal.nD Cert.DownGradIdeal.τ).loc Cert.DownGradIdeal.main_arg1))

def preserves_DwDown_DwDownIdeal : Prop :=
  True

def algebraic_DwDownIdeal_DownWeightGradIdeal [hDwDownIdeal : Cert.DwDownIdeal.Facts] [hDownWeightGradIdeal : Cert.DownWeightGradIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DownWeightGradIdeal.nD Cert.DownWeightGradIdeal.τ Cert.DownWeightGradIdeal.sig) → Buf (Elt Ideal) ℓ) (g' : Dev Cert.DownWeightGradIdeal.nD → PrngReg), Pre_DwDownIdeal m →
    (∀ c : Dev Cert.DwDownIdeal.nD,
      m' ((c.tc : Thread Cert.DownWeightGradIdeal.nD Cert.DownWeightGradIdeal.τ).loc Cert.DownWeightGradIdeal.main_arg0) = m ((c.tc : Thread Cert.DwDownIdeal.nD Cert.DwDownIdeal.τ).loc Cert.DwDownIdeal.main_arg0)
      ∧ m' ((c.tc : Thread Cert.DownWeightGradIdeal.nD Cert.DownWeightGradIdeal.τ).loc Cert.DownWeightGradIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DownWeightGradIdeal.defs (F := Ideal)) (onTc (τ := Cert.DownWeightGradIdeal.τ) (Cert.DownWeightGradIdeal.main (F := Ideal))) ⟨m', fun _ => 0, g'⟩ (fun r => ∀ c : Dev Cert.DownWeightGradIdeal.nD,
          r.2.mem ((c.tc : Thread Cert.DownWeightGradIdeal.nD Cert.DownWeightGradIdeal.τ).loc Cert.DownWeightGradIdeal.main_v5) = v0 c
          ∧ r.2.mem ((c.tc : Thread Cert.DownWeightGradIdeal.nD Cert.DownWeightGradIdeal.τ).loc Cert.DownWeightGradIdeal.main_arg0) = m' ((c.tc : Thread Cert.DownWeightGradIdeal.nD Cert.DownWeightGradIdeal.τ).loc Cert.DownWeightGradIdeal.main_arg0)
          ∧ r.2.mem ((c.tc : Thread Cert.DownWeightGradIdeal.nD Cert.DownWeightGradIdeal.τ).loc Cert.DownWeightGradIdeal.main_arg1) = m' ((c.tc : Thread Cert.DownWeightGradIdeal.nD Cert.DownWeightGradIdeal.τ).loc Cert.DownWeightGradIdeal.main_arg1))

def preserves_DownLoss_DownLossIdeal : Prop :=
  True

def algebraic_DownLossIdeal_LossGradIdeal [hDownLossIdeal : Cert.DownLossIdeal.Facts] [hLossGradIdeal : Cert.LossGradIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.LossGradIdeal.nD Cert.LossGradIdeal.τ Cert.LossGradIdeal.sig) → Buf (Elt Ideal) ℓ) (g' : Dev Cert.LossGradIdeal.nD → PrngReg), Pre_DownLossIdeal m →
    (∀ c : Dev Cert.DownLossIdeal.nD,
      m' ((c.tc : Thread Cert.LossGradIdeal.nD Cert.LossGradIdeal.τ).loc Cert.LossGradIdeal.main_arg0) = m ((c.tc : Thread Cert.DownLossIdeal.nD Cert.DownLossIdeal.τ).loc Cert.DownLossIdeal.main_arg0)
      ∧ m' ((c.tc : Thread Cert.LossGradIdeal.nD Cert.LossGradIdeal.τ).loc Cert.LossGradIdeal.main_arg1) = m ((c.tc : Thread Cert.DownLossIdeal.nD Cert.DownLossIdeal.τ).loc Cert.DownLossIdeal.main_arg1)
      ∧ m' ((c.tc : Thread Cert.LossGradIdeal.nD Cert.LossGradIdeal.τ).loc Cert.LossGradIdeal.main_arg2) = m ((c.tc : Thread Cert.DownLossIdeal.nD Cert.DownLossIdeal.τ).loc Cert.DownLossIdeal.main_arg2)
      ∧ m' ((c.tc : Thread Cert.LossGradIdeal.nD Cert.LossGradIdeal.τ).loc Cert.LossGradIdeal.main_arg3) = m ((c.tc : Thread Cert.DownLossIdeal.nD Cert.DownLossIdeal.τ).loc Cert.DownLossIdeal.main_arg3)) →
    ∃ (v0 : (c : Dev Cert.DownLossIdeal.nD) → Buf (Elt Ideal) ((c.tc : Thread Cert.DownLossIdeal.nD Cert.DownLossIdeal.τ).loc Cert.DownLossIdeal.main_v0_0)) (v1 : (c : Dev Cert.DownLossIdeal.nD) → Buf (Elt Ideal) ((c.tc : Thread Cert.DownLossIdeal.nD Cert.DownLossIdeal.τ).loc Cert.DownLossIdeal.main_v0_1)) (v2 : (c : Dev Cert.DownLossIdeal.nD) → Buf (Elt Ideal) ((c.tc : Thread Cert.DownLossIdeal.nD Cert.DownLossIdeal.τ).loc Cert.DownLossIdeal.main_v0_2)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v0_0) = v0 c
          ∧ r.2.mem ((c.tc : Thread Cert.DownLossIdeal.nD Cert.DownLossIdeal.τ).loc Cert.DownLossIdeal.main_v0_1) = v1 c
          ∧ r.2.mem ((c.tc : Thread Cert.DownLossIdeal.nD Cert.DownLossIdeal.τ).loc Cert.DownLossIdeal.main_v0_2) = v2 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3))
      ∧ θ_run (Cert.LossGradIdeal.defs (F := Ideal)) (onTc (τ := Cert.LossGradIdeal.τ) (Cert.LossGradIdeal.main (F := Ideal))) ⟨m', fun _ => 0, g'⟩ (fun r => ∀ c : Dev Cert.LossGradIdeal.nD,
          r.2.mem ((c.tc : Thread Cert.LossGradIdeal.nD Cert.LossGradIdeal.τ).loc Cert.LossGradIdeal.main_v18) = v0 c
          ∧ r.2.mem ((c.tc : Thread Cert.LossGradIdeal.nD Cert.LossGradIdeal.τ).loc Cert.LossGradIdeal.main_v19) = v1 c
          ∧ r.2.mem ((c.tc : Thread Cert.LossGradIdeal.nD Cert.LossGradIdeal.τ).loc Cert.LossGradIdeal.main_v21) = v2 c
          ∧ r.2.mem ((c.tc : Thread Cert.LossGradIdeal.nD Cert.LossGradIdeal.τ).loc Cert.LossGradIdeal.main_arg0) = m' ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m' ((c.tc : Thread Cert.LossGradIdeal.nD Cert.LossGradIdeal.τ).loc Cert.LossGradIdeal.main_arg1)
          ∧ r.2.mem ((c.tc : Thread Cert.LossGradIdeal.nD Cert.LossGradIdeal.τ).loc Cert.LossGradIdeal.main_arg2) = m' ((c.tc : Thread Cert.LossGradIdeal.nD Cert.LossGradIdeal.τ).loc Cert.LossGradIdeal.main_arg2)
          ∧ r.2.mem ((c.tc : Thread Cert.LossGradIdeal.nD Cert.LossGradIdeal.τ).loc Cert.LossGradIdeal.main_arg3) = m' ((c.tc : Thread Cert.LossGradIdeal.nD Cert.LossGradIdeal.τ).loc Cert.LossGradIdeal.main_arg3))

def preserves_DwSquare_DwSquareIdeal : Prop :=
  True

def algebraic_DwSquareIdeal_SquareWeightGradIdeal [hDwSquareIdeal : Cert.DwSquareIdeal.Facts] [hSquareWeightGradIdeal : Cert.SquareWeightGradIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg)
    (m' : (ℓ : Loc Cert.SquareWeightGradIdeal.nD Cert.SquareWeightGradIdeal.τ Cert.SquareWeightGradIdeal.sig) → Buf (Elt Ideal) ℓ) (g' : Dev Cert.SquareWeightGradIdeal.nD → PrngReg), Pre_DwSquareIdeal m →
    (∀ c : Dev Cert.DwSquareIdeal.nD,
      m' ((c.tc : Thread Cert.SquareWeightGradIdeal.nD Cert.SquareWeightGradIdeal.τ).loc Cert.SquareWeightGradIdeal.main_arg0) = m ((c.tc : Thread Cert.DwSquareIdeal.nD Cert.DwSquareIdeal.τ).loc Cert.DwSquareIdeal.main_arg0)
      ∧ m' ((c.tc : Thread Cert.SquareWeightGradIdeal.nD Cert.SquareWeightGradIdeal.τ).loc Cert.SquareWeightGradIdeal.main_arg1) = m ((c.tc : Thread Cert.DwSquareIdeal.nD Cert.DwSquareIdeal.τ).loc Cert.DwSquareIdeal.main_arg1)) →
    ∃ (v0 : (c : Dev Cert.DwSquareIdeal.nD) → Buf (Elt Ideal) ((c.tc : Thread Cert.DwSquareIdeal.nD Cert.DwSquareIdeal.τ).loc Cert.DwSquareIdeal.main_v0)),
      θ_run (Cert.DwSquareIdeal.defs (F := Ideal)) (onTc (τ := Cert.DwSquareIdeal.τ) (Cert.DwSquareIdeal.main (F := Ideal))) ⟨m, fun _ => 0, g⟩ (fun r => ∀ c : Dev Cert.DwSquareIdeal.nD,
          r.2.mem ((c.tc : Thread Cert.DwSquareIdeal.nD Cert.DwSquareIdeal.τ).loc Cert.DwSquareIdeal.main_v0) = v0 c
          ∧ r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
          ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ θ_run (Cert.SquareWeightGradIdeal.defs (F := Ideal)) (onTc (τ := Cert.SquareWeightGradIdeal.τ) (Cert.SquareWeightGradIdeal.main (F := Ideal))) ⟨m', fun _ => 0, g'⟩ (fun r => ∀ c : Dev Cert.SquareWeightGradIdeal.nD,
          r.2.mem ((c.tc : Thread Cert.SquareWeightGradIdeal.nD Cert.SquareWeightGradIdeal.τ).loc Cert.SquareWeightGradIdeal.main_v5) = v0 c
          ∧ r.2.mem ((c.tc : Thread Cert.SquareWeightGradIdeal.nD Cert.SquareWeightGradIdeal.τ).loc Cert.SquareWeightGradIdeal.main_arg0) = m' ((c.tc : Thread Cert.SquareWeightGradIdeal.nD Cert.SquareWeightGradIdeal.τ).loc Cert.SquareWeightGradIdeal.main_arg0)
          ∧ r.2.mem ((c.tc : Thread Cert.SquareWeightGradIdeal.nD Cert.SquareWeightGradIdeal.τ).loc Cert.SquareWeightGradIdeal.main_arg1) = m' ((c.tc : Thread Cert.SquareWeightGradIdeal.nD Cert.SquareWeightGradIdeal.τ).loc Cert.SquareWeightGradIdeal.main_arg1))

def preserves_MemoProj_MemoProjIdeal : Prop :=
  True

def algebraic_MemoProjIdeal_MemoryOutIdeal [hMemoProjIdeal : Cert.MemoProjIdeal.Facts] [hMemoryOutIdeal : Cert.MemoryOutIdeal.Facts] : Prop :=
  ∀ (m : (ℓ : Loc Cert.MemoProjIdeal.nD Cert.MemoProjIdeal.τ Cert.MemoProjIdeal.sig) → Buf (Elt Ideal) ℓ) (g : Dev Cert.MemoProjIdeal.nD → PrngReg)
    (m' : (ℓ : Loc Cert.MemoryOutIdeal.nD Cert.MemoryOutIdeal.τ Cert.MemoryOutIdeal.sig) → Buf (Elt Ideal) ℓ) (g' : Dev Cert.MemoryOutIdeal.nD → PrngReg), Pre_MemoProjIdeal m →
    (∀ c : Dev Cert.MemoProjIdeal.nD,
      m' ((c.tc : Thread Cert.MemoryOutIdeal.nD Cert.MemoryOutIdeal.τ).loc Cert.MemoryOutIdeal.main_arg0) = m ((c.tc : Thread Cert.MemoProjIdeal.nD Cert.MemoProjIdeal.τ).loc Cert.MemoProjIdeal.main_arg0)
      ∧ m' ((c.tc : Thread Cert.MemoryOutIdeal.nD Cert.MemoryOutIdeal.τ).loc Cert.MemoryOutIdeal.main_arg1) = m ((c.tc : Thread Cert.MemoProjIdeal.nD Cert.MemoProjIdeal.τ).loc Cert.MemoProjIdeal.main_arg1)
      ∧ m' ((c.tc : Thread Cert.MemoryOutIdeal.nD Cert.MemoryOutIdeal.τ).loc Cert.MemoryOutIdeal.main_arg2) = m ((c.tc : Thread Cert.MemoProjIdeal.nD Cert.MemoProjIdeal.τ).loc Cert.MemoProjIdeal.main_arg2)) →
    ∃ (v0 : (c : Dev Cert.MemoProjIdeal.nD) → Buf (Elt Ideal) ((c.tc : Thread Cert.MemoProjIdeal.nD Cert.MemoProjIdeal.τ).loc Cert.MemoProjIdeal.main_v0)),
      θ_run (Cert.MemoProjIdeal.defs (F := Ideal)) (onTc (τ := Cert.MemoProjIdeal.τ) (Cert.MemoProjIdeal.main (F := Ideal))) ⟨m, fun _ => 0, g⟩ (fun r => ∀ c : Dev Cert.MemoProjIdeal.nD,
          r.2.mem ((c.tc : Thread Cert.MemoProjIdeal.nD Cert.MemoProjIdeal.τ).loc Cert.MemoProjIdeal.main_v0) = v0 c
          ∧ r.2.mem ((c.tc : Thread Cert.MemoProjIdeal.nD Cert.MemoProjIdeal.τ).loc Cert.MemoProjIdeal.main_arg0) = m ((c.tc : Thread Cert.MemoProjIdeal.nD Cert.MemoProjIdeal.τ).loc Cert.MemoProjIdeal.main_arg0)
          ∧ r.2.mem ((c.tc : Thread Cert.MemoProjIdeal.nD Cert.MemoProjIdeal.τ).loc Cert.MemoProjIdeal.main_arg1) = m ((c.tc : Thread Cert.MemoProjIdeal.nD Cert.MemoProjIdeal.τ).loc Cert.MemoProjIdeal.main_arg1)
          ∧ r.2.mem ((c.tc : Thread Cert.MemoProjIdeal.nD Cert.MemoProjIdeal.τ).loc Cert.MemoProjIdeal.main_arg2) = m ((c.tc : Thread Cert.MemoProjIdeal.nD Cert.MemoProjIdeal.τ).loc Cert.MemoProjIdeal.main_arg2))
      ∧ θ_run (Cert.MemoryOutIdeal.defs (F := Ideal)) (onTc (τ := Cert.MemoryOutIdeal.τ) (Cert.MemoryOutIdeal.main (F := Ideal))) ⟨m', fun _ => 0, g'⟩ (fun r => ∀ c : Dev Cert.MemoryOutIdeal.nD,
          r.2.mem ((c.tc : Thread Cert.MemoryOutIdeal.nD Cert.MemoryOutIdeal.τ).loc Cert.MemoryOutIdeal.main_v3) = v0 c
          ∧ r.2.mem ((c.tc : Thread Cert.MemoryOutIdeal.nD Cert.MemoryOutIdeal.τ).loc Cert.MemoryOutIdeal.main_arg0) = m' ((c.tc : Thread Cert.MemoryOutIdeal.nD Cert.MemoryOutIdeal.τ).loc Cert.MemoryOutIdeal.main_arg0)
          ∧ r.2.mem ((c.tc : Thread Cert.MemoryOutIdeal.nD Cert.MemoryOutIdeal.τ).loc Cert.MemoryOutIdeal.main_arg1) = m' ((c.tc : Thread Cert.MemoryOutIdeal.nD Cert.MemoryOutIdeal.τ).loc Cert.MemoryOutIdeal.main_arg1)
          ∧ r.2.mem ((c.tc : Thread Cert.MemoryOutIdeal.nD Cert.MemoryOutIdeal.τ).loc Cert.MemoryOutIdeal.main_arg2) = m' ((c.tc : Thread Cert.MemoryOutIdeal.nD Cert.MemoryOutIdeal.τ).loc Cert.MemoryOutIdeal.main_arg2))

def preserves_MemoBwd_MemoBwdIdeal : Prop :=
  True

def algebraic_MemoBwdIdeal_MemoryOutGradIdeal [hMemoBwdIdeal : Cert.MemoBwdIdeal.Facts] [hMemoryOutGradIdeal : Cert.MemoryOutGradIdeal.Facts] : Prop :=
  ∀ (m : (ℓ : Loc Cert.MemoBwdIdeal.nD Cert.MemoBwdIdeal.τ Cert.MemoBwdIdeal.sig) → Buf (Elt Ideal) ℓ) (g : Dev Cert.MemoBwdIdeal.nD → PrngReg)
    (m' : (ℓ : Loc Cert.MemoryOutGradIdeal.nD Cert.MemoryOutGradIdeal.τ Cert.MemoryOutGradIdeal.sig) → Buf (Elt Ideal) ℓ) (g' : Dev Cert.MemoryOutGradIdeal.nD → PrngReg), Pre_MemoBwdIdeal m →
    (∀ c : Dev Cert.MemoBwdIdeal.nD,
      m' ((c.tc : Thread Cert.MemoryOutGradIdeal.nD Cert.MemoryOutGradIdeal.τ).loc Cert.MemoryOutGradIdeal.main_arg0) = m ((c.tc : Thread Cert.MemoBwdIdeal.nD Cert.MemoBwdIdeal.τ).loc Cert.MemoBwdIdeal.main_arg0)
      ∧ m' ((c.tc : Thread Cert.MemoryOutGradIdeal.nD Cert.MemoryOutGradIdeal.τ).loc Cert.MemoryOutGradIdeal.main_arg1) = m ((c.tc : Thread Cert.MemoBwdIdeal.nD Cert.MemoBwdIdeal.τ).loc Cert.MemoBwdIdeal.main_arg1)) →
    ∃ (v0 : (c : Dev Cert.MemoBwdIdeal.nD) → Buf (Elt Ideal) ((c.tc : Thread Cert.MemoBwdIdeal.nD Cert.MemoBwdIdeal.τ).loc Cert.MemoBwdIdeal.main_v0)),
      θ_run (Cert.MemoBwdIdeal.defs (F := Ideal)) (onTc (τ := Cert.MemoBwdIdeal.τ) (Cert.MemoBwdIdeal.main (F := Ideal))) ⟨m, fun _ => 0, g⟩ (fun r => ∀ c : Dev Cert.MemoBwdIdeal.nD,
          r.2.mem ((c.tc : Thread Cert.MemoBwdIdeal.nD Cert.MemoBwdIdeal.τ).loc Cert.MemoBwdIdeal.main_v0) = v0 c
          ∧ r.2.mem ((c.tc : Thread Cert.MemoBwdIdeal.nD Cert.MemoBwdIdeal.τ).loc Cert.MemoBwdIdeal.main_arg0) = m ((c.tc : Thread Cert.MemoBwdIdeal.nD Cert.MemoBwdIdeal.τ).loc Cert.MemoBwdIdeal.main_arg0)
          ∧ r.2.mem ((c.tc : Thread Cert.MemoBwdIdeal.nD Cert.MemoBwdIdeal.τ).loc Cert.MemoBwdIdeal.main_arg1) = m ((c.tc : Thread Cert.MemoBwdIdeal.nD Cert.MemoBwdIdeal.τ).loc Cert.MemoBwdIdeal.main_arg1))
      ∧ θ_run (Cert.MemoryOutGradIdeal.defs (F := Ideal)) (onTc (τ := Cert.MemoryOutGradIdeal.τ) (Cert.MemoryOutGradIdeal.main (F := Ideal))) ⟨m', fun _ => 0, g'⟩ (fun r => ∀ c : Dev Cert.MemoryOutGradIdeal.nD,
          r.2.mem ((c.tc : Thread Cert.MemoryOutGradIdeal.nD Cert.MemoryOutGradIdeal.τ).loc Cert.MemoryOutGradIdeal.main_v5) = v0 c
          ∧ r.2.mem ((c.tc : Thread Cert.MemoryOutGradIdeal.nD Cert.MemoryOutGradIdeal.τ).loc Cert.MemoryOutGradIdeal.main_arg0) = m' ((c.tc : Thread Cert.MemoryOutGradIdeal.nD Cert.MemoryOutGradIdeal.τ).loc Cert.MemoryOutGradIdeal.main_arg0)
          ∧ r.2.mem ((c.tc : Thread Cert.MemoryOutGradIdeal.nD Cert.MemoryOutGradIdeal.τ).loc Cert.MemoryOutGradIdeal.main_arg1) = m' ((c.tc : Thread Cert.MemoryOutGradIdeal.nD Cert.MemoryOutGradIdeal.τ).loc Cert.MemoryOutGradIdeal.main_arg1))

def preserves_MemqBwd_MemqBwdIdeal : Prop :=
  True

def algebraic_MemqBwdIdeal_MemoryQueryGradIdeal [hMemqBwdIdeal : Cert.MemqBwdIdeal.Facts] [hMemoryQueryGradIdeal : Cert.MemoryQueryGradIdeal.Facts] : Prop :=
  ∀ (m : (ℓ : Loc Cert.MemqBwdIdeal.nD Cert.MemqBwdIdeal.τ Cert.MemqBwdIdeal.sig) → Buf (Elt Ideal) ℓ) (g : Dev Cert.MemqBwdIdeal.nD → PrngReg)
    (m' : (ℓ : Loc Cert.MemoryQueryGradIdeal.nD Cert.MemoryQueryGradIdeal.τ Cert.MemoryQueryGradIdeal.sig) → Buf (Elt Ideal) ℓ) (g' : Dev Cert.MemoryQueryGradIdeal.nD → PrngReg), Pre_MemqBwdIdeal m →
    (∀ c : Dev Cert.MemqBwdIdeal.nD,
      m' ((c.tc : Thread Cert.MemoryQueryGradIdeal.nD Cert.MemoryQueryGradIdeal.τ).loc Cert.MemoryQueryGradIdeal.main_arg0) = m ((c.tc : Thread Cert.MemqBwdIdeal.nD Cert.MemqBwdIdeal.τ).loc Cert.MemqBwdIdeal.main_arg0)
      ∧ m' ((c.tc : Thread Cert.MemoryQueryGradIdeal.nD Cert.MemoryQueryGradIdeal.τ).loc Cert.MemoryQueryGradIdeal.main_arg1) = m ((c.tc : Thread Cert.MemqBwdIdeal.nD Cert.MemqBwdIdeal.τ).loc Cert.MemqBwdIdeal.main_arg1)
      ∧ m' ((c.tc : Thread Cert.MemoryQueryGradIdeal.nD Cert.MemoryQueryGradIdeal.τ).loc Cert.MemoryQueryGradIdeal.main_arg2) = m ((c.tc : Thread Cert.MemqBwdIdeal.nD Cert.MemqBwdIdeal.τ).loc Cert.MemqBwdIdeal.main_arg2)
      ∧ m' ((c.tc : Thread Cert.MemoryQueryGradIdeal.nD Cert.MemoryQueryGradIdeal.τ).loc Cert.MemoryQueryGradIdeal.main_arg3) = m ((c.tc : Thread Cert.MemqBwdIdeal.nD Cert.MemqBwdIdeal.τ).loc Cert.MemqBwdIdeal.main_arg3)
      ∧ m' ((c.tc : Thread Cert.MemoryQueryGradIdeal.nD Cert.MemoryQueryGradIdeal.τ).loc Cert.MemoryQueryGradIdeal.main_arg4) = m ((c.tc : Thread Cert.MemqBwdIdeal.nD Cert.MemqBwdIdeal.τ).loc Cert.MemqBwdIdeal.main_arg4)) →
    ∃ (v0 : (c : Dev Cert.MemqBwdIdeal.nD) → Buf (Elt Ideal) ((c.tc : Thread Cert.MemqBwdIdeal.nD Cert.MemqBwdIdeal.τ).loc Cert.MemqBwdIdeal.main_v0_0)) (v1 : (c : Dev Cert.MemqBwdIdeal.nD) → Buf (Elt Ideal) ((c.tc : Thread Cert.MemqBwdIdeal.nD Cert.MemqBwdIdeal.τ).loc Cert.MemqBwdIdeal.main_v0_1)) (v2 : (c : Dev Cert.MemqBwdIdeal.nD) → Buf (Elt Ideal) ((c.tc : Thread Cert.MemqBwdIdeal.nD Cert.MemqBwdIdeal.τ).loc Cert.MemqBwdIdeal.main_v0_2)),
      θ_run (Cert.MemqBwdIdeal.defs (F := Ideal)) (onTc (τ := Cert.MemqBwdIdeal.τ) (Cert.MemqBwdIdeal.main (F := Ideal))) ⟨m, fun _ => 0, g⟩ (fun r => ∀ c : Dev Cert.MemqBwdIdeal.nD,
          r.2.mem ((c.tc : Thread Cert.MemqBwdIdeal.nD Cert.MemqBwdIdeal.τ).loc Cert.MemqBwdIdeal.main_v0_0) = v0 c
          ∧ r.2.mem ((c.tc : Thread Cert.MemqBwdIdeal.nD Cert.MemqBwdIdeal.τ).loc Cert.MemqBwdIdeal.main_v0_1) = v1 c
          ∧ r.2.mem ((c.tc : Thread Cert.MemqBwdIdeal.nD Cert.MemqBwdIdeal.τ).loc Cert.MemqBwdIdeal.main_v0_2) = v2 c
          ∧ r.2.mem ((c.tc : Thread Cert.MemqBwdIdeal.nD Cert.MemqBwdIdeal.τ).loc Cert.MemqBwdIdeal.main_arg0) = m ((c.tc : Thread Cert.MemqBwdIdeal.nD Cert.MemqBwdIdeal.τ).loc Cert.MemqBwdIdeal.main_arg0)
          ∧ r.2.mem ((c.tc : Thread Cert.MemqBwdIdeal.nD Cert.MemqBwdIdeal.τ).loc Cert.MemqBwdIdeal.main_arg1) = m ((c.tc : Thread Cert.MemqBwdIdeal.nD Cert.MemqBwdIdeal.τ).loc Cert.MemqBwdIdeal.main_arg1)
          ∧ r.2.mem ((c.tc : Thread Cert.MemqBwdIdeal.nD Cert.MemqBwdIdeal.τ).loc Cert.MemqBwdIdeal.main_arg2) = m ((c.tc : Thread Cert.MemqBwdIdeal.nD Cert.MemqBwdIdeal.τ).loc Cert.MemqBwdIdeal.main_arg2)
          ∧ r.2.mem ((c.tc : Thread Cert.MemqBwdIdeal.nD Cert.MemqBwdIdeal.τ).loc Cert.MemqBwdIdeal.main_arg3) = m ((c.tc : Thread Cert.MemqBwdIdeal.nD Cert.MemqBwdIdeal.τ).loc Cert.MemqBwdIdeal.main_arg3)
          ∧ r.2.mem ((c.tc : Thread Cert.MemqBwdIdeal.nD Cert.MemqBwdIdeal.τ).loc Cert.MemqBwdIdeal.main_arg4) = m ((c.tc : Thread Cert.MemqBwdIdeal.nD Cert.MemqBwdIdeal.τ).loc Cert.MemqBwdIdeal.main_arg4))
      ∧ θ_run (Cert.MemoryQueryGradIdeal.defs (F := Ideal)) (onTc (τ := Cert.MemoryQueryGradIdeal.τ) (Cert.MemoryQueryGradIdeal.main (F := Ideal))) ⟨m', fun _ => 0, g'⟩ (fun r => ∀ c : Dev Cert.MemoryQueryGradIdeal.nD,
          r.2.mem ((c.tc : Thread Cert.MemoryQueryGradIdeal.nD Cert.MemoryQueryGradIdeal.τ).loc Cert.MemoryQueryGradIdeal.main_v38) = v0 c
          ∧ r.2.mem ((c.tc : Thread Cert.MemoryQueryGradIdeal.nD Cert.MemoryQueryGradIdeal.τ).loc Cert.MemoryQueryGradIdeal.main_v39) = v1 c
          ∧ r.2.mem ((c.tc : Thread Cert.MemoryQueryGradIdeal.nD Cert.MemoryQueryGradIdeal.τ).loc Cert.MemoryQueryGradIdeal.main_v21) = v2 c
          ∧ r.2.mem ((c.tc : Thread Cert.MemoryQueryGradIdeal.nD Cert.MemoryQueryGradIdeal.τ).loc Cert.MemoryQueryGradIdeal.main_arg0) = m' ((c.tc : Thread Cert.MemoryQueryGradIdeal.nD Cert.MemoryQueryGradIdeal.τ).loc Cert.MemoryQueryGradIdeal.main_arg0)
          ∧ r.2.mem ((c.tc : Thread Cert.MemoryQueryGradIdeal.nD Cert.MemoryQueryGradIdeal.τ).loc Cert.MemoryQueryGradIdeal.main_arg1) = m' ((c.tc : Thread Cert.MemoryQueryGradIdeal.nD Cert.MemoryQueryGradIdeal.τ).loc Cert.MemoryQueryGradIdeal.main_arg1)
          ∧ r.2.mem ((c.tc : Thread Cert.MemoryQueryGradIdeal.nD Cert.MemoryQueryGradIdeal.τ).loc Cert.MemoryQueryGradIdeal.main_arg2) = m' ((c.tc : Thread Cert.MemoryQueryGradIdeal.nD Cert.MemoryQueryGradIdeal.τ).loc Cert.MemoryQueryGradIdeal.main_arg2)
          ∧ r.2.mem ((c.tc : Thread Cert.MemoryQueryGradIdeal.nD Cert.MemoryQueryGradIdeal.τ).loc Cert.MemoryQueryGradIdeal.main_arg3) = m' ((c.tc : Thread Cert.MemoryQueryGradIdeal.nD Cert.MemoryQueryGradIdeal.τ).loc Cert.MemoryQueryGradIdeal.main_arg3)
          ∧ r.2.mem ((c.tc : Thread Cert.MemoryQueryGradIdeal.nD Cert.MemoryQueryGradIdeal.τ).loc Cert.MemoryQueryGradIdeal.main_arg4) = m' ((c.tc : Thread Cert.MemoryQueryGradIdeal.nD Cert.MemoryQueryGradIdeal.τ).loc Cert.MemoryQueryGradIdeal.main_arg4))

def preserves_MemqProj_MemqProjIdeal : Prop :=
  True

def algebraic_MemqProjIdeal_MemoryQueryIdeal [hMemqProjIdeal : Cert.MemqProjIdeal.Facts] [hMemoryQueryIdeal : Cert.MemoryQueryIdeal.Facts] : Prop :=
  ∀ (m : (ℓ : Loc Cert.MemqProjIdeal.nD Cert.MemqProjIdeal.τ Cert.MemqProjIdeal.sig) → Buf (Elt Ideal) ℓ) (g : Dev Cert.MemqProjIdeal.nD → PrngReg)
    (m' : (ℓ : Loc Cert.MemoryQueryIdeal.nD Cert.MemoryQueryIdeal.τ Cert.MemoryQueryIdeal.sig) → Buf (Elt Ideal) ℓ) (g' : Dev Cert.MemoryQueryIdeal.nD → PrngReg), Pre_MemqProjIdeal m →
    (∀ c : Dev Cert.MemqProjIdeal.nD,
      m' ((c.tc : Thread Cert.MemoryQueryIdeal.nD Cert.MemoryQueryIdeal.τ).loc Cert.MemoryQueryIdeal.main_arg0) = m ((c.tc : Thread Cert.MemqProjIdeal.nD Cert.MemqProjIdeal.τ).loc Cert.MemqProjIdeal.main_arg0)
      ∧ m' ((c.tc : Thread Cert.MemoryQueryIdeal.nD Cert.MemoryQueryIdeal.τ).loc Cert.MemoryQueryIdeal.main_arg1) = m ((c.tc : Thread Cert.MemqProjIdeal.nD Cert.MemqProjIdeal.τ).loc Cert.MemqProjIdeal.main_arg1)
      ∧ m' ((c.tc : Thread Cert.MemoryQueryIdeal.nD Cert.MemoryQueryIdeal.τ).loc Cert.MemoryQueryIdeal.main_arg2) = m ((c.tc : Thread Cert.MemqProjIdeal.nD Cert.MemqProjIdeal.τ).loc Cert.MemqProjIdeal.main_arg2)) →
    ∃ (v0 : (c : Dev Cert.MemqProjIdeal.nD) → Buf (Elt Ideal) ((c.tc : Thread Cert.MemqProjIdeal.nD Cert.MemqProjIdeal.τ).loc Cert.MemqProjIdeal.main_v0_0)) (v1 : (c : Dev Cert.MemqProjIdeal.nD) → Buf (Elt Ideal) ((c.tc : Thread Cert.MemqProjIdeal.nD Cert.MemqProjIdeal.τ).loc Cert.MemqProjIdeal.main_v0_1)),
      θ_run (Cert.MemqProjIdeal.defs (F := Ideal)) (onTc (τ := Cert.MemqProjIdeal.τ) (Cert.MemqProjIdeal.main (F := Ideal))) ⟨m, fun _ => 0, g⟩ (fun r => ∀ c : Dev Cert.MemqProjIdeal.nD,
          r.2.mem ((c.tc : Thread Cert.MemqProjIdeal.nD Cert.MemqProjIdeal.τ).loc Cert.MemqProjIdeal.main_v0_0) = v0 c
          ∧ r.2.mem ((c.tc : Thread Cert.MemqProjIdeal.nD Cert.MemqProjIdeal.τ).loc Cert.MemqProjIdeal.main_v0_1) = v1 c
          ∧ r.2.mem ((c.tc : Thread Cert.MemqProjIdeal.nD Cert.MemqProjIdeal.τ).loc Cert.MemqProjIdeal.main_arg0) = m ((c.tc : Thread Cert.MemqProjIdeal.nD Cert.MemqProjIdeal.τ).loc Cert.MemqProjIdeal.main_arg0)
          ∧ r.2.mem ((c.tc : Thread Cert.MemqProjIdeal.nD Cert.MemqProjIdeal.τ).loc Cert.MemqProjIdeal.main_arg1) = m ((c.tc : Thread Cert.MemqProjIdeal.nD Cert.MemqProjIdeal.τ).loc Cert.MemqProjIdeal.main_arg1)
          ∧ r.2.mem ((c.tc : Thread Cert.MemqProjIdeal.nD Cert.MemqProjIdeal.τ).loc Cert.MemqProjIdeal.main_arg2) = m ((c.tc : Thread Cert.MemqProjIdeal.nD Cert.MemqProjIdeal.τ).loc Cert.MemqProjIdeal.main_arg2))
      ∧ θ_run (Cert.MemoryQueryIdeal.defs (F := Ideal)) (onTc (τ := Cert.MemoryQueryIdeal.τ) (Cert.MemoryQueryIdeal.main (F := Ideal))) ⟨m', fun _ => 0, g'⟩ (fun r => ∀ c : Dev Cert.MemoryQueryIdeal.nD,
          r.2.mem ((c.tc : Thread Cert.MemoryQueryIdeal.nD Cert.MemoryQueryIdeal.τ).loc Cert.MemoryQueryIdeal.main_v13) = v0 c
          ∧ r.2.mem ((c.tc : Thread Cert.MemoryQueryIdeal.nD Cert.MemoryQueryIdeal.τ).loc Cert.MemoryQueryIdeal.main_v14) = v1 c
          ∧ r.2.mem ((c.tc : Thread Cert.MemoryQueryIdeal.nD Cert.MemoryQueryIdeal.τ).loc Cert.MemoryQueryIdeal.main_arg0) = m' ((c.tc : Thread Cert.MemoryQueryIdeal.nD Cert.MemoryQueryIdeal.τ).loc Cert.MemoryQueryIdeal.main_arg0)
          ∧ r.2.mem ((c.tc : Thread Cert.MemoryQueryIdeal.nD Cert.MemoryQueryIdeal.τ).loc Cert.MemoryQueryIdeal.main_arg1) = m' ((c.tc : Thread Cert.MemoryQueryIdeal.nD Cert.MemoryQueryIdeal.τ).loc Cert.MemoryQueryIdeal.main_arg1)
          ∧ r.2.mem ((c.tc : Thread Cert.MemoryQueryIdeal.nD Cert.MemoryQueryIdeal.τ).loc Cert.MemoryQueryIdeal.main_arg2) = m' ((c.tc : Thread Cert.MemoryQueryIdeal.nD Cert.MemoryQueryIdeal.τ).loc Cert.MemoryQueryIdeal.main_arg2))

def preserves_UpProj_UpProjIdeal : Prop :=
  True

def algebraic_UpProjIdeal_UpProductIdeal [hUpProjIdeal : Cert.UpProjIdeal.Facts] [hUpProductIdeal : Cert.UpProductIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProductIdeal.nD Cert.UpProductIdeal.τ Cert.UpProductIdeal.sig) → Buf (Elt Ideal) ℓ) (g' : Dev Cert.UpProductIdeal.nD → PrngReg), Pre_UpProjIdeal m →
    (∀ c : Dev Cert.UpProjIdeal.nD,
      m' ((c.tc : Thread Cert.UpProductIdeal.nD Cert.UpProductIdeal.τ).loc Cert.UpProductIdeal.main_arg0) = m ((c.tc : Thread Cert.UpProjIdeal.nD Cert.UpProjIdeal.τ).loc Cert.UpProjIdeal.main_arg0)
      ∧ m' ((c.tc : Thread Cert.UpProductIdeal.nD Cert.UpProductIdeal.τ).loc Cert.UpProductIdeal.main_arg1) = m ((c.tc : Thread Cert.UpProjIdeal.nD Cert.UpProjIdeal.τ).loc Cert.UpProjIdeal.main_arg1)
      ∧ m' ((c.tc : Thread Cert.UpProductIdeal.nD Cert.UpProductIdeal.τ).loc Cert.UpProductIdeal.main_arg2) = m ((c.tc : Thread Cert.UpProjIdeal.nD Cert.UpProjIdeal.τ).loc Cert.UpProjIdeal.main_arg2)) →
    ∃ (v0 : (c : Dev Cert.UpProjIdeal.nD) → Buf (Elt Ideal) ((c.tc : Thread Cert.UpProjIdeal.nD Cert.UpProjIdeal.τ).loc Cert.UpProjIdeal.main_v0_0)) (v1 : (c : Dev Cert.UpProjIdeal.nD) → Buf (Elt Ideal) ((c.tc : Thread Cert.UpProjIdeal.nD Cert.UpProjIdeal.τ).loc Cert.UpProjIdeal.main_v0_1)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v0_0) = v0 c
          ∧ r.2.mem ((c.tc : Thread Cert.UpProjIdeal.nD Cert.UpProjIdeal.τ).loc Cert.UpProjIdeal.main_v0_1) = v1 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
          ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2))
      ∧ θ_run (Cert.UpProductIdeal.defs (F := Ideal)) (onTc (τ := Cert.UpProductIdeal.τ) (Cert.UpProductIdeal.main (F := Ideal))) ⟨m', fun _ => 0, g'⟩ (fun r => ∀ c : Dev Cert.UpProductIdeal.nD,
          r.2.mem ((c.tc : Thread Cert.UpProductIdeal.nD Cert.UpProductIdeal.τ).loc Cert.UpProductIdeal.main_v13) = v0 c
          ∧ r.2.mem ((c.tc : Thread Cert.UpProductIdeal.nD Cert.UpProductIdeal.τ).loc Cert.UpProductIdeal.main_v14) = v1 c
          ∧ r.2.mem ((c.tc : Thread Cert.UpProductIdeal.nD Cert.UpProductIdeal.τ).loc Cert.UpProductIdeal.main_arg0) = m' ((c.tc : Thread Cert.UpProductIdeal.nD Cert.UpProductIdeal.τ).loc Cert.UpProductIdeal.main_arg0)
          ∧ r.2.mem ((c.tc : Thread Cert.UpProductIdeal.nD Cert.UpProductIdeal.τ).loc Cert.UpProductIdeal.main_arg1) = m' ((c.tc : Thread Cert.UpProductIdeal.nD Cert.UpProductIdeal.τ).loc Cert.UpProductIdeal.main_arg1)
          ∧ r.2.mem ((c.tc : Thread Cert.UpProductIdeal.nD Cert.UpProductIdeal.τ).loc Cert.UpProductIdeal.main_arg2) = m' ((c.tc : Thread Cert.UpProductIdeal.nD Cert.UpProductIdeal.τ).loc Cert.UpProductIdeal.main_arg2))

def preserves_InBwd_InBwdIdeal : Prop :=
  True

def algebraic_InBwdIdeal_InGradIdeal [hInBwdIdeal : Cert.InBwdIdeal.Facts] [hInGradIdeal : Cert.InGradIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InGradIdeal.nD Cert.InGradIdeal.τ Cert.InGradIdeal.sig) → Buf (Elt Ideal) ℓ) (g' : Dev Cert.InGradIdeal.nD → PrngReg), Pre_InBwdIdeal m →
    (∀ c : Dev Cert.InBwdIdeal.nD,
      m' ((c.tc : Thread Cert.InGradIdeal.nD Cert.InGradIdeal.τ).loc Cert.InGradIdeal.main_arg0) = m ((c.tc : Thread Cert.InBwdIdeal.nD Cert.InBwdIdeal.τ).loc Cert.InBwdIdeal.main_arg0)
      ∧ m' ((c.tc : Thread Cert.InGradIdeal.nD Cert.InGradIdeal.τ).loc Cert.InGradIdeal.main_arg1) = m ((c.tc : Thread Cert.InBwdIdeal.nD Cert.InBwdIdeal.τ).loc Cert.InBwdIdeal.main_arg1)
      ∧ m' ((c.tc : Thread Cert.InGradIdeal.nD Cert.InGradIdeal.τ).loc Cert.InGradIdeal.main_arg2) = m ((c.tc : Thread Cert.InBwdIdeal.nD Cert.InBwdIdeal.τ).loc Cert.InBwdIdeal.main_arg2)
      ∧ m' ((c.tc : Thread Cert.InGradIdeal.nD Cert.InGradIdeal.τ).loc Cert.InGradIdeal.main_arg3) = m ((c.tc : Thread Cert.InBwdIdeal.nD Cert.InBwdIdeal.τ).loc Cert.InBwdIdeal.main_arg3)
      ∧ m' ((c.tc : Thread Cert.InGradIdeal.nD Cert.InGradIdeal.τ).loc Cert.InGradIdeal.main_arg4) = m ((c.tc : Thread Cert.InBwdIdeal.nD Cert.InBwdIdeal.τ).loc Cert.InBwdIdeal.main_arg4)
      ∧ m' ((c.tc : Thread Cert.InGradIdeal.nD Cert.InGradIdeal.τ).loc Cert.InGradIdeal.main_arg5) = m ((c.tc : Thread Cert.InBwdIdeal.nD Cert.InBwdIdeal.τ).loc Cert.InBwdIdeal.main_arg5)
      ∧ m' ((c.tc : Thread Cert.InGradIdeal.nD Cert.InGradIdeal.τ).loc Cert.InGradIdeal.main_arg6) = m ((c.tc : Thread Cert.InBwdIdeal.nD Cert.InBwdIdeal.τ).loc Cert.InBwdIdeal.main_arg6)
      ∧ m' ((c.tc : Thread Cert.InGradIdeal.nD Cert.InGradIdeal.τ).loc Cert.InGradIdeal.main_arg7) = m ((c.tc : Thread Cert.InBwdIdeal.nD Cert.InBwdIdeal.τ).loc Cert.InBwdIdeal.main_arg7)) →
    ∃ (v0 : (c : Dev Cert.InBwdIdeal.nD) → Buf (Elt Ideal) ((c.tc : Thread Cert.InBwdIdeal.nD Cert.InBwdIdeal.τ).loc Cert.InBwdIdeal.main_v4_0)) (v1 : (c : Dev Cert.InBwdIdeal.nD) → Buf (Elt Ideal) ((c.tc : Thread Cert.InBwdIdeal.nD Cert.InBwdIdeal.τ).loc Cert.InBwdIdeal.main_v4_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v4_0) = v0 c
          ∧ r.2.mem ((c.tc : Thread Cert.InBwdIdeal.nD Cert.InBwdIdeal.τ).loc Cert.InBwdIdeal.main_v4_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7))
      ∧ θ_run (Cert.InGradIdeal.defs (F := Ideal)) (onTc (τ := Cert.InGradIdeal.τ) (Cert.InGradIdeal.main (F := Ideal))) ⟨m', fun _ => 0, g'⟩ (fun r => ∀ c : Dev Cert.InGradIdeal.nD,
          r.2.mem ((c.tc : Thread Cert.InGradIdeal.nD Cert.InGradIdeal.τ).loc Cert.InGradIdeal.main_v41) = v0 c
          ∧ r.2.mem ((c.tc : Thread Cert.InGradIdeal.nD Cert.InGradIdeal.τ).loc Cert.InGradIdeal.main_v24) = v1 c
          ∧ r.2.mem ((c.tc : Thread Cert.InGradIdeal.nD Cert.InGradIdeal.τ).loc Cert.InGradIdeal.main_arg0) = m' ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m' ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m' ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m' ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m' ((c.tc : Thread Cert.InGradIdeal.nD Cert.InGradIdeal.τ).loc Cert.InGradIdeal.main_arg4)
          ∧ r.2.mem ((c.tc : Thread Cert.InGradIdeal.nD Cert.InGradIdeal.τ).loc Cert.InGradIdeal.main_arg5) = m' ((c.tc : Thread Cert.InGradIdeal.nD Cert.InGradIdeal.τ).loc Cert.InGradIdeal.main_arg5)
          ∧ r.2.mem ((c.tc : Thread Cert.InGradIdeal.nD Cert.InGradIdeal.τ).loc Cert.InGradIdeal.main_arg6) = m' ((c.tc : Thread Cert.InGradIdeal.nD Cert.InGradIdeal.τ).loc Cert.InGradIdeal.main_arg6)
          ∧ r.2.mem ((c.tc : Thread Cert.InGradIdeal.nD Cert.InGradIdeal.τ).loc Cert.InGradIdeal.main_arg7) = m' ((c.tc : Thread Cert.InGradIdeal.nD Cert.InGradIdeal.τ).loc Cert.InGradIdeal.main_arg7))

def preserves_InProj_InProjIdeal : Prop :=
  True

def algebraic_InProjIdeal_InProductIdeal [hInProjIdeal : Cert.InProjIdeal.Facts] [hInProductIdeal : Cert.InProductIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProductIdeal.nD Cert.InProductIdeal.τ Cert.InProductIdeal.sig) → Buf (Elt Ideal) ℓ) (g' : Dev Cert.InProductIdeal.nD → PrngReg), Pre_InProjIdeal m →
    (∀ c : Dev Cert.InProjIdeal.nD,
      m' ((c.tc : Thread Cert.InProductIdeal.nD Cert.InProductIdeal.τ).loc Cert.InProductIdeal.main_arg0) = m ((c.tc : Thread Cert.InProjIdeal.nD Cert.InProjIdeal.τ).loc Cert.InProjIdeal.main_arg0)
      ∧ m' ((c.tc : Thread Cert.InProductIdeal.nD Cert.InProductIdeal.τ).loc Cert.InProductIdeal.main_arg1) = m ((c.tc : Thread Cert.InProjIdeal.nD Cert.InProjIdeal.τ).loc Cert.InProjIdeal.main_arg1)
      ∧ m' ((c.tc : Thread Cert.InProductIdeal.nD Cert.InProductIdeal.τ).loc Cert.InProductIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProductIdeal.defs (F := Ideal)) (onTc (τ := Cert.InProductIdeal.τ) (Cert.InProductIdeal.main (F := Ideal))) ⟨m', fun _ => 0, g'⟩ (fun r => ∀ c : Dev Cert.InProductIdeal.nD,
          r.2.mem ((c.tc : Thread Cert.InProductIdeal.nD Cert.InProductIdeal.τ).loc Cert.InProductIdeal.main_v13) = v0 c
          ∧ r.2.mem ((c.tc : Thread Cert.InProductIdeal.nD Cert.InProductIdeal.τ).loc Cert.InProductIdeal.main_v14) = v1 c
          ∧ r.2.mem ((c.tc : Thread Cert.InProductIdeal.nD Cert.InProductIdeal.τ).loc Cert.InProductIdeal.main_arg0) = m' ((c.tc : Thread Cert.InProductIdeal.nD Cert.InProductIdeal.τ).loc Cert.InProductIdeal.main_arg0)
          ∧ r.2.mem ((c.tc : Thread Cert.InProductIdeal.nD Cert.InProductIdeal.τ).loc Cert.InProductIdeal.main_arg1) = m' ((c.tc : Thread Cert.InProductIdeal.nD Cert.InProductIdeal.τ).loc Cert.InProductIdeal.main_arg1)
          ∧ r.2.mem ((c.tc : Thread Cert.InProductIdeal.nD Cert.InProductIdeal.τ).loc Cert.InProductIdeal.main_arg2) = m' ((c.tc : Thread Cert.InProductIdeal.nD Cert.InProductIdeal.τ).loc Cert.InProductIdeal.main_arg2))

def preserves_OutProj_OutProjIdeal : Prop :=
  True

def algebraic_OutProjIdeal_MixOutIdeal [hOutProjIdeal : Cert.OutProjIdeal.Facts] [hMixOutIdeal : Cert.MixOutIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.MixOutIdeal.nD Cert.MixOutIdeal.τ Cert.MixOutIdeal.sig) → Buf (Elt Ideal) ℓ) (g' : Dev Cert.MixOutIdeal.nD → PrngReg), Pre_OutProjIdeal m →
    (∀ c : Dev Cert.OutProjIdeal.nD,
      m' ((c.tc : Thread Cert.MixOutIdeal.nD Cert.MixOutIdeal.τ).loc Cert.MixOutIdeal.main_arg0) = m ((c.tc : Thread Cert.OutProjIdeal.nD Cert.OutProjIdeal.τ).loc Cert.OutProjIdeal.main_arg0)
      ∧ m' ((c.tc : Thread Cert.MixOutIdeal.nD Cert.MixOutIdeal.τ).loc Cert.MixOutIdeal.main_arg1) = m ((c.tc : Thread Cert.OutProjIdeal.nD Cert.OutProjIdeal.τ).loc Cert.OutProjIdeal.main_arg1)
      ∧ m' ((c.tc : Thread Cert.MixOutIdeal.nD Cert.MixOutIdeal.τ).loc Cert.MixOutIdeal.main_arg2) = m ((c.tc : Thread Cert.OutProjIdeal.nD Cert.OutProjIdeal.τ).loc Cert.OutProjIdeal.main_arg2)
      ∧ m' ((c.tc : Thread Cert.MixOutIdeal.nD Cert.MixOutIdeal.τ).loc Cert.MixOutIdeal.main_arg3) = m ((c.tc : Thread Cert.OutProjIdeal.nD Cert.OutProjIdeal.τ).loc Cert.OutProjIdeal.main_arg3)
      ∧ m' ((c.tc : Thread Cert.MixOutIdeal.nD Cert.MixOutIdeal.τ).loc Cert.MixOutIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.MixOutIdeal.defs (F := Ideal)) (onTc (τ := Cert.MixOutIdeal.τ) (Cert.MixOutIdeal.main (F := Ideal))) ⟨m', fun _ => 0, g'⟩ (fun r => ∀ c : Dev Cert.MixOutIdeal.nD,
          r.2.mem ((c.tc : Thread Cert.MixOutIdeal.nD Cert.MixOutIdeal.τ).loc Cert.MixOutIdeal.main_v7) = v0 c
          ∧ r.2.mem ((c.tc : Thread Cert.MixOutIdeal.nD Cert.MixOutIdeal.τ).loc Cert.MixOutIdeal.main_arg0) = m' ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m' ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m' ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m' ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m' ((c.tc : Thread Cert.MixOutIdeal.nD Cert.MixOutIdeal.τ).loc Cert.MixOutIdeal.main_arg4))

def preserves_AdamIn_AdamInIdeal : Prop :=
  True

def algebraic_AdamInIdeal_AdamInStepIdeal [hAdamInIdeal : Cert.AdamInIdeal.Facts] [hAdamInStepIdeal : Cert.AdamInStepIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInStepIdeal.nD Cert.AdamInStepIdeal.τ Cert.AdamInStepIdeal.sig) → Buf (Elt Ideal) ℓ) (g' : Dev Cert.AdamInStepIdeal.nD → PrngReg), Pre_AdamInIdeal m →
    (∀ c : Dev Cert.AdamInIdeal.nD,
      m' ((c.tc : Thread Cert.AdamInStepIdeal.nD Cert.AdamInStepIdeal.τ).loc Cert.AdamInStepIdeal.main_arg0) = m ((c.tc : Thread Cert.AdamInIdeal.nD Cert.AdamInIdeal.τ).loc Cert.AdamInIdeal.main_arg0)
      ∧ m' ((c.tc : Thread Cert.AdamInStepIdeal.nD Cert.AdamInStepIdeal.τ).loc Cert.AdamInStepIdeal.main_arg1) = m ((c.tc : Thread Cert.AdamInIdeal.nD Cert.AdamInIdeal.τ).loc Cert.AdamInIdeal.main_arg1)
      ∧ m' ((c.tc : Thread Cert.AdamInStepIdeal.nD Cert.AdamInStepIdeal.τ).loc Cert.AdamInStepIdeal.main_arg2) = m ((c.tc : Thread Cert.AdamInIdeal.nD Cert.AdamInIdeal.τ).loc Cert.AdamInIdeal.main_arg2)
      ∧ m' ((c.tc : Thread Cert.AdamInStepIdeal.nD Cert.AdamInStepIdeal.τ).loc Cert.AdamInStepIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInStepIdeal.defs (F := Ideal)) (onTc (τ := Cert.AdamInStepIdeal.τ) (Cert.AdamInStepIdeal.main (F := Ideal))) ⟨m', fun _ => 0, g'⟩ (fun r => ∀ c : Dev Cert.AdamInStepIdeal.nD,
          r.2.mem ((c.tc : Thread Cert.AdamInStepIdeal.nD Cert.AdamInStepIdeal.τ).loc Cert.AdamInStepIdeal.main_v23) = v0 c
          ∧ r.2.mem ((c.tc : Thread Cert.AdamInStepIdeal.nD Cert.AdamInStepIdeal.τ).loc Cert.AdamInStepIdeal.main_v4) = v1 c
          ∧ r.2.mem ((c.tc : Thread Cert.AdamInStepIdeal.nD Cert.AdamInStepIdeal.τ).loc Cert.AdamInStepIdeal.main_v10) = v2 c
          ∧ r.2.mem ((c.tc : Thread Cert.AdamInStepIdeal.nD Cert.AdamInStepIdeal.τ).loc Cert.AdamInStepIdeal.main_arg0) = m' ((c.tc : Thread Cert.AdamInStepIdeal.nD Cert.AdamInStepIdeal.τ).loc Cert.AdamInStepIdeal.main_arg0)
          ∧ r.2.mem ((c.tc : Thread Cert.AdamInStepIdeal.nD Cert.AdamInStepIdeal.τ).loc Cert.AdamInStepIdeal.main_arg1) = m' ((c.tc : Thread Cert.AdamInStepIdeal.nD Cert.AdamInStepIdeal.τ).loc Cert.AdamInStepIdeal.main_arg1)
          ∧ r.2.mem ((c.tc : Thread Cert.AdamInStepIdeal.nD Cert.AdamInStepIdeal.τ).loc Cert.AdamInStepIdeal.main_arg2) = m' ((c.tc : Thread Cert.AdamInStepIdeal.nD Cert.AdamInStepIdeal.τ).loc Cert.AdamInStepIdeal.main_arg2)
          ∧ r.2.mem ((c.tc : Thread Cert.AdamInStepIdeal.nD Cert.AdamInStepIdeal.τ).loc Cert.AdamInStepIdeal.main_arg3) = m' ((c.tc : Thread Cert.AdamInStepIdeal.nD Cert.AdamInStepIdeal.τ).loc Cert.AdamInStepIdeal.main_arg3))

def preserves_AdamUq_AdamUqIdeal : Prop :=
  True

def algebraic_AdamUqIdeal_AdamUqStepIdeal [hAdamUqIdeal : Cert.AdamUqIdeal.Facts] [hAdamUqStepIdeal : Cert.AdamUqStepIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg)
    (m' : (ℓ : Loc Cert.AdamUqStepIdeal.nD Cert.AdamUqStepIdeal.τ Cert.AdamUqStepIdeal.sig) → Buf (Elt Ideal) ℓ) (g' : Dev Cert.AdamUqStepIdeal.nD → PrngReg), Pre_AdamUqIdeal m →
    (∀ c : Dev Cert.AdamUqIdeal.nD,
      m' ((c.tc : Thread Cert.AdamUqStepIdeal.nD Cert.AdamUqStepIdeal.τ).loc Cert.AdamUqStepIdeal.main_arg0) = m ((c.tc : Thread Cert.AdamUqIdeal.nD Cert.AdamUqIdeal.τ).loc Cert.AdamUqIdeal.main_arg0)
      ∧ m' ((c.tc : Thread Cert.AdamUqStepIdeal.nD Cert.AdamUqStepIdeal.τ).loc Cert.AdamUqStepIdeal.main_arg1) = m ((c.tc : Thread Cert.AdamUqIdeal.nD Cert.AdamUqIdeal.τ).loc Cert.AdamUqIdeal.main_arg1)
      ∧ m' ((c.tc : Thread Cert.AdamUqStepIdeal.nD Cert.AdamUqStepIdeal.τ).loc Cert.AdamUqStepIdeal.main_arg2) = m ((c.tc : Thread Cert.AdamUqIdeal.nD Cert.AdamUqIdeal.τ).loc Cert.AdamUqIdeal.main_arg2)
      ∧ m' ((c.tc : Thread Cert.AdamUqStepIdeal.nD Cert.AdamUqStepIdeal.τ).loc Cert.AdamUqStepIdeal.main_arg3) = m ((c.tc : Thread Cert.AdamUqIdeal.nD Cert.AdamUqIdeal.τ).loc Cert.AdamUqIdeal.main_arg3)) →
    ∃ (v0 : (c : Dev Cert.AdamUqIdeal.nD) → Buf (Elt Ideal) ((c.tc : Thread Cert.AdamUqIdeal.nD Cert.AdamUqIdeal.τ).loc Cert.AdamUqIdeal.main_v0_0)) (v1 : (c : Dev Cert.AdamUqIdeal.nD) → Buf (Elt Ideal) ((c.tc : Thread Cert.AdamUqIdeal.nD Cert.AdamUqIdeal.τ).loc Cert.AdamUqIdeal.main_v0_1)) (v2 : (c : Dev Cert.AdamUqIdeal.nD) → Buf (Elt Ideal) ((c.tc : Thread Cert.AdamUqIdeal.nD Cert.AdamUqIdeal.τ).loc Cert.AdamUqIdeal.main_v0_2)),
      θ_run (Cert.AdamUqIdeal.defs (F := Ideal)) (onTc (τ := Cert.AdamUqIdeal.τ) (Cert.AdamUqIdeal.main (F := Ideal))) ⟨m, fun _ => 0, g⟩ (fun r => ∀ c : Dev Cert.AdamUqIdeal.nD,
          r.2.mem ((c.tc : Thread Cert.AdamUqIdeal.nD Cert.AdamUqIdeal.τ).loc Cert.AdamUqIdeal.main_v0_0) = v0 c
          ∧ r.2.mem ((c.tc : Thread Cert.AdamUqIdeal.nD Cert.AdamUqIdeal.τ).loc Cert.AdamUqIdeal.main_v0_1) = v1 c
          ∧ r.2.mem ((c.tc : Thread Cert.AdamUqIdeal.nD Cert.AdamUqIdeal.τ).loc Cert.AdamUqIdeal.main_v0_2) = v2 c
          ∧ r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
          ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
          ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
          ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3))
      ∧ θ_run (Cert.AdamUqStepIdeal.defs (F := Ideal)) (onTc (τ := Cert.AdamUqStepIdeal.τ) (Cert.AdamUqStepIdeal.main (F := Ideal))) ⟨m', fun _ => 0, g'⟩ (fun r => ∀ c : Dev Cert.AdamUqStepIdeal.nD,
          r.2.mem ((c.tc : Thread Cert.AdamUqStepIdeal.nD Cert.AdamUqStepIdeal.τ).loc Cert.AdamUqStepIdeal.main_v23) = v0 c
          ∧ r.2.mem ((c.tc : Thread Cert.AdamUqStepIdeal.nD Cert.AdamUqStepIdeal.τ).loc Cert.AdamUqStepIdeal.main_v4) = v1 c
          ∧ r.2.mem ((c.tc : Thread Cert.AdamUqStepIdeal.nD Cert.AdamUqStepIdeal.τ).loc Cert.AdamUqStepIdeal.main_v10) = v2 c
          ∧ r.2.mem ((c.tc : Thread Cert.AdamUqStepIdeal.nD Cert.AdamUqStepIdeal.τ).loc Cert.AdamUqStepIdeal.main_arg0) = m' ((c.tc : Thread Cert.AdamUqStepIdeal.nD Cert.AdamUqStepIdeal.τ).loc Cert.AdamUqStepIdeal.main_arg0)
          ∧ r.2.mem ((c.tc : Thread Cert.AdamUqStepIdeal.nD Cert.AdamUqStepIdeal.τ).loc Cert.AdamUqStepIdeal.main_arg1) = m' ((c.tc : Thread Cert.AdamUqStepIdeal.nD Cert.AdamUqStepIdeal.τ).loc Cert.AdamUqStepIdeal.main_arg1)
          ∧ r.2.mem ((c.tc : Thread Cert.AdamUqStepIdeal.nD Cert.AdamUqStepIdeal.τ).loc Cert.AdamUqStepIdeal.main_arg2) = m' ((c.tc : Thread Cert.AdamUqStepIdeal.nD Cert.AdamUqStepIdeal.τ).loc Cert.AdamUqStepIdeal.main_arg2)
          ∧ r.2.mem ((c.tc : Thread Cert.AdamUqStepIdeal.nD Cert.AdamUqStepIdeal.τ).loc Cert.AdamUqStepIdeal.main_arg3) = m' ((c.tc : Thread Cert.AdamUqStepIdeal.nD Cert.AdamUqStepIdeal.τ).loc Cert.AdamUqStepIdeal.main_arg3))

def preserves_AdamUkv_AdamUkvIdeal : Prop :=
  True

def algebraic_AdamUkvIdeal_AdamUkvStepIdeal [hAdamUkvIdeal : Cert.AdamUkvIdeal.Facts] [hAdamUkvStepIdeal : Cert.AdamUkvStepIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg)
    (m' : (ℓ : Loc Cert.AdamUkvStepIdeal.nD Cert.AdamUkvStepIdeal.τ Cert.AdamUkvStepIdeal.sig) → Buf (Elt Ideal) ℓ) (g' : Dev Cert.AdamUkvStepIdeal.nD → PrngReg), Pre_AdamUkvIdeal m →
    (∀ c : Dev Cert.AdamUkvIdeal.nD,
      m' ((c.tc : Thread Cert.AdamUkvStepIdeal.nD Cert.AdamUkvStepIdeal.τ).loc Cert.AdamUkvStepIdeal.main_arg0) = m ((c.tc : Thread Cert.AdamUkvIdeal.nD Cert.AdamUkvIdeal.τ).loc Cert.AdamUkvIdeal.main_arg0)
      ∧ m' ((c.tc : Thread Cert.AdamUkvStepIdeal.nD Cert.AdamUkvStepIdeal.τ).loc Cert.AdamUkvStepIdeal.main_arg1) = m ((c.tc : Thread Cert.AdamUkvIdeal.nD Cert.AdamUkvIdeal.τ).loc Cert.AdamUkvIdeal.main_arg1)
      ∧ m' ((c.tc : Thread Cert.AdamUkvStepIdeal.nD Cert.AdamUkvStepIdeal.τ).loc Cert.AdamUkvStepIdeal.main_arg2) = m ((c.tc : Thread Cert.AdamUkvIdeal.nD Cert.AdamUkvIdeal.τ).loc Cert.AdamUkvIdeal.main_arg2)
      ∧ m' ((c.tc : Thread Cert.AdamUkvStepIdeal.nD Cert.AdamUkvStepIdeal.τ).loc Cert.AdamUkvStepIdeal.main_arg3) = m ((c.tc : Thread Cert.AdamUkvIdeal.nD Cert.AdamUkvIdeal.τ).loc Cert.AdamUkvIdeal.main_arg3)) →
    ∃ (v0 : (c : Dev Cert.AdamUkvIdeal.nD) → Buf (Elt Ideal) ((c.tc : Thread Cert.AdamUkvIdeal.nD Cert.AdamUkvIdeal.τ).loc Cert.AdamUkvIdeal.main_v0_0)) (v1 : (c : Dev Cert.AdamUkvIdeal.nD) → Buf (Elt Ideal) ((c.tc : Thread Cert.AdamUkvIdeal.nD Cert.AdamUkvIdeal.τ).loc Cert.AdamUkvIdeal.main_v0_1)) (v2 : (c : Dev Cert.AdamUkvIdeal.nD) → Buf (Elt Ideal) ((c.tc : Thread Cert.AdamUkvIdeal.nD Cert.AdamUkvIdeal.τ).loc Cert.AdamUkvIdeal.main_v0_2)),
      θ_run (Cert.AdamUkvIdeal.defs (F := Ideal)) (onTc (τ := Cert.AdamUkvIdeal.τ) (Cert.AdamUkvIdeal.main (F := Ideal))) ⟨m, fun _ => 0, g⟩ (fun r => ∀ c : Dev Cert.AdamUkvIdeal.nD,
          r.2.mem ((c.tc : Thread Cert.AdamUkvIdeal.nD Cert.AdamUkvIdeal.τ).loc Cert.AdamUkvIdeal.main_v0_0) = v0 c
          ∧ r.2.mem ((c.tc : Thread Cert.AdamUkvIdeal.nD Cert.AdamUkvIdeal.τ).loc Cert.AdamUkvIdeal.main_v0_1) = v1 c
          ∧ r.2.mem ((c.tc : Thread Cert.AdamUkvIdeal.nD Cert.AdamUkvIdeal.τ).loc Cert.AdamUkvIdeal.main_v0_2) = v2 c
          ∧ r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
          ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
          ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
          ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3))
      ∧ θ_run (Cert.AdamUkvStepIdeal.defs (F := Ideal)) (onTc (τ := Cert.AdamUkvStepIdeal.τ) (Cert.AdamUkvStepIdeal.main (F := Ideal))) ⟨m', fun _ => 0, g'⟩ (fun r => ∀ c : Dev Cert.AdamUkvStepIdeal.nD,
          r.2.mem ((c.tc : Thread Cert.AdamUkvStepIdeal.nD Cert.AdamUkvStepIdeal.τ).loc Cert.AdamUkvStepIdeal.main_v23) = v0 c
          ∧ r.2.mem ((c.tc : Thread Cert.AdamUkvStepIdeal.nD Cert.AdamUkvStepIdeal.τ).loc Cert.AdamUkvStepIdeal.main_v4) = v1 c
          ∧ r.2.mem ((c.tc : Thread Cert.AdamUkvStepIdeal.nD Cert.AdamUkvStepIdeal.τ).loc Cert.AdamUkvStepIdeal.main_v10) = v2 c
          ∧ r.2.mem ((c.tc : Thread Cert.AdamUkvStepIdeal.nD Cert.AdamUkvStepIdeal.τ).loc Cert.AdamUkvStepIdeal.main_arg0) = m' ((c.tc : Thread Cert.AdamUkvStepIdeal.nD Cert.AdamUkvStepIdeal.τ).loc Cert.AdamUkvStepIdeal.main_arg0)
          ∧ r.2.mem ((c.tc : Thread Cert.AdamUkvStepIdeal.nD Cert.AdamUkvStepIdeal.τ).loc Cert.AdamUkvStepIdeal.main_arg1) = m' ((c.tc : Thread Cert.AdamUkvStepIdeal.nD Cert.AdamUkvStepIdeal.τ).loc Cert.AdamUkvStepIdeal.main_arg1)
          ∧ r.2.mem ((c.tc : Thread Cert.AdamUkvStepIdeal.nD Cert.AdamUkvStepIdeal.τ).loc Cert.AdamUkvStepIdeal.main_arg2) = m' ((c.tc : Thread Cert.AdamUkvStepIdeal.nD Cert.AdamUkvStepIdeal.τ).loc Cert.AdamUkvStepIdeal.main_arg2)
          ∧ r.2.mem ((c.tc : Thread Cert.AdamUkvStepIdeal.nD Cert.AdamUkvStepIdeal.τ).loc Cert.AdamUkvStepIdeal.main_arg3) = m' ((c.tc : Thread Cert.AdamUkvStepIdeal.nD Cert.AdamUkvStepIdeal.τ).loc Cert.AdamUkvStepIdeal.main_arg3))

def preserves_AdamSquare_AdamSquareIdeal : Prop :=
  True

def algebraic_AdamSquareIdeal_AdamSquareStepIdeal [hAdamSquareIdeal : Cert.AdamSquareIdeal.Facts] [hAdamSquareStepIdeal : Cert.AdamSquareStepIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareStepIdeal.nD Cert.AdamSquareStepIdeal.τ Cert.AdamSquareStepIdeal.sig) → Buf (Elt Ideal) ℓ) (g' : Dev Cert.AdamSquareStepIdeal.nD → PrngReg), Pre_AdamSquareIdeal m →
    (∀ c : Dev Cert.AdamSquareIdeal.nD,
      m' ((c.tc : Thread Cert.AdamSquareStepIdeal.nD Cert.AdamSquareStepIdeal.τ).loc Cert.AdamSquareStepIdeal.main_arg0) = m ((c.tc : Thread Cert.AdamSquareIdeal.nD Cert.AdamSquareIdeal.τ).loc Cert.AdamSquareIdeal.main_arg0)
      ∧ m' ((c.tc : Thread Cert.AdamSquareStepIdeal.nD Cert.AdamSquareStepIdeal.τ).loc Cert.AdamSquareStepIdeal.main_arg1) = m ((c.tc : Thread Cert.AdamSquareIdeal.nD Cert.AdamSquareIdeal.τ).loc Cert.AdamSquareIdeal.main_arg1)
      ∧ m' ((c.tc : Thread Cert.AdamSquareStepIdeal.nD Cert.AdamSquareStepIdeal.τ).loc Cert.AdamSquareStepIdeal.main_arg2) = m ((c.tc : Thread Cert.AdamSquareIdeal.nD Cert.AdamSquareIdeal.τ).loc Cert.AdamSquareIdeal.main_arg2)
      ∧ m' ((c.tc : Thread Cert.AdamSquareStepIdeal.nD Cert.AdamSquareStepIdeal.τ).loc Cert.AdamSquareStepIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareStepIdeal.defs (F := Ideal)) (onTc (τ := Cert.AdamSquareStepIdeal.τ) (Cert.AdamSquareStepIdeal.main (F := Ideal))) ⟨m', fun _ => 0, g'⟩ (fun r => ∀ c : Dev Cert.AdamSquareStepIdeal.nD,
          r.2.mem ((c.tc : Thread Cert.AdamSquareStepIdeal.nD Cert.AdamSquareStepIdeal.τ).loc Cert.AdamSquareStepIdeal.main_v23) = v0 c
          ∧ r.2.mem ((c.tc : Thread Cert.AdamSquareStepIdeal.nD Cert.AdamSquareStepIdeal.τ).loc Cert.AdamSquareStepIdeal.main_v4) = v1 c
          ∧ r.2.mem ((c.tc : Thread Cert.AdamSquareStepIdeal.nD Cert.AdamSquareStepIdeal.τ).loc Cert.AdamSquareStepIdeal.main_v10) = v2 c
          ∧ r.2.mem ((c.tc : Thread Cert.AdamSquareStepIdeal.nD Cert.AdamSquareStepIdeal.τ).loc Cert.AdamSquareStepIdeal.main_arg0) = m' ((c.tc : Thread Cert.AdamSquareStepIdeal.nD Cert.AdamSquareStepIdeal.τ).loc Cert.AdamSquareStepIdeal.main_arg0)
          ∧ r.2.mem ((c.tc : Thread Cert.AdamSquareStepIdeal.nD Cert.AdamSquareStepIdeal.τ).loc Cert.AdamSquareStepIdeal.main_arg1) = m' ((c.tc : Thread Cert.AdamSquareStepIdeal.nD Cert.AdamSquareStepIdeal.τ).loc Cert.AdamSquareStepIdeal.main_arg1)
          ∧ r.2.mem ((c.tc : Thread Cert.AdamSquareStepIdeal.nD Cert.AdamSquareStepIdeal.τ).loc Cert.AdamSquareStepIdeal.main_arg2) = m' ((c.tc : Thread Cert.AdamSquareStepIdeal.nD Cert.AdamSquareStepIdeal.τ).loc Cert.AdamSquareStepIdeal.main_arg2)
          ∧ r.2.mem ((c.tc : Thread Cert.AdamSquareStepIdeal.nD Cert.AdamSquareStepIdeal.τ).loc Cert.AdamSquareStepIdeal.main_arg3) = m' ((c.tc : Thread Cert.AdamSquareStepIdeal.nD Cert.AdamSquareStepIdeal.τ).loc Cert.AdamSquareStepIdeal.main_arg3))

def preserves_AdamMemKv_AdamMemKvIdeal : Prop :=
  True

def algebraic_AdamMemKvIdeal_AdamMemKvStepIdeal [hAdamMemKvIdeal : Cert.AdamMemKvIdeal.Facts] [hAdamMemKvStepIdeal : Cert.AdamMemKvStepIdeal.Facts] : Prop :=
  ∀ (m : (ℓ : Loc Cert.AdamMemKvIdeal.nD Cert.AdamMemKvIdeal.τ Cert.AdamMemKvIdeal.sig) → Buf (Elt Ideal) ℓ) (g : Dev Cert.AdamMemKvIdeal.nD → PrngReg)
    (m' : (ℓ : Loc Cert.AdamMemKvStepIdeal.nD Cert.AdamMemKvStepIdeal.τ Cert.AdamMemKvStepIdeal.sig) → Buf (Elt Ideal) ℓ) (g' : Dev Cert.AdamMemKvStepIdeal.nD → PrngReg), Pre_AdamMemKvIdeal m →
    (∀ c : Dev Cert.AdamMemKvIdeal.nD,
      m' ((c.tc : Thread Cert.AdamMemKvStepIdeal.nD Cert.AdamMemKvStepIdeal.τ).loc Cert.AdamMemKvStepIdeal.main_arg0) = m ((c.tc : Thread Cert.AdamMemKvIdeal.nD Cert.AdamMemKvIdeal.τ).loc Cert.AdamMemKvIdeal.main_arg0)
      ∧ m' ((c.tc : Thread Cert.AdamMemKvStepIdeal.nD Cert.AdamMemKvStepIdeal.τ).loc Cert.AdamMemKvStepIdeal.main_arg1) = m ((c.tc : Thread Cert.AdamMemKvIdeal.nD Cert.AdamMemKvIdeal.τ).loc Cert.AdamMemKvIdeal.main_arg1)
      ∧ m' ((c.tc : Thread Cert.AdamMemKvStepIdeal.nD Cert.AdamMemKvStepIdeal.τ).loc Cert.AdamMemKvStepIdeal.main_arg2) = m ((c.tc : Thread Cert.AdamMemKvIdeal.nD Cert.AdamMemKvIdeal.τ).loc Cert.AdamMemKvIdeal.main_arg2)
      ∧ m' ((c.tc : Thread Cert.AdamMemKvStepIdeal.nD Cert.AdamMemKvStepIdeal.τ).loc Cert.AdamMemKvStepIdeal.main_arg3) = m ((c.tc : Thread Cert.AdamMemKvIdeal.nD Cert.AdamMemKvIdeal.τ).loc Cert.AdamMemKvIdeal.main_arg3)) →
    ∃ (v0 : (c : Dev Cert.AdamMemKvIdeal.nD) → Buf (Elt Ideal) ((c.tc : Thread Cert.AdamMemKvIdeal.nD Cert.AdamMemKvIdeal.τ).loc Cert.AdamMemKvIdeal.main_v0_0)) (v1 : (c : Dev Cert.AdamMemKvIdeal.nD) → Buf (Elt Ideal) ((c.tc : Thread Cert.AdamMemKvIdeal.nD Cert.AdamMemKvIdeal.τ).loc Cert.AdamMemKvIdeal.main_v0_1)) (v2 : (c : Dev Cert.AdamMemKvIdeal.nD) → Buf (Elt Ideal) ((c.tc : Thread Cert.AdamMemKvIdeal.nD Cert.AdamMemKvIdeal.τ).loc Cert.AdamMemKvIdeal.main_v0_2)),
      θ_run (Cert.AdamMemKvIdeal.defs (F := Ideal)) (onTc (τ := Cert.AdamMemKvIdeal.τ) (Cert.AdamMemKvIdeal.main (F := Ideal))) ⟨m, fun _ => 0, g⟩ (fun r => ∀ c : Dev Cert.AdamMemKvIdeal.nD,
          r.2.mem ((c.tc : Thread Cert.AdamMemKvIdeal.nD Cert.AdamMemKvIdeal.τ).loc Cert.AdamMemKvIdeal.main_v0_0) = v0 c
          ∧ r.2.mem ((c.tc : Thread Cert.AdamMemKvIdeal.nD Cert.AdamMemKvIdeal.τ).loc Cert.AdamMemKvIdeal.main_v0_1) = v1 c
          ∧ r.2.mem ((c.tc : Thread Cert.AdamMemKvIdeal.nD Cert.AdamMemKvIdeal.τ).loc Cert.AdamMemKvIdeal.main_v0_2) = v2 c
          ∧ r.2.mem ((c.tc : Thread Cert.AdamMemKvIdeal.nD Cert.AdamMemKvIdeal.τ).loc Cert.AdamMemKvIdeal.main_arg0) = m ((c.tc : Thread Cert.AdamMemKvIdeal.nD Cert.AdamMemKvIdeal.τ).loc Cert.AdamMemKvIdeal.main_arg0)
          ∧ r.2.mem ((c.tc : Thread Cert.AdamMemKvIdeal.nD Cert.AdamMemKvIdeal.τ).loc Cert.AdamMemKvIdeal.main_arg1) = m ((c.tc : Thread Cert.AdamMemKvIdeal.nD Cert.AdamMemKvIdeal.τ).loc Cert.AdamMemKvIdeal.main_arg1)
          ∧ r.2.mem ((c.tc : Thread Cert.AdamMemKvIdeal.nD Cert.AdamMemKvIdeal.τ).loc Cert.AdamMemKvIdeal.main_arg2) = m ((c.tc : Thread Cert.AdamMemKvIdeal.nD Cert.AdamMemKvIdeal.τ).loc Cert.AdamMemKvIdeal.main_arg2)
          ∧ r.2.mem ((c.tc : Thread Cert.AdamMemKvIdeal.nD Cert.AdamMemKvIdeal.τ).loc Cert.AdamMemKvIdeal.main_arg3) = m ((c.tc : Thread Cert.AdamMemKvIdeal.nD Cert.AdamMemKvIdeal.τ).loc Cert.AdamMemKvIdeal.main_arg3))
      ∧ θ_run (Cert.AdamMemKvStepIdeal.defs (F := Ideal)) (onTc (τ := Cert.AdamMemKvStepIdeal.τ) (Cert.AdamMemKvStepIdeal.main (F := Ideal))) ⟨m', fun _ => 0, g'⟩ (fun r => ∀ c : Dev Cert.AdamMemKvStepIdeal.nD,
          r.2.mem ((c.tc : Thread Cert.AdamMemKvStepIdeal.nD Cert.AdamMemKvStepIdeal.τ).loc Cert.AdamMemKvStepIdeal.main_v23) = v0 c
          ∧ r.2.mem ((c.tc : Thread Cert.AdamMemKvStepIdeal.nD Cert.AdamMemKvStepIdeal.τ).loc Cert.AdamMemKvStepIdeal.main_v4) = v1 c
          ∧ r.2.mem ((c.tc : Thread Cert.AdamMemKvStepIdeal.nD Cert.AdamMemKvStepIdeal.τ).loc Cert.AdamMemKvStepIdeal.main_v10) = v2 c
          ∧ r.2.mem ((c.tc : Thread Cert.AdamMemKvStepIdeal.nD Cert.AdamMemKvStepIdeal.τ).loc Cert.AdamMemKvStepIdeal.main_arg0) = m' ((c.tc : Thread Cert.AdamMemKvStepIdeal.nD Cert.AdamMemKvStepIdeal.τ).loc Cert.AdamMemKvStepIdeal.main_arg0)
          ∧ r.2.mem ((c.tc : Thread Cert.AdamMemKvStepIdeal.nD Cert.AdamMemKvStepIdeal.τ).loc Cert.AdamMemKvStepIdeal.main_arg1) = m' ((c.tc : Thread Cert.AdamMemKvStepIdeal.nD Cert.AdamMemKvStepIdeal.τ).loc Cert.AdamMemKvStepIdeal.main_arg1)
          ∧ r.2.mem ((c.tc : Thread Cert.AdamMemKvStepIdeal.nD Cert.AdamMemKvStepIdeal.τ).loc Cert.AdamMemKvStepIdeal.main_arg2) = m' ((c.tc : Thread Cert.AdamMemKvStepIdeal.nD Cert.AdamMemKvStepIdeal.τ).loc Cert.AdamMemKvStepIdeal.main_arg2)
          ∧ r.2.mem ((c.tc : Thread Cert.AdamMemKvStepIdeal.nD Cert.AdamMemKvStepIdeal.τ).loc Cert.AdamMemKvStepIdeal.main_arg3) = m' ((c.tc : Thread Cert.AdamMemKvStepIdeal.nD Cert.AdamMemKvStepIdeal.τ).loc Cert.AdamMemKvStepIdeal.main_arg3))

def preserves_AdamUp_AdamUpIdeal : Prop :=
  True

def algebraic_AdamUpIdeal_AdamUpStepIdeal [hAdamUpIdeal : Cert.AdamUpIdeal.Facts] [hAdamUpStepIdeal : Cert.AdamUpStepIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpStepIdeal.nD Cert.AdamUpStepIdeal.τ Cert.AdamUpStepIdeal.sig) → Buf (Elt Ideal) ℓ) (g' : Dev Cert.AdamUpStepIdeal.nD → PrngReg), Pre_AdamUpIdeal m →
    (∀ c : Dev Cert.AdamUpIdeal.nD,
      m' ((c.tc : Thread Cert.AdamUpStepIdeal.nD Cert.AdamUpStepIdeal.τ).loc Cert.AdamUpStepIdeal.main_arg0) = m ((c.tc : Thread Cert.AdamUpIdeal.nD Cert.AdamUpIdeal.τ).loc Cert.AdamUpIdeal.main_arg0)
      ∧ m' ((c.tc : Thread Cert.AdamUpStepIdeal.nD Cert.AdamUpStepIdeal.τ).loc Cert.AdamUpStepIdeal.main_arg1) = m ((c.tc : Thread Cert.AdamUpIdeal.nD Cert.AdamUpIdeal.τ).loc Cert.AdamUpIdeal.main_arg1)
      ∧ m' ((c.tc : Thread Cert.AdamUpStepIdeal.nD Cert.AdamUpStepIdeal.τ).loc Cert.AdamUpStepIdeal.main_arg2) = m ((c.tc : Thread Cert.AdamUpIdeal.nD Cert.AdamUpIdeal.τ).loc Cert.AdamUpIdeal.main_arg2)
      ∧ m' ((c.tc : Thread Cert.AdamUpStepIdeal.nD Cert.AdamUpStepIdeal.τ).loc Cert.AdamUpStepIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpStepIdeal.defs (F := Ideal)) (onTc (τ := Cert.AdamUpStepIdeal.τ) (Cert.AdamUpStepIdeal.main (F := Ideal))) ⟨m', fun _ => 0, g'⟩ (fun r => ∀ c : Dev Cert.AdamUpStepIdeal.nD,
          r.2.mem ((c.tc : Thread Cert.AdamUpStepIdeal.nD Cert.AdamUpStepIdeal.τ).loc Cert.AdamUpStepIdeal.main_v23) = v0 c
          ∧ r.2.mem ((c.tc : Thread Cert.AdamUpStepIdeal.nD Cert.AdamUpStepIdeal.τ).loc Cert.AdamUpStepIdeal.main_v4) = v1 c
          ∧ r.2.mem ((c.tc : Thread Cert.AdamUpStepIdeal.nD Cert.AdamUpStepIdeal.τ).loc Cert.AdamUpStepIdeal.main_v10) = v2 c
          ∧ r.2.mem ((c.tc : Thread Cert.AdamUpStepIdeal.nD Cert.AdamUpStepIdeal.τ).loc Cert.AdamUpStepIdeal.main_arg0) = m' ((c.tc : Thread Cert.AdamUpStepIdeal.nD Cert.AdamUpStepIdeal.τ).loc Cert.AdamUpStepIdeal.main_arg0)
          ∧ r.2.mem ((c.tc : Thread Cert.AdamUpStepIdeal.nD Cert.AdamUpStepIdeal.τ).loc Cert.AdamUpStepIdeal.main_arg1) = m' ((c.tc : Thread Cert.AdamUpStepIdeal.nD Cert.AdamUpStepIdeal.τ).loc Cert.AdamUpStepIdeal.main_arg1)
          ∧ r.2.mem ((c.tc : Thread Cert.AdamUpStepIdeal.nD Cert.AdamUpStepIdeal.τ).loc Cert.AdamUpStepIdeal.main_arg2) = m' ((c.tc : Thread Cert.AdamUpStepIdeal.nD Cert.AdamUpStepIdeal.τ).loc Cert.AdamUpStepIdeal.main_arg2)
          ∧ r.2.mem ((c.tc : Thread Cert.AdamUpStepIdeal.nD Cert.AdamUpStepIdeal.τ).loc Cert.AdamUpStepIdeal.main_arg3) = m' ((c.tc : Thread Cert.AdamUpStepIdeal.nD Cert.AdamUpStepIdeal.τ).loc Cert.AdamUpStepIdeal.main_arg3))

def preserves_AdamDown_AdamDownIdeal : Prop :=
  True

def algebraic_AdamDownIdeal_AdamDownStepIdeal [hAdamDownIdeal : Cert.AdamDownIdeal.Facts] [hAdamDownStepIdeal : Cert.AdamDownStepIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownStepIdeal.nD Cert.AdamDownStepIdeal.τ Cert.AdamDownStepIdeal.sig) → Buf (Elt Ideal) ℓ) (g' : Dev Cert.AdamDownStepIdeal.nD → PrngReg), Pre_AdamDownIdeal m →
    (∀ c : Dev Cert.AdamDownIdeal.nD,
      m' ((c.tc : Thread Cert.AdamDownStepIdeal.nD Cert.AdamDownStepIdeal.τ).loc Cert.AdamDownStepIdeal.main_arg0) = m ((c.tc : Thread Cert.AdamDownIdeal.nD Cert.AdamDownIdeal.τ).loc Cert.AdamDownIdeal.main_arg0)
      ∧ m' ((c.tc : Thread Cert.AdamDownStepIdeal.nD Cert.AdamDownStepIdeal.τ).loc Cert.AdamDownStepIdeal.main_arg1) = m ((c.tc : Thread Cert.AdamDownIdeal.nD Cert.AdamDownIdeal.τ).loc Cert.AdamDownIdeal.main_arg1)
      ∧ m' ((c.tc : Thread Cert.AdamDownStepIdeal.nD Cert.AdamDownStepIdeal.τ).loc Cert.AdamDownStepIdeal.main_arg2) = m ((c.tc : Thread Cert.AdamDownIdeal.nD Cert.AdamDownIdeal.τ).loc Cert.AdamDownIdeal.main_arg2)
      ∧ m' ((c.tc : Thread Cert.AdamDownStepIdeal.nD Cert.AdamDownStepIdeal.τ).loc Cert.AdamDownStepIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownStepIdeal.defs (F := Ideal)) (onTc (τ := Cert.AdamDownStepIdeal.τ) (Cert.AdamDownStepIdeal.main (F := Ideal))) ⟨m', fun _ => 0, g'⟩ (fun r => ∀ c : Dev Cert.AdamDownStepIdeal.nD,
          r.2.mem ((c.tc : Thread Cert.AdamDownStepIdeal.nD Cert.AdamDownStepIdeal.τ).loc Cert.AdamDownStepIdeal.main_v23) = v0 c
          ∧ r.2.mem ((c.tc : Thread Cert.AdamDownStepIdeal.nD Cert.AdamDownStepIdeal.τ).loc Cert.AdamDownStepIdeal.main_v4) = v1 c
          ∧ r.2.mem ((c.tc : Thread Cert.AdamDownStepIdeal.nD Cert.AdamDownStepIdeal.τ).loc Cert.AdamDownStepIdeal.main_v10) = v2 c
          ∧ r.2.mem ((c.tc : Thread Cert.AdamDownStepIdeal.nD Cert.AdamDownStepIdeal.τ).loc Cert.AdamDownStepIdeal.main_arg0) = m' ((c.tc : Thread Cert.AdamDownStepIdeal.nD Cert.AdamDownStepIdeal.τ).loc Cert.AdamDownStepIdeal.main_arg0)
          ∧ r.2.mem ((c.tc : Thread Cert.AdamDownStepIdeal.nD Cert.AdamDownStepIdeal.τ).loc Cert.AdamDownStepIdeal.main_arg1) = m' ((c.tc : Thread Cert.AdamDownStepIdeal.nD Cert.AdamDownStepIdeal.τ).loc Cert.AdamDownStepIdeal.main_arg1)
          ∧ r.2.mem ((c.tc : Thread Cert.AdamDownStepIdeal.nD Cert.AdamDownStepIdeal.τ).loc Cert.AdamDownStepIdeal.main_arg2) = m' ((c.tc : Thread Cert.AdamDownStepIdeal.nD Cert.AdamDownStepIdeal.τ).loc Cert.AdamDownStepIdeal.main_arg2)
          ∧ r.2.mem ((c.tc : Thread Cert.AdamDownStepIdeal.nD Cert.AdamDownStepIdeal.τ).loc Cert.AdamDownStepIdeal.main_arg3) = m' ((c.tc : Thread Cert.AdamDownStepIdeal.nD Cert.AdamDownStepIdeal.τ).loc Cert.AdamDownStepIdeal.main_arg3))

def preserves_DwOutU_DwOutUIdeal : Prop :=
  True

def algebraic_DwOutUIdeal_OutUWeightGradIdeal [hDwOutUIdeal : Cert.DwOutUIdeal.Facts] [hOutUWeightGradIdeal : Cert.OutUWeightGradIdeal.Facts] : Prop :=
  ∀ (m : (ℓ : Loc Cert.DwOutUIdeal.nD Cert.DwOutUIdeal.τ Cert.DwOutUIdeal.sig) → Buf (Elt Ideal) ℓ) (g : Dev Cert.DwOutUIdeal.nD → PrngReg)
    (m' : (ℓ : Loc Cert.OutUWeightGradIdeal.nD Cert.OutUWeightGradIdeal.τ Cert.OutUWeightGradIdeal.sig) → Buf (Elt Ideal) ℓ) (g' : Dev Cert.OutUWeightGradIdeal.nD → PrngReg), Pre_DwOutUIdeal m →
    (∀ c : Dev Cert.DwOutUIdeal.nD,
      m' ((c.tc : Thread Cert.OutUWeightGradIdeal.nD Cert.OutUWeightGradIdeal.τ).loc Cert.OutUWeightGradIdeal.main_arg0) = m ((c.tc : Thread Cert.DwOutUIdeal.nD Cert.DwOutUIdeal.τ).loc Cert.DwOutUIdeal.main_arg0)
      ∧ m' ((c.tc : Thread Cert.OutUWeightGradIdeal.nD Cert.OutUWeightGradIdeal.τ).loc Cert.OutUWeightGradIdeal.main_arg1) = m ((c.tc : Thread Cert.DwOutUIdeal.nD Cert.DwOutUIdeal.τ).loc Cert.DwOutUIdeal.main_arg1)) →
    ∃ (v0 : (c : Dev Cert.DwOutUIdeal.nD) → Buf (Elt Ideal) ((c.tc : Thread Cert.DwOutUIdeal.nD Cert.DwOutUIdeal.τ).loc Cert.DwOutUIdeal.main_v0)),
      θ_run (Cert.DwOutUIdeal.defs (F := Ideal)) (onTc (τ := Cert.DwOutUIdeal.τ) (Cert.DwOutUIdeal.main (F := Ideal))) ⟨m, fun _ => 0, g⟩ (fun r => ∀ c : Dev Cert.DwOutUIdeal.nD,
          r.2.mem ((c.tc : Thread Cert.DwOutUIdeal.nD Cert.DwOutUIdeal.τ).loc Cert.DwOutUIdeal.main_v0) = v0 c
          ∧ r.2.mem ((c.tc : Thread Cert.DwOutUIdeal.nD Cert.DwOutUIdeal.τ).loc Cert.DwOutUIdeal.main_arg0) = m ((c.tc : Thread Cert.DwOutUIdeal.nD Cert.DwOutUIdeal.τ).loc Cert.DwOutUIdeal.main_arg0)
          ∧ r.2.mem ((c.tc : Thread Cert.DwOutUIdeal.nD Cert.DwOutUIdeal.τ).loc Cert.DwOutUIdeal.main_arg1) = m ((c.tc : Thread Cert.DwOutUIdeal.nD Cert.DwOutUIdeal.τ).loc Cert.DwOutUIdeal.main_arg1))
      ∧ θ_run (Cert.OutUWeightGradIdeal.defs (F := Ideal)) (onTc (τ := Cert.OutUWeightGradIdeal.τ) (Cert.OutUWeightGradIdeal.main (F := Ideal))) ⟨m', fun _ => 0, g'⟩ (fun r => ∀ c : Dev Cert.OutUWeightGradIdeal.nD,
          r.2.mem ((c.tc : Thread Cert.OutUWeightGradIdeal.nD Cert.OutUWeightGradIdeal.τ).loc Cert.OutUWeightGradIdeal.main_v5) = v0 c
          ∧ r.2.mem ((c.tc : Thread Cert.OutUWeightGradIdeal.nD Cert.OutUWeightGradIdeal.τ).loc Cert.OutUWeightGradIdeal.main_arg0) = m' ((c.tc : Thread Cert.OutUWeightGradIdeal.nD Cert.OutUWeightGradIdeal.τ).loc Cert.OutUWeightGradIdeal.main_arg0)
          ∧ r.2.mem ((c.tc : Thread Cert.OutUWeightGradIdeal.nD Cert.OutUWeightGradIdeal.τ).loc Cert.OutUWeightGradIdeal.main_arg1) = m' ((c.tc : Thread Cert.OutUWeightGradIdeal.nD Cert.OutUWeightGradIdeal.τ).loc Cert.OutUWeightGradIdeal.main_arg1))

def preserves_DwUq_DwUqIdeal : Prop :=
  True

def algebraic_DwUqIdeal_UqWeightGradIdeal [hDwUqIdeal : Cert.DwUqIdeal.Facts] [hUqWeightGradIdeal : Cert.UqWeightGradIdeal.Facts] : Prop :=
  ∀ (m : (ℓ : Loc Cert.DwUqIdeal.nD Cert.DwUqIdeal.τ Cert.DwUqIdeal.sig) → Buf (Elt Ideal) ℓ) (g : Dev Cert.DwUqIdeal.nD → PrngReg)
    (m' : (ℓ : Loc Cert.UqWeightGradIdeal.nD Cert.UqWeightGradIdeal.τ Cert.UqWeightGradIdeal.sig) → Buf (Elt Ideal) ℓ) (g' : Dev Cert.UqWeightGradIdeal.nD → PrngReg), Pre_DwUqIdeal m →
    (∀ c : Dev Cert.DwUqIdeal.nD,
      m' ((c.tc : Thread Cert.UqWeightGradIdeal.nD Cert.UqWeightGradIdeal.τ).loc Cert.UqWeightGradIdeal.main_arg0) = m ((c.tc : Thread Cert.DwUqIdeal.nD Cert.DwUqIdeal.τ).loc Cert.DwUqIdeal.main_arg0)
      ∧ m' ((c.tc : Thread Cert.UqWeightGradIdeal.nD Cert.UqWeightGradIdeal.τ).loc Cert.UqWeightGradIdeal.main_arg1) = m ((c.tc : Thread Cert.DwUqIdeal.nD Cert.DwUqIdeal.τ).loc Cert.DwUqIdeal.main_arg1)) →
    ∃ (v0 : (c : Dev Cert.DwUqIdeal.nD) → Buf (Elt Ideal) ((c.tc : Thread Cert.DwUqIdeal.nD Cert.DwUqIdeal.τ).loc Cert.DwUqIdeal.main_v0)),
      θ_run (Cert.DwUqIdeal.defs (F := Ideal)) (onTc (τ := Cert.DwUqIdeal.τ) (Cert.DwUqIdeal.main (F := Ideal))) ⟨m, fun _ => 0, g⟩ (fun r => ∀ c : Dev Cert.DwUqIdeal.nD,
          r.2.mem ((c.tc : Thread Cert.DwUqIdeal.nD Cert.DwUqIdeal.τ).loc Cert.DwUqIdeal.main_v0) = v0 c
          ∧ r.2.mem ((c.tc : Thread Cert.DwUqIdeal.nD Cert.DwUqIdeal.τ).loc Cert.DwUqIdeal.main_arg0) = m ((c.tc : Thread Cert.DwUqIdeal.nD Cert.DwUqIdeal.τ).loc Cert.DwUqIdeal.main_arg0)
          ∧ r.2.mem ((c.tc : Thread Cert.DwUqIdeal.nD Cert.DwUqIdeal.τ).loc Cert.DwUqIdeal.main_arg1) = m ((c.tc : Thread Cert.DwUqIdeal.nD Cert.DwUqIdeal.τ).loc Cert.DwUqIdeal.main_arg1))
      ∧ θ_run (Cert.UqWeightGradIdeal.defs (F := Ideal)) (onTc (τ := Cert.UqWeightGradIdeal.τ) (Cert.UqWeightGradIdeal.main (F := Ideal))) ⟨m', fun _ => 0, g'⟩ (fun r => ∀ c : Dev Cert.UqWeightGradIdeal.nD,
          r.2.mem ((c.tc : Thread Cert.UqWeightGradIdeal.nD Cert.UqWeightGradIdeal.τ).loc Cert.UqWeightGradIdeal.main_v5) = v0 c
          ∧ r.2.mem ((c.tc : Thread Cert.UqWeightGradIdeal.nD Cert.UqWeightGradIdeal.τ).loc Cert.UqWeightGradIdeal.main_arg0) = m' ((c.tc : Thread Cert.UqWeightGradIdeal.nD Cert.UqWeightGradIdeal.τ).loc Cert.UqWeightGradIdeal.main_arg0)
          ∧ r.2.mem ((c.tc : Thread Cert.UqWeightGradIdeal.nD Cert.UqWeightGradIdeal.τ).loc Cert.UqWeightGradIdeal.main_arg1) = m' ((c.tc : Thread Cert.UqWeightGradIdeal.nD Cert.UqWeightGradIdeal.τ).loc Cert.UqWeightGradIdeal.main_arg1))

def preserves_DwUkv_DwUkvIdeal : Prop :=
  True

def algebraic_DwUkvIdeal_UkvWeightGradIdeal [hDwUkvIdeal : Cert.DwUkvIdeal.Facts] [hUkvWeightGradIdeal : Cert.UkvWeightGradIdeal.Facts] : Prop :=
  ∀ (m : (ℓ : Loc Cert.DwUkvIdeal.nD Cert.DwUkvIdeal.τ Cert.DwUkvIdeal.sig) → Buf (Elt Ideal) ℓ) (g : Dev Cert.DwUkvIdeal.nD → PrngReg)
    (m' : (ℓ : Loc Cert.UkvWeightGradIdeal.nD Cert.UkvWeightGradIdeal.τ Cert.UkvWeightGradIdeal.sig) → Buf (Elt Ideal) ℓ) (g' : Dev Cert.UkvWeightGradIdeal.nD → PrngReg), Pre_DwUkvIdeal m →
    (∀ c : Dev Cert.DwUkvIdeal.nD,
      m' ((c.tc : Thread Cert.UkvWeightGradIdeal.nD Cert.UkvWeightGradIdeal.τ).loc Cert.UkvWeightGradIdeal.main_arg0) = m ((c.tc : Thread Cert.DwUkvIdeal.nD Cert.DwUkvIdeal.τ).loc Cert.DwUkvIdeal.main_arg0)
      ∧ m' ((c.tc : Thread Cert.UkvWeightGradIdeal.nD Cert.UkvWeightGradIdeal.τ).loc Cert.UkvWeightGradIdeal.main_arg1) = m ((c.tc : Thread Cert.DwUkvIdeal.nD Cert.DwUkvIdeal.τ).loc Cert.DwUkvIdeal.main_arg1)) →
    ∃ (v0 : (c : Dev Cert.DwUkvIdeal.nD) → Buf (Elt Ideal) ((c.tc : Thread Cert.DwUkvIdeal.nD Cert.DwUkvIdeal.τ).loc Cert.DwUkvIdeal.main_v0)),
      θ_run (Cert.DwUkvIdeal.defs (F := Ideal)) (onTc (τ := Cert.DwUkvIdeal.τ) (Cert.DwUkvIdeal.main (F := Ideal))) ⟨m, fun _ => 0, g⟩ (fun r => ∀ c : Dev Cert.DwUkvIdeal.nD,
          r.2.mem ((c.tc : Thread Cert.DwUkvIdeal.nD Cert.DwUkvIdeal.τ).loc Cert.DwUkvIdeal.main_v0) = v0 c
          ∧ r.2.mem ((c.tc : Thread Cert.DwUkvIdeal.nD Cert.DwUkvIdeal.τ).loc Cert.DwUkvIdeal.main_arg0) = m ((c.tc : Thread Cert.DwUkvIdeal.nD Cert.DwUkvIdeal.τ).loc Cert.DwUkvIdeal.main_arg0)
          ∧ r.2.mem ((c.tc : Thread Cert.DwUkvIdeal.nD Cert.DwUkvIdeal.τ).loc Cert.DwUkvIdeal.main_arg1) = m ((c.tc : Thread Cert.DwUkvIdeal.nD Cert.DwUkvIdeal.τ).loc Cert.DwUkvIdeal.main_arg1))
      ∧ θ_run (Cert.UkvWeightGradIdeal.defs (F := Ideal)) (onTc (τ := Cert.UkvWeightGradIdeal.τ) (Cert.UkvWeightGradIdeal.main (F := Ideal))) ⟨m', fun _ => 0, g'⟩ (fun r => ∀ c : Dev Cert.UkvWeightGradIdeal.nD,
          r.2.mem ((c.tc : Thread Cert.UkvWeightGradIdeal.nD Cert.UkvWeightGradIdeal.τ).loc Cert.UkvWeightGradIdeal.main_v5) = v0 c
          ∧ r.2.mem ((c.tc : Thread Cert.UkvWeightGradIdeal.nD Cert.UkvWeightGradIdeal.τ).loc Cert.UkvWeightGradIdeal.main_arg0) = m' ((c.tc : Thread Cert.UkvWeightGradIdeal.nD Cert.UkvWeightGradIdeal.τ).loc Cert.UkvWeightGradIdeal.main_arg0)
          ∧ r.2.mem ((c.tc : Thread Cert.UkvWeightGradIdeal.nD Cert.UkvWeightGradIdeal.τ).loc Cert.UkvWeightGradIdeal.main_arg1) = m' ((c.tc : Thread Cert.UkvWeightGradIdeal.nD Cert.UkvWeightGradIdeal.τ).loc Cert.UkvWeightGradIdeal.main_arg1))

def preserves_DwInQuery_DwInQueryIdeal : Prop :=
  True

def algebraic_DwInQueryIdeal_InQueryWeightGradIdeal [hDwInQueryIdeal : Cert.DwInQueryIdeal.Facts] [hInQueryWeightGradIdeal : Cert.InQueryWeightGradIdeal.Facts] : Prop :=
  ∀ (m : (ℓ : Loc Cert.DwInQueryIdeal.nD Cert.DwInQueryIdeal.τ Cert.DwInQueryIdeal.sig) → Buf (Elt Ideal) ℓ) (g : Dev Cert.DwInQueryIdeal.nD → PrngReg)
    (m' : (ℓ : Loc Cert.InQueryWeightGradIdeal.nD Cert.InQueryWeightGradIdeal.τ Cert.InQueryWeightGradIdeal.sig) → Buf (Elt Ideal) ℓ) (g' : Dev Cert.InQueryWeightGradIdeal.nD → PrngReg), Pre_DwInQueryIdeal m →
    (∀ c : Dev Cert.DwInQueryIdeal.nD,
      m' ((c.tc : Thread Cert.InQueryWeightGradIdeal.nD Cert.InQueryWeightGradIdeal.τ).loc Cert.InQueryWeightGradIdeal.main_arg0) = m ((c.tc : Thread Cert.DwInQueryIdeal.nD Cert.DwInQueryIdeal.τ).loc Cert.DwInQueryIdeal.main_arg0)
      ∧ m' ((c.tc : Thread Cert.InQueryWeightGradIdeal.nD Cert.InQueryWeightGradIdeal.τ).loc Cert.InQueryWeightGradIdeal.main_arg1) = m ((c.tc : Thread Cert.DwInQueryIdeal.nD Cert.DwInQueryIdeal.τ).loc Cert.DwInQueryIdeal.main_arg1)) →
    ∃ (v0 : (c : Dev Cert.DwInQueryIdeal.nD) → Buf (Elt Ideal) ((c.tc : Thread Cert.DwInQueryIdeal.nD Cert.DwInQueryIdeal.τ).loc Cert.DwInQueryIdeal.main_v0)),
      θ_run (Cert.DwInQueryIdeal.defs (F := Ideal)) (onTc (τ := Cert.DwInQueryIdeal.τ) (Cert.DwInQueryIdeal.main (F := Ideal))) ⟨m, fun _ => 0, g⟩ (fun r => ∀ c : Dev Cert.DwInQueryIdeal.nD,
          r.2.mem ((c.tc : Thread Cert.DwInQueryIdeal.nD Cert.DwInQueryIdeal.τ).loc Cert.DwInQueryIdeal.main_v0) = v0 c
          ∧ r.2.mem ((c.tc : Thread Cert.DwInQueryIdeal.nD Cert.DwInQueryIdeal.τ).loc Cert.DwInQueryIdeal.main_arg0) = m ((c.tc : Thread Cert.DwInQueryIdeal.nD Cert.DwInQueryIdeal.τ).loc Cert.DwInQueryIdeal.main_arg0)
          ∧ r.2.mem ((c.tc : Thread Cert.DwInQueryIdeal.nD Cert.DwInQueryIdeal.τ).loc Cert.DwInQueryIdeal.main_arg1) = m ((c.tc : Thread Cert.DwInQueryIdeal.nD Cert.DwInQueryIdeal.τ).loc Cert.DwInQueryIdeal.main_arg1))
      ∧ θ_run (Cert.InQueryWeightGradIdeal.defs (F := Ideal)) (onTc (τ := Cert.InQueryWeightGradIdeal.τ) (Cert.InQueryWeightGradIdeal.main (F := Ideal))) ⟨m', fun _ => 0, g'⟩ (fun r => ∀ c : Dev Cert.InQueryWeightGradIdeal.nD,
          r.2.mem ((c.tc : Thread Cert.InQueryWeightGradIdeal.nD Cert.InQueryWeightGradIdeal.τ).loc Cert.InQueryWeightGradIdeal.main_v5) = v0 c
          ∧ r.2.mem ((c.tc : Thread Cert.InQueryWeightGradIdeal.nD Cert.InQueryWeightGradIdeal.τ).loc Cert.InQueryWeightGradIdeal.main_arg0) = m' ((c.tc : Thread Cert.InQueryWeightGradIdeal.nD Cert.InQueryWeightGradIdeal.τ).loc Cert.InQueryWeightGradIdeal.main_arg0)
          ∧ r.2.mem ((c.tc : Thread Cert.InQueryWeightGradIdeal.nD Cert.InQueryWeightGradIdeal.τ).loc Cert.InQueryWeightGradIdeal.main_arg1) = m' ((c.tc : Thread Cert.InQueryWeightGradIdeal.nD Cert.InQueryWeightGradIdeal.τ).loc Cert.InQueryWeightGradIdeal.main_arg1))

def preserves_DwInKv_DwInKvIdeal : Prop :=
  True

def algebraic_DwInKvIdeal_InKvWeightGradIdeal [hDwInKvIdeal : Cert.DwInKvIdeal.Facts] [hInKvWeightGradIdeal : Cert.InKvWeightGradIdeal.Facts] : Prop :=
  ∀ (m : (ℓ : Loc Cert.DwInKvIdeal.nD Cert.DwInKvIdeal.τ Cert.DwInKvIdeal.sig) → Buf (Elt Ideal) ℓ) (g : Dev Cert.DwInKvIdeal.nD → PrngReg)
    (m' : (ℓ : Loc Cert.InKvWeightGradIdeal.nD Cert.InKvWeightGradIdeal.τ Cert.InKvWeightGradIdeal.sig) → Buf (Elt Ideal) ℓ) (g' : Dev Cert.InKvWeightGradIdeal.nD → PrngReg), Pre_DwInKvIdeal m →
    (∀ c : Dev Cert.DwInKvIdeal.nD,
      m' ((c.tc : Thread Cert.InKvWeightGradIdeal.nD Cert.InKvWeightGradIdeal.τ).loc Cert.InKvWeightGradIdeal.main_arg0) = m ((c.tc : Thread Cert.DwInKvIdeal.nD Cert.DwInKvIdeal.τ).loc Cert.DwInKvIdeal.main_arg0)
      ∧ m' ((c.tc : Thread Cert.InKvWeightGradIdeal.nD Cert.InKvWeightGradIdeal.τ).loc Cert.InKvWeightGradIdeal.main_arg1) = m ((c.tc : Thread Cert.DwInKvIdeal.nD Cert.DwInKvIdeal.τ).loc Cert.DwInKvIdeal.main_arg1)) →
    ∃ (v0 : (c : Dev Cert.DwInKvIdeal.nD) → Buf (Elt Ideal) ((c.tc : Thread Cert.DwInKvIdeal.nD Cert.DwInKvIdeal.τ).loc Cert.DwInKvIdeal.main_v0)),
      θ_run (Cert.DwInKvIdeal.defs (F := Ideal)) (onTc (τ := Cert.DwInKvIdeal.τ) (Cert.DwInKvIdeal.main (F := Ideal))) ⟨m, fun _ => 0, g⟩ (fun r => ∀ c : Dev Cert.DwInKvIdeal.nD,
          r.2.mem ((c.tc : Thread Cert.DwInKvIdeal.nD Cert.DwInKvIdeal.τ).loc Cert.DwInKvIdeal.main_v0) = v0 c
          ∧ r.2.mem ((c.tc : Thread Cert.DwInKvIdeal.nD Cert.DwInKvIdeal.τ).loc Cert.DwInKvIdeal.main_arg0) = m ((c.tc : Thread Cert.DwInKvIdeal.nD Cert.DwInKvIdeal.τ).loc Cert.DwInKvIdeal.main_arg0)
          ∧ r.2.mem ((c.tc : Thread Cert.DwInKvIdeal.nD Cert.DwInKvIdeal.τ).loc Cert.DwInKvIdeal.main_arg1) = m ((c.tc : Thread Cert.DwInKvIdeal.nD Cert.DwInKvIdeal.τ).loc Cert.DwInKvIdeal.main_arg1))
      ∧ θ_run (Cert.InKvWeightGradIdeal.defs (F := Ideal)) (onTc (τ := Cert.InKvWeightGradIdeal.τ) (Cert.InKvWeightGradIdeal.main (F := Ideal))) ⟨m', fun _ => 0, g'⟩ (fun r => ∀ c : Dev Cert.InKvWeightGradIdeal.nD,
          r.2.mem ((c.tc : Thread Cert.InKvWeightGradIdeal.nD Cert.InKvWeightGradIdeal.τ).loc Cert.InKvWeightGradIdeal.main_v5) = v0 c
          ∧ r.2.mem ((c.tc : Thread Cert.InKvWeightGradIdeal.nD Cert.InKvWeightGradIdeal.τ).loc Cert.InKvWeightGradIdeal.main_arg0) = m' ((c.tc : Thread Cert.InKvWeightGradIdeal.nD Cert.InKvWeightGradIdeal.τ).loc Cert.InKvWeightGradIdeal.main_arg0)
          ∧ r.2.mem ((c.tc : Thread Cert.InKvWeightGradIdeal.nD Cert.InKvWeightGradIdeal.τ).loc Cert.InKvWeightGradIdeal.main_arg1) = m' ((c.tc : Thread Cert.InKvWeightGradIdeal.nD Cert.InKvWeightGradIdeal.τ).loc Cert.InKvWeightGradIdeal.main_arg1))

def preserves_DwInRope_DwInRopeIdeal : Prop :=
  True

def algebraic_DwInRopeIdeal_InRopeWeightGradIdeal [hDwInRopeIdeal : Cert.DwInRopeIdeal.Facts] [hInRopeWeightGradIdeal : Cert.InRopeWeightGradIdeal.Facts] : Prop :=
  ∀ (m : (ℓ : Loc Cert.DwInRopeIdeal.nD Cert.DwInRopeIdeal.τ Cert.DwInRopeIdeal.sig) → Buf (Elt Ideal) ℓ) (g : Dev Cert.DwInRopeIdeal.nD → PrngReg)
    (m' : (ℓ : Loc Cert.InRopeWeightGradIdeal.nD Cert.InRopeWeightGradIdeal.τ Cert.InRopeWeightGradIdeal.sig) → Buf (Elt Ideal) ℓ) (g' : Dev Cert.InRopeWeightGradIdeal.nD → PrngReg), Pre_DwInRopeIdeal m →
    (∀ c : Dev Cert.DwInRopeIdeal.nD,
      m' ((c.tc : Thread Cert.InRopeWeightGradIdeal.nD Cert.InRopeWeightGradIdeal.τ).loc Cert.InRopeWeightGradIdeal.main_arg0) = m ((c.tc : Thread Cert.DwInRopeIdeal.nD Cert.DwInRopeIdeal.τ).loc Cert.DwInRopeIdeal.main_arg0)
      ∧ m' ((c.tc : Thread Cert.InRopeWeightGradIdeal.nD Cert.InRopeWeightGradIdeal.τ).loc Cert.InRopeWeightGradIdeal.main_arg1) = m ((c.tc : Thread Cert.DwInRopeIdeal.nD Cert.DwInRopeIdeal.τ).loc Cert.DwInRopeIdeal.main_arg1)) →
    ∃ (v0 : (c : Dev Cert.DwInRopeIdeal.nD) → Buf (Elt Ideal) ((c.tc : Thread Cert.DwInRopeIdeal.nD Cert.DwInRopeIdeal.τ).loc Cert.DwInRopeIdeal.main_v0)),
      θ_run (Cert.DwInRopeIdeal.defs (F := Ideal)) (onTc (τ := Cert.DwInRopeIdeal.τ) (Cert.DwInRopeIdeal.main (F := Ideal))) ⟨m, fun _ => 0, g⟩ (fun r => ∀ c : Dev Cert.DwInRopeIdeal.nD,
          r.2.mem ((c.tc : Thread Cert.DwInRopeIdeal.nD Cert.DwInRopeIdeal.τ).loc Cert.DwInRopeIdeal.main_v0) = v0 c
          ∧ r.2.mem ((c.tc : Thread Cert.DwInRopeIdeal.nD Cert.DwInRopeIdeal.τ).loc Cert.DwInRopeIdeal.main_arg0) = m ((c.tc : Thread Cert.DwInRopeIdeal.nD Cert.DwInRopeIdeal.τ).loc Cert.DwInRopeIdeal.main_arg0)
          ∧ r.2.mem ((c.tc : Thread Cert.DwInRopeIdeal.nD Cert.DwInRopeIdeal.τ).loc Cert.DwInRopeIdeal.main_arg1) = m ((c.tc : Thread Cert.DwInRopeIdeal.nD Cert.DwInRopeIdeal.τ).loc Cert.DwInRopeIdeal.main_arg1))
      ∧ θ_run (Cert.InRopeWeightGradIdeal.defs (F := Ideal)) (onTc (τ := Cert.InRopeWeightGradIdeal.τ) (Cert.InRopeWeightGradIdeal.main (F := Ideal))) ⟨m', fun _ => 0, g'⟩ (fun r => ∀ c : Dev Cert.InRopeWeightGradIdeal.nD,
          r.2.mem ((c.tc : Thread Cert.InRopeWeightGradIdeal.nD Cert.InRopeWeightGradIdeal.τ).loc Cert.InRopeWeightGradIdeal.main_v4) = v0 c
          ∧ r.2.mem ((c.tc : Thread Cert.InRopeWeightGradIdeal.nD Cert.InRopeWeightGradIdeal.τ).loc Cert.InRopeWeightGradIdeal.main_arg0) = m' ((c.tc : Thread Cert.InRopeWeightGradIdeal.nD Cert.InRopeWeightGradIdeal.τ).loc Cert.InRopeWeightGradIdeal.main_arg0)
          ∧ r.2.mem ((c.tc : Thread Cert.InRopeWeightGradIdeal.nD Cert.InRopeWeightGradIdeal.τ).loc Cert.InRopeWeightGradIdeal.main_arg1) = m' ((c.tc : Thread Cert.InRopeWeightGradIdeal.nD Cert.InRopeWeightGradIdeal.τ).loc Cert.InRopeWeightGradIdeal.main_arg1))

def preserves_DwMemKv_DwMemKvIdeal : Prop :=
  True

def algebraic_DwMemKvIdeal_MemKvWeightGradIdeal [hDwMemKvIdeal : Cert.DwMemKvIdeal.Facts] [hMemKvWeightGradIdeal : Cert.MemKvWeightGradIdeal.Facts] : Prop :=
  ∀ (m : (ℓ : Loc Cert.DwMemKvIdeal.nD Cert.DwMemKvIdeal.τ Cert.DwMemKvIdeal.sig) → Buf (Elt Ideal) ℓ) (g : Dev Cert.DwMemKvIdeal.nD → PrngReg)
    (m' : (ℓ : Loc Cert.MemKvWeightGradIdeal.nD Cert.MemKvWeightGradIdeal.τ Cert.MemKvWeightGradIdeal.sig) → Buf (Elt Ideal) ℓ) (g' : Dev Cert.MemKvWeightGradIdeal.nD → PrngReg), Pre_DwMemKvIdeal m →
    (∀ c : Dev Cert.DwMemKvIdeal.nD,
      m' ((c.tc : Thread Cert.MemKvWeightGradIdeal.nD Cert.MemKvWeightGradIdeal.τ).loc Cert.MemKvWeightGradIdeal.main_arg0) = m ((c.tc : Thread Cert.DwMemKvIdeal.nD Cert.DwMemKvIdeal.τ).loc Cert.DwMemKvIdeal.main_arg0)
      ∧ m' ((c.tc : Thread Cert.MemKvWeightGradIdeal.nD Cert.MemKvWeightGradIdeal.τ).loc Cert.MemKvWeightGradIdeal.main_arg1) = m ((c.tc : Thread Cert.DwMemKvIdeal.nD Cert.DwMemKvIdeal.τ).loc Cert.DwMemKvIdeal.main_arg1)) →
    ∃ (v0 : (c : Dev Cert.DwMemKvIdeal.nD) → Buf (Elt Ideal) ((c.tc : Thread Cert.DwMemKvIdeal.nD Cert.DwMemKvIdeal.τ).loc Cert.DwMemKvIdeal.main_v0)),
      θ_run (Cert.DwMemKvIdeal.defs (F := Ideal)) (onTc (τ := Cert.DwMemKvIdeal.τ) (Cert.DwMemKvIdeal.main (F := Ideal))) ⟨m, fun _ => 0, g⟩ (fun r => ∀ c : Dev Cert.DwMemKvIdeal.nD,
          r.2.mem ((c.tc : Thread Cert.DwMemKvIdeal.nD Cert.DwMemKvIdeal.τ).loc Cert.DwMemKvIdeal.main_v0) = v0 c
          ∧ r.2.mem ((c.tc : Thread Cert.DwMemKvIdeal.nD Cert.DwMemKvIdeal.τ).loc Cert.DwMemKvIdeal.main_arg0) = m ((c.tc : Thread Cert.DwMemKvIdeal.nD Cert.DwMemKvIdeal.τ).loc Cert.DwMemKvIdeal.main_arg0)
          ∧ r.2.mem ((c.tc : Thread Cert.DwMemKvIdeal.nD Cert.DwMemKvIdeal.τ).loc Cert.DwMemKvIdeal.main_arg1) = m ((c.tc : Thread Cert.DwMemKvIdeal.nD Cert.DwMemKvIdeal.τ).loc Cert.DwMemKvIdeal.main_arg1))
      ∧ θ_run (Cert.MemKvWeightGradIdeal.defs (F := Ideal)) (onTc (τ := Cert.MemKvWeightGradIdeal.τ) (Cert.MemKvWeightGradIdeal.main (F := Ideal))) ⟨m', fun _ => 0, g'⟩ (fun r => ∀ c : Dev Cert.MemKvWeightGradIdeal.nD,
          r.2.mem ((c.tc : Thread Cert.MemKvWeightGradIdeal.nD Cert.MemKvWeightGradIdeal.τ).loc Cert.MemKvWeightGradIdeal.main_v4) = v0 c
          ∧ r.2.mem ((c.tc : Thread Cert.MemKvWeightGradIdeal.nD Cert.MemKvWeightGradIdeal.τ).loc Cert.MemKvWeightGradIdeal.main_arg0) = m' ((c.tc : Thread Cert.MemKvWeightGradIdeal.nD Cert.MemKvWeightGradIdeal.τ).loc Cert.MemKvWeightGradIdeal.main_arg0)
          ∧ r.2.mem ((c.tc : Thread Cert.MemKvWeightGradIdeal.nD Cert.MemKvWeightGradIdeal.τ).loc Cert.MemKvWeightGradIdeal.main_arg1) = m' ((c.tc : Thread Cert.MemKvWeightGradIdeal.nD Cert.MemKvWeightGradIdeal.τ).loc Cert.MemKvWeightGradIdeal.main_arg1))

def preserves_MemkvBwd_MemkvBwdIdeal : Prop :=
  True

def algebraic_MemkvBwdIdeal_MemoryKvGradIdeal [hMemkvBwdIdeal : Cert.MemkvBwdIdeal.Facts] [hMemoryKvGradIdeal : Cert.MemoryKvGradIdeal.Facts] : Prop :=
  ∀ (m : (ℓ : Loc Cert.MemkvBwdIdeal.nD Cert.MemkvBwdIdeal.τ Cert.MemkvBwdIdeal.sig) → Buf (Elt Ideal) ℓ) (g : Dev Cert.MemkvBwdIdeal.nD → PrngReg)
    (m' : (ℓ : Loc Cert.MemoryKvGradIdeal.nD Cert.MemoryKvGradIdeal.τ Cert.MemoryKvGradIdeal.sig) → Buf (Elt Ideal) ℓ) (g' : Dev Cert.MemoryKvGradIdeal.nD → PrngReg), Pre_MemkvBwdIdeal m →
    (∀ c : Dev Cert.MemkvBwdIdeal.nD,
      m' ((c.tc : Thread Cert.MemoryKvGradIdeal.nD Cert.MemoryKvGradIdeal.τ).loc Cert.MemoryKvGradIdeal.main_arg0) = m ((c.tc : Thread Cert.MemkvBwdIdeal.nD Cert.MemkvBwdIdeal.τ).loc Cert.MemkvBwdIdeal.main_arg0)
      ∧ m' ((c.tc : Thread Cert.MemoryKvGradIdeal.nD Cert.MemoryKvGradIdeal.τ).loc Cert.MemoryKvGradIdeal.main_arg1) = m ((c.tc : Thread Cert.MemkvBwdIdeal.nD Cert.MemkvBwdIdeal.τ).loc Cert.MemkvBwdIdeal.main_arg1)
      ∧ m' ((c.tc : Thread Cert.MemoryKvGradIdeal.nD Cert.MemoryKvGradIdeal.τ).loc Cert.MemoryKvGradIdeal.main_arg2) = m ((c.tc : Thread Cert.MemkvBwdIdeal.nD Cert.MemkvBwdIdeal.τ).loc Cert.MemkvBwdIdeal.main_arg2)
      ∧ m' ((c.tc : Thread Cert.MemoryKvGradIdeal.nD Cert.MemoryKvGradIdeal.τ).loc Cert.MemoryKvGradIdeal.main_arg3) = m ((c.tc : Thread Cert.MemkvBwdIdeal.nD Cert.MemkvBwdIdeal.τ).loc Cert.MemkvBwdIdeal.main_arg3)) →
    ∃ (v0 : (c : Dev Cert.MemkvBwdIdeal.nD) → Buf (Elt Ideal) ((c.tc : Thread Cert.MemkvBwdIdeal.nD Cert.MemkvBwdIdeal.τ).loc Cert.MemkvBwdIdeal.main_v0_0)) (v1 : (c : Dev Cert.MemkvBwdIdeal.nD) → Buf (Elt Ideal) ((c.tc : Thread Cert.MemkvBwdIdeal.nD Cert.MemkvBwdIdeal.τ).loc Cert.MemkvBwdIdeal.main_v0_1)),
      θ_run (Cert.MemkvBwdIdeal.defs (F := Ideal)) (onTc (τ := Cert.MemkvBwdIdeal.τ) (Cert.MemkvBwdIdeal.main (F := Ideal))) ⟨m, fun _ => 0, g⟩ (fun r => ∀ c : Dev Cert.MemkvBwdIdeal.nD,
          r.2.mem ((c.tc : Thread Cert.MemkvBwdIdeal.nD Cert.MemkvBwdIdeal.τ).loc Cert.MemkvBwdIdeal.main_v0_0) = v0 c
          ∧ r.2.mem ((c.tc : Thread Cert.MemkvBwdIdeal.nD Cert.MemkvBwdIdeal.τ).loc Cert.MemkvBwdIdeal.main_v0_1) = v1 c
          ∧ r.2.mem ((c.tc : Thread Cert.MemkvBwdIdeal.nD Cert.MemkvBwdIdeal.τ).loc Cert.MemkvBwdIdeal.main_arg0) = m ((c.tc : Thread Cert.MemkvBwdIdeal.nD Cert.MemkvBwdIdeal.τ).loc Cert.MemkvBwdIdeal.main_arg0)
          ∧ r.2.mem ((c.tc : Thread Cert.MemkvBwdIdeal.nD Cert.MemkvBwdIdeal.τ).loc Cert.MemkvBwdIdeal.main_arg1) = m ((c.tc : Thread Cert.MemkvBwdIdeal.nD Cert.MemkvBwdIdeal.τ).loc Cert.MemkvBwdIdeal.main_arg1)
          ∧ r.2.mem ((c.tc : Thread Cert.MemkvBwdIdeal.nD Cert.MemkvBwdIdeal.τ).loc Cert.MemkvBwdIdeal.main_arg2) = m ((c.tc : Thread Cert.MemkvBwdIdeal.nD Cert.MemkvBwdIdeal.τ).loc Cert.MemkvBwdIdeal.main_arg2)
          ∧ r.2.mem ((c.tc : Thread Cert.MemkvBwdIdeal.nD Cert.MemkvBwdIdeal.τ).loc Cert.MemkvBwdIdeal.main_arg3) = m ((c.tc : Thread Cert.MemkvBwdIdeal.nD Cert.MemkvBwdIdeal.τ).loc Cert.MemkvBwdIdeal.main_arg3))
      ∧ θ_run (Cert.MemoryKvGradIdeal.defs (F := Ideal)) (onTc (τ := Cert.MemoryKvGradIdeal.τ) (Cert.MemoryKvGradIdeal.main (F := Ideal))) ⟨m', fun _ => 0, g'⟩ (fun r => ∀ c : Dev Cert.MemoryKvGradIdeal.nD,
          r.2.mem ((c.tc : Thread Cert.MemoryKvGradIdeal.nD Cert.MemoryKvGradIdeal.τ).loc Cert.MemoryKvGradIdeal.main_v37) = v0 c
          ∧ r.2.mem ((c.tc : Thread Cert.MemoryKvGradIdeal.nD Cert.MemoryKvGradIdeal.τ).loc Cert.MemoryKvGradIdeal.main_v20) = v1 c
          ∧ r.2.mem ((c.tc : Thread Cert.MemoryKvGradIdeal.nD Cert.MemoryKvGradIdeal.τ).loc Cert.MemoryKvGradIdeal.main_arg0) = m' ((c.tc : Thread Cert.MemoryKvGradIdeal.nD Cert.MemoryKvGradIdeal.τ).loc Cert.MemoryKvGradIdeal.main_arg0)
          ∧ r.2.mem ((c.tc : Thread Cert.MemoryKvGradIdeal.nD Cert.MemoryKvGradIdeal.τ).loc Cert.MemoryKvGradIdeal.main_arg1) = m' ((c.tc : Thread Cert.MemoryKvGradIdeal.nD Cert.MemoryKvGradIdeal.τ).loc Cert.MemoryKvGradIdeal.main_arg1)
          ∧ r.2.mem ((c.tc : Thread Cert.MemoryKvGradIdeal.nD Cert.MemoryKvGradIdeal.τ).loc Cert.MemoryKvGradIdeal.main_arg2) = m' ((c.tc : Thread Cert.MemoryKvGradIdeal.nD Cert.MemoryKvGradIdeal.τ).loc Cert.MemoryKvGradIdeal.main_arg2)
          ∧ r.2.mem ((c.tc : Thread Cert.MemoryKvGradIdeal.nD Cert.MemoryKvGradIdeal.τ).loc Cert.MemoryKvGradIdeal.main_arg3) = m' ((c.tc : Thread Cert.MemoryKvGradIdeal.nD Cert.MemoryKvGradIdeal.τ).loc Cert.MemoryKvGradIdeal.main_arg3))

def preserves_QueryUpBwd_QueryUpBwdIdeal : Prop :=
  True

def algebraic_QueryUpBwdIdeal_QueryLatentGradIdeal [hQueryUpBwdIdeal : Cert.QueryUpBwdIdeal.Facts] [hQueryLatentGradIdeal : Cert.QueryLatentGradIdeal.Facts] : Prop :=
  ∀ (m : (ℓ : Loc Cert.QueryUpBwdIdeal.nD Cert.QueryUpBwdIdeal.τ Cert.QueryUpBwdIdeal.sig) → Buf (Elt Ideal) ℓ) (g : Dev Cert.QueryUpBwdIdeal.nD → PrngReg)
    (m' : (ℓ : Loc Cert.QueryLatentGradIdeal.nD Cert.QueryLatentGradIdeal.τ Cert.QueryLatentGradIdeal.sig) → Buf (Elt Ideal) ℓ) (g' : Dev Cert.QueryLatentGradIdeal.nD → PrngReg), Pre_QueryUpBwdIdeal m →
    (∀ c : Dev Cert.QueryUpBwdIdeal.nD,
      m' ((c.tc : Thread Cert.QueryLatentGradIdeal.nD Cert.QueryLatentGradIdeal.τ).loc Cert.QueryLatentGradIdeal.main_arg0) = m ((c.tc : Thread Cert.QueryUpBwdIdeal.nD Cert.QueryUpBwdIdeal.τ).loc Cert.QueryUpBwdIdeal.main_arg0)
      ∧ m' ((c.tc : Thread Cert.QueryLatentGradIdeal.nD Cert.QueryLatentGradIdeal.τ).loc Cert.QueryLatentGradIdeal.main_arg1) = m ((c.tc : Thread Cert.QueryUpBwdIdeal.nD Cert.QueryUpBwdIdeal.τ).loc Cert.QueryUpBwdIdeal.main_arg1)
      ∧ m' ((c.tc : Thread Cert.QueryLatentGradIdeal.nD Cert.QueryLatentGradIdeal.τ).loc Cert.QueryLatentGradIdeal.main_arg2) = m ((c.tc : Thread Cert.QueryUpBwdIdeal.nD Cert.QueryUpBwdIdeal.τ).loc Cert.QueryUpBwdIdeal.main_arg2)
      ∧ m' ((c.tc : Thread Cert.QueryLatentGradIdeal.nD Cert.QueryLatentGradIdeal.τ).loc Cert.QueryLatentGradIdeal.main_arg3) = m ((c.tc : Thread Cert.QueryUpBwdIdeal.nD Cert.QueryUpBwdIdeal.τ).loc Cert.QueryUpBwdIdeal.main_arg3)) →
    ∃ (v0 : (c : Dev Cert.QueryUpBwdIdeal.nD) → Buf (Elt Ideal) ((c.tc : Thread Cert.QueryUpBwdIdeal.nD Cert.QueryUpBwdIdeal.τ).loc Cert.QueryUpBwdIdeal.main_v0_0)) (v1 : (c : Dev Cert.QueryUpBwdIdeal.nD) → Buf (Elt Ideal) ((c.tc : Thread Cert.QueryUpBwdIdeal.nD Cert.QueryUpBwdIdeal.τ).loc Cert.QueryUpBwdIdeal.main_v0_1)),
      θ_run (Cert.QueryUpBwdIdeal.defs (F := Ideal)) (onTc (τ := Cert.QueryUpBwdIdeal.τ) (Cert.QueryUpBwdIdeal.main (F := Ideal))) ⟨m, fun _ => 0, g⟩ (fun r => ∀ c : Dev Cert.QueryUpBwdIdeal.nD,
          r.2.mem ((c.tc : Thread Cert.QueryUpBwdIdeal.nD Cert.QueryUpBwdIdeal.τ).loc Cert.QueryUpBwdIdeal.main_v0_0) = v0 c
          ∧ r.2.mem ((c.tc : Thread Cert.QueryUpBwdIdeal.nD Cert.QueryUpBwdIdeal.τ).loc Cert.QueryUpBwdIdeal.main_v0_1) = v1 c
          ∧ r.2.mem ((c.tc : Thread Cert.QueryUpBwdIdeal.nD Cert.QueryUpBwdIdeal.τ).loc Cert.QueryUpBwdIdeal.main_arg0) = m ((c.tc : Thread Cert.QueryUpBwdIdeal.nD Cert.QueryUpBwdIdeal.τ).loc Cert.QueryUpBwdIdeal.main_arg0)
          ∧ r.2.mem ((c.tc : Thread Cert.QueryUpBwdIdeal.nD Cert.QueryUpBwdIdeal.τ).loc Cert.QueryUpBwdIdeal.main_arg1) = m ((c.tc : Thread Cert.QueryUpBwdIdeal.nD Cert.QueryUpBwdIdeal.τ).loc Cert.QueryUpBwdIdeal.main_arg1)
          ∧ r.2.mem ((c.tc : Thread Cert.QueryUpBwdIdeal.nD Cert.QueryUpBwdIdeal.τ).loc Cert.QueryUpBwdIdeal.main_arg2) = m ((c.tc : Thread Cert.QueryUpBwdIdeal.nD Cert.QueryUpBwdIdeal.τ).loc Cert.QueryUpBwdIdeal.main_arg2)
          ∧ r.2.mem ((c.tc : Thread Cert.QueryUpBwdIdeal.nD Cert.QueryUpBwdIdeal.τ).loc Cert.QueryUpBwdIdeal.main_arg3) = m ((c.tc : Thread Cert.QueryUpBwdIdeal.nD Cert.QueryUpBwdIdeal.τ).loc Cert.QueryUpBwdIdeal.main_arg3))
      ∧ θ_run (Cert.QueryLatentGradIdeal.defs (F := Ideal)) (onTc (τ := Cert.QueryLatentGradIdeal.τ) (Cert.QueryLatentGradIdeal.main (F := Ideal))) ⟨m', fun _ => 0, g'⟩ (fun r => ∀ c : Dev Cert.QueryLatentGradIdeal.nD,
          r.2.mem ((c.tc : Thread Cert.QueryLatentGradIdeal.nD Cert.QueryLatentGradIdeal.τ).loc Cert.QueryLatentGradIdeal.main_v39) = v0 c
          ∧ r.2.mem ((c.tc : Thread Cert.QueryLatentGradIdeal.nD Cert.QueryLatentGradIdeal.τ).loc Cert.QueryLatentGradIdeal.main_v22) = v1 c
          ∧ r.2.mem ((c.tc : Thread Cert.QueryLatentGradIdeal.nD Cert.QueryLatentGradIdeal.τ).loc Cert.QueryLatentGradIdeal.main_arg0) = m' ((c.tc : Thread Cert.QueryLatentGradIdeal.nD Cert.QueryLatentGradIdeal.τ).loc Cert.QueryLatentGradIdeal.main_arg0)
          ∧ r.2.mem ((c.tc : Thread Cert.QueryLatentGradIdeal.nD Cert.QueryLatentGradIdeal.τ).loc Cert.QueryLatentGradIdeal.main_arg1) = m' ((c.tc : Thread Cert.QueryLatentGradIdeal.nD Cert.QueryLatentGradIdeal.τ).loc Cert.QueryLatentGradIdeal.main_arg1)
          ∧ r.2.mem ((c.tc : Thread Cert.QueryLatentGradIdeal.nD Cert.QueryLatentGradIdeal.τ).loc Cert.QueryLatentGradIdeal.main_arg2) = m' ((c.tc : Thread Cert.QueryLatentGradIdeal.nD Cert.QueryLatentGradIdeal.τ).loc Cert.QueryLatentGradIdeal.main_arg2)
          ∧ r.2.mem ((c.tc : Thread Cert.QueryLatentGradIdeal.nD Cert.QueryLatentGradIdeal.τ).loc Cert.QueryLatentGradIdeal.main_arg3) = m' ((c.tc : Thread Cert.QueryLatentGradIdeal.nD Cert.QueryLatentGradIdeal.τ).loc Cert.QueryLatentGradIdeal.main_arg3))

def preserves_KvUpBwd_KvUpBwdIdeal : Prop :=
  True

def algebraic_KvUpBwdIdeal_KvLatentGradIdeal [hKvUpBwdIdeal : Cert.KvUpBwdIdeal.Facts] [hKvLatentGradIdeal : Cert.KvLatentGradIdeal.Facts] : Prop :=
  ∀ (m : (ℓ : Loc Cert.KvUpBwdIdeal.nD Cert.KvUpBwdIdeal.τ Cert.KvUpBwdIdeal.sig) → Buf (Elt Ideal) ℓ) (g : Dev Cert.KvUpBwdIdeal.nD → PrngReg)
    (m' : (ℓ : Loc Cert.KvLatentGradIdeal.nD Cert.KvLatentGradIdeal.τ Cert.KvLatentGradIdeal.sig) → Buf (Elt Ideal) ℓ) (g' : Dev Cert.KvLatentGradIdeal.nD → PrngReg), Pre_KvUpBwdIdeal m →
    (∀ c : Dev Cert.KvUpBwdIdeal.nD,
      m' ((c.tc : Thread Cert.KvLatentGradIdeal.nD Cert.KvLatentGradIdeal.τ).loc Cert.KvLatentGradIdeal.main_arg0) = m ((c.tc : Thread Cert.KvUpBwdIdeal.nD Cert.KvUpBwdIdeal.τ).loc Cert.KvUpBwdIdeal.main_arg0)
      ∧ m' ((c.tc : Thread Cert.KvLatentGradIdeal.nD Cert.KvLatentGradIdeal.τ).loc Cert.KvLatentGradIdeal.main_arg1) = m ((c.tc : Thread Cert.KvUpBwdIdeal.nD Cert.KvUpBwdIdeal.τ).loc Cert.KvUpBwdIdeal.main_arg1)
      ∧ m' ((c.tc : Thread Cert.KvLatentGradIdeal.nD Cert.KvLatentGradIdeal.τ).loc Cert.KvLatentGradIdeal.main_arg2) = m ((c.tc : Thread Cert.KvUpBwdIdeal.nD Cert.KvUpBwdIdeal.τ).loc Cert.KvUpBwdIdeal.main_arg2)
      ∧ m' ((c.tc : Thread Cert.KvLatentGradIdeal.nD Cert.KvLatentGradIdeal.τ).loc Cert.KvLatentGradIdeal.main_arg3) = m ((c.tc : Thread Cert.KvUpBwdIdeal.nD Cert.KvUpBwdIdeal.τ).loc Cert.KvUpBwdIdeal.main_arg3)) →
    ∃ (v0 : (c : Dev Cert.KvUpBwdIdeal.nD) → Buf (Elt Ideal) ((c.tc : Thread Cert.KvUpBwdIdeal.nD Cert.KvUpBwdIdeal.τ).loc Cert.KvUpBwdIdeal.main_v0_0)) (v1 : (c : Dev Cert.KvUpBwdIdeal.nD) → Buf (Elt Ideal) ((c.tc : Thread Cert.KvUpBwdIdeal.nD Cert.KvUpBwdIdeal.τ).loc Cert.KvUpBwdIdeal.main_v0_1)),
      θ_run (Cert.KvUpBwdIdeal.defs (F := Ideal)) (onTc (τ := Cert.KvUpBwdIdeal.τ) (Cert.KvUpBwdIdeal.main (F := Ideal))) ⟨m, fun _ => 0, g⟩ (fun r => ∀ c : Dev Cert.KvUpBwdIdeal.nD,
          r.2.mem ((c.tc : Thread Cert.KvUpBwdIdeal.nD Cert.KvUpBwdIdeal.τ).loc Cert.KvUpBwdIdeal.main_v0_0) = v0 c
          ∧ r.2.mem ((c.tc : Thread Cert.KvUpBwdIdeal.nD Cert.KvUpBwdIdeal.τ).loc Cert.KvUpBwdIdeal.main_v0_1) = v1 c
          ∧ r.2.mem ((c.tc : Thread Cert.KvUpBwdIdeal.nD Cert.KvUpBwdIdeal.τ).loc Cert.KvUpBwdIdeal.main_arg0) = m ((c.tc : Thread Cert.KvUpBwdIdeal.nD Cert.KvUpBwdIdeal.τ).loc Cert.KvUpBwdIdeal.main_arg0)
          ∧ r.2.mem ((c.tc : Thread Cert.KvUpBwdIdeal.nD Cert.KvUpBwdIdeal.τ).loc Cert.KvUpBwdIdeal.main_arg1) = m ((c.tc : Thread Cert.KvUpBwdIdeal.nD Cert.KvUpBwdIdeal.τ).loc Cert.KvUpBwdIdeal.main_arg1)
          ∧ r.2.mem ((c.tc : Thread Cert.KvUpBwdIdeal.nD Cert.KvUpBwdIdeal.τ).loc Cert.KvUpBwdIdeal.main_arg2) = m ((c.tc : Thread Cert.KvUpBwdIdeal.nD Cert.KvUpBwdIdeal.τ).loc Cert.KvUpBwdIdeal.main_arg2)
          ∧ r.2.mem ((c.tc : Thread Cert.KvUpBwdIdeal.nD Cert.KvUpBwdIdeal.τ).loc Cert.KvUpBwdIdeal.main_arg3) = m ((c.tc : Thread Cert.KvUpBwdIdeal.nD Cert.KvUpBwdIdeal.τ).loc Cert.KvUpBwdIdeal.main_arg3))
      ∧ θ_run (Cert.KvLatentGradIdeal.defs (F := Ideal)) (onTc (τ := Cert.KvLatentGradIdeal.τ) (Cert.KvLatentGradIdeal.main (F := Ideal))) ⟨m', fun _ => 0, g'⟩ (fun r => ∀ c : Dev Cert.KvLatentGradIdeal.nD,
          r.2.mem ((c.tc : Thread Cert.KvLatentGradIdeal.nD Cert.KvLatentGradIdeal.τ).loc Cert.KvLatentGradIdeal.main_v39) = v0 c
          ∧ r.2.mem ((c.tc : Thread Cert.KvLatentGradIdeal.nD Cert.KvLatentGradIdeal.τ).loc Cert.KvLatentGradIdeal.main_v22) = v1 c
          ∧ r.2.mem ((c.tc : Thread Cert.KvLatentGradIdeal.nD Cert.KvLatentGradIdeal.τ).loc Cert.KvLatentGradIdeal.main_arg0) = m' ((c.tc : Thread Cert.KvLatentGradIdeal.nD Cert.KvLatentGradIdeal.τ).loc Cert.KvLatentGradIdeal.main_arg0)
          ∧ r.2.mem ((c.tc : Thread Cert.KvLatentGradIdeal.nD Cert.KvLatentGradIdeal.τ).loc Cert.KvLatentGradIdeal.main_arg1) = m' ((c.tc : Thread Cert.KvLatentGradIdeal.nD Cert.KvLatentGradIdeal.τ).loc Cert.KvLatentGradIdeal.main_arg1)
          ∧ r.2.mem ((c.tc : Thread Cert.KvLatentGradIdeal.nD Cert.KvLatentGradIdeal.τ).loc Cert.KvLatentGradIdeal.main_arg2) = m' ((c.tc : Thread Cert.KvLatentGradIdeal.nD Cert.KvLatentGradIdeal.τ).loc Cert.KvLatentGradIdeal.main_arg2)
          ∧ r.2.mem ((c.tc : Thread Cert.KvLatentGradIdeal.nD Cert.KvLatentGradIdeal.τ).loc Cert.KvLatentGradIdeal.main_arg3) = m' ((c.tc : Thread Cert.KvLatentGradIdeal.nD Cert.KvLatentGradIdeal.τ).loc Cert.KvLatentGradIdeal.main_arg3))

def preserves_ConvNormBwd_ConvNormBwdIdeal : Prop :=
  True

def algebraic_ConvNormBwdIdeal_ConvNormGradIdeal_pre_conv_finite [hConvNormBwdIdeal : Cert.ConvNormBwdIdeal.Facts] [hConvNormGradIdeal : Cert.ConvNormGradIdeal.Facts] [hPre_conv_finite : Cert.Pre_conv_finite.Facts] : Prop :=
  ∀ (m : (ℓ : Loc Cert.ConvNormBwdIdeal.nD Cert.ConvNormBwdIdeal.τ Cert.ConvNormBwdIdeal.sig) → Buf (Elt Ideal) ℓ) (g : Dev Cert.ConvNormBwdIdeal.nD → PrngReg)
    (m' : (ℓ : Loc Cert.ConvNormGradIdeal.nD Cert.ConvNormGradIdeal.τ Cert.ConvNormGradIdeal.sig) → Buf (Elt Ideal) ℓ) (g' : Dev Cert.ConvNormGradIdeal.nD → PrngReg), Pre_ConvNormBwdIdeal_conv_finite m →
    (∀ c : Dev Cert.ConvNormBwdIdeal.nD,
      m' ((c.tc : Thread Cert.ConvNormGradIdeal.nD Cert.ConvNormGradIdeal.τ).loc Cert.ConvNormGradIdeal.main_arg0) = m ((c.tc : Thread Cert.ConvNormBwdIdeal.nD Cert.ConvNormBwdIdeal.τ).loc Cert.ConvNormBwdIdeal.main_arg0)
      ∧ m' ((c.tc : Thread Cert.ConvNormGradIdeal.nD Cert.ConvNormGradIdeal.τ).loc Cert.ConvNormGradIdeal.main_arg1) = m ((c.tc : Thread Cert.ConvNormBwdIdeal.nD Cert.ConvNormBwdIdeal.τ).loc Cert.ConvNormBwdIdeal.main_arg1)
      ∧ m' ((c.tc : Thread Cert.ConvNormGradIdeal.nD Cert.ConvNormGradIdeal.τ).loc Cert.ConvNormGradIdeal.main_arg2) = m ((c.tc : Thread Cert.ConvNormBwdIdeal.nD Cert.ConvNormBwdIdeal.τ).loc Cert.ConvNormBwdIdeal.main_arg2)
      ∧ m' ((c.tc : Thread Cert.ConvNormGradIdeal.nD Cert.ConvNormGradIdeal.τ).loc Cert.ConvNormGradIdeal.main_arg3) = m ((c.tc : Thread Cert.ConvNormBwdIdeal.nD Cert.ConvNormBwdIdeal.τ).loc Cert.ConvNormBwdIdeal.main_arg3)) →
    ∃ (v0 : (c : Dev Cert.ConvNormBwdIdeal.nD) → Buf (Elt Ideal) ((c.tc : Thread Cert.ConvNormBwdIdeal.nD Cert.ConvNormBwdIdeal.τ).loc Cert.ConvNormBwdIdeal.main_v0_0)) (v1 : (c : Dev Cert.ConvNormBwdIdeal.nD) → Buf (Elt Ideal) ((c.tc : Thread Cert.ConvNormBwdIdeal.nD Cert.ConvNormBwdIdeal.τ).loc Cert.ConvNormBwdIdeal.main_v0_1)) (v2 : (c : Dev Cert.ConvNormBwdIdeal.nD) → Buf (Elt Ideal) ((c.tc : Thread Cert.ConvNormBwdIdeal.nD Cert.ConvNormBwdIdeal.τ).loc Cert.ConvNormBwdIdeal.main_v0_2)) (v3 : (c : Dev Cert.ConvNormBwdIdeal.nD) → Buf (Elt Ideal) ((c.tc : Thread Cert.ConvNormBwdIdeal.nD Cert.ConvNormBwdIdeal.τ).loc Cert.ConvNormBwdIdeal.main_v0_3)),
      θ_run (Cert.ConvNormBwdIdeal.defs (F := Ideal)) (onTc (τ := Cert.ConvNormBwdIdeal.τ) (Cert.ConvNormBwdIdeal.main (F := Ideal))) ⟨m, fun _ => 0, g⟩ (fun r => ∀ c : Dev Cert.ConvNormBwdIdeal.nD,
          r.2.mem ((c.tc : Thread Cert.ConvNormBwdIdeal.nD Cert.ConvNormBwdIdeal.τ).loc Cert.ConvNormBwdIdeal.main_v0_0) = v0 c
          ∧ r.2.mem ((c.tc : Thread Cert.ConvNormBwdIdeal.nD Cert.ConvNormBwdIdeal.τ).loc Cert.ConvNormBwdIdeal.main_v0_1) = v1 c
          ∧ r.2.mem ((c.tc : Thread Cert.ConvNormBwdIdeal.nD Cert.ConvNormBwdIdeal.τ).loc Cert.ConvNormBwdIdeal.main_v0_2) = v2 c
          ∧ r.2.mem ((c.tc : Thread Cert.ConvNormBwdIdeal.nD Cert.ConvNormBwdIdeal.τ).loc Cert.ConvNormBwdIdeal.main_v0_3) = v3 c
          ∧ r.2.mem ((c.tc : Thread Cert.ConvNormBwdIdeal.nD Cert.ConvNormBwdIdeal.τ).loc Cert.ConvNormBwdIdeal.main_arg0) = m ((c.tc : Thread Cert.ConvNormBwdIdeal.nD Cert.ConvNormBwdIdeal.τ).loc Cert.ConvNormBwdIdeal.main_arg0)
          ∧ r.2.mem ((c.tc : Thread Cert.ConvNormBwdIdeal.nD Cert.ConvNormBwdIdeal.τ).loc Cert.ConvNormBwdIdeal.main_arg1) = m ((c.tc : Thread Cert.ConvNormBwdIdeal.nD Cert.ConvNormBwdIdeal.τ).loc Cert.ConvNormBwdIdeal.main_arg1)
          ∧ r.2.mem ((c.tc : Thread Cert.ConvNormBwdIdeal.nD Cert.ConvNormBwdIdeal.τ).loc Cert.ConvNormBwdIdeal.main_arg2) = m ((c.tc : Thread Cert.ConvNormBwdIdeal.nD Cert.ConvNormBwdIdeal.τ).loc Cert.ConvNormBwdIdeal.main_arg2)
          ∧ r.2.mem ((c.tc : Thread Cert.ConvNormBwdIdeal.nD Cert.ConvNormBwdIdeal.τ).loc Cert.ConvNormBwdIdeal.main_arg3) = m ((c.tc : Thread Cert.ConvNormBwdIdeal.nD Cert.ConvNormBwdIdeal.τ).loc Cert.ConvNormBwdIdeal.main_arg3))
      ∧ θ_run (Cert.ConvNormGradIdeal.defs (F := Ideal)) (onTc (τ := Cert.ConvNormGradIdeal.τ) (Cert.ConvNormGradIdeal.main (F := Ideal))) ⟨m', fun _ => 0, g'⟩ (fun r => ∀ c : Dev Cert.ConvNormGradIdeal.nD,
          r.2.mem ((c.tc : Thread Cert.ConvNormGradIdeal.nD Cert.ConvNormGradIdeal.τ).loc Cert.ConvNormGradIdeal.main_v53) = v0 c
          ∧ r.2.mem ((c.tc : Thread Cert.ConvNormGradIdeal.nD Cert.ConvNormGradIdeal.τ).loc Cert.ConvNormGradIdeal.main_v29) = v1 c
          ∧ r.2.mem ((c.tc : Thread Cert.ConvNormGradIdeal.nD Cert.ConvNormGradIdeal.τ).loc Cert.ConvNormGradIdeal.main_v26) = v2 c
          ∧ r.2.mem ((c.tc : Thread Cert.ConvNormGradIdeal.nD Cert.ConvNormGradIdeal.τ).loc Cert.ConvNormGradIdeal.main_v59) = v3 c
          ∧ r.2.mem ((c.tc : Thread Cert.ConvNormGradIdeal.nD Cert.ConvNormGradIdeal.τ).loc Cert.ConvNormGradIdeal.main_arg0) = m' ((c.tc : Thread Cert.ConvNormGradIdeal.nD Cert.ConvNormGradIdeal.τ).loc Cert.ConvNormGradIdeal.main_arg0)
          ∧ r.2.mem ((c.tc : Thread Cert.ConvNormGradIdeal.nD Cert.ConvNormGradIdeal.τ).loc Cert.ConvNormGradIdeal.main_arg1) = m' ((c.tc : Thread Cert.ConvNormGradIdeal.nD Cert.ConvNormGradIdeal.τ).loc Cert.ConvNormGradIdeal.main_arg1)
          ∧ r.2.mem ((c.tc : Thread Cert.ConvNormGradIdeal.nD Cert.ConvNormGradIdeal.τ).loc Cert.ConvNormGradIdeal.main_arg2) = m' ((c.tc : Thread Cert.ConvNormGradIdeal.nD Cert.ConvNormGradIdeal.τ).loc Cert.ConvNormGradIdeal.main_arg2)
          ∧ r.2.mem ((c.tc : Thread Cert.ConvNormGradIdeal.nD Cert.ConvNormGradIdeal.τ).loc Cert.ConvNormGradIdeal.main_arg3) = m' ((c.tc : Thread Cert.ConvNormGradIdeal.nD Cert.ConvNormGradIdeal.τ).loc Cert.ConvNormGradIdeal.main_arg3))

def Claim : Prop :=
  ∃ (hKernel : Cert.Kernel.Facts) (hKernelIdeal : Cert.KernelIdeal.Facts) (hReferenceIdeal : Cert.ReferenceIdeal.Facts) (hUpBwd : Cert.UpBwd.Facts) (hUpBwdIdeal : Cert.UpBwdIdeal.Facts) (hUpGradIdeal : Cert.UpGradIdeal.Facts) (hDwUp : Cert.DwUp.Facts) (hDwUpIdeal : Cert.DwUpIdeal.Facts) (hUpWeightGradIdeal : Cert.UpWeightGradIdeal.Facts) (hDownBwd : Cert.DownBwd.Facts) (hDownBwdIdeal : Cert.DownBwdIdeal.Facts) (hDownGradIdeal : Cert.DownGradIdeal.Facts) (hDwDown : Cert.DwDown.Facts) (hDwDownIdeal : Cert.DwDownIdeal.Facts) (hDownWeightGradIdeal : Cert.DownWeightGradIdeal.Facts) (hDownLoss : Cert.DownLoss.Facts) (hDownLossIdeal : Cert.DownLossIdeal.Facts) (hLossGradIdeal : Cert.LossGradIdeal.Facts) (hDwSquare : Cert.DwSquare.Facts) (hDwSquareIdeal : Cert.DwSquareIdeal.Facts) (hSquareWeightGradIdeal : Cert.SquareWeightGradIdeal.Facts) (hMemoProj : Cert.MemoProj.Facts) (hMemoProjIdeal : Cert.MemoProjIdeal.Facts) (hMemoryOutIdeal : Cert.MemoryOutIdeal.Facts) (hMemoBwd : Cert.MemoBwd.Facts) (hMemoBwdIdeal : Cert.MemoBwdIdeal.Facts) (hMemoryOutGradIdeal : Cert.MemoryOutGradIdeal.Facts) (hMemqBwd : Cert.MemqBwd.Facts) (hMemqBwdIdeal : Cert.MemqBwdIdeal.Facts) (hMemoryQueryGradIdeal : Cert.MemoryQueryGradIdeal.Facts) (hMemqProj : Cert.MemqProj.Facts) (hMemqProjIdeal : Cert.MemqProjIdeal.Facts) (hMemoryQueryIdeal : Cert.MemoryQueryIdeal.Facts) (hUpProj : Cert.UpProj.Facts) (hUpProjIdeal : Cert.UpProjIdeal.Facts) (hUpProductIdeal : Cert.UpProductIdeal.Facts) (hInBwd : Cert.InBwd.Facts) (hInBwdIdeal : Cert.InBwdIdeal.Facts) (hInGradIdeal : Cert.InGradIdeal.Facts) (hInProj : Cert.InProj.Facts) (hInProjIdeal : Cert.InProjIdeal.Facts) (hInProductIdeal : Cert.InProductIdeal.Facts) (hOutProj : Cert.OutProj.Facts) (hOutProjIdeal : Cert.OutProjIdeal.Facts) (hMixOutIdeal : Cert.MixOutIdeal.Facts) (hAdamIn : Cert.AdamIn.Facts) (hAdamInIdeal : Cert.AdamInIdeal.Facts) (hAdamInStepIdeal : Cert.AdamInStepIdeal.Facts) (hAdamUq : Cert.AdamUq.Facts) (hAdamUqIdeal : Cert.AdamUqIdeal.Facts) (hAdamUqStepIdeal : Cert.AdamUqStepIdeal.Facts) (hAdamUkv : Cert.AdamUkv.Facts) (hAdamUkvIdeal : Cert.AdamUkvIdeal.Facts) (hAdamUkvStepIdeal : Cert.AdamUkvStepIdeal.Facts) (hAdamSquare : Cert.AdamSquare.Facts) (hAdamSquareIdeal : Cert.AdamSquareIdeal.Facts) (hAdamSquareStepIdeal : Cert.AdamSquareStepIdeal.Facts) (hAdamMemKv : Cert.AdamMemKv.Facts) (hAdamMemKvIdeal : Cert.AdamMemKvIdeal.Facts) (hAdamMemKvStepIdeal : Cert.AdamMemKvStepIdeal.Facts) (hAdamUp : Cert.AdamUp.Facts) (hAdamUpIdeal : Cert.AdamUpIdeal.Facts) (hAdamUpStepIdeal : Cert.AdamUpStepIdeal.Facts) (hAdamDown : Cert.AdamDown.Facts) (hAdamDownIdeal : Cert.AdamDownIdeal.Facts) (hAdamDownStepIdeal : Cert.AdamDownStepIdeal.Facts) (hDwOutU : Cert.DwOutU.Facts) (hDwOutUIdeal : Cert.DwOutUIdeal.Facts) (hOutUWeightGradIdeal : Cert.OutUWeightGradIdeal.Facts) (hDwUq : Cert.DwUq.Facts) (hDwUqIdeal : Cert.DwUqIdeal.Facts) (hUqWeightGradIdeal : Cert.UqWeightGradIdeal.Facts) (hDwUkv : Cert.DwUkv.Facts) (hDwUkvIdeal : Cert.DwUkvIdeal.Facts) (hUkvWeightGradIdeal : Cert.UkvWeightGradIdeal.Facts) (hDwInQuery : Cert.DwInQuery.Facts) (hDwInQueryIdeal : Cert.DwInQueryIdeal.Facts) (hInQueryWeightGradIdeal : Cert.InQueryWeightGradIdeal.Facts) (hDwInKv : Cert.DwInKv.Facts) (hDwInKvIdeal : Cert.DwInKvIdeal.Facts) (hInKvWeightGradIdeal : Cert.InKvWeightGradIdeal.Facts) (hDwInRope : Cert.DwInRope.Facts) (hDwInRopeIdeal : Cert.DwInRopeIdeal.Facts) (hInRopeWeightGradIdeal : Cert.InRopeWeightGradIdeal.Facts) (hDwMemKv : Cert.DwMemKv.Facts) (hDwMemKvIdeal : Cert.DwMemKvIdeal.Facts) (hMemKvWeightGradIdeal : Cert.MemKvWeightGradIdeal.Facts) (hMemkvBwd : Cert.MemkvBwd.Facts) (hMemkvBwdIdeal : Cert.MemkvBwdIdeal.Facts) (hMemoryKvGradIdeal : Cert.MemoryKvGradIdeal.Facts) (hQueryUpBwd : Cert.QueryUpBwd.Facts) (hQueryUpBwdIdeal : Cert.QueryUpBwdIdeal.Facts) (hQueryLatentGradIdeal : Cert.QueryLatentGradIdeal.Facts) (hKvUpBwd : Cert.KvUpBwd.Facts) (hKvUpBwdIdeal : Cert.KvUpBwdIdeal.Facts) (hKvLatentGradIdeal : Cert.KvLatentGradIdeal.Facts) (hConvNormBwd : Cert.ConvNormBwd.Facts) (hConvNormBwdIdeal : Cert.ConvNormBwdIdeal.Facts) (hConvNormGradIdeal : Cert.ConvNormGradIdeal.Facts) (hPre_gains_finite : Cert.Pre_gains_finite.Facts) (hPre_conv_finite : Cert.Pre_conv_finite.Facts),
    quiescent_Kernel (hKernel := hKernel)
    ∧ quiescent_KernelIdeal (hKernelIdeal := hKernelIdeal)
    ∧ quiescent_KernelIdeal_pre_gains_finite (hKernelIdeal := hKernelIdeal) (hPre_gains_finite := hPre_gains_finite)
    ∧ quiescent_ReferenceIdeal (hReferenceIdeal := hReferenceIdeal)
    ∧ quiescent_ReferenceIdeal_pre_gains_finite (hReferenceIdeal := hReferenceIdeal) (hPre_gains_finite := hPre_gains_finite)
    ∧ quiescent_UpBwd (hUpBwd := hUpBwd)
    ∧ quiescent_UpBwdIdeal (hUpBwdIdeal := hUpBwdIdeal)
    ∧ quiescent_UpGradIdeal (hUpGradIdeal := hUpGradIdeal)
    ∧ quiescent_DwUp (hDwUp := hDwUp)
    ∧ quiescent_DwUpIdeal (hDwUpIdeal := hDwUpIdeal)
    ∧ quiescent_UpWeightGradIdeal (hUpWeightGradIdeal := hUpWeightGradIdeal)
    ∧ quiescent_DownBwd (hDownBwd := hDownBwd)
    ∧ quiescent_DownBwdIdeal (hDownBwdIdeal := hDownBwdIdeal)
    ∧ quiescent_DownGradIdeal (hDownGradIdeal := hDownGradIdeal)
    ∧ quiescent_DwDown (hDwDown := hDwDown)
    ∧ quiescent_DwDownIdeal (hDwDownIdeal := hDwDownIdeal)
    ∧ quiescent_DownWeightGradIdeal (hDownWeightGradIdeal := hDownWeightGradIdeal)
    ∧ quiescent_DownLoss (hDownLoss := hDownLoss)
    ∧ quiescent_DownLossIdeal (hDownLossIdeal := hDownLossIdeal)
    ∧ quiescent_LossGradIdeal (hLossGradIdeal := hLossGradIdeal)
    ∧ quiescent_DwSquare (hDwSquare := hDwSquare)
    ∧ quiescent_DwSquareIdeal (hDwSquareIdeal := hDwSquareIdeal)
    ∧ quiescent_SquareWeightGradIdeal (hSquareWeightGradIdeal := hSquareWeightGradIdeal)
    ∧ quiescent_MemoProj (hMemoProj := hMemoProj)
    ∧ quiescent_MemoProjIdeal (hMemoProjIdeal := hMemoProjIdeal)
    ∧ quiescent_MemoryOutIdeal (hMemoryOutIdeal := hMemoryOutIdeal)
    ∧ quiescent_MemoBwd (hMemoBwd := hMemoBwd)
    ∧ quiescent_MemoBwdIdeal (hMemoBwdIdeal := hMemoBwdIdeal)
    ∧ quiescent_MemoryOutGradIdeal (hMemoryOutGradIdeal := hMemoryOutGradIdeal)
    ∧ quiescent_MemqBwd (hMemqBwd := hMemqBwd)
    ∧ quiescent_MemqBwdIdeal (hMemqBwdIdeal := hMemqBwdIdeal)
    ∧ quiescent_MemoryQueryGradIdeal (hMemoryQueryGradIdeal := hMemoryQueryGradIdeal)
    ∧ quiescent_MemqProj (hMemqProj := hMemqProj)
    ∧ quiescent_MemqProjIdeal (hMemqProjIdeal := hMemqProjIdeal)
    ∧ quiescent_MemoryQueryIdeal (hMemoryQueryIdeal := hMemoryQueryIdeal)
    ∧ quiescent_UpProj (hUpProj := hUpProj)
    ∧ quiescent_UpProjIdeal (hUpProjIdeal := hUpProjIdeal)
    ∧ quiescent_UpProductIdeal (hUpProductIdeal := hUpProductIdeal)
    ∧ quiescent_InBwd (hInBwd := hInBwd)
    ∧ quiescent_InBwdIdeal (hInBwdIdeal := hInBwdIdeal)
    ∧ quiescent_InGradIdeal (hInGradIdeal := hInGradIdeal)
    ∧ quiescent_InProj (hInProj := hInProj)
    ∧ quiescent_InProjIdeal (hInProjIdeal := hInProjIdeal)
    ∧ quiescent_InProductIdeal (hInProductIdeal := hInProductIdeal)
    ∧ quiescent_OutProj (hOutProj := hOutProj)
    ∧ quiescent_OutProjIdeal (hOutProjIdeal := hOutProjIdeal)
    ∧ quiescent_MixOutIdeal (hMixOutIdeal := hMixOutIdeal)
    ∧ quiescent_AdamIn (hAdamIn := hAdamIn)
    ∧ quiescent_AdamInIdeal (hAdamInIdeal := hAdamInIdeal)
    ∧ quiescent_AdamInStepIdeal (hAdamInStepIdeal := hAdamInStepIdeal)
    ∧ quiescent_AdamUq (hAdamUq := hAdamUq)
    ∧ quiescent_AdamUqIdeal (hAdamUqIdeal := hAdamUqIdeal)
    ∧ quiescent_AdamUqStepIdeal (hAdamUqStepIdeal := hAdamUqStepIdeal)
    ∧ quiescent_AdamUkv (hAdamUkv := hAdamUkv)
    ∧ quiescent_AdamUkvIdeal (hAdamUkvIdeal := hAdamUkvIdeal)
    ∧ quiescent_AdamUkvStepIdeal (hAdamUkvStepIdeal := hAdamUkvStepIdeal)
    ∧ quiescent_AdamSquare (hAdamSquare := hAdamSquare)
    ∧ quiescent_AdamSquareIdeal (hAdamSquareIdeal := hAdamSquareIdeal)
    ∧ quiescent_AdamSquareStepIdeal (hAdamSquareStepIdeal := hAdamSquareStepIdeal)
    ∧ quiescent_AdamMemKv (hAdamMemKv := hAdamMemKv)
    ∧ quiescent_AdamMemKvIdeal (hAdamMemKvIdeal := hAdamMemKvIdeal)
    ∧ quiescent_AdamMemKvStepIdeal (hAdamMemKvStepIdeal := hAdamMemKvStepIdeal)
    ∧ quiescent_AdamUp (hAdamUp := hAdamUp)
    ∧ quiescent_AdamUpIdeal (hAdamUpIdeal := hAdamUpIdeal)
    ∧ quiescent_AdamUpStepIdeal (hAdamUpStepIdeal := hAdamUpStepIdeal)
    ∧ quiescent_AdamDown (hAdamDown := hAdamDown)
    ∧ quiescent_AdamDownIdeal (hAdamDownIdeal := hAdamDownIdeal)
    ∧ quiescent_AdamDownStepIdeal (hAdamDownStepIdeal := hAdamDownStepIdeal)
    ∧ quiescent_DwOutU (hDwOutU := hDwOutU)
    ∧ quiescent_DwOutUIdeal (hDwOutUIdeal := hDwOutUIdeal)
    ∧ quiescent_OutUWeightGradIdeal (hOutUWeightGradIdeal := hOutUWeightGradIdeal)
    ∧ quiescent_DwUq (hDwUq := hDwUq)
    ∧ quiescent_DwUqIdeal (hDwUqIdeal := hDwUqIdeal)
    ∧ quiescent_UqWeightGradIdeal (hUqWeightGradIdeal := hUqWeightGradIdeal)
    ∧ quiescent_DwUkv (hDwUkv := hDwUkv)
    ∧ quiescent_DwUkvIdeal (hDwUkvIdeal := hDwUkvIdeal)
    ∧ quiescent_UkvWeightGradIdeal (hUkvWeightGradIdeal := hUkvWeightGradIdeal)
    ∧ quiescent_DwInQuery (hDwInQuery := hDwInQuery)
    ∧ quiescent_DwInQueryIdeal (hDwInQueryIdeal := hDwInQueryIdeal)
    ∧ quiescent_InQueryWeightGradIdeal (hInQueryWeightGradIdeal := hInQueryWeightGradIdeal)
    ∧ quiescent_DwInKv (hDwInKv := hDwInKv)
    ∧ quiescent_DwInKvIdeal (hDwInKvIdeal := hDwInKvIdeal)
    ∧ quiescent_InKvWeightGradIdeal (hInKvWeightGradIdeal := hInKvWeightGradIdeal)
    ∧ quiescent_DwInRope (hDwInRope := hDwInRope)
    ∧ quiescent_DwInRopeIdeal (hDwInRopeIdeal := hDwInRopeIdeal)
    ∧ quiescent_InRopeWeightGradIdeal (hInRopeWeightGradIdeal := hInRopeWeightGradIdeal)
    ∧ quiescent_DwMemKv (hDwMemKv := hDwMemKv)
    ∧ quiescent_DwMemKvIdeal (hDwMemKvIdeal := hDwMemKvIdeal)
    ∧ quiescent_MemKvWeightGradIdeal (hMemKvWeightGradIdeal := hMemKvWeightGradIdeal)
    ∧ quiescent_MemkvBwd (hMemkvBwd := hMemkvBwd)
    ∧ quiescent_MemkvBwdIdeal (hMemkvBwdIdeal := hMemkvBwdIdeal)
    ∧ quiescent_MemoryKvGradIdeal (hMemoryKvGradIdeal := hMemoryKvGradIdeal)
    ∧ quiescent_QueryUpBwd (hQueryUpBwd := hQueryUpBwd)
    ∧ quiescent_QueryUpBwdIdeal (hQueryUpBwdIdeal := hQueryUpBwdIdeal)
    ∧ quiescent_QueryLatentGradIdeal (hQueryLatentGradIdeal := hQueryLatentGradIdeal)
    ∧ quiescent_KvUpBwd (hKvUpBwd := hKvUpBwd)
    ∧ quiescent_KvUpBwdIdeal (hKvUpBwdIdeal := hKvUpBwdIdeal)
    ∧ quiescent_KvLatentGradIdeal (hKvLatentGradIdeal := hKvLatentGradIdeal)
    ∧ quiescent_ConvNormBwd (hConvNormBwd := hConvNormBwd)
    ∧ quiescent_ConvNormBwdIdeal (hConvNormBwdIdeal := hConvNormBwdIdeal)
    ∧ quiescent_ConvNormBwdIdeal_pre_conv_finite (hConvNormBwdIdeal := hConvNormBwdIdeal) (hPre_conv_finite := hPre_conv_finite)
    ∧ quiescent_ConvNormGradIdeal (hConvNormGradIdeal := hConvNormGradIdeal)
    ∧ quiescent_ConvNormGradIdeal_pre_conv_finite (hConvNormGradIdeal := hConvNormGradIdeal) (hPre_conv_finite := hPre_conv_finite)
    ∧ preserves_Kernel_KernelIdeal
    ∧ algebraic_KernelIdeal_ReferenceIdeal_pre_gains_finite (hKernelIdeal := hKernelIdeal) (hReferenceIdeal := hReferenceIdeal) (hPre_gains_finite := hPre_gains_finite)
    ∧ preserves_UpBwd_UpBwdIdeal
    ∧ algebraic_UpBwdIdeal_UpGradIdeal (hUpBwdIdeal := hUpBwdIdeal) (hUpGradIdeal := hUpGradIdeal)
    ∧ preserves_DwUp_DwUpIdeal
    ∧ algebraic_DwUpIdeal_UpWeightGradIdeal (hDwUpIdeal := hDwUpIdeal) (hUpWeightGradIdeal := hUpWeightGradIdeal)
    ∧ preserves_DownBwd_DownBwdIdeal
    ∧ algebraic_DownBwdIdeal_DownGradIdeal (hDownBwdIdeal := hDownBwdIdeal) (hDownGradIdeal := hDownGradIdeal)
    ∧ preserves_DwDown_DwDownIdeal
    ∧ algebraic_DwDownIdeal_DownWeightGradIdeal (hDwDownIdeal := hDwDownIdeal) (hDownWeightGradIdeal := hDownWeightGradIdeal)
    ∧ preserves_DownLoss_DownLossIdeal
    ∧ algebraic_DownLossIdeal_LossGradIdeal (hDownLossIdeal := hDownLossIdeal) (hLossGradIdeal := hLossGradIdeal)
    ∧ preserves_DwSquare_DwSquareIdeal
    ∧ algebraic_DwSquareIdeal_SquareWeightGradIdeal (hDwSquareIdeal := hDwSquareIdeal) (hSquareWeightGradIdeal := hSquareWeightGradIdeal)
    ∧ preserves_MemoProj_MemoProjIdeal
    ∧ algebraic_MemoProjIdeal_MemoryOutIdeal (hMemoProjIdeal := hMemoProjIdeal) (hMemoryOutIdeal := hMemoryOutIdeal)
    ∧ preserves_MemoBwd_MemoBwdIdeal
    ∧ algebraic_MemoBwdIdeal_MemoryOutGradIdeal (hMemoBwdIdeal := hMemoBwdIdeal) (hMemoryOutGradIdeal := hMemoryOutGradIdeal)
    ∧ preserves_MemqBwd_MemqBwdIdeal
    ∧ algebraic_MemqBwdIdeal_MemoryQueryGradIdeal (hMemqBwdIdeal := hMemqBwdIdeal) (hMemoryQueryGradIdeal := hMemoryQueryGradIdeal)
    ∧ preserves_MemqProj_MemqProjIdeal
    ∧ algebraic_MemqProjIdeal_MemoryQueryIdeal (hMemqProjIdeal := hMemqProjIdeal) (hMemoryQueryIdeal := hMemoryQueryIdeal)
    ∧ preserves_UpProj_UpProjIdeal
    ∧ algebraic_UpProjIdeal_UpProductIdeal (hUpProjIdeal := hUpProjIdeal) (hUpProductIdeal := hUpProductIdeal)
    ∧ preserves_InBwd_InBwdIdeal
    ∧ algebraic_InBwdIdeal_InGradIdeal (hInBwdIdeal := hInBwdIdeal) (hInGradIdeal := hInGradIdeal)
    ∧ preserves_InProj_InProjIdeal
    ∧ algebraic_InProjIdeal_InProductIdeal (hInProjIdeal := hInProjIdeal) (hInProductIdeal := hInProductIdeal)
    ∧ preserves_OutProj_OutProjIdeal
    ∧ algebraic_OutProjIdeal_MixOutIdeal (hOutProjIdeal := hOutProjIdeal) (hMixOutIdeal := hMixOutIdeal)
    ∧ preserves_AdamIn_AdamInIdeal
    ∧ algebraic_AdamInIdeal_AdamInStepIdeal (hAdamInIdeal := hAdamInIdeal) (hAdamInStepIdeal := hAdamInStepIdeal)
    ∧ preserves_AdamUq_AdamUqIdeal
    ∧ algebraic_AdamUqIdeal_AdamUqStepIdeal (hAdamUqIdeal := hAdamUqIdeal) (hAdamUqStepIdeal := hAdamUqStepIdeal)
    ∧ preserves_AdamUkv_AdamUkvIdeal
    ∧ algebraic_AdamUkvIdeal_AdamUkvStepIdeal (hAdamUkvIdeal := hAdamUkvIdeal) (hAdamUkvStepIdeal := hAdamUkvStepIdeal)
    ∧ preserves_AdamSquare_AdamSquareIdeal
    ∧ algebraic_AdamSquareIdeal_AdamSquareStepIdeal (hAdamSquareIdeal := hAdamSquareIdeal) (hAdamSquareStepIdeal := hAdamSquareStepIdeal)
    ∧ preserves_AdamMemKv_AdamMemKvIdeal
    ∧ algebraic_AdamMemKvIdeal_AdamMemKvStepIdeal (hAdamMemKvIdeal := hAdamMemKvIdeal) (hAdamMemKvStepIdeal := hAdamMemKvStepIdeal)
    ∧ preserves_AdamUp_AdamUpIdeal
    ∧ algebraic_AdamUpIdeal_AdamUpStepIdeal (hAdamUpIdeal := hAdamUpIdeal) (hAdamUpStepIdeal := hAdamUpStepIdeal)
    ∧ preserves_AdamDown_AdamDownIdeal
    ∧ algebraic_AdamDownIdeal_AdamDownStepIdeal (hAdamDownIdeal := hAdamDownIdeal) (hAdamDownStepIdeal := hAdamDownStepIdeal)
    ∧ preserves_DwOutU_DwOutUIdeal
    ∧ algebraic_DwOutUIdeal_OutUWeightGradIdeal (hDwOutUIdeal := hDwOutUIdeal) (hOutUWeightGradIdeal := hOutUWeightGradIdeal)
    ∧ preserves_DwUq_DwUqIdeal
    ∧ algebraic_DwUqIdeal_UqWeightGradIdeal (hDwUqIdeal := hDwUqIdeal) (hUqWeightGradIdeal := hUqWeightGradIdeal)
    ∧ preserves_DwUkv_DwUkvIdeal
    ∧ algebraic_DwUkvIdeal_UkvWeightGradIdeal (hDwUkvIdeal := hDwUkvIdeal) (hUkvWeightGradIdeal := hUkvWeightGradIdeal)
    ∧ preserves_DwInQuery_DwInQueryIdeal
    ∧ algebraic_DwInQueryIdeal_InQueryWeightGradIdeal (hDwInQueryIdeal := hDwInQueryIdeal) (hInQueryWeightGradIdeal := hInQueryWeightGradIdeal)
    ∧ preserves_DwInKv_DwInKvIdeal
    ∧ algebraic_DwInKvIdeal_InKvWeightGradIdeal (hDwInKvIdeal := hDwInKvIdeal) (hInKvWeightGradIdeal := hInKvWeightGradIdeal)
    ∧ preserves_DwInRope_DwInRopeIdeal
    ∧ algebraic_DwInRopeIdeal_InRopeWeightGradIdeal (hDwInRopeIdeal := hDwInRopeIdeal) (hInRopeWeightGradIdeal := hInRopeWeightGradIdeal)
    ∧ preserves_DwMemKv_DwMemKvIdeal
    ∧ algebraic_DwMemKvIdeal_MemKvWeightGradIdeal (hDwMemKvIdeal := hDwMemKvIdeal) (hMemKvWeightGradIdeal := hMemKvWeightGradIdeal)
    ∧ preserves_MemkvBwd_MemkvBwdIdeal
    ∧ algebraic_MemkvBwdIdeal_MemoryKvGradIdeal (hMemkvBwdIdeal := hMemkvBwdIdeal) (hMemoryKvGradIdeal := hMemoryKvGradIdeal)
    ∧ preserves_QueryUpBwd_QueryUpBwdIdeal
    ∧ algebraic_QueryUpBwdIdeal_QueryLatentGradIdeal (hQueryUpBwdIdeal := hQueryUpBwdIdeal) (hQueryLatentGradIdeal := hQueryLatentGradIdeal)
    ∧ preserves_KvUpBwd_KvUpBwdIdeal
    ∧ algebraic_KvUpBwdIdeal_KvLatentGradIdeal (hKvUpBwdIdeal := hKvUpBwdIdeal) (hKvLatentGradIdeal := hKvLatentGradIdeal)
    ∧ preserves_ConvNormBwd_ConvNormBwdIdeal
    ∧ algebraic_ConvNormBwdIdeal_ConvNormGradIdeal_pre_conv_finite (hConvNormBwdIdeal := hConvNormBwdIdeal) (hConvNormGradIdeal := hConvNormGradIdeal) (hPre_conv_finite := hPre_conv_finite)
-- ==== Pre_conv_finite.lean ====
abbrev S8192x512 : Shape := ⟨2, ![8192, 512]⟩
abbrev S1x512 : Shape := ⟨2, ![1, 512]⟩
abbrev S_ : Shape := ⟨0, ![]⟩

class Facts : Prop where
  bcast_S_S8192x512 : S_.BroadcastsInDim S8192x512 (![] : Fin 0 → Fin S8192x512.rank)
  bcast_S_S1x512 : S_.BroadcastsInDim S1x512 (![] : Fin 0 → Fin S1x512.rank)
  bcast_S1x512_S8192x512_0_1 : S1x512.BroadcastsInDim S8192x512 (![0, 1] : Fin 2 → Fin S8192x512.rank)

variable [Facts]

def fn {F : FTy → Type} [FloatOps F] (main_arg0 : FVec F S8192x512 .f32) (main_arg1 : FVec F S8192x512 .f32) (main_arg2 : FVec F S1x512 .f32) (main_arg3 : FVec F S1x512 .f32) : IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S1x512 .f32 := Host.absf main_arg2
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  let main_v6 : IVec S8192x512 1 := broadcastInDim S8192x512 ![0, 1] bcast_S1x512_S8192x512_0_1 main_v5
  let main_v7 : IVec S8192x512 1 := andi main_v2 main_v6
  main_v7
-- ==== Pre_gains_finite.lean ====
abbrev S8192x1024 : Shape := ⟨2, ![8192, 1024]⟩
abbrev S256x2048 : Shape := ⟨2, ![256, 2048]⟩
abbrev S1x256 : Shape := ⟨2, ![1, 256]⟩
abbrev S_ : Shape := ⟨0, ![]⟩

class Facts : Prop where
  bcast_S_S1x256 : S_.BroadcastsInDim S1x256 (![] : Fin 0 → Fin S1x256.rank)

variable [Facts]

def fn {F : FTy → Type} [FloatOps F] (main_arg0 : FVec F S8192x1024 .f32) (main_arg1 : FVec F S256x2048 .f32) (main_arg2 : FVec F S8192x1024 .bf16) (main_arg3 : FVec F S1x256 .f32) (main_arg4 : FVec F S1x256 .f32) : IVec S1x256 1 :=
  let main_v0 : FVec F S1x256 .f32 := Host.absf main_arg3
  let main_cst : FVec F S_ .f32 := constant S_ .f32 0x7F800000#32
  let main_v1 : FVec F S1x256 .f32 := broadcastInDim S1x256 ![] bcast_S_S1x256 main_cst
  let main_v2 : IVec S1x256 1 := cmpf .olt main_v0 main_v1
  let main_v3 : FVec F S1x256 .f32 := Host.absf main_arg4
  let main_cst_0 : FVec F S_ .f32 := constant S_ .f32 0x7F800000#32
  let main_v4 : FVec F S1x256 .f32 := broadcastInDim S1x256 ![] bcast_S_S1x256 main_cst_0
  let main_v5 : IVec S1x256 1 := cmpf .olt main_v3 main_v4
  let main_v6 : IVec S1x256 1 := andi main_v2 main_v5
  main_v6
-- ==== Kernel.lean ====
abbrev S8192x1024 : Shape := ⟨2, ![8192, 1024]⟩
abbrev S256x2048 : Shape := ⟨2, ![256, 2048]⟩
abbrev S1x256 : Shape := ⟨2, ![1, 256]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S256 : Shape := ⟨1, ![256]⟩
abbrev S256x1 : Shape := ⟨2, ![256, 1]⟩

abbrev nBuf : Space → Nat
  | .hbm => 10
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S8192x1024, .bf16⟩
  | .hbm, ⟨3, _⟩ => ⟨S1x256, .f32⟩
  | .hbm, ⟨4, _⟩ => ⟨S1x256, .f32⟩
  | .hbm, ⟨5, _⟩ => ⟨S8192x1024, .bf16⟩
  | .hbm, ⟨6, _⟩ => ⟨S256x1024, .f32⟩
  | .hbm, ⟨7, _⟩ => ⟨S256x1024, .f32⟩
  | .hbm, ⟨8, _⟩ => ⟨S1x256, .f32⟩
  | .hbm, ⟨9, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S512x256, .bf16⟩
  | .local _ .vmem, ⟨7, _⟩ => ⟨S512x256, .bf16⟩
  | .local _ .vmem, ⟨8, _⟩ => ⟨S1x256, .f32⟩
  | .local _ .vmem, ⟨9, _⟩ => ⟨S1x256, .f32⟩
  | .local _ .vmem, ⟨10, _⟩ => ⟨S512x256, .bf16⟩
  | .local _ .vmem, ⟨11, _⟩ => ⟨S512x256, .bf16⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S1x256, .f32⟩
  | .local _ .vmem, ⟨17, _⟩ => ⟨S1x256, .f32⟩
  | .local _ .vmem, ⟨18, _⟩ => ⟨S256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c15_i32 : BitVec 32 := 15#32
  let v98 : BitVec 1 := Scalar.cmpi .eq arg1 c15_i32
  let v99 : BitVec 32 := Scalar.extui v98
  let c0_i32_49 : BitVec 32 := 0#32
  let v100 : BitVec 1 := Scalar.cmpi .ne v99 c0_i32_49
  v100

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S8192x1024 : Shape := ⟨2, ![8192, 1024]⟩
abbrev S256x2048 : Shape := ⟨2, ![256, 2048]⟩
abbrev S1x256 : Shape := ⟨2, ![1, 256]⟩
abbrev S8192x4x256 : Shape := ⟨3, ![8192, 4, 256]⟩
abbrev S256x1024 : Shape := ⟨2, ![256, 1024]⟩
abbrev S256x4x256 : Shape := ⟨3, ![256, 4, 256]⟩
abbrev S_ : Shape := ⟨0, ![]⟩
abbrev S8192x4 : Shape := ⟨2, ![8192, 4]⟩
abbrev S8192x4x1 : Shape := ⟨3, ![8192, 4, 1]⟩
abbrev S1x1x256 : Shape := ⟨3, ![1, 1, 256]⟩
abbrev S256x4 : Shape := ⟨2, ![256, 4]⟩
abbrev S256x4x1 : Shape := ⟨3, ![256, 4, 1]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩
abbrev S256 : Shape := ⟨1, ![256]⟩

abbrev nBuf : Space → Nat
  | .hbm => 181
  | .vmem => 0
  | .smem => 0
  | _ => 0

abbrev hbmTy0_0 (i : Nat) : BufTy := match i % 128 with
  | 0 => ⟨S8192x1024, .f32⟩
  | 1 => ⟨S256x2048, .f32⟩
  | 2 => ⟨S8192x1024, .bf16⟩
  | 3 => ⟨S1x256, .f32⟩
  | 4 => ⟨S1x256, .f32⟩
  | 5 => ⟨S8192x4x256, .f32⟩
  | 6 => ⟨S256x1024, .f32⟩
  | 7 => ⟨S256x1024, .f32⟩
  | 8 => ⟨S256x4x256, .f32⟩
  | 9 => ⟨S256x4x256, .f32⟩
  | 10 => ⟨S8192x4x256, .f32⟩
  | 11 => ⟨S_, .f32⟩
  | 12 => ⟨S8192x4, .f32⟩
  | 13 => ⟨S8192x4x1, .f32⟩
  | 14 => ⟨S_, .f32⟩
  | 15 => ⟨S8192x4x1, .f32⟩
  | 16 => ⟨S8192x4x1, .f32⟩
  | 17 => ⟨S_, .f32⟩
  | 18 => ⟨S8192x4x1, .f32⟩
  | 19 => ⟨S8192x4x1, .f32⟩
  | 20 => ⟨S8192x4x1, .f32⟩
  | 21 => ⟨S8192x4x1, .f32⟩
  | 22 => ⟨S_, .f32⟩
  | 23 => ⟨S8192x4x1, .f32⟩
  | 24 => ⟨S8192x4x1, .f32⟩
  | 25 => ⟨S8192x4x256, .f32⟩
  | 26 => ⟨S8192x4x256, .f32⟩
  | 27 => ⟨S1x1x256, .f32⟩
  | 28 => ⟨S8192x4x256, .f32⟩
  | 29 => ⟨S8192x4x256, .f32⟩
  | 30 => ⟨S256x4x256, .f32⟩
  | 31 => ⟨S_, .f32⟩
  | 32 => ⟨S256x4, .f32⟩
  | 33 => ⟨S256x4x1, .f32⟩
  | 34 => ⟨S_, .f32⟩
  | 35 => ⟨S256x4x1, .f32⟩
  | 36 => ⟨S256x4x1, .f32⟩
  | 37 => ⟨S_, .f32⟩
  | 38 => ⟨S256x4x1, .f32⟩
  | 39 => ⟨S256x4x1, .f32⟩
  | 40 => ⟨S256x4x1, .f32⟩
  | 41 => ⟨S256x4x1, .f32⟩
  | 42 => ⟨S_, .f32⟩
  | 43 => ⟨S256x4x1, .f32⟩
  | 44 => ⟨S256x4x1, .f32⟩
  | 45 => ⟨S256x4x256, .f32⟩
  | 46 => ⟨S256x4x256, .f32⟩
  | 47 => ⟨S1x1x256, .f32⟩
  | 48 => ⟨S256x4x256, .f32⟩
  | 49 => ⟨S256x4x256, .f32⟩
  | 50 => ⟨S4x8192x256, .f32⟩
  | 51 => ⟨S_, .f32⟩
  | 52 => ⟨S4x8192x256, .f32⟩
  | 53 => ⟨S4x8192x256, .f32⟩
  | 54 => ⟨S_, .f32⟩
  | 55 => ⟨S4x8192, .f32⟩
  | 56 => ⟨S4x8192x1, .f32⟩
  | 57 => ⟨S4x8192x256, .f32⟩
  | 58 => ⟨S4x8192x256, .i1⟩
  | 59 => ⟨S4x8192x256, .f32⟩
  | 60 => ⟨S_, .f32⟩
  | 61 => ⟨S4x8192, .f32⟩
  | 62 => ⟨S_, .f32⟩
  | 63 => ⟨S4x8192, .f32⟩
  | 64 => ⟨S4x8192, .f32⟩
  | 65 => ⟨S_, .f32⟩
  | 66 => ⟨S4x8192, .f32⟩
  | 67 => ⟨S4x8192, .i1⟩
  | 68 => ⟨S_, .f32⟩
  | 69 => ⟨S4x8192, .f32⟩
  | 70 => ⟨S4x8192, .i1⟩
  | 71 => ⟨S_, .f32⟩
  | 72 => ⟨S4x8192, .f32⟩
  | 73 => ⟨S_, .f32⟩
  | 74 => ⟨S4x8192, .f32⟩
  | 75 => ⟨S_, .f32⟩
  | 76 => ⟨S4x8192, .f32⟩
  | 77 => ⟨S4x8192, .f32⟩
  | 78 => ⟨S4x8192, .f32⟩
  | 79 => ⟨S4x8192x1, .f32⟩
  | 80 => ⟨S4x8192x256, .f32⟩
  | 81 => ⟨S4x8192x256, .f32⟩
  | 82 => ⟨S4x8192x256, .f32⟩
  | 83 => ⟨S_, .f32⟩
  | 84 => ⟨S4x8192, .f32⟩
  | 85 => ⟨S4x8192x1, .f32⟩
  | 86 => ⟨S4x8192x256, .f32⟩
  | 87 => ⟨S4x8192x256, .f32⟩
  | 88 => ⟨S4x8192x1, .f32⟩
  | 89 => ⟨S_, .f32⟩
  | 90 => ⟨S4x8192x1, .f32⟩
  | 91 => ⟨S4x8192x1, .f32⟩
  | 92 => ⟨S4x256x8192, .f32⟩
  | 93 => ⟨S8192x4x256, .f32⟩
  | 94 => ⟨S8192x1024, .f32⟩
  | 95 => ⟨S8192x1024, .f32⟩
  | 96 => ⟨S8192x4x256, .f32⟩
  | 97 => ⟨S4x256x8192, .f32⟩
  | 98 => ⟨S4x8192x256, .f32⟩
  | 99 => ⟨S4x256x256, .f32⟩
  | 100 => ⟨S256x4x256, .f32⟩
  | 101 => ⟨S4x8192x256, .f32⟩
  | 102 => ⟨S4x8192x256, .f32⟩
  | 103 => ⟨S4x8192x256, .f32⟩
  | 104 => ⟨S_, .f32⟩
  | 105 => ⟨S4x8192, .f32⟩
  | 106 => ⟨S4x8192x1, .f32⟩
  | 107 => ⟨S4x8192x1, .f32⟩
  | 108 => ⟨S4x8192x256, .f32⟩
  | 109 => ⟨S4x8192x256, .f32⟩
  | 110 => ⟨S_, .f32⟩
  | 111 => ⟨S4x8192, .f32⟩
  | 112 => ⟨S4x8192x256, .f32⟩
  | 113 => ⟨S4x8192x256, .f32⟩
  | 114 => ⟨S4x8192x256, .f32⟩
  | 115 => ⟨S_, .f32⟩
  | 116 => ⟨S4x8192x256, .f32⟩
  | 117 => ⟨S4x8192x256, .f32⟩
  | 118 => ⟨S4x256x256, .f32⟩
  | 119 => ⟨S256x4x256, .f32⟩
  | 120 => ⟨S4x8192x256, .f32⟩
  | 121 => ⟨S8192x4x256, .f32⟩
  | 122 => ⟨S256x4x256, .f32⟩
  | 123 => ⟨S_, .f32⟩
  | 124 => ⟨S256, .f32⟩
  | 125 => ⟨S1x1x256, .f32⟩
  | 126 => ⟨S256x4x256, .f32⟩
  | 127 => ⟨S256x4x256, .f32⟩
  | _ => ⟨S8192x1024, .f32⟩

abbrev hbmTy0_1 (i : Nat) : BufTy := match i % 128 with
  | 0 => ⟨S_, .f32⟩
  | 1 => ⟨S256, .f32⟩
  | 2 => ⟨S1x256, .f32⟩
  | 3 => ⟨S256x4x256, .f32⟩
  | 4 => ⟨S_, .f32⟩
  | 5 => ⟨S256x4, .f32⟩
  | 6 => ⟨S256x4x1, .f32⟩
  | 7 => ⟨S256x4x256, .f32⟩
  | 8 => ⟨S256x4x256, .f32⟩
  | 9 => ⟨S256x4x1, .f32⟩
  | 10 => ⟨S_, .f32⟩
  | 11 => ⟨S256x4x1, .f32⟩
  | 12 => ⟨S256x4x1, .f32⟩
  | 13 => ⟨S_, .f32⟩
  | 14 => ⟨S256x4, .f32⟩
  | 15 => ⟨S256x4x256, .f32⟩
  | 16 => ⟨S256x4x256, .f32⟩
  | 17 => ⟨S256x4x256, .f32⟩
  | 18 => ⟨S256x4x256, .f32⟩
  | 19 => ⟨S256x4x256, .f32⟩
  | 20 => ⟨S8192x4x256, .f32⟩
  | 21 => ⟨S_, .f32⟩
  | 22 => ⟨S256, .f32⟩
  | 23 => ⟨S1x1x256, .f32⟩
  | 24 => ⟨S8192x4x256, .f32⟩
  | 25 => ⟨S8192x4x256, .f32⟩
  | 26 => ⟨S_, .f32⟩
  | 27 => ⟨S256, .f32⟩
  | 28 => ⟨S1x256, .f32⟩
  | 29 => ⟨S8192x4x256, .f32⟩
  | 30 => ⟨S_, .f32⟩
  | 31 => ⟨S8192x4, .f32⟩
  | 32 => ⟨S8192x4x1, .f32⟩
  | 33 => ⟨S8192x4x256, .f32⟩
  | 34 => ⟨S8192x4x256, .f32⟩
  | 35 => ⟨S8192x4x1, .f32⟩
  | 36 => ⟨S_, .f32⟩
  | 37 => ⟨S8192x4x1, .f32⟩
  | 38 => ⟨S8192x4x1, .f32⟩
  | 39 => ⟨S_, .f32⟩
  | 40 => ⟨S8192x4, .f32⟩
  | 41 => ⟨S8192x4x256, .f32⟩
  | 42 => ⟨S8192x4x256, .f32⟩
  | 43 => ⟨S8192x4x256, .f32⟩
  | 44 => ⟨S8192x4x256, .f32⟩
  | 45 => ⟨S8192x4x256, .f32⟩
  | 46 => ⟨S256x1024, .f32⟩
  | 47 => ⟨S256x1024, .f32⟩
  | 48 => ⟨S256x2048, .f32⟩
  | 49 => ⟨S8192x1024, .f32⟩
  | 50 => ⟨S8192x1024, .bf16⟩
  | 51 => ⟨S256x1024, .f32⟩
  | 52 => ⟨S256x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_cst_15 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_17 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_18 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_19 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_20 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_21 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_22 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_23 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_24 : Ref sig .tc := ⟨.hbm, 138, rfl⟩
abbrev main_v108 : Ref sig .tc := ⟨.hbm, 139, rfl⟩
abbrev main_v109 : Ref sig .tc := ⟨.hbm, 140, rfl⟩
abbrev main_cst_25 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_26 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_27 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_28 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_29 : Ref sig .tc := ⟨.hbm, 164, rfl⟩
abbrev main_v129 : Ref sig .tc := ⟨.hbm, 165, rfl⟩
abbrev main_v130 : Ref sig .tc := ⟨.hbm, 166, rfl⟩
abbrev main_cst_30 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩

abbrev nD : Nat := 1
abbrev τ : Topo := Topo.v7x

variable {F : FTy → Type} [FloatOps F]
-- ==== UpBwd.lean ====
abbrev S8192x2816 : Shape := ⟨2, ![8192, 2816]⟩
abbrev S1024x5632 : Shape := ⟨2, ![1024, 5632]⟩
abbrev S8192x1024 : Shape := ⟨2, ![8192, 1024]⟩
abbrev S1x1024 : Shape := ⟨2, ![1, 1024]⟩
abbrev S1024x2816 : Shape := ⟨2, ![1024, 2816]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1024x2816, .bf16⟩
  | .hbm, ⟨7, _⟩ => ⟨S1024x2816, .bf16⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S1024x2816, .bf16⟩
  | .local _ .vmem, ⟨5, _⟩ => ⟨S1024x2816, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== UpGradIdeal.lean ====
abbrev S8192x2816 : Shape := ⟨2, ![8192, 2816]⟩
abbrev S1024x5632 : Shape := ⟨2, ![1024, 5632]⟩
abbrev S8192x1024 : Shape := ⟨2, ![8192, 1024]⟩
abbrev S1x1024 : Shape := ⟨2, ![1, 1024]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x5632, .bf16⟩
  | .hbm, ⟨7, _⟩ => ⟨S8192x5632, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1024x5632, .f32⟩
  | .hbm, ⟨28, _⟩ => ⟨S8192x5632, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== DwUp.lean ====
abbrev S8192x1024 : Shape := ⟨2, ![8192, 1024]⟩
abbrev S8192x2816 : Shape := ⟨2, ![8192, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWeightGradIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownBwd.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownGradIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWeightGradIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownLoss.lean ====
abbrev S8192x2816 : Shape := ⟨2, ![8192, 2816]⟩
abbrev S2816x1024 : Shape := ⟨2, ![2816, 1024]⟩
abbrev S8192x1024 : Shape := ⟨2, ![8192, 1024]⟩
abbrev S8x128 : Shape := ⟨2, ![8, 128]⟩
abbrev S512x2816 : Shape := ⟨2, ![512, 2816]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S8x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S8x128, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossGradIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 35
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1024, .f32⟩
  | .hbm, ⟨30, _⟩ => ⟨S8192x1024, .f32⟩
  | .hbm, ⟨31, _⟩ => ⟨S8192x1024, .bf16⟩
  | .hbm, ⟨32, _⟩ => ⟨S_, .f32⟩
  | .hbm, ⟨33, _⟩ => ⟨S_, .f32⟩
  | .hbm, ⟨34, _⟩ => ⟨S8x128, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== DwSquare.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SquareWeightGradIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemoProj.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemoryOutIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MemoBwd.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemoryOutGradIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemqBwd.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MemoryQueryGradIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== MemqProj.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S8192x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MemoryQueryIdeal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x1024, .f32⟩
  | .hbm, ⟨19, _⟩ => ⟨S8192x1024, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== UpProj.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .bf16⟩
  | .hbm, ⟨3, _⟩ => ⟨S8192x5632, .f32⟩
  | .hbm, ⟨4, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .f32⟩
  | .local _ .vmem, ⟨6, _⟩ => ⟨S1024x1408, .f32⟩
  | .local _ .vmem, ⟨7, _⟩ => ⟨S1024x1024, .bf16⟩
  | .local _ .vmem, ⟨8, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== UpProductIdeal.lean ====
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x5632, .f32⟩
  | .hbm, ⟨19, _⟩ => ⟨S8192x5632, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== InBwd.lean ====
abbrev S8192x1024 : Shape := ⟨2, ![8192, 1024]⟩
abbrev S8192x256 : Shape := ⟨2, ![8192, 256]⟩
abbrev S8192x128 : Shape := ⟨2, ![8192, 128]⟩
abbrev S1024x1536 : Shape := ⟨2, ![1024, 1536]⟩
abbrev S1x1024 : Shape := ⟨2, ![1, 1024]⟩
abbrev S1024x1024 : Shape := ⟨2, ![1024, 1024]⟩
abbrev S1024x256 : Shape := ⟨2, ![1024, 256]⟩
abbrev S1024x128 : Shape := ⟨2, ![1024, 128]⟩
abbrev S512x1024 : Shape := ⟨2, ![512, 1024]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x128, .bf16⟩
  | .hbm, ⟨3, _⟩ => ⟨S8192x128, .f32⟩
  | .hbm, ⟨4, _⟩ => ⟨S1024x1536, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S1024x1024, .bf16⟩
  | .hbm, ⟨9, _⟩ => ⟨S1024x256, .bf16⟩
  | .hbm, ⟨10, _⟩ => ⟨S1024x128, .bf16⟩
  | .hbm, ⟨11, _⟩ => ⟨S1024x128, .bf16⟩
  | .hbm, ⟨12, _⟩ => ⟨S8192x1024, .f32⟩
  | .hbm, ⟨13, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S1024x1024, .bf16⟩
  | .local _ .vmem, ⟨9, _⟩ => ⟨S1024x256, .bf16⟩
  | .local _ .vmem, ⟨10, _⟩ => ⟨S1024x128, .bf16⟩
  | .local _ .vmem, ⟨11, _⟩ => ⟨S1024x128, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InGradIdeal.lean ====
abbrev S8192x1024 : Shape := ⟨2, ![8192, 1024]⟩
abbrev S8192x256 : Shape := ⟨2, ![8192, 256]⟩
abbrev S8192x128 : Shape := ⟨2, ![8192, 128]⟩
abbrev S1024x1536 : Shape := ⟨2, ![1024, 1536]⟩
abbrev S1x1024 : Shape := ⟨2, ![1, 1024]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x128, .bf16⟩
  | .hbm, ⟨3, _⟩ => ⟨S8192x128, .f32⟩
  | .hbm, ⟨4, _⟩ => ⟨S1024x1536, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x256, .f32⟩
  | .hbm, ⟨10, _⟩ => ⟨S8192x128, .f32⟩
  | .hbm, ⟨11, _⟩ => ⟨S8192x1536, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1024x1536, .f32⟩
  | .hbm, ⟨32, _⟩ => ⟨S8192x1536, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== InProj.lean ====
abbrev S8192x1024 : Shape := ⟨2, ![8192, 1024]⟩
abbrev S1x1024 : Shape := ⟨2, ![1, 1024]⟩
abbrev S1024x1536 : Shape := ⟨2, ![1024, 1536]⟩
abbrev S8192x1536 : Shape := ⟨2, ![8192, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1536, .bf16⟩
  | .hbm, ⟨3, _⟩ => ⟨S8192x1536, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x1536, .f32⟩
  | .local _ .vmem, ⟨5, _⟩ => ⟨S512x1536, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InProductIdeal.lean ====
abbrev S8192x1024 : Shape := ⟨2, ![8192, 1024]⟩
abbrev S1x1024 : Shape := ⟨2, ![1, 1024]⟩
abbrev S1024x1536 : Shape := ⟨2, ![1024, 1536]⟩
abbrev S_ : Shape := ⟨0, ![]⟩
abbrev S8192 : Shape := ⟨1, ![8192]⟩
abbrev S8192x1 : Shape := ⟨2, ![8192, 1]⟩
abbrev S8192x1536 : Shape := ⟨2, ![8192, 1536]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1536, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x1536, .f32⟩
  | .hbm, ⟨19, _⟩ => ⟨S8192x1536, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== OutProj.lean ====
abbrev S8192x512 : Shape := ⟨2, ![8192, 512]⟩
abbrev S512x1024 : Shape := ⟨2, ![512, 1024]⟩
abbrev S8192x1024 : Shape := ⟨2, ![8192, 1024]⟩
abbrev S1024x1024 : Shape := ⟨2, ![1024, 1024]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .hbm, ⟨3, _⟩ => ⟨S1024x1024, .bf16⟩
  | .hbm, ⟨4, _⟩ => ⟨S8192x1024, .f32⟩
  | .hbm, ⟨5, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixOutIdeal.lean ====
abbrev S8192x512 : Shape := ⟨2, ![8192, 512]⟩
abbrev S512x1024 : Shape := ⟨2, ![512, 1024]⟩
abbrev S8192x1024 : Shape := ⟨2, ![8192, 1024]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .hbm, ⟨3, _⟩ => ⟨S1024x1024, .bf16⟩
  | .hbm, ⟨4, _⟩ => ⟨S8192x1024, .f32⟩
  | .hbm, ⟨5, _⟩ => ⟨S8192x512, .f32⟩
  | .hbm, ⟨6, _⟩ => ⟨S512x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== AdamIn.lean ====
abbrev S1024x360 : Shape := ⟨2, ![1024, 360]⟩
abbrev S256x360 : Shape := ⟨2, ![256, 360]⟩

abbrev nBuf : Space → Nat
  | .hbm => 7
  | .vmem => 14
  | .smem => 0
  | _ => 0

abbrev bufTy : (tb : Table) → Fin (tcTables nBuf tb) → BufTy
  | .hbm, ⟨0, _⟩ => ⟨S1024x360, .f32⟩
  | .hbm, ⟨1, _⟩ => ⟨S1024x360, .f32⟩
  | .hbm, ⟨2, _⟩ => ⟨S1024x360, .f32⟩
  | .hbm, ⟨3, _⟩ => ⟨S1024x360, .f32⟩
  | .hbm, ⟨4, _⟩ => ⟨S1024x360, .f32⟩
  | .hbm, ⟨5, _⟩ => ⟨S1024x360, .f32⟩
  | .hbm, ⟨6, _⟩ => ⟨S1024x360, .f32⟩
  | .local _ .vmem, ⟨0, _⟩ => ⟨S256x360, .f32⟩
  | .local _ .vmem, ⟨1, _⟩ => ⟨S256x360, .f32⟩
  | .local _ .vmem, ⟨2, _⟩ => ⟨S256x360, .f32⟩
  | .local _ .vmem, ⟨3, _⟩ => ⟨S256x360, .f32⟩
  | .local _ .vmem, ⟨4, _⟩ => ⟨S256x360, .f32⟩
  | .local _ .vmem, ⟨5, _⟩ => ⟨S256x360, .f32⟩
  | .local _ .vmem, ⟨6, _⟩ => ⟨S256x360, .f32⟩
  | .local _ .vmem, ⟨7, _⟩ => ⟨S256x360, .f32⟩
  | .local _ .vmem, ⟨8, _⟩ => ⟨S256x360, .f32⟩
  | .local _ .vmem, ⟨9, _⟩ => ⟨S256x360, .f32⟩
  | .local _ .vmem, ⟨10, _⟩ => ⟨S256x360, .f32⟩
  | .local _ .vmem, ⟨11, _⟩ => ⟨S256x360, .f32⟩
  | .local _ .vmem, ⟨12, _⟩ => ⟨S256x360, .f32⟩
  | .local _ .vmem, ⟨13, _⟩ => ⟨S256x360, .f32⟩
  | _, _ => ⟨S1024x360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x360 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x360 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x360 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x360 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x360 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x360 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x360 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S1024x360 : Shape := ⟨2, ![1024, 360]⟩
abbrev S256x360 : Shape := ⟨2, ![256, 360]⟩

abbrev nBuf : Space → Nat
  | .hbm => 7
  | .vmem => 14
  | .smem => 0
  | _ => 0

abbrev bufTy : (tb : Table) → Fin (tcTables nBuf tb) → BufTy
  | .hbm, ⟨0, _⟩ => ⟨S1024x360, .f32⟩
  | .hbm, ⟨1, _⟩ => ⟨S1024x360, .f32⟩
  | .hbm, ⟨2, _⟩ => ⟨S1024x360, .f32⟩
  | .hbm, ⟨3, _⟩ => ⟨S1024x360, .f32⟩
  | .hbm, ⟨4, _⟩ => ⟨S1024x360, .f32⟩
  | .hbm, ⟨5, _⟩ => ⟨S1024x360, .f32⟩
  | .hbm, ⟨6, _⟩ => ⟨S1024x360, .f32⟩
  | .local _ .vmem, ⟨0, _⟩ => ⟨S256x360, .f32⟩
  | .local _ .vmem, ⟨1, _⟩ => ⟨S256x360, .f32⟩
  | .local _ .vmem, ⟨2, _⟩ => ⟨S256x360, .f32⟩
  | .local _ .vmem, ⟨3, _⟩ => ⟨S256x360, .f32⟩
  | .local _ .vmem, ⟨4, _⟩ => ⟨S256x360, .f32⟩
  | .local _ .vmem, ⟨5, _⟩ => ⟨S256x360, .f32⟩
  | .local _ .vmem, ⟨6, _⟩ => ⟨S256x360, .f32⟩
  | .local _ .vmem, ⟨7, _⟩ => ⟨S256x360, .f32⟩
  | .local _ .vmem, ⟨8, _⟩ => ⟨S256x360, .f32⟩
  | .local _ .vmem, ⟨9, _⟩ => ⟨S256x360, .f32⟩
  | .local _ .vmem, ⟨10, _⟩ => ⟨S256x360, .f32⟩
  | .local _ .vmem, ⟨11, _⟩ => ⟨S256x360, .f32⟩
  | .local _ .vmem, ⟨12, _⟩ => ⟨S256x360, .f32⟩
  | .local _ .vmem, ⟨13, _⟩ => ⟨S256x360, .f32⟩
  | _, _ => ⟨S1024x360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x360 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x360 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x360 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x360 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x360 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x360 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x360 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInStepIdeal.lean ====
abbrev S1024x360 : Shape := ⟨2, ![1024, 360]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x360, .f32⟩
  | .hbm, ⟨1, _⟩ => ⟨S1024x360, .f32⟩
  | .hbm, ⟨2, _⟩ => ⟨S1024x360, .f32⟩
  | .hbm, ⟨3, _⟩ => ⟨S1024x360, .f32⟩
  | .hbm, ⟨4, _⟩ => ⟨S_, .f32⟩
  | .hbm, ⟨5, _⟩ => ⟨S1024x360, .f32⟩
  | .hbm, ⟨6, _⟩ => ⟨S1024x360, .f32⟩
  | .hbm, ⟨7, _⟩ => ⟨S_, .f32⟩
  | .hbm, ⟨8, _⟩ => ⟨S1024x360, .f32⟩
  | .hbm, ⟨9, _⟩ => ⟨S1024x360, .f32⟩
  | .hbm, ⟨10, _⟩ => ⟨S1024x360, .f32⟩
  | .hbm, ⟨11, _⟩ => ⟨S_, .f32⟩
  | .hbm, ⟨12, _⟩ => ⟨S1024x360, .f32⟩
  | .hbm, ⟨13, _⟩ => ⟨S1024x360, .f32⟩
  | .hbm, ⟨14, _⟩ => ⟨S1024x360, .f32⟩
  | .hbm, ⟨15, _⟩ => ⟨S_, .f32⟩
  | .hbm, ⟨16, _⟩ => ⟨S1024x360, .f32⟩
  | .hbm, ⟨17, _⟩ => ⟨S1024x360, .f32⟩
  | .hbm, ⟨18, _⟩ => ⟨S1024x360, .f32⟩
  | .hbm, ⟨19, _⟩ => ⟨S_, .f32⟩
  | .hbm, ⟨20, _⟩ => ⟨S1024x360, .f32⟩
  | .hbm, ⟨21, _⟩ => ⟨S1024x360, .f32⟩
  | .hbm, ⟨22, _⟩ => ⟨S_, .f32⟩
  | .hbm, ⟨23, _⟩ => ⟨S1024x360, .f32⟩
  | .hbm, ⟨24, _⟩ => ⟨S1024x360, .f32⟩
  | .hbm, ⟨25, _⟩ => ⟨S1024x360, .f32⟩
  | .hbm, ⟨26, _⟩ => ⟨S_, .f32⟩
  | .hbm, ⟨27, _⟩ => ⟨S1024x360, .f32⟩
  | .hbm, ⟨28, _⟩ => ⟨S1024x360, .f32⟩
  | .hbm, ⟨29, _⟩ => ⟨S1024x360, .f32⟩
  | .hbm, ⟨30, _⟩ => ⟨S_, .f32⟩
  | .hbm, ⟨31, _⟩ => ⟨S1024x360, .f32⟩
  | .hbm, ⟨32, _⟩ => ⟨S1024x360, .f32⟩
  | .hbm, ⟨33, _⟩ => ⟨S1024x360, .f32⟩
  | .hbm, ⟨34, _⟩ => ⟨S_, .f32⟩
  | .hbm, ⟨35, _⟩ => ⟨S1024x360, .f32⟩
  | .hbm, ⟨36, _⟩ => ⟨S1024x360, .f32⟩
  | _, _ => ⟨S1024x360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUq.lean ====
abbrev S256x192 : Shape := ⟨2, ![256, 192]⟩

abbrev nBuf : Space → Nat
  | .hbm => 7
  | .vmem => 7
  | .smem => 0
  | _ => 0

abbrev bufTy : (tb : Table) → Fin (tcTables nBuf tb) → BufTy
  | .hbm, ⟨0, _⟩ => ⟨S256x192, .f32⟩
  | .hbm, ⟨1, _⟩ => ⟨S256x192, .f32⟩
  | .hbm, ⟨2, _⟩ => ⟨S256x192, .f32⟩
  | .hbm, ⟨3, _⟩ => ⟨S256x192, .f32⟩
  | .hbm, ⟨4, _⟩ => ⟨S256x192, .f32⟩
  | .hbm, ⟨5, _⟩ => ⟨S256x192, .f32⟩
  | .hbm, ⟨6, _⟩ => ⟨S256x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | _, _ => ⟨S256x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamUqIdeal.lean ====
abbrev S256x192 : Shape := ⟨2, ![256, 192]⟩

abbrev nBuf : Space → Nat
  | .hbm => 7
  | .vmem => 7
  | .smem => 0
  | _ => 0

abbrev bufTy : (tb : Table) → Fin (tcTables nBuf tb) → BufTy
  | .hbm, ⟨0, _⟩ => ⟨S256x192, .f32⟩
  | .hbm, ⟨1, _⟩ => ⟨S256x192, .f32⟩
  | .hbm, ⟨2, _⟩ => ⟨S256x192, .f32⟩
  | .hbm, ⟨3, _⟩ => ⟨S256x192, .f32⟩
  | .hbm, ⟨4, _⟩ => ⟨S256x192, .f32⟩
  | .hbm, ⟨5, _⟩ => ⟨S256x192, .f32⟩
  | .hbm, ⟨6, _⟩ => ⟨S256x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | _, _ => ⟨S256x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamUqStepIdeal.lean ====
abbrev S256x192 : Shape := ⟨2, ![256, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x192, .f32⟩
  | .hbm, ⟨1, _⟩ => ⟨S256x192, .f32⟩
  | .hbm, ⟨2, _⟩ => ⟨S256x192, .f32⟩
  | .hbm, ⟨3, _⟩ => ⟨S256x192, .f32⟩
  | .hbm, ⟨4, _⟩ => ⟨S_, .f32⟩
  | .hbm, ⟨5, _⟩ => ⟨S256x192, .f32⟩
  | .hbm, ⟨6, _⟩ => ⟨S256x192, .f32⟩
  | .hbm, ⟨7, _⟩ => ⟨S_, .f32⟩
  | .hbm, ⟨8, _⟩ => ⟨S256x192, .f32⟩
  | .hbm, ⟨9, _⟩ => ⟨S256x192, .f32⟩
  | .hbm, ⟨10, _⟩ => ⟨S256x192, .f32⟩
  | .hbm, ⟨11, _⟩ => ⟨S_, .f32⟩
  | .hbm, ⟨12, _⟩ => ⟨S256x192, .f32⟩
  | .hbm, ⟨13, _⟩ => ⟨S256x192, .f32⟩
  | .hbm, ⟨14, _⟩ => ⟨S256x192, .f32⟩
  | .hbm, ⟨15, _⟩ => ⟨S_, .f32⟩
  | .hbm, ⟨16, _⟩ => ⟨S256x192, .f32⟩
  | .hbm, ⟨17, _⟩ => ⟨S256x192, .f32⟩
  | .hbm, ⟨18, _⟩ => ⟨S256x192, .f32⟩
  | .hbm, ⟨19, _⟩ => ⟨S_, .f32⟩
  | .hbm, ⟨20, _⟩ => ⟨S256x192, .f32⟩
  | .hbm, ⟨21, _⟩ => ⟨S256x192, .f32⟩
  | .hbm, ⟨22, _⟩ => ⟨S_, .f32⟩
  | .hbm, ⟨23, _⟩ => ⟨S256x192, .f32⟩
  | .hbm, ⟨24, _⟩ => ⟨S256x192, .f32⟩
  | .hbm, ⟨25, _⟩ => ⟨S256x192, .f32⟩
  | .hbm, ⟨26, _⟩ => ⟨S_, .f32⟩
  | .hbm, ⟨27, _⟩ => ⟨S256x192, .f32⟩
  | .hbm, ⟨28, _⟩ => ⟨S256x192, .f32⟩
  | .hbm, ⟨29, _⟩ => ⟨S256x192, .f32⟩
  | .hbm, ⟨30, _⟩ => ⟨S_, .f32⟩
  | .hbm, ⟨31, _⟩ => ⟨S256x192, .f32⟩
  | .hbm, ⟨32, _⟩ => ⟨S256x192, .f32⟩
  | .hbm, ⟨33, _⟩ => ⟨S256x192, .f32⟩
  | .hbm, ⟨34, _⟩ => ⟨S_, .f32⟩
  | .hbm, ⟨35, _⟩ => ⟨S256x192, .f32⟩
  | .hbm, ⟨36, _⟩ => ⟨S256x192, .f32⟩
  | _, _ => ⟨S256x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUkv.lean ====
abbrev S128x256 : Shape := ⟨2, ![128, 256]⟩

abbrev nBuf : Space → Nat
  | .hbm => 7
  | .vmem => 7
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamUkvIdeal.lean ====
abbrev S128x256 : Shape := ⟨2, ![128, 256]⟩

abbrev nBuf : Space → Nat
  | .hbm => 7
  | .vmem => 7
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamUkvStepIdeal.lean ====
abbrev S128x256 : Shape := ⟨2, ![128, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S_, .f32⟩
  | .hbm, ⟨5, _⟩ => ⟨S128x256, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S_, .f32⟩
  | .hbm, ⟨12, _⟩ => ⟨S128x256, .f32⟩
  | .hbm, ⟨13, _⟩ => ⟨S128x256, .f32⟩
  | .hbm, ⟨14, _⟩ => ⟨S128x256, .f32⟩
  | .hbm, ⟨15, _⟩ => ⟨S_, .f32⟩
  | .hbm, ⟨16, _⟩ => ⟨S128x256, .f32⟩
  | .hbm, ⟨17, _⟩ => ⟨S128x256, .f32⟩
  | .hbm, ⟨18, _⟩ => ⟨S128x256, .f32⟩
  | .hbm, ⟨19, _⟩ => ⟨S_, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S128x256, .f32⟩
  | .hbm, ⟨30, _⟩ => ⟨S_, .f32⟩
  | .hbm, ⟨31, _⟩ => ⟨S128x256, .f32⟩
  | .hbm, ⟨32, _⟩ => ⟨S128x256, .f32⟩
  | .hbm, ⟨33, _⟩ => ⟨S128x256, .f32⟩
  | .hbm, ⟨34, _⟩ => ⟨S_, .f32⟩
  | .hbm, ⟨35, _⟩ => ⟨S128x256, .f32⟩
  | .hbm, ⟨36, _⟩ => ⟨S128x256, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSquare.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareStepIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMemKv.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMemKvIdeal.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMemKvStepIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpStepIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownStepIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== DwOutU.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutUIdeal.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutUWeightGradIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwUq.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwUqIdeal.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UqWeightGradIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwUkv.lean ====
abbrev S8192x128 : Shape := ⟨2, ![8192, 128]⟩
abbrev S8192x1024 : Shape := ⟨2, ![8192, 1024]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S128x1024, .f32⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwUkvIdeal.lean ====
abbrev S8192x128 : Shape := ⟨2, ![8192, 128]⟩
abbrev S8192x1024 : Shape := ⟨2, ![8192, 1024]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S128x1024, .f32⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UkvWeightGradIdeal.lean ====
abbrev S8192x128 : Shape := ⟨2, ![8192, 128]⟩
abbrev S8192x1024 : Shape := ⟨2, ![8192, 1024]⟩
abbrev S_ : Shape := ⟨0, ![]⟩
abbrev S128x1024 : Shape := ⟨2, ![128, 1024]⟩
abbrev S1024x128 : Shape := ⟨2, ![1024, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S_, .f32⟩
  | .hbm, ⟨3, _⟩ => ⟨S128x1024, .f32⟩
  | .hbm, ⟨4, _⟩ => ⟨S8192x128, .f32⟩
  | .hbm, ⟨5, _⟩ => ⟨S8192x1024, .f32⟩
  | .hbm, ⟨6, _⟩ => ⟨S8192x1024, .f32⟩
  | .hbm, ⟨7, _⟩ => ⟨S1024x128, .f32⟩
  | .hbm, ⟨8, _⟩ => ⟨S128x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwInQuery.lean ====
abbrev S8192x1024 : Shape := ⟨2, ![8192, 1024]⟩
abbrev S8192x256 : Shape := ⟨2, ![8192, 256]⟩
abbrev S1024x256 : Shape := ⟨2, ![1024, 256]⟩
abbrev S2048x1024 : Shape := ⟨2, ![2048, 1024]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S1024x256, .f32⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwInQueryIdeal.lean ====
abbrev S8192x1024 : Shape := ⟨2, ![8192, 1024]⟩
abbrev S8192x256 : Shape := ⟨2, ![8192, 256]⟩
abbrev S1024x256 : Shape := ⟨2, ![1024, 256]⟩
abbrev S2048x1024 : Shape := ⟨2, ![2048, 1024]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S1024x256, .f32⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InQueryWeightGradIdeal.lean ====
abbrev S8192x1024 : Shape := ⟨2, ![8192, 1024]⟩
abbrev S8192x256 : Shape := ⟨2, ![8192, 256]⟩
abbrev S_ : Shape := ⟨0, ![]⟩
abbrev S1024x256 : Shape := ⟨2, ![1024, 256]⟩
abbrev S256x1024 : Shape := ⟨2, ![256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S_, .f32⟩
  | .hbm, ⟨3, _⟩ => ⟨S1024x256, .f32⟩
  | .hbm, ⟨4, _⟩ => ⟨S8192x1024, .f32⟩
  | .hbm, ⟨5, _⟩ => ⟨S8192x256, .f32⟩
  | .hbm, ⟨6, _⟩ => ⟨S8192x256, .f32⟩
  | .hbm, ⟨7, _⟩ => ⟨S256x1024, .f32⟩
  | .hbm, ⟨8, _⟩ => ⟨S1024x256, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwInKv.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwInKvIdeal.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InKvWeightGradIdeal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S8192x128, .f32⟩
  | .hbm, ⟨7, _⟩ => ⟨S128x1024, .f32⟩
  | .hbm, ⟨8, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwInRope.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S1024x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .f32⟩
  | .local _ .vmem, ⟨3, _⟩ => ⟨S2048x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwInRopeIdeal.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S1024x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .f32⟩
  | .local _ .vmem, ⟨3, _⟩ => ⟨S2048x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InRopeWeightGradIdeal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S128x1024, .f32⟩
  | .hbm, ⟨7, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwMemKv.lean ====
abbrev S256x1024 : Shape := ⟨2, ![256, 1024]⟩
abbrev S256x2048 : Shape := ⟨2, ![256, 2048]⟩
abbrev S1024x2048 : Shape := ⟨2, ![1024, 2048]⟩
abbrev S256x512 : Shape := ⟨2, ![256, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S1024x2048, .f32⟩
  | .local _ .vmem, ⟨0, _⟩ => ⟨S256x1024, .bf16⟩
  | .local _ .vmem, ⟨1, _⟩ => ⟨S256x512, .f32⟩
  | .local _ .vmem, ⟨2, _⟩ => ⟨S256x512, .f32⟩
  | .local _ .vmem, ⟨3, _⟩ => ⟨S1024x512, .f32⟩
  | .local _ .vmem, ⟨4, _⟩ => ⟨S1024x512, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKvWeightGradIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S_, .f32⟩
  | .hbm, ⟨3, _⟩ => ⟨S1024x2048, .f32⟩
  | .hbm, ⟨4, _⟩ => ⟨S256x1024, .f32⟩
  | .hbm, ⟨5, _⟩ => ⟨S256x2048, .f32⟩
  | .hbm, ⟨6, _⟩ => ⟨S2048x1024, .f32⟩
  | .hbm, ⟨7, _⟩ => ⟨S1024x2048, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MemkvBwd.lean ====
abbrev S256x2048 : Shape := ⟨2, ![256, 2048]⟩
abbrev S1024x2048 : Shape := ⟨2, ![1024, 2048]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S256x1024, .f32⟩
  | .hbm, ⟨3, _⟩ => ⟨S1x1024, .f32⟩
  | .hbm, ⟨4, _⟩ => ⟨S256x1024, .bf16⟩
  | .hbm, ⟨5, _⟩ => ⟨S1x1024, .f32⟩
  | .local _ .vmem, ⟨0, _⟩ => ⟨S256x2048, .f32⟩
  | .local _ .vmem, ⟨1, _⟩ => ⟨S1024x2048, .bf16⟩
  | .local _ .vmem, ⟨2, _⟩ => ⟨S256x1024, .f32⟩
  | .local _ .vmem, ⟨3, _⟩ => ⟨S1x1024, .f32⟩
  | .local _ .vmem, ⟨4, _⟩ => ⟨S256x1024, .bf16⟩
  | .local _ .vmem, ⟨5, _⟩ => ⟨S1x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemoryKvGradIdeal.lean ====
abbrev S256x2048 : Shape := ⟨2, ![256, 2048]⟩
abbrev S1024x2048 : Shape := ⟨2, ![1024, 2048]⟩
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S256x1024, .f32⟩
  | .hbm, ⟨3, _⟩ => ⟨S1x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S1024x2048, .f32⟩
  | .hbm, ⟨24, _⟩ => ⟨S256x2048, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256, .f32⟩
  | .hbm, ⟨35, _⟩ => ⟨S256x1, .f32⟩
  | .hbm, ⟨36, _⟩ => ⟨S256x1024, .f32⟩
  | .hbm, ⟨37, _⟩ => ⟨S256x1024, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S_, .f32⟩
  | .hbm, ⟨43, _⟩ => ⟨S256, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S256x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== QueryUpBwd.lean ====
abbrev S8192x1024 : Shape := ⟨2, ![8192, 1024]⟩
abbrev S256x1024 : Shape := ⟨2, ![256, 1024]⟩
abbrev S8192x1536 : Shape := ⟨2, ![8192, 1536]⟩
abbrev S1x256 : Shape := ⟨2, ![1, 256]⟩
abbrev S8192x256 : Shape := ⟨2, ![8192, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S256 : Shape := ⟨1, ![256]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S8192x1536, .f32⟩
  | .hbm, ⟨3, _⟩ => ⟨S1x256, .f32⟩
  | .hbm, ⟨4, _⟩ => ⟨S8192x256, .bf16⟩
  | .hbm, ⟨5, _⟩ => ⟨S1x256, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S512x256, .f32⟩
  | .local _ .vmem, ⟨4, _⟩ => ⟨S512x256, .f32⟩
  | .local _ .vmem, ⟨5, _⟩ => ⟨S1x256, .f32⟩
  | .local _ .vmem, ⟨6, _⟩ => ⟨S512x256, .bf16⟩
  | .local _ .vmem, ⟨7, _⟩ => ⟨S512x256, .bf16⟩
  | .local _ .vmem, ⟨8, _⟩ => ⟨S1x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== QueryLatentGradIdeal.lean ====
abbrev S8192x1024 : Shape := ⟨2, ![8192, 1024]⟩
abbrev S256x1024 : Shape := ⟨2, ![256, 1024]⟩
abbrev S8192x1536 : Shape := ⟨2, ![8192, 1536]⟩
abbrev S1x256 : Shape := ⟨2, ![1, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256 : Shape := ⟨1, ![256]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S8192x1536, .f32⟩
  | .hbm, ⟨3, _⟩ => ⟨S1x256, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S256x1024, .f32⟩
  | .hbm, ⟨25, _⟩ => ⟨S8192x1024, .f32⟩
  | .hbm, ⟨26, _⟩ => ⟨S8192x1024, .f32⟩
  | .hbm, ⟨27, _⟩ => ⟨S8192x256, .f32⟩
  | .hbm, ⟨28, _⟩ => ⟨S8192x256, .f32⟩
  | .hbm, ⟨29, _⟩ => ⟨S_, .f32⟩
  | .hbm, ⟨30, _⟩ => ⟨S256, .f32⟩
  | .hbm, ⟨31, _⟩ => ⟨S1x256, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x256, .f32⟩
  | .hbm, ⟨39, _⟩ => ⟨S8192x256, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x256, .f32⟩
  | .hbm, ⟨47, _⟩ => ⟨S8192x256, .f32⟩
  | .hbm, ⟨48, _⟩ => ⟨S8192x256, .f32⟩
  | .hbm, ⟨49, _⟩ => ⟨S8192x256, .f32⟩
  | .hbm, ⟨50, _⟩ => ⟨S8192x256, .f32⟩
  | .hbm, ⟨51, _⟩ => ⟨S8192x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== KvUpBwd.lean ====
abbrev S8192x1024 : Shape := ⟨2, ![8192, 1024]⟩
abbrev S128x1024 : Shape := ⟨2, ![128, 1024]⟩
abbrev S8192x1536 : Shape := ⟨2, ![8192, 1536]⟩
abbrev S1x128 : Shape := ⟨2, ![1, 128]⟩
abbrev S8192x128 : Shape := ⟨2, ![8192, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x1536, .f32⟩
  | .hbm, ⟨3, _⟩ => ⟨S1x128, .f32⟩
  | .hbm, ⟨4, _⟩ => ⟨S8192x128, .bf16⟩
  | .hbm, ⟨5, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S128x1024, .bf16⟩
  | .local _ .vmem, ⟨3, _⟩ => ⟨S512x128, .f32⟩
  | .local _ .vmem, ⟨4, _⟩ => ⟨S512x128, .f32⟩
  | .local _ .vmem, ⟨5, _⟩ => ⟨S1x128, .f32⟩
  | .local _ .vmem, ⟨6, _⟩ => ⟨S512x128, .bf16⟩
  | .local _ .vmem, ⟨7, _⟩ => ⟨S512x128, .bf16⟩
  | .local _ .vmem, ⟨8, _⟩ => ⟨S1x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KvLatentGradIdeal.lean ====
abbrev S8192x1024 : Shape := ⟨2, ![8192, 1024]⟩
abbrev S128x1024 : Shape := ⟨2, ![128, 1024]⟩
abbrev S8192x1536 : Shape := ⟨2, ![8192, 1536]⟩
abbrev S1x128 : Shape := ⟨2, ![1, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128 : Shape := ⟨1, ![128]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x1536, .f32⟩
  | .hbm, ⟨3, _⟩ => ⟨S1x128, .f32⟩
  | .hbm, ⟨4, _⟩ => ⟨S8192x128, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S128x1024, .f32⟩
  | .hbm, ⟨25, _⟩ => ⟨S8192x1024, .f32⟩
  | .hbm, ⟨26, _⟩ => ⟨S8192x1024, .f32⟩
  | .hbm, ⟨27, _⟩ => ⟨S8192x128, .f32⟩
  | .hbm, ⟨28, _⟩ => ⟨S8192x128, .f32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x128, .f32⟩
  | .hbm, ⟨39, _⟩ => ⟨S8192x128, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S8192x128, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== ConvNormBwd.lean ====
abbrev S8192x512 : Shape := ⟨2, ![8192, 512]⟩
abbrev S1x512 : Shape := ⟨2, ![1, 512]⟩
abbrev S256x512 : Shape := ⟨2, ![256, 512]⟩
abbrev S256 : Shape := ⟨1, ![256]⟩
abbrev S256x1 : Shape := ⟨2, ![256, 1]⟩
abbrev S512 : Shape := ⟨1, ![512]⟩

abbrev nBuf : Space → Nat
  | .hbm => 8
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S8192x512, .f32⟩
  | .hbm, ⟨5, _⟩ => ⟨S1x512, .f32⟩
  | .hbm, ⟨6, _⟩ => ⟨S1x512, .f32⟩
  | .hbm, ⟨7, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvNormGradIdeal.lean ====
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S512 : Shape := ⟨1, ![512]⟩

abbrev nBuf : Space → Nat
  | .hbm => 96
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S8192x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x512, .f32⟩
  | .hbm, ⟨64, _⟩ => ⟨S8192x512, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x512, .f32⟩
  | .hbm, ⟨86, _⟩ => ⟨S8192x512, .f32⟩
  | .hbm, ⟨87, _⟩ => ⟨S_, .f32⟩
  | .hbm, ⟨88, _⟩ => ⟨S1x512, .f32⟩
  | .hbm, ⟨89, _⟩ => ⟨S_, .f32⟩
  | .hbm, ⟨90, _⟩ => ⟨S8192x512, .f32⟩
  | .hbm, ⟨91, _⟩ => ⟨S8192x512, .f32⟩
  | .hbm, ⟨92, _⟩ => ⟨S8192x512, .f32⟩
  | .hbm, ⟨93, _⟩ => ⟨S_, .f32⟩
  | .hbm, ⟨94, _⟩ => ⟨S512, .f32⟩
  | .hbm, ⟨95, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v23_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v23_1 : Ref sig .tc := ⟨.hbm, 44, rfl⟩
abbrev main_v23_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_13 : Ref sig .tc := ⟨.hbm, 87, rfl⟩
abbrev main_v54 : Ref sig .tc := ⟨.hbm, 88, rfl⟩
abbrev main_cst_14 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_15 : Ref sig .tc := ⟨.hbm, 93, rfl⟩
abbrev main_v58 : Ref sig .tc := ⟨.hbm, 94, rfl⟩
abbrev main_v59 : Ref sig .tc := ⟨.hbm, 95, rfl⟩

abbrev nD : Nat := 1
abbrev τ : Topo := Topo.v7x

variable {F : FTy → Type} [FloatOps F]
-- ==== Proof.RmsMath.lean ====
/-
  The gradient of a root-mean-square normalisation, as two different sequences of operations: the form the kernels
  compute (subtract the projection on the normalised row, multiply by the reciprocal root) and the form the chain
  rule gives. Over the extended reals the two agree for every row, infinite entries included.
-/
module

public import Idealize.ShloMosaic.Lib.IdealHost

@[expose] public section

noncomputable section

namespace Cert.Grad

open Idealize.ShloMosaic
open scoped BigOperators

/-! ## Sums and products of extended reals -/

/-- A nonnegative real factor goes into a sum of extended reals. -/
theorem sum_mul_coe {ι : Type} (s : Finset ι) (f : ι → EReal) {r : ℝ} (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- A nonnegative real factor distributes over a difference. -/
theorem coe_mul_sub {r : ℝ} (hr : 0 ≤ r) (a b : EReal) : (r : EReal) * (a - b) = (r : EReal) * a + -((r : EReal) * b) := by
  rw [sub_eq_add_neg, EReal.left_distrib_of_nonneg_of_ne_top (by exact_mod_cast hr) (EReal.coe_ne_top r), mul_neg]

/-- Twice a product with a real factor. -/
theorem double_mul_coe (y : EReal) (r : ℝ) : y * (r : EReal) + y * (r : EReal) = y * ((2 * r : ℝ) : EReal) := by
  have h : (2 : EReal) * (y * (r : EReal)) = y * (r : EReal) + y * (r : EReal) := by
    have h2 : (2 : EReal) = 1 + 1 := by norm_num
    rw [h2, EReal.right_distrib_of_nonneg zero_le_one zero_le_one, one_mul]
  rw [← h, mul_left_comm, EReal.coe_mul]
  rfl

/-- A square is not negative. -/
theorem sq_nonneg' (y : EReal) : 0 ≤ y * y := by
  rcases le_total 0 y with h | h
  · exact mul_nonneg h h
  · have h' : 0 ≤ -y := by rwa [EReal.le_neg, neg_zero]
    have := mul_nonneg h' h'
    rwa [neg_mul_neg] at this

/-- A sum of squares is not negative. -/
theorem sum_sq_nonneg {n : ℕ} (x : Fin n → EReal) : 0 ≤ ∑ d, x d * x d :=
  Finset.sum_nonneg fun d _ => sq_nonneg' (x d)

/-! ## The normalisation -/

/-- The reciprocal root of a row's mean square (`c` its length) plus `e`. -/
def rstd {n : ℕ} (c e : EReal) (x : Fin n → EReal) : EReal :=
  Ideal.rsqrt (Ideal.div (∑ d, x d * x d) c + e)

/-- The row, normalised. -/
def hat {n : ℕ} (c e : EReal) (x : Fin n → EReal) (d : Fin n) : EReal := x d * rstd c e x

/-- The gradient of the normalisation at `x`, `dh` that of its result: the kernels' form. -/
def normBwd {n : ℕ} (c e : EReal) (x dh : Fin n → EReal) (d : Fin n) : EReal :=
  rstd c e x * (dh d - hat c e x d * Ideal.div (∑ k, dh k * hat c e x k) c)

/-- The factor the chain rule multiplies the row by, once for each of the two factors of its square. -/
def chainFactor {n : ℕ} (c e h : EReal) (x dh : Fin n → EReal) : EReal :=
  Ideal.div ((∑ k, x k * dh k) * (h * Ideal.div (rstd c e x) (Ideal.div (∑ d, x d * x d) c + e))) c

/-- The mean square plus a positive real is infinite or a positive real; its reciprocal root is then a real too. -/
theorem mean_cases {n : ℕ} {c e : ℝ} (hc : 0 < c) (he : 0 < e) (x : Fin n → EReal) :
    Ideal.div (∑ d, x d * x d) (c : EReal) + (e : EReal) = ⊤
    ∨ ∃ w : ℝ, 0 < w ∧ Ideal.div (∑ d, x d * x d) (c : EReal) + (e : EReal) = (w : EReal) := by
  rw [Ideal.div_coe hc.ne']
  have h0 : 0 ≤ (∑ d, x d * x d) * ((1 / c : ℝ) : EReal) :=
    mul_nonneg (sum_sq_nonneg x) (by exact_mod_cast (by positivity : (0 : ℝ) ≤ 1 / c))
  generalize (∑ d, x d * x d) * ((1 / c : ℝ) : EReal) = s at h0 ⊢
  induction s with
  | bot => simp at h0
  | top => left; simp
  | coe r =>
    right
    have hr : 0 ≤ r := by exact_mod_cast h0
    exact ⟨r + e, by linarith, by push_cast; rfl⟩

/-- The reciprocal root of a positive real. -/
theorem rsqrt_coe_pos {w : ℝ} (hw : 0 < w) : Ideal.rsqrt (w : EReal) = (((Real.sqrt w)⁻¹ : ℝ) : EReal) := by
  show (if w < 0 then ⊥ else if w = 0 then ⊤ else (((Real.sqrt w)⁻¹ : ℝ) : EReal)) = _
  rw [if_neg (not_lt.2 hw.le), if_neg hw.ne']

/-- THE GRADIENT OF THE NORMALISATION: the chain rule's form is the kernels' form, for every row. -/
theorem normBwd_eq {n : ℕ} {c e : ℝ} (hc : 0 < c) (he : 0 < e) (x dh : Fin n → EReal) (d : Fin n) :
    dh d * rstd (c : EReal) (e : EReal) x + x d * chainFactor (c : EReal) (e : EReal) ((-(1 / 2) : ℝ) : EReal) x dh
      + chainFactor (c : EReal) (e : EReal) ((-(1 / 2) : ℝ) : EReal) x dh * x d
    = normBwd (c : EReal) (e : EReal) x dh d := by
  unfold normBwd chainFactor hat rstd
  rcases mean_cases hc he x with h | ⟨w, hw, h⟩
  · rw [h, show Ideal.rsqrt ⊤ = 0 from rfl]
    have hz : Ideal.div 0 (⊤ : EReal) = 0 := by
      unfold Ideal.div; rw [if_neg (by simp)]; simp
    have hz' : Ideal.div 0 (c : EReal) = 0 := by rw [Ideal.div_coe hc.ne']; simp
    simp only [hz, mul_zero, hz', zero_mul, add_zero]
  · rw [h, rsqrt_coe_pos hw]
    set ρ : ℝ := (Real.sqrt w)⁻¹ with hρ
    have hρ0 : 0 ≤ ρ := by positivity
    have hρw : 1 / w = ρ * ρ := by
      rw [hρ, ← mul_inv, Real.mul_self_sqrt hw.le, one_div]
    have hs : ∑ k, dh k * (x k * (ρ : EReal)) = (∑ k, x k * dh k) * (ρ : EReal) := by
      rw [sum_mul_coe _ _ hρ0]
      exact Finset.sum_congr rfl fun k _ => by rw [← mul_assoc, mul_comm (dh k)]
    rw [hs, Ideal.div_coe hw.ne', Ideal.div_coe hc.ne', Ideal.div_coe hc.ne', coe_mul_sub hρ0]
    generalize ∑ k, x k * dh k = G
    have e1 : x d * (G * (((-(1 / 2) : ℝ) : EReal) * ((ρ : EReal) * ((1 / w : ℝ) : EReal))) * ((1 / c : ℝ) : EReal))
        = (x d * G) * ((-(1 / 2) * (ρ * (1 / w)) * (1 / c) : ℝ) : EReal) := by
      simp only [EReal.coe_mul, mul_assoc]
    rw [add_assoc, mul_comm (G * _ * _) (x d), e1, double_mul_coe]
    have e2 : (ρ : EReal) * (x d * (ρ : EReal) * (G * (ρ : EReal) * ((1 / c : ℝ) : EReal)))
        = (x d * G) * ((ρ * ρ * ρ * (1 / c) : ℝ) : EReal) := by
      simp only [EReal.coe_mul]; ac_rfl
    rw [e2, mul_comm (dh d), ← mul_neg, ← EReal.coe_neg]
    congr 3
    rw [hρw]; ring

/-- A normalised row is real, whatever the row. -/
theorem hat_real {n : ℕ} {c e : ℝ} (hc : 0 < c) (he : 0 < e) (x : Fin n → EReal) (d : Fin n) :
    ∃ r : ℝ, hat (c : EReal) (e : EReal) x d = (r : EReal) := by
  unfold hat rstd
  rcases mean_cases hc he x with h | ⟨w, hw, h⟩
  · exact ⟨0, by rw [h, show Ideal.rsqrt ⊤ = 0 from rfl]; simp⟩
  · rw [h, rsqrt_coe_pos hw]
    by_cases hx : x d * x d = ⊤
    · exfalso
      have hle : x d * x d ≤ ∑ d, x d * x d :=
        Finset.single_le_sum (f := fun d => x d * x d) (fun k _ => sq_nonneg' (x k)) (Finset.mem_univ d)
      rw [hx, top_le_iff] at hle
      rw [hle, Ideal.div_coe hc.ne', EReal.top_mul_coe_of_pos (by positivity), EReal.top_add_coe] at h
      exact EReal.coe_ne_top w h.symm
    · generalize x d = y at hx
      induction y with
      | bot => simp at hx
      | top => simp at hx
      | coe r => exact ⟨r * (Real.sqrt w)⁻¹, by rw [EReal.coe_mul]⟩

end Cert.Grad

end

end
-- ==== Proof.SoftmaxMath.lean ====
/-
  The gradient of a row softmax, as two different sequences of operations: weights times (cotangent minus the
  weighted sum of cotangents), the form the kernel computes, and the derivative of the quotient exp / sum, the form
  the chain rule gives. They agree over the extended reals on a row of real scores, whatever the cotangents are.
-/
module

public import proofs.«01_k».proof.Proof.RmsMath

@[expose] public section

noncomputable section

namespace Cert.Grad

open Idealize.ShloMosaic
open scoped BigOperators

/-- The greatest entry of a row (`⊥` of an empty one). -/
def rowMax {n : ℕ} (s : Fin n → EReal) : EReal := Finset.univ.fold max ⊥ s

/-- The exponential of a score's distance to the greatest. -/
def expo {n : ℕ} (s : Fin n → EReal) (k : Fin n) : EReal := Ideal.exp (s k - rowMax s)

/-- The sum of the exponentials. -/
def norml {n : ℕ} (s : Fin n → EReal) : EReal := ∑ k, expo s k

/-- The softmax weights of a row of scores. -/
def smax {n : ℕ} (s : Fin n → EReal) (k : Fin n) : EReal := Ideal.div (expo s k) (norml s)

/-- The gradient of the weights at the scores, `dp` that of the weights: the kernel's form. -/
def smaxBwd {n : ℕ} (s dp : Fin n → EReal) (k : Fin n) : EReal :=
  smax s k * (dp k - ∑ l, dp l * smax s l)

/-- The same gradient, as the derivative of a quotient. -/
def quotBwd {n : ℕ} (s dp : Fin n → EReal) (k : Fin n) : EReal :=
  (Ideal.div (dp k) (norml s) + -(∑ l, dp l * Ideal.div 1 (norml s * norml s) * expo s l)) * expo s k

/-- The greatest of a nonempty row of reals is a real. -/
theorem rowMax_real {n : ℕ} (hn : 0 < n) (s : Fin n → EReal) (hs : ∀ k, ∃ r : ℝ, s k = (r : EReal)) :
    ∃ r : ℝ, rowMax s = (r : EReal) := by
  have hsup : rowMax s = Finset.univ.sup s := rfl
  have hne : (Finset.univ : Finset (Fin n)).Nonempty := ⟨⟨0, hn⟩, Finset.mem_univ _⟩
  obtain ⟨k, -, hk⟩ := Finset.exists_mem_eq_sup Finset.univ hne s
  rw [hsup, hk]
  exact hs k

/-- On a row of real scores the exponentials are nonnegative reals and their sum is a positive real. -/
theorem expo_real {n : ℕ} (hn : 0 < n) (s : Fin n → EReal) (hs : ∀ k, ∃ r : ℝ, s k = (r : EReal)) :
    ∃ ε : Fin n → ℝ, ∃ z : ℝ, (∀ k, 0 ≤ ε k ∧ expo s k = (ε k : EReal)) ∧ 0 < z ∧ norml s = (z : EReal) := by
  obtain ⟨M, hM⟩ := rowMax_real hn s hs
  choose r hr using hs
  have he : ∀ k, expo s k = ((Real.exp (r k - M) : ℝ) : EReal) := fun k => by
    unfold expo; rw [hM, hr k, ← EReal.coe_sub]; rfl
  refine ⟨fun k => Real.exp (r k - M), ∑ k, Real.exp (r k - M), fun k => ⟨(Real.exp_pos _).le, he k⟩, ?_, ?_⟩
  · exact Finset.sum_pos (fun k _ => Real.exp_pos _) ⟨⟨0, hn⟩, Finset.mem_univ _⟩
  · unfold norml
    rw [Finset.sum_congr rfl fun k _ => he k]
    exact (map_sum (⟨⟨fun x : ℝ => (x : EReal), rfl⟩, fun _ _ => EReal.coe_add _ _⟩ : ℝ →+ EReal) _ _).symm

/-- THE GRADIENT OF THE SOFTMAX: the derivative of the quotient is the kernel's form, on a row of real scores. -/
theorem quotBwd_eq {n : ℕ} (hn : 0 < n) (s dp : Fin n → EReal) (hs : ∀ k, ∃ r : ℝ, s k = (r : EReal)) (k : Fin n) :
    quotBwd s dp k = smaxBwd s dp k := by
  obtain ⟨ε, z, hε, hz, hZ⟩ := expo_real hn s hs
  unfold quotBwd smaxBwd smax
  have hz0 : (0 : ℝ) ≤ 1 / z := by positivity
  have hw : ∀ l, Ideal.div (expo s l) (norml s) = ((ε l * (1 / z) : ℝ) : EReal) := fun l => by
    rw [hZ, Ideal.div_coe hz.ne', (hε l).2, EReal.coe_mul]
  have hd : Ideal.div 1 (norml s * norml s) = ((1 / (z * z) : ℝ) : EReal) := by
    rw [hZ, ← EReal.coe_mul, Ideal.div_coe (mul_pos hz hz).ne', one_mul]
  have hsum : ∑ l, dp l * ((1 / (z * z) : ℝ) : EReal) * expo s l
      = (∑ l, dp l * ((ε l * (1 / z) : ℝ) : EReal)) * ((1 / z : ℝ) : EReal) := by
    rw [sum_mul_coe _ _ hz0]
    refine Finset.sum_congr rfl fun l _ => ?_
    rw [(hε l).2, mul_assoc, mul_assoc, ← EReal.coe_mul, ← EReal.coe_mul]
    congr 2
    field_simp
  simp only [hw, hd]
  rw [hsum]
  generalize ∑ l, dp l * ((ε l * (1 / z) : ℝ) : EReal) = S
  have hk0 : 0 ≤ ε k * (1 / z) := mul_nonneg (hε k).1 hz0
  rw [coe_mul_sub hk0, (hε k).2, hZ, Ideal.div_coe hz.ne',
    EReal.right_distrib_of_nonneg_of_ne_top (by exact_mod_cast (hε k).1) (EReal.coe_ne_top _), neg_mul]
  simp only [EReal.coe_mul]
  congr 1
  · ac_rfl
  · congr 1; ac_rfl

end Cert.Grad

end

end
-- ==== Proof.MemAttnMath.lean ====
/-
  The gradient of the memory cross-attention, one head at a time, in plain sums: what each result of the kernel is,
  as a function of the head's queries, keys, values, the gradient of its output and the two gain rows.
-/
module

public import proofs.«01_k».proof.Proof.SoftmaxMath
public import Idealize.ShloMosaic.Lib.Pointwise

@[expose] public section

noncomputable section

namespace Cert.Grad

open Idealize.ShloMosaic
open scoped BigOperators

/-! ## The constants, as the programs spell them -/

/-- A head's width, 256, the divisor of the mean squares. -/
abbrev cWidth : EReal := Ideal.ofBits .f32 0x43800000#32
/-- The normalisations' epsilon. -/
abbrev cEps : EReal := Ideal.ofBits .f32 0x358637BD#32
/-- One sixteenth, the factor of the scores. -/
abbrev cScale : EReal := Ideal.ofBits .f32 0x3D800000#32

theorem cWidth_eq : cWidth = ((256 : ℝ) : EReal) := by
  simp [cWidth, Ideal.ofBits, Ideal.ieee, -EReal.coe_mul]; norm_num

theorem cEps_real : ∃ e : ℝ, 0 < e ∧ cEps = (e : EReal) := by
  refine ⟨8796093 * (2 : ℝ) ^ (-43 : ℤ), by positivity, ?_⟩
  simp [cEps, Ideal.ofBits, Ideal.ieee, -EReal.coe_mul]

theorem cScale_eq : cScale = ((1 / 16 : ℝ) : EReal) := by
  simp [cScale, Ideal.ofBits, Ideal.ieee, -EReal.coe_mul]; norm_num

theorem cSixteen_eq : Ideal.ofBits .f32 0x41800000#32 = ((16 : ℝ) : EReal) := by
  simp [Ideal.ofBits, Ideal.ieee, -EReal.coe_mul]; norm_num

theorem cMinusHalf_eq : Ideal.ofBits .f32 0xBF000000#32 = ((-(1 / 2) : ℝ) : EReal) := by
  simp [Ideal.ofBits, Ideal.ieee, -EReal.coe_mul, -EReal.coe_neg]; norm_num

theorem cNegInf_eq : Ideal.ofBits .f32 0xFF800000#32 = ⊥ := by
  simp [Ideal.ofBits, Ideal.ieee]

theorem cInf_eq : Ideal.ofBits .f32 0x7F800000#32 = ⊤ := by
  simp [Ideal.ofBits, Ideal.ieee]

/-- Dividing by sixteen is multiplying by a sixteenth. -/
theorem div_sixteen (x : EReal) : Ideal.div x (Ideal.ofBits .f32 0x41800000#32) = x * cScale := by
  rw [cSixteen_eq, cScale_eq, Ideal.div_coe (by norm_num)]

/-! ## One head -/

section Head

variable (K V : Fin 256 → Fin 256 → EReal) (gq gk : Fin 256 → EReal)

/-- A row, normalised and multiplied by the gains. -/
def nrm (x g : Fin 256 → EReal) (d : Fin 256) : EReal := hat cWidth cEps x d * g d

/-- A query row's scaled scores against the keys. -/
def score (q : Fin 256 → EReal) (k : Fin 256) : EReal := (∑ d, nrm q gq d * nrm (K k) gk d) * cScale

/-- The gradient of a query row's attention weights, from the gradient `o` of the row's output. -/
def dprob (o : Fin 256 → EReal) (k : Fin 256) : EReal := ∑ d, o d * V k d

/-- The gradient of a query row's unscaled scores. -/
def dscore (q o : Fin 256 → EReal) (k : Fin 256) : EReal := smaxBwd (score K gq gk q) (dprob V o) k * cScale

/-- The gradient of a normalised query row. -/
def dqn (q o : Fin 256 → EReal) (d : Fin 256) : EReal := ∑ k, dscore K V gq gk q o k * nrm (K k) gk d

/-- The gradient of a query row. -/
def dquery (q o : Fin 256 → EReal) (d : Fin 256) : EReal :=
  normBwd cWidth cEps q (fun e => dqn K V gq gk q o e * gq e) d

/-- The part of the gradient of the values that a query row contributes. -/
def dvalTerm (q o : Fin 256 → EReal) (k d : Fin 256) : EReal := smax (score K gq gk q) k * o d

/-- The part of the gradient of the normalised keys that a query row contributes. -/
def dknTerm (q o : Fin 256 → EReal) (k d : Fin 256) : EReal := dscore K V gq gk q o k * nrm q gq d

variable (Q O : Fin 8192 → Fin 256 → EReal)

/-- The gradient of the values. -/
def dval (k d : Fin 256) : EReal := ∑ r, dvalTerm K gq gk (Q r) (O r) k d

/-- The gradient of the normalised keys. -/
def dkn (k d : Fin 256) : EReal := ∑ r, dknTerm K V gq gk (Q r) (O r) k d

/-- The gradient of the keys. -/
def dkey (k d : Fin 256) : EReal := normBwd cWidth cEps (K k) (fun e => dkn K V gq gk Q O k e * gk e) d

/-- The gradient of the query gains, the part of one head. -/
def dgqHead (d : Fin 256) : EReal := ∑ r, dqn K V gq gk (Q r) (O r) d * hat cWidth cEps (Q r) d

/-- The gradient of the key gains, the part of one head. -/
def dgkHead (d : Fin 256) : EReal := ∑ k, dkn K V gq gk Q O k d * hat cWidth cEps (K k) d

end Head

/-- With real gains every scaled score is real, whatever the queries and keys are. -/
theorem score_real (K : Fin 256 → Fin 256 → EReal) (gq gk q : Fin 256 → EReal) (hq : ∀ d, ∃ r : ℝ, gq d = (r : EReal))
    (hk : ∀ d, ∃ r : ℝ, gk d = (r : EReal)) (k : Fin 256) : ∃ r : ℝ, score K gq gk q k = (r : EReal) := by
  obtain ⟨e, he, hE⟩ := cEps_real
  have hn : ∀ (x g : Fin 256 → EReal), (∀ d, ∃ r : ℝ, g d = (r : EReal)) → ∀ d, ∃ r : ℝ, nrm x g d = (r : EReal) := by
    intro x g hg d
    obtain ⟨a, ha⟩ := hat_real (c := 256) (e := e) (by norm_num) he x d
    obtain ⟨b, hb⟩ := hg d
    exact ⟨a * b, by unfold nrm; rw [cWidth_eq, hE, ha, hb, EReal.coe_mul]⟩
  choose a ha using hn q gq hq
  choose b hb using hn (K k) gk hk
  refine ⟨(∑ d, a d * b d) * (1 / 16), ?_⟩
  unfold score
  rw [cScale_eq, EReal.coe_mul]
  congr 1
  rw [show ((∑ d, a d * b d : ℝ) : EReal) = ∑ d, ((a d * b d : ℝ) : EReal) from
    map_sum (⟨⟨fun x : ℝ => (x : EReal), rfl⟩, fun _ _ => EReal.coe_add _ _⟩ : ℝ →+ EReal) _ _]
  exact Finset.sum_congr rfl fun d _ => by rw [ha d, hb d, EReal.coe_mul]

/-- The chain rule's gradient of a normalisation over a head's width, at the programs' constants. -/
theorem normBwd_width (x dh : Fin 256 → EReal) (d : Fin 256) :
    dh d * rstd cWidth cEps x + x d * chainFactor cWidth cEps (Ideal.ofBits .f32 0xBF000000#32) x dh
      + chainFactor cWidth cEps (Ideal.ofBits .f32 0xBF000000#32) x dh * x d
    = normBwd cWidth cEps x dh d := by
  obtain ⟨e, he, hE⟩ := cEps_real
  rw [cWidth_eq, hE, cMinusHalf_eq]
  exact normBwd_eq (by norm_num) he x dh d

end Cert.Grad

end

end
-- ==== Proof.MemAttnBlock.lean ====
/-
  What the gradient kernel's body computes at one grid point, entry by entry: a block of 512 query rows of one head
  against the head's keys and values, as the per-row functions of `Cert.Grad`.
-/
module

public import proofs.«01_k».proof.Proof.MemAttnMath
public import proofs.«01_k».proof.Proof.Gen.KernelIdeal.Value
public import Idealize.ShloMosaic.Lib.Pipeline.ValueKit

@[expose] public section

set_option maxRecDepth 16384

noncomputable section

namespace Cert.KernelIdeal.Block

open Idealize.ShloMosaic
open Cert.KernelIdeal Cert.KernelIdeal.Gen Cert.Grad
open scoped BigOperators

/-- A row of a block. -/
abbrev row {n : ℕ} (x : FVec Ideal ⟨2, ![n, 256]⟩ .f32) (r : Fin n) : Fin 256 → EReal := fun d => x (ix2 r d)
/-- A row of a block of 16-bit floats. -/
abbrev rowB {n : ℕ} (x : FVec Ideal ⟨2, ![n, 256]⟩ .bf16) (r : Fin n) : Fin 256 → EReal := fun d => x (ix2 r d)

variable (q : FVec Ideal S512x256 .f32) (o : FVec Ideal S512x256 .bf16) (k v : FVec Ideal S256x256 .f32)
  (gq gk : FVec Ideal S1x256 .f32)

theorem rq_at (r : Fin 512) (x : Fin 1) : k0_pay10 (F := Ideal) q (ix2 r x) = rstd cWidth cEps (row q r) := by
  obtain rfl : x = 0 := Subsingleton.elim _ _
  pointwise [k0_pay10]
  rfl

theorem qh_at (r : Fin 512) (d : Fin 256) : k0_pay11 (F := Ideal) q (ix2 r d) = hat cWidth cEps (row q r) d := by
  pointwise [k0_pay11, rq_at]
  rfl

theorem rk_at (r : Fin 256) (x : Fin 1) : k0_pay12 (F := Ideal) k (ix2 r x) = rstd cWidth cEps (row k r) := by
  obtain rfl : x = 0 := Subsingleton.elim _ _
  pointwise [k0_pay12]
  rfl

theorem kh_at (r d : Fin 256) : k0_pay13 (F := Ideal) k (ix2 r d) = hat cWidth cEps (row k r) d := by
  pointwise [k0_pay13, rk_at]
  rfl

theorem kn_at (r d : Fin 256) : k0_pay14 (F := Ideal) k gk (ix2 r d) = nrm (row k r) (row gk 0) d := by
  pointwise [k0_pay14, kh_at]
  rfl

theorem qn_at (r : Fin 512) (d : Fin 256) : k0_pay15 (F := Ideal) q gq (ix2 r d) = nrm (row q r) (row gq 0) d := by
  pointwise [k0_pay15, qh_at]
  rfl

theorem knb_at (x : FVec Ideal S256x256 .f32) (r d : Fin 256) : k0_pay16 (F := Ideal) x (ix2 r d) = x (ix2 r d) := by
  pointwise [k0_pay16]

theorem p_at (r : Fin 512) (j : Fin 256) :
    k0_pay17 (F := Ideal) (k0_pay14 k gk) (k0_pay15 q gq) (ix2 r j) = smax (score (row k) (row gq 0) (row gk 0) (row q r)) j := by
  pointwise [k0_pay17, knb_at, kn_at, qn_at]
  rw [cNegInf_eq]
  rfl

theorem dv_at (a : FVec Ideal S256x256 .f32) (j d : Fin 256) :
    k0_pay18 (F := Ideal) (k0_pay14 k gk) (k0_pay15 q gq) o a (ix2 j d)
      = a (ix2 j d) + ∑ r : Fin 512, dvalTerm (row k) (row gq 0) (row gk 0) (row q r) (rowB o r) j d := by
  pointwise [k0_pay18, p_at]
  rfl

theorem ds_at (r : Fin 512) (j : Fin 256) :
    k0_pay19 (F := Ideal) (k0_pay14 k gk) (k0_pay15 q gq) o v (ix2 r j)
      = dscore (row k) (row v) (row gq 0) (row gk 0) (row q r) (rowB o r) j := by
  pointwise [k0_pay19, p_at]
  rfl

theorem dqn_at (r : Fin 512) (d : Fin 256) :
    k0_pay20 (F := Ideal) (k0_pay14 k gk) (k0_pay15 q gq) o v (ix2 r d)
      = dqn (row k) (row v) (row gq 0) (row gk 0) (row q r) (rowB o r) d := by
  pointwise [k0_pay20, ds_at, knb_at, kn_at]
  rfl

theorem dkn_at (a : FVec Ideal S256x256 .f32) (j d : Fin 256) :
    k0_pay1 (F := Ideal) (k0_pay21 (k0_pay14 k gk) (k0_pay15 q gq) o v a) (ix2 j d)
      = a (ix2 j d) + ∑ r : Fin 512, dknTerm (row k) (row v) (row gq 0) (row gk 0) (row q r) (rowB o r) j d := by
  pointwise [k0_pay1, k0_pay21, ds_at, qn_at]
  rfl

theorem dgq_at (a : FVec Ideal S1x256 .f32) (d : Fin 256) :
    k0_pay2 (F := Ideal) (k0_pay11 q) (k0_pay20 (k0_pay14 k gk) (k0_pay15 q gq) o v) a (ix2 0 d)
      = a (ix2 0 d) + ∑ r : Fin 512, dqn (row k) (row v) (row gq 0) (row gk 0) (row q r) (rowB o r) d
          * hat cWidth cEps (row q r) d := by
  pointwise [k0_pay2, dqn_at, qh_at]

theorem dq_at (r : Fin 512) (d : Fin 256) :
    k0_pay3 (F := Ideal) (k0_pay10 q) (k0_pay11 q) (k0_pay20 (k0_pay14 k gk) (k0_pay15 q gq) o v) gq (ix2 r d)
      = dquery (row k) (row v) (row gq 0) (row gk 0) (row q r) (rowB o r) d := by
  pointwise [k0_pay3, dqn_at, qh_at, rq_at]
  rfl

theorem dgk_at (s : FVec Ideal S256x256 .f32) (a : FVec Ideal S1x256 .f32) (d : Fin 256) :
    k0_pay4 (F := Ideal) (k0_pay13 k) s a (ix2 0 d) = a (ix2 0 d) + ∑ j : Fin 256, s (ix2 j d) * hat cWidth cEps (row k j) d := by
  pointwise [k0_pay4, kh_at]

theorem dk_at (s : FVec Ideal S256x256 .f32) (j d : Fin 256) :
    k0_pay5 (F := Ideal) (k0_pay12 k) (k0_pay13 k) s gk (ix2 j d)
      = normBwd cWidth cEps (row k j) (fun e => row s j e * row gk 0 e) d := by
  pointwise [k0_pay5, kh_at, rk_at]
  rfl

theorem zero1_at (x : Fin 1) (d : Fin 256) : (k0_pay6 (F := Ideal)) (ix2 x d) = 0 := by
  pointwise [k0_pay6]

theorem zero2_at (x : Fin 1) (d : Fin 256) : (k0_pay7 (F := Ideal)) (ix2 x d) = 0 := by
  pointwise [k0_pay7]

theorem zero3_at (j d : Fin 256) : (k0_pay8 (F := Ideal)) (ix2 j d) = 0 := by
  pointwise [k0_pay8]

theorem zero4_at (j d : Fin 256) : (k0_pay9 (F := Ideal)) (ix2 j d) = 0 := by
  pointwise [k0_pay9]

end Cert.KernelIdeal.Block

end

end
-- ==== Proof.MemAttnRows.lean ====
/-
  The rows of one head in the arrays the memory cross-attention's gradient takes: head `h` of the queries, keys and
  values is a band of 256 columns.
-/
module

public import proofs.«01_k».proof.Proof.MemAttnMath

@[expose] public section

noncomputable section

namespace Cert.Grad

open Idealize.ShloMosaic

/-- Entry `d` of row `r` of head `h` of an array of 8192 rows of four heads. -/
def band (x : FVec Ideal ⟨2, ![8192, 1024]⟩ .f32) (h : Fin 4) (r : Fin 8192) (d : Fin 256) : EReal :=
  x (ix2 r ⟨(h : ℕ) * 256 + d, by omega⟩)

/-- The same of an array of 16-bit floats. -/
def bandB (x : FVec Ideal ⟨2, ![8192, 1024]⟩ .bf16) (h : Fin 4) (r : Fin 8192) (d : Fin 256) : EReal :=
  x (ix2 r ⟨(h : ℕ) * 256 + d, by omega⟩)

/-- Entry `d` of key `k` of head `h`: the keys are the first half of the columns. -/
def keys (x : FVec Ideal ⟨2, ![256, 2048]⟩ .f32) (h : Fin 4) (k d : Fin 256) : EReal :=
  x (ix2 k ⟨(h : ℕ) * 256 + d, by omega⟩)

/-- Entry `d` of value `k` of head `h`: the values are the second half of the columns. -/
def vals (x : FVec Ideal ⟨2, ![256, 2048]⟩ .f32) (h : Fin 4) (k d : Fin 256) : EReal :=
  x (ix2 k ⟨1024 + ((h : ℕ) * 256 + d), by omega⟩)

/-- A gain row. -/
def gain (x : FVec Ideal ⟨2, ![1, 256]⟩ .f32) (d : Fin 256) : EReal := x (ix2 0 d)

end Cert.Grad

end

end
-- ==== Proof.MemAttnStep.lean ====
/-
  What one grid point of the gradient kernel leaves in its buffers, over what the point before left: the point
  `t = 16 h + i` works on head `h` and the rows `512 i … 512 i + 511`.
-/
module

public import proofs.«01_k».proof.Proof.MemAttnBlock
public import proofs.«01_k».proof.Proof.MemAttnRows

@[expose] public section

set_option maxRecDepth 16384

noncomputable section

namespace Cert.KernelIdeal.Block

open Idealize.ShloMosaic Idealize.ShloMosaic.TcCoe Idealize.SL.Sem
open Cert.KernelIdeal Cert.KernelIdeal.Gen Cert.KernelIdeal.Value Cert.Grad
open scoped BigOperators

variable (m : (ℓ : Loc nD τ sig) → Buf (Elt Ideal) ℓ) (c : Dev nD)

/-- The head of a grid point. -/
def hd (t : Fin cfg0.N) : Fin 4 := ⟨t.val / 16, by have := lt_of_lt_of_eq t.isLt (show cfg0.N = 64 from N_0); omega⟩
/-- The row of the arrays that row `r` of a grid point's block is. -/
def rw' (t : Fin cfg0.N) (r : Fin 512) : Fin 8192 := ⟨512 * (t.val % 16) + r, by omega⟩

/-- The queries. -/
abbrev xq : FVec Ideal S8192x1024 .f32 := m ((c : Thread nD τ).loc main_arg0)
/-- The keys and values. -/
abbrev xkv : FVec Ideal S256x2048 .f32 := m ((c : Thread nD τ).loc main_arg1)
/-- The gradient of the attention's output. -/
abbrev xo : FVec Ideal S8192x1024 .bf16 := m ((c : Thread nD τ).loc main_arg2)
/-- The query gains. -/
abbrev xgq : FVec Ideal S1x256 .f32 := m ((c : Thread nD τ).loc main_arg3)
/-- The key gains. -/
abbrev xgk : FVec Ideal S1x256 .f32 := m ((c : Thread nD τ).loc main_arg4)

theorem idx : ∀ t : Fin cfg0.N, win0_0.index t = ![t.val % 16, t.val / 16] ∧ win0_1.index t = ![0, t.val / 16]
    ∧ win0_2.index t = ![0, 4 + t.val / 16] ∧ win0_3.index t = ![t.val % 16, t.val / 16] ∧ win0_4.index t = ![0, 0]
    ∧ win0_5.index t = ![0, 0] ∧ win0_6.index t = ![t.val % 16, t.val / 16] ∧ win0_7.index t = ![0, t.val / 16]
    ∧ win0_8.index t = ![0, t.val / 16] ∧ win0_9.index t = ![0, 0] ∧ win0_10.index t = ![0, 0] :=
  (by decide +kernel : ∀ t : Fin grid0.N, _)

theorem iblk0 (t : Fin cfg0.N) (r : Fin 512) : row (iblk m c 0 t) r = band (xq m c) (hd t) (rw' t r) := by
  funext d
  show (iblk m c 0 t) (ix2 r d) = (m ((c : Thread nD τ).loc main_arg0)) (ix2 _ _)
  blk_point [iblk, V, idx t, hd, rw']

theorem iblk1 (t : Fin cfg0.N) : row (iblk m c 1 t) = keys (xkv m c) (hd t) := by
  funext r d
  show (iblk m c 1 t) (ix2 r d) = (m ((c : Thread nD τ).loc main_arg1)) (ix2 _ _)
  blk_point [iblk, V, idx t, hd]

theorem iblk2 (t : Fin cfg0.N) : row (iblk m c 2 t) = vals (xkv m c) (hd t) := by
  funext r d
  show (iblk m c 2 t) (ix2 r d) = (m ((c : Thread nD τ).loc main_arg1)) (ix2 _ _)
  blk_point [iblk, V, idx t, hd]

theorem iblk3 (t : Fin cfg0.N) (r : Fin 512) : rowB (iblk m c 3 t) r = bandB (xo m c) (hd t) (rw' t r) := by
  funext d
  show (iblk m c 3 t) (ix2 r d) = (m ((c : Thread nD τ).loc main_arg2)) (ix2 _ _)
  blk_point [iblk, V, idx t, hd, rw']

theorem iblk4 (t : Fin cfg0.N) : row (iblk m c 4 t) 0 = gain (xgq m c) := by
  funext d
  show (iblk m c 4 t) (ix2 0 d) = (m ((c : Thread nD τ).loc main_arg3)) (ix2 _ _)
  blk_point [iblk, V, idx t]

theorem iblk5 (t : Fin cfg0.N) : row (iblk m c 5 t) 0 = gain (xgk m c) := by
  funext d
  show (iblk m c 5 t) (ix2 0 d) = (m ((c : Thread nD τ).loc main_arg4)) (ix2 _ _)
  blk_point [iblk, V, idx t]

/-- What the point before left. -/
abbrev prev (t : Fin cfg0.N) := outsAt0 m c (t.val - 1) (Nat.lt_of_le_of_lt (Nat.sub_le _ _) t.isLt)

/-- The query gradients a point stores. -/
theorem step6 (t : Fin cfg0.N) (r : Fin 512) (d : Fin 256) :
    (outsAt0 m c t.val t.isLt).1 (ix2 r d)
      = dquery (keys (xkv m c) (hd t)) (vals (xkv m c) (hd t)) (gain (xgq m c)) (gain (xgk m c))
          (band (xq m c) (hd t) (rw' t r)) (bandB (xo m c) (hd t) (rw' t r)) d := by
  rw [← iblk0, ← iblk1, ← iblk2, ← iblk3, ← iblk4 m c t, ← iblk5 m c t]
  by_cases h0 : t.val % 64 = 0
  · rw [outsAt0_A m c t h0 (by omega) (by omega)]; frame_out; exact dq_at _ _ _ _ _ _ _ _
  · by_cases h1 : t.val % 16 = 0
    · rw [outsAt0_D m c t h0 h1 (by omega)]; frame_out; exact dq_at _ _ _ _ _ _ _ _
    · by_cases h2 : t.val % 16 = 15
      · rw [outsAt0_C m c t h0 h1 h2]; frame_out; exact dq_at _ _ _ _ _ _ _ _
      · rw [outsAt0_B m c t h0 h1 h2]; frame_out; exact dq_at _ _ _ _ _ _ _ _

/-- A point's contribution to the value gradients. -/
def part8 (t : Fin cfg0.N) (j d : Fin 256) : EReal :=
  ∑ r : Fin 512, dvalTerm (keys (xkv m c) (hd t)) (gain (xgq m c)) (gain (xgk m c)) (band (xq m c) (hd t) (rw' t r))
    (bandB (xo m c) (hd t) (rw' t r)) j d

theorem part8_eq (t : Fin cfg0.N) (a : FVec Ideal S256x256 .f32) (j d : Fin 256) :
    k0_pay18 (F := Ideal) (k0_pay14 (iblk m c 1 t) (iblk m c 5 t)) (k0_pay15 (iblk m c 0 t) (iblk m c 4 t)) (iblk m c 3 t) a (ix2 j d)
      = a (ix2 j d) + part8 m c t j d := by
  unfold part8
  simp only [← iblk0, ← iblk1, ← iblk3, ← iblk4 m c t, ← iblk5 m c t]
  exact dv_at _ _ _ _ _ _ _ _

theorem step8_first (t : Fin cfg0.N) (h1 : t.val % 16 = 0) (j d : Fin 256) :
    (outsAt0 m c t.val t.isLt).2.2.1 (ix2 j d) = 0 + part8 m c t j d := by
  rw [← zero3_at j d, ← part8_eq]
  by_cases h0 : t.val % 64 = 0
  · rw [outsAt0_A m c t h0 (by omega) (by omega)]; frame_out
  · rw [outsAt0_D m c t h0 h1 (by omega)]; frame_out

theorem step8_next (t : Fin cfg0.N) (h1 : ¬t.val % 16 = 0) (j d : Fin 256) :
    (outsAt0 m c t.val t.isLt).2.2.1 (ix2 j d) = (prev m c t).2.2.1 (ix2 j d) + part8 m c t j d := by
  rw [← part8_eq]
  by_cases h2 : t.val % 16 = 15
  · rw [outsAt0_C m c t (by omega) h1 h2]; frame_out
  · rw [outsAt0_B m c t (by omega) h1 h2]; frame_out

/-- A point's contribution to the gradients of the normalised keys. -/
def partS (t : Fin cfg0.N) (j d : Fin 256) : EReal :=
  ∑ r : Fin 512, dknTerm (keys (xkv m c) (hd t)) (vals (xkv m c) (hd t)) (gain (xgq m c)) (gain (xgk m c))
    (band (xq m c) (hd t) (rw' t r)) (bandB (xo m c) (hd t) (rw' t r)) j d

theorem partS_eq (t : Fin cfg0.N) (a : FVec Ideal S256x256 .f32) (j d : Fin 256) :
    k0_pay1 (F := Ideal) (k0_pay21 (k0_pay14 (iblk m c 1 t) (iblk m c 5 t)) (k0_pay15 (iblk m c 0 t) (iblk m c 4 t))
        (iblk m c 3 t) (iblk m c 2 t) a) (ix2 j d)
      = a (ix2 j d) + partS m c t j d := by
  unfold partS
  simp only [← iblk0, ← iblk1, ← iblk2, ← iblk3, ← iblk4 m c t, ← iblk5 m c t]
  exact dkn_at _ _ _ _ _ _ _ _ _

theorem stepS_first (t : Fin cfg0.N) (h1 : t.val % 16 = 0) (j d : Fin 256) :
    (outsAt0 m c t.val t.isLt).2.2.2.2.2 (ix2 j d) = 0 + partS m c t j d := by
  rw [← zero4_at j d, ← partS_eq]
  by_cases h0 : t.val % 64 = 0
  · rw [outsAt0_A m c t h0 (by omega) (by omega)]; frame_out
  · rw [outsAt0_D m c t h0 h1 (by omega)]; frame_out

theorem stepS_next (t : Fin cfg0.N) (h1 : ¬t.val % 16 = 0) (j d : Fin 256) :
    (outsAt0 m c t.val t.isLt).2.2.2.2.2 (ix2 j d) = (prev m c t).2.2.2.2.2 (ix2 j d) + partS m c t j d := by
  rw [← partS_eq]
  by_cases h2 : t.val % 16 = 15
  · rw [outsAt0_C m c t (by omega) h1 h2]; frame_out; rw [show ∀ X, View.read (Elt Ideal) (View.whole cc0_scratch0) ((Memref.isWhole_whole cc0_scratch0).unread X) = X from (Memref.isWhole_whole cc0_scratch0).read_unread]
  · rw [outsAt0_B m c t (by omega) h1 h2]; frame_out; rw [show ∀ X, View.read (Elt Ideal) (View.whole cc0_scratch0) ((Memref.isWhole_whole cc0_scratch0).unread X) = X from (Memref.isWhole_whole cc0_scratch0).read_unread]

/-- A point's contribution to the gradient of the query gains. -/
def part9 (t : Fin cfg0.N) (d : Fin 256) : EReal :=
  ∑ r : Fin 512, dqn (keys (xkv m c) (hd t)) (vals (xkv m c) (hd t)) (gain (xgq m c)) (gain (xgk m c))
    (band (xq m c) (hd t) (rw' t r)) (bandB (xo m c) (hd t) (rw' t r)) d * hat cWidth cEps (band (xq m c) (hd t) (rw' t r)) d

theorem part9_eq (t : Fin cfg0.N) (a : FVec Ideal S1x256 .f32) (d : Fin 256) :
    k0_pay2 (F := Ideal) (k0_pay11 (iblk m c 0 t)) (k0_pay20 (k0_pay14 (iblk m c 1 t) (iblk m c 5 t))
        (k0_pay15 (iblk m c 0 t) (iblk m c 4 t)) (iblk m c 3 t) (iblk m c 2 t)) a (ix2 0 d)
      = a (ix2 0 d) + part9 m c t d := by
  unfold part9
  simp only [← iblk0, ← iblk1, ← iblk2, ← iblk3, ← iblk4 m c t, ← iblk5 m c t]
  exact dgq_at _ _ _ _ _ _ _ _

theorem step9_first (t : Fin cfg0.N) (h0 : t.val % 64 = 0) (d : Fin 256) :
    (outsAt0 m c t.val t.isLt).2.2.2.1 (ix2 0 d) = 0 + part9 m c t d := by
  rw [← zero1_at 0 d, ← part9_eq, outsAt0_A m c t h0 (by omega) (by omega)]; frame_out

theorem step9_next (t : Fin cfg0.N) (h0 : ¬t.val % 64 = 0) (d : Fin 256) :
    (outsAt0 m c t.val t.isLt).2.2.2.1 (ix2 0 d) = (prev m c t).2.2.2.1 (ix2 0 d) + part9 m c t d := by
  rw [← part9_eq]
  by_cases h1 : t.val % 16 = 0
  · rw [outsAt0_D m c t h0 h1 (by omega)]; frame_out
  · by_cases h2 : t.val % 16 = 15
    · rw [outsAt0_C m c t h0 h1 h2]; frame_out
    · rw [outsAt0_B m c t h0 h1 h2]; frame_out

/-- The key gradients a head's last point stores, over what that point leaves in the scratch. -/
theorem step7 (t : Fin cfg0.N) (h2 : t.val % 16 = 15) (j d : Fin 256) :
    (outsAt0 m c t.val t.isLt).2.1 (ix2 j d)
      = normBwd cWidth cEps (keys (xkv m c) (hd t) j)
          (fun e => (outsAt0 m c t.val t.isLt).2.2.2.2.2 (ix2 j e) * gain (xgk m c) e) d := by
  rw [← iblk1, ← iblk5 m c t, outsAt0_C m c t (by omega) (by omega) h2]; frame_out
  exact dk_at _ _ _ _ _

/-- What a head's last point adds to the gradient of the key gains. -/
theorem step10_last (t : Fin cfg0.N) (h2 : t.val % 16 = 15) (d : Fin 256) :
    (outsAt0 m c t.val t.isLt).2.2.2.2.1 (ix2 0 d)
      = (prev m c t).2.2.2.2.1 (ix2 0 d)
        + ∑ j : Fin 256, (outsAt0 m c t.val t.isLt).2.2.2.2.2 (ix2 j d) * hat cWidth cEps (keys (xkv m c) (hd t) j) d := by
  rw [← iblk1, outsAt0_C m c t (by omega) (by omega) h2]; frame_out
  exact dgk_at _ _ _ _

theorem step10_first (t : Fin cfg0.N) (h0 : t.val % 64 = 0) (d : Fin 256) :
    (outsAt0 m c t.val t.isLt).2.2.2.2.1 (ix2 0 d) = 0 := by
  rw [← zero2_at 0 d, outsAt0_A m c t h0 (by omega) (by omega)]; frame_out

theorem step10_idle (t : Fin cfg0.N) (h0 : ¬t.val % 64 = 0) (h2 : ¬t.val % 16 = 15) (d : Fin 256) :
    (outsAt0 m c t.val t.isLt).2.2.2.2.1 (ix2 0 d) = (prev m c t).2.2.2.2.1 (ix2 0 d) := by
  by_cases h1 : t.val % 16 = 0
  · rw [outsAt0_D m c t h0 h1 h2]; rfl
  · rw [outsAt0_B m c t h0 h1 h2]; rfl

end Cert.KernelIdeal.Block

end

end
-- ==== Proof.MemAttnArr.lean ====
/-
  The five arrays the gradient kernel leaves, entry by entry: the gradients of the memory cross-attention's queries,
  keys, values and gains as `Cert.Grad` names them.
-/
module

public import proofs.«01_k».proof.Proof.MemAttnStep

@[expose] public section

set_option maxRecDepth 16384

noncomputable section

namespace Cert.KernelIdeal.Block

open Idealize.ShloMosaic Idealize.ShloMosaic.TcCoe Idealize.SL.Sem
open Cert.KernelIdeal Cert.KernelIdeal.Gen Cert.KernelIdeal.Value Cert.Grad
open scoped BigOperators

variable (m : (ℓ : Loc nD τ sig) → Buf (Elt Ideal) ℓ) (c : Dev nD)

theorem lt64 (t : Fin cfg0.N) : t.val < 64 := lt_of_lt_of_eq t.isLt (show cfg0.N = 64 from N_0)

/-- The head whose columns a column is in. -/
def hdOf (j : Fin 1024) : Fin 4 := ⟨j.val / 256, by omega⟩
/-- The column within its head. -/
def laneOf (j : Fin 1024) : Fin 256 := ⟨j.val % 256, by omega⟩

/-- The gradient of the queries. -/
def A6 : FVec Ideal S8192x1024 .bf16 := fun i =>
  dquery (keys (xkv m c) (hdOf (i 1))) (vals (xkv m c) (hdOf (i 1))) (gain (xgq m c)) (gain (xgk m c))
    (band (xq m c) (hdOf (i 1)) (i 0)) (bandB (xo m c) (hdOf (i 1)) (i 0)) (laneOf (i 1))

/-- The gradient of the keys. -/
def A7 : FVec Ideal S256x1024 .f32 := fun i =>
  dkey (keys (xkv m c) (hdOf (i 1))) (vals (xkv m c) (hdOf (i 1))) (gain (xgq m c)) (gain (xgk m c))
    (band (xq m c) (hdOf (i 1))) (bandB (xo m c) (hdOf (i 1))) (i 0) (laneOf (i 1))

/-- The gradient of the values. -/
def A8 : FVec Ideal S256x1024 .f32 := fun i =>
  dval (keys (xkv m c) (hdOf (i 1))) (gain (xgq m c)) (gain (xgk m c))
    (band (xq m c) (hdOf (i 1))) (bandB (xo m c) (hdOf (i 1))) (i 0) (laneOf (i 1))

/-- The gradient of the query gains. -/
def A9 : FVec Ideal S1x256 .f32 := fun i =>
  ∑ h : Fin 4, dgqHead (keys (xkv m c) h) (vals (xkv m c) h) (gain (xgq m c)) (gain (xgk m c))
    (band (xq m c) h) (bandB (xo m c) h) (i 1)

/-- The gradient of the key gains. -/
def A10 : FVec Ideal S1x256 .f32 := fun i =>
  ∑ h : Fin 4, dgkHead (keys (xkv m c) h) (vals (xkv m c) h) (gain (xgq m c)) (gain (xgk m c))
    (band (xq m c) h) (bandB (xo m c) h) (i 1)

/-- The points of a head together work on every row. -/
theorem sum_head (t : Fin cfg0.N) (h2 : t.val % 16 = 15) (f : Fin 4 → Fin 8192 → EReal) :
    ∑ s : Fin 16, ∑ r : Fin 512, f (hd ⟨16 * (t.val / 16) + s.val, Pipeline.run_point_lt_of_flush t h2 s⟩)
      (rw' ⟨16 * (t.val / 16) + s.val, Pipeline.run_point_lt_of_flush t h2 s⟩ r) = ∑ R, f (hd t) R := by
  refine Fin.sum_mul_add_congr (S := 16) (n := 512) (fun s r hl => ?_)
  congr 1
  · refine Fin.ext ?_
    show (16 * (t.val / 16) + s.val) / 16 = t.val / 16
    omega
  · refine Fin.ext ?_
    show 512 * ((16 * (t.val / 16) + s.val) % 16) + r.val = s.val * 512 + r.val
    omega

/-- All points together work on every row of every head. -/
theorem sum_all (f : Fin 4 → Fin 8192 → EReal) :
    ∑ t : Fin cfg0.N, ∑ r : Fin 512, f (hd t) (rw' t r) = ∑ h, ∑ R, f h R := by
  refine Fin.sum_points_lanes_congr 16 (fun t r ha hl => ?_) N_0
  congr 1
  refine Fin.ext ?_
  show 512 * (t.val % 16) + r.val = t.val % 16 * 512 + r.val
  omega

/-- What a head's last point leaves of the value gradients. -/
theorem left8 (t : Fin cfg0.N) (h2 : t.val % 16 = 15) (j d : Fin 256) :
    (outsAt0 m c t.val t.isLt).2.2.1 (ix2 j d)
      = dval (keys (xkv m c) (hd t)) (gain (xgq m c)) (gain (xgk m c)) (band (xq m c) (hd t)) (bandB (xo m c) (hd t)) j d := by
  refine (Pipeline.eq_sum_fin_of_reset_step_apply_of_flush (fun n h (_ : Unit) => (outsAt0 m c n h).2.2.1 (ix2 j d)) 16
    (fun _ => (0 : EReal)) (fun t _ => part8 m c t j d) (fun t h _ => step8_first m c t h j d)
    (fun t h _ => step8_next m c t h j d) t h2 ()).trans ?_
  rw [zero_add]
  exact sum_head t h2 fun h R => dvalTerm (keys (xkv m c) h) (gain (xgq m c)) (gain (xgk m c)) (band (xq m c) h R)
    (bandB (xo m c) h R) j d

/-- What a head's last point leaves in the scratch: the gradients of the normalised keys. -/
theorem leftS (t : Fin cfg0.N) (h2 : t.val % 16 = 15) (j d : Fin 256) :
    (outsAt0 m c t.val t.isLt).2.2.2.2.2 (ix2 j d)
      = dkn (keys (xkv m c) (hd t)) (vals (xkv m c) (hd t)) (gain (xgq m c)) (gain (xgk m c)) (band (xq m c) (hd t))
          (bandB (xo m c) (hd t)) j d := by
  refine (Pipeline.eq_sum_fin_of_reset_step_apply_of_flush (fun n h (_ : Unit) => (outsAt0 m c n h).2.2.2.2.2 (ix2 j d)) 16
    (fun _ => (0 : EReal)) (fun t _ => partS m c t j d) (fun t h _ => stepS_first m c t h j d)
    (fun t h _ => stepS_next m c t h j d) t h2 ()).trans ?_
  rw [zero_add]
  exact sum_head t h2 fun h R => dknTerm (keys (xkv m c) h) (vals (xkv m c) h) (gain (xgq m c)) (gain (xgk m c))
    (band (xq m c) h R) (bandB (xo m c) h R) j d

/-- What the last point leaves of the query gains' gradient. -/
theorem left9 (t : Fin cfg0.N) (ht : t.val + 1 = cfg0.N) (d : Fin 256) :
    (outsAt0 m c t.val t.isLt).2.2.2.1 (ix2 0 d) = A9 m c (ix2 0 d) := by
  refine (Pipeline.eq_sum_fin_of_reset_step_apply_last (fun n h (_ : Unit) => (outsAt0 m c n h).2.2.2.1 (ix2 0 d)) 64
    (fun _ => (0 : EReal)) (fun t _ => part9 m c t d) (fun t h _ => step9_first m c t h d)
    (fun t h _ => step9_next m c t h d) (le_of_eq N_0) t ht ()).trans ?_
  rw [zero_add]
  exact sum_all fun h R => dqn (keys (xkv m c) h) (vals (xkv m c) h) (gain (xgq m c)) (gain (xgk m c))
    (band (xq m c) h R) (bandB (xo m c) h R) d * hat cWidth cEps (band (xq m c) h R) d

/-- What a point adds to the key gains' gradient: its head's part, at the head's last point. -/
def part10 (t : Fin cfg0.N) (d : Fin 256) : EReal :=
  if t.val % 16 = 15 then dgkHead (keys (xkv m c) (hd t)) (vals (xkv m c) (hd t)) (gain (xgq m c)) (gain (xgk m c))
    (band (xq m c) (hd t)) (bandB (xo m c) (hd t)) d else 0

/-- What the last point leaves of the key gains' gradient. -/
theorem left10 (t : Fin cfg0.N) (ht : t.val + 1 = cfg0.N) (d : Fin 256) :
    (outsAt0 m c t.val t.isLt).2.2.2.2.1 (ix2 0 d) = A10 m c (ix2 0 d) := by
  refine (Pipeline.eq_sum_fin_of_reset_step_apply_last (fun n h (_ : Unit) => (outsAt0 m c n h).2.2.2.2.1 (ix2 0 d)) 64
    (fun _ => (0 : EReal)) (fun t _ => part10 m c t d) (fun t h _ => ?_) (fun t h _ => ?_) (le_of_eq N_0) t ht ()).trans ?_
  · unfold part10
    rw [if_neg (by omega), add_zero]
    exact step10_first m c t h d
  · unfold part10
    by_cases h2 : t.val % 16 = 15
    · rw [if_pos h2]
      refine (step10_last m c t h2 d).trans ?_
      congr 1
      exact Finset.sum_congr rfl fun j _ => by rw [leftS m c t h2]
    · rw [if_neg h2, add_zero]
      exact step10_idle m c t h h2 d
  · rw [zero_add]
    refine (Fin.sum_divmod_congr (A := 4) (S := 16) (f := fun h s => if s.val = 15 then
      dgkHead (keys (xkv m c) h) (vals (xkv m c) h) (gain (xgq m c)) (gain (xgk m c)) (band (xq m c) h) (bandB (xo m c) h) d
      else 0) (fun t ha hs => rfl) N_0).trans ?_
    refine Finset.sum_congr rfl fun h _ => ?_
    exact (Finset.sum_eq_single (15 : Fin 16) (fun s _ hs => if_neg fun e => hs (Fin.ext e))
      (fun hn => absurd (Finset.mem_univ _) hn)).trans (if_pos rfl)

theorem hdOf_at (h : Fin 4) (d : Fin 256) : hdOf ⟨h.val * 256 + d.val, by omega⟩ = h := by
  refine Fin.ext ?_
  show (h.val * 256 + d.val) / 256 = h.val
  omega

theorem laneOf_at (h : Fin 4) (d : Fin 256) : laneOf ⟨h.val * 256 + d.val, by omega⟩ = d := by
  refine Fin.ext ?_
  show (h.val * 256 + d.val) % 256 = d.val
  omega

theorem A6_at (h : Fin 4) (R : Fin 8192) (d : Fin 256) : A6 m c (ix2 R ⟨h.val * 256 + d.val, by omega⟩)
    = dquery (keys (xkv m c) h) (vals (xkv m c) h) (gain (xgq m c)) (gain (xgk m c)) (band (xq m c) h R)
        (bandB (xo m c) h R) d :=
  congrArg₂ (fun h d => dquery (keys (xkv m c) h) (vals (xkv m c) h) (gain (xgq m c)) (gain (xgk m c))
    (band (xq m c) h R) (bandB (xo m c) h R) d) (hdOf_at h d) (laneOf_at h d)

theorem A7_at (h : Fin 4) (j d : Fin 256) : A7 m c (ix2 j ⟨h.val * 256 + d.val, by omega⟩)
    = dkey (keys (xkv m c) h) (vals (xkv m c) h) (gain (xgq m c)) (gain (xgk m c)) (band (xq m c) h)
        (bandB (xo m c) h) j d :=
  congrArg₂ (fun h d => dkey (keys (xkv m c) h) (vals (xkv m c) h) (gain (xgq m c)) (gain (xgk m c)) (band (xq m c) h)
    (bandB (xo m c) h) j d) (hdOf_at h d) (laneOf_at h d)

theorem A8_at (h : Fin 4) (j d : Fin 256) : A8 m c (ix2 j ⟨h.val * 256 + d.val, by omega⟩)
    = dval (keys (xkv m c) h) (gain (xgq m c)) (gain (xgk m c)) (band (xq m c) h) (bandB (xo m c) h) j d :=
  congrArg₂ (fun h d => dval (keys (xkv m c) h) (gain (xgq m c)) (gain (xgk m c)) (band (xq m c) h)
    (bandB (xo m c) h) j d) (hdOf_at h d) (laneOf_at h d)

theorem arr6 : (dats m 0 c).arrAt 6 cfg0.N = A6 m c := by
  refine (dats m 0 c).arrAt_eq_of_covers 6 _ (by decide +kernel) fun t hf y => ?_
  blk_simp
  rw [after0_6]
  obtain ⟨r, d, rfl⟩ : ∃ (r : Fin 512) (d : Fin 256), y = ix2 r d := ⟨y 0, y 1, eq_ix2 y⟩
  refine (step6 m c t r d).trans (Eq.trans (A6_at m c (hd t) (rw' t r) d).symm (congrArg (A6 m c) ?_))
  blk_ext [idx t, hd, rw']

theorem arr7 : (dats m 0 c).arrAt 7 cfg0.N = A7 m c := by
  refine (dats m 0 c).arrAt_eq_of_covers 7 _ (by decide +kernel) fun t hf y => ?_
  have h2 := (flush0_7 t).mp hf
  blk_simp
  rw [after0_7]
  obtain ⟨j, d, rfl⟩ : ∃ (j : Fin 256) (d : Fin 256), y = ix2 j d := ⟨y 0, y 1, eq_ix2 y⟩
  refine (step7 m c t h2 j d).trans (Eq.trans ?_ ((A7_at m c (hd t) j d).symm.trans (congrArg (A7 m c) ?_)))
  · simp only [leftS m c t h2]
    rfl
  · blk_ext [idx t, hd]

theorem arr8 : (dats m 0 c).arrAt 8 cfg0.N = A8 m c := by
  refine (dats m 0 c).arrAt_eq_of_covers 8 _ (by decide +kernel) fun t hf y => ?_
  have h2 := (flush0_8 t).mp hf
  blk_simp
  rw [after0_8]
  obtain ⟨j, d, rfl⟩ : ∃ (j : Fin 256) (d : Fin 256), y = ix2 j d := ⟨y 0, y 1, eq_ix2 y⟩
  refine (left8 m c t h2 j d).trans ((A8_at m c (hd t) j d).symm.trans (congrArg (A8 m c) ?_))
  blk_ext [idx t, hd]

theorem arr9 : (dats m 0 c).arrAt 9 cfg0.N = A9 m c := by
  refine (dats m 0 c).arrAt_eq_of_covers 9 _ (by decide +kernel) fun t hf y => ?_
  have h2 := (flush0_9 t).mp hf
  have hN : t.val + 1 = cfg0.N := by rw [show cfg0.N = 64 from N_0]; have := lt64 t; omega
  blk_simp
  rw [after0_9]
  obtain ⟨x, d, rfl⟩ : ∃ (x : Fin 1) (d : Fin 256), y = ix2 x d := ⟨y 0, y 1, eq_ix2 y⟩
  obtain rfl : x = 0 := Subsingleton.elim _ _
  refine (left9 m c t hN d).trans (congrArg (A9 m c) ?_)
  blk_ext [idx t]

theorem arr10 : (dats m 0 c).arrAt 10 cfg0.N = A10 m c := by
  refine (dats m 0 c).arrAt_eq_of_covers 10 _ (by decide +kernel) fun t hf y => ?_
  have h2 := (flush0_10 t).mp hf
  have hN : t.val + 1 = cfg0.N := by rw [show cfg0.N = 64 from N_0]; have := lt64 t; omega
  blk_simp
  rw [after0_10]
  obtain ⟨x, d, rfl⟩ : ∃ (x : Fin 1) (d : Fin 256), y = ix2 x d := ⟨y 0, y 1, eq_ix2 y⟩
  obtain rfl : x = 0 := Subsingleton.elim _ _
  refine (left10 m c t hN d).trans (congrArg (A10 m c) ?_)
  blk_ext [idx t]

end Cert.KernelIdeal.Block

end

end
-- ==== Proof.MemAttnRef.lean ====
/-
  The derivative of the memory cross-attention as the reference prints it, read one stage at a time: each stage at an
  index is a named sum of `Cert.Grad`, of the rows of the arguments.
-/
module

public import proofs.«01_k».proof.Proof.MemAttnRows
public import proofs.«01_k».proof.Proof.Gen.ReferenceIdeal.Read

@[expose] public section

set_option maxRecDepth 16384

noncomputable section

namespace Cert.ReferenceIdeal.Stages

open Idealize.ShloMosaic Idealize.ShloMosaic.TcCoe Idealize.SL.Sem
open Cert.ReferenceIdeal Cert.ReferenceIdeal.Gen Cert.ReferenceIdeal.Read Cert.Grad
open scoped BigOperators

variable (x0 : FVec Ideal S8192x1024 .f32) (x1 : FVec Ideal S256x2048 .f32) (x2 : FVec Ideal S8192x1024 .bf16)
  (x3 x4 : FVec Ideal S1x256 .f32)

/-- A sum over the two leading axes of a rank-three array. -/
theorem reduce_leading {n0 n1 n2 : ℕ} (h : (⟨3, ![n0, n1, n2]⟩ : Shape).ReducesTo [0, 1] ⟨1, ![n2]⟩)
    (v : (⟨3, ![n0, n1, n2]⟩ : Shape).Idx → EReal) (init : EReal) (d : Fin n2) :
    Ideal.hostReduceAdd h v init (ix1 d) = init + ∑ a, ∑ b, v (ix3 a b d) := by
  unfold Ideal.hostReduceAdd
  congr 1
  rw [Finset.sum_filter, sum_idx3]
  refine Finset.sum_congr rfl fun a _ => Finset.sum_congr rfl fun b _ => ?_
  have hdrop : ∀ c : Fin n2, (h.drop (ix3 a b c) = ix1 d) ↔ c = d := fun c => by
    have hv : (h.drop (ix3 a b c) 0 : ℕ) = c := h.drop_apply_val_of_eq _ 0 2 Nat.one_pos rfl
    constructor
    · intro e
      rw [e] at hv
      exact Fin.ext hv.symm
    · rintro rfl
      funext i
      obtain rfl : i = 0 := Subsingleton.elim _ _
      exact Fin.ext hv
  simp only [hdrop, Finset.sum_ite_eq', Finset.mem_univ, if_true]

theorem v0_at (r : Fin 8192) (h : Fin 4) (d : Fin 256) :
    val_main_v0 (F := Ideal) x0 (ix3 r h d) = band x0 h r d := by
  pointwise [val_main_v0, band]

theorem v12_at (r : Fin 8192) (h : Fin 4) :
    val_main_v12 (F := Ideal) x0 (ix3 r h 0) = rstd cWidth cEps (band x0 h r) := by
  unfold rstd
  pointwise [val_main_v12, val_main_v11, val_main_v10, val_main_v9, val_main_v8, val_main_v7, val_main_v6, val_main_v5,
    val_main_cst, val_main_cst_0, val_main_cst_1, v0_at]

theorem v3_at (k : Fin 256) (h : Fin 4) (d : Fin 256) :
    val_main_v3 (F := Ideal) x1 (ix3 k h d) = keys x1 h k d := by
  pointwise [val_main_v3, val_main_v1, keys]

theorem v4_at (k : Fin 256) (h : Fin 4) (d : Fin 256) :
    val_main_v4 (F := Ideal) x1 (ix3 k h d) = vals x1 h k d := by
  pointwise [val_main_v4, val_main_v2, vals]

theorem v17_at (r : Fin 8192) (h : Fin 4) (d : Fin 256) :
    val_main_v17 (F := Ideal) x0 (ix3 r h d) = hat cWidth cEps (band x0 h r) d := by
  unfold hat
  pointwise [val_main_v17, val_main_v16, v0_at, v12_at]

theorem v20_at (r : Fin 8192) (h : Fin 4) (d : Fin 256) :
    val_main_v20 (F := Ideal) x0 x3 (ix3 r h d) = nrm (band x0 h r) (gain x3) d := by
  unfold nrm gain
  pointwise [val_main_v20, val_main_v19, val_main_v18, v17_at]

theorem v28_at (k : Fin 256) (h : Fin 4) :
    val_main_v28 (F := Ideal) x1 (ix3 k h 0) = rstd cWidth cEps (keys x1 h k) := by
  unfold rstd
  pointwise [val_main_v28, val_main_v27, val_main_v26, val_main_v25, val_main_v24, val_main_v23, val_main_v22,
    val_main_v21, val_main_cst_3, val_main_cst_4, val_main_cst_5, v3_at]

theorem v33_at (k : Fin 256) (h : Fin 4) (d : Fin 256) :
    val_main_v33 (F := Ideal) x1 (ix3 k h d) = hat cWidth cEps (keys x1 h k) d := by
  unfold hat
  pointwise [val_main_v33, val_main_v32, v3_at, v28_at]

theorem v36_at (k : Fin 256) (h : Fin 4) (d : Fin 256) :
    val_main_v36 (F := Ideal) x1 x4 (ix3 k h d) = nrm (keys x1 h k) (gain x4) d := by
  unfold nrm gain
  pointwise [val_main_v36, val_main_v35, val_main_v34, v33_at]

/-- The scaled scores of row `r` of head `h`. -/
def scoreRow (h : Fin 4) (r : Fin 8192) : Fin 256 → EReal := score (keys x1 h) (gain x3) (gain x4) (band x0 h r)

theorem v39_at (h : Fin 4) (r : Fin 8192) (k : Fin 256) :
    val_main_v39 (F := Ideal) x0 x1 x3 x4 (ix3 h r k) = scoreRow x0 x1 x3 x4 h r k := by
  unfold scoreRow score
  rw [← div_sixteen]
  pointwise [val_main_v39, val_main_v38, val_main_v37, val_main_cst_7, v20_at, v36_at]

theorem v40_at (h : Fin 4) (r : Fin 8192) :
    val_main_v40 (F := Ideal) x0 x1 x3 x4 (ix2 h r) = rowMax (scoreRow x0 x1 x3 x4 h r) := by
  unfold rowMax
  pointwise [val_main_v40, val_main_cst_8, v39_at, cNegInf_eq]

theorem v47_at (h : Fin 4) (r : Fin 8192) :
    val_main_v47 (F := Ideal) x0 x1 x3 x4 (ix2 h r) = rowMax (scoreRow x0 x1 x3 x4 h r) := by
  rw [val_main_v47_apply, v40_at, val_main_v46_apply]
  generalize rowMax (scoreRow x0 x1 x3 x4 h r) = M
  show max (Ideal.ofBits .f32 0xFF800000#32) M = M
  rw [cNegInf_eq, max_eq_right bot_le]

theorem v60_at (h : Fin 4) (r : Fin 8192) (k : Fin 256) :
    val_main_v60 (F := Ideal) x0 x1 x3 x4 (ix3 h r k) = expo (scoreRow x0 x1 x3 x4 h r) k := by
  unfold expo
  pointwise [val_main_v60, val_main_v59, val_main_v58, val_main_v57, v39_at, v47_at]

theorem v62_at (h : Fin 4) (r : Fin 8192) :
    val_main_v62 (F := Ideal) x0 x1 x3 x4 (ix3 h r 0) = norml (scoreRow x0 x1 x3 x4 h r) := by
  unfold norml
  pointwise [val_main_v62, val_main_v61, val_main_cst_16, v60_at]

theorem v64_at (h : Fin 4) (r : Fin 8192) (k : Fin 256) :
    val_main_v64 (F := Ideal) x0 x1 x3 x4 (ix3 h r k) = smax (scoreRow x0 x1 x3 x4 h r) k := by
  unfold smax
  pointwise [val_main_v64, val_main_v63, v60_at, v62_at]

theorem v73_at (h : Fin 4) (d : Fin 256) (r : Fin 8192) :
    val_main_v73 (F := Ideal) x2 (ix3 h d r) = bandB x2 h r d := by
  pointwise [val_main_v73, val_main_v72, val_main_v71, bandB]

theorem v74_at (h : Fin 4) (r : Fin 8192) (k : Fin 256) :
    val_main_v74 (F := Ideal) x1 x2 (ix3 h r k) = dprob (vals x1 h) (bandB x2 h r) k := by
  unfold dprob
  pointwise [val_main_v74, v73_at, v4_at]

theorem v76_at (k : Fin 256) (h : Fin 4) (d : Fin 256) :
    val_main_v76 (F := Ideal) x0 x1 x2 x3 x4 (ix3 k h d)
      = dval (keys x1 h) (gain x3) (gain x4) (band x0 h) (bandB x2 h) k d := by
  unfold dval dvalTerm
  pointwise [val_main_v76, val_main_v75, v73_at, v64_at]
  exact Finset.sum_congr rfl fun r _ => mul_comm _ _

theorem v88_at (h : Fin 4) (r : Fin 8192) (k : Fin 256) :
    val_main_v88 (F := Ideal) x0 x1 x2 x3 x4 (ix3 h r k)
      = quotBwd (scoreRow x0 x1 x3 x4 h r) (dprob (vals x1 h) (bandB x2 h r)) k := by
  unfold quotBwd
  pointwise [val_main_v88, val_main_v87, val_main_v86, val_main_v85, val_main_v84, val_main_v83, val_main_v82,
    val_main_v81, val_main_v80, val_main_v79, val_main_v78, val_main_v77, val_main_v67, val_main_v66, val_main_v65,
    val_main_cst_17, val_main_cst_18, val_main_cst_19, v74_at, v60_at, v62_at]
  rw [Fin.sum_univ_one]

variable (hq : ∀ d, ∃ r : ℝ, gain x3 d = (r : EReal)) (hk : ∀ d, ∃ r : ℝ, gain x4 d = (r : EReal))

include hq hk in
theorem v90_at (h : Fin 4) (r : Fin 8192) (k : Fin 256) :
    val_main_v90 (F := Ideal) x0 x1 x2 x3 x4 (ix3 h r k)
      = dscore (keys x1 h) (vals x1 h) (gain x3) (gain x4) (band x0 h r) (bandB x2 h r) k := by
  unfold dscore
  rw [← div_sixteen, ← quotBwd_eq (by norm_num) _ _ (score_real _ _ _ _ hq hk)]
  pointwise [val_main_v90, val_main_v89, val_main_cst_20, v88_at, scoreRow]

include hq hk in
theorem v92_at (k : Fin 256) (h : Fin 4) (d : Fin 256) :
    val_main_v92 (F := Ideal) x0 x1 x2 x3 x4 (ix3 k h d)
      = dkn (keys x1 h) (vals x1 h) (gain x3) (gain x4) (band x0 h) (bandB x2 h) k d := by
  unfold dkn dknTerm
  pointwise [val_main_v92, val_main_v91, v90_at x0 x1 x2 x3 x4 hq hk, v20_at]

include hq hk in
theorem v94_at (r : Fin 8192) (h : Fin 4) (d : Fin 256) :
    val_main_v94 (F := Ideal) x0 x1 x2 x3 x4 (ix3 r h d)
      = dqn (keys x1 h) (vals x1 h) (gain x3) (gain x4) (band x0 h r) (bandB x2 h r) d := by
  unfold dqn
  pointwise [val_main_v94, val_main_v93, v90_at x0 x1 x2 x3 x4 hq hk, v36_at]

/-! ### The gradients of the gains -/

include hq hk in
theorem v96_at (d : Fin 256) :
    val_main_v96 (F := Ideal) x0 x1 x2 x3 x4 (ix1 d)
      = ∑ h : Fin 4, dgkHead (keys x1 h) (vals x1 h) (gain x3) (gain x4) (band x0 h) (bandB x2 h) d := by
  unfold val_main_v96
  refine (reduce_leading _ _ _ d).trans ?_
  rw [Finset.sum_comm]
  pointwise [val_main_cst_21, dgkHead]
  refine Finset.sum_congr rfl fun h _ => Finset.sum_congr rfl fun k _ => ?_
  pointwise [val_main_v95, v92_at x0 x1 x2 x3 x4 hq hk, v33_at]
  exact mul_comm _ _

include hq hk in
theorem v101_at (d : Fin 256) :
    val_main_v101 (F := Ideal) x0 x1 x2 x3 x4 (ix2 0 d)
      = ∑ h : Fin 4, dgkHead (keys x1 h) (vals x1 h) (gain x3) (gain x4) (band x0 h) (bandB x2 h) d := by
  have h : val_main_v101 (F := Ideal) x0 x1 x2 x3 x4 (ix2 0 d) = val_main_v100 (F := Ideal) x0 x1 x2 x3 x4 (ix1 d) := by
    pointwise [val_main_v101]
  rw [h]
  unfold val_main_v100
  refine (reduce_leading _ _ _ d).trans ?_
  rw [Fin.sum_univ_one, Fin.sum_univ_one]
  pointwise [val_main_cst_22, val_main_v97, v96_at x0 x1 x2 x3 x4 hq hk]

include hq hk in
theorem v117_at (d : Fin 256) :
    val_main_v117 (F := Ideal) x0 x1 x2 x3 x4 (ix1 d)
      = ∑ h : Fin 4, dgqHead (keys x1 h) (vals x1 h) (gain x3) (gain x4) (band x0 h) (bandB x2 h) d := by
  unfold val_main_v117
  refine (reduce_leading _ _ _ d).trans ?_
  rw [Finset.sum_comm]
  pointwise [val_main_cst_26, dgqHead]
  refine Finset.sum_congr rfl fun h _ => Finset.sum_congr rfl fun k _ => ?_
  pointwise [val_main_v116, v94_at x0 x1 x2 x3 x4 hq hk, v17_at]
  exact mul_comm _ _

include hq hk in
theorem v122_at (d : Fin 256) :
    val_main_v122 (F := Ideal) x0 x1 x2 x3 x4 (ix2 0 d)
      = ∑ h : Fin 4, dgqHead (keys x1 h) (vals x1 h) (gain x3) (gain x4) (band x0 h) (bandB x2 h) d := by
  have h : val_main_v122 (F := Ideal) x0 x1 x2 x3 x4 (ix2 0 d) = val_main_v121 (F := Ideal) x0 x1 x2 x3 x4 (ix1 d) := by
    pointwise [val_main_v122]
  rw [h]
  unfold val_main_v121
  refine (reduce_leading _ _ _ d).trans ?_
  rw [Fin.sum_univ_one, Fin.sum_univ_one]
  pointwise [val_main_cst_27, val_main_v118, v117_at x0 x1 x2 x3 x4 hq hk]

/-! ### The gradients of the rows -/

theorem v31_at (k : Fin 256) (h : Fin 4) (x : Fin 1) :
    val_main_v31 (F := Ideal) x1 (ix3 k h x) = Ideal.ofBits .f32 0xBF000000#32 *
      Ideal.div (rstd cWidth cEps (keys x1 h k)) (Ideal.div (∑ d, keys x1 h k d * keys x1 h k d) cWidth + cEps) := by
  obtain rfl : x = 0 := Subsingleton.elim _ _
  pointwise [val_main_v31, val_main_v30, val_main_v29, val_main_v27, val_main_v26, val_main_v25, val_main_v24,
    val_main_v23, val_main_v22, val_main_v21, val_main_cst_3, val_main_cst_4, val_main_cst_5, val_main_cst_6, v3_at,
    v28_at]

theorem v15_at (r : Fin 8192) (h : Fin 4) (x : Fin 1) :
    val_main_v15 (F := Ideal) x0 (ix3 r h x) = Ideal.ofBits .f32 0xBF000000#32 *
      Ideal.div (rstd cWidth cEps (band x0 h r)) (Ideal.div (∑ d, band x0 h r d * band x0 h r d) cWidth + cEps) := by
  obtain rfl : x = 0 := Subsingleton.elim _ _
  pointwise [val_main_v15, val_main_v14, val_main_v13, val_main_v11, val_main_v10, val_main_v9, val_main_v8,
    val_main_v7, val_main_v6, val_main_v5, val_main_cst, val_main_cst_0, val_main_cst_1, val_main_cst_2, v0_at, v12_at]

include hq hk in
theorem v115_at (k : Fin 256) (h : Fin 4) (d : Fin 256) :
    val_main_v115 (F := Ideal) x0 x1 x2 x3 x4 (ix3 k h d)
      = dkey (keys x1 h) (vals x1 h) (gain x3) (gain x4) (band x0 h) (bandB x2 h) k d := by
  unfold dkey
  rw [← normBwd_width]
  unfold chainFactor gain
  pointwise [val_main_v115, val_main_v114, val_main_v113, val_main_v112, val_main_v111, val_main_v110, val_main_v109,
    val_main_v108, val_main_v107, val_main_v106, val_main_v105, val_main_v104, val_main_v103, val_main_v102,
    val_main_v99, val_main_v98, val_main_v34, val_main_cst_23, val_main_cst_24, val_main_cst_25,
    v92_at x0 x1 x2 x3 x4 hq hk, v3_at, v28_at, v31_at]
  rw [Fin.sum_univ_one]
  rfl

include hq hk in
theorem v136_at (r : Fin 8192) (h : Fin 4) (d : Fin 256) :
    val_main_v136 (F := Ideal) x0 x1 x2 x3 x4 (ix3 r h d)
      = dquery (keys x1 h) (vals x1 h) (gain x3) (gain x4) (band x0 h r) (bandB x2 h r) d := by
  unfold dquery
  rw [← normBwd_width]
  unfold chainFactor gain
  pointwise [val_main_v136, val_main_v135, val_main_v134, val_main_v133, val_main_v132, val_main_v131, val_main_v130,
    val_main_v129, val_main_v128, val_main_v127, val_main_v126, val_main_v125, val_main_v124, val_main_v123,
    val_main_v120, val_main_v119, val_main_v18, val_main_cst_28, val_main_cst_29, val_main_cst_30,
    v94_at x0 x1 x2 x3 x4 hq hk, v0_at, v12_at, v15_at]
  rw [Fin.sum_univ_one]
  rfl

/-! ### The results, at a column of a head -/

include hq hk in
theorem v141_at (r : Fin 8192) (h : Fin 4) (d : Fin 256) :
    val_main_v141 (F := Ideal) x0 x1 x2 x3 x4 (ix2 r ⟨(h : ℕ) * 256 + d, by omega⟩)
      = dquery (keys x1 h) (vals x1 h) (gain x3) (gain x4) (band x0 h r) (bandB x2 h r) d := by
  rw [← v136_at x0 x1 x2 x3 x4 hq hk]
  pointwise [val_main_v141, val_main_v140]

include hq hk in
theorem v142_at (k : Fin 256) (h : Fin 4) (d : Fin 256) :
    val_main_v142 (F := Ideal) x0 x1 x2 x3 x4 (ix2 k ⟨(h : ℕ) * 256 + d, by omega⟩)
      = dkey (keys x1 h) (vals x1 h) (gain x3) (gain x4) (band x0 h) (bandB x2 h) k d := by
  rw [← v115_at x0 x1 x2 x3 x4 hq hk]
  pointwise [val_main_v142, val_main_v139, val_main_v138]
  exact dif_pos (by omega)

theorem v143_at (k : Fin 256) (h : Fin 4) (d : Fin 256) :
    val_main_v143 (F := Ideal) x0 x1 x2 x3 x4 (ix2 k ⟨(h : ℕ) * 256 + d, by omega⟩)
      = dval (keys x1 h) (gain x3) (gain x4) (band x0 h) (bandB x2 h) k d := by
  rw [← v76_at x0 x1 x2 x3 x4]
  pointwise [val_main_v143, val_main_v139, val_main_v137]

end Cert.ReferenceIdeal.Stages

end

end
-- ==== Proof.MemAttnClaim.lean ====
/-
  The gradient kernel of the memory cross-attention computes the derivative of the attention: the two runs end with the
  same five arrays, for finite gains.
-/
module

public import proofs.«01_k».proof.Proof.MemAttnArr
public import proofs.«01_k».proof.Proof.MemAttnRef
public import proofs.«01_k».proof.Defs

@[expose] public section

set_option maxRecDepth 16384

noncomputable section

namespace Cert.Grad

open Idealize.ShloMosaic Idealize.ShloMosaic.TcCoe Idealize.SL.Sem
open scoped BigOperators

/-! ## The precondition: the gains are real -/

instance gainsFacts : Cert.Pre_gains_finite.Facts := ⟨by decide⟩

/-- A number whose absolute value is below infinity is real. -/
theorem real_of_abs_lt (x : EReal) (h : FloatOps.absf (F := Ideal) (φ := .f32) x < Ideal.ofBits .f32 0x7F800000#32) :
    ∃ r : ℝ, x = (r : EReal) := by
  rw [cInf_eq] at h
  induction x with
  | bot => exact absurd h (by show ¬ (max (⊥ : EReal) (-⊥) < ⊤); simp)
  | top => exact absurd h (by show ¬ (max (⊤ : EReal) (-⊤) < ⊤); simp)
  | coe r => exact ⟨r, rfl⟩

theorem gains_real [Cert.Pre_gains_finite.Facts] (x0 : FVec Ideal ⟨2, ![8192, 1024]⟩ .f32)
    (x1 : FVec Ideal ⟨2, ![256, 2048]⟩ .f32) (x2 : FVec Ideal ⟨2, ![8192, 1024]⟩ .bf16)
    (x3 x4 : FVec Ideal ⟨2, ![1, 256]⟩ .f32)
    (h : Cert.Pre_gains_finite.fn (F := Ideal) x0 x1 x2 x3 x4 = fun _ => 1#1) (d : Fin 256) :
    (∃ r : ℝ, gain x3 d = (r : EReal)) ∧ ∃ r : ℝ, gain x4 d = (r : EReal) := by
  have e := congrFun h (ix2 0 d)
  have e' : IntOp.andi
      (BitVec.ofBool (decide (FloatOps.absf (F := Ideal) (φ := .f32) (x3 (ix2 0 d)) < Ideal.ofBits .f32 0x7F800000#32)))
      (BitVec.ofBool (decide (FloatOps.absf (F := Ideal) (φ := .f32) (x4 (ix2 0 d)) < Ideal.ofBits .f32 0x7F800000#32)))
      = 1#1 := by
    rw [← e]
    pointwise [Cert.Pre_gains_finite.fn]
  by_cases h3 : FloatOps.absf (F := Ideal) (φ := .f32) (x3 (ix2 0 d)) < Ideal.ofBits .f32 0x7F800000#32
  · by_cases h4 : FloatOps.absf (F := Ideal) (φ := .f32) (x4 (ix2 0 d)) < Ideal.ofBits .f32 0x7F800000#32
    · exact ⟨real_of_abs_lt _ h3, real_of_abs_lt _ h4⟩
    · rw [decide_eq_false h4] at e'
      exact absurd e' (by cases decide (FloatOps.absf (F := Ideal) (φ := .f32) (x3 (ix2 0 d)) < Ideal.ofBits .f32 0x7F800000#32) <;> decide)
  · rw [decide_eq_false h3] at e'
    exact absurd e' (by cases decide (FloatOps.absf (F := Ideal) (φ := .f32) (x4 (ix2 0 d)) < Ideal.ofBits .f32 0x7F800000#32) <;> decide)

/-! ## The arrays of the kernel and of the reference -/

/-- A column of four heads of 256 columns is a column of a head. -/
theorem exists_head (j : Fin 1024) : ∃ (h : Fin 4) (d : Fin 256), j = ⟨(h : ℕ) * 256 + d, by omega⟩ :=
  ⟨⟨j.val / 256, by omega⟩, ⟨j.val % 256, by omega⟩, Fin.ext (by show j.val = j.val / 256 * 256 + j.val % 256; omega)⟩

section Arrays

open Cert.KernelIdeal.Block Cert.ReferenceIdeal.Read Cert.ReferenceIdeal.Stages

variable (m : (ℓ : Loc Cert.KernelIdeal.nD Cert.KernelIdeal.τ Cert.KernelIdeal.sig) → Buf (Elt Ideal) ℓ)
  (c : Dev Cert.KernelIdeal.nD)
variable (hq : ∀ d, ∃ r : ℝ, gain (xgq m c) d = (r : EReal)) (hk : ∀ d, ∃ r : ℝ, gain (xgk m c) d = (r : EReal))

include hq hk

theorem same6 : val_main_v141 (F := Ideal) (xq m c) (xkv m c) (xo m c) (xgq m c) (xgk m c) = A6 m c := by
  funext i
  obtain ⟨r, j, rfl⟩ : ∃ (r : Fin 8192) (j : Fin 1024), i = ix2 r j := ⟨i 0, i 1, eq_ix2 i⟩
  obtain ⟨h, d, rfl⟩ := exists_head j
  exact (v141_at _ _ _ _ _ hq hk r h d).trans (A6_at m c h r d).symm

theorem same7 : val_main_v142 (F := Ideal) (xq m c) (xkv m c) (xo m c) (xgq m c) (xgk m c) = A7 m c := by
  funext i
  obtain ⟨r, j, rfl⟩ : ∃ (r : Fin 256) (j : Fin 1024), i = ix2 r j := ⟨i 0, i 1, eq_ix2 i⟩
  obtain ⟨h, d, rfl⟩ := exists_head j
  exact (v142_at _ _ _ _ _ hq hk r h d).trans (A7_at m c h r d).symm

omit hq hk in
theorem same8 : val_main_v143 (F := Ideal) (xq m c) (xkv m c) (xo m c) (xgq m c) (xgk m c) = A8 m c := by
  funext i
  obtain ⟨r, j, rfl⟩ : ∃ (r : Fin 256) (j : Fin 1024), i = ix2 r j := ⟨i 0, i 1, eq_ix2 i⟩
  obtain ⟨h, d, rfl⟩ := exists_head j
  exact (v143_at _ _ _ _ _ r h d).trans (A8_at m c h r d).symm

theorem same9 : val_main_v122 (F := Ideal) (xq m c) (xkv m c) (xo m c) (xgq m c) (xgk m c) = A9 m c := by
  funext i
  obtain ⟨x, d, rfl⟩ : ∃ (x : Fin 1) (d : Fin 256), i = ix2 x d := ⟨i 0, i 1, eq_ix2 i⟩
  obtain rfl : x = 0 := Subsingleton.elim _ _
  exact v122_at _ _ _ _ _ hq hk d

theorem same10 : val_main_v101 (F := Ideal) (xq m c) (xkv m c) (xo m c) (xgq m c) (xgk m c) = A10 m c := by
  funext i
  obtain ⟨x, d, rfl⟩ : ∃ (x : Fin 1) (d : Fin 256), i = ix2 x d := ⟨i 0, i 1, eq_ix2 i⟩
  obtain rfl : x = 0 := Subsingleton.elim _ _
  exact v101_at _ _ _ _ _ hq hk d

end Arrays

/-- The claim: kernel and reference end with the same arrays. -/
theorem algebraic_memattn :
    Cert.algebraic_KernelIdeal_ReferenceIdeal_pre_gains_finite (hPre_gains_finite := gainsFacts) := by
  intro m g m' g' hpre hargs
  have hr := fun c => gains_real _ _ _ _ _ (hpre c)
  refine ⟨fun c => Cert.KernelIdeal.Block.A6 m c, fun c => Cert.KernelIdeal.Block.A7 m c,
    fun c => Cert.KernelIdeal.Block.A8 m c, fun c => Cert.KernelIdeal.Block.A9 m c,
    fun c => Cert.KernelIdeal.Block.A10 m c, ?_, ?_⟩
  · refine (θ_run Cert.KernelIdeal.defs _ _).mono (fun r h c => ?_) (Cert.KernelIdeal.Value.run_blocks (F := Ideal) m g)
    obtain ⟨h0, h1, h2, h3, h4, ha⟩ := h c
    exact ⟨h0.trans (Cert.KernelIdeal.Block.arr6 m c), h1.trans (Cert.KernelIdeal.Block.arr7 m c),
      h2.trans (Cert.KernelIdeal.Block.arr8 m c), h3.trans (Cert.KernelIdeal.Block.arr9 m c),
      h4.trans (Cert.KernelIdeal.Block.arr10 m c), ha⟩
  · refine (θ_run Cert.ReferenceIdeal.defs _ _).mono (fun r h c => ?_) (Cert.ReferenceIdeal.Value.run (F := Ideal) m' g')
    obtain ⟨h0, h1, h2, h3, h4, ha⟩ := h c
    obtain ⟨e0, e1, e2, e3, e4⟩ := hargs c
    have hq := fun d => (hr c d).1
    have hk := fun d => (hr c d).2
    refine ⟨h0.trans ?_, h1.trans ?_, h2.trans ?_, h3.trans ?_, h4.trans ?_, ha⟩
    · rw [Cert.ReferenceIdeal.Read.val_main_v141_eq, e0, e1, e2, e3, e4]; exact same6 m c hq hk
    · rw [Cert.ReferenceIdeal.Read.val_main_v142_eq, e0, e1, e2, e3, e4]; exact same7 m c hq hk
    · rw [Cert.ReferenceIdeal.Read.val_main_v143_eq, e0, e1, e2, e3, e4]; exact same8 m c
    · rw [Cert.ReferenceIdeal.Read.val_main_v122_eq, e0, e1, e2, e3, e4]; exact same9 m c hq hk
    · rw [Cert.ReferenceIdeal.Read.val_main_v101_eq, e0, e1, e2, e3, e4]; exact same10 m c hq hk

/-- The reference ends with its arguments unchanged and, declaring no semaphore, with every counter at zero. -/
theorem reference_frame (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal)))
      ⟨m, fun _ => 0, ρ⟩ fun r => (∀ c : Dev ReferenceIdeal.nD,
        r.2.mem ((c.tc : Thread _ _).loc ReferenceIdeal.main_arg0) = m ((c.tc : Thread _ _).loc ReferenceIdeal.main_arg0)
        ∧ r.2.mem ((c.tc : Thread _ _).loc ReferenceIdeal.main_arg1) = m ((c.tc : Thread _ _).loc ReferenceIdeal.main_arg1)
        ∧ r.2.mem ((c.tc : Thread _ _).loc ReferenceIdeal.main_arg2) = m ((c.tc : Thread _ _).loc ReferenceIdeal.main_arg2)
        ∧ r.2.mem ((c.tc : Thread _ _).loc ReferenceIdeal.main_arg3) = m ((c.tc : Thread _ _).loc ReferenceIdeal.main_arg3)
        ∧ r.2.mem ((c.tc : Thread _ _).loc ReferenceIdeal.main_arg4) = m ((c.tc : Thread _ _).loc ReferenceIdeal.main_arg4))
        ∧ r.2.sem = fun _ => 0 :=
  (θ_run _ _ _).mono (fun r h => ⟨fun c => (h c).2.2.2.2.2, sem_eq_zero_of_no_sems (by decide) r.2⟩)
    (ReferenceIdeal.Value.run m ρ)

end Cert.Grad

end

end
-- ==== Proof.Products.lean ====
/-
  Products of matrices of extended reals, as sums: the forms in which the step's projections and their gradients
  contract.
-/
module

public import Idealize.ShloMosaic.Lib.Pointwise

@[expose] public section

noncomputable section

namespace Cert.Grad

open Idealize.ShloMosaic
open scoped BigOperators

/-- A matrix of extended reals. -/
abbrev Mat (n k : ℕ) : Type := (⟨2, ![n, k]⟩ : Shape).Idx → EReal

/-- `a · wᵀ`: both contract their columns. -/
def mulNT {n k j : ℕ} (a : Mat n k) (w : Mat j k) (r : Fin n) (d : Fin j) : EReal := ∑ q : Fin k, a (ix2 r q) * w (ix2 d q)

/-- `aᵀ · b`: both contract their rows. -/
def mulTN {s k j : ℕ} (a : Mat s k) (b : Mat s j) (r : Fin k) (d : Fin j) : EReal := ∑ q : Fin s, a (ix2 q r) * b (ix2 q d)

/-- `a · w`. -/
def mulNN {n k j : ℕ} (a : Mat n k) (w : Mat k j) (r : Fin n) (d : Fin j) : EReal := ∑ q : Fin k, a (ix2 r q) * w (ix2 q d)

end Cert.Grad

end

end
-- ==== Proof.RowNorm.lean ====
/-
  The root-mean-square norm of a row of 1024 columns and its gradient, in the terms the step's projections use them.
-/
module

public import proofs.«01_k».proof.Proof.Products
public import proofs.«01_k».proof.Proof.RmsMath
public import proofs.«01_k».proof.Proof.MemAttnMath

@[expose] public section

noncomputable section

namespace Cert.Grad

open Idealize.ShloMosaic
open scoped BigOperators

/-- The model's width, 1024, as the programs spell it. -/
abbrev cModel : EReal := Ideal.ofBits .f32 0x44800000#32

theorem cModel_eq : Ideal.ofBits .f32 0x44800000#32 = ((1024 : ℝ) : EReal) := by
  simp [Ideal.ofBits, Ideal.ieee, -EReal.coe_mul]; norm_num

/-- The chain rule's gradient of a norm of 1024 columns is the kernels' form. -/
theorem normBwd_model (x dh : Fin 1024 → EReal) (d : Fin 1024) :
    dh d * rstd cModel cEps x + x d * chainFactor cModel cEps (Ideal.ofBits .f32 0xBF000000#32) x dh
      + chainFactor cModel cEps (Ideal.ofBits .f32 0xBF000000#32) x dh * x d
    = normBwd cModel cEps x dh d := by
  obtain ⟨e, he, hE⟩ := cEps_real
  rw [show cModel = ((1024 : ℝ) : EReal) from cModel_eq, hE, cMinusHalf_eq]
  exact normBwd_eq (by norm_num) he x dh d

/-- Row `r` of an array. -/
def rowAt {n k : ℕ} (a : Mat n k) (r : Fin n) (d : Fin k) : EReal := a (ix2 r d)

/-- The normalised rows times the gains. -/
def normed {n : ℕ} (x : Mat n 1024) (g : Mat 1 1024) : Mat n 1024 := fun i => hat cModel cEps (rowAt x (i 0)) (i 1) * g (ix2 0 (i 1))

/-- The gradient of the row before the norm from that of the norm's result, `dn`, the residual's `y` added. -/
def normRow {n : ℕ} (dn : Fin n → Fin 1024 → EReal) (x : Mat n 1024) (g : Mat 1 1024) (y : Mat n 1024) (r : Fin n)
    (d : Fin 1024) : EReal :=
  y (ix2 r d) + normBwd cModel cEps (rowAt x r) (fun k => dn r k * g (ix2 0 k)) d

/-- A row's part of the gradient of the gains. -/
def normGain {n : ℕ} (dn : Fin n → Fin 1024 → EReal) (x : Mat n 1024) (r : Fin n) (d : Fin 1024) : EReal :=
  dn r d * hat cModel cEps (rowAt x r) d

end Cert.Grad

end

end
-- ==== Proof.UpBwd.lean ====
/-
  The gradient through the up projection and the root-mean-square norm before it: the two halves of the incoming
  gradient times the transposes of the two halves of the projection, the gradient of the norm, the residual's gradient
  added, and the gradient of the norm's gains. The kernel's blocks, the arrays they make, the reference's derivative,
  and that the two are the same.
-/
module

public import proofs.«01_k».proof.Proof.RowNorm
public import proofs.«01_k».proof.Proof.Gen.UpBwdIdeal.Value
public import proofs.«01_k».proof.Proof.Gen.UpGradIdeal.Read
public import proofs.«01_k».proof.Proof.Gen.UpGradIdeal.Run
public import proofs.«01_k».proof.Defs
public import Idealize.ShloMosaic.Lib.Pipeline.ValueKit
public import Idealize.ShloMosaic.Lib.StableHlo.RunRead

@[expose] public section

set_option maxRecDepth 16384

noncomputable section

namespace Cert.Grad

open Idealize.ShloMosaic
open scoped BigOperators

/-- The gradient of the normalised row: what the two halves of the incoming gradient give. -/
def dNorm {n : ℕ} (a b : Mat n 2816) (u v : Mat 1024 2816) (r : Fin n) (d : Fin 1024) : EReal := mulNT a u r d + mulNT b v r d

/-- The gradient of the row before the norm, the residual's added. -/
def dRow {n : ℕ} (a b : Mat n 2816) (u v : Mat 1024 2816) (x : Mat n 1024) (g : Mat 1 1024) (y : Mat n 1024) (r : Fin n)
    (d : Fin 1024) : EReal := normRow (dNorm a b u v) x g y r d

/-- A row's part of the gradient of the gains. -/
def dGain {n : ℕ} (a b : Mat n 2816) (u v : Mat 1024 2816) (x : Mat n 1024) (r : Fin n) (d : Fin 1024) : EReal :=
  normGain (dNorm a b u v) x r d

/-- The first half of the projection's columns. -/
def loHalf (w : Mat 1024 5632) : Mat 1024 2816 := fun i => w (ix2 (i 0) ⟨(i 1).val, by have := (i 1).isLt; simp at this; omega⟩)
/-- The second half. -/
def hiHalf (w : Mat 1024 5632) : Mat 1024 2816 := fun i => w (ix2 (i 0) ⟨2816 + (i 1).val, by have := (i 1).isLt; simp at this; omega⟩)

end Cert.Grad

namespace Cert.UpBwdIdeal.Block

open Idealize.ShloMosaic Idealize.ShloMosaic.TcCoe Idealize.SL.Sem
open Cert.UpBwdIdeal Cert.UpBwdIdeal.Gen Cert.UpBwdIdeal.Value Cert.Grad
open scoped BigOperators

section Payloads

variable (a b : FVec Ideal S256x2816 .bf16) (u v : FVec Ideal S1024x2816 .bf16) (x : FVec Ideal S256x1024 .f32)
  (g : FVec Ideal S1x1024 .f32) (y : FVec Ideal S256x1024 .f32)

theorem dn_at (r : Fin 256) (d : Fin 1024) : k0_pay3 (F := Ideal) a u b v (ix2 r d) = dNorm a b u v r d := by
  unfold dNorm
  pointwise [k0_pay3]
  rfl

theorem rstd_at (r : Fin 256) : k0_pay4 (F := Ideal) x (ix2 r 0) = rstd cModel cEps (rowAt x r) := by
  unfold rstd
  pointwise [k0_pay4]
  rfl

theorem hat_at (r : Fin 256) (d : Fin 1024) : k0_pay5 (F := Ideal) x (ix2 r d) = hat cModel cEps (rowAt x r) d := by
  unfold hat
  pointwise [k0_pay5, rstd_at]
  rfl

theorem gain_at (s : FVec Ideal S1x1024 .f32) (d : Fin 1024) :
    k0_pay7 (F := Ideal) a u b v x s (ix2 0 d) = s (ix2 0 d) + ∑ r, dGain a b u v x r d := by
  unfold dGain normGain
  pointwise [k0_pay7, dn_at, hat_at]

theorem dh_at (r : Fin 256) (d : Fin 1024) : k0_pay8 (F := Ideal) a u b v g (ix2 r d) = dNorm a b u v r d * g (ix2 0 d) := by
  pointwise [k0_pay8, dn_at]

theorem dx_at (r : Fin 256) (d : Fin 1024) :
    k0_pay1 (F := Ideal) (k0_pay4 x) (k0_pay5 x) (k0_pay8 a u b v g) y (ix2 r d) = dRow a b u v x g y r d := by
  unfold dRow normRow normBwd
  pointwise [k0_pay1, dh_at, hat_at, rstd_at]

theorem dxb_at (r : Fin 256) (d : Fin 1024) :
    k0_pay2 (F := Ideal) (k0_pay4 x) (k0_pay5 x) (k0_pay8 a u b v g) y (ix2 r d) = dRow a b u v x g y r d := by
  pointwise [k0_pay2, dx_at]

theorem zero_at (d : Fin 1024) : k0_pay6 (F := Ideal) (ix2 0 d) = 0 := by
  pointwise [k0_pay6]

end Payloads

variable (m : (ℓ : Loc nD τ sig) → Buf (Elt Ideal) ℓ) (c : Dev nD)

/-- The incoming gradient's first half. -/
abbrev xa : FVec Ideal S8192x2816 .bf16 := m ((c : Thread nD τ).loc main_arg0)
/-- The incoming gradient's second half. -/
abbrev xb : FVec Ideal S8192x2816 .bf16 := m ((c : Thread nD τ).loc main_arg1)
/-- The up projection. -/
abbrev xw : FVec Ideal S1024x5632 .bf16 := m ((c : Thread nD τ).loc main_arg2)
/-- The rows before the norm. -/
abbrev xx : FVec Ideal S8192x1024 .f32 := m ((c : Thread nD τ).loc main_arg3)
/-- The gains. -/
abbrev xg : FVec Ideal S1x1024 .f32 := m ((c : Thread nD τ).loc main_arg4)
/-- The residual's gradient. -/
abbrev xy : FVec Ideal S8192x1024 .f32 := m ((c : Thread nD τ).loc main_arg5)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

theorem lt_points (t : Fin cfg0.N) : t.val < 32 := lt_of_lt_of_eq t.isLt (show cfg0.N = 32 from N_0)

/-- The row of the arrays that row `r` of a point's block is. -/
def rowOf (t : Fin cfg0.N) (r : Fin 256) : Fin 8192 := ⟨256 * t.val + r, by have := lt_points t; omega⟩

theorem iblk0 (t : Fin cfg0.N) (r : Fin 256) (q : Fin 2816) : (iblk m c 0 t) (ix2 r q) = xa m c (ix2 (rowOf t r) q) := by
  rw [show (iblk m c 0 t) (ix2 r q) = (V m c main_arg0) (ix2 (rowOf t r) q) by blk_point [iblk, idx t, rowOf], V_main_arg0]

theorem iblk1 (t : Fin cfg0.N) (r : Fin 256) (q : Fin 2816) : (iblk m c 1 t) (ix2 r q) = xb m c (ix2 (rowOf t r) q) := by
  rw [show (iblk m c 1 t) (ix2 r q) = (V m c main_arg1) (ix2 (rowOf t r) q) by blk_point [iblk, idx t, rowOf], V_main_arg1]

theorem iblk2 (t : Fin cfg0.N) (d : Fin 1024) (q : Fin 2816) : (iblk m c 2 t) (ix2 d q) = loHalf (xw m c) (ix2 d q) := by
  rw [show (iblk m c 2 t) (ix2 d q) = (V m c main_v0) (ix2 d q) by blk_point [iblk, idx t]]
  unfold V hostOps0
  after_reads_simp
  pointwise [loHalf]

theorem iblk3 (t : Fin cfg0.N) (d : Fin 1024) (q : Fin 2816) : (iblk m c 3 t) (ix2 d q) = hiHalf (xw m c) (ix2 d q) := by
  rw [show (iblk m c 3 t) (ix2 d q) = (V m c main_v1) (ix2 d q) by blk_point [iblk, idx t]]
  unfold V hostOps0
  after_reads_simp
  pointwise [hiHalf]

theorem iblk4 (t : Fin cfg0.N) (r : Fin 256) : rowAt (iblk m c 4 t) r = rowAt (xx m c) (rowOf t r) := by
  funext d
  show (iblk m c 4 t) (ix2 r d) = _
  rw [show (iblk m c 4 t) (ix2 r d) = (V m c main_arg3) (ix2 (rowOf t r) d) by blk_point [iblk, idx t, rowOf], V_main_arg3]
  rfl

theorem iblk5 (t : Fin cfg0.N) (d : Fin 1024) : (iblk m c 5 t) (ix2 0 d) = xg m c (ix2 0 d) := by
  rw [show (iblk m c 5 t) (ix2 0 d) = (V m c main_arg4) (ix2 0 d) by blk_point [iblk, idx t], V_main_arg4]

theorem iblk6 (t : Fin cfg0.N) (r : Fin 256) (d : Fin 1024) : (iblk m c 6 t) (ix2 r d) = xy m c (ix2 (rowOf t r) d) := by
  rw [show (iblk m c 6 t) (ix2 r d) = (V m c main_arg5) (ix2 (rowOf t r) d) by blk_point [iblk, idx t, rowOf], V_main_arg5]

/-- A point's blocks give the gradients of its rows. -/
theorem dNorm_blk (t : Fin cfg0.N) (r : Fin 256) (d : Fin 1024) :
    dNorm (iblk m c 0 t) (iblk m c 1 t) (iblk m c 2 t) (iblk m c 3 t) r d
      = dNorm (xa m c) (xb m c) (loHalf (xw m c)) (hiHalf (xw m c)) (rowOf t r) d :=
  congrArg₂ (· + ·)
    (Finset.sum_congr rfl fun q _ => congrArg₂ (· * ·) (iblk0 m c t r q) (iblk2 m c t d q))
    (Finset.sum_congr rfl fun q _ => congrArg₂ (· * ·) (iblk1 m c t r q) (iblk3 m c t d q))

/-- The gradient of an entry of the rows. -/
def dx (R : Fin 8192) (d : Fin 1024) : EReal :=
  dRow (xa m c) (xb m c) (loHalf (xw m c)) (hiHalf (xw m c)) (xx m c) (xg m c) (xy m c) R d

/-- A row's part of the gradient of the gains. -/
def dg (R : Fin 8192) (d : Fin 1024) : EReal :=
  dGain (xa m c) (xb m c) (loHalf (xw m c)) (hiHalf (xw m c)) (xx m c) R d

theorem dx_blk (t : Fin cfg0.N) (r : Fin 256) (d : Fin 1024) :
    dRow (iblk m c 0 t) (iblk m c 1 t) (iblk m c 2 t) (iblk m c 3 t) (iblk m c 4 t) (iblk m c 5 t) (iblk m c 6 t) r d
      = dx m c (rowOf t r) d := by
  unfold dx dRow normRow
  rw [iblk6, iblk4]
  simp only [dNorm_blk, iblk5]

theorem dg_blk (t : Fin cfg0.N) (r : Fin 256) (d : Fin 1024) :
    dGain (iblk m c 0 t) (iblk m c 1 t) (iblk m c 2 t) (iblk m c 3 t) (iblk m c 4 t) r d = dg m c (rowOf t r) d := by
  unfold dg dGain normGain
  rw [dNorm_blk, iblk4]

theorem step7 (t : Fin cfg0.N) (r : Fin 256) (d : Fin 1024) : (outsAt0 m c t.val t.isLt).1 (ix2 r d) = dx m c (rowOf t r) d := by
  rw [← dx_blk]
  by_cases h : t.val % 32 = 0
  · rw [outsAt0_A m c t h]; frame_out; exact dx_at _ _ _ _ _ _ _ _ _
  · rw [outsAt0_B m c t h]; frame_out; exact dx_at _ _ _ _ _ _ _ _ _

theorem step8 (t : Fin cfg0.N) (r : Fin 256) (d : Fin 1024) : (outsAt0 m c t.val t.isLt).2.1 (ix2 r d) = dx m c (rowOf t r) d := by
  rw [← dx_blk]
  by_cases h : t.val % 32 = 0
  · rw [outsAt0_A m c t h]; frame_out; exact dxb_at _ _ _ _ _ _ _ _ _
  · rw [outsAt0_B m c t h]; frame_out; exact dxb_at _ _ _ _ _ _ _ _ _

/-- A point's part of the gradient of the gains. -/
def part (t : Fin cfg0.N) (d : Fin 1024) : EReal := ∑ r : Fin 256, dg m c (rowOf t r) d

theorem part_eq (t : Fin cfg0.N) (s : FVec Ideal S1x1024 .f32) (d : Fin 1024) :
    k0_pay7 (F := Ideal) (iblk m c 0 t) (iblk m c 2 t) (iblk m c 1 t) (iblk m c 3 t) (iblk m c 4 t) s (ix2 0 d)
      = s (ix2 0 d) + part m c t d :=
  (gain_at _ _ _ _ _ s d).trans (congrArg (s (ix2 0 d) + ·) (Finset.sum_congr rfl fun r _ => dg_blk m c t r d))

theorem step9_first (t : Fin cfg0.N) (h : t.val % 32 = 0) (d : Fin 1024) :
    (outsAt0 m c t.val t.isLt).2.2 (ix2 0 d) = 0 + part m c t d := by
  rw [← zero_at d, ← part_eq, outsAt0_A m c t h]; frame_out

theorem step9_next (t : Fin cfg0.N) (h : ¬t.val % 32 = 0) (d : Fin 1024) :
    (outsAt0 m c t.val t.isLt).2.2 (ix2 0 d)
      = (outsAt0 m c (t.val - 1) (Nat.lt_of_le_of_lt (Nat.sub_le _ _) t.isLt)).2.2 (ix2 0 d) + part m c t d := by
  rw [← part_eq, outsAt0_B m c t h]; frame_out

/-- The gradient of the rows. -/
def A7 : FVec Ideal S8192x1024 .f32 := fun i => dx m c (i 0) (i 1)
/-- The same in 16 bits. -/
def A8 : FVec Ideal S8192x1024 .bf16 := fun i => dx m c (i 0) (i 1)
/-- The gradient of the gains. -/
def A9 : FVec Ideal S1x1024 .f32 := fun i => ∑ R : Fin 8192, dg m c R (i 1)

/-- What the last point leaves of the gains' gradient. -/
theorem left9 (t : Fin cfg0.N) (ht : t.val % 32 = 31) (d : Fin 1024) :
    (outsAt0 m c t.val t.isLt).2.2 (ix2 0 d) = A9 m c (ix2 0 d) := by
  have hN := show cfg0.N = 32 from N_0
  refine (Pipeline.eq_sum_fin_of_reset_step_apply_last (fun n h (_ : Unit) => (outsAt0 m c n h).2.2 (ix2 0 d)) 32
    (fun _ => (0 : EReal)) (fun t _ => part m c t d) (fun t h _ => step9_first m c t h d)
    (fun t h _ => step9_next m c t h d) (le_of_eq N_0) t (by have := t.isLt; omega) ()).trans ?_
  rw [zero_add]
  refine (Fin.sum_points_lanes_congr (A := 1) (g := fun (_ : Fin 1) (R : Fin 8192) => dg m c R d) 32
    (fun t r ha hl => ?_) (show cfg0.N = 1 * 32 from N_0)).trans (Fin.sum_univ_one _)
  have hR : rowOf t r = ⟨t.val % 32 * 256 + r.val, hl⟩ := Fin.ext (by have := lt_points t; simp only [rowOf]; omega)
  rw [hR]

theorem arr7 : (dats m 0 c).arrAt 7 cfg0.N = A7 m c := by
  refine (dats m 0 c).arrAt_eq_of_covers 7 _ (by decide +kernel) fun t hf y => ?_
  blk_simp
  rw [after0_7]
  obtain ⟨r, d, rfl⟩ : ∃ (r : Fin 256) (d : Fin 1024), y = ix2 r d := ⟨y 0, y 1, eq_ix2 y⟩
  refine (step7 m c t r d).trans (congrArg (A7 m c) (a₁ := ix2 (rowOf t r) d) ?_)
  blk_ext [idx t, rowOf]

theorem arr8 : (dats m 0 c).arrAt 8 cfg0.N = A8 m c := by
  refine (dats m 0 c).arrAt_eq_of_covers 8 _ (by decide +kernel) fun t hf y => ?_
  blk_simp
  rw [after0_8]
  obtain ⟨r, d, rfl⟩ : ∃ (r : Fin 256) (d : Fin 1024), y = ix2 r d := ⟨y 0, y 1, eq_ix2 y⟩
  refine (step8 m c t r d).trans (congrArg (A8 m c) (a₁ := ix2 (rowOf t r) d) ?_)
  blk_ext [idx t, rowOf]

theorem arr9 : (dats m 0 c).arrAt 9 cfg0.N = A9 m c := by
  refine (dats m 0 c).arrAt_eq_of_covers 9 _ (by decide +kernel) fun t hf y => ?_
  blk_simp
  rw [after0_9]
  obtain ⟨i, d, rfl⟩ : ∃ (i : Fin 1) (d : Fin 1024), y = ix2 i d := ⟨y 0, y 1, eq_ix2 y⟩
  obtain rfl : i = 0 := Subsingleton.elim _ _
  exact (left9 m c t ((flush0_9 t).mp hf) d).trans (congrArg (A9 m c) (a₁ := ix2 0 d) (by blk_ext [idx t]))

end Cert.UpBwdIdeal.Block

namespace Cert.Grad

open Idealize.ShloMosaic Idealize.ShloMosaic.TcCoe Idealize.SL.Sem
open Cert.UpGradIdeal Cert.UpGradIdeal.Read
open scoped BigOperators

section Stages

variable (x0 x1 : FVec Ideal S8192x2816 .bf16) (x2 : FVec Ideal S1024x5632 .bf16) (x3 : FVec Ideal S8192x1024 .f32)
  (x4 : FVec Ideal S1x1024 .f32) (x5 : FVec Ideal S8192x1024 .f32)

/-- The joined gradient's first columns are the first half. -/
theorem ug1_lo (r : Fin 8192) (q : Fin 2816) : val_main_v1 (F := Ideal) x0 x1 (ix2 r ⟨q.val, by omega⟩) = x0 (ix2 r q) := by
  pointwise [val_main_v1, val_main_v0]

/-- Its last columns are the second half. -/
theorem ug1_hi (r : Fin 8192) (q : Fin 2816) : val_main_v1 (F := Ideal) x0 x1 (ix2 r ⟨2816 + q.val, by omega⟩) = x1 (ix2 r q) := by
  pointwise [val_main_v1, val_main_v0]

theorem ug19_at (r : Fin 8192) (d : Fin 1024) :
    val_main_v19 (F := Ideal) x0 x1 x2 (ix2 r d) = dNorm x0 x1 (loHalf x2) (hiHalf x2) r d := by
  have h : val_main_v19 (F := Ideal) x0 x1 x2 (ix2 r d)
      = ∑ q : Fin 5632, val_main_v1 (F := Ideal) x0 x1 (ix2 r q) * x2 (ix2 d q) := by
    pointwise [val_main_v19, val_main_v17]
  rw [h, Fin.sum_univ_add (a := 2816) (b := 2816)]
  refine congrArg₂ (· + ·) (Finset.sum_congr rfl fun q _ => ?_) (Finset.sum_congr rfl fun q _ => ?_)
  · exact congrArg (· * _) (ug1_lo x0 x1 r q)
  · exact congrArg (· * _) (ug1_hi x0 x1 r q)

theorem ug8_at (r : Fin 8192) :
    val_main_v8 (F := Ideal) x3 (ix2 r 0) = Ideal.div (∑ d, rowAt x3 r d * rowAt x3 r d) cModel + cEps := by
  pointwise [val_main_v8, val_main_v7, val_main_v6, val_main_v5, val_main_v4, val_main_v3, val_main_v2, val_main_cst,
    val_main_cst_0, val_main_cst_1]
  rfl

theorem ug9_at (r : Fin 8192) : val_main_v9 (F := Ideal) x3 (ix2 r 0) = rstd cModel cEps (rowAt x3 r) := by
  unfold rstd
  pointwise [val_main_v9, ug8_at]

theorem ug22_at (d : Fin 1024) :
    val_main_v22 (F := Ideal) x0 x1 x2 x3 (ix2 0 d) = ∑ R, dGain x0 x1 (loHalf x2) (hiHalf x2) x3 R d := by
  unfold dGain normGain hat
  pointwise [val_main_v22, val_main_v21, val_main_v20, val_main_v14, val_main_v13, val_main_cst_3, ug19_at, ug9_at]
  exact Finset.sum_congr rfl fun R _ => mul_comm _ _

theorem ug24_at (r : Fin 8192) (d : Fin 1024) :
    val_main_v24 (F := Ideal) x0 x1 x2 x4 (ix2 r d) = dNorm x0 x1 (loHalf x2) (hiHalf x2) r d * x4 (ix2 0 d) := by
  pointwise [val_main_v24, val_main_v23, ug19_at]

theorem ug35_at (r : Fin 8192) (d : Fin 1024) :
    val_main_v35 (F := Ideal) x0 x1 x2 x3 x4 (ix2 r d) = chainFactor cModel cEps (Ideal.ofBits .f32 0xBF000000#32) (rowAt x3 r)
      (fun k => dNorm x0 x1 (loHalf x2) (hiHalf x2) r k * x4 (ix2 0 k)) := by
  unfold chainFactor
  pointwise [val_main_v35, val_main_v34, val_main_v33, val_main_v32, val_main_v31, val_main_v27, val_main_v26, val_main_v25,
    val_main_v12, val_main_v11, val_main_v10, val_main_cst_2, val_main_cst_4, val_main_cst_5, val_main_cst_6, ug24_at, ug9_at, ug8_at]
  rw [Fin.sum_univ_one, ug9_at, ug8_at]
  rfl

theorem ug39_at (r : Fin 8192) (d : Fin 1024) :
    val_main_v39 (F := Ideal) x0 x1 x2 x3 x4 x5 (ix2 r d) = dRow x0 x1 (loHalf x2) (hiHalf x2) x3 x4 x5 r d := by
  unfold dRow normRow
  rw [← normBwd_model]
  pointwise [val_main_v39, val_main_v38, val_main_v37, val_main_v36, val_main_v30, val_main_v29, val_main_v28, ug35_at, ug24_at, ug9_at]
  simp only [add_assoc]
  rfl

end Stages

/-- The claim on the gradient through the up projection and its norm. -/
theorem algebraic_up : Cert.algebraic_UpBwdIdeal_UpGradIdeal := by
  intro m g m' g' hpre hargs
  refine ⟨fun c => Cert.UpBwdIdeal.Block.A7 m c, fun c => Cert.UpBwdIdeal.Block.A8 m c,
    fun c => Cert.UpBwdIdeal.Block.A9 m c, ?_, ?_⟩
  · refine (θ_run Cert.UpBwdIdeal.defs _ _).mono (fun r h c => ?_) (Cert.UpBwdIdeal.Value.run_blocks (F := Ideal) m g)
    obtain ⟨h4, h5, h6, ha⟩ := h c
    exact ⟨h4.trans (Cert.UpBwdIdeal.Block.arr7 m c), h5.trans (Cert.UpBwdIdeal.Block.arr8 m c),
      h6.trans (Cert.UpBwdIdeal.Block.arr9 m c), ha⟩
  · refine (θ_run Cert.UpGradIdeal.defs _ _).mono (fun r h c => ?_) (Cert.UpGradIdeal.Value.run (F := Ideal) m' g')
    obtain ⟨h0, h1, h2, ha⟩ := h c
    obtain ⟨e0, e1, e2, e3, e4, e5⟩ := hargs c
    refine ⟨h0.trans ?_, h1.trans ?_, h2.trans ?_, ha⟩
    · rw [Cert.UpGradIdeal.Read.val_main_v39_eq, e0, e1, e2, e3, e4, e5]
      funext y
      obtain ⟨r, d, rfl⟩ : ∃ (r : Fin 8192) (d : Fin 1024), y = ix2 r d := ⟨y 0, y 1, eq_ix2 y⟩
      exact ug39_at _ _ _ _ _ _ r d
    · rw [Cert.UpGradIdeal.Read.val_main_v40_eq, e0, e1, e2, e3, e4, e5]
      funext y
      obtain ⟨r, d, rfl⟩ : ∃ (r : Fin 8192) (d : Fin 1024), y = ix2 r d := ⟨y 0, y 1, eq_ix2 y⟩
      exact ug39_at _ _ _ _ _ _ r d
    · rw [Cert.UpGradIdeal.Read.val_main_v22_eq, e0, e1, e2, e3]
      funext y
      obtain ⟨i, d, rfl⟩ : ∃ (i : Fin 1) (d : Fin 1024), y = ix2 i d := ⟨y 0, y 1, eq_ix2 y⟩
      obtain rfl : i = 0 := Subsingleton.elim _ _
      exact ug22_at _ _ _ _ d

/-- The reference ends with its arguments unchanged and, declaring no semaphore, with every counter at zero. -/
theorem frame_up : Cert.quiescent_UpGradIdeal := fun m ρ _ =>
  (θ_run _ _ _).mono (fun r h => ⟨fun c => (h c).2.2.2, sem_eq_zero_of_no_sems (by decide) r.2⟩) (Cert.UpGradIdeal.Value.run m ρ)

end Cert.Grad

end

end
-- ==== Proof.DwRows.lean ====
/-
  A weight gradient gathered over four blocks of 2048 rows, one point of the grid after the other: what the last of a
  block's four points leaves is the product over all 8192 rows. Every call that computes a weight's gradient from one
  device's rows takes its value from here.
-/
module

public import proofs.«01_k».proof.Proof.Products
public import Idealize.ShloMosaic.Lib.Pipeline.ValueKit

@[expose] public section

noncomputable section

namespace Cert.Grad

open Idealize.ShloMosaic
open scoped BigOperators

/-- The row of the arguments that row `q` of point `t`'s blocks is. -/
def gatheredRow {N : ℕ} (t : Fin N) (q : Fin 2048) : Fin 8192 := ⟨2048 * (t.val % 4) + q, by omega⟩

/-- What the last of a block's four points leaves. `zero` is what the first starts from, `pay` what a point makes of what the
    point before left and of its two blocks `A` and `B`; `R` and `C` place the block in the result. -/
theorem rows_gathered {N k j K J : ℕ} (outs : (n : ℕ) → n < N → Mat k j) (zero : Mat k j)
    (pay : Mat k j → Mat 2048 k → Mat 2048 j → Mat k j) (A : Fin N → Mat 2048 k) (B : Fin N → Mat 2048 j)
    (a : Mat 8192 K) (b : Mat 8192 J) (R : Fin N → Fin k → Fin K) (C : Fin N → Fin j → Fin J)
    (hzero : ∀ r d, zero (ix2 r d) = 0) (hpay : ∀ acc u v r d, pay acc u v (ix2 r d) = acc (ix2 r d) + mulTN u v r d)
    (hA : ∀ t q r, A t (ix2 q r) = a (ix2 (gatheredRow t q) (R t r))) (hB : ∀ t q d, B t (ix2 q d) = b (ix2 (gatheredRow t q) (C t d)))
    (hR : ∀ s t : Fin N, s.val / 4 = t.val / 4 → R s = R t) (hC : ∀ s t : Fin N, s.val / 4 = t.val / 4 → C s = C t)
    (first : ∀ t : Fin N, t.val % 4 = 0 → outs t.val t.isLt = pay zero (A t) (B t))
    (next : ∀ t : Fin N, ¬t.val % 4 = 0 →
      outs t.val t.isLt = pay (outs (t.val - 1) (Nat.lt_of_le_of_lt (Nat.sub_le _ _) t.isLt)) (A t) (B t))
    (t : Fin N) (ht : t.val % 4 = 3) (r : Fin k) (d : Fin j) : outs t.val t.isLt (ix2 r d) = mulTN a b (R t r) (C t d) := by
  have hstep : ∀ (acc : Mat k j) (t : Fin N), pay acc (A t) (B t) (ix2 r d)
      = acc (ix2 r d) + ∑ q : Fin 2048, a (ix2 (gatheredRow t q) (R t r)) * b (ix2 (gatheredRow t q) (C t d)) := fun acc t =>
    (hpay acc (A t) (B t) r d).trans (congrArg (acc (ix2 r d) + ·)
      (Finset.sum_congr rfl fun q _ => congrArg₂ (· * ·) (hA t q r) (hB t q d)))
  refine (Pipeline.eq_sum_fin_of_reset_step_apply_of_flush (fun n h (_ : Unit) => outs n h (ix2 r d)) 4 (fun _ => (0 : EReal))
    (fun t _ => ∑ q : Fin 2048, a (ix2 (gatheredRow t q) (R t r)) * b (ix2 (gatheredRow t q) (C t d)))
    (fun t h _ => by rw [← hzero r d, ← hstep, first t h]) (fun t h _ => by rw [← hstep, next t h]) t ht ()).trans ?_
  rw [zero_add]
  refine Fin.sum_mul_add_congr (S := 4) (n := 2048) (fun s q hl => ?_)
  have hs : (4 * (t.val / 4) + s.val) / 4 = t.val / 4 := by omega
  have hrow : gatheredRow ⟨4 * (t.val / 4) + s.val, Pipeline.run_point_lt_of_flush t ht s⟩ q = ⟨s.val * 2048 + q.val, hl⟩ :=
    Fin.ext (show 2048 * ((4 * (t.val / 4) + s.val) % 4) + q.val = s.val * 2048 + q.val by omega)
  rw [hrow, hR _ t hs, hC _ t hs]

end Cert.Grad

end

end
-- ==== Proof.DwUp.lean ====
/-
  The gradient of one half of the up projection's weights, two blocks of 1408 columns of four points each, the normalised
  rows transposed times the incoming gradient.
-/
module

public import proofs.«01_k».proof.Proof.DwRows
public import proofs.«01_k».proof.Proof.Gen.DwUpIdeal.Value
public import proofs.«01_k».proof.Proof.Gen.UpWeightGradIdeal.Read
public import proofs.«01_k».proof.Proof.Gen.UpWeightGradIdeal.Run
public import proofs.«01_k».proof.Defs

@[expose] public section

set_option maxRecDepth 16384

noncomputable section

namespace Cert.DwUpIdeal.Block

open Idealize.ShloMosaic Idealize.ShloMosaic.TcCoe
open Cert.DwUpIdeal Cert.DwUpIdeal.Gen Cert.DwUpIdeal.Value Cert.Grad

variable (m : (ℓ : Loc nD τ sig) → Buf (Elt Ideal) ℓ) (c : Dev nD)

theorem pay_at (acc : Mat 1024 1408) (a : Mat 2048 1024) (b : Mat 2048 1408) (r : Fin 1024) (d : Fin 1408) :
    k0_pay2 (F := Ideal) acc a b (ix2 r d) = acc (ix2 r d) + mulTN a b r d := by
  pointwise [k0_pay2]
  rfl

theorem zero_at (r : Fin 1024) (d : Fin 1408) : k0_pay1 (F := Ideal) (ix2 r d) = 0 := by
  pointwise [k0_pay1]

theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- The column of the result that column `d` of a point's block is. -/
def outCol (t : Fin cfg0.N) (d : Fin 1408) : Fin 2816 :=
  ⟨1408 * (t.val / 4) + d, by have := lt_of_lt_of_eq t.isLt (show cfg0.N = 8 from N_0); omega⟩

/-- The array the kernel leaves. -/
def A2 : FVec Ideal S1024x2816 .f32 := fun i =>
  mulTN (m ((c : Thread nD τ).loc main_arg0)) (m ((c : Thread nD τ).loc main_arg1)) (i 0) (i 1)

theorem arr2 : (dats m 0 c).arrAt 2 cfg0.N = A2 m c := by
  refine (dats m 0 c).arrAt_eq_of_covers 2 _ (by decide +kernel) fun t hf y => ?_
  blk_simp
  rw [after0_2, eq_ix2 y]
  refine (rows_gathered (outsAt0 m c) (k0_pay1 (F := Ideal)) (k0_pay2 (F := Ideal)) (iblk m c 0) (iblk m c 1)
    (m ((c : Thread nD τ).loc main_arg0)) (m ((c : Thread nD τ).loc main_arg1)) (fun _ r => r) outCol zero_at pay_at
    (fun t q r => ?_) (fun t q d => ?_) (fun _ _ _ => rfl) (fun s t h => funext fun d => Fin.ext (by simp only [outCol, h]))
    (fun t h => ?_) (fun t h => ?_) t ((flush0_2 t).mp hf) (y 0) (y 1)).trans
    (congrArg (A2 m c) (a₁ := ix2 (y 0) (outCol t (y 1))) (by blk_ext [idx t, outCol]))
  · blk_point [iblk, V, idx t, gatheredRow]
  · blk_point [iblk, V, idx t, gatheredRow, outCol]
  · rw [outsAt0_A m c t h]; frame_out
  · rw [outsAt0_B m c t h]; frame_out

end Cert.DwUpIdeal.Block

namespace Cert.Grad

open Idealize.ShloMosaic Idealize.ShloMosaic.TcCoe Idealize.SL.Sem
open Cert.UpWeightGradIdeal Cert.UpWeightGradIdeal.Read

/-- The reference's product. -/
theorem up_weight_at (x0 : Mat 8192 1024) (x1 : Mat 8192 2816) :
    val_main_v5 (F := Ideal) x0 x1 = fun i => mulTN x0 x1 (i 0) (i 1) := by
  funext y
  rw [eq_ix2 y]
  pointwise [val_main_v5, val_main_v4, val_main_v3, val_main_v1]
  exact Finset.sum_congr rfl fun q _ => mul_comm _ _

/-- The claim on the gradient of the weights. -/
theorem algebraic_up_weight : Cert.algebraic_DwUpIdeal_UpWeightGradIdeal := fun m g m' g' _ hargs =>
  ⟨Cert.DwUpIdeal.Block.A2 m,
    (θ_run _ _ _).mono (fun _ h c => ⟨(h c).1.trans (Cert.DwUpIdeal.Block.arr2 m c), (h c).2⟩)
      (Cert.DwUpIdeal.Value.run_blocks (F := Ideal) m g),
    (θ_run _ _ _).mono (fun _ h c => ⟨(h c).1.trans (by rw [val_main_v5_eq, (hargs c).1, (hargs c).2, up_weight_at]; rfl), (h c).2⟩)
      (Cert.UpWeightGradIdeal.Value.run (F := Ideal) m' g')⟩

/-- The reference ends with its arguments unchanged and, declaring no semaphore, with every counter at zero. -/
theorem frame_up_weight : Cert.quiescent_UpWeightGradIdeal := fun m ρ _ =>
  (θ_run _ _ _).mono (fun r h => ⟨fun c => (h c).2, sem_eq_zero_of_no_sems (by decide) r.2⟩) (Cert.UpWeightGradIdeal.Value.run m ρ)

end Cert.Grad

end

end
-- ==== Proof.DownBwd.lean ====
/-
  The gradient of the feed-forward network's activation: the incoming gradient times the transpose of the down
  projection. The kernel's blocks, the array they make, the reference's product, and that the two are the same.
-/
module

public import proofs.«01_k».proof.Proof.Products
public import proofs.«01_k».proof.Proof.Gen.DownBwdIdeal.Value
public import proofs.«01_k».proof.Proof.Gen.DownGradIdeal.Read
public import proofs.«01_k».proof.Proof.Gen.DownGradIdeal.Run
public import proofs.«01_k».proof.Defs
public import Idealize.ShloMosaic.Lib.Pipeline.ValueKit

@[expose] public section

set_option maxRecDepth 16384

noncomputable section

namespace Cert.DownBwdIdeal.Block

open Idealize.ShloMosaic Idealize.ShloMosaic.TcCoe Idealize.SL.Sem
open Cert.DownBwdIdeal Cert.DownBwdIdeal.Gen Cert.DownBwdIdeal.Value Cert.Grad
open scoped BigOperators

variable (m : (ℓ : Loc nD τ sig) → Buf (Elt Ideal) ℓ) (c : Dev nD)

/-- A block's product. -/
theorem pay_at (a : FVec Ideal S1024x1024 .bf16) (w : FVec Ideal S1408x1024 .bf16) (r : Fin 1024) (d : Fin 1408) :
    k0_pay1 (F := Ideal) a w (ix2 r d) = mulNT a w r d := by
  pointwise [k0_pay1]
  rfl

/-- The incoming gradient. -/
abbrev xdy : FVec Ideal S8192x1024 .bf16 := m ((c : Thread nD τ).loc main_arg0)
/-- The down projection. -/
abbrev xw : FVec Ideal S2816x1024 .bf16 := m ((c : Thread nD τ).loc main_arg1)

theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

theorem lt16 (t : Fin cfg0.N) : t.val < 16 := lt_of_lt_of_eq t.isLt (show cfg0.N = 16 from N_0)

/-- The row of the arrays that row `r` of a point's block is. -/
def rowOf (t : Fin cfg0.N) (r : Fin 1024) : Fin 8192 := ⟨1024 * (t.val / 2) + r, by have := lt16 t; omega⟩
/-- The column of the result that column `d` of a point's block is. -/
def colOf (t : Fin cfg0.N) (d : Fin 1408) : Fin 2816 := ⟨1408 * (t.val % 2) + d, by omega⟩

theorem iblk0 (t : Fin cfg0.N) (r q : Fin 1024) : (iblk m c 0 t) (ix2 r q) = xdy m c (ix2 (rowOf t r) q) := by
  show (iblk m c 0 t) (ix2 r q) = (m ((c : Thread nD τ).loc main_arg0)) (ix2 _ _)
  blk_point [iblk, V, idx t, rowOf]

theorem iblk1 (t : Fin cfg0.N) (d : Fin 1408) (q : Fin 1024) : (iblk m c 1 t) (ix2 d q) = xw m c (ix2 (colOf t d) q) := by
  show (iblk m c 1 t) (ix2 d q) = (m ((c : Thread nD τ).loc main_arg1)) (ix2 _ _)
  blk_point [iblk, V, idx t, colOf]

/-- The array the kernel leaves. -/
def A2 : FVec Ideal S8192x2816 .f32 := fun i => mulNT (xdy m c) (xw m c) (i 0) (i 1)

theorem arr2 : (dats m 0 c).arrAt 2 cfg0.N = A2 m c := by
  refine (dats m 0 c).arrAt_eq_of_covers 2 _ (by decide +kernel) fun t hf y => ?_
  blk_simp
  rw [after0_2]
  obtain ⟨r, d, rfl⟩ : ∃ (r : Fin 1024) (d : Fin 1408), y = ix2 r d := ⟨y 0, y 1, eq_ix2 y⟩
  refine Eq.trans (b := mulNT (xdy m c) (xw m c) (rowOf t r) (colOf t d)) ?_ (congrArg (A2 m c) (a₁ := ix2 (rowOf t r) (colOf t d)) ?_)
  · frame_out
    exact (pay_at _ _ r d).trans (Finset.sum_congr rfl fun q _ => congrArg₂ (· * ·) (iblk0 m c t r q) (iblk1 m c t d q))
  · blk_ext [idx t, rowOf, colOf]

end Cert.DownBwdIdeal.Block

namespace Cert.Grad

open Idealize.ShloMosaic Idealize.ShloMosaic.TcCoe Idealize.SL.Sem
open Cert.DownGradIdeal Cert.DownGradIdeal.Read

/-- The reference's product. -/
theorem down_grad_at (x0 : FVec Ideal S8192x1024 .bf16) (x1 : FVec Ideal S2816x1024 .bf16) :
    val_main_v4 (F := Ideal) x0 x1 = fun i => mulNT x0 x1 (i 0) (i 1) := by
  funext y
  obtain ⟨r, d, rfl⟩ : ∃ (r : Fin 8192) (d : Fin 2816), y = ix2 r d := ⟨y 0, y 1, eq_ix2 y⟩
  pointwise [val_main_v4, val_main_v3, val_main_v1]
  rfl

/-- The claim on the activation's gradient. -/
theorem algebraic_down : Cert.algebraic_DownBwdIdeal_DownGradIdeal := by
  intro m g m' g' hpre hargs
  refine ⟨fun c => Cert.DownBwdIdeal.Block.A2 m c, ?_, ?_⟩
  · refine (θ_run Cert.DownBwdIdeal.defs _ _).mono (fun r h c => ?_) (Cert.DownBwdIdeal.Value.run_blocks (F := Ideal) m g)
    exact ⟨(h c).1.trans (Cert.DownBwdIdeal.Block.arr2 m c), (h c).2⟩
  · refine (θ_run Cert.DownGradIdeal.defs _ _).mono (fun r h c => ?_) (Cert.DownGradIdeal.Value.run (F := Ideal) m' g')
    obtain ⟨h0, ha⟩ := h c
    obtain ⟨e0, e1⟩ := hargs c
    refine ⟨h0.trans ?_, ha⟩
    rw [Cert.DownGradIdeal.Read.val_main_v4_eq, e0, e1, down_grad_at]
    rfl

/-- The reference ends with its arguments unchanged and, declaring no semaphore, with every counter at zero. -/
theorem frame_down_grad : Cert.quiescent_DownGradIdeal := fun m ρ _ =>
  (θ_run _ _ _).mono (fun r h => ⟨fun c => (h c).2, sem_eq_zero_of_no_sems (by decide) r.2⟩) (Cert.DownGradIdeal.Value.run m ρ)

end Cert.Grad

end

end
-- ==== Proof.DwDown.lean ====
/-
  The gradient of the down projection's weights, two blocks of 1408 rows of four points each, the activations transposed
  times the incoming gradient.
-/
module

public import proofs.«01_k».proof.Proof.DwRows
public import proofs.«01_k».proof.Proof.Gen.DwDownIdeal.Value
public import proofs.«01_k».proof.Proof.Gen.DownWeightGradIdeal.Read
public import proofs.«01_k».proof.Proof.Gen.DownWeightGradIdeal.Run
public import proofs.«01_k».proof.Defs

@[expose] public section

set_option maxRecDepth 16384

noncomputable section

namespace Cert.DwDownIdeal.Block

open Idealize.ShloMosaic Idealize.ShloMosaic.TcCoe
open Cert.DwDownIdeal Cert.DwDownIdeal.Gen Cert.DwDownIdeal.Value Cert.Grad

variable (m : (ℓ : Loc nD τ sig) → Buf (Elt Ideal) ℓ) (c : Dev nD)

theorem pay_at (acc : Mat 1408 1024) (a : Mat 2048 1408) (b : Mat 2048 1024) (r : Fin 1408) (d : Fin 1024) :
    k0_pay2 (F := Ideal) acc a b (ix2 r d) = acc (ix2 r d) + mulTN a b r d := by
  pointwise [k0_pay2]
  rfl

theorem zero_at (r : Fin 1408) (d : Fin 1024) : k0_pay1 (F := Ideal) (ix2 r d) = 0 := by
  pointwise [k0_pay1]

theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The row of the result that row `r` of a point's block is. -/
def outRow (t : Fin cfg0.N) (r : Fin 1408) : Fin 2816 :=
  ⟨1408 * (t.val / 4) + r, by have := lt_of_lt_of_eq t.isLt (show cfg0.N = 8 from N_0); omega⟩

/-- The array the kernel leaves. -/
def A2 : FVec Ideal S2816x1024 .f32 := fun i =>
  mulTN (m ((c : Thread nD τ).loc main_arg0)) (m ((c : Thread nD τ).loc main_arg1)) (i 0) (i 1)

theorem arr2 : (dats m 0 c).arrAt 2 cfg0.N = A2 m c := by
  refine (dats m 0 c).arrAt_eq_of_covers 2 _ (by decide +kernel) fun t hf y => ?_
  blk_simp
  rw [after0_2, eq_ix2 y]
  refine (rows_gathered (outsAt0 m c) (k0_pay1 (F := Ideal)) (k0_pay2 (F := Ideal)) (iblk m c 0) (iblk m c 1)
    (m ((c : Thread nD τ).loc main_arg0)) (m ((c : Thread nD τ).loc main_arg1)) outRow (fun _ d => d) zero_at pay_at
    (fun t q r => ?_) (fun t q d => ?_) (fun s t h => funext fun r => Fin.ext (by simp only [outRow, h])) (fun _ _ _ => rfl)
    (fun t h => ?_) (fun t h => ?_) t ((flush0_2 t).mp hf) (y 0) (y 1)).trans
    (congrArg (A2 m c) (a₁ := ix2 (outRow t (y 0)) (y 1)) (by blk_ext [idx t, outRow]))
  · blk_point [iblk, V, idx t, gatheredRow, outRow]
  · blk_point [iblk, V, idx t, gatheredRow]
  · rw [outsAt0_A m c t h]; frame_out
  · rw [outsAt0_B m c t h]; frame_out

end Cert.DwDownIdeal.Block

namespace Cert.Grad

open Idealize.ShloMosaic Idealize.ShloMosaic.TcCoe Idealize.SL.Sem
open Cert.DownWeightGradIdeal Cert.DownWeightGradIdeal.Read

/-- The reference's product. -/
theorem down_weight_at (x0 : Mat 8192 2816) (x1 : Mat 8192 1024) :
    val_main_v5 (F := Ideal) x0 x1 = fun i => mulTN x0 x1 (i 0) (i 1) := by
  funext y
  rw [eq_ix2 y]
  pointwise [val_main_v5, val_main_v4, val_main_v3, val_main_v1]
  exact Finset.sum_congr rfl fun q _ => mul_comm _ _

/-- The claim on the gradient of the weights. -/
theorem algebraic_down_weight : Cert.algebraic_DwDownIdeal_DownWeightGradIdeal := fun m g m' g' _ hargs =>
  ⟨Cert.DwDownIdeal.Block.A2 m,
    (θ_run _ _ _).mono (fun _ h c => ⟨(h c).1.trans (Cert.DwDownIdeal.Block.arr2 m c), (h c).2⟩)
      (Cert.DwDownIdeal.Value.run_blocks (F := Ideal) m g),
    (θ_run _ _ _).mono (fun _ h c => ⟨(h c).1.trans (by rw [val_main_v5_eq, (hargs c).1, (hargs c).2, down_weight_at]; rfl), (h c).2⟩)
      (Cert.DownWeightGradIdeal.Value.run (F := Ideal) m' g')⟩

/-- The reference ends with its arguments unchanged and, declaring no semaphore, with every counter at zero. -/
theorem frame_down_weight : Cert.quiescent_DownWeightGradIdeal := fun m ρ _ =>
  (θ_run _ _ _).mono (fun r h => ⟨fun c => (h c).2, sem_eq_zero_of_no_sems (by decide) r.2⟩) (Cert.DownWeightGradIdeal.Value.run m ρ)

end Cert.Grad

end

end
-- ==== Proof.DownLoss.lean ====
/-
  The end of the forward pass and the start of the backward pass: the down projection with its residual, the error
  against the target, the error's squares summed, and the gradient of the loss. The kernel's blocks, the arrays they
  make, the reference's derivative of the loss, and that the two are the same.
-/
module

public import proofs.«01_k».proof.Proof.RowNorm
public import proofs.«01_k».proof.Proof.Gen.DownLossIdeal.Value
public import proofs.«01_k».proof.Proof.Gen.LossGradIdeal.Read
public import proofs.«01_k».proof.Proof.Gen.LossGradIdeal.Run
public import proofs.«01_k».proof.Defs
public import Idealize.ShloMosaic.Lib.Pipeline.ValueKit

@[expose] public section

set_option maxRecDepth 16384

noncomputable section

namespace Cert.Grad

open Idealize.ShloMosaic
open scoped BigOperators

/-- The error of an entry: the residual plus the down projection, less the target. -/
def errAt {n : ℕ} (a : Mat n 2816) (w : Mat 2816 1024) (x y : Mat n 1024) (r : Fin n) (d : Fin 1024) : EReal :=
  x (ix2 r d) + mulNN a w r d - y (ix2 r d)

/-- 1/1024, as the kernel spells it. -/
abbrev cInv : EReal := Ideal.ofBits .f32 0x3A800000#32

theorem cInv_eq : cInv = ((1 / 1024 : ℝ) : EReal) := by
  simp [cInv, Ideal.ofBits, Ideal.ieee, -EReal.coe_mul]; norm_num

end Cert.Grad

namespace Cert.DownLossIdeal.Block

open Idealize.ShloMosaic Idealize.ShloMosaic.TcCoe Idealize.SL.Sem
open Cert.DownLossIdeal Cert.DownLossIdeal.Gen Cert.DownLossIdeal.Value Cert.Grad
open scoped BigOperators

section Payloads

variable (x : FVec Ideal S512x1024 .f32) (a : FVec Ideal S512x2816 .bf16) (w : FVec Ideal S2816x1024 .bf16)
  (y : FVec Ideal S512x1024 .f32)

theorem err_at (r : Fin 512) (d : Fin 1024) : k0_pay2 (F := Ideal) x a w y (ix2 r d) = errAt a w x y r d := by
  unfold errAt
  pointwise [k0_pay2]
  rfl

theorem dy_at (r : Fin 512) (d : Fin 1024) : k0_pay4 (F := Ideal) x a w y (ix2 r d) = errAt a w x y r d * cInv := by
  pointwise [k0_pay4, err_at]

theorem dyb_at (r : Fin 512) (d : Fin 1024) : k0_pay5 (F := Ideal) x a w y (ix2 r d) = errAt a w x y r d * cInv := by
  pointwise [k0_pay5, dy_at]

theorem loss_at (l : FVec Ideal S8x128 .f32) (i : Fin 8) (j : Fin 128) :
    k0_pay3 (F := Ideal) x a w y l (ix2 i j) = l (ix2 i j) + ∑ r, ∑ d, errAt a w x y r d * errAt a w x y r d := by
  pointwise [k0_pay3, err_at]

theorem zero_at (i : Fin 8) (j : Fin 128) : k0_pay1 (F := Ideal) (ix2 i j) = 0 := by
  pointwise [k0_pay1]

end Payloads

variable (m : (ℓ : Loc nD τ sig) → Buf (Elt Ideal) ℓ) (c : Dev nD)

/-- The gated activations. -/
abbrev xa : FVec Ideal S8192x2816 .bf16 := m ((c : Thread nD τ).loc main_arg0)
/-- The down projection. -/
abbrev xw : FVec Ideal S2816x1024 .bf16 := m ((c : Thread nD τ).loc main_arg1)
/-- The residual. -/
abbrev xx : FVec Ideal S8192x1024 .f32 := m ((c : Thread nD τ).loc main_arg2)
/-- The target. -/
abbrev xy : FVec Ideal S8192x1024 .f32 := m ((c : Thread nD τ).loc main_arg3)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

theorem lt_points (t : Fin cfg0.N) : t.val < 16 := lt_of_lt_of_eq t.isLt (show cfg0.N = 16 from N_0)

/-- The row of the arrays that row `r` of a point's block is. -/
def rowOf (t : Fin cfg0.N) (r : Fin 512) : Fin 8192 := ⟨512 * t.val + r, by have := lt_points t; omega⟩

theorem iblk0 (t : Fin cfg0.N) (r : Fin 512) (q : Fin 2816) : (iblk m c 0 t) (ix2 r q) = xa m c (ix2 (rowOf t r) q) := by
  show (iblk m c 0 t) (ix2 r q) = (m ((c : Thread nD τ).loc main_arg0)) (ix2 _ _)
  blk_point [iblk, V, idx t, rowOf]

theorem iblk1 (t : Fin cfg0.N) (q : Fin 2816) (d : Fin 1024) : (iblk m c 1 t) (ix2 q d) = xw m c (ix2 q d) := by
  show (iblk m c 1 t) (ix2 q d) = (m ((c : Thread nD τ).loc main_arg1)) (ix2 _ _)
  blk_point [iblk, V, idx t]

theorem iblk2 (t : Fin cfg0.N) (r : Fin 512) (d : Fin 1024) : (iblk m c 2 t) (ix2 r d) = xx m c (ix2 (rowOf t r) d) := by
  show (iblk m c 2 t) (ix2 r d) = (m ((c : Thread nD τ).loc main_arg2)) (ix2 _ _)
  blk_point [iblk, V, idx t, rowOf]

theorem iblk3 (t : Fin cfg0.N) (r : Fin 512) (d : Fin 1024) : (iblk m c 3 t) (ix2 r d) = xy m c (ix2 (rowOf t r) d) := by
  show (iblk m c 3 t) (ix2 r d) = (m ((c : Thread nD τ).loc main_arg3)) (ix2 _ _)
  blk_point [iblk, V, idx t, rowOf]

/-- The error of an entry of the arrays. -/
def err (R : Fin 8192) (d : Fin 1024) : EReal := errAt (xa m c) (xw m c) (xx m c) (xy m c) R d

/-- A point's blocks have the errors of its rows. -/
theorem err_blk (t : Fin cfg0.N) (r : Fin 512) (d : Fin 1024) :
    errAt (iblk m c 0 t) (iblk m c 1 t) (iblk m c 2 t) (iblk m c 3 t) r d = err m c (rowOf t r) d := by
  unfold err errAt mulNN
  rw [iblk2, iblk3]
  exact congrArg (fun s => _ + s - _) (Finset.sum_congr rfl fun q _ => congrArg₂ (· * ·) (iblk0 m c t r q) (iblk1 m c t q d))

theorem step4 (t : Fin cfg0.N) (r : Fin 512) (d : Fin 1024) :
    (outsAt0 m c t.val t.isLt).1 (ix2 r d) = err m c (rowOf t r) d * cInv := by
  rw [← err_blk]
  by_cases h : t.val % 16 = 0
  · rw [outsAt0_A m c t h]; frame_out; exact dy_at _ _ _ _ _ _
  · rw [outsAt0_B m c t h]; frame_out; exact dy_at _ _ _ _ _ _

theorem step5 (t : Fin cfg0.N) (r : Fin 512) (d : Fin 1024) :
    (outsAt0 m c t.val t.isLt).2.1 (ix2 r d) = err m c (rowOf t r) d * cInv := by
  rw [← err_blk]
  by_cases h : t.val % 16 = 0
  · rw [outsAt0_A m c t h]; frame_out; exact dyb_at _ _ _ _ _ _
  · rw [outsAt0_B m c t h]; frame_out; exact dyb_at _ _ _ _ _ _

/-- A point's part of the sum of squares. -/
def part (t : Fin cfg0.N) : EReal := ∑ r : Fin 512, ∑ d : Fin 1024, err m c (rowOf t r) d * err m c (rowOf t r) d

theorem part_eq (t : Fin cfg0.N) (l : FVec Ideal S8x128 .f32) (i : Fin 8) (j : Fin 128) :
    k0_pay3 (F := Ideal) (iblk m c 2 t) (iblk m c 0 t) (iblk m c 1 t) (iblk m c 3 t) l (ix2 i j) = l (ix2 i j) + part m c t :=
  (loss_at _ _ _ _ l i j).trans (congrArg (l (ix2 i j) + ·)
    (Finset.sum_congr rfl fun r _ => Finset.sum_congr rfl fun d _ => by rw [err_blk]))

theorem step6_first (t : Fin cfg0.N) (h : t.val % 16 = 0) (i : Fin 8) (j : Fin 128) :
    (outsAt0 m c t.val t.isLt).2.2 (ix2 i j) = 0 + part m c t := by
  rw [← zero_at i j, ← part_eq, outsAt0_A m c t h]; frame_out

theorem step6_next (t : Fin cfg0.N) (h : ¬t.val % 16 = 0) (i : Fin 8) (j : Fin 128) :
    (outsAt0 m c t.val t.isLt).2.2 (ix2 i j)
      = (outsAt0 m c (t.val - 1) (Nat.lt_of_le_of_lt (Nat.sub_le _ _) t.isLt)).2.2 (ix2 i j) + part m c t := by
  rw [← part_eq, outsAt0_B m c t h]; frame_out

/-- The loss's gradient. -/
def A4 : FVec Ideal S8192x1024 .f32 := fun i => err m c (i 0) (i 1) * cInv
/-- The same in 16 bits. -/
def A5 : FVec Ideal S8192x1024 .bf16 := fun i => err m c (i 0) (i 1) * cInv
/-- The sum of the squared errors, in every entry. -/
def A6 : FVec Ideal S8x128 .f32 := fun _ => ∑ R : Fin 8192, ∑ d : Fin 1024, err m c R d * err m c R d

/-- What the last point leaves of the sum of squares. -/
theorem left6 (t : Fin cfg0.N) (ht : t.val % 16 = 15) (i : Fin 8) (j : Fin 128) :
    (outsAt0 m c t.val t.isLt).2.2 (ix2 i j) = A6 m c (ix2 i j) := by
  have hN := show cfg0.N = 16 from N_0
  refine (Pipeline.eq_sum_fin_of_reset_step_apply_last (fun n h (_ : Unit) => (outsAt0 m c n h).2.2 (ix2 i j)) 16
    (fun _ => (0 : EReal)) (fun t _ => part m c t) (fun t h _ => step6_first m c t h i j)
    (fun t h _ => step6_next m c t h i j) (le_of_eq N_0) t (by have := t.isLt; omega) ()).trans ?_
  rw [zero_add]
  refine (Fin.sum_points_lanes_congr 16 (A := 1) (g := fun (_ : Fin 1) (R : Fin 8192) => ∑ d : Fin 1024, err m c R d * err m c R d)
    (fun t r ha hl => ?_) (show cfg0.N = 1 * 16 from N_0)).trans (Fin.sum_univ_one _)
  have hR : rowOf t r = ⟨t.val % 16 * 512 + r.val, hl⟩ := Fin.ext (by have := lt_points t; simp only [rowOf]; omega)
  rw [hR]

theorem arr4 : (dats m 0 c).arrAt 4 cfg0.N = A4 m c := by
  refine (dats m 0 c).arrAt_eq_of_covers 4 _ (by decide +kernel) fun t hf y => ?_
  blk_simp
  rw [after0_4]
  obtain ⟨r, d, rfl⟩ : ∃ (r : Fin 512) (d : Fin 1024), y = ix2 r d := ⟨y 0, y 1, eq_ix2 y⟩
  refine (step4 m c t r d).trans (congrArg (A4 m c) (a₁ := ix2 (rowOf t r) d) ?_)
  blk_ext [idx t, rowOf]

theorem arr5 : (dats m 0 c).arrAt 5 cfg0.N = A5 m c := by
  refine (dats m 0 c).arrAt_eq_of_covers 5 _ (by decide +kernel) fun t hf y => ?_
  blk_simp
  rw [after0_5]
  obtain ⟨r, d, rfl⟩ : ∃ (r : Fin 512) (d : Fin 1024), y = ix2 r d := ⟨y 0, y 1, eq_ix2 y⟩
  refine (step5 m c t r d).trans (congrArg (A5 m c) (a₁ := ix2 (rowOf t r) d) ?_)
  blk_ext [idx t, rowOf]

theorem arr6 : (dats m 0 c).arrAt 6 cfg0.N = A6 m c := by
  refine (dats m 0 c).arrAt_eq_of_covers 6 _ (by decide +kernel) fun t hf y => ?_
  blk_simp
  rw [after0_6]
  obtain ⟨i, j, rfl⟩ : ∃ (i : Fin 8) (j : Fin 128), y = ix2 i j := ⟨y 0, y 1, eq_ix2 y⟩
  exact (left6 m c t ((flush0_6 t).mp hf) i j).trans (congrArg (A6 m c) (a₁ := ix2 i j) (by blk_ext [idx t]))

end Cert.DownLossIdeal.Block

namespace Cert.Grad

open Idealize.ShloMosaic Idealize.ShloMosaic.TcCoe Idealize.SL.Sem
open Cert.LossGradIdeal Cert.LossGradIdeal.Read
open scoped BigOperators

theorem cTwo_eq : Ideal.ofBits .f32 0x40000000#32 = ((2 : ℝ) : EReal) := by
  simp [Ideal.ofBits, Ideal.ieee, -EReal.coe_mul]; norm_num

theorem cHalf_eq : Ideal.ofBits .f32 0x3F000000#32 = ((1 / 2 : ℝ) : EReal) := by
  simp [Ideal.ofBits, Ideal.ieee, -EReal.coe_mul]; norm_num

theorem cOne_eq : Ideal.ofBits .f32 0x3F800000#32 = ((1 : ℝ) : EReal) := by
  simp [Ideal.ofBits, Ideal.ieee, -EReal.coe_mul]; norm_num

theorem cTwice_eq : Ideal.ofBits .f32 0x45000000#32 = ((2048 : ℝ) : EReal) := by
  simp [Ideal.ofBits, Ideal.ieee, -EReal.coe_mul]; norm_num

section Stages

variable (x0 : FVec Ideal S8192x2816 .bf16) (x1 : FVec Ideal S2816x1024 .bf16) (x2 x3 : FVec Ideal S8192x1024 .f32)

theorem lg4_at (r : Fin 8192) (d : Fin 1024) : val_main_v4 (F := Ideal) x0 x1 x2 x3 (ix2 r d) = errAt x0 x1 x2 x3 r d := by
  unfold errAt
  pointwise [val_main_v4, val_main_v3, val_main_v2, val_main_v1, val_main_v0]
  rfl

theorem lg18_at (r : Fin 8192) (d : Fin 1024) :
    val_main_v18 (F := Ideal) x0 x1 x2 x3 (ix2 r d) = errAt x0 x1 x2 x3 r d * cInv := by
  pointwise [val_main_v18, val_main_v17, val_main_v16, val_main_v15, val_main_v14, val_main_v13, val_main_v7, val_main_v6,
    val_main_cst, val_main_cst_4, val_main_cst_5, val_main_cst_6, lg4_at]
  rw [cHalf_eq, cModel_eq, cTwo_eq, cInv_eq, Ideal.div_coe (by norm_num), ← mul_assoc, ← EReal.coe_mul, ← EReal.coe_mul, mul_comm]
  congr 2
  norm_num

theorem lg8_at (r : Fin 8192) :
    val_main_v8 (F := Ideal) x0 x1 x2 x3 (ix1 r) = ∑ d, errAt x0 x1 x2 x3 r d * errAt x0 x1 x2 x3 r d := by
  pointwise [val_main_v8, val_main_v5, val_main_cst_0, lg4_at]

theorem lg21_at (i : Fin 8) (j : Fin 128) :
    val_main_v21 (F := Ideal) x0 x1 x2 x3 (ix2 i j) = ∑ R, ∑ d, errAt x0 x1 x2 x3 R d * errAt x0 x1 x2 x3 R d := by
  pointwise [val_main_v21, val_main_v20, val_main_v12, val_main_v11, val_main_v10, val_main_v9, val_main_cst_1,
    val_main_cst_2, val_main_cst_3, val_main_cst_7, lg8_at]
  simp only [cTwice_eq, cHalf_eq, cModel_eq, Ideal.div_coe (show (1024 : ℝ) ≠ 0 by norm_num)]
  rw [← sum_mul_coe _ _ (by norm_num), mul_comm (∑ R, _) _, ← mul_assoc, ← mul_assoc, ← EReal.coe_mul, ← EReal.coe_mul,
    show (2048 * (1 / 2) * (1 / 1024) : ℝ) = 1 by norm_num, EReal.coe_one, one_mul]

end Stages

/-- The claim on the loss and its gradient. -/
theorem algebraic_loss : Cert.algebraic_DownLossIdeal_LossGradIdeal := by
  intro m g m' g' hpre hargs
  refine ⟨fun c => Cert.DownLossIdeal.Block.A4 m c, fun c => Cert.DownLossIdeal.Block.A5 m c,
    fun c => Cert.DownLossIdeal.Block.A6 m c, ?_, ?_⟩
  · refine (θ_run Cert.DownLossIdeal.defs _ _).mono (fun r h c => ?_) (Cert.DownLossIdeal.Value.run_blocks (F := Ideal) m g)
    obtain ⟨h4, h5, h6, ha⟩ := h c
    exact ⟨h4.trans (Cert.DownLossIdeal.Block.arr4 m c), h5.trans (Cert.DownLossIdeal.Block.arr5 m c),
      h6.trans (Cert.DownLossIdeal.Block.arr6 m c), ha⟩
  · refine (θ_run Cert.LossGradIdeal.defs _ _).mono (fun r h c => ?_) (Cert.LossGradIdeal.Value.run (F := Ideal) m' g')
    obtain ⟨h0, h1, h2, ha⟩ := h c
    obtain ⟨e0, e1, e2, e3⟩ := hargs c
    refine ⟨h0.trans ?_, h1.trans ?_, h2.trans ?_, ha⟩
    · rw [Cert.LossGradIdeal.Read.val_main_v18_eq, e0, e1, e2, e3]
      funext y
      obtain ⟨r, d, rfl⟩ : ∃ (r : Fin 8192) (d : Fin 1024), y = ix2 r d := ⟨y 0, y 1, eq_ix2 y⟩
      exact lg18_at _ _ _ _ r d
    · rw [Cert.LossGradIdeal.Read.val_main_v19_eq, e0, e1, e2, e3]
      funext y
      obtain ⟨r, d, rfl⟩ : ∃ (r : Fin 8192) (d : Fin 1024), y = ix2 r d := ⟨y 0, y 1, eq_ix2 y⟩
      exact lg18_at _ _ _ _ r d
    · rw [Cert.LossGradIdeal.Read.val_main_v21_eq, e0, e1, e2, e3]
      funext y
      obtain ⟨i, j, rfl⟩ : ∃ (i : Fin 8) (j : Fin 128), y = ix2 i j := ⟨y 0, y 1, eq_ix2 y⟩
      exact lg21_at _ _ _ _ i j

/-- The reference ends with its arguments unchanged and, declaring no semaphore, with every counter at zero. -/
theorem frame_loss : Cert.quiescent_LossGradIdeal := fun m ρ _ =>
  (θ_run _ _ _).mono (fun r h => ⟨fun c => (h c).2.2.2, sem_eq_zero_of_no_sems (by decide) r.2⟩) (Cert.LossGradIdeal.Value.run m ρ)

end Cert.Grad

end

end
-- ==== Proof.DwSquare.lean ====
/-
  The gradient of a square projection's weights: the transpose of the activations times the incoming gradient, summed
  over one device's rows, four blocks of 2048 rows one after the other.
-/
module

public import proofs.«01_k».proof.Proof.DwRows
public import proofs.«01_k».proof.Proof.Gen.DwSquareIdeal.Value
public import proofs.«01_k».proof.Proof.Gen.SquareWeightGradIdeal.Read
public import proofs.«01_k».proof.Proof.Gen.SquareWeightGradIdeal.Run
public import proofs.«01_k».proof.Defs

@[expose] public section

set_option maxRecDepth 16384

noncomputable section

namespace Cert.DwSquareIdeal.Block

open Idealize.ShloMosaic Idealize.ShloMosaic.TcCoe
open Cert.DwSquareIdeal Cert.DwSquareIdeal.Gen Cert.DwSquareIdeal.Value Cert.Grad

variable (m : (ℓ : Loc nD τ sig) → Buf (Elt Ideal) ℓ) (c : Dev nD)

theorem pay_at (acc : Mat 1024 1024) (a b : Mat 2048 1024) (r d : Fin 1024) :
    k0_pay2 (F := Ideal) acc a b (ix2 r d) = acc (ix2 r d) + mulTN a b r d := by
  pointwise [k0_pay2]
  rfl

theorem zero_at (r d : Fin 1024) : k0_pay1 (F := Ideal) (ix2 r d) = 0 := by
  pointwise [k0_pay1]

theorem idx : ∀ t : Fin cfg0.N, win0_0.index t = ![t.val % 4, 0] ∧ win0_1.index t = ![t.val % 4, 0] ∧ win0_2.index t = ![0, 0] :=
  (by decide +kernel : ∀ t : Fin grid0.N, _)

/-- The array the kernel leaves. -/
def A2 : FVec Ideal S1024x1024 .f32 := fun i =>
  mulTN (m ((c : Thread nD τ).loc main_arg0)) (m ((c : Thread nD τ).loc main_arg1)) (i 0) (i 1)

theorem arr2 : (dats m 0 c).arrAt 2 cfg0.N = A2 m c := by
  refine (dats m 0 c).arrAt_eq_of_covers 2 _ (by decide +kernel) fun t hf y => ?_
  blk_simp
  rw [after0_2, eq_ix2 y]
  refine (rows_gathered (outsAt0 m c) (k0_pay1 (F := Ideal)) (k0_pay2 (F := Ideal)) (iblk m c 0) (iblk m c 1)
    (m ((c : Thread nD τ).loc main_arg0)) (m ((c : Thread nD τ).loc main_arg1)) (fun _ r => r) (fun _ d => d) zero_at pay_at
    (fun t q r => ?_) (fun t q d => ?_) (fun _ _ _ => rfl) (fun _ _ _ => rfl) (fun t h => ?_) (fun t h => ?_) t
    ((flush0_2 t).mp hf) (y 0) (y 1)).trans (congrArg (A2 m c) (a₁ := ix2 (y 0) (y 1)) (by blk_ext [idx t]))
  · blk_point [iblk, V, idx t, gatheredRow]
  · blk_point [iblk, V, idx t, gatheredRow]
  · rw [outsAt0_A m c t h]; frame_out
  · rw [outsAt0_B m c t h]; frame_out

end Cert.DwSquareIdeal.Block

namespace Cert.Grad

open Idealize.ShloMosaic Idealize.ShloMosaic.TcCoe Idealize.SL.Sem
open Cert.SquareWeightGradIdeal Cert.SquareWeightGradIdeal.Read

/-- The reference's product. -/
theorem square_weight_at (x0 x1 : Mat 8192 1024) : val_main_v5 (F := Ideal) x0 x1 = fun i => mulTN x0 x1 (i 0) (i 1) := by
  funext y
  rw [eq_ix2 y]
  pointwise [val_main_v5, val_main_v4, val_main_v3, val_main_v1]
  exact Finset.sum_congr rfl fun q _ => mul_comm _ _

/-- The claim on the gradient of the weights. -/
theorem algebraic_square_weight : Cert.algebraic_DwSquareIdeal_SquareWeightGradIdeal := fun m g m' g' _ hargs =>
  ⟨Cert.DwSquareIdeal.Block.A2 m,
    (θ_run _ _ _).mono (fun _ h c => ⟨(h c).1.trans (Cert.DwSquareIdeal.Block.arr2 m c), (h c).2⟩)
      (Cert.DwSquareIdeal.Value.run_blocks (F := Ideal) m g),
    (θ_run _ _ _).mono (fun _ h c => ⟨(h c).1.trans (by rw [val_main_v5_eq, (hargs c).1, (hargs c).2, square_weight_at]; rfl), (h c).2⟩)
      (Cert.SquareWeightGradIdeal.Value.run (F := Ideal) m' g')⟩

/-- The reference ends with its arguments unchanged and, declaring no semaphore, with every counter at zero. -/
theorem frame_square_weight : Cert.quiescent_SquareWeightGradIdeal := fun m ρ _ =>
  (θ_run _ _ _).mono (fun r h => ⟨fun c => (h c).2, sem_eq_zero_of_no_sems (by decide) r.2⟩) (Cert.SquareWeightGradIdeal.Value.run m ρ)

end Cert.Grad

end

end
-- ==== Proof.MemoLinear.lean ====
/-
  The memory attention's output projection, added to the rows before it, and the gradient through it: a product with the
  weights and a product with their transpose. The kernels' blocks, the arrays they make, and the references' products.
-/
module

public import proofs.«01_k».proof.Proof.Products
public import proofs.«01_k».proof.Proof.Gen.MemoProjIdeal.Value
public import proofs.«01_k».proof.Proof.Gen.MemoBwdIdeal.Value
public import proofs.«01_k».proof.Proof.Gen.MemoryOutIdeal.Read
public import proofs.«01_k».proof.Proof.Gen.MemoryOutIdeal.Run
public import proofs.«01_k».proof.Proof.Gen.MemoryOutGradIdeal.Read
public import proofs.«01_k».proof.Proof.Gen.MemoryOutGradIdeal.Run
public import proofs.«01_k».proof.Defs
public import Idealize.ShloMosaic.Lib.Pipeline.ValueKit

@[expose] public section

set_option maxRecDepth 16384

noncomputable section

namespace Cert.MemoProjIdeal.Block

open Idealize.ShloMosaic Idealize.ShloMosaic.TcCoe Idealize.SL.Sem
open Cert.MemoProjIdeal Cert.MemoProjIdeal.Gen Cert.MemoProjIdeal.Value Cert.Grad
open scoped BigOperators

variable (m : (ℓ : Loc nD τ sig) → Buf (Elt Ideal) ℓ) (c : Dev nD)

/-- A block's product, added to its rows. -/
theorem pay_at (a : FVec Ideal S512x1024 .bf16) (w : FVec Ideal S1024x1024 .bf16) (x : FVec Ideal S512x1024 .f32) (r : Fin 512)
    (d : Fin 1024) : k0_pay1 (F := Ideal) a w x (ix2 r d) = x (ix2 r d) + mulNN a w r d := by
  pointwise [k0_pay1]
  rfl

/-- The attention's result. -/
abbrev xa : FVec Ideal S8192x1024 .bf16 := m ((c : Thread nD τ).loc main_arg0)
/-- The projection. -/
abbrev xw : FVec Ideal S1024x1024 .bf16 := m ((c : Thread nD τ).loc main_arg1)
/-- The rows it is added to. -/
abbrev xx : FVec Ideal S8192x1024 .f32 := m ((c : Thread nD τ).loc main_arg2)

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem lt_points (t : Fin cfg0.N) : t.val < 16 := lt_of_lt_of_eq t.isLt (show cfg0.N = 16 from N_0)

/-- The row of the arrays that row `r` of a point's block is. -/
def rowOf (t : Fin cfg0.N) (r : Fin 512) : Fin 8192 := ⟨512 * t.val + r, by have := lt_points t; omega⟩

theorem iblk0 (t : Fin cfg0.N) (r : Fin 512) (q : Fin 1024) : (iblk m c 0 t) (ix2 r q) = xa m c (ix2 (rowOf t r) q) := by
  show (iblk m c 0 t) (ix2 r q) = (m ((c : Thread nD τ).loc main_arg0)) (ix2 _ _)
  blk_point [iblk, V, idx t, rowOf]

theorem iblk1 (t : Fin cfg0.N) (q d : Fin 1024) : (iblk m c 1 t) (ix2 q d) = xw m c (ix2 q d) := by
  show (iblk m c 1 t) (ix2 q d) = (m ((c : Thread nD τ).loc main_arg1)) (ix2 _ _)
  blk_point [iblk, V, idx t]

theorem iblk2 (t : Fin cfg0.N) (r : Fin 512) (d : Fin 1024) : (iblk m c 2 t) (ix2 r d) = xx m c (ix2 (rowOf t r) d) := by
  show (iblk m c 2 t) (ix2 r d) = (m ((c : Thread nD τ).loc main_arg2)) (ix2 _ _)
  blk_point [iblk, V, idx t, rowOf]

/-- The array the kernel leaves. -/
def A3 : FVec Ideal S8192x1024 .f32 := fun i => xx m c (ix2 (i 0) (i 1)) + mulNN (xa m c) (xw m c) (i 0) (i 1)

theorem arr3 : (dats m 0 c).arrAt 3 cfg0.N = A3 m c := by
  refine (dats m 0 c).arrAt_eq_of_covers 3 _ (by decide +kernel) fun t hf y => ?_
  blk_simp
  rw [after0_3]
  obtain ⟨r, d, rfl⟩ : ∃ (r : Fin 512) (d : Fin 1024), y = ix2 r d := ⟨y 0, y 1, eq_ix2 y⟩
  refine Eq.trans (b := A3 m c (ix2 (rowOf t r) d)) ?_ (congrArg (A3 m c) ?_)
  · frame_out
    exact (pay_at _ _ _ r d).trans (congrArg₂ (· + ·) (iblk2 m c t r d)
      (Finset.sum_congr rfl fun q _ => congrArg₂ (· * ·) (iblk0 m c t r q) (iblk1 m c t q d)))
  · blk_ext [idx t, rowOf]

end Cert.MemoProjIdeal.Block

namespace Cert.MemoBwdIdeal.Block

open Idealize.ShloMosaic Idealize.ShloMosaic.TcCoe Idealize.SL.Sem
open Cert.MemoBwdIdeal Cert.MemoBwdIdeal.Gen Cert.MemoBwdIdeal.Value Cert.Grad
open scoped BigOperators

variable (m : (ℓ : Loc nD τ sig) → Buf (Elt Ideal) ℓ) (c : Dev nD)

/-- A block's product. -/
theorem pay_at (a : FVec Ideal S512x1024 .bf16) (w : FVec Ideal S1024x1024 .bf16) (r : Fin 512) (d : Fin 1024) :
    k0_pay1 (F := Ideal) a w (ix2 r d) = mulNT a w r d := by
  pointwise [k0_pay1]
  rfl

/-- The incoming gradient. -/
abbrev xa : FVec Ideal S8192x1024 .bf16 := m ((c : Thread nD τ).loc main_arg0)
/-- The projection. -/
abbrev xw : FVec Ideal S1024x1024 .bf16 := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

theorem lt_points (t : Fin cfg0.N) : t.val < 16 := lt_of_lt_of_eq t.isLt (show cfg0.N = 16 from N_0)

/-- The row of the arrays that row `r` of a point's block is. -/
def rowOf (t : Fin cfg0.N) (r : Fin 512) : Fin 8192 := ⟨512 * t.val + r, by have := lt_points t; omega⟩

theorem iblk0 (t : Fin cfg0.N) (r : Fin 512) (q : Fin 1024) : (iblk m c 0 t) (ix2 r q) = xa m c (ix2 (rowOf t r) q) := by
  show (iblk m c 0 t) (ix2 r q) = (m ((c : Thread nD τ).loc main_arg0)) (ix2 _ _)
  blk_point [iblk, V, idx t, rowOf]

theorem iblk1 (t : Fin cfg0.N) (d q : Fin 1024) : (iblk m c 1 t) (ix2 d q) = xw m c (ix2 d q) := by
  show (iblk m c 1 t) (ix2 d q) = (m ((c : Thread nD τ).loc main_arg1)) (ix2 _ _)
  blk_point [iblk, V, idx t]

/-- A point's blocks give the product of its rows. -/
theorem product_blk (t : Fin cfg0.N) (r : Fin 512) (d : Fin 1024) :
    mulNT (iblk m c 0 t) (iblk m c 1 t) r d = mulNT (xa m c) (xw m c) (rowOf t r) d :=
  Finset.sum_congr rfl fun q _ => congrArg₂ (· * ·) (iblk0 m c t r q) (iblk1 m c t d q)

/-- The array the kernel leaves. -/
def A2 : FVec Ideal S8192x1024 .bf16 := fun i => mulNT (xa m c) (xw m c) (i 0) (i 1)

theorem arr2 : (dats m 0 c).arrAt 2 cfg0.N = A2 m c := by
  refine (dats m 0 c).arrAt_eq_of_covers 2 _ (by decide +kernel) fun t hf y => ?_
  blk_simp
  rw [after0_2]
  obtain ⟨r, d, rfl⟩ : ∃ (r : Fin 512) (d : Fin 1024), y = ix2 r d := ⟨y 0, y 1, eq_ix2 y⟩
  refine Eq.trans (b := A2 m c (ix2 (rowOf t r) d)) ?_ (congrArg (A2 m c) ?_)
  · frame_out
    exact (pay_at _ _ r d).trans (product_blk m c t r d)
  · blk_ext [idx t, rowOf]

end Cert.MemoBwdIdeal.Block

namespace Cert.Grad

open Idealize.ShloMosaic Idealize.ShloMosaic.TcCoe Idealize.SL.Sem

/-- The forward reference's product and sum. -/
theorem memo_out_at (x0 : FVec Ideal Cert.MemoryOutIdeal.S8192x1024 .bf16) (x1 : FVec Ideal Cert.MemoryOutIdeal.S1024x1024 .bf16)
    (x2 : FVec Ideal Cert.MemoryOutIdeal.S8192x1024 .f32) :
    Cert.MemoryOutIdeal.Read.val_main_v3 (F := Ideal) x0 x1 x2 = fun i => x2 (ix2 (i 0) (i 1)) + mulNN x0 x1 (i 0) (i 1) := by
  funext y
  obtain ⟨r, d, rfl⟩ : ∃ (r : Fin 8192) (d : Fin 1024), y = ix2 r d := ⟨y 0, y 1, eq_ix2 y⟩
  pointwise [Cert.MemoryOutIdeal.Read.val_main_v3, Cert.MemoryOutIdeal.Read.val_main_v2, Cert.MemoryOutIdeal.Read.val_main_v1,
    Cert.MemoryOutIdeal.Read.val_main_v0]
  rfl

/-- The backward reference's product. -/
theorem memo_grad_at (x0 : FVec Ideal Cert.MemoryOutGradIdeal.S8192x1024 .bf16)
    (x1 : FVec Ideal Cert.MemoryOutGradIdeal.S1024x1024 .bf16) :
    Cert.MemoryOutGradIdeal.Read.val_main_v5 (F := Ideal) x0 x1 = fun i => mulNT x0 x1 (i 0) (i 1) := by
  funext y
  obtain ⟨r, d, rfl⟩ : ∃ (r : Fin 8192) (d : Fin 1024), y = ix2 r d := ⟨y 0, y 1, eq_ix2 y⟩
  pointwise [Cert.MemoryOutGradIdeal.Read.val_main_v5, Cert.MemoryOutGradIdeal.Read.val_main_v4,
    Cert.MemoryOutGradIdeal.Read.val_main_v3, Cert.MemoryOutGradIdeal.Read.val_main_v1]
  rfl

/-- The claim on the output projection. -/
theorem algebraic_memo : Cert.algebraic_MemoProjIdeal_MemoryOutIdeal := by
  intro m g m' g' hpre hargs
  refine ⟨fun c => Cert.MemoProjIdeal.Block.A3 m c, ?_, ?_⟩
  · refine (θ_run Cert.MemoProjIdeal.defs _ _).mono (fun r h c => ?_) (Cert.MemoProjIdeal.Value.run_blocks (F := Ideal) m g)
    exact ⟨(h c).1.trans (Cert.MemoProjIdeal.Block.arr3 m c), (h c).2⟩
  · refine (θ_run Cert.MemoryOutIdeal.defs _ _).mono (fun r h c => ?_) (Cert.MemoryOutIdeal.Value.run (F := Ideal) m' g')
    obtain ⟨h0, ha⟩ := h c
    obtain ⟨e0, e1, e2⟩ := hargs c
    refine ⟨h0.trans ?_, ha⟩
    rw [Cert.MemoryOutIdeal.Read.val_main_v3_eq, e0, e1, e2, memo_out_at]
    rfl

/-- The claim on the gradient through it. -/
theorem algebraic_memo_grad : Cert.algebraic_MemoBwdIdeal_MemoryOutGradIdeal := by
  intro m g m' g' hpre hargs
  refine ⟨fun c => Cert.MemoBwdIdeal.Block.A2 m c, ?_, ?_⟩
  · refine (θ_run Cert.MemoBwdIdeal.defs _ _).mono (fun r h c => ?_) (Cert.MemoBwdIdeal.Value.run_blocks (F := Ideal) m g)
    exact ⟨(h c).1.trans (Cert.MemoBwdIdeal.Block.arr2 m c), (h c).2⟩
  · refine (θ_run Cert.MemoryOutGradIdeal.defs _ _).mono (fun r h c => ?_) (Cert.MemoryOutGradIdeal.Value.run (F := Ideal) m' g')
    obtain ⟨h0, ha⟩ := h c
    obtain ⟨e0, e1⟩ := hargs c
    refine ⟨h0.trans ?_, ha⟩
    rw [Cert.MemoryOutGradIdeal.Read.val_main_v5_eq, e0, e1, memo_grad_at]
    rfl

/-- The references end with their arguments unchanged and, declaring no semaphore, with every counter at zero. -/
theorem frame_memo : Cert.quiescent_MemoryOutIdeal := fun m ρ _ =>
  (θ_run _ _ _).mono (fun r h => ⟨fun c => (h c).2, sem_eq_zero_of_no_sems (by decide) r.2⟩) (Cert.MemoryOutIdeal.Value.run m ρ)

theorem frame_memo_grad : Cert.quiescent_MemoryOutGradIdeal := fun m ρ _ =>
  (θ_run _ _ _).mono (fun r h => ⟨fun c => (h c).2, sem_eq_zero_of_no_sems (by decide) r.2⟩) (Cert.MemoryOutGradIdeal.Value.run m ρ)

end Cert.Grad

end

end
-- ==== Proof.MemqBwd.lean ====
/-
  The gradient through the memory attention's query projection and the root-mean-square norm before it: the incoming
  gradient times the transpose of the projection, the gradient of the norm, the residual's gradient added, and the
  gradient of the norm's gains. The kernel's blocks, the arrays they make, the reference's derivative, and that the two
  are the same.
-/
module

public import proofs.«01_k».proof.Proof.RowNorm
public import proofs.«01_k».proof.Proof.Gen.MemqBwdIdeal.Value
public import proofs.«01_k».proof.Proof.Gen.MemoryQueryGradIdeal.Read
public import proofs.«01_k».proof.Proof.Gen.MemoryQueryGradIdeal.Run
public import proofs.«01_k».proof.Defs
public import Idealize.ShloMosaic.Lib.Pipeline.ValueKit

@[expose] public section

set_option maxRecDepth 16384

noncomputable section

namespace Cert.MemqBwdIdeal.Block

open Idealize.ShloMosaic Idealize.ShloMosaic.TcCoe Idealize.SL.Sem
open Cert.MemqBwdIdeal Cert.MemqBwdIdeal.Gen Cert.MemqBwdIdeal.Value Cert.Grad
open scoped BigOperators

section Payloads

variable (a : FVec Ideal S512x1024 .bf16) (w : FVec Ideal S1024x1024 .bf16) (x : FVec Ideal S512x1024 .f32)
  (g : FVec Ideal S1x1024 .f32) (y : FVec Ideal S512x1024 .f32)

theorem dn_at (r : Fin 512) (d : Fin 1024) : k0_pay3 (F := Ideal) a w (ix2 r d) = mulNT a w r d := by
  pointwise [k0_pay3]
  rfl

theorem rstd_at (r : Fin 512) : k0_pay4 (F := Ideal) x (ix2 r 0) = rstd cModel cEps (rowAt x r) := by
  unfold rstd
  pointwise [k0_pay4]
  rfl

theorem hat_at (r : Fin 512) (d : Fin 1024) : k0_pay5 (F := Ideal) x (ix2 r d) = hat cModel cEps (rowAt x r) d := by
  unfold hat
  pointwise [k0_pay5, rstd_at]
  rfl

theorem gain_at (s : FVec Ideal S1x1024 .f32) (d : Fin 1024) :
    k0_pay7 (F := Ideal) a w x s (ix2 0 d) = s (ix2 0 d) + ∑ r, normGain (mulNT a w) x r d := by
  unfold normGain
  pointwise [k0_pay7, dn_at, hat_at]

theorem dx_at (r : Fin 512) (d : Fin 1024) :
    k0_pay1 (F := Ideal) (k0_pay8 a w x g) (k0_pay9 x) y (ix2 r d) = normRow (mulNT a w) x g y r d := by
  unfold normRow normBwd
  pointwise [k0_pay1, k0_pay8, k0_pay9, dn_at, hat_at, rstd_at]

theorem dxb_at (r : Fin 512) (d : Fin 1024) :
    k0_pay2 (F := Ideal) (k0_pay8 a w x g) (k0_pay9 x) y (ix2 r d) = normRow (mulNT a w) x g y r d := by
  pointwise [k0_pay2, dx_at]

theorem zero_at (d : Fin 1024) : k0_pay6 (F := Ideal) (ix2 0 d) = 0 := by
  pointwise [k0_pay6]

end Payloads

variable (m : (ℓ : Loc nD τ sig) → Buf (Elt Ideal) ℓ) (c : Dev nD)

/-- The incoming gradient. -/
abbrev xa : FVec Ideal S8192x1024 .bf16 := m ((c : Thread nD τ).loc main_arg0)
/-- The projection. -/
abbrev xw : FVec Ideal S1024x1024 .bf16 := m ((c : Thread nD τ).loc main_arg1)
/-- The rows before the norm. -/
abbrev xx : FVec Ideal S8192x1024 .f32 := m ((c : Thread nD τ).loc main_arg2)
/-- The gains. -/
abbrev xg : FVec Ideal S1x1024 .f32 := m ((c : Thread nD τ).loc main_arg3)
/-- The residual's gradient. -/
abbrev xy : FVec Ideal S8192x1024 .f32 := m ((c : Thread nD τ).loc main_arg4)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

theorem lt_points (t : Fin cfg0.N) : t.val < 16 := lt_of_lt_of_eq t.isLt (show cfg0.N = 16 from N_0)

/-- The row of the arrays that row `r` of a point's block is. -/
def rowOf (t : Fin cfg0.N) (r : Fin 512) : Fin 8192 := ⟨512 * t.val + r, by have := lt_points t; omega⟩

theorem iblk0 (t : Fin cfg0.N) (r : Fin 512) (q : Fin 1024) : (iblk m c 0 t) (ix2 r q) = xa m c (ix2 (rowOf t r) q) := by
  show (iblk m c 0 t) (ix2 r q) = (m ((c : Thread nD τ).loc main_arg0)) (ix2 _ _)
  blk_point [iblk, V, idx t, rowOf]

theorem iblk1 (t : Fin cfg0.N) (d q : Fin 1024) : (iblk m c 1 t) (ix2 d q) = xw m c (ix2 d q) := by
  show (iblk m c 1 t) (ix2 d q) = (m ((c : Thread nD τ).loc main_arg1)) (ix2 _ _)
  blk_point [iblk, V, idx t]

theorem iblk2 (t : Fin cfg0.N) (r : Fin 512) : rowAt (iblk m c 2 t) r = rowAt (xx m c) (rowOf t r) := by
  funext d
  show (iblk m c 2 t) (ix2 r d) = (m ((c : Thread nD τ).loc main_arg2)) (ix2 _ _)
  blk_point [iblk, V, idx t, rowOf]

theorem iblk3 (t : Fin cfg0.N) (d : Fin 1024) : (iblk m c 3 t) (ix2 0 d) = xg m c (ix2 0 d) := by
  show (iblk m c 3 t) (ix2 0 d) = (m ((c : Thread nD τ).loc main_arg3)) (ix2 _ _)
  blk_point [iblk, V, idx t]

theorem iblk4 (t : Fin cfg0.N) (r : Fin 512) (d : Fin 1024) : (iblk m c 4 t) (ix2 r d) = xy m c (ix2 (rowOf t r) d) := by
  show (iblk m c 4 t) (ix2 r d) = (m ((c : Thread nD τ).loc main_arg4)) (ix2 _ _)
  blk_point [iblk, V, idx t, rowOf]

/-- A point's blocks give the gradients of its rows. -/
theorem dn_blk (t : Fin cfg0.N) (r : Fin 512) (d : Fin 1024) :
    mulNT (iblk m c 0 t) (iblk m c 1 t) r d = mulNT (xa m c) (xw m c) (rowOf t r) d :=
  Finset.sum_congr rfl fun q _ => congrArg₂ (· * ·) (iblk0 m c t r q) (iblk1 m c t d q)

/-- The gradient of an entry of the rows. -/
def dx (R : Fin 8192) (d : Fin 1024) : EReal := normRow (mulNT (xa m c) (xw m c)) (xx m c) (xg m c) (xy m c) R d

/-- A row's part of the gradient of the gains. -/
def dg (R : Fin 8192) (d : Fin 1024) : EReal := normGain (mulNT (xa m c) (xw m c)) (xx m c) R d

theorem dx_blk (t : Fin cfg0.N) (r : Fin 512) (d : Fin 1024) :
    normRow (mulNT (iblk m c 0 t) (iblk m c 1 t)) (iblk m c 2 t) (iblk m c 3 t) (iblk m c 4 t) r d = dx m c (rowOf t r) d := by
  unfold dx normRow
  rw [iblk4, iblk2]
  simp only [dn_blk, iblk3]

theorem dg_blk (t : Fin cfg0.N) (r : Fin 512) (d : Fin 1024) :
    normGain (mulNT (iblk m c 0 t) (iblk m c 1 t)) (iblk m c 2 t) r d = dg m c (rowOf t r) d := by
  unfold dg normGain
  rw [dn_blk, iblk2]

theorem step5 (t : Fin cfg0.N) (r : Fin 512) (d : Fin 1024) : (outsAt0 m c t.val t.isLt).1 (ix2 r d) = dx m c (rowOf t r) d := by
  rw [← dx_blk]
  by_cases h : t.val % 16 = 0
  · rw [outsAt0_A m c t h]; frame_out; exact dx_at _ _ _ _ _ _ _
  · rw [outsAt0_B m c t h]; frame_out; exact dx_at _ _ _ _ _ _ _

theorem step6 (t : Fin cfg0.N) (r : Fin 512) (d : Fin 1024) : (outsAt0 m c t.val t.isLt).2.1 (ix2 r d) = dx m c (rowOf t r) d := by
  rw [← dx_blk]
  by_cases h : t.val % 16 = 0
  · rw [outsAt0_A m c t h]; frame_out; exact dxb_at _ _ _ _ _ _ _
  · rw [outsAt0_B m c t h]; frame_out; exact dxb_at _ _ _ _ _ _ _

/-- A point's part of the gradient of the gains. -/
def part (t : Fin cfg0.N) (d : Fin 1024) : EReal := ∑ r : Fin 512, dg m c (rowOf t r) d

theorem part_eq (t : Fin cfg0.N) (s : FVec Ideal S1x1024 .f32) (d : Fin 1024) :
    k0_pay7 (F := Ideal) (iblk m c 0 t) (iblk m c 1 t) (iblk m c 2 t) s (ix2 0 d) = s (ix2 0 d) + part m c t d :=
  (gain_at _ _ _ s d).trans (congrArg (s (ix2 0 d) + ·) (Finset.sum_congr rfl fun r _ => dg_blk m c t r d))

theorem step7_first (t : Fin cfg0.N) (h : t.val % 16 = 0) (d : Fin 1024) :
    (outsAt0 m c t.val t.isLt).2.2 (ix2 0 d) = 0 + part m c t d := by
  rw [← zero_at d, ← part_eq, outsAt0_A m c t h]; frame_out

theorem step7_next (t : Fin cfg0.N) (h : ¬t.val % 16 = 0) (d : Fin 1024) :
    (outsAt0 m c t.val t.isLt).2.2 (ix2 0 d)
      = (outsAt0 m c (t.val - 1) (Nat.lt_of_le_of_lt (Nat.sub_le _ _) t.isLt)).2.2 (ix2 0 d) + part m c t d := by
  rw [← part_eq, outsAt0_B m c t h]; frame_out

/-- The gradient of the rows. -/
def A5 : FVec Ideal S8192x1024 .f32 := fun i => dx m c (i 0) (i 1)
/-- The same in 16 bits. -/
def A6 : FVec Ideal S8192x1024 .bf16 := fun i => dx m c (i 0) (i 1)
/-- The gradient of the gains. -/
def A7 : FVec Ideal S1x1024 .f32 := fun i => ∑ R : Fin 8192, dg m c R (i 1)

/-- What the last point leaves of the gains' gradient. -/
theorem left7 (t : Fin cfg0.N) (ht : t.val % 16 = 15) (d : Fin 1024) :
    (outsAt0 m c t.val t.isLt).2.2 (ix2 0 d) = A7 m c (ix2 0 d) := by
  have hN := show cfg0.N = 16 from N_0
  refine (Pipeline.eq_sum_fin_of_reset_step_apply_last (fun n h (_ : Unit) => (outsAt0 m c n h).2.2 (ix2 0 d)) 16
    (fun _ => (0 : EReal)) (fun t _ => part m c t d) (fun t h _ => step7_first m c t h d)
    (fun t h _ => step7_next m c t h d) (le_of_eq N_0) t (by have := t.isLt; omega) ()).trans ?_
  rw [zero_add]
  refine (Fin.sum_points_lanes_congr (A := 1) (g := fun (_ : Fin 1) (R : Fin 8192) => dg m c R d) 16
    (fun t r ha hl => ?_) (show cfg0.N = 1 * 16 from N_0)).trans (Fin.sum_univ_one _)
  have hR : rowOf t r = ⟨t.val % 16 * 512 + r.val, hl⟩ := Fin.ext (by have := lt_points t; simp only [rowOf]; omega)
  rw [hR]

theorem arr5 : (dats m 0 c).arrAt 5 cfg0.N = A5 m c := by
  refine (dats m 0 c).arrAt_eq_of_covers 5 _ (by decide +kernel) fun t hf y => ?_
  blk_simp
  rw [after0_5]
  obtain ⟨r, d, rfl⟩ : ∃ (r : Fin 512) (d : Fin 1024), y = ix2 r d := ⟨y 0, y 1, eq_ix2 y⟩
  refine (step5 m c t r d).trans (congrArg (A5 m c) (a₁ := ix2 (rowOf t r) d) ?_)
  blk_ext [idx t, rowOf]

theorem arr6 : (dats m 0 c).arrAt 6 cfg0.N = A6 m c := by
  refine (dats m 0 c).arrAt_eq_of_covers 6 _ (by decide +kernel) fun t hf y => ?_
  blk_simp
  rw [after0_6]
  obtain ⟨r, d, rfl⟩ : ∃ (r : Fin 512) (d : Fin 1024), y = ix2 r d := ⟨y 0, y 1, eq_ix2 y⟩
  refine (step6 m c t r d).trans (congrArg (A6 m c) (a₁ := ix2 (rowOf t r) d) ?_)
  blk_ext [idx t, rowOf]

theorem arr7 : (dats m 0 c).arrAt 7 cfg0.N = A7 m c := by
  refine (dats m 0 c).arrAt_eq_of_covers 7 _ (by decide +kernel) fun t hf y => ?_
  blk_simp
  rw [after0_7]
  obtain ⟨i, d, rfl⟩ : ∃ (i : Fin 1) (d : Fin 1024), y = ix2 i d := ⟨y 0, y 1, eq_ix2 y⟩
  obtain rfl : i = 0 := Subsingleton.elim _ _
  exact (left7 m c t ((flush0_7 t).mp hf) d).trans (congrArg (A7 m c) (a₁ := ix2 0 d) (by blk_ext [idx t]))

end Cert.MemqBwdIdeal.Block

namespace Cert.Grad

open Idealize.ShloMosaic Idealize.ShloMosaic.TcCoe Idealize.SL.Sem
open Cert.MemoryQueryGradIdeal Cert.MemoryQueryGradIdeal.Read
open scoped BigOperators

section Stages

variable (x0 : FVec Ideal S8192x1024 .bf16) (x1 : FVec Ideal S1024x1024 .bf16) (x2 : FVec Ideal S8192x1024 .f32)
  (x3 : FVec Ideal S1x1024 .f32) (x4 : FVec Ideal S8192x1024 .f32)

theorem mq18_at (r : Fin 8192) (d : Fin 1024) : val_main_v18 (F := Ideal) x0 x1 (ix2 r d) = mulNT x0 x1 r d := by
  pointwise [val_main_v18, val_main_v17, val_main_v15]
  rfl

theorem mq6_at (r : Fin 8192) :
    val_main_v6 (F := Ideal) x2 (ix2 r 0) = Ideal.div (∑ d, rowAt x2 r d * rowAt x2 r d) cModel + cEps := by
  pointwise [val_main_v6, val_main_v5, val_main_v4, val_main_v3, val_main_v2, val_main_v1, val_main_v0, val_main_cst,
    val_main_cst_0, val_main_cst_1]
  rfl

theorem mq7_at (r : Fin 8192) : val_main_v7 (F := Ideal) x2 (ix2 r 0) = rstd cModel cEps (rowAt x2 r) := by
  unfold rstd
  pointwise [val_main_v7, mq6_at]

theorem mq21_at (d : Fin 1024) : val_main_v21 (F := Ideal) x0 x1 x2 (ix2 0 d) = ∑ R, normGain (mulNT x0 x1) x2 R d := by
  unfold normGain hat
  pointwise [val_main_v21, val_main_v20, val_main_v19, val_main_v12, val_main_v11, val_main_cst_3, mq18_at, mq7_at]
  exact Finset.sum_congr rfl fun R _ => mul_comm _ _

theorem mq23_at (r : Fin 8192) (d : Fin 1024) :
    val_main_v23 (F := Ideal) x0 x1 x3 (ix2 r d) = mulNT x0 x1 r d * x3 (ix2 0 d) := by
  pointwise [val_main_v23, val_main_v22, mq18_at]

theorem mq34_at (r : Fin 8192) (d : Fin 1024) :
    val_main_v34 (F := Ideal) x0 x1 x2 x3 (ix2 r d) = chainFactor cModel cEps (Ideal.ofBits .f32 0xBF000000#32) (rowAt x2 r)
      (fun k => mulNT x0 x1 r k * x3 (ix2 0 k)) := by
  unfold chainFactor
  pointwise [val_main_v34, val_main_v33, val_main_v32, val_main_v31, val_main_v30, val_main_v26, val_main_v25, val_main_v24,
    val_main_v10, val_main_v9, val_main_v8, val_main_cst_2, val_main_cst_4, val_main_cst_5, val_main_cst_6, mq23_at, mq7_at, mq6_at]
  rw [Fin.sum_univ_one, mq7_at, mq6_at]
  rfl

theorem mq38_at (r : Fin 8192) (d : Fin 1024) :
    val_main_v38 (F := Ideal) x0 x1 x2 x3 x4 (ix2 r d) = normRow (mulNT x0 x1) x2 x3 x4 r d := by
  unfold normRow
  rw [← normBwd_model]
  pointwise [val_main_v38, val_main_v37, val_main_v36, val_main_v35, val_main_v29, val_main_v28, val_main_v27, mq34_at, mq23_at, mq7_at]
  simp only [add_assoc]
  rfl

end Stages

/-- The claim on the gradient through the query projection and its norm. -/
theorem algebraic_memq : Cert.algebraic_MemqBwdIdeal_MemoryQueryGradIdeal := by
  intro m g m' g' hpre hargs
  refine ⟨fun c => Cert.MemqBwdIdeal.Block.A5 m c, fun c => Cert.MemqBwdIdeal.Block.A6 m c,
    fun c => Cert.MemqBwdIdeal.Block.A7 m c, ?_, ?_⟩
  · refine (θ_run Cert.MemqBwdIdeal.defs _ _).mono (fun r h c => ?_) (Cert.MemqBwdIdeal.Value.run_blocks (F := Ideal) m g)
    obtain ⟨h4, h5, h6, ha⟩ := h c
    exact ⟨h4.trans (Cert.MemqBwdIdeal.Block.arr5 m c), h5.trans (Cert.MemqBwdIdeal.Block.arr6 m c),
      h6.trans (Cert.MemqBwdIdeal.Block.arr7 m c), ha⟩
  · refine (θ_run Cert.MemoryQueryGradIdeal.defs _ _).mono (fun r h c => ?_) (Cert.MemoryQueryGradIdeal.Value.run (F := Ideal) m' g')
    obtain ⟨h0, h1, h2, ha⟩ := h c
    obtain ⟨e0, e1, e2, e3, e4⟩ := hargs c
    refine ⟨h0.trans ?_, h1.trans ?_, h2.trans ?_, ha⟩
    · rw [Cert.MemoryQueryGradIdeal.Read.val_main_v38_eq, e0, e1, e2, e3, e4]
      funext y
      obtain ⟨r, d, rfl⟩ : ∃ (r : Fin 8192) (d : Fin 1024), y = ix2 r d := ⟨y 0, y 1, eq_ix2 y⟩
      exact mq38_at _ _ _ _ _ r d
    · rw [Cert.MemoryQueryGradIdeal.Read.val_main_v39_eq, e0, e1, e2, e3, e4]
      funext y
      obtain ⟨r, d, rfl⟩ : ∃ (r : Fin 8192) (d : Fin 1024), y = ix2 r d := ⟨y 0, y 1, eq_ix2 y⟩
      exact mq38_at _ _ _ _ _ r d
    · rw [Cert.MemoryQueryGradIdeal.Read.val_main_v21_eq, e0, e1, e2]
      funext y
      obtain ⟨i, d, rfl⟩ : ∃ (i : Fin 1) (d : Fin 1024), y = ix2 i d := ⟨y 0, y 1, eq_ix2 y⟩
      obtain rfl : i = 0 := Subsingleton.elim _ _
      exact mq21_at _ _ _ d

/-- The reference ends with its arguments unchanged and, declaring no semaphore, with every counter at zero. -/
theorem frame_memq : Cert.quiescent_MemoryQueryGradIdeal := fun m ρ _ =>
  (θ_run _ _ _).mono (fun r h => ⟨fun c => (h c).2.2.2, sem_eq_zero_of_no_sems (by decide) r.2⟩) (Cert.MemoryQueryGradIdeal.Value.run m ρ)

end Cert.Grad

end

end
-- ==== Proof.MemqProj.lean ====
/-
  The memory attention's query projection with its norm: the rows normalised, and their product with the weights. The
  kernel's blocks, the arrays they make, and the reference's.
-/
module

public import proofs.«01_k».proof.Proof.RowNorm
public import proofs.«01_k».proof.Proof.Gen.MemqProjIdeal.Value
public import proofs.«01_k».proof.Proof.Gen.MemoryQueryIdeal.Read
public import proofs.«01_k».proof.Proof.Gen.MemoryQueryIdeal.Run
public import proofs.«01_k».proof.Defs
public import Idealize.ShloMosaic.Lib.Pipeline.ValueKit

@[expose] public section

set_option maxRecDepth 16384

noncomputable section

namespace Cert.MemqProjIdeal.Block

open Idealize.ShloMosaic Idealize.ShloMosaic.TcCoe Idealize.SL.Sem
open Cert.MemqProjIdeal Cert.MemqProjIdeal.Gen Cert.MemqProjIdeal.Value Cert.Grad
open scoped BigOperators

/-- A block's normalised rows. -/
theorem hat_at (x : FVec Ideal S512x1024 .f32) (g : FVec Ideal S1x1024 .f32) (r : Fin 512) (d : Fin 1024) :
    k0_pay1 (F := Ideal) x g (ix2 r d) = normed x g (ix2 r d) := by
  unfold normed hat rstd
  pointwise [k0_pay1]
  rfl

/-- A block's product. -/
theorem product_at (h : FVec Ideal S512x1024 .bf16) (w : FVec Ideal S1024x1024 .bf16) (r : Fin 512) (d : Fin 1024) :
    k0_pay2 (F := Ideal) h w (ix2 r d) = mulNN h w r d := by
  pointwise [k0_pay2]
  rfl

variable (m : (ℓ : Loc nD τ sig) → Buf (Elt Ideal) ℓ) (c : Dev nD)

/-- The rows. -/
abbrev xx : FVec Ideal S8192x1024 .f32 := m ((c : Thread nD τ).loc main_arg0)
/-- The gains. -/
abbrev xg : FVec Ideal S1x1024 .f32 := m ((c : Thread nD τ).loc main_arg1)
/-- The projection. -/
abbrev xw : FVec Ideal S1024x1024 .bf16 := m ((c : Thread nD τ).loc main_arg2)

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem lt_points (t : Fin cfg0.N) : t.val < 16 := lt_of_lt_of_eq t.isLt (show cfg0.N = 16 from N_0)

/-- The row of the arrays that row `r` of a point's block is. -/
def rowOf (t : Fin cfg0.N) (r : Fin 512) : Fin 8192 := ⟨512 * t.val + r, by have := lt_points t; omega⟩

theorem iblk0 (t : Fin cfg0.N) (r : Fin 512) : rowAt (iblk m c 0 t) r = rowAt (xx m c) (rowOf t r) := by
  funext d
  show (iblk m c 0 t) (ix2 r d) = (m ((c : Thread nD τ).loc main_arg0)) (ix2 _ _)
  blk_point [iblk, V, idx t, rowOf]

theorem iblk1 (t : Fin cfg0.N) (d : Fin 1024) : (iblk m c 1 t) (ix2 0 d) = xg m c (ix2 0 d) := by
  show (iblk m c 1 t) (ix2 0 d) = (m ((c : Thread nD τ).loc main_arg1)) (ix2 _ _)
  blk_point [iblk, V, idx t]

theorem iblk2 (t : Fin cfg0.N) (q d : Fin 1024) : (iblk m c 2 t) (ix2 q d) = xw m c (ix2 q d) := by
  show (iblk m c 2 t) (ix2 q d) = (m ((c : Thread nD τ).loc main_arg2)) (ix2 _ _)
  blk_point [iblk, V, idx t]

/-- A point's blocks give its rows, normalised. -/
theorem hat_blk (t : Fin cfg0.N) (r : Fin 512) (d : Fin 1024) :
    k0_pay1 (F := Ideal) (iblk m c 0 t) (iblk m c 1 t) (ix2 r d) = normed (xx m c) (xg m c) (ix2 (rowOf t r) d) :=
  (hat_at _ _ r d).trans (congrArg₂ (· * ·) (congrArg (fun x => hat cModel cEps x d) (iblk0 m c t r)) (iblk1 m c t d))

/-- The product. -/
def A3 : FVec Ideal S8192x1024 .f32 := fun i => mulNN (normed (xx m c) (xg m c)) (xw m c) (i 0) (i 1)
/-- The normalised rows. -/
def A4 : FVec Ideal S8192x1024 .bf16 := normed (xx m c) (xg m c)

theorem arr3 : (dats m 0 c).arrAt 3 cfg0.N = A3 m c := by
  refine (dats m 0 c).arrAt_eq_of_covers 3 _ (by decide +kernel) fun t hf y => ?_
  blk_simp
  rw [after0_3]
  obtain ⟨r, d, rfl⟩ : ∃ (r : Fin 512) (d : Fin 1024), y = ix2 r d := ⟨y 0, y 1, eq_ix2 y⟩
  refine Eq.trans (b := A3 m c (ix2 (rowOf t r) d)) ?_ (congrArg (A3 m c) ?_)
  · unfold outsAt0
    frame_out
    exact (product_at _ _ r d).trans (Finset.sum_congr rfl fun q _ => congrArg₂ (· * ·) (hat_blk m c t r q) (iblk2 m c t q d))
  · blk_ext [idx t, rowOf]

theorem arr4 : (dats m 0 c).arrAt 4 cfg0.N = A4 m c := by
  refine (dats m 0 c).arrAt_eq_of_covers 4 _ (by decide +kernel) fun t hf y => ?_
  blk_simp
  rw [after0_4]
  obtain ⟨r, d, rfl⟩ : ∃ (r : Fin 512) (d : Fin 1024), y = ix2 r d := ⟨y 0, y 1, eq_ix2 y⟩
  refine Eq.trans (b := A4 m c (ix2 (rowOf t r) d)) ?_ (congrArg (A4 m c) ?_)
  · unfold outsAt0
    frame_out
    exact hat_blk m c t r d
  · blk_ext [idx t, rowOf]

end Cert.MemqProjIdeal.Block

namespace Cert.Grad

open Idealize.ShloMosaic Idealize.ShloMosaic.TcCoe Idealize.SL.Sem
open Cert.MemoryQueryIdeal Cert.MemoryQueryIdeal.Read

section Query

variable (x : FVec Ideal S8192x1024 .f32) (g : FVec Ideal S1x1024 .f32) (w : FVec Ideal S1024x1024 .bf16)

/-- The reference's normalised rows. -/
theorem query_hat_at (r : Fin 8192) (d : Fin 1024) : val_main_v11 (F := Ideal) x g (ix2 r d) = normed x g (ix2 r d) := by
  unfold normed hat rstd
  pointwise [val_main_v11, val_main_v10, val_main_v9, val_main_v8, val_main_v7, val_main_v6, val_main_v5, val_main_v4, val_main_v3,
    val_main_v2, val_main_v1, val_main_v0, val_main_cst, val_main_cst_0, val_main_cst_1]
  rfl

/-- The reference's product. -/
theorem query_at (r : Fin 8192) (d : Fin 1024) : val_main_v13 (F := Ideal) x g w (ix2 r d) = mulNN (normed x g) w r d := by
  unfold mulNN
  pointwise [val_main_v13, val_main_v12, query_hat_at]

theorem query_rows_at (r : Fin 8192) (d : Fin 1024) : val_main_v14 (F := Ideal) x g (ix2 r d) = normed x g (ix2 r d) := by
  pointwise [val_main_v14, query_hat_at]

end Query

/-- The claim on the query projection. -/
theorem algebraic_query : Cert.algebraic_MemqProjIdeal_MemoryQueryIdeal := by
  intro m g m' g' hpre hargs
  refine ⟨fun c => Cert.MemqProjIdeal.Block.A3 m c, fun c => Cert.MemqProjIdeal.Block.A4 m c, ?_, ?_⟩
  · refine (θ_run Cert.MemqProjIdeal.defs _ _).mono (fun r h c => ?_) (Cert.MemqProjIdeal.Value.run_blocks (F := Ideal) m g)
    exact ⟨(h c).1.trans (Cert.MemqProjIdeal.Block.arr3 m c), (h c).2.1.trans (Cert.MemqProjIdeal.Block.arr4 m c), (h c).2.2⟩
  · refine (θ_run Cert.MemoryQueryIdeal.defs _ _).mono (fun r h c => ?_) (Cert.MemoryQueryIdeal.Value.run (F := Ideal) m' g')
    obtain ⟨h0, h1, ha⟩ := h c
    obtain ⟨e0, e1, e2⟩ := hargs c
    refine ⟨h0.trans ?_, h1.trans ?_, ha⟩
    · rw [val_main_v13_eq, e0, e1, e2]
      funext y
      obtain ⟨r, d, rfl⟩ : ∃ (r : Fin 8192) (d : Fin 1024), y = ix2 r d := ⟨y 0, y 1, eq_ix2 y⟩
      exact query_at _ _ _ r d
    · rw [val_main_v14_eq, e0, e1]
      funext y
      obtain ⟨r, d, rfl⟩ : ∃ (r : Fin 8192) (d : Fin 1024), y = ix2 r d := ⟨y 0, y 1, eq_ix2 y⟩
      exact query_rows_at _ _ r d

/-- The reference ends with its arguments unchanged and, declaring no semaphore, with every counter at zero. -/
theorem frame_query : Cert.quiescent_MemoryQueryIdeal := fun m ρ _ =>
  (θ_run _ _ _).mono (fun r h => ⟨fun c => (h c).2.2, sem_eq_zero_of_no_sems (by decide) r.2⟩) (Cert.MemoryQueryIdeal.Value.run m ρ)

end Cert.Grad

end

end
-- ==== Proof.UpProjRun.lean ====
/-
  The run of the up projection with its norm, at any float values: a block of rows is normalised at the first of its four
  points and stays in the second output's buffer while the four blocks of columns are multiplied with it. The body's two
  cases, what the buffers hold at each point, and the run with both output arrays named.
-/
module

public import proofs.«01_k».proof.Proof.Gen.UpProjIdeal.Skeleton
public import proofs.«01_k».proof.Proof.Gen.UpProjIdeal.Frame
public import Idealize.ShloMosaic.Lib.VecWindow
public import Idealize.ShloMosaic.Lib.Pipeline.Value
public import Idealize.ShloMosaic.Lib.Pipeline.ValueKit

@[expose] public section

set_option maxRecDepth 16384

noncomputable section

namespace Cert.UpProjIdeal.Run

open Cert.UpProjIdeal Cert.UpProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's two cases -/

/-- The body's condition: the point is the first of its row block. -/
abbrev first (i : grid0.Coords) : Prop := k0_cond1 i = 1#1

theorem first_iff : ∀ t : Fin cfg0.N, first (grid0.coords t) ↔ t.val % 4 = 0 :=
  (by decide +kernel : ∀ t : Fin grid0.N, first (grid0.coords t) ↔ t.val % 4 = 0)

section Body

variable (c : Dev nD) (i : grid0.Coords) (arg2 : Memref sig .tc .vmem S1024x1024 .f32) (harg2 : arg2.IsWhole)
  (arg3 : Memref sig .tc .vmem S1x1024 .f32) (harg3 : arg3.IsWhole) (arg4 : Memref sig .tc .vmem S1024x1408 .bf16)
  (harg4 : arg4.IsWhole) (arg5 : Memref sig .tc .vmem S1024x1408 .f32) (harg5 : arg5.IsWhole)
  (arg6 : Memref sig .tc .vmem S1024x1024 .bf16) (harg6 : arg6.IsWhole) (x0 : Vec F S1024x1024 .f32) (x1 : Vec F S1x1024 .f32)
  (x2 : Vec F S1024x1408 .bf16) (E : Set ℕ) (K : PUnit → sProp (MT nD τ sig Unit (Elt F) ℕ (UR sig nD τ) ℕ))

/-- At the first point of a row block the body leaves the normalised rows in the second output's buffer and their product
    in the first's. -/
theorem body_first (h : first i) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (k0_pay2 (k0_pay1 x0 x1) x2)
            ∗ owns (c : Thread nD τ) arg6 fullShare (k0_pay1 x0 x1)) -∗ K ⟨⟩))
      ⊢ wp frame (wpE (defs₀ (F := F)) Variants.none c none) E (cc0_up_proj i arg2 harg2 arg3 harg3 arg4 harg4 arg5 harg5 arg6 harg6) K := by
  simp only [cc0_up_proj_eq_skeleton]; unfold cc0_up_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact h)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_full]
    exact congrArg₂ k0_pay2 ((View.readCov_full _ _ _ _ _).trans
        (congrArg₂ k0_pay1 ((View.readAt_full _ _ _).trans (harg2.read_unread _)) ((View.readAt_full _ _ _).trans (harg3.read_unread _))))
      ((View.readAt_full _ _ _).trans (harg4.read_unread _))
  iexists _; isplitr; swap; · iexact H4
  ipureintro
  exact (View.read_writes_full _ _ _ _ _).trans
    (congrArg₂ k0_pay1 ((View.readAt_full _ _ _).trans (harg2.read_unread _)) ((View.readAt_full _ _ _).trans (harg3.read_unread _)))

/-- At a later point the body reads the normalised rows `x4` where they were left. -/
theorem body_later (h : ¬first i) (x4 : Vec F S1024x1024 .bf16) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4
        ∗ (iprop(owns (c : Thread nD τ) arg2 fullShare x0 ∗ owns (c : Thread nD τ) arg3 fullShare x1
            ∗ owns (c : Thread nD τ) arg4 fullShare x2 ∗ owns (c : Thread nD τ) arg5 fullShare (k0_pay2 x4 x2)
            ∗ owns (c : Thread nD τ) arg6 fullShare x4) -∗ K ⟨⟩))
      ⊢ wp frame (wpE (defs₀ (F := F)) Variants.none c none) E (cc0_up_proj i arg2 harg2 arg3 harg3 arg4 harg4 arg5 harg5 arg6 harg6) K := by
  simp only [cc0_up_proj_eq_skeleton]; unfold cc0_up_proj_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2
  obtain rfl := harg6.eq_unread hf4
  sl_exec (disch := first | sl_exact h)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_full]
    exact congrArg₂ k0_pay2 ((View.readAt_full _ _ _).trans (harg6.read_unread _)) ((View.readAt_full _ _ _).trans (harg4.read_unread _))
  iexists _; isplitr; swap; · iexact H4
  ipureintro
  exact harg6.read_unread _

end Body

/-! ## What the buffers hold at each point -/

variable (m : (ℓ : Loc nD τ sig) → Buf (Elt F) ℓ) (ρ : Dev nD → PrngReg)

/-- The first point of a point's row block. -/
def head (t : Fin cfg0.N) : Fin cfg0.N := ⟨t.val / 4 * 4, Nat.lt_of_le_of_lt (Nat.div_mul_le_self _ _) t.isLt⟩

theorem head_first (t : Fin cfg0.N) (h : t.val % 4 = 0) : head t = t := Fin.ext (by simp only [head]; omega)

/-- The point before. -/
abbrev before (t : Fin cfg0.N) : Fin cfg0.N := ⟨t.val - 1, Nat.lt_of_le_of_lt (Nat.sub_le _ _) t.isLt⟩

theorem head_before (t : Fin cfg0.N) (h : t.val % 4 ≠ 0) : head (before t) = head t :=
  Fin.ext (by simp only [head, before]; omega)

/-- The normalised rows of a point's row block, from what its first point read. -/
def hat (c : Dev nD) (t : Fin cfg0.N) : Vec F S1024x1024 .bf16 := k0_pay1 (iblk m c 0 (head t)) (iblk m c 1 (head t))

/-- The proof data: after the body each input's buffer holds its block, the second output's the normalised rows of the
    row block, the first's their product with the point's block of columns. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (hat m c t) (iblk m c 2 t)
    | ⟨4, _⟩ => hat m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay2 (hat m c t) (iblk m c 2 t) := by dsimp only [dats]
theorem after0_4 (c : Dev nD) (t : Fin cfg0.N) : (dats m 0 c).after 4 t = hat m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The second output is left alone at a row block's later points, and written at its first. -/
theorem idle_later (t : Fin cfg0.N) (h : t.val % 4 ≠ 0) : cfg0.idle 4 (grid0.coords t) = true :=
  (by decide +kernel : ∀ t : Fin grid0.N, t.val % 4 ≠ 0 → cfg0.idle 4 (grid0.coords t) = true) t h
theorem live_first (t : Fin cfg0.N) (h : t.val % 4 = 0) : cfg0.idle 4 (grid0.coords t) = false :=
  (by decide +kernel : ∀ t : Fin grid0.N, t.val % 4 = 0 → cfg0.idle 4 (grid0.coords t) = false) t h

/-- At a row block's later points the second output's buffer holds the normalised rows. -/
theorem before0_4 (c : Dev nD) (d) (n : ℕ) : ∀ t : Fin cfg0.N, t.val = n → t.val % 4 ≠ 0 → (dats m 0 c).before 4 t d = hat m c t := by
  induction n with
  | zero => intro t ht h; exact absurd (by rw [ht]) h
  | succ n ih =>
    intro t ht h
    have hnf : (cfg0.win 4).flush (before t) = false :=
      Bool.eq_false_iff.mpr fun hf => h (by have := (flush0_4 _).mp hf; simp only [before] at this; omega)
    have e : hat m c (before t) = hat m c t := by unfold hat; rw [head_before t h]
    rw [Dat.before_of_pos _ _ _ (by omega) rfl, hnf, if_neg Bool.false_ne_true]
    unfold Dat.left
    by_cases h0 : (before t).val % 4 = 0
    · rw [live_first _ h0]
      exact (show (dats m 0 c).kept 4 (before t) d = hat m c (before t) from after0_4 m c (before t)).trans e
    · rw [idle_later _ h0]
      exact (ih (before t) (by simp only [before]; omega) h0).trans e

/-! ## The body at a point, and the run -/

/-- What the body is handed at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- What it leaves. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (win0_0.stage (cfg0.slots t 0)) fullShare (iblk m c 0 t) from
      congrArg (owns (c : Thread nD τ) (win0_0.stage (cfg0.slots t 0)) fullShare) (after0_0 m c t),
    show (dats m 0 c).leavesExact 1 t = owns (c : Thread nD τ) (win0_1.stage (cfg0.slots t 1)) fullShare (iblk m c 1 t) from
      congrArg (owns (c : Thread nD τ) (win0_1.stage (cfg0.slots t 1)) fullShare) (after0_1 m c t),
    show (dats m 0 c).leavesExact 2 t = owns (c : Thread nD τ) (win0_2.stage (cfg0.slots t 2)) fullShare (iblk m c 2 t) from
      congrArg (owns (c : Thread nD τ) (win0_2.stage (cfg0.slots t 2)) fullShare) (after0_2 m c t),
    show (dats m 0 c).leavesExact 3 t = owns (c : Thread nD τ) (win0_3.stage (cfg0.slots t 3)) fullShare (k0_pay2 (hat m c t) (iblk m c 2 t)) from
      congrArg (owns (c : Thread nD τ) (win0_3.stage (cfg0.slots t 3)) fullShare) (after0_3 m c t)]
  by_cases h : t.val % 4 = 0
  · rw [show (dats m 0 c).leavesExact 4 t = owns (c : Thread nD τ) (win0_4.stage (cfg0.slots t 4)) fullShare (hat m c t) from by
      unfold Dat.leavesExact; rw [live_first t h, after0_4]]
    unfold hat; rw [head_first t h]
    iintro ⟨HΦ, Ho, ⟨%d0, H0⟩, ⟨%d1, H1⟩, ⟨%d2, H2⟩, ⟨%d3, H3⟩, ⟨%d4, H4⟩⟩
    iapply (body_first c (grid0.coords t) _ _ _ _ _ _ _ _ _ _ (iblk m c 0 t) (iblk m c 1 t) (iblk m c 2 t) Set.univ _ ((first_iff t).mpr h))
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have e : (owns (c : Thread nD τ) (win0_4.stage (cfg0.slots t 4)) fullShare (hat m c t)
        : sProp (MT nD τ sig Unit (Elt F) ℕ (UR sig nD τ) ℕ)) ⊢ (dats m 0 c).leavesExact 4 t := by
      cases hf : (cfg0.win 4).flush t with
      | true =>
        rw [show (dats m 0 c).leavesExact 4 t = owns (c : Thread nD τ) (win0_4.stage (cfg0.slots t 4)) fullShare (hat m c t) from by
          unfold Dat.leavesExact; rw [idle_later t h, hf, after0_4]]
      | false =>
        rw [Dat.leavesExact_idle _ _ _ (idle_later t h) hf]
        iintro H; iexists (hat m c t); rw [before0_4 m c _ _ t rfl h]; iexact H
    iintro ⟨HΦ, Ho, ⟨%d0, H0⟩, ⟨%d1, H1⟩, ⟨%d2, H2⟩, ⟨%d3, H3⟩, ⟨%d4, H4⟩⟩
    rw [before0_4 m c _ _ t rfl h]
    iapply (body_later c (grid0.coords t) _ _ _ _ _ _ _ _ _ _ (iblk m c 0 t) (iblk m c 1 t) (iblk m c 2 t) Set.univ _
      (fun hc => h ((first_iff t).mp hc)) (hat m c t))
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply e; iexact H4

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

-- the launch's implicit arguments are found by unifying its conclusion, through plain definitions in a type
set_option backward.isDefEq.respectTransparency.types false in
/-- Every execution ends with each array at what the proof data says and every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame at any float values: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

/-- The run with both output arrays named, the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩) (run m ρ)

end Cert.UpProjIdeal.Run

end

end
-- ==== Proof.UpProj.lean ====
/-
  The up projection with its norm: what its two output arrays are in terms of the arguments, the reference's product, and
  both programs' ends, from the one run over any float values.
-/
module

public import proofs.«01_k».proof.Proof.UpProjRun
public import proofs.«01_k».proof.Proof.MemqProj
public import proofs.«01_k».proof.Proof.Gen.UpProj.Frame
public import proofs.«01_k».proof.Proof.Gen.UpProductIdeal.Read
public import proofs.«01_k».proof.Proof.Gen.UpProductIdeal.Run
public import proofs.«01_k».proof.Defs
public import Idealize.ShloMosaic.Lib.Pipeline.ValueKit

@[expose] public section

set_option maxRecDepth 16384

noncomputable section

namespace Cert.UpProjIdeal.Block

open Idealize.ShloMosaic Idealize.ShloMosaic.TcCoe Idealize.SL.Sem
open Cert.UpProjIdeal Cert.UpProjIdeal.Gen Cert.Grad
open scoped BigOperators

/-- A block's normalised rows. -/
theorem hat_at (x : FVec Ideal S1024x1024 .f32) (g : FVec Ideal S1x1024 .f32) (r d : Fin 1024) :
    k0_pay1 (F := Ideal) x g (ix2 r d) = normed x g (ix2 r d) := by
  unfold normed hat rstd
  pointwise [k0_pay1]
  rfl

/-- A block's product. -/
theorem product_at (h : FVec Ideal S1024x1024 .bf16) (w : FVec Ideal S1024x1408 .bf16) (r : Fin 1024) (d : Fin 1408) :
    k0_pay2 (F := Ideal) h w (ix2 r d) = mulNN h w r d := by
  pointwise [k0_pay2]
  rfl

variable (m : (ℓ : Loc nD τ sig) → Buf (Elt Ideal) ℓ) (c : Dev nD)

/-- The rows. -/
abbrev xx : FVec Ideal S8192x1024 .f32 := m ((c : Thread nD τ).loc main_arg0)
/-- The gains. -/
abbrev xg : FVec Ideal S1x1024 .f32 := m ((c : Thread nD τ).loc main_arg1)
/-- The projection. -/
abbrev xw : FVec Ideal S1024x5632 .bf16 := m ((c : Thread nD τ).loc main_arg2)

theorem idx : ∀ t : Fin cfg0.N, win0_0.index t = ![t.val / 4, 0] ∧ win0_1.index t = ![0, 0] ∧ win0_2.index t = ![0, t.val % 4]
    ∧ win0_3.index t = ![t.val / 4, t.val % 4] ∧ win0_4.index t = ![t.val / 4, 0] :=
  (by decide +kernel : ∀ t : Fin grid0.N, _)

theorem lt_points (t : Fin cfg0.N) : t.val < 32 := lt_of_lt_of_eq t.isLt (show cfg0.N = 32 from N_0)

/-- The row of the arrays that row `r` of a point's block is. -/
def rowOf (t : Fin cfg0.N) (r : Fin 1024) : Fin 8192 := ⟨1024 * (t.val / 4) + r, by have := lt_points t; omega⟩
/-- The column of the product that column `d` of a point's block is. -/
def colOf (t : Fin cfg0.N) (d : Fin 1408) : Fin 5632 := ⟨1408 * (t.val % 4) + d, by omega⟩

theorem rowOf_head (t : Fin cfg0.N) (r : Fin 1024) : rowOf (Run.head t) r = rowOf t r :=
  Fin.ext (by simp only [rowOf, Run.head]; omega)

theorem iblk0 (t : Fin cfg0.N) (r : Fin 1024) : rowAt (iblk m c 0 t) r = rowAt (xx m c) (rowOf t r) := by
  funext d
  show (iblk m c 0 t) (ix2 r d) = (m ((c : Thread nD τ).loc main_arg0)) (ix2 _ _)
  blk_point [iblk, V, idx t, rowOf]

theorem iblk1 (t : Fin cfg0.N) (d : Fin 1024) : (iblk m c 1 t) (ix2 0 d) = xg m c (ix2 0 d) := by
  show (iblk m c 1 t) (ix2 0 d) = (m ((c : Thread nD τ).loc main_arg1)) (ix2 _ _)
  blk_point [iblk, V, idx t]

theorem iblk2 (t : Fin cfg0.N) (q : Fin 1024) (d : Fin 1408) : (iblk m c 2 t) (ix2 q d) = xw m c (ix2 q (colOf t d)) := by
  show (iblk m c 2 t) (ix2 q d) = (m ((c : Thread nD τ).loc main_arg2)) (ix2 _ _)
  blk_point [iblk, V, idx t, colOf]

/-- What the second output's buffer holds at a point is its rows, normalised. -/
theorem hat_blk (t : Fin cfg0.N) (r d : Fin 1024) : Run.hat m c t (ix2 r d) = normed (xx m c) (xg m c) (ix2 (rowOf t r) d) :=
  (hat_at _ _ r d).trans (congrArg₂ (· * ·)
    (congrArg (fun x => hat cModel cEps x d) ((iblk0 m c (Run.head t) r).trans (congrArg (rowAt (xx m c)) (rowOf_head t r))))
    (iblk1 m c (Run.head t) d))

/-- The product. -/
def A3 : FVec Ideal S8192x5632 .f32 := fun i => mulNN (normed (xx m c) (xg m c)) (xw m c) (i 0) (i 1)
/-- The normalised rows. -/
def A4 : FVec Ideal S8192x1024 .bf16 := normed (xx m c) (xg m c)

theorem arr3 : (Run.dats m 0 c).arrAt 3 cfg0.N = A3 m c := by
  refine (Run.dats m 0 c).arrAt_eq_of_covers 3 _ (by decide +kernel) fun t hf y => ?_
  blk_simp
  rw [Run.after0_3]
  obtain ⟨r, d, rfl⟩ : ∃ (r : Fin 1024) (d : Fin 1408), y = ix2 r d := ⟨y 0, y 1, eq_ix2 y⟩
  refine Eq.trans (b := A3 m c (ix2 (rowOf t r) (colOf t d))) ?_ (congrArg (A3 m c) ?_)
  · exact (product_at _ _ r d).trans (Finset.sum_congr rfl fun q _ => congrArg₂ (· * ·) (hat_blk m c t r q) (iblk2 m c t q d))
  · blk_ext [idx t, rowOf, colOf]

theorem arr4 : (Run.dats m 0 c).arrAt 4 cfg0.N = A4 m c := by
  refine (Run.dats m 0 c).arrAt_eq_of_covers 4 _ (by decide +kernel) fun t hf y => ?_
  blk_simp
  rw [Run.after0_4]
  obtain ⟨r, d, rfl⟩ : ∃ r d : Fin 1024, y = ix2 r d := ⟨y 0, y 1, eq_ix2 y⟩
  refine Eq.trans (b := A4 m c (ix2 (rowOf t r) d)) (hat_blk m c t r d) (congrArg (A4 m c) ?_)
  blk_ext [idx t, rowOf]

end Cert.UpProjIdeal.Block

namespace Cert.Grad

open Idealize.ShloMosaic Idealize.ShloMosaic.TcCoe Idealize.SL.Sem
open Cert.UpProductIdeal Cert.UpProductIdeal.Read

/-- The reference's product. -/
theorem up_product_at (x : FVec Ideal S8192x1024 .f32) (g : FVec Ideal S1x1024 .f32) (w : FVec Ideal S1024x5632 .bf16) (r : Fin 8192)
    (d : Fin 5632) : val_main_v13 (F := Ideal) x g w (ix2 r d) = mulNN (normed x g) w r d := by
  have h : ∀ q : Fin 1024, val_main_v11 (F := Ideal) x g (ix2 r q) = normed x g (ix2 r q) := query_hat_at x g r
  unfold mulNN
  pointwise [val_main_v13, val_main_v12, h]

/-- The claim on the up projection. -/
theorem algebraic_up_product : Cert.algebraic_UpProjIdeal_UpProductIdeal := by
  intro m g m' g' hpre hargs
  refine ⟨fun c => Cert.UpProjIdeal.Block.A3 m c, fun c => Cert.UpProjIdeal.Block.A4 m c, ?_, ?_⟩
  · refine (θ_run Cert.UpProjIdeal.defs _ _).mono (fun r h c => ?_) (Cert.UpProjIdeal.Run.run_blocks (F := Ideal) m g)
    exact ⟨(h c).1.trans (Cert.UpProjIdeal.Block.arr3 m c), (h c).2.1.trans (Cert.UpProjIdeal.Block.arr4 m c), (h c).2.2⟩
  · refine (θ_run Cert.UpProductIdeal.defs _ _).mono (fun r h c => ?_) (Cert.UpProductIdeal.Value.run (F := Ideal) m' g')
    obtain ⟨h0, h1, ha⟩ := h c
    obtain ⟨e0, e1, e2⟩ := hargs c
    refine ⟨h0.trans ?_, h1.trans ?_, ha⟩
    · rw [val_main_v13_eq, e0, e1, e2]
      funext y
      obtain ⟨r, d, rfl⟩ : ∃ (r : Fin 8192) (d : Fin 5632), y = ix2 r d := ⟨y 0, y 1, eq_ix2 y⟩
      exact up_product_at _ _ _ r d
    · rw [val_main_v14_eq, e0, e1]
      funext y
      obtain ⟨r, d, rfl⟩ : ∃ (r : Fin 8192) (d : Fin 1024), y = ix2 r d := ⟨y 0, y 1, eq_ix2 y⟩
      exact query_rows_at _ _ r d

/-- The kernel's body as written and the idealized one's are the same text. -/
theorem up_proj_body (i : Cert.UpProjIdeal.grid0.Coords) (arg2 : Memref Cert.UpProjIdeal.sig .tc .vmem Cert.UpProjIdeal.S1024x1024 .f32)
    (harg2 : arg2.IsWhole) (arg3 : Memref Cert.UpProjIdeal.sig .tc .vmem Cert.UpProjIdeal.S1x1024 .f32) (harg3 : arg3.IsWhole)
    (arg4 : Memref Cert.UpProjIdeal.sig .tc .vmem Cert.UpProjIdeal.S1024x1408 .bf16) (harg4 : arg4.IsWhole)
    (arg5 : Memref Cert.UpProjIdeal.sig .tc .vmem Cert.UpProjIdeal.S1024x1408 .f32) (harg5 : arg5.IsWhole)
    (arg6 : Memref Cert.UpProjIdeal.sig .tc .vmem Cert.UpProjIdeal.S1024x1024 .bf16) (harg6 : arg6.IsWhole) :
    Cert.UpProjIdeal.cc0_up_proj (F := Bits) i arg2 harg2 arg3 harg3 arg4 harg4 arg5 harg5 arg6 harg6
      = Cert.UpProj.cc0_up_proj (F := Bits) i arg2 harg2 arg3 harg3 arg4 harg4 arg5 harg5 arg6 harg6 := rfl

/-- So are their body tables. -/
theorem up_proj_defs : Cert.UpProjIdeal.defs₀ (F := Bits) = Cert.UpProj.defs₀ (F := Bits) :=
  congrArg Defs.onTc (funext fun l => funext fun a => match l, a with
    | 0, (t, s) => up_proj_body _ _ _ _ _ _ _ _ _ _ _
    | ⟨_ + 1, h⟩, _ => absurd h (Nat.not_lt.2 (Nat.le_add_left _ _)))

/-- The kernel as written ends as the idealized one does: the run holds over any float values, and the texts agree. -/
theorem frame_up_proj : Cert.quiescent_UpProj := fun m ρ _ =>
  (congrArg (fun d => θ_run (Pipeline.defs Cert.UpProjIdeal.pcfgs d) (onTc (τ := Cert.UpProjIdeal.τ) (Cert.UpProjIdeal.main (F := Bits)))
    ⟨m, fun _ => 0, ρ⟩ _) up_proj_defs).mp (Cert.UpProjIdeal.Run.frame (F := Bits) m ρ)

theorem frame_up_proj_ideal : Cert.quiescent_UpProjIdeal := fun m ρ _ => Cert.UpProjIdeal.Run.frame m ρ

/-- The reference ends with its arguments unchanged and, declaring no semaphore, with every counter at zero. -/
theorem frame_up_product : Cert.quiescent_UpProductIdeal := fun m ρ _ =>
  (θ_run _ _ _).mono (fun r h => ⟨fun c => (h c).2.2, sem_eq_zero_of_no_sems (by decide) r.2⟩) (Cert.UpProductIdeal.Value.run m ρ)

end Cert.Grad

end

end
-- ==== Proof.InBwd.lean ====
/-
  The gradient through the input projection and the root-mean-square norm before it: the four pieces of the incoming
  gradient times the transposes of the projection's four groups of columns, the gradient of the norm, the residual's
  gradient added, and the gradient of the norm's gains. The kernel's blocks, the arrays they make, the reference's
  derivative, and that the two are the same.
-/
module

public import proofs.«01_k».proof.Proof.RowNorm
public import proofs.«01_k».proof.Proof.Gen.InBwdIdeal.Value
public import proofs.«01_k».proof.Proof.Gen.InGradIdeal.Read
public import proofs.«01_k».proof.Proof.Gen.InGradIdeal.Run
public import proofs.«01_k».proof.Defs
public import Idealize.ShloMosaic.Lib.Pipeline.ValueKit
public import Idealize.ShloMosaic.Lib.StableHlo.RunRead

@[expose] public section

set_option maxRecDepth 16384

noncomputable section

namespace Cert.Grad

open Idealize.ShloMosaic
open scoped BigOperators

/-- Columns `o` to `o + n` of the projection. -/
def colsFrom (o : ℕ) {n : ℕ} (h : o + n ≤ 1536) (w : Mat 1024 1536) : Mat 1024 n :=
  fun i => w (ix2 (i 0) ⟨o + (i 1).val, by have := (i 1).isLt; simp at this; omega⟩)

/-- The gradient of the normalised row: what the four pieces of the incoming gradient give. -/
def inNorm {n : ℕ} (a0 : Mat n 1024) (a1 : Mat n 256) (a2 a3 : Mat n 128) (w0 : Mat 1024 1024) (w1 : Mat 1024 256)
    (w2 w3 : Mat 1024 128) (r : Fin n) (d : Fin 1024) : EReal :=
  mulNT a0 w0 r d + mulNT a1 w1 r d + mulNT a2 w2 r d + mulNT a3 w3 r d

/-- The same from the whole projection. -/
def inNormOf {n : ℕ} (a0 : Mat n 1024) (a1 : Mat n 256) (a2 a3 : Mat n 128) (w : Mat 1024 1536) : Fin n → Fin 1024 → EReal :=
  inNorm a0 a1 a2 a3 (colsFrom 0 (by omega) w) (colsFrom 1024 (by omega) w) (colsFrom 1280 (by omega) w) (colsFrom 1408 (by omega) w)

end Cert.Grad

namespace Cert.InBwdIdeal.Block

open Idealize.ShloMosaic Idealize.ShloMosaic.TcCoe Idealize.SL.Sem
open Cert.InBwdIdeal Cert.InBwdIdeal.Gen Cert.InBwdIdeal.Value Cert.Grad
open scoped BigOperators

section Payloads

variable (a0 : FVec Ideal S512x1024 .bf16) (a1 : FVec Ideal S512x256 .bf16) (a2 : FVec Ideal S512x128 .bf16)
  (a3 : FVec Ideal S512x128 .f32) (w0 : FVec Ideal S1024x1024 .bf16) (w1 : FVec Ideal S1024x256 .bf16)
  (w2 w3 : FVec Ideal S1024x128 .bf16) (x : FVec Ideal S512x1024 .f32) (g : FVec Ideal S1x1024 .f32)
  (y : FVec Ideal S512x1024 .f32)

theorem dn_at (r : Fin 512) (d : Fin 1024) :
    k0_pay4 (F := Ideal) a0 w0 a1 w1 a2 w2 a3 w3 (ix2 r d) = inNorm a0 a1 a2 a3 w0 w1 w2 w3 r d := by
  unfold inNorm
  pointwise [k0_pay4]
  rfl

theorem rstd_at (r : Fin 512) : k0_pay5 (F := Ideal) x (ix2 r 0) = rstd cModel cEps (rowAt x r) := by
  unfold rstd
  pointwise [k0_pay5]
  rfl

theorem hat_at (r : Fin 512) (d : Fin 1024) : k0_pay6 (F := Ideal) x (ix2 r d) = hat cModel cEps (rowAt x r) d := by
  unfold hat
  pointwise [k0_pay6, rstd_at]
  rfl

theorem gain_at (s : FVec Ideal S1x1024 .f32) (d : Fin 1024) :
    k0_pay2 (F := Ideal) (k0_pay4 a0 w0 a1 w1 a2 w2 a3 w3) (k0_pay6 x) s (ix2 0 d)
      = s (ix2 0 d) + ∑ r, normGain (inNorm a0 a1 a2 a3 w0 w1 w2 w3) x r d := by
  unfold normGain
  pointwise [k0_pay2, dn_at, hat_at]

theorem dx_at (r : Fin 512) (d : Fin 1024) :
    k0_pay3 (F := Ideal) (k0_pay4 a0 w0 a1 w1 a2 w2 a3 w3) (k0_pay5 x) (k0_pay6 x) g y (ix2 r d)
      = normRow (inNorm a0 a1 a2 a3 w0 w1 w2 w3) x g y r d := by
  unfold normRow normBwd
  pointwise [k0_pay3, dn_at, hat_at, rstd_at]

theorem zero_at (d : Fin 1024) : k0_pay1 (F := Ideal) (ix2 0 d) = 0 := by
  pointwise [k0_pay1]

end Payloads

variable (m : (ℓ : Loc nD τ sig) → Buf (Elt Ideal) ℓ) (c : Dev nD)

/-- The incoming gradient's pieces. -/
abbrev x0 : FVec Ideal S8192x1024 .bf16 := m ((c : Thread nD τ).loc main_arg0)
abbrev x1 : FVec Ideal S8192x256 .bf16 := m ((c : Thread nD τ).loc main_arg1)
abbrev x2 : FVec Ideal S8192x128 .bf16 := m ((c : Thread nD τ).loc main_arg2)
abbrev x3 : FVec Ideal S8192x128 .f32 := m ((c : Thread nD τ).loc main_arg3)
/-- The input projection. -/
abbrev xw : FVec Ideal S1024x1536 .bf16 := m ((c : Thread nD τ).loc main_arg4)
/-- The rows before the norm. -/
abbrev xx : FVec Ideal S8192x1024 .f32 := m ((c : Thread nD τ).loc main_arg5)
/-- The gains. -/
abbrev xg : FVec Ideal S1x1024 .f32 := m ((c : Thread nD τ).loc main_arg6)
/-- The residual's gradient. -/
abbrev xy : FVec Ideal S8192x1024 .f32 := m ((c : Thread nD τ).loc main_arg7)

theorem idx : ∀ t : Fin cfg0.N, (win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0])
    ∧ win0_7.index t = ![0, 0] ∧ win0_8.index t = ![t.val, 0] ∧ win0_9.index t = ![0, 0] ∧ win0_10.index t = ![t.val, 0]
    ∧ win0_11.index t = ![t.val, 0] ∧ win0_12.index t = ![0, 0] :=
  (by decide +kernel : ∀ t : Fin grid0.N, _)

theorem lt_points (t : Fin cfg0.N) : t.val < 16 := lt_of_lt_of_eq t.isLt (show cfg0.N = 16 from N_0)

/-- The row of the arrays that row `r` of a point's block is. -/
def rowOf (t : Fin cfg0.N) (r : Fin 512) : Fin 8192 := ⟨512 * t.val + r, by have := lt_points t; omega⟩

theorem iblk0 (t : Fin cfg0.N) (r : Fin 512) (q : Fin 1024) : (iblk m c 0 t) (ix2 r q) = x0 m c (ix2 (rowOf t r) q) := by
  rw [show (iblk m c 0 t) (ix2 r q) = (V m c main_arg0) (ix2 (rowOf t r) q) by blk_point [iblk, idx t, rowOf], V_main_arg0]

theorem iblk1 (t : Fin cfg0.N) (r : Fin 512) (q : Fin 256) : (iblk m c 1 t) (ix2 r q) = x1 m c (ix2 (rowOf t r) q) := by
  rw [show (iblk m c 1 t) (ix2 r q) = (V m c main_arg1) (ix2 (rowOf t r) q) by blk_point [iblk, idx t, rowOf], V_main_arg1]

theorem iblk2 (t : Fin cfg0.N) (r : Fin 512) (q : Fin 128) : (iblk m c 2 t) (ix2 r q) = x2 m c (ix2 (rowOf t r) q) := by
  rw [show (iblk m c 2 t) (ix2 r q) = (V m c main_arg2) (ix2 (rowOf t r) q) by blk_point [iblk, idx t, rowOf], V_main_arg2]

theorem iblk3 (t : Fin cfg0.N) (r : Fin 512) (q : Fin 128) : (iblk m c 3 t) (ix2 r q) = x3 m c (ix2 (rowOf t r) q) := by
  rw [show (iblk m c 3 t) (ix2 r q) = (V m c main_arg3) (ix2 (rowOf t r) q) by blk_point [iblk, idx t, rowOf], V_main_arg3]

theorem iblk4 (t : Fin cfg0.N) (d q : Fin 1024) : (iblk m c 4 t) (ix2 d q) = colsFrom 0 (by omega) (xw m c) (ix2 d q) := by
  rw [show (iblk m c 4 t) (ix2 d q) = (V m c main_v0) (ix2 d q) by blk_point [iblk, idx t]]
  unfold V hostOps0
  after_reads_simp
  pointwise [colsFrom]

theorem iblk5 (t : Fin cfg0.N) (d : Fin 1024) (q : Fin 256) :
    (iblk m c 5 t) (ix2 d q) = colsFrom 1024 (by omega) (xw m c) (ix2 d q) := by
  rw [show (iblk m c 5 t) (ix2 d q) = (V m c main_v1) (ix2 d q) by blk_point [iblk, idx t]]
  unfold V hostOps0
  after_reads_simp
  pointwise [colsFrom]

theorem iblk6 (t : Fin cfg0.N) (d : Fin 1024) (q : Fin 128) :
    (iblk m c 6 t) (ix2 d q) = colsFrom 1280 (by omega) (xw m c) (ix2 d q) := by
  rw [show (iblk m c 6 t) (ix2 d q) = (V m c main_v2) (ix2 d q) by blk_point [iblk, idx t]]
  unfold V hostOps0
  after_reads_simp
  pointwise [colsFrom]

theorem iblk7 (t : Fin cfg0.N) (d : Fin 1024) (q : Fin 128) :
    (iblk m c 7 t) (ix2 d q) = colsFrom 1408 (by omega) (xw m c) (ix2 d q) := by
  rw [show (iblk m c 7 t) (ix2 d q) = (V m c main_v3) (ix2 d q) by blk_point [iblk, idx t]]
  unfold V hostOps0
  after_reads_simp
  pointwise [colsFrom]

theorem iblk8 (t : Fin cfg0.N) (r : Fin 512) : rowAt (iblk m c 8 t) r = rowAt (xx m c) (rowOf t r) := by
  funext d
  show (iblk m c 8 t) (ix2 r d) = _
  rw [show (iblk m c 8 t) (ix2 r d) = (V m c main_arg5) (ix2 (rowOf t r) d) by blk_point [iblk, idx t, rowOf], V_main_arg5]
  rfl

theorem iblk9 (t : Fin cfg0.N) (d : Fin 1024) : (iblk m c 9 t) (ix2 0 d) = xg m c (ix2 0 d) := by
  rw [show (iblk m c 9 t) (ix2 0 d) = (V m c main_arg6) (ix2 0 d) by blk_point [iblk, idx t], V_main_arg6]

theorem iblk10 (t : Fin cfg0.N) (r : Fin 512) (d : Fin 1024) : (iblk m c 10 t) (ix2 r d) = xy m c (ix2 (rowOf t r) d) := by
  rw [show (iblk m c 10 t) (ix2 r d) = (V m c main_arg7) (ix2 (rowOf t r) d) by blk_point [iblk, idx t, rowOf], V_main_arg7]

/-- The gradient of the normalised rows. -/
def dn (R : Fin 8192) (d : Fin 1024) : EReal := inNormOf (x0 m c) (x1 m c) (x2 m c) (x3 m c) (xw m c) R d

/-- A point's blocks give the gradients of its rows. -/
theorem dn_blk (t : Fin cfg0.N) (r : Fin 512) (d : Fin 1024) :
    inNorm (iblk m c 0 t) (iblk m c 1 t) (iblk m c 2 t) (iblk m c 3 t) (iblk m c 4 t) (iblk m c 5 t) (iblk m c 6 t) (iblk m c 7 t) r d
      = dn m c (rowOf t r) d :=
  congrArg₂ (· + ·) (congrArg₂ (· + ·) (congrArg₂ (· + ·)
    (Finset.sum_congr rfl fun q _ => congrArg₂ (· * ·) (iblk0 m c t r q) (iblk4 m c t d q))
    (Finset.sum_congr rfl fun q _ => congrArg₂ (· * ·) (iblk1 m c t r q) (iblk5 m c t d q)))
    (Finset.sum_congr rfl fun q _ => congrArg₂ (· * ·) (iblk2 m c t r q) (iblk6 m c t d q)))
    (Finset.sum_congr rfl fun q _ => congrArg₂ (· * ·) (iblk3 m c t r q) (iblk7 m c t d q))

/-- The gradient of an entry of the rows. -/
def dx (R : Fin 8192) (d : Fin 1024) : EReal := normRow (dn m c) (xx m c) (xg m c) (xy m c) R d

/-- A row's part of the gradient of the gains. -/
def dg (R : Fin 8192) (d : Fin 1024) : EReal := normGain (dn m c) (xx m c) R d

theorem dx_blk (t : Fin cfg0.N) (r : Fin 512) (d : Fin 1024) :
    normRow (inNorm (iblk m c 0 t) (iblk m c 1 t) (iblk m c 2 t) (iblk m c 3 t) (iblk m c 4 t) (iblk m c 5 t) (iblk m c 6 t) (iblk m c 7 t))
      (iblk m c 8 t) (iblk m c 9 t) (iblk m c 10 t) r d = dx m c (rowOf t r) d := by
  unfold dx normRow
  rw [iblk10, iblk8]
  simp only [dn_blk, iblk9]

theorem dg_blk (t : Fin cfg0.N) (r : Fin 512) (d : Fin 1024) :
    normGain (inNorm (iblk m c 0 t) (iblk m c 1 t) (iblk m c 2 t) (iblk m c 3 t) (iblk m c 4 t) (iblk m c 5 t) (iblk m c 6 t) (iblk m c 7 t))
      (iblk m c 8 t) r d = dg m c (rowOf t r) d := by
  unfold dg normGain
  rw [dn_blk, iblk8]

theorem step11 (t : Fin cfg0.N) (r : Fin 512) (d : Fin 1024) : (outsAt0 m c t.val t.isLt).1 (ix2 r d) = dx m c (rowOf t r) d := by
  rw [← dx_blk]
  by_cases h : t.val % 16 = 0
  · rw [outsAt0_A m c t h]; frame_out; exact dx_at _ _ _ _ _ _ _ _ _ _ _ _ _
  · rw [outsAt0_B m c t h]; frame_out; exact dx_at _ _ _ _ _ _ _ _ _ _ _ _ _

/-- A point's part of the gradient of the gains. -/
def part (t : Fin cfg0.N) (d : Fin 1024) : EReal := ∑ r : Fin 512, dg m c (rowOf t r) d

theorem part_eq (t : Fin cfg0.N) (s : FVec Ideal S1x1024 .f32) (d : Fin 1024) :
    k0_pay2 (F := Ideal) (k0_pay4 (iblk m c 0 t) (iblk m c 4 t) (iblk m c 1 t) (iblk m c 5 t) (iblk m c 2 t) (iblk m c 6 t) (iblk m c 3 t)
        (iblk m c 7 t)) (k0_pay6 (iblk m c 8 t)) s (ix2 0 d) = s (ix2 0 d) + part m c t d :=
  (gain_at _ _ _ _ _ _ _ _ _ s d).trans (congrArg (s (ix2 0 d) + ·) (Finset.sum_congr rfl fun r _ => dg_blk m c t r d))

theorem step12_first (t : Fin cfg0.N) (h : t.val % 16 = 0) (d : Fin 1024) :
    (outsAt0 m c t.val t.isLt).2 (ix2 0 d) = 0 + part m c t d := by
  rw [← zero_at d, ← part_eq, outsAt0_A m c t h]; frame_out

theorem step12_next (t : Fin cfg0.N) (h : ¬t.val % 16 = 0) (d : Fin 1024) :
    (outsAt0 m c t.val t.isLt).2 (ix2 0 d)
      = (outsAt0 m c (t.val - 1) (Nat.lt_of_le_of_lt (Nat.sub_le _ _) t.isLt)).2 (ix2 0 d) + part m c t d := by
  rw [← part_eq, outsAt0_B m c t h]; frame_out

/-- The gradient of the rows. -/
def A11 : FVec Ideal S8192x1024 .f32 := fun i => dx m c (i 0) (i 1)
/-- The gradient of the gains. -/
def A12 : FVec Ideal S1x1024 .f32 := fun i => ∑ R : Fin 8192, dg m c R (i 1)

/-- What the last point leaves of the gains' gradient. -/
theorem left12 (t : Fin cfg0.N) (ht : t.val % 16 = 15) (d : Fin 1024) :
    (outsAt0 m c t.val t.isLt).2 (ix2 0 d) = A12 m c (ix2 0 d) := by
  have hN := show cfg0.N = 16 from N_0
  refine (Pipeline.eq_sum_fin_of_reset_step_apply_last (fun n h (_ : Unit) => (outsAt0 m c n h).2 (ix2 0 d)) 16
    (fun _ => (0 : EReal)) (fun t _ => part m c t d) (fun t h _ => step12_first m c t h d)
    (fun t h _ => step12_next m c t h d) (le_of_eq N_0) t (by have := t.isLt; omega) ()).trans ?_
  rw [zero_add]
  refine (Fin.sum_points_lanes_congr (A := 1) (g := fun (_ : Fin 1) (R : Fin 8192) => dg m c R d) 16
    (fun t r ha hl => ?_) (show cfg0.N = 1 * 16 from N_0)).trans (Fin.sum_univ_one _)
  have hR : rowOf t r = ⟨t.val % 16 * 512 + r.val, hl⟩ := Fin.ext (by have := lt_points t; simp only [rowOf]; omega)
  rw [hR]

theorem arr11 : (dats m 0 c).arrAt 11 cfg0.N = A11 m c := by
  refine (dats m 0 c).arrAt_eq_of_covers 11 _ (by decide +kernel) fun t hf y => ?_
  blk_simp
  rw [after0_11]
  obtain ⟨r, d, rfl⟩ : ∃ (r : Fin 512) (d : Fin 1024), y = ix2 r d := ⟨y 0, y 1, eq_ix2 y⟩
  refine (step11 m c t r d).trans (congrArg (A11 m c) (a₁ := ix2 (rowOf t r) d) ?_)
  blk_ext [idx t, rowOf]

theorem arr12 : (dats m 0 c).arrAt 12 cfg0.N = A12 m c := by
  refine (dats m 0 c).arrAt_eq_of_covers 12 _ (by decide +kernel) fun t hf y => ?_
  blk_simp
  rw [after0_12]
  obtain ⟨i, d, rfl⟩ : ∃ (i : Fin 1) (d : Fin 1024), y = ix2 i d := ⟨y 0, y 1, eq_ix2 y⟩
  obtain rfl : i = 0 := Subsingleton.elim _ _
  exact (left12 m c t ((flush0_12 t).mp hf) d).trans (congrArg (A12 m c) (a₁ := ix2 0 d) (by blk_ext [idx t]))

end Cert.InBwdIdeal.Block

namespace Cert.Grad

open Idealize.ShloMosaic Idealize.ShloMosaic.TcCoe Idealize.SL.Sem
open Cert.InGradIdeal Cert.InGradIdeal.Read
open scoped BigOperators

section Stages

variable (x0 : FVec Ideal S8192x1024 .bf16) (x1 : FVec Ideal S8192x256 .bf16) (x2 : FVec Ideal S8192x128 .bf16)
  (x3 : FVec Ideal S8192x128 .f32) (x4 : FVec Ideal S1024x1536 .bf16) (x5 : FVec Ideal S8192x1024 .f32)
  (x6 : FVec Ideal S1x1024 .f32) (x7 : FVec Ideal S8192x1024 .f32)

/-! The joined gradient's columns are the pieces'. -/

theorem ig3_0 (r : Fin 8192) (q : Fin 1024) : val_main_v3 (F := Ideal) x0 x1 x2 x3 (ix2 r ⟨q.val, by omega⟩) = x0 (ix2 r q) := by
  pointwise [val_main_v3, val_main_v0]

theorem ig3_1 (r : Fin 8192) (q : Fin 256) : val_main_v3 (F := Ideal) x0 x1 x2 x3 (ix2 r ⟨1024 + q.val, by omega⟩) = x1 (ix2 r q) := by
  pointwise [val_main_v3, val_main_v1]

theorem ig3_2 (r : Fin 8192) (q : Fin 128) : val_main_v3 (F := Ideal) x0 x1 x2 x3 (ix2 r ⟨1280 + q.val, by omega⟩) = x2 (ix2 r q) := by
  pointwise [val_main_v3, val_main_v2]
  rw [dif_neg (by omega), dif_neg (by omega), dif_pos (by omega)]
  exact congrArg x2 (congrArg (ix2 r) (Fin.ext (show 1280 + q.val - 1024 - 256 = q.val by omega)))

theorem ig3_3 (r : Fin 8192) (q : Fin 128) : val_main_v3 (F := Ideal) x0 x1 x2 x3 (ix2 r ⟨1408 + q.val, by omega⟩) = x3 (ix2 r q) := by
  pointwise [val_main_v3]
  rw [dif_neg (by omega), dif_neg (by omega), dif_neg (by omega)]
  exact congrArg x3 (congrArg (ix2 r) (Fin.ext (show 1408 + q.val - 1024 - 256 - 128 = q.val by omega)))

/-- A column of the first group is the projection's. -/
theorem colsFrom_zero (w : Mat 1024 1536) (d q : Fin 1024) :
    colsFrom 0 (by omega) w (ix2 d q) = w (ix2 d ⟨q.val, by omega⟩) :=
  congrArg w (congrArg (ix2 d) (Fin.ext (Nat.zero_add _)))

theorem ig21_at (r : Fin 8192) (d : Fin 1024) : val_main_v21 (F := Ideal) x0 x1 x2 x3 x4 (ix2 r d) = inNormOf x0 x1 x2 x3 x4 r d := by
  have h : val_main_v21 (F := Ideal) x0 x1 x2 x3 x4 (ix2 r d)
      = ∑ q : Fin 1536, val_main_v3 (F := Ideal) x0 x1 x2 x3 (ix2 r q) * x4 (ix2 d q) := by
    pointwise [val_main_v21, val_main_v19]
  rw [h, Fin.sum_univ_add (a := 1408) (b := 128), Fin.sum_univ_add (a := 1280) (b := 128), Fin.sum_univ_add (a := 1024) (b := 256)]
  refine congrArg₂ (· + ·) (congrArg₂ (· + ·) (congrArg₂ (· + ·) (Finset.sum_congr rfl fun q _ => ?_) (Finset.sum_congr rfl fun q _ => ?_))
    (Finset.sum_congr rfl fun q _ => ?_)) (Finset.sum_congr rfl fun q _ => ?_)
  · exact congrArg₂ (· * ·) (ig3_0 x0 x1 x2 x3 r q) (colsFrom_zero x4 d q).symm
  · exact congrArg (· * _) (ig3_1 x0 x1 x2 x3 r q)
  · exact congrArg (· * _) (ig3_2 x0 x1 x2 x3 r q)
  · exact congrArg (· * _) (ig3_3 x0 x1 x2 x3 r q)

theorem ig10_at (r : Fin 8192) :
    val_main_v10 (F := Ideal) x5 (ix2 r 0) = Ideal.div (∑ d, rowAt x5 r d * rowAt x5 r d) cModel + cEps := by
  pointwise [val_main_v10, val_main_v9, val_main_v8, val_main_v7, val_main_v6, val_main_v5, val_main_v4, val_main_cst,
    val_main_cst_0, val_main_cst_1]
  rfl

theorem ig11_at (r : Fin 8192) : val_main_v11 (F := Ideal) x5 (ix2 r 0) = rstd cModel cEps (rowAt x5 r) := by
  unfold rstd
  pointwise [val_main_v11, ig10_at]

theorem ig24_at (d : Fin 1024) :
    val_main_v24 (F := Ideal) x0 x1 x2 x3 x4 x5 (ix2 0 d) = ∑ R, normGain (inNormOf x0 x1 x2 x3 x4) x5 R d := by
  unfold normGain hat
  pointwise [val_main_v24, val_main_v23, val_main_v22, val_main_v16, val_main_v15, val_main_cst_3, ig21_at, ig11_at]
  exact Finset.sum_congr rfl fun R _ => mul_comm _ _

theorem ig26_at (r : Fin 8192) (d : Fin 1024) :
    val_main_v26 (F := Ideal) x0 x1 x2 x3 x4 x6 (ix2 r d) = inNormOf x0 x1 x2 x3 x4 r d * x6 (ix2 0 d) := by
  pointwise [val_main_v26, val_main_v25, ig21_at]

theorem ig37_at (r : Fin 8192) (d : Fin 1024) :
    val_main_v37 (F := Ideal) x0 x1 x2 x3 x4 x5 x6 (ix2 r d) = chainFactor cModel cEps (Ideal.ofBits .f32 0xBF000000#32) (rowAt x5 r)
      (fun k => inNormOf x0 x1 x2 x3 x4 r k * x6 (ix2 0 k)) := by
  unfold chainFactor
  pointwise [val_main_v37, val_main_v36, val_main_v35, val_main_v34, val_main_v33, val_main_v29, val_main_v28, val_main_v27,
    val_main_v14, val_main_v13, val_main_v12, val_main_cst_2, val_main_cst_4, val_main_cst_5, val_main_cst_6, ig26_at, ig11_at, ig10_at]
  rw [Fin.sum_univ_one, ig11_at, ig10_at]
  rfl

theorem ig41_at (r : Fin 8192) (d : Fin 1024) :
    val_main_v41 (F := Ideal) x0 x1 x2 x3 x4 x5 x6 x7 (ix2 r d) = normRow (inNormOf x0 x1 x2 x3 x4) x5 x6 x7 r d := by
  unfold normRow
  rw [← normBwd_model]
  pointwise [val_main_v41, val_main_v40, val_main_v39, val_main_v38, val_main_v32, val_main_v31, val_main_v30, ig37_at, ig26_at, ig11_at]
  simp only [add_assoc]
  rfl

end Stages

/-- The claim on the gradient through the input projection and its norm. -/
theorem algebraic_in : Cert.algebraic_InBwdIdeal_InGradIdeal := by
  intro m g m' g' hpre hargs
  refine ⟨fun c => Cert.InBwdIdeal.Block.A11 m c, fun c => Cert.InBwdIdeal.Block.A12 m c, ?_, ?_⟩
  · refine (θ_run Cert.InBwdIdeal.defs _ _).mono (fun r h c => ?_) (Cert.InBwdIdeal.Value.run_blocks (F := Ideal) m g)
    exact ⟨(h c).1.trans (Cert.InBwdIdeal.Block.arr11 m c), (h c).2.1.trans (Cert.InBwdIdeal.Block.arr12 m c), (h c).2.2⟩
  · refine (θ_run Cert.InGradIdeal.defs _ _).mono (fun r h c => ?_) (Cert.InGradIdeal.Value.run (F := Ideal) m' g')
    obtain ⟨h0, h1, ha⟩ := h c
    obtain ⟨e0, e1, e2, e3, e4, e5, e6, e7⟩ := hargs c
    refine ⟨h0.trans ?_, h1.trans ?_, ha⟩
    · rw [Cert.InGradIdeal.Read.val_main_v41_eq, e0, e1, e2, e3, e4, e5, e6, e7]
      funext y
      obtain ⟨r, d, rfl⟩ : ∃ (r : Fin 8192) (d : Fin 1024), y = ix2 r d := ⟨y 0, y 1, eq_ix2 y⟩
      exact ig41_at _ _ _ _ _ _ _ _ r d
    · rw [Cert.InGradIdeal.Read.val_main_v24_eq, e0, e1, e2, e3, e4, e5]
      funext y
      obtain ⟨i, d, rfl⟩ : ∃ (i : Fin 1) (d : Fin 1024), y = ix2 i d := ⟨y 0, y 1, eq_ix2 y⟩
      obtain rfl : i = 0 := Subsingleton.elim _ _
      exact ig24_at _ _ _ _ _ _ d

/-- The reference ends with its arguments unchanged and, declaring no semaphore, with every counter at zero. -/
theorem frame_in : Cert.quiescent_InGradIdeal := fun m ρ _ =>
  (θ_run _ _ _).mono (fun r h => ⟨fun c => (h c).2.2, sem_eq_zero_of_no_sems (by decide) r.2⟩) (Cert.InGradIdeal.Value.run m ρ)

end Cert.Grad

end

end
-- ==== Proof.InProj.lean ====
/-
  The input projection with its norm: the rows normalised, and their product with the padded weights. The blocks, and the
  reference's stages before the product, are those of the memory attention's query projection, whose lemmas serve again.
-/
module

public import proofs.«01_k».proof.Proof.MemqProj
public import proofs.«01_k».proof.Proof.Gen.InProjIdeal.Value
public import proofs.«01_k».proof.Proof.Gen.InProductIdeal.Read
public import proofs.«01_k».proof.Proof.Gen.InProductIdeal.Run
public import proofs.«01_k».proof.Defs
public import Idealize.ShloMosaic.Lib.Pipeline.ValueKit

@[expose] public section

set_option maxRecDepth 16384

noncomputable section

namespace Cert.InProjIdeal.Block

open Idealize.ShloMosaic Idealize.ShloMosaic.TcCoe Idealize.SL.Sem
open Cert.InProjIdeal Cert.InProjIdeal.Gen Cert.InProjIdeal.Value Cert.Grad
open scoped BigOperators

/-- A block's product. -/
theorem product_at (h : FVec Ideal S512x1024 .bf16) (w : FVec Ideal S1024x1536 .bf16) (r : Fin 512) (d : Fin 1536) :
    k0_pay2 (F := Ideal) h w (ix2 r d) = mulNN h w r d := by
  pointwise [k0_pay2]
  rfl

variable (m : (ℓ : Loc nD τ sig) → Buf (Elt Ideal) ℓ) (c : Dev nD)

/-- The rows. -/
abbrev xx : FVec Ideal S8192x1024 .f32 := m ((c : Thread nD τ).loc main_arg0)
/-- The gains. -/
abbrev xg : FVec Ideal S1x1024 .f32 := m ((c : Thread nD τ).loc main_arg1)
/-- The projection. -/
abbrev xw : FVec Ideal S1024x1536 .bf16 := m ((c : Thread nD τ).loc main_arg2)

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem lt_points (t : Fin cfg0.N) : t.val < 16 := lt_of_lt_of_eq t.isLt (show cfg0.N = 16 from N_0)

/-- The row of the arrays that row `r` of a point's block is. -/
def rowOf (t : Fin cfg0.N) (r : Fin 512) : Fin 8192 := ⟨512 * t.val + r, by have := lt_points t; omega⟩

theorem iblk0 (t : Fin cfg0.N) (r : Fin 512) : rowAt (iblk m c 0 t) r = rowAt (xx m c) (rowOf t r) := by
  funext d
  show (iblk m c 0 t) (ix2 r d) = (m ((c : Thread nD τ).loc main_arg0)) (ix2 _ _)
  blk_point [iblk, V, idx t, rowOf]

theorem iblk1 (t : Fin cfg0.N) (d : Fin 1024) : (iblk m c 1 t) (ix2 0 d) = xg m c (ix2 0 d) := by
  show (iblk m c 1 t) (ix2 0 d) = (m ((c : Thread nD τ).loc main_arg1)) (ix2 _ _)
  blk_point [iblk, V, idx t]

theorem iblk2 (t : Fin cfg0.N) (q : Fin 1024) (d : Fin 1536) : (iblk m c 2 t) (ix2 q d) = xw m c (ix2 q d) := by
  show (iblk m c 2 t) (ix2 q d) = (m ((c : Thread nD τ).loc main_arg2)) (ix2 _ _)
  blk_point [iblk, V, idx t]

/-- A point's blocks give its rows, normalised. -/
theorem hat_blk (t : Fin cfg0.N) (r : Fin 512) (d : Fin 1024) :
    k0_pay1 (F := Ideal) (iblk m c 0 t) (iblk m c 1 t) (ix2 r d) = normed (xx m c) (xg m c) (ix2 (rowOf t r) d) :=
  (Cert.MemqProjIdeal.Block.hat_at _ _ r d).trans
    (congrArg₂ (· * ·) (congrArg (fun x => hat cModel cEps x d) (iblk0 m c t r)) (iblk1 m c t d))

/-- The product. -/
def A3 : FVec Ideal S8192x1536 .f32 := fun i => mulNN (normed (xx m c) (xg m c)) (xw m c) (i 0) (i 1)
/-- The normalised rows. -/
def A4 : FVec Ideal S8192x1024 .bf16 := normed (xx m c) (xg m c)

theorem arr3 : (dats m 0 c).arrAt 3 cfg0.N = A3 m c := by
  refine (dats m 0 c).arrAt_eq_of_covers 3 _ (by decide +kernel) fun t hf y => ?_
  blk_simp
  rw [after0_3]
  obtain ⟨r, d, rfl⟩ : ∃ (r : Fin 512) (d : Fin 1536), y = ix2 r d := ⟨y 0, y 1, eq_ix2 y⟩
  refine Eq.trans (b := A3 m c (ix2 (rowOf t r) d)) ?_ (congrArg (A3 m c) ?_)
  · unfold outsAt0
    frame_out
    exact (product_at _ _ r d).trans (Finset.sum_congr rfl fun q _ => congrArg₂ (· * ·) (hat_blk m c t r q) (iblk2 m c t q d))
  · blk_ext [idx t, rowOf]

theorem arr4 : (dats m 0 c).arrAt 4 cfg0.N = A4 m c := by
  refine (dats m 0 c).arrAt_eq_of_covers 4 _ (by decide +kernel) fun t hf y => ?_
  blk_simp
  rw [after0_4]
  obtain ⟨r, d, rfl⟩ : ∃ (r : Fin 512) (d : Fin 1024), y = ix2 r d := ⟨y 0, y 1, eq_ix2 y⟩
  refine Eq.trans (b := A4 m c (ix2 (rowOf t r) d)) ?_ (congrArg (A4 m c) ?_)
  · unfold outsAt0
    frame_out
    exact hat_blk m c t r d
  · blk_ext [idx t, rowOf]

end Cert.InProjIdeal.Block

namespace Cert.Grad

open Idealize.ShloMosaic Idealize.ShloMosaic.TcCoe Idealize.SL.Sem
open Cert.InProductIdeal Cert.InProductIdeal.Read

section Input

variable (x : FVec Ideal S8192x1024 .f32) (g : FVec Ideal S1x1024 .f32) (w : FVec Ideal S1024x1536 .bf16)

/-- The reference's product. -/
theorem input_at (r : Fin 8192) (d : Fin 1536) : val_main_v13 (F := Ideal) x g w (ix2 r d) = mulNN (normed x g) w r d := by
  have h : ∀ q : Fin 1024, val_main_v11 (F := Ideal) x g (ix2 r q) = normed x g (ix2 r q) := query_hat_at x g r
  unfold mulNN
  pointwise [val_main_v13, val_main_v12, h]

end Input

/-- The claim on the input projection. -/
theorem algebraic_input : Cert.algebraic_InProjIdeal_InProductIdeal := by
  intro m g m' g' hpre hargs
  refine ⟨fun c => Cert.InProjIdeal.Block.A3 m c, fun c => Cert.InProjIdeal.Block.A4 m c, ?_, ?_⟩
  · refine (θ_run Cert.InProjIdeal.defs _ _).mono (fun r h c => ?_) (Cert.InProjIdeal.Value.run_blocks (F := Ideal) m g)
    exact ⟨(h c).1.trans (Cert.InProjIdeal.Block.arr3 m c), (h c).2.1.trans (Cert.InProjIdeal.Block.arr4 m c), (h c).2.2⟩
  · refine (θ_run Cert.InProductIdeal.defs _ _).mono (fun r h c => ?_) (Cert.InProductIdeal.Value.run (F := Ideal) m' g')
    obtain ⟨h0, h1, ha⟩ := h c
    obtain ⟨e0, e1, e2⟩ := hargs c
    refine ⟨h0.trans ?_, h1.trans ?_, ha⟩
    · rw [val_main_v13_eq, e0, e1, e2]
      funext y
      obtain ⟨r, d, rfl⟩ : ∃ (r : Fin 8192) (d : Fin 1536), y = ix2 r d := ⟨y 0, y 1, eq_ix2 y⟩
      exact input_at _ _ _ r d
    · rw [val_main_v14_eq, e0, e1]
      funext y
      obtain ⟨r, d, rfl⟩ : ∃ (r : Fin 8192) (d : Fin 1024), y = ix2 r d := ⟨y 0, y 1, eq_ix2 y⟩
      exact query_rows_at _ _ r d

/-- The reference ends with its arguments unchanged and, declaring no semaphore, with every counter at zero. -/
theorem frame_input : Cert.quiescent_InProductIdeal := fun m ρ _ =>
  (θ_run _ _ _).mono (fun r h => ⟨fun c => (h c).2.2, sem_eq_zero_of_no_sems (by decide) r.2⟩) (Cert.InProductIdeal.Value.run m ρ)

end Cert.Grad

end

end
-- ==== Proof.OutProj.lean ====
/-
  The mix's output projection: the two branches' products with their groups of the weights' rows, added to the rows before
  it. The kernel's blocks, the array they make, and the reference's.
-/
module

public import proofs.«01_k».proof.Proof.Products
public import proofs.«01_k».proof.Proof.Gen.OutProjIdeal.Value
public import proofs.«01_k».proof.Proof.Gen.MixOutIdeal.Read
public import proofs.«01_k».proof.Proof.Gen.MixOutIdeal.Run
public import proofs.«01_k».proof.Defs
public import Idealize.ShloMosaic.Lib.Pipeline.ValueKit

@[expose] public section

set_option maxRecDepth 16384

noncomputable section

namespace Cert.OutProjIdeal.Block

open Idealize.ShloMosaic Idealize.ShloMosaic.TcCoe Idealize.SL.Sem
open Cert.OutProjIdeal Cert.OutProjIdeal.Gen Cert.OutProjIdeal.Value Cert.Grad
open scoped BigOperators

/-- A block's two products, added to its rows. -/
theorem pay_at (u : FVec Ideal S512x512 .bf16) (wu : FVec Ideal S512x1024 .bf16) (o : FVec Ideal S512x1024 .bf16)
    (wo : FVec Ideal S1024x1024 .bf16) (x : FVec Ideal S512x1024 .f32) (r : Fin 512) (d : Fin 1024) :
    k0_pay1 (F := Ideal) u wu o wo x (ix2 r d) = x (ix2 r d) + (mulNN u wu r d + mulNN o wo r d) := by
  pointwise [k0_pay1]
  rfl

variable (m : (ℓ : Loc nD τ sig) → Buf (Elt Ideal) ℓ) (c : Dev nD)

/-- The convolution branch. -/
abbrev xu : FVec Ideal S8192x512 .bf16 := m ((c : Thread nD τ).loc main_arg0)
/-- Its rows of the projection. -/
abbrev xwu : FVec Ideal S512x1024 .bf16 := m ((c : Thread nD τ).loc main_arg1)
/-- The attention branch. -/
abbrev xo : FVec Ideal S8192x1024 .bf16 := m ((c : Thread nD τ).loc main_arg2)
/-- Its rows of the projection. -/
abbrev xwo : FVec Ideal S1024x1024 .bf16 := m ((c : Thread nD τ).loc main_arg3)
/-- The rows they are added to. -/
abbrev xx : FVec Ideal S8192x1024 .f32 := m ((c : Thread nD τ).loc main_arg4)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

theorem lt_points (t : Fin cfg0.N) : t.val < 16 := lt_of_lt_of_eq t.isLt (show cfg0.N = 16 from N_0)

/-- The row of the arrays that row `r` of a point's block is. -/
def rowOf (t : Fin cfg0.N) (r : Fin 512) : Fin 8192 := ⟨512 * t.val + r, by have := lt_points t; omega⟩

theorem iblk0 (t : Fin cfg0.N) (r q : Fin 512) : (iblk m c 0 t) (ix2 r q) = xu m c (ix2 (rowOf t r) q) := by
  show (iblk m c 0 t) (ix2 r q) = (m ((c : Thread nD τ).loc main_arg0)) (ix2 _ _)
  blk_point [iblk, V, idx t, rowOf]

theorem iblk1 (t : Fin cfg0.N) (r : Fin 512) (q : Fin 1024) : (iblk m c 1 t) (ix2 r q) = xo m c (ix2 (rowOf t r) q) := by
  show (iblk m c 1 t) (ix2 r q) = (m ((c : Thread nD τ).loc main_arg2)) (ix2 _ _)
  blk_point [iblk, V, idx t, rowOf]

theorem iblk2 (t : Fin cfg0.N) (q : Fin 512) (d : Fin 1024) : (iblk m c 2 t) (ix2 q d) = xwu m c (ix2 q d) := by
  show (iblk m c 2 t) (ix2 q d) = (m ((c : Thread nD τ).loc main_arg1)) (ix2 _ _)
  blk_point [iblk, V, idx t]

theorem iblk3 (t : Fin cfg0.N) (q d : Fin 1024) : (iblk m c 3 t) (ix2 q d) = xwo m c (ix2 q d) := by
  show (iblk m c 3 t) (ix2 q d) = (m ((c : Thread nD τ).loc main_arg3)) (ix2 _ _)
  blk_point [iblk, V, idx t]

theorem iblk4 (t : Fin cfg0.N) (r : Fin 512) (d : Fin 1024) : (iblk m c 4 t) (ix2 r d) = xx m c (ix2 (rowOf t r) d) := by
  show (iblk m c 4 t) (ix2 r d) = (m ((c : Thread nD τ).loc main_arg4)) (ix2 _ _)
  blk_point [iblk, V, idx t, rowOf]

/-- The array the kernel leaves. -/
def A5 : FVec Ideal S8192x1024 .f32 := fun i =>
  xx m c (ix2 (i 0) (i 1)) + (mulNN (xu m c) (xwu m c) (i 0) (i 1) + mulNN (xo m c) (xwo m c) (i 0) (i 1))

/-- A point's blocks give the sums of its rows. -/
theorem sum_blk (t : Fin cfg0.N) (r : Fin 512) (d : Fin 1024) :
    k0_pay1 (F := Ideal) (iblk m c 0 t) (iblk m c 2 t) (iblk m c 1 t) (iblk m c 3 t) (iblk m c 4 t) (ix2 r d)
      = A5 m c (ix2 (rowOf t r) d) :=
  (pay_at _ _ _ _ _ r d).trans (congrArg₂ (· + ·) (iblk4 m c t r d) (congrArg₂ (· + ·)
    (Finset.sum_congr rfl fun q _ => congrArg₂ (· * ·) (iblk0 m c t r q) (iblk2 m c t q d))
    (Finset.sum_congr rfl fun q _ => congrArg₂ (· * ·) (iblk1 m c t r q) (iblk3 m c t q d))))

theorem arr5 : (dats m 0 c).arrAt 5 cfg0.N = A5 m c := by
  refine (dats m 0 c).arrAt_eq_of_covers 5 _ (by decide +kernel) fun t hf y => ?_
  blk_simp
  rw [after0_5]
  obtain ⟨r, d, rfl⟩ : ∃ (r : Fin 512) (d : Fin 1024), y = ix2 r d := ⟨y 0, y 1, eq_ix2 y⟩
  refine Eq.trans (b := A5 m c (ix2 (rowOf t r) d)) ?_ (congrArg (A5 m c) ?_)
  · frame_out
    exact sum_blk m c t r d
  · blk_ext [idx t, rowOf]

end Cert.OutProjIdeal.Block

namespace Cert.Grad

open Idealize.ShloMosaic Idealize.ShloMosaic.TcCoe Idealize.SL.Sem
open Cert.MixOutIdeal Cert.MixOutIdeal.Read

/-- The claim on the mix's output projection. -/
theorem algebraic_out : Cert.algebraic_OutProjIdeal_MixOutIdeal := by
  intro m g m' g' hpre hargs
  refine ⟨fun c => Cert.OutProjIdeal.Block.A5 m c, ?_, ?_⟩
  · refine (θ_run Cert.OutProjIdeal.defs _ _).mono (fun r h c => ?_) (Cert.OutProjIdeal.Value.run_blocks (F := Ideal) m g)
    exact ⟨(h c).1.trans (Cert.OutProjIdeal.Block.arr5 m c), (h c).2⟩
  · refine (θ_run Cert.MixOutIdeal.defs _ _).mono (fun r h c => ?_) (Cert.MixOutIdeal.Value.run (F := Ideal) m' g')
    obtain ⟨h0, ha⟩ := h c
    obtain ⟨e0, e1, e2, e3, e4⟩ := hargs c
    refine ⟨h0.trans ?_, ha⟩
    rw [val_main_v7_eq, e0, e1, e2, e3, e4]
    funext y
    obtain ⟨r, d, rfl⟩ : ∃ (r : Fin 8192) (d : Fin 1024), y = ix2 r d := ⟨y 0, y 1, eq_ix2 y⟩
    pointwise [val_main_v7, val_main_v6, val_main_v5, val_main_v4, val_main_v3, val_main_v2, val_main_v1, val_main_v0]
    rfl

/-- The reference ends with its arguments unchanged and, declaring no semaphore, with every counter at zero. -/
theorem frame_out : Cert.quiescent_MixOutIdeal := fun m ρ _ =>
  (θ_run _ _ _).mono (fun r h => ⟨fun c => (h c).2, sem_eq_zero_of_no_sems (by decide) r.2⟩) (Cert.MixOutIdeal.Value.run m ρ)

end Cert.Grad

end

end
-- ==== Proof.Adam.lean ====
/-
  The optimiser's steps for the sharded weights. A step's kernel works entry by entry, and its three arrays are read off as
  entrywise formulas; the reference's are the same formulas of the same arguments, at the same grouping.
-/
module

public import proofs.«01_k».proof.Proof.Gen.AdamUqIdeal.Value
public import proofs.«01_k».proof.Proof.Gen.AdamUqStepIdeal.Run
public import proofs.«01_k».proof.Proof.Gen.AdamUkvIdeal.Value
public import proofs.«01_k».proof.Proof.Gen.AdamUkvStepIdeal.Run
public import proofs.«01_k».proof.Proof.Gen.AdamInIdeal.Value
public import proofs.«01_k».proof.Proof.Gen.AdamInStepIdeal.Run
public import proofs.«01_k».proof.Proof.Gen.AdamSquareIdeal.Value
public import proofs.«01_k».proof.Proof.Gen.AdamSquareStepIdeal.Run
public import proofs.«01_k».proof.Proof.Gen.AdamMemKvIdeal.Value
public import proofs.«01_k».proof.Proof.Gen.AdamMemKvStepIdeal.Run
public import proofs.«01_k».proof.Proof.Gen.AdamUpIdeal.Value
public import proofs.«01_k».proof.Proof.Gen.AdamUpStepIdeal.Run
public import proofs.«01_k».proof.Proof.Gen.AdamDownIdeal.Value
public import proofs.«01_k».proof.Proof.Gen.AdamDownStepIdeal.Run
public import proofs.«01_k».proof.Defs

@[expose] public section

set_option maxRecDepth 16384

noncomputable section

namespace Cert.Grad

open Idealize.ShloMosaic Idealize.ShloMosaic.TcCoe Idealize.SL.Sem

/-- A step's three results, of a weight, its gradient and its two moments, at equal arguments. -/
theorem step_at {α : Type} (change : α → α → α → α → α) (newM newV : α → α → α) {w g m v w' g' m' v' a b d : α} {P : Prop}
    (e : w' = w ∧ g' = g ∧ m' = m ∧ v' = v) (h : a = change w' g' m' v' ∧ b = newM g' m' ∧ d = newV g' v' ∧ P) :
    a = change w g m v ∧ b = newM g m ∧ d = newV g v ∧ P := by
  obtain ⟨rfl, rfl, rfl, rfl⟩ := e
  exact h

/-! ## The latents' expansions -/

theorem algebraic_adam_uq : Cert.algebraic_AdamUqIdeal_AdamUqStepIdeal := fun m g m' g' _ hargs =>
  ⟨_, _, _, Cert.AdamUqIdeal.Value.run m g,
    (θ_run _ _ _).mono (fun _ h c => step_at _ Cert.AdamUqIdeal.Value.G5 Cert.AdamUqIdeal.Value.G6 (hargs c) (h c))
      (Cert.AdamUqStepIdeal.Value.run m' g')⟩

theorem algebraic_adam_ukv : Cert.algebraic_AdamUkvIdeal_AdamUkvStepIdeal := fun m g m' g' _ hargs =>
  ⟨_, _, _, Cert.AdamUkvIdeal.Value.run m g,
    (θ_run _ _ _).mono (fun _ h c => step_at _ Cert.AdamUkvIdeal.Value.G5 Cert.AdamUkvIdeal.Value.G6 (hargs c) (h c))
      (Cert.AdamUkvStepIdeal.Value.run m' g')⟩

theorem frame_adam_uq : Cert.quiescent_AdamUqStepIdeal := fun m ρ _ =>
  (θ_run _ _ _).mono (fun r h => ⟨fun c => (h c).2.2.2, sem_eq_zero_of_no_sems (by decide) r.2⟩) (Cert.AdamUqStepIdeal.Value.run m ρ)

theorem frame_adam_ukv : Cert.quiescent_AdamUkvStepIdeal := fun m ρ _ =>
  (θ_run _ _ _).mono (fun r h => ⟨fun c => (h c).2.2.2, sem_eq_zero_of_no_sems (by decide) r.2⟩) (Cert.AdamUkvStepIdeal.Value.run m ρ)

/-! ## The input projection and the square weights -/

theorem algebraic_adam_in : Cert.algebraic_AdamInIdeal_AdamInStepIdeal := fun m g m' g' _ hargs =>
  ⟨_, _, _, Cert.AdamInIdeal.Value.run m g,
    (θ_run _ _ _).mono (fun _ h c => step_at _ Cert.AdamInIdeal.Value.G5 Cert.AdamInIdeal.Value.G6 (hargs c) (h c))
      (Cert.AdamInStepIdeal.Value.run m' g')⟩

theorem algebraic_adam_square : Cert.algebraic_AdamSquareIdeal_AdamSquareStepIdeal := fun m g m' g' _ hargs =>
  ⟨_, _, _, Cert.AdamSquareIdeal.Value.run m g,
    (θ_run _ _ _).mono (fun _ h c => step_at _ Cert.AdamSquareIdeal.Value.G5 Cert.AdamSquareIdeal.Value.G6 (hargs c) (h c))
      (Cert.AdamSquareStepIdeal.Value.run m' g')⟩

theorem frame_adam_in : Cert.quiescent_AdamInStepIdeal := fun m ρ _ =>
  (θ_run _ _ _).mono (fun r h => ⟨fun c => (h c).2.2.2, sem_eq_zero_of_no_sems (by decide) r.2⟩) (Cert.AdamInStepIdeal.Value.run m ρ)

theorem frame_adam_square : Cert.quiescent_AdamSquareStepIdeal := fun m ρ _ =>
  (θ_run _ _ _).mono (fun r h => ⟨fun c => (h c).2.2.2, sem_eq_zero_of_no_sems (by decide) r.2⟩) (Cert.AdamSquareStepIdeal.Value.run m ρ)

/-! ## The memory's key and value projection -/

theorem algebraic_adam_mem_kv : Cert.algebraic_AdamMemKvIdeal_AdamMemKvStepIdeal := fun m g m' g' _ hargs =>
  ⟨_, _, _, Cert.AdamMemKvIdeal.Value.run m g,
    (θ_run _ _ _).mono (fun _ h c => step_at _ Cert.AdamMemKvIdeal.Value.G5 Cert.AdamMemKvIdeal.Value.G6 (hargs c) (h c))
      (Cert.AdamMemKvStepIdeal.Value.run m' g')⟩

theorem frame_adam_mem_kv : Cert.quiescent_AdamMemKvStepIdeal := fun m ρ _ =>
  (θ_run _ _ _).mono (fun r h => ⟨fun c => (h c).2.2.2, sem_eq_zero_of_no_sems (by decide) r.2⟩) (Cert.AdamMemKvStepIdeal.Value.run m ρ)

/-! ## The feed-forward projections -/

theorem algebraic_adam_up : Cert.algebraic_AdamUpIdeal_AdamUpStepIdeal := fun m g m' g' _ hargs =>
  ⟨_, _, _, Cert.AdamUpIdeal.Value.run m g,
    (θ_run _ _ _).mono (fun _ h c => step_at _ Cert.AdamUpIdeal.Value.G5 Cert.AdamUpIdeal.Value.G6 (hargs c) (h c))
      (Cert.AdamUpStepIdeal.Value.run m' g')⟩

theorem algebraic_adam_down : Cert.algebraic_AdamDownIdeal_AdamDownStepIdeal := fun m g m' g' _ hargs =>
  ⟨_, _, _, Cert.AdamDownIdeal.Value.run m g,
    (θ_run _ _ _).mono (fun _ h c => step_at _ Cert.AdamDownIdeal.Value.G5 Cert.AdamDownIdeal.Value.G6 (hargs c) (h c))
      (Cert.AdamDownStepIdeal.Value.run m' g')⟩

theorem frame_adam_up : Cert.quiescent_AdamUpStepIdeal := fun m ρ _ =>
  (θ_run _ _ _).mono (fun r h => ⟨fun c => (h c).2.2.2, sem_eq_zero_of_no_sems (by decide) r.2⟩) (Cert.AdamUpStepIdeal.Value.run m ρ)

theorem frame_adam_down : Cert.quiescent_AdamDownStepIdeal := fun m ρ _ =>
  (θ_run _ _ _).mono (fun r h => ⟨fun c => (h c).2.2.2, sem_eq_zero_of_no_sems (by decide) r.2⟩) (Cert.AdamDownStepIdeal.Value.run m ρ)

end Cert.Grad

end

end
-- ==== Proof.DwMixer.lean ====
/-
  The gradients of the mixer's weights: of the output projection's rows that the convolution's result meets, and of the
  expansions of the query latent and of the key and value latent. Each is one block of four points.
-/
module

public import proofs.«01_k».proof.Proof.DwRows
public import proofs.«01_k».proof.Proof.Gen.DwOutUIdeal.Value
public import proofs.«01_k».proof.Proof.Gen.OutUWeightGradIdeal.Read
public import proofs.«01_k».proof.Proof.Gen.OutUWeightGradIdeal.Run
public import proofs.«01_k».proof.Proof.Gen.DwUqIdeal.Value
public import proofs.«01_k».proof.Proof.Gen.UqWeightGradIdeal.Read
public import proofs.«01_k».proof.Proof.Gen.UqWeightGradIdeal.Run
public import proofs.«01_k».proof.Proof.Gen.DwUkvIdeal.Value
public import proofs.«01_k».proof.Proof.Gen.UkvWeightGradIdeal.Read
public import proofs.«01_k».proof.Proof.Gen.UkvWeightGradIdeal.Run
public import proofs.«01_k».proof.Defs

@[expose] public section

set_option maxRecDepth 16384

noncomputable section

/-! ## The convolution's rows of the output projection -/

namespace Cert.DwOutUIdeal.Block

open Idealize.ShloMosaic Idealize.ShloMosaic.TcCoe
open Cert.DwOutUIdeal Cert.DwOutUIdeal.Gen Cert.DwOutUIdeal.Value Cert.Grad

variable (m : (ℓ : Loc nD τ sig) → Buf (Elt Ideal) ℓ) (c : Dev nD)

theorem pay_at (acc : Mat 512 1024) (a : Mat 2048 512) (b : Mat 2048 1024) (r : Fin 512) (d : Fin 1024) :
    k0_pay2 (F := Ideal) acc a b (ix2 r d) = acc (ix2 r d) + mulTN a b r d := by
  pointwise [k0_pay2]
  rfl

theorem zero_at (r : Fin 512) (d : Fin 1024) : k0_pay1 (F := Ideal) (ix2 r d) = 0 := by
  pointwise [k0_pay1]

theorem idx : ∀ t : Fin cfg0.N, win0_0.index t = ![t.val % 4, 0] ∧ win0_1.index t = ![t.val % 4, 0] ∧ win0_2.index t = ![0, 0] :=
  (by decide +kernel : ∀ t : Fin grid0.N, _)

def A2 : FVec Ideal S512x1024 .f32 := fun i =>
  mulTN (m ((c : Thread nD τ).loc main_arg0)) (m ((c : Thread nD τ).loc main_arg1)) (i 0) (i 1)

theorem arr2 : (dats m 0 c).arrAt 2 cfg0.N = A2 m c := by
  refine (dats m 0 c).arrAt_eq_of_covers 2 _ (by decide +kernel) fun t hf y => ?_
  blk_simp
  rw [after0_2, eq_ix2 y]
  refine (rows_gathered (outsAt0 m c) (k0_pay1 (F := Ideal)) (k0_pay2 (F := Ideal)) (iblk m c 0) (iblk m c 1)
    (m ((c : Thread nD τ).loc main_arg0)) (m ((c : Thread nD τ).loc main_arg1)) (fun _ r => r) (fun _ d => d) zero_at pay_at
    (fun t q r => ?_) (fun t q d => ?_) (fun _ _ _ => rfl) (fun _ _ _ => rfl) (fun t h => ?_) (fun t h => ?_) t
    ((flush0_2 t).mp hf) (y 0) (y 1)).trans (congrArg (A2 m c) (a₁ := ix2 (y 0) (y 1)) (by blk_ext [idx t]))
  · blk_point [iblk, V, idx t, gatheredRow]
  · blk_point [iblk, V, idx t, gatheredRow]
  · rw [outsAt0_A m c t h]; frame_out
  · rw [outsAt0_B m c t h]; frame_out

end Cert.DwOutUIdeal.Block

namespace Cert.Grad

open Idealize.ShloMosaic Idealize.ShloMosaic.TcCoe Idealize.SL.Sem
open Cert.OutUWeightGradIdeal Cert.OutUWeightGradIdeal.Read

theorem out_u_weight_at (x0 : Mat 8192 512) (x1 : Mat 8192 1024) :
    val_main_v5 (F := Ideal) x0 x1 = fun i => mulTN x0 x1 (i 0) (i 1) := by
  funext y
  rw [eq_ix2 y]
  pointwise [val_main_v5, val_main_v4, val_main_v3, val_main_v1]
  exact Finset.sum_congr rfl fun q _ => mul_comm _ _

theorem algebraic_out_u_weight : Cert.algebraic_DwOutUIdeal_OutUWeightGradIdeal := fun m g m' g' _ hargs =>
  ⟨Cert.DwOutUIdeal.Block.A2 m,
    (θ_run _ _ _).mono (fun _ h c => ⟨(h c).1.trans (Cert.DwOutUIdeal.Block.arr2 m c), (h c).2⟩)
      (Cert.DwOutUIdeal.Value.run_blocks (F := Ideal) m g),
    (θ_run _ _ _).mono (fun _ h c => ⟨(h c).1.trans (by rw [val_main_v5_eq, (hargs c).1, (hargs c).2, out_u_weight_at]; rfl), (h c).2⟩)
      (Cert.OutUWeightGradIdeal.Value.run (F := Ideal) m' g')⟩

theorem frame_out_u_weight : Cert.quiescent_OutUWeightGradIdeal := fun m ρ _ =>
  (θ_run _ _ _).mono (fun r h => ⟨fun c => (h c).2, sem_eq_zero_of_no_sems (by decide) r.2⟩) (Cert.OutUWeightGradIdeal.Value.run m ρ)

end Cert.Grad

/-! ## The query latent's expansion -/

namespace Cert.DwUqIdeal.Block

open Idealize.ShloMosaic Idealize.ShloMosaic.TcCoe
open Cert.DwUqIdeal Cert.DwUqIdeal.Gen Cert.DwUqIdeal.Value Cert.Grad

variable (m : (ℓ : Loc nD τ sig) → Buf (Elt Ideal) ℓ) (c : Dev nD)

theorem pay_at (acc : Mat 256 1024) (a : Mat 2048 256) (b : Mat 2048 1024) (r : Fin 256) (d : Fin 1024) :
    k0_pay2 (F := Ideal) acc a b (ix2 r d) = acc (ix2 r d) + mulTN a b r d := by
  pointwise [k0_pay2]
  rfl

theorem zero_at (r : Fin 256) (d : Fin 1024) : k0_pay1 (F := Ideal) (ix2 r d) = 0 := by
  pointwise [k0_pay1]

theorem idx : ∀ t : Fin cfg0.N, win0_0.index t = ![t.val % 4, 0] ∧ win0_1.index t = ![t.val % 4, 0] ∧ win0_2.index t = ![0, 0] :=
  (by decide +kernel : ∀ t : Fin grid0.N, _)

def A2 : FVec Ideal S256x1024 .f32 := fun i =>
  mulTN (m ((c : Thread nD τ).loc main_arg0)) (m ((c : Thread nD τ).loc main_arg1)) (i 0) (i 1)

theorem arr2 : (dats m 0 c).arrAt 2 cfg0.N = A2 m c := by
  refine (dats m 0 c).arrAt_eq_of_covers 2 _ (by decide +kernel) fun t hf y => ?_
  blk_simp
  rw [after0_2, eq_ix2 y]
  refine (rows_gathered (outsAt0 m c) (k0_pay1 (F := Ideal)) (k0_pay2 (F := Ideal)) (iblk m c 0) (iblk m c 1)
    (m ((c : Thread nD τ).loc main_arg0)) (m ((c : Thread nD τ).loc main_arg1)) (fun _ r => r) (fun _ d => d) zero_at pay_at
    (fun t q r => ?_) (fun t q d => ?_) (fun _ _ _ => rfl) (fun _ _ _ => rfl) (fun t h => ?_) (fun t h => ?_) t
    ((flush0_2 t).mp hf) (y 0) (y 1)).trans (congrArg (A2 m c) (a₁ := ix2 (y 0) (y 1)) (by blk_ext [idx t]))
  · blk_point [iblk, V, idx t, gatheredRow]
  · blk_point [iblk, V, idx t, gatheredRow]
  · rw [outsAt0_A m c t h]; frame_out
  · rw [outsAt0_B m c t h]; frame_out

end Cert.DwUqIdeal.Block

namespace Cert.Grad

open Idealize.ShloMosaic Idealize.ShloMosaic.TcCoe Idealize.SL.Sem
open Cert.UqWeightGradIdeal Cert.UqWeightGradIdeal.Read

theorem uq_weight_at (x0 : Mat 8192 256) (x1 : Mat 8192 1024) :
    val_main_v5 (F := Ideal) x0 x1 = fun i => mulTN x0 x1 (i 0) (i 1) := by
  funext y
  rw [eq_ix2 y]
  pointwise [val_main_v5, val_main_v4, val_main_v3, val_main_v1]
  exact Finset.sum_congr rfl fun q _ => mul_comm _ _

theorem algebraic_uq_weight : Cert.algebraic_DwUqIdeal_UqWeightGradIdeal := fun m g m' g' _ hargs =>
  ⟨Cert.DwUqIdeal.Block.A2 m,
    (θ_run _ _ _).mono (fun _ h c => ⟨(h c).1.trans (Cert.DwUqIdeal.Block.arr2 m c), (h c).2⟩)
      (Cert.DwUqIdeal.Value.run_blocks (F := Ideal) m g),
    (θ_run _ _ _).mono (fun _ h c => ⟨(h c).1.trans (by rw [val_main_v5_eq, (hargs c).1, (hargs c).2, uq_weight_at]; rfl), (h c).2⟩)
      (Cert.UqWeightGradIdeal.Value.run (F := Ideal) m' g')⟩

theorem frame_uq_weight : Cert.quiescent_UqWeightGradIdeal := fun m ρ _ =>
  (θ_run _ _ _).mono (fun r h => ⟨fun c => (h c).2, sem_eq_zero_of_no_sems (by decide) r.2⟩) (Cert.UqWeightGradIdeal.Value.run m ρ)

end Cert.Grad

/-! ## The key and value latent's expansion -/

namespace Cert.DwUkvIdeal.Block

open Idealize.ShloMosaic Idealize.ShloMosaic.TcCoe
open Cert.DwUkvIdeal Cert.DwUkvIdeal.Gen Cert.DwUkvIdeal.Value Cert.Grad

variable (m : (ℓ : Loc nD τ sig) → Buf (Elt Ideal) ℓ) (c : Dev nD)

theorem pay_at (acc : Mat 128 1024) (a : Mat 2048 128) (b : Mat 2048 1024) (r : Fin 128) (d : Fin 1024) :
    k0_pay2 (F := Ideal) acc a b (ix2 r d) = acc (ix2 r d) + mulTN a b r d := by
  pointwise [k0_pay2]
  rfl

theorem zero_at (r : Fin 128) (d : Fin 1024) : k0_pay1 (F := Ideal) (ix2 r d) = 0 := by
  pointwise [k0_pay1]

theorem idx : ∀ t : Fin cfg0.N, win0_0.index t = ![t.val % 4, 0] ∧ win0_1.index t = ![t.val % 4, 0] ∧ win0_2.index t = ![0, 0] :=
  (by decide +kernel : ∀ t : Fin grid0.N, _)

def A2 : FVec Ideal S128x1024 .f32 := fun i =>
  mulTN (m ((c : Thread nD τ).loc main_arg0)) (m ((c : Thread nD τ).loc main_arg1)) (i 0) (i 1)

theorem arr2 : (dats m 0 c).arrAt 2 cfg0.N = A2 m c := by
  refine (dats m 0 c).arrAt_eq_of_covers 2 _ (by decide +kernel) fun t hf y => ?_
  blk_simp
  rw [after0_2, eq_ix2 y]
  refine (rows_gathered (outsAt0 m c) (k0_pay1 (F := Ideal)) (k0_pay2 (F := Ideal)) (iblk m c 0) (iblk m c 1)
    (m ((c : Thread nD τ).loc main_arg0)) (m ((c : Thread nD τ).loc main_arg1)) (fun _ r => r) (fun _ d => d) zero_at pay_at
    (fun t q r => ?_) (fun t q d => ?_) (fun _ _ _ => rfl) (fun _ _ _ => rfl) (fun t h => ?_) (fun t h => ?_) t
    ((flush0_2 t).mp hf) (y 0) (y 1)).trans (congrArg (A2 m c) (a₁ := ix2 (y 0) (y 1)) (by blk_ext [idx t]))
  · blk_point [iblk, V, idx t, gatheredRow]
  · blk_point [iblk, V, idx t, gatheredRow]
  · rw [outsAt0_A m c t h]; frame_out
  · rw [outsAt0_B m c t h]; frame_out

end Cert.DwUkvIdeal.Block

namespace Cert.Grad

open Idealize.ShloMosaic Idealize.ShloMosaic.TcCoe Idealize.SL.Sem
open Cert.UkvWeightGradIdeal Cert.UkvWeightGradIdeal.Read

theorem ukv_weight_at (x0 : Mat 8192 128) (x1 : Mat 8192 1024) :
    val_main_v5 (F := Ideal) x0 x1 = fun i => mulTN x0 x1 (i 0) (i 1) := by
  funext y
  rw [eq_ix2 y]
  pointwise [val_main_v5, val_main_v4, val_main_v3, val_main_v1]
  exact Finset.sum_congr rfl fun q _ => mul_comm _ _

theorem algebraic_ukv_weight : Cert.algebraic_DwUkvIdeal_UkvWeightGradIdeal := fun m g m' g' _ hargs =>
  ⟨Cert.DwUkvIdeal.Block.A2 m,
    (θ_run _ _ _).mono (fun _ h c => ⟨(h c).1.trans (Cert.DwUkvIdeal.Block.arr2 m c), (h c).2⟩)
      (Cert.DwUkvIdeal.Value.run_blocks (F := Ideal) m g),
    (θ_run _ _ _).mono (fun _ h c => ⟨(h c).1.trans (by rw [val_main_v5_eq, (hargs c).1, (hargs c).2, ukv_weight_at]; rfl), (h c).2⟩)
      (Cert.UkvWeightGradIdeal.Value.run (F := Ideal) m' g')⟩

theorem frame_ukv_weight : Cert.quiescent_UkvWeightGradIdeal := fun m ρ _ =>
  (θ_run _ _ _).mono (fun r h => ⟨fun c => (h c).2, sem_eq_zero_of_no_sems (by decide) r.2⟩) (Cert.UkvWeightGradIdeal.Value.run m ρ)

end Cert.Grad

end

end
-- ==== Proof.DwInput.lean ====
/-
  The gradients of the input projection's columns that make the query latent, the key and value latent and the rotary key.
  The query latent's is one block of four points, as are the other two.
-/
module

public import proofs.«01_k».proof.Proof.DwRows
public import proofs.«01_k».proof.Proof.Gen.DwInQueryIdeal.Value
public import proofs.«01_k».proof.Proof.Gen.InQueryWeightGradIdeal.Read
public import proofs.«01_k».proof.Proof.Gen.InQueryWeightGradIdeal.Run
public import proofs.«01_k».proof.Proof.Gen.DwInKvIdeal.Value
public import proofs.«01_k».proof.Proof.Gen.InKvWeightGradIdeal.Read
public import proofs.«01_k».proof.Proof.Gen.InKvWeightGradIdeal.Run
public import proofs.«01_k».proof.Proof.Gen.DwInRopeIdeal.Value
public import proofs.«01_k».proof.Proof.Gen.InRopeWeightGradIdeal.Read
public import proofs.«01_k».proof.Proof.Gen.InRopeWeightGradIdeal.Run
public import proofs.«01_k».proof.Defs

@[expose] public section

set_option maxRecDepth 16384

noncomputable section

/-! ## The query latent's columns -/

namespace Cert.DwInQueryIdeal.Block

open Idealize.ShloMosaic Idealize.ShloMosaic.TcCoe
open Cert.DwInQueryIdeal Cert.DwInQueryIdeal.Gen Cert.DwInQueryIdeal.Value Cert.Grad

variable (m : (ℓ : Loc nD τ sig) → Buf (Elt Ideal) ℓ) (c : Dev nD)

theorem pay_at (acc : Mat 1024 256) (a : Mat 2048 1024) (b : Mat 2048 256) (r : Fin 1024) (d : Fin 256) :
    k0_pay2 (F := Ideal) acc a b (ix2 r d) = acc (ix2 r d) + mulTN a b r d := by
  pointwise [k0_pay2]
  rfl

theorem zero_at (r : Fin 1024) (d : Fin 256) : k0_pay1 (F := Ideal) (ix2 r d) = 0 := by
  pointwise [k0_pay1]

theorem idx : ∀ t : Fin cfg0.N, win0_0.index t = ![t.val % 4, 0] ∧ win0_1.index t = ![t.val % 4, 0] ∧ win0_2.index t = ![0, 0] :=
  (by decide +kernel : ∀ t : Fin grid0.N, _)

def A2 : FVec Ideal S1024x256 .f32 := fun i =>
  mulTN (m ((c : Thread nD τ).loc main_arg0)) (m ((c : Thread nD τ).loc main_arg1)) (i 0) (i 1)

theorem arr2 : (dats m 0 c).arrAt 2 cfg0.N = A2 m c := by
  refine (dats m 0 c).arrAt_eq_of_covers 2 _ (by decide +kernel) fun t hf y => ?_
  blk_simp
  rw [after0_2, eq_ix2 y]
  refine (rows_gathered (outsAt0 m c) (k0_pay1 (F := Ideal)) (k0_pay2 (F := Ideal)) (iblk m c 0) (iblk m c 1)
    (m ((c : Thread nD τ).loc main_arg0)) (m ((c : Thread nD τ).loc main_arg1)) (fun _ r => r) (fun _ d => d) zero_at pay_at
    (fun t q r => ?_) (fun t q d => ?_) (fun _ _ _ => rfl) (fun _ _ _ => rfl) (fun t h => ?_) (fun t h => ?_) t
    ((flush0_2 t).mp hf) (y 0) (y 1)).trans (congrArg (A2 m c) (a₁ := ix2 (y 0) (y 1)) (by blk_ext [idx t]))
  · blk_point [iblk, V, idx t, gatheredRow]
  · blk_point [iblk, V, idx t, gatheredRow]
  · rw [outsAt0_A m c t h]; frame_out
  · rw [outsAt0_B m c t h]; frame_out

end Cert.DwInQueryIdeal.Block

namespace Cert.Grad

open Idealize.ShloMosaic Idealize.ShloMosaic.TcCoe Idealize.SL.Sem
open Cert.InQueryWeightGradIdeal Cert.InQueryWeightGradIdeal.Read

theorem in_query_weight_at (x0 : Mat 8192 1024) (x1 : Mat 8192 256) :
    val_main_v5 (F := Ideal) x0 x1 = fun i => mulTN x0 x1 (i 0) (i 1) := by
  funext y
  rw [eq_ix2 y]
  pointwise [val_main_v5, val_main_v4, val_main_v3, val_main_v1]
  exact Finset.sum_congr rfl fun q _ => mul_comm _ _

theorem algebraic_in_query_weight : Cert.algebraic_DwInQueryIdeal_InQueryWeightGradIdeal := fun m g m' g' _ hargs =>
  ⟨Cert.DwInQueryIdeal.Block.A2 m,
    (θ_run _ _ _).mono (fun _ h c => ⟨(h c).1.trans (Cert.DwInQueryIdeal.Block.arr2 m c), (h c).2⟩)
      (Cert.DwInQueryIdeal.Value.run_blocks (F := Ideal) m g),
    (θ_run _ _ _).mono (fun _ h c => ⟨(h c).1.trans (by rw [val_main_v5_eq, (hargs c).1, (hargs c).2, in_query_weight_at]; rfl), (h c).2⟩)
      (Cert.InQueryWeightGradIdeal.Value.run (F := Ideal) m' g')⟩

theorem frame_in_query_weight : Cert.quiescent_InQueryWeightGradIdeal := fun m ρ _ =>
  (θ_run _ _ _).mono (fun r h => ⟨fun c => (h c).2, sem_eq_zero_of_no_sems (by decide) r.2⟩) (Cert.InQueryWeightGradIdeal.Value.run m ρ)

end Cert.Grad

/-! ## The key and value latent's columns -/

namespace Cert.DwInKvIdeal.Block

open Idealize.ShloMosaic Idealize.ShloMosaic.TcCoe
open Cert.DwInKvIdeal Cert.DwInKvIdeal.Gen Cert.DwInKvIdeal.Value Cert.Grad

variable (m : (ℓ : Loc nD τ sig) → Buf (Elt Ideal) ℓ) (c : Dev nD)

theorem pay_at (acc : Mat 1024 128) (a : Mat 2048 1024) (b : Mat 2048 128) (r : Fin 1024) (d : Fin 128) :
    k0_pay2 (F := Ideal) acc a b (ix2 r d) = acc (ix2 r d) + mulTN a b r d := by
  pointwise [k0_pay2]
  rfl

theorem zero_at (r : Fin 1024) (d : Fin 128) : k0_pay1 (F := Ideal) (ix2 r d) = 0 := by
  pointwise [k0_pay1]

theorem idx : ∀ t : Fin cfg0.N, win0_0.index t = ![t.val % 4, 0] ∧ win0_1.index t = ![t.val % 4, 0] ∧ win0_2.index t = ![0, 0] :=
  (by decide +kernel : ∀ t : Fin grid0.N, _)

def A2 : FVec Ideal S1024x128 .f32 := fun i =>
  mulTN (m ((c : Thread nD τ).loc main_arg0)) (m ((c : Thread nD τ).loc main_arg1)) (i 0) (i 1)

theorem arr2 : (dats m 0 c).arrAt 2 cfg0.N = A2 m c := by
  refine (dats m 0 c).arrAt_eq_of_covers 2 _ (by decide +kernel) fun t hf y => ?_
  blk_simp
  rw [after0_2, eq_ix2 y]
  refine (rows_gathered (outsAt0 m c) (k0_pay1 (F := Ideal)) (k0_pay2 (F := Ideal)) (iblk m c 0) (iblk m c 1)
    (m ((c : Thread nD τ).loc main_arg0)) (m ((c : Thread nD τ).loc main_arg1)) (fun _ r => r) (fun _ d => d) zero_at pay_at
    (fun t q r => ?_) (fun t q d => ?_) (fun _ _ _ => rfl) (fun _ _ _ => rfl) (fun t h => ?_) (fun t h => ?_) t
    ((flush0_2 t).mp hf) (y 0) (y 1)).trans (congrArg (A2 m c) (a₁ := ix2 (y 0) (y 1)) (by blk_ext [idx t]))
  · blk_point [iblk, V, idx t, gatheredRow]
  · blk_point [iblk, V, idx t, gatheredRow]
  · rw [outsAt0_A m c t h]; frame_out
  · rw [outsAt0_B m c t h]; frame_out

end Cert.DwInKvIdeal.Block

namespace Cert.Grad

open Idealize.ShloMosaic Idealize.ShloMosaic.TcCoe Idealize.SL.Sem
open Cert.InKvWeightGradIdeal Cert.InKvWeightGradIdeal.Read

theorem in_kv_weight_at (x0 : Mat 8192 1024) (x1 : Mat 8192 128) :
    val_main_v5 (F := Ideal) x0 x1 = fun i => mulTN x0 x1 (i 0) (i 1) := by
  funext y
  rw [eq_ix2 y]
  pointwise [val_main_v5, val_main_v4, val_main_v3, val_main_v1]
  exact Finset.sum_congr rfl fun q _ => mul_comm _ _

theorem algebraic_in_kv_weight : Cert.algebraic_DwInKvIdeal_InKvWeightGradIdeal := fun m g m' g' _ hargs =>
  ⟨Cert.DwInKvIdeal.Block.A2 m,
    (θ_run _ _ _).mono (fun _ h c => ⟨(h c).1.trans (Cert.DwInKvIdeal.Block.arr2 m c), (h c).2⟩)
      (Cert.DwInKvIdeal.Value.run_blocks (F := Ideal) m g),
    (θ_run _ _ _).mono (fun _ h c => ⟨(h c).1.trans (by rw [val_main_v5_eq, (hargs c).1, (hargs c).2, in_kv_weight_at]; rfl), (h c).2⟩)
      (Cert.InKvWeightGradIdeal.Value.run (F := Ideal) m' g')⟩

theorem frame_in_kv_weight : Cert.quiescent_InKvWeightGradIdeal := fun m ρ _ =>
  (θ_run _ _ _).mono (fun r h => ⟨fun c => (h c).2, sem_eq_zero_of_no_sems (by decide) r.2⟩) (Cert.InKvWeightGradIdeal.Value.run m ρ)

end Cert.Grad

/-! ## The rotary key's columns -/

namespace Cert.DwInRopeIdeal.Block

open Idealize.ShloMosaic Idealize.ShloMosaic.TcCoe
open Cert.DwInRopeIdeal Cert.DwInRopeIdeal.Gen Cert.DwInRopeIdeal.Value Cert.Grad

variable (m : (ℓ : Loc nD τ sig) → Buf (Elt Ideal) ℓ) (c : Dev nD)

theorem pay_at (acc : Mat 1024 128) (a : Mat 2048 1024) (b : Mat 2048 128) (r : Fin 1024) (d : Fin 128) :
    k0_pay2 (F := Ideal) acc a b (ix2 r d) = acc (ix2 r d) + mulTN a b r d := by
  pointwise [k0_pay2]
  rfl

theorem zero_at (r : Fin 1024) (d : Fin 128) : k0_pay1 (F := Ideal) (ix2 r d) = 0 := by
  pointwise [k0_pay1]

theorem idx : ∀ t : Fin cfg0.N, win0_0.index t = ![t.val % 4, 0] ∧ win0_1.index t = ![t.val % 4, 0] ∧ win0_2.index t = ![0, 0] :=
  (by decide +kernel : ∀ t : Fin grid0.N, _)

def A2 : FVec Ideal S1024x128 .f32 := fun i =>
  mulTN (m ((c : Thread nD τ).loc main_arg0)) (m ((c : Thread nD τ).loc main_arg1)) (i 0) (i 1)

theorem arr2 : (dats m 0 c).arrAt 2 cfg0.N = A2 m c := by
  refine (dats m 0 c).arrAt_eq_of_covers 2 _ (by decide +kernel) fun t hf y => ?_
  blk_simp
  rw [after0_2, eq_ix2 y]
  refine (rows_gathered (outsAt0 m c) (k0_pay1 (F := Ideal)) (k0_pay2 (F := Ideal)) (iblk m c 0) (iblk m c 1)
    (m ((c : Thread nD τ).loc main_arg0)) (m ((c : Thread nD τ).loc main_arg1)) (fun _ r => r) (fun _ d => d) zero_at pay_at
    (fun t q r => ?_) (fun t q d => ?_) (fun _ _ _ => rfl) (fun _ _ _ => rfl) (fun t h => ?_) (fun t h => ?_) t
    ((flush0_2 t).mp hf) (y 0) (y 1)).trans (congrArg (A2 m c) (a₁ := ix2 (y 0) (y 1)) (by blk_ext [idx t]))
  · blk_point [iblk, V, idx t, gatheredRow]
  · blk_point [iblk, V, idx t, gatheredRow]
  · rw [outsAt0_A m c t h]; frame_out
  · rw [outsAt0_B m c t h]; frame_out

end Cert.DwInRopeIdeal.Block

namespace Cert.Grad

open Idealize.ShloMosaic Idealize.ShloMosaic.TcCoe Idealize.SL.Sem
open Cert.InRopeWeightGradIdeal Cert.InRopeWeightGradIdeal.Read

theorem in_rope_weight_at (x0 : Mat 8192 1024) (x1 : Mat 8192 128) :
    val_main_v4 (F := Ideal) x0 x1 = fun i => mulTN x0 x1 (i 0) (i 1) := by
  funext y
  rw [eq_ix2 y]
  pointwise [val_main_v4, val_main_v3, val_main_v1]
  exact Finset.sum_congr rfl fun q _ => mul_comm _ _

theorem algebraic_in_rope_weight : Cert.algebraic_DwInRopeIdeal_InRopeWeightGradIdeal := fun m g m' g' _ hargs =>
  ⟨Cert.DwInRopeIdeal.Block.A2 m,
    (θ_run _ _ _).mono (fun _ h c => ⟨(h c).1.trans (Cert.DwInRopeIdeal.Block.arr2 m c), (h c).2⟩)
      (Cert.DwInRopeIdeal.Value.run_blocks (F := Ideal) m g),
    (θ_run _ _ _).mono (fun _ h c => ⟨(h c).1.trans (by rw [val_main_v4_eq, (hargs c).1, (hargs c).2, in_rope_weight_at]; rfl), (h c).2⟩)
      (Cert.InRopeWeightGradIdeal.Value.run (F := Ideal) m' g')⟩

theorem frame_in_rope_weight : Cert.quiescent_InRopeWeightGradIdeal := fun m ρ _ =>
  (θ_run _ _ _).mono (fun r h => ⟨fun c => (h c).2, sem_eq_zero_of_no_sems (by decide) r.2⟩) (Cert.InRopeWeightGradIdeal.Value.run m ρ)

end Cert.Grad

end

end
-- ==== Proof.DwMemKv.lean ====
/-
  The gradient of the memory attention's key and value projection: the kernel's four column blocks, the array they make,
  and the reference's product.
-/
module

public import proofs.«01_k».proof.Proof.Products
public import proofs.«01_k».proof.Proof.Gen.DwMemKvIdeal.Value
public import proofs.«01_k».proof.Proof.Gen.MemKvWeightGradIdeal.Read
public import proofs.«01_k».proof.Proof.Gen.MemKvWeightGradIdeal.Run
public import proofs.«01_k».proof.Defs
public import Idealize.ShloMosaic.Lib.Pipeline.ValueKit

@[expose] public section

set_option maxRecDepth 16384

noncomputable section

namespace Cert.DwMemKvIdeal.Block

open Idealize.ShloMosaic Idealize.ShloMosaic.TcCoe
open Cert.DwMemKvIdeal Cert.DwMemKvIdeal.Gen Cert.DwMemKvIdeal.Value Cert.Grad
open scoped BigOperators

variable (m : (ℓ : Loc nD τ sig) → Buf (Elt Ideal) ℓ) (c : Dev nD)

theorem pay_at (a : Mat 256 1024) (b : Mat 256 512) (r : Fin 1024) (d : Fin 512) :
    k0_pay2 (F := Ideal) (k0_pay1 (F := Ideal)) a b (ix2 r d) = mulTN a b r d := by
  pointwise [k0_pay2, k0_pay1]
  rfl

theorem idx : ∀ t : Fin cfg0.N, win0_0.index t = ![0, 0] ∧ win0_1.index t = ![0, t.val % 4] ∧ win0_2.index t = ![0, t.val % 4] :=
  (by decide +kernel : ∀ t : Fin grid0.N, _)

/-- The column of the arrays that column `d` of a point's block is. -/
def outCol (t : Fin cfg0.N) (d : Fin 512) : Fin 2048 := ⟨512 * (t.val % 4) + d.val, by omega⟩

def A2 : FVec Ideal S1024x2048 .f32 := fun i =>
  mulTN (m ((c : Thread nD τ).loc main_arg0)) (m ((c : Thread nD τ).loc main_arg1)) (i 0) (i 1)

theorem arr2 : (dats m 0 c).arrAt 2 cfg0.N = A2 m c := by
  refine (dats m 0 c).arrAt_eq_of_covers 2 _ (by decide +kernel) fun t hf y => ?_
  blk_simp
  rw [after0_2, eq_ix2 y]
  unfold outsAt0
  frame_out
  refine (pay_at _ _ (y 0) (y 1)).trans (Eq.trans ?_ (congrArg (A2 m c) (a₁ := ix2 (y 0) (outCol t (y 1))) (by blk_ext [idx t, outCol])))
  show mulTN (iblk m c 0 t) (iblk m c 1 t) (y 0) (y 1)
    = mulTN (m ((c : Thread nD τ).loc main_arg0)) (m ((c : Thread nD τ).loc main_arg1)) (y 0) (outCol t (y 1))
  refine Finset.sum_congr rfl fun q _ => congrArg₂ (· * ·) ?_ ?_
  · show (iblk m c 0 t) (ix2 q _) = (m ((c : Thread nD τ).loc main_arg0)) (ix2 _ _)
    blk_point [iblk, V, idx t]
  · show (iblk m c 1 t) (ix2 q _) = (m ((c : Thread nD τ).loc main_arg1)) (ix2 _ _)
    blk_point [iblk, V, idx t, outCol]

end Cert.DwMemKvIdeal.Block

namespace Cert.Grad

open Idealize.ShloMosaic Idealize.ShloMosaic.TcCoe Idealize.SL.Sem
open Cert.MemKvWeightGradIdeal Cert.MemKvWeightGradIdeal.Read

theorem mem_kv_weight_at (x0 : Mat 256 1024) (x1 : Mat 256 2048) :
    val_main_v4 (F := Ideal) x0 x1 = fun i => mulTN x0 x1 (i 0) (i 1) := by
  funext y
  rw [eq_ix2 y]
  pointwise [val_main_v4, val_main_v3, val_main_v1]
  exact Finset.sum_congr rfl fun q _ => mul_comm _ _

theorem algebraic_mem_kv_weight : Cert.algebraic_DwMemKvIdeal_MemKvWeightGradIdeal := fun m g m' g' _ hargs =>
  ⟨Cert.DwMemKvIdeal.Block.A2 m,
    (θ_run _ _ _).mono (fun _ h c => ⟨(h c).1.trans (Cert.DwMemKvIdeal.Block.arr2 m c), (h c).2⟩)
      (Cert.DwMemKvIdeal.Value.run_blocks (F := Ideal) m g),
    (θ_run _ _ _).mono (fun _ h c => ⟨(h c).1.trans (by rw [val_main_v4_eq, (hargs c).1, (hargs c).2, mem_kv_weight_at]; rfl), (h c).2⟩)
      (Cert.MemKvWeightGradIdeal.Value.run (F := Ideal) m' g')⟩

theorem frame_mem_kv_weight : Cert.quiescent_MemKvWeightGradIdeal := fun m ρ _ =>
  (θ_run _ _ _).mono (fun r h => ⟨fun c => (h c).2, sem_eq_zero_of_no_sems (by decide) r.2⟩) (Cert.MemKvWeightGradIdeal.Value.run m ρ)

end Cert.Grad

end

end
-- ==== Proof.NormRows.lean ====
/-
  The gradient of a root-mean-square norm of rows of any width, in the terms the projections' gradients use it: of the rows,
  of the gains, the chain rule's form of the first, and the gains' gradient gathered over sixteen blocks of 512 rows.
-/
module

public import proofs.«01_k».proof.Proof.RowNorm
public import Idealize.ShloMosaic.Lib.Pipeline.ValueKit

@[expose] public section

noncomputable section

namespace Cert.Grad

open Idealize.ShloMosaic
open scoped BigOperators

variable {n k : ℕ}

/-- The gradient of the rows before the norm, of width `c`, from that of its result, `dn`. -/
def rowGrad (c : EReal) (dn : Fin n → Fin k → EReal) (x : Mat n k) (g : Mat 1 k) (r : Fin n) (d : Fin k) : EReal :=
  normBwd c cEps (rowAt x r) (fun q => dn r q * g (ix2 0 q)) d

/-- A row's part of the gradient of the gains. -/
def rowGain (c : EReal) (dn : Fin n → Fin k → EReal) (x : Mat n k) (r : Fin n) (d : Fin k) : EReal :=
  dn r d * hat c cEps (rowAt x r) d

theorem rowGrad_congr {n' : ℕ} {c : EReal} {dn : Fin n → Fin k → EReal} {dn' : Fin n' → Fin k → EReal} {x : Mat n k} {x' : Mat n' k}
    {g g' : Mat 1 k} {r : Fin n} {r' : Fin n'} (hdn : ∀ d, dn r d = dn' r' d) (hx : rowAt x r = rowAt x' r')
    (hg : ∀ d, g (ix2 0 d) = g' (ix2 0 d)) (d : Fin k) : rowGrad c dn x g r d = rowGrad c dn' x' g' r' d := by
  unfold rowGrad
  rw [hx]
  simp only [hdn, hg]

theorem rowGain_congr {n' : ℕ} {c : EReal} {dn : Fin n → Fin k → EReal} {dn' : Fin n' → Fin k → EReal} {x : Mat n k} {x' : Mat n' k}
    {r : Fin n} {r' : Fin n'} (hdn : ∀ d, dn r d = dn' r' d) (hx : rowAt x r = rowAt x' r') (d : Fin k) :
    rowGain c dn x r d = rowGain c dn' x' r' d := by
  unfold rowGain
  rw [hx, hdn]

/-- The chain rule's factor for a row. -/
def rowChain (c : EReal) (dn : Fin n → Fin k → EReal) (x : Mat n k) (g : Mat 1 k) (r : Fin n) : EReal :=
  chainFactor c cEps (Ideal.ofBits .f32 0xBF000000#32) (rowAt x r) (fun q => dn r q * g (ix2 0 q))

/-- The chain rule's gradient of the rows is the kernels' form. -/
theorem rowGrad_chain {c : EReal} {w : ℝ} (hc : c = (w : EReal)) (hw : 0 < w) (dn : Fin n → Fin k → EReal) (x : Mat n k)
    (g : Mat 1 k) (r : Fin n) (d : Fin k) :
    dn r d * g (ix2 0 d) * rstd c cEps (rowAt x r) + x (ix2 r d) * rowChain c dn x g r + rowChain c dn x g r * x (ix2 r d)
      = rowGrad c dn x g r d := by
  obtain ⟨e, he, hE⟩ := cEps_real
  unfold rowGrad rowChain
  rw [hc, hE, cMinusHalf_eq]
  exact normBwd_eq hw he (rowAt x r) (fun q => dn r q * g (ix2 0 q)) d

/-- The row of an array of 8192 that row `r` of the block of 512 rows at point `t` is. -/
def blockRow {N : ℕ} (t : Fin N) (r : Fin 512) : Fin 8192 := ⟨512 * (t.val % 16) + r.val, by omega⟩

/-- A total over rows that `S` points gather, each adding its block's part to what the point before left. -/
theorem totals_gathered {N S B R : ℕ} (hN : N = S) (hR : R = S * B) (row : Fin N → Fin B → Fin R)
    (hrow : ∀ t r, (row t r).val = t.val % S * B + r.val) (outs : (t : ℕ) → t < N → Mat 1 k) (G : Fin R → Fin k → EReal)
    (part : Fin N → Fin k → EReal) (hpart : ∀ t d, part t d = ∑ r : Fin B, G (row t r) d)
    (first : ∀ t : Fin N, t.val % S = 0 → ∀ d, outs t.val t.isLt (ix2 0 d) = 0 + part t d)
    (next : ∀ t : Fin N, ¬t.val % S = 0 → ∀ d, outs t.val t.isLt (ix2 0 d)
      = outs (t.val - 1) (Nat.lt_of_le_of_lt (Nat.sub_le _ _) t.isLt) (ix2 0 d) + part t d)
    (t : Fin N) (ht : t.val % S = S - 1) (d : Fin k) : outs t.val t.isLt (ix2 0 d) = ∑ r : Fin R, G r d := by
  have hlast : t.val + 1 = N := by
    have h := t.isLt
    rw [Nat.mod_eq_of_lt (hN ▸ h)] at ht
    omega
  refine (Pipeline.eq_sum_fin_of_reset_step_apply_last (fun n h (_ : Unit) => outs n h (ix2 0 d)) S
    (fun _ => (0 : EReal)) (fun t _ => part t d) (fun t h _ => first t h d) (fun t h _ => next t h d)
    (le_of_eq hN) t hlast ()).trans ?_
  rw [zero_add, Finset.sum_congr rfl fun t _ => hpart t d]
  refine (Fin.sum_points_lanes_congr (A := 1) (g := fun (_ : Fin 1) (r : Fin R) => G r d) S
    (fun t r ha hl => ?_) (hN.trans (one_mul S).symm) hR).trans (Fin.sum_univ_one _)
  exact congrArg (G · d) (Fin.ext (hrow t r))

/-- A total over rows that sixteen points gather from blocks of 512 rows. -/
theorem gains_gathered {N : ℕ} (hN : N = 16) (outs : (t : ℕ) → t < N → Mat 1 k) (G : Fin 8192 → Fin k → EReal)
    (part : Fin N → Fin k → EReal) (hpart : ∀ t d, part t d = ∑ r : Fin 512, G (blockRow t r) d)
    (first : ∀ t : Fin N, t.val % 16 = 0 → ∀ d, outs t.val t.isLt (ix2 0 d) = 0 + part t d)
    (next : ∀ t : Fin N, ¬t.val % 16 = 0 → ∀ d, outs t.val t.isLt (ix2 0 d)
      = outs (t.val - 1) (Nat.lt_of_le_of_lt (Nat.sub_le _ _) t.isLt) (ix2 0 d) + part t d)
    (t : Fin N) (ht : t.val % 16 = 15) (d : Fin k) : outs t.val t.isLt (ix2 0 d) = ∑ R : Fin 8192, G R d :=
  totals_gathered hN rfl blockRow (fun t r => congrArg (· + r.val) (Nat.mul_comm 512 _)) outs G part hpart first next t ht d

/-- The columns of an array of 1536 columns from column `o` on. -/
def columnsFrom (o : ℕ) (h : o + k ≤ 1536) (z : Mat n 1536) : Mat n k := fun i =>
  z (ix2 (i 0) ⟨o + (i 1).val, lt_of_lt_of_le (Nat.add_lt_add_left (i 1).isLt o) h⟩)

end Cert.Grad

end

end
-- ==== Proof.MemkvBwd.lean ====
/-
  The gradient through the memory attention's key and value projection and the norm of the memory before it: the kernel's
  one block, the arrays it makes, the reference's derivative, and that the two are the same.
-/
module

public import proofs.«01_k».proof.Proof.NormRows
public import proofs.«01_k».proof.Proof.Gen.MemkvBwdIdeal.Value
public import proofs.«01_k».proof.Proof.Gen.MemoryKvGradIdeal.Read
public import proofs.«01_k».proof.Proof.Gen.MemoryKvGradIdeal.Run
public import proofs.«01_k».proof.Defs

@[expose] public section

set_option maxRecDepth 16384

noncomputable section

namespace Cert.MemkvBwdIdeal.Block

open Idealize.ShloMosaic Idealize.ShloMosaic.TcCoe
open Cert.MemkvBwdIdeal Cert.MemkvBwdIdeal.Gen Cert.MemkvBwdIdeal.Value Cert.Grad
open scoped BigOperators

section Payloads

variable (a : Mat 256 2048) (w : Mat 1024 2048) (x : Mat 256 1024) (g : Mat 1 1024)

theorem dn_at (r : Fin 256) (d : Fin 1024) : k0_pay2 (F := Ideal) a w (ix2 r d) = mulNT a w r d := by
  pointwise [k0_pay2]
  rfl

theorem rstd_at (r : Fin 256) : k0_pay3 (F := Ideal) x (ix2 r 0) = rstd cModel cEps (rowAt x r) := by
  unfold rstd
  pointwise [k0_pay3]
  rfl

theorem hat_at (r : Fin 256) (d : Fin 1024) : k0_pay4 (F := Ideal) x (ix2 r d) = hat cModel cEps (rowAt x r) d := by
  unfold hat
  pointwise [k0_pay4, rstd_at]
  rfl

theorem gain_at (d : Fin 1024) :
    k0_pay6 (F := Ideal) a w x (k0_pay5 (F := Ideal)) (ix2 0 d) = ∑ r, rowGain cModel (mulNT a w) x r d := by
  unfold rowGain
  pointwise [k0_pay6, k0_pay5, dn_at, hat_at]

theorem dx_at (r : Fin 256) (d : Fin 1024) :
    k0_pay1 (F := Ideal) (k0_pay3 x) (k0_pay7 a w x g) (ix2 r d) = rowGrad cModel (mulNT a w) x g r d := by
  unfold rowGrad normBwd
  pointwise [k0_pay1, k0_pay7, dn_at, hat_at, rstd_at]

end Payloads

variable (m : (ℓ : Loc nD τ sig) → Buf (Elt Ideal) ℓ) (c : Dev nD)

/-- The gradient of the keys and values. -/
abbrev xa : Mat 256 2048 := m ((c : Thread nD τ).loc main_arg0)
/-- The projection. -/
abbrev xw : Mat 1024 2048 := m ((c : Thread nD τ).loc main_arg1)
/-- The memory's rows. -/
abbrev xx : Mat 256 1024 := m ((c : Thread nD τ).loc main_arg2)
/-- The gains. -/
abbrev xg : Mat 1 1024 := m ((c : Thread nD τ).loc main_arg3)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

theorem iblk0 (t : Fin cfg0.N) : iblk m c 0 t = xa m c := by
  funext y
  rw [eq_ix2 y]
  show (iblk m c 0 t) (ix2 _ _) = (m ((c : Thread nD τ).loc main_arg0)) (ix2 _ _)
  blk_point [iblk, V, idx t]

theorem iblk1 (t : Fin cfg0.N) : iblk m c 1 t = xw m c := by
  funext y
  rw [eq_ix2 y]
  show (iblk m c 1 t) (ix2 _ _) = (m ((c : Thread nD τ).loc main_arg1)) (ix2 _ _)
  blk_point [iblk, V, idx t]

theorem iblk2 (t : Fin cfg0.N) : iblk m c 2 t = xx m c := by
  funext y
  rw [eq_ix2 y]
  show (iblk m c 2 t) (ix2 _ _) = (m ((c : Thread nD τ).loc main_arg2)) (ix2 _ _)
  blk_point [iblk, V, idx t]

theorem iblk3 (t : Fin cfg0.N) : iblk m c 3 t = xg m c := by
  funext y
  rw [eq_ix2 y]
  show (iblk m c 3 t) (ix2 _ _) = (m ((c : Thread nD τ).loc main_arg3)) (ix2 _ _)
  blk_point [iblk, V, idx t]

/-- The gradient of the memory's rows. -/
def A4 : FVec Ideal S256x1024 .bf16 := fun i => rowGrad cModel (mulNT (xa m c) (xw m c)) (xx m c) (xg m c) (i 0) (i 1)
/-- The gradient of the gains. -/
def A5 : FVec Ideal S1x1024 .f32 := fun i => ∑ r, rowGain cModel (mulNT (xa m c) (xw m c)) (xx m c) r (i 1)

theorem arr4 : (dats m 0 c).arrAt 4 cfg0.N = A4 m c := by
  refine (dats m 0 c).arrAt_eq_of_covers 4 _ (by decide +kernel) fun t hf y => ?_
  blk_simp
  rw [after0_4, eq_ix2 y]
  unfold outsAt0
  frame_out
  rw [iblk0, iblk1, iblk2, iblk3]
  exact (dx_at _ _ _ _ (y 0) (y 1)).trans (congrArg (A4 m c) (a₁ := ix2 (y 0) (y 1)) (by blk_ext [idx t]))

theorem arr5 : (dats m 0 c).arrAt 5 cfg0.N = A5 m c := by
  refine (dats m 0 c).arrAt_eq_of_covers 5 _ (by decide +kernel) fun t hf y => ?_
  blk_simp
  rw [after0_5]
  obtain ⟨i, d, rfl⟩ : ∃ (i : Fin 1) (d : Fin 1024), y = ix2 i d := ⟨y 0, y 1, eq_ix2 y⟩
  obtain rfl : i = 0 := Subsingleton.elim _ _
  unfold outsAt0
  frame_out
  rw [iblk0, iblk1, iblk2]
  exact (gain_at _ _ _ d).trans (congrArg (A5 m c) (a₁ := ix2 0 d) (by blk_ext [idx t]))

end Cert.MemkvBwdIdeal.Block

namespace Cert.Grad

open Idealize.ShloMosaic Idealize.ShloMosaic.TcCoe Idealize.SL.Sem
open Cert.MemoryKvGradIdeal Cert.MemoryKvGradIdeal.Read
open scoped BigOperators

section Stages

variable (x0 : Mat 256 2048) (x1 : Mat 1024 2048) (x2 : Mat 256 1024) (x3 : Mat 1 1024)

theorem mk17_at (r : Fin 256) (d : Fin 1024) : val_main_v17 (F := Ideal) x0 x1 (ix2 r d) = mulNT x0 x1 r d := by
  pointwise [val_main_v17, val_main_v15]
  rfl

theorem mk6_at (r : Fin 256) :
    val_main_v6 (F := Ideal) x2 (ix2 r 0) = Ideal.div (∑ d, rowAt x2 r d * rowAt x2 r d) cModel + cEps := by
  pointwise [val_main_v6, val_main_v5, val_main_v4, val_main_v3, val_main_v2, val_main_v1, val_main_v0, val_main_cst,
    val_main_cst_0, val_main_cst_1]
  rfl

theorem mk7_at (r : Fin 256) : val_main_v7 (F := Ideal) x2 (ix2 r 0) = rstd cModel cEps (rowAt x2 r) := by
  unfold rstd
  pointwise [val_main_v7, mk6_at]

theorem mk20_at (d : Fin 1024) : val_main_v20 (F := Ideal) x0 x1 x2 (ix2 0 d) = ∑ r, rowGain cModel (mulNT x0 x1) x2 r d := by
  unfold rowGain hat
  pointwise [val_main_v20, val_main_v19, val_main_v18, val_main_v12, val_main_v11, val_main_cst_3, mk17_at, mk7_at]
  exact Finset.sum_congr rfl fun R _ => mul_comm _ _

theorem mk22_at (r : Fin 256) (d : Fin 1024) :
    val_main_v22 (F := Ideal) x0 x1 x3 (ix2 r d) = mulNT x0 x1 r d * x3 (ix2 0 d) := by
  pointwise [val_main_v22, val_main_v21, mk17_at]

theorem mk32_at (r : Fin 256) (d : Fin 1024) :
    val_main_v32 (F := Ideal) x0 x1 x2 x3 (ix2 r d) = rowChain cModel (mulNT x0 x1) x2 x3 r := by
  unfold rowChain chainFactor
  pointwise [val_main_v32, val_main_v31, val_main_v30, val_main_v29, val_main_v28, val_main_v25, val_main_v24, val_main_v23,
    val_main_v10, val_main_v9, val_main_v8, val_main_cst_2, val_main_cst_4, val_main_cst_5, val_main_cst_6, mk22_at, mk7_at, mk6_at]
  rw [Fin.sum_univ_one, mk7_at, mk6_at]
  rfl

theorem mk37_at (r : Fin 256) (d : Fin 1024) :
    val_main_v37 (F := Ideal) x0 x1 x2 x3 (ix2 r d) = rowGrad cModel (mulNT x0 x1) x2 x3 r d := by
  rw [← rowGrad_chain cModel_eq (by norm_num)]
  pointwise [val_main_v37, val_main_v36, val_main_v35, val_main_v34, val_main_v33, val_main_v27, val_main_v26, mk32_at, mk22_at, mk7_at]

end Stages

/-- The claim on the gradient through the key and value projection and its norm. -/
theorem algebraic_memkv : Cert.algebraic_MemkvBwdIdeal_MemoryKvGradIdeal := by
  intro m g m' g' hpre hargs
  refine ⟨Cert.MemkvBwdIdeal.Block.A4 m, Cert.MemkvBwdIdeal.Block.A5 m,
    (θ_run _ _ _).mono (fun _ h c => ?_) (Cert.MemkvBwdIdeal.Value.run_blocks (F := Ideal) m g),
    (θ_run _ _ _).mono (fun _ h c => ?_) (Cert.MemoryKvGradIdeal.Value.run (F := Ideal) m' g')⟩
  · obtain ⟨h4, h5, ha⟩ := h c
    exact ⟨h4.trans (Cert.MemkvBwdIdeal.Block.arr4 m c), h5.trans (Cert.MemkvBwdIdeal.Block.arr5 m c), ha⟩
  · obtain ⟨h0, h1, ha⟩ := h c
    obtain ⟨e0, e1, e2, e3⟩ := hargs c
    refine ⟨h0.trans ?_, h1.trans ?_, ha⟩
    · rw [val_main_v37_eq, e0, e1, e2, e3]
      funext y
      rw [eq_ix2 y]
      exact mk37_at _ _ _ _ (y 0) (y 1)
    · rw [val_main_v20_eq, e0, e1, e2]
      funext y
      obtain ⟨i, d, rfl⟩ : ∃ (i : Fin 1) (d : Fin 1024), y = ix2 i d := ⟨y 0, y 1, eq_ix2 y⟩
      obtain rfl : i = 0 := Subsingleton.elim _ _
      exact mk20_at _ _ _ d

/-- The reference ends with its arguments unchanged and, declaring no semaphore, with every counter at zero. -/
theorem frame_memkv : Cert.quiescent_MemoryKvGradIdeal := fun m ρ _ =>
  (θ_run _ _ _).mono (fun r h => ⟨fun c => (h c).2.2, sem_eq_zero_of_no_sems (by decide) r.2⟩) (Cert.MemoryKvGradIdeal.Value.run m ρ)

end Cert.Grad

end

end
-- ==== Proof.LatentBwd.lean ====
/-
  The gradients through the expansions of the query latent and of the key and value latent, and the norms before them: the
  incoming gradient times the transpose of the expansion, the gradient of the norm, and that of the norm's gains. The
  latents are columns of the input projection's result.
-/
module

public import proofs.«01_k».proof.Proof.NormRows
public import proofs.«01_k».proof.Proof.Gen.QueryUpBwdIdeal.Value
public import proofs.«01_k».proof.Proof.Gen.QueryLatentGradIdeal.Read
public import proofs.«01_k».proof.Proof.Gen.QueryLatentGradIdeal.Run
public import proofs.«01_k».proof.Proof.Gen.KvUpBwdIdeal.Value
public import proofs.«01_k».proof.Proof.Gen.KvLatentGradIdeal.Read
public import proofs.«01_k».proof.Proof.Gen.KvLatentGradIdeal.Run
public import proofs.«01_k».proof.Defs

@[expose] public section

set_option maxRecDepth 16384

noncomputable section

namespace Cert.Grad

open Idealize.ShloMosaic
open scoped BigOperators

/-- The query latent's width, 256, as the programs spell it. -/
abbrev cQueryWidth : EReal := Ideal.ofBits .f32 0x43800000#32
/-- The key and value latent's width, 128, as the programs spell it. -/
abbrev cKvWidth : EReal := Ideal.ofBits .f32 0x43000000#32

theorem cQueryWidth_eq : cQueryWidth = ((256 : ℝ) : EReal) := by
  simp [cQueryWidth, Ideal.ofBits, Ideal.ieee, -EReal.coe_mul]; norm_num

theorem cKvWidth_eq : cKvWidth = ((128 : ℝ) : EReal) := by
  simp [cKvWidth, Ideal.ofBits, Ideal.ieee, -EReal.coe_mul]; norm_num

/-- The query latent in the input projection's result. -/
abbrev queryLatent : Mat 8192 1536 → Mat 8192 256 := columnsFrom 1024 (by norm_num)
/-- The key and value latent in the input projection's result. -/
abbrev kvLatent : Mat 8192 1536 → Mat 8192 128 := columnsFrom 1280 (by norm_num)

end Cert.Grad

/-! ## The query latent: the kernel -/

namespace Cert.QueryUpBwdIdeal.Block

open Idealize.ShloMosaic Idealize.ShloMosaic.TcCoe
open Cert.QueryUpBwdIdeal Cert.QueryUpBwdIdeal.Gen Cert.QueryUpBwdIdeal.Value Cert.Grad
open scoped BigOperators

section Payloads

variable (a : Mat 512 1024) (w : Mat 256 1024) (x : Mat 512 256) (g s : Mat 1 256)

theorem dn_at (r : Fin 512) (d : Fin 256) : k0_pay2 (F := Ideal) a w (ix2 r d) = mulNT a w r d := by
  pointwise [k0_pay2]
  rfl

theorem rstd_at (r : Fin 512) : k0_pay3 (F := Ideal) x (ix2 r 0) = rstd cQueryWidth cEps (rowAt x r) := by
  unfold rstd
  pointwise [k0_pay3]
  rfl

theorem hat_at (r : Fin 512) (d : Fin 256) : k0_pay4 (F := Ideal) x (ix2 r d) = hat cQueryWidth cEps (rowAt x r) d := by
  unfold hat
  pointwise [k0_pay4, rstd_at]
  rfl

theorem zero_at (d : Fin 256) : k0_pay5 (F := Ideal) (ix2 0 d) = 0 := by
  pointwise [k0_pay5]

theorem gain_at (d : Fin 256) :
    k0_pay6 (F := Ideal) a w x s (ix2 0 d) = s (ix2 0 d) + ∑ r, rowGain cQueryWidth (mulNT a w) x r d := by
  unfold rowGain
  pointwise [k0_pay6, dn_at, hat_at]

theorem dx_at (r : Fin 512) (d : Fin 256) :
    k0_pay1 (F := Ideal) (k0_pay7 a w x g) (k0_pay8 x) (ix2 r d) = rowGrad cQueryWidth (mulNT a w) x g r d := by
  unfold rowGrad normBwd
  pointwise [k0_pay1, k0_pay7, k0_pay8, dn_at, hat_at, rstd_at]

end Payloads

variable (m : (ℓ : Loc nD τ sig) → Buf (Elt Ideal) ℓ) (c : Dev nD)

/-- The incoming gradient. -/
abbrev xa : Mat 8192 1024 := m ((c : Thread nD τ).loc main_arg0)
/-- The expansion. -/
abbrev xw : Mat 256 1024 := m ((c : Thread nD τ).loc main_arg1)
/-- The latent. -/
abbrev xx : Mat 8192 256 := queryLatent (m ((c : Thread nD τ).loc main_arg2))
/-- The gains. -/
abbrev xg : Mat 1 256 := m ((c : Thread nD τ).loc main_arg3)

theorem idx : ∀ t : Fin cfg0.N, win0_0.index t = ![t.val % 16, 0] ∧ win0_1.index t = ![0, 0] ∧ win0_2.index t = ![t.val % 16, 4]
    ∧ win0_3.index t = ![0, 0] ∧ win0_4.index t = ![t.val % 16, 0] ∧ win0_5.index t = ![0, 0] :=
  (by decide +kernel : ∀ t : Fin grid0.N, _)

theorem dn_blk (t : Fin cfg0.N) (r : Fin 512) (d : Fin 256) :
    mulNT (iblk m c 0 t) (iblk m c 1 t) r d = mulNT (xa m c) (xw m c) (blockRow t r) d := by
  refine Finset.sum_congr rfl fun q _ => congrArg₂ (· * ·) ?_ ?_
  · show (iblk m c 0 t) (ix2 r q) = (m ((c : Thread nD τ).loc main_arg0)) (ix2 _ _)
    blk_point [iblk, V, idx t, blockRow]
  · show (iblk m c 1 t) (ix2 d q) = (m ((c : Thread nD τ).loc main_arg1)) (ix2 _ _)
    blk_point [iblk, V, idx t]

theorem x_blk (t : Fin cfg0.N) (r : Fin 512) : rowAt (iblk m c 2 t) r = rowAt (xx m c) (blockRow t r) := by
  funext d
  show (iblk m c 2 t) (ix2 r d) = (m ((c : Thread nD τ).loc main_arg2)) (ix2 _ _)
  blk_point [iblk, V, idx t, blockRow]

theorem g_blk (t : Fin cfg0.N) (d : Fin 256) : (iblk m c 3 t) (ix2 0 d) = xg m c (ix2 0 d) := by
  show (iblk m c 3 t) (ix2 0 d) = (m ((c : Thread nD τ).loc main_arg3)) (ix2 _ _)
  blk_point [iblk, V, idx t]

/-- The gradient of the latent. -/
def A4 : FVec Ideal S8192x256 .bf16 := fun i => rowGrad cQueryWidth (mulNT (xa m c) (xw m c)) (xx m c) (xg m c) (i 0) (i 1)
/-- The gradient of the gains. -/
def A5 : FVec Ideal S1x256 .f32 := fun i => ∑ R, rowGain cQueryWidth (mulNT (xa m c) (xw m c)) (xx m c) R (i 1)

theorem step4 (t : Fin cfg0.N) (r : Fin 512) (d : Fin 256) :
    (outsAt0 m c t.val t.isLt).1 (ix2 r d) = A4 m c (ix2 (blockRow t r) d) := by
  refine Eq.trans ?_ (rowGrad_congr (dn_blk m c t r) (x_blk m c t r) (g_blk m c t) d)
  by_cases h : t.val % 16 = 0
  · rw [outsAt0_A m c t h]; frame_out; exact dx_at _ _ _ _ _ _
  · rw [outsAt0_B m c t h]; frame_out; exact dx_at _ _ _ _ _ _

theorem left5 (t : Fin cfg0.N) (ht : t.val % 16 = 15) (d : Fin 256) :
    (outsAt0 m c t.val t.isLt).2 (ix2 0 d) = A5 m c (ix2 0 d) := by
  refine gains_gathered N_0 (fun n h => (outsAt0 m c n h).2) (rowGain cQueryWidth (mulNT (xa m c) (xw m c)) (xx m c))
    (fun t d => ∑ r, rowGain cQueryWidth (mulNT (iblk m c 0 t) (iblk m c 1 t)) (iblk m c 2 t) r d)
    (fun t d => Finset.sum_congr rfl fun r _ => rowGain_congr (dn_blk m c t r) (x_blk m c t r) d) (fun t h d => ?_) (fun t h d => ?_) t ht d
  · rw [← zero_at d, ← gain_at, outsAt0_A m c t h]; frame_out
  · rw [← gain_at, outsAt0_B m c t h]; frame_out

theorem arr4 : (dats m 0 c).arrAt 4 cfg0.N = A4 m c := by
  refine (dats m 0 c).arrAt_eq_of_covers 4 _ (by decide +kernel) fun t hf y => ?_
  blk_simp
  rw [after0_4, eq_ix2 y]
  refine (step4 m c t (y 0) (y 1)).trans (congrArg (A4 m c) (a₁ := ix2 (blockRow t (y 0)) (y 1)) ?_)
  blk_ext [idx t, blockRow]

theorem arr5 : (dats m 0 c).arrAt 5 cfg0.N = A5 m c := by
  refine (dats m 0 c).arrAt_eq_of_covers 5 _ (by decide +kernel) fun t hf y => ?_
  blk_simp
  rw [after0_5]
  obtain ⟨i, d, rfl⟩ : ∃ (i : Fin 1) (d : Fin 256), y = ix2 i d := ⟨y 0, y 1, eq_ix2 y⟩
  obtain rfl : i = 0 := Subsingleton.elim _ _
  exact (left5 m c t ((flush0_5 t).mp hf) d).trans (congrArg (A5 m c) (a₁ := ix2 0 d) (by blk_ext [idx t]))

end Cert.QueryUpBwdIdeal.Block

/-! ## The query latent: the reference -/

namespace Cert.Grad

open Idealize.ShloMosaic Idealize.ShloMosaic.TcCoe Idealize.SL.Sem
open Cert.QueryLatentGradIdeal Cert.QueryLatentGradIdeal.Read
open scoped BigOperators

section Stages

variable (x0 : Mat 8192 1024) (x1 : Mat 256 1024) (x2 : Mat 8192 1536) (x3 : Mat 1 256)

theorem ql0_at (r : Fin 8192) (d : Fin 256) : val_main_v0 (F := Ideal) x2 (ix2 r d) = queryLatent x2 (ix2 r d) := by
  pointwise [val_main_v0]
  rfl

theorem ql19_at (r : Fin 8192) (d : Fin 256) : val_main_v19 (F := Ideal) x0 x1 (ix2 r d) = mulNT x0 x1 r d := by
  pointwise [val_main_v19, val_main_v18, val_main_v16]
  rfl

theorem ql7_at (r : Fin 8192) : val_main_v7 (F := Ideal) x2 (ix2 r 0)
    = Ideal.div (∑ d, rowAt (queryLatent x2) r d * rowAt (queryLatent x2) r d) cQueryWidth + cEps := by
  pointwise [val_main_v7, val_main_v6, val_main_v5, val_main_v4, val_main_v3, val_main_v2, val_main_v1, val_main_cst,
    val_main_cst_0, val_main_cst_1, ql0_at]
  rfl

theorem ql8_at (r : Fin 8192) : val_main_v8 (F := Ideal) x2 (ix2 r 0) = rstd cQueryWidth cEps (rowAt (queryLatent x2) r) := by
  unfold rstd
  pointwise [val_main_v8, ql7_at]

theorem ql22_at (d : Fin 256) : val_main_v22 (F := Ideal) x0 x1 x2 (ix2 0 d)
    = ∑ R, rowGain cQueryWidth (mulNT x0 x1) (queryLatent x2) R d := by
  unfold rowGain hat
  pointwise [val_main_v22, val_main_v21, val_main_v20, val_main_v13, val_main_v12, val_main_cst_3, ql19_at, ql8_at, ql0_at]
  exact Finset.sum_congr rfl fun R _ => mul_comm _ _

theorem ql24_at (r : Fin 8192) (d : Fin 256) :
    val_main_v24 (F := Ideal) x0 x1 x3 (ix2 r d) = mulNT x0 x1 r d * x3 (ix2 0 d) := by
  pointwise [val_main_v24, val_main_v23, ql19_at]

theorem ql34_at (r : Fin 8192) (d : Fin 256) :
    val_main_v34 (F := Ideal) x0 x1 x2 x3 (ix2 r d) = rowChain cQueryWidth (mulNT x0 x1) (queryLatent x2) x3 r := by
  unfold rowChain chainFactor
  pointwise [val_main_v34, val_main_v33, val_main_v32, val_main_v31, val_main_v30, val_main_v27, val_main_v26, val_main_v25,
    val_main_v11, val_main_v10, val_main_v9, val_main_cst_2, val_main_cst_4, val_main_cst_5, val_main_cst_6, ql24_at, ql8_at,
    ql7_at, ql0_at]
  rw [Fin.sum_univ_one, ql8_at, ql7_at]
  rfl

theorem ql39_at (r : Fin 8192) (d : Fin 256) :
    val_main_v39 (F := Ideal) x0 x1 x2 x3 (ix2 r d) = rowGrad cQueryWidth (mulNT x0 x1) (queryLatent x2) x3 r d := by
  rw [← rowGrad_chain cQueryWidth_eq (by norm_num)]
  pointwise [val_main_v39, val_main_v38, val_main_v37, val_main_v36, val_main_v35, val_main_v29, val_main_v28, ql34_at, ql24_at,
    ql8_at, ql0_at]

end Stages

/-- The claim on the gradient through the query latent's expansion and norm. -/
theorem algebraic_query_up : Cert.algebraic_QueryUpBwdIdeal_QueryLatentGradIdeal := by
  intro m g m' g' hpre hargs
  refine ⟨Cert.QueryUpBwdIdeal.Block.A4 m, Cert.QueryUpBwdIdeal.Block.A5 m,
    (θ_run _ _ _).mono (fun _ h c => ?_) (Cert.QueryUpBwdIdeal.Value.run_blocks (F := Ideal) m g),
    (θ_run _ _ _).mono (fun _ h c => ?_) (Cert.QueryLatentGradIdeal.Value.run (F := Ideal) m' g')⟩
  · obtain ⟨h4, h5, ha⟩ := h c
    exact ⟨h4.trans (Cert.QueryUpBwdIdeal.Block.arr4 m c), h5.trans (Cert.QueryUpBwdIdeal.Block.arr5 m c), ha⟩
  · obtain ⟨h0, h1, ha⟩ := h c
    obtain ⟨e0, e1, e2, e3⟩ := hargs c
    refine ⟨h0.trans ?_, h1.trans ?_, ha⟩
    · rw [val_main_v39_eq, e0, e1, e2, e3]
      funext y
      rw [eq_ix2 y]
      exact ql39_at _ _ _ _ (y 0) (y 1)
    · rw [val_main_v22_eq, e0, e1, e2]
      funext y
      obtain ⟨i, d, rfl⟩ : ∃ (i : Fin 1) (d : Fin 256), y = ix2 i d := ⟨y 0, y 1, eq_ix2 y⟩
      obtain rfl : i = 0 := Subsingleton.elim _ _
      exact ql22_at _ _ _ d

theorem frame_query_up : Cert.quiescent_QueryLatentGradIdeal := fun m ρ _ =>
  (θ_run _ _ _).mono (fun r h => ⟨fun c => (h c).2.2, sem_eq_zero_of_no_sems (by decide) r.2⟩) (Cert.QueryLatentGradIdeal.Value.run m ρ)

end Cert.Grad

/-! ## The key and value latent: the kernel -/

namespace Cert.KvUpBwdIdeal.Block

open Idealize.ShloMosaic Idealize.ShloMosaic.TcCoe
open Cert.KvUpBwdIdeal Cert.KvUpBwdIdeal.Gen Cert.KvUpBwdIdeal.Value Cert.Grad
open scoped BigOperators

section Payloads

variable (a : Mat 512 1024) (w : Mat 128 1024) (x : Mat 512 128) (g s : Mat 1 128)

theorem dn_at (r : Fin 512) (d : Fin 128) : k0_pay2 (F := Ideal) a w (ix2 r d) = mulNT a w r d := by
  pointwise [k0_pay2]
  rfl

theorem rstd_at (r : Fin 512) : k0_pay3 (F := Ideal) x (ix2 r 0) = rstd cKvWidth cEps (rowAt x r) := by
  unfold rstd
  pointwise [k0_pay3]
  rfl

theorem hat_at (r : Fin 512) (d : Fin 128) : k0_pay4 (F := Ideal) x (ix2 r d) = hat cKvWidth cEps (rowAt x r) d := by
  unfold hat
  pointwise [k0_pay4, rstd_at]
  rfl

theorem zero_at (d : Fin 128) : k0_pay5 (F := Ideal) (ix2 0 d) = 0 := by
  pointwise [k0_pay5]

theorem gain_at (d : Fin 128) :
    k0_pay6 (F := Ideal) a w x s (ix2 0 d) = s (ix2 0 d) + ∑ r, rowGain cKvWidth (mulNT a w) x r d := by
  unfold rowGain
  pointwise [k0_pay6, dn_at, hat_at]

theorem dx_at (r : Fin 512) (d : Fin 128) :
    k0_pay1 (F := Ideal) (k0_pay7 a w x g) (k0_pay8 x) (ix2 r d) = rowGrad cKvWidth (mulNT a w) x g r d := by
  unfold rowGrad normBwd
  pointwise [k0_pay1, k0_pay7, k0_pay8, dn_at, hat_at, rstd_at]

end Payloads

variable (m : (ℓ : Loc nD τ sig) → Buf (Elt Ideal) ℓ) (c : Dev nD)

/-- The incoming gradient. -/
abbrev xa : Mat 8192 1024 := m ((c : Thread nD τ).loc main_arg0)
/-- The expansion. -/
abbrev xw : Mat 128 1024 := m ((c : Thread nD τ).loc main_arg1)
/-- The latent. -/
abbrev xx : Mat 8192 128 := kvLatent (m ((c : Thread nD τ).loc main_arg2))
/-- The gains. -/
abbrev xg : Mat 1 128 := m ((c : Thread nD τ).loc main_arg3)

theorem idx : ∀ t : Fin cfg0.N, win0_0.index t = ![t.val % 16, 0] ∧ win0_1.index t = ![0, 0] ∧ win0_2.index t = ![t.val % 16, 10]
    ∧ win0_3.index t = ![0, 0] ∧ win0_4.index t = ![t.val % 16, 0] ∧ win0_5.index t = ![0, 0] :=
  (by decide +kernel : ∀ t : Fin grid0.N, _)

theorem dn_blk (t : Fin cfg0.N) (r : Fin 512) (d : Fin 128) :
    mulNT (iblk m c 0 t) (iblk m c 1 t) r d = mulNT (xa m c) (xw m c) (blockRow t r) d := by
  refine Finset.sum_congr rfl fun q _ => congrArg₂ (· * ·) ?_ ?_
  · show (iblk m c 0 t) (ix2 r q) = (m ((c : Thread nD τ).loc main_arg0)) (ix2 _ _)
    blk_point [iblk, V, idx t, blockRow]
  · show (iblk m c 1 t) (ix2 d q) = (m ((c : Thread nD τ).loc main_arg1)) (ix2 _ _)
    blk_point [iblk, V, idx t]

theorem x_blk (t : Fin cfg0.N) (r : Fin 512) : rowAt (iblk m c 2 t) r = rowAt (xx m c) (blockRow t r) := by
  funext d
  show (iblk m c 2 t) (ix2 r d) = (m ((c : Thread nD τ).loc main_arg2)) (ix2 _ _)
  blk_point [iblk, V, idx t, blockRow]

theorem g_blk (t : Fin cfg0.N) (d : Fin 128) : (iblk m c 3 t) (ix2 0 d) = xg m c (ix2 0 d) := by
  show (iblk m c 3 t) (ix2 0 d) = (m ((c : Thread nD τ).loc main_arg3)) (ix2 _ _)
  blk_point [iblk, V, idx t]

/-- The gradient of the latent. -/
def A4 : FVec Ideal S8192x128 .bf16 := fun i => rowGrad cKvWidth (mulNT (xa m c) (xw m c)) (xx m c) (xg m c) (i 0) (i 1)
/-- The gradient of the gains. -/
def A5 : FVec Ideal S1x128 .f32 := fun i => ∑ R, rowGain cKvWidth (mulNT (xa m c) (xw m c)) (xx m c) R (i 1)

theorem step4 (t : Fin cfg0.N) (r : Fin 512) (d : Fin 128) :
    (outsAt0 m c t.val t.isLt).1 (ix2 r d) = A4 m c (ix2 (blockRow t r) d) := by
  refine Eq.trans ?_ (rowGrad_congr (dn_blk m c t r) (x_blk m c t r) (g_blk m c t) d)
  by_cases h : t.val % 16 = 0
  · rw [outsAt0_A m c t h]; frame_out; exact dx_at _ _ _ _ _ _
  · rw [outsAt0_B m c t h]; frame_out; exact dx_at _ _ _ _ _ _

theorem left5 (t : Fin cfg0.N) (ht : t.val % 16 = 15) (d : Fin 128) :
    (outsAt0 m c t.val t.isLt).2 (ix2 0 d) = A5 m c (ix2 0 d) := by
  refine gains_gathered N_0 (fun n h => (outsAt0 m c n h).2) (rowGain cKvWidth (mulNT (xa m c) (xw m c)) (xx m c))
    (fun t d => ∑ r, rowGain cKvWidth (mulNT (iblk m c 0 t) (iblk m c 1 t)) (iblk m c 2 t) r d)
    (fun t d => Finset.sum_congr rfl fun r _ => rowGain_congr (dn_blk m c t r) (x_blk m c t r) d) (fun t h d => ?_)
    (fun t h d => ?_) t ht d
  · rw [← zero_at d, ← gain_at, outsAt0_A m c t h]; frame_out
  · rw [← gain_at, outsAt0_B m c t h]; frame_out

theorem arr4 : (dats m 0 c).arrAt 4 cfg0.N = A4 m c := by
  refine (dats m 0 c).arrAt_eq_of_covers 4 _ (by decide +kernel) fun t hf y => ?_
  blk_simp
  rw [after0_4, eq_ix2 y]
  refine (step4 m c t (y 0) (y 1)).trans (congrArg (A4 m c) (a₁ := ix2 (blockRow t (y 0)) (y 1)) ?_)
  blk_ext [idx t, blockRow]

theorem arr5 : (dats m 0 c).arrAt 5 cfg0.N = A5 m c := by
  refine (dats m 0 c).arrAt_eq_of_covers 5 _ (by decide +kernel) fun t hf y => ?_
  blk_simp
  rw [after0_5]
  obtain ⟨i, d, rfl⟩ : ∃ (i : Fin 1) (d : Fin 128), y = ix2 i d := ⟨y 0, y 1, eq_ix2 y⟩
  obtain rfl : i = 0 := Subsingleton.elim _ _
  exact (left5 m c t ((flush0_5 t).mp hf) d).trans (congrArg (A5 m c) (a₁ := ix2 0 d) (by blk_ext [idx t]))

end Cert.KvUpBwdIdeal.Block

/-! ## The key and value latent: the reference -/

namespace Cert.Grad

open Idealize.ShloMosaic Idealize.ShloMosaic.TcCoe Idealize.SL.Sem
open Cert.KvLatentGradIdeal Cert.KvLatentGradIdeal.Read
open scoped BigOperators

section Stages

variable (x0 : Mat 8192 1024) (x1 : Mat 128 1024) (x2 : Mat 8192 1536) (x3 : Mat 1 128)

theorem kl0_at (r : Fin 8192) (d : Fin 128) : val_main_v0 (F := Ideal) x2 (ix2 r d) = kvLatent x2 (ix2 r d) := by
  pointwise [val_main_v0]
  rfl

theorem kl19_at (r : Fin 8192) (d : Fin 128) : val_main_v19 (F := Ideal) x0 x1 (ix2 r d) = mulNT x0 x1 r d := by
  pointwise [val_main_v19, val_main_v18, val_main_v16]
  rfl

theorem kl7_at (r : Fin 8192) : val_main_v7 (F := Ideal) x2 (ix2 r 0)
    = Ideal.div (∑ d, rowAt (kvLatent x2) r d * rowAt (kvLatent x2) r d) cKvWidth + cEps := by
  pointwise [val_main_v7, val_main_v6, val_main_v5, val_main_v4, val_main_v3, val_main_v2, val_main_v1, val_main_cst,
    val_main_cst_0, val_main_cst_1, kl0_at]
  rfl

theorem kl8_at (r : Fin 8192) : val_main_v8 (F := Ideal) x2 (ix2 r 0) = rstd cKvWidth cEps (rowAt (kvLatent x2) r) := by
  unfold rstd
  pointwise [val_main_v8, kl7_at]

theorem kl22_at (d : Fin 128) : val_main_v22 (F := Ideal) x0 x1 x2 (ix2 0 d)
    = ∑ R, rowGain cKvWidth (mulNT x0 x1) (kvLatent x2) R d := by
  unfold rowGain hat
  pointwise [val_main_v22, val_main_v21, val_main_v20, val_main_v13, val_main_v12, val_main_cst_3, kl19_at, kl8_at, kl0_at]
  exact Finset.sum_congr rfl fun R _ => mul_comm _ _

theorem kl24_at (r : Fin 8192) (d : Fin 128) :
    val_main_v24 (F := Ideal) x0 x1 x3 (ix2 r d) = mulNT x0 x1 r d * x3 (ix2 0 d) := by
  pointwise [val_main_v24, val_main_v23, kl19_at]

theorem kl34_at (r : Fin 8192) (d : Fin 128) :
    val_main_v34 (F := Ideal) x0 x1 x2 x3 (ix2 r d) = rowChain cKvWidth (mulNT x0 x1) (kvLatent x2) x3 r := by
  unfold rowChain chainFactor
  pointwise [val_main_v34, val_main_v33, val_main_v32, val_main_v31, val_main_v30, val_main_v27, val_main_v26, val_main_v25,
    val_main_v11, val_main_v10, val_main_v9, val_main_cst_2, val_main_cst_4, val_main_cst_5, val_main_cst_6, kl24_at, kl8_at,
    kl7_at, kl0_at]
  rw [Fin.sum_univ_one, kl8_at, kl7_at]
  rfl

theorem kl39_at (r : Fin 8192) (d : Fin 128) :
    val_main_v39 (F := Ideal) x0 x1 x2 x3 (ix2 r d) = rowGrad cKvWidth (mulNT x0 x1) (kvLatent x2) x3 r d := by
  rw [← rowGrad_chain cKvWidth_eq (by norm_num)]
  pointwise [val_main_v39, val_main_v38, val_main_v37, val_main_v36, val_main_v35, val_main_v29, val_main_v28, kl34_at, kl24_at,
    kl8_at, kl0_at]

end Stages

/-- The claim on the gradient through the key and value latent's expansion and norm. -/
theorem algebraic_kv_up : Cert.algebraic_KvUpBwdIdeal_KvLatentGradIdeal := by
  intro m g m' g' hpre hargs
  refine ⟨Cert.KvUpBwdIdeal.Block.A4 m, Cert.KvUpBwdIdeal.Block.A5 m,
    (θ_run _ _ _).mono (fun _ h c => ?_) (Cert.KvUpBwdIdeal.Value.run_blocks (F := Ideal) m g),
    (θ_run _ _ _).mono (fun _ h c => ?_) (Cert.KvLatentGradIdeal.Value.run (F := Ideal) m' g')⟩
  · obtain ⟨h4, h5, ha⟩ := h c
    exact ⟨h4.trans (Cert.KvUpBwdIdeal.Block.arr4 m c), h5.trans (Cert.KvUpBwdIdeal.Block.arr5 m c), ha⟩
  · obtain ⟨h0, h1, ha⟩ := h c
    obtain ⟨e0, e1, e2, e3⟩ := hargs c
    refine ⟨h0.trans ?_, h1.trans ?_, ha⟩
    · rw [val_main_v39_eq, e0, e1, e2, e3]
      funext y
      rw [eq_ix2 y]
      exact kl39_at _ _ _ _ (y 0) (y 1)
    · rw [val_main_v22_eq, e0, e1, e2]
      funext y
      obtain ⟨i, d, rfl⟩ : ∃ (i : Fin 1) (d : Fin 128), y = ix2 i d := ⟨y 0, y 1, eq_ix2 y⟩
      obtain rfl : i = 0 := Subsingleton.elim _ _
      exact kl22_at _ _ _ d

theorem frame_kv_up : Cert.quiescent_KvLatentGradIdeal := fun m ρ _ =>
  (θ_run _ _ _).mono (fun r h => ⟨fun c => (h c).2.2, sem_eq_zero_of_no_sems (by decide) r.2⟩) (Cert.KvLatentGradIdeal.Value.run m ρ)

end Cert.Grad

end

end
-- ==== Proof.ConvNormMath.lean ====
/-
  The gradient through a mean-and-variance norm of rows and the activation `y · logistic y` after it, as two different
  sequences of operations: the form the kernel computes and the form the chain rule gives. The two agree for every row, the
  gradient of the norm's result being real.
-/
module

public import proofs.«01_k».proof.Proof.NormRows

@[expose] public section

noncomputable section

namespace Cert.Grad

open Idealize.ShloMosaic
open scoped BigOperators

variable {n k : ℕ}

/-! ## The activation -/

/-- The gradient of `y · logistic y`, `d` that of the result: the kernel's form. -/
def siluBwd (y d : EReal) : EReal := d * (Ideal.logistic y * (1 + y * (1 - Ideal.logistic y)))

/-- The chain rule's form is the kernel's, and real, for every `y` and a real `d`. -/
theorem siluBwd_chain (y : EReal) (d : ℝ) : (d : EReal) * Ideal.logistic y
      + y * (d : EReal) * (Ideal.logistic y * (1 - Ideal.logistic y)) = siluBwd y d ∧ ∃ r : ℝ, siluBwd y d = (r : EReal) := by
  unfold siluBwd
  induction y with
  | bot => exact ⟨by simp, 0, by simp⟩
  | top =>
    have h : (1 : EReal) - 1 = 0 := by rw [← EReal.coe_one, ← EReal.coe_sub, sub_self, EReal.coe_zero]
    rw [Ideal.logistic_top, h]
    exact ⟨by simp, d, by simp⟩
  | coe y =>
    rw [Ideal.logistic_coe]
    generalize (1 + Real.exp (-y))⁻¹ = s
    exact ⟨by norm_cast; ring, _, by norm_cast⟩

/-! ## The norm -/

/-- The row less its mean, `c` its length. -/
def centred (c : EReal) (x : Fin n → EReal) (d : Fin n) : EReal := x d - Ideal.div (∑ q, x q) c

/-- The gradient of the norm at the centred row `x`, `dh` that of the normalised row: the kernel's form. -/
def layerBwd (c e : EReal) (x dh : Fin n → EReal) (d : Fin n) : EReal :=
  rstd c e x * (dh d - Ideal.div (∑ q, dh q) c - hat c e x d * Ideal.div (∑ q, dh q * hat c e x q) c)

/-- A sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A centred row whose entries are real sums to zero. -/
theorem centred_sum {c : ℝ} (hc : 0 < c) (hn : (n : ℝ) = c) (x : Fin n → EReal) (q : Fin n → ℝ)
    (hq : ∀ d, centred (c : EReal) x d = (q d : EReal)) : ∑ d, q d = 0 := by
  unfold centred at hq
  rw [Ideal.div_coe hc.ne'] at hq
  have hx : ∀ d, ∃ a : ℝ, x d = (a : EReal) := fun d => by
    have h := hq d
    generalize (∑ q, x q) * ((1 / c : ℝ) : EReal) = M at h
    generalize x d = y at h ⊢
    induction y with
    | bot => exact absurd h (by simp)
    | coe a => exact ⟨a, rfl⟩
    | top =>
      induction M with
      | bot => exact absurd h (by simp)
      | coe a => exact absurd h (by simp)
      | top => exact absurd h (by simp)
  choose a ha using hx
  have hs : ∑ d, x d = ((∑ d, a d : ℝ) : EReal) := by
    rw [coe_sum]
    exact Finset.sum_congr rfl fun d _ => ha d
  have e : ∀ d, q d = a d - (∑ d, a d) * (1 / c) := fun d => by
    have h := hq d
    rw [hs, ha d] at h
    exact_mod_cast h.symm
  rw [Finset.sum_congr rfl fun d _ => e d, Finset.sum_sub_distrib, Finset.sum_const, Finset.card_univ, Fintype.card_fin,
    nsmul_eq_mul, hn]
  field_simp
  ring

/-- THE GRADIENT OF THE NORM: the gradient of the centred row, less its mean, is the kernel's form. -/
theorem layerBwd_chain {c e : ℝ} (hc : 0 < c) (he : 0 < e) (hn : (n : ℝ) = c) (x dh : Fin n → EReal)
    (hdh : ∀ d, ∃ r : ℝ, dh d = (r : EReal)) (d : Fin n) :
    normBwd (c : EReal) (e : EReal) (centred (c : EReal) x) dh d
      + Ideal.div (∑ q, -normBwd (c : EReal) (e : EReal) (centred (c : EReal) x) dh q) (c : EReal)
    = layerBwd (c : EReal) (e : EReal) (centred (c : EReal) x) dh d := by
  have hat_is := hat_real hc he (centred (c : EReal) x)
  unfold normBwd layerBwd
  rcases mean_cases hc he (centred (c : EReal) x) with h | ⟨w, hw, h⟩
  · have h0 : rstd (c : EReal) (e : EReal) (centred (c : EReal) x) = 0 := by
      unfold rstd
      rw [h]
      rfl
    rw [h0]
    simp [Ideal.div_coe hc.ne']
  · have hr : rstd (c : EReal) (e : EReal) (centred (c : EReal) x) = (((Real.sqrt w)⁻¹ : ℝ) : EReal) := by
      unfold rstd
      rw [h, rsqrt_coe_pos hw]
    have hρ : 0 < (Real.sqrt w)⁻¹ := inv_pos.2 (Real.sqrt_pos.2 hw)
    generalize (Real.sqrt w)⁻¹ = ρ at hr hρ
    have hq : ∀ d, ∃ q : ℝ, centred (c : EReal) x d = (q : EReal) := fun d => by
      obtain ⟨r, h⟩ := hat_is d
      unfold hat at h
      rw [hr] at h
      generalize centred (c : EReal) x d = y at h ⊢
      induction y with
      | bot => exact absurd h (by rw [EReal.bot_mul_coe_of_pos hρ]; simp)
      | coe a => exact ⟨a, rfl⟩
      | top => exact absurd h (by rw [EReal.top_mul_coe_of_pos hρ]; simp)
    choose q hq using hq
    choose b hb using hdh
    have hq0 := centred_sum hc hn x q hq
    unfold hat
    simp only [hr, hq, hb, Ideal.div_coe hc.ne', ← EReal.coe_mul, ← coe_sum, ← EReal.coe_sub, ← EReal.coe_neg,
      ← EReal.coe_add]
    generalize (∑ k, b k * (q k * ρ)) * (1 / c) = s
    have hs : ∑ k, -(ρ * (b k - q k * ρ * s)) = -(ρ * ∑ k, b k) := by
      have h1 : ∀ k, -(ρ * (b k - q k * ρ * s)) = -(ρ * b k) + q k * (ρ * ρ * s) := fun k => by ring
      rw [Finset.sum_congr rfl fun k _ => h1 k, Finset.sum_add_distrib, ← Finset.sum_mul, hq0, zero_mul, add_zero,
        Finset.sum_neg_distrib, Finset.mul_sum]
    rw [hs]
    congr 1
    ring

/-! ## Norm, gains, biases and activation, of the rows of an array -/

/-- The rows less their means. -/
def centredRows (c : EReal) (x : Mat n k) : Mat n k := fun i => centred c (rowAt x (i 0)) (i 1)

/-- The activation's argument. -/
def actArg (c : EReal) (x : Mat n k) (g b : Mat 1 k) (r : Fin n) (d : Fin k) : EReal :=
  hat c cEps (rowAt (centredRows c x) r) d * g (ix2 0 d) + b (ix2 0 d)

/-- The gradient of the activation's argument, `du` that of its result. -/
def actGrad (c : EReal) (du x : Mat n k) (g b : Mat 1 k) (r : Fin n) (d : Fin k) : EReal :=
  siluBwd (actArg c x g b r d) (du (ix2 r d))

/-- The gradient of the rows before the norm. -/
def layerGrad (c : EReal) (du x : Mat n k) (g b : Mat 1 k) (r : Fin n) (d : Fin k) : EReal :=
  layerBwd c cEps (rowAt (centredRows c x) r) (fun q => actGrad c du x g b r q * g (ix2 0 q)) d

/-- A row's part of the gradient of the gains. -/
def layerGain (c : EReal) (du x : Mat n k) (g b : Mat 1 k) : Fin n → Fin k → EReal :=
  rowGain c (actGrad c du x g b) (centredRows c x)

section Rows

variable {n' : ℕ} {c : EReal} {du x : Mat n k} {du' x' : Mat n' k} {g b g' b' : Mat 1 k} {r : Fin n} {r' : Fin n'}
  (hdu : ∀ d, du (ix2 r d) = du' (ix2 r' d)) (hx : rowAt x r = rowAt x' r') (hg : ∀ d, g (ix2 0 d) = g' (ix2 0 d))
  (hb : ∀ d, b (ix2 0 d) = b' (ix2 0 d))

include hx in
theorem centredRows_congr : rowAt (centredRows c x) r = rowAt (centredRows c x') r' := by
  show centred c (rowAt x r) = centred c (rowAt x' r')
  rw [hx]

include hdu hx hg hb in
theorem actGrad_congr (d : Fin k) : actGrad c du x g b r d = actGrad c du' x' g' b' r' d := by
  unfold actGrad actArg
  rw [hdu, centredRows_congr hx, hg, hb]

include hdu hx hg hb in
theorem layerGain_congr (d : Fin k) : layerGain c du x g b r d = layerGain c du' x' g' b' r' d :=
  rowGain_congr (actGrad_congr hdu hx hg hb) (centredRows_congr hx) d

include hdu hx hg hb in
theorem layerGrad_congr (d : Fin k) : layerGrad c du x g b r d = layerGrad c du' x' g' b' r' d := by
  unfold layerGrad
  rw [centredRows_congr hx]
  simp only [actGrad_congr hdu hx hg hb, hg]

end Rows

/-- The chain rule's gradient of the rows before the norm is the kernel's form, the incoming gradient and the gains being
    real. -/
theorem layerGrad_chain {c : EReal} {w : ℝ} (hc : c = (w : EReal)) (hw : 0 < w) (hk : (k : ℝ) = w) (du x : Mat n k) (g b : Mat 1 k)
    (r : Fin n) (hdu : ∀ d, ∃ a : ℝ, du (ix2 r d) = (a : EReal)) (hg : ∀ d, ∃ a : ℝ, g (ix2 0 d) = (a : EReal)) (d : Fin k) :
    rowGrad c (actGrad c du x g b) (centredRows c x) g r d
      + Ideal.div (∑ q, -rowGrad c (actGrad c du x g b) (centredRows c x) g r q) c
    = layerGrad c du x g b r d := by
  obtain ⟨e, he, hE⟩ := cEps_real
  have hreal : ∀ q, ∃ a : ℝ, actGrad c du x g b r q * g (ix2 0 q) = (a : EReal) := fun q => by
    obtain ⟨u, hu⟩ := hdu q
    obtain ⟨v, hv⟩ := hg q
    obtain ⟨s, hs⟩ := (siluBwd_chain (actArg c x g b r q) u).2
    refine ⟨s * v, ?_⟩
    unfold actGrad
    rw [hu, hs, hv, EReal.coe_mul]
  have h := layerBwd_chain hw he hk (rowAt x r) (fun q => actGrad c du x g b r q * g (ix2 0 q)) hreal d
  rw [← hc, ← hE] at h
  exact h

end Cert.Grad

end

end
-- ==== Proof.ConvNorm.lean ====
/-
  The gradient of the activation and of the norm inside the convolution branch: of the rows before the norm, of the norm's
  gains and biases, and of the bias added before it. The gathering takes 32 blocks of 256 rows.
-/
module

public import proofs.«01_k».proof.Proof.ConvNormMath
public import proofs.«01_k».proof.Proof.MemAttnClaim
public import proofs.«01_k».proof.Proof.Gen.ConvNormBwd.Frame
public import proofs.«01_k».proof.Proof.Gen.ConvNormBwdIdeal.Frame
public import proofs.«01_k».proof.Proof.Gen.ConvNormBwdIdeal.Value
public import proofs.«01_k».proof.Proof.Gen.ConvNormGradIdeal.Read
public import proofs.«01_k».proof.Proof.Gen.ConvNormGradIdeal.Run
public import proofs.«01_k».proof.Defs

@[expose] public section

set_option maxRecDepth 16384

noncomputable section

namespace Cert.Grad

open Idealize.ShloMosaic
open scoped BigOperators

/-- The convolution branch's width, 512, as the programs spell it. -/
abbrev cConvWidth : EReal := Ideal.ofBits .f32 0x44000000#32

theorem cConvWidth_eq : cConvWidth = ((512 : ℝ) : EReal) := by
  simp [cConvWidth, Ideal.ofBits, Ideal.ieee, -EReal.coe_mul]; norm_num

/-- The row of an array of 8192 that row `r` of the block of 256 rows at point `t` is. -/
def convRow {N : ℕ} (t : Fin N) (r : Fin 256) : Fin 8192 := ⟨t.val % 32 * 256 + r.val, by omega⟩

end Cert.Grad

/-! ## The kernel -/

namespace Cert.ConvNormBwdIdeal.Block

open Idealize.ShloMosaic Idealize.ShloMosaic.TcCoe
open Cert.ConvNormBwdIdeal Cert.ConvNormBwdIdeal.Gen Cert.ConvNormBwdIdeal.Value Cert.Grad
open scoped BigOperators

section Payloads

variable (u x : Mat 256 512) (g b s : Mat 1 512)

theorem centred_at (r : Fin 256) (d : Fin 512) : k0_pay4 (F := Ideal) x (ix2 r d) = rowAt (centredRows cConvWidth x) r d := by
  show _ = centred cConvWidth (rowAt x r) d
  unfold centred
  pointwise [k0_pay4]
  rfl

theorem rstd_at (r : Fin 256) :
    k0_pay5 (F := Ideal) x (ix2 r 0) = rstd cConvWidth cEps (rowAt (centredRows cConvWidth x) r) := by
  unfold rstd
  pointwise [k0_pay5, centred_at]

theorem hat_at (r : Fin 256) (d : Fin 512) :
    k0_pay6 (F := Ideal) x (ix2 r d) = hat cConvWidth cEps (rowAt (centredRows cConvWidth x) r) d := by
  unfold hat
  pointwise [k0_pay6, centred_at, rstd_at]

theorem act_at (r : Fin 256) (d : Fin 512) : k0_pay7 (F := Ideal) x g b u (ix2 r d) = actGrad cConvWidth u x g b r d := by
  unfold actGrad siluBwd actArg
  pointwise [k0_pay7, hat_at]

theorem zeros_at (d : Fin 512) :
    k0_pay1 (F := Ideal) (ix2 0 d) = 0 ∧ k0_pay2 (F := Ideal) (ix2 0 d) = 0 ∧ k0_pay3 (F := Ideal) (ix2 0 d) = 0 := by
  refine ⟨?_, ?_, ?_⟩ <;> pointwise [k0_pay1, k0_pay2, k0_pay3]

theorem gain_at (d : Fin 512) : k0_pay10 (F := Ideal) (k0_pay8 s) (k0_pay9 x g b u) (ix2 0 d)
    = s (ix2 0 d) + ∑ r, layerGain cConvWidth u x g b r d := by
  unfold layerGain rowGain
  pointwise [k0_pay10, k0_pay8, k0_pay9, act_at, hat_at]

theorem bias_at (d : Fin 512) : k0_pay11 (F := Ideal) (k0_pay7 x g b u) s (ix2 0 d)
    = s (ix2 0 d) + ∑ r, actGrad cConvWidth u x g b r d := by
  pointwise [k0_pay11, act_at]

theorem dx_at (r : Fin 256) (d : Fin 512) :
    k0_pay12 (F := Ideal) (k0_pay5 x) (k0_pay6 x) (k0_pay7 x g b u) g (ix2 r d) = layerGrad cConvWidth u x g b r d := by
  unfold layerGrad layerBwd
  pointwise [k0_pay12, act_at, hat_at, rstd_at]

theorem before_at (d : Fin 512) : k0_pay13 (F := Ideal) (k0_pay5 x) (k0_pay6 x) (k0_pay7 x g b u) g s (ix2 0 d)
    = s (ix2 0 d) + ∑ r, layerGrad cConvWidth u x g b r d := by
  pointwise [k0_pay13, dx_at]

end Payloads

variable (m : (ℓ : Loc nD τ sig) → Buf (Elt Ideal) ℓ) (c : Dev nD)

/-- The incoming gradient. -/
abbrev xu : Mat 8192 512 := m ((c : Thread nD τ).loc main_arg0)
/-- The rows before the norm. -/
abbrev xx : Mat 8192 512 := m ((c : Thread nD τ).loc main_arg1)
/-- The gains. -/
abbrev xg : Mat 1 512 := m ((c : Thread nD τ).loc main_arg2)
/-- The biases. -/
abbrev xb : Mat 1 512 := m ((c : Thread nD τ).loc main_arg3)

theorem idx : ∀ t : Fin cfg0.N, win0_0.index t = ![t.val % 32, 0] ∧ win0_1.index t = ![t.val % 32, 0] ∧ win0_2.index t = ![0, 0]
    ∧ win0_3.index t = ![0, 0] ∧ win0_4.index t = ![t.val % 32, 0] ∧ win0_5.index t = ![0, 0] ∧ win0_6.index t = ![0, 0]
    ∧ win0_7.index t = ![0, 0] :=
  (by decide +kernel : ∀ t : Fin grid0.N, _)

theorem u_blk (t : Fin cfg0.N) (r : Fin 256) (d : Fin 512) : (iblk m c 0 t) (ix2 r d) = xu m c (ix2 (convRow t r) d) := by
  show (iblk m c 0 t) (ix2 r d) = (m ((c : Thread nD τ).loc main_arg0)) (ix2 _ _)
  blk_point [iblk, V, idx t, convRow]

theorem x_blk (t : Fin cfg0.N) (r : Fin 256) : rowAt (iblk m c 1 t) r = rowAt (xx m c) (convRow t r) := by
  funext d
  show (iblk m c 1 t) (ix2 r d) = (m ((c : Thread nD τ).loc main_arg1)) (ix2 _ _)
  blk_point [iblk, V, idx t, convRow]

theorem g_blk (t : Fin cfg0.N) (d : Fin 512) : (iblk m c 2 t) (ix2 0 d) = xg m c (ix2 0 d) := by
  show (iblk m c 2 t) (ix2 0 d) = (m ((c : Thread nD τ).loc main_arg2)) (ix2 _ _)
  blk_point [iblk, V, idx t]

theorem b_blk (t : Fin cfg0.N) (d : Fin 512) : (iblk m c 3 t) (ix2 0 d) = xb m c (ix2 0 d) := by
  show (iblk m c 3 t) (ix2 0 d) = (m ((c : Thread nD τ).loc main_arg3)) (ix2 _ _)
  blk_point [iblk, V, idx t]

/-- The gradient of the rows before the norm. -/
def A4 : FVec Ideal S8192x512 .f32 := fun i => layerGrad cConvWidth (xu m c) (xx m c) (xg m c) (xb m c) (i 0) (i 1)
/-- The gradient of the gains. -/
def A5 : FVec Ideal S1x512 .f32 := fun i => ∑ R, layerGain cConvWidth (xu m c) (xx m c) (xg m c) (xb m c) R (i 1)
/-- The gradient of the biases. -/
def A6 : FVec Ideal S1x512 .f32 := fun i => ∑ R, actGrad cConvWidth (xu m c) (xx m c) (xg m c) (xb m c) R (i 1)
/-- The gradient of the bias before the norm. -/
def A7 : FVec Ideal S1x512 .f32 := fun i => ∑ R, layerGrad cConvWidth (xu m c) (xx m c) (xg m c) (xb m c) R (i 1)

theorem step4 (t : Fin cfg0.N) (r : Fin 256) (d : Fin 512) :
    (outsAt0 m c t.val t.isLt).1 (ix2 r d) = A4 m c (ix2 (convRow t r) d) := by
  refine Eq.trans ?_ (layerGrad_congr (u_blk m c t r) (x_blk m c t r) (g_blk m c t) (b_blk m c t) d)
  by_cases h : t.val % 32 = 0
  · rw [outsAt0_A m c t h]; frame_out; exact dx_at _ _ _ _ _ _
  · rw [outsAt0_B m c t h]; frame_out; exact dx_at _ _ _ _ _ _

theorem left5 (t : Fin cfg0.N) (ht : t.val % 32 = 31) (d : Fin 512) :
    (outsAt0 m c t.val t.isLt).2.1 (ix2 0 d) = A5 m c (ix2 0 d) := by
  refine totals_gathered N_0 rfl convRow (fun _ _ => rfl) (fun n h => (outsAt0 m c n h).2.1)
    (layerGain cConvWidth (xu m c) (xx m c) (xg m c) (xb m c))
    (fun t d => ∑ r, layerGain cConvWidth (iblk m c 0 t) (iblk m c 1 t) (iblk m c 2 t) (iblk m c 3 t) r d)
    (fun t d => Finset.sum_congr rfl fun r _ =>
      layerGain_congr (u_blk m c t r) (x_blk m c t r) (g_blk m c t) (b_blk m c t) d) (fun t h d => ?_) (fun t h d => ?_) t ht d
  · rw [← (zeros_at d).1, ← gain_at, outsAt0_A m c t h]; frame_out
  · rw [← gain_at, outsAt0_B m c t h]; frame_out

theorem left6 (t : Fin cfg0.N) (ht : t.val % 32 = 31) (d : Fin 512) :
    (outsAt0 m c t.val t.isLt).2.2.1 (ix2 0 d) = A6 m c (ix2 0 d) := by
  refine totals_gathered N_0 rfl convRow (fun _ _ => rfl) (fun n h => (outsAt0 m c n h).2.2.1)
    (actGrad cConvWidth (xu m c) (xx m c) (xg m c) (xb m c))
    (fun t d => ∑ r, actGrad cConvWidth (iblk m c 0 t) (iblk m c 1 t) (iblk m c 2 t) (iblk m c 3 t) r d)
    (fun t d => Finset.sum_congr rfl fun r _ =>
      actGrad_congr (u_blk m c t r) (x_blk m c t r) (g_blk m c t) (b_blk m c t) d) (fun t h d => ?_) (fun t h d => ?_) t ht d
  · rw [← (zeros_at d).2.1, ← bias_at, outsAt0_A m c t h]; frame_out
  · rw [← bias_at, outsAt0_B m c t h]; frame_out

theorem left7 (t : Fin cfg0.N) (ht : t.val % 32 = 31) (d : Fin 512) :
    (outsAt0 m c t.val t.isLt).2.2.2 (ix2 0 d) = A7 m c (ix2 0 d) := by
  refine totals_gathered N_0 rfl convRow (fun _ _ => rfl) (fun n h => (outsAt0 m c n h).2.2.2)
    (layerGrad cConvWidth (xu m c) (xx m c) (xg m c) (xb m c))
    (fun t d => ∑ r, layerGrad cConvWidth (iblk m c 0 t) (iblk m c 1 t) (iblk m c 2 t) (iblk m c 3 t) r d)
    (fun t d => Finset.sum_congr rfl fun r _ =>
      layerGrad_congr (u_blk m c t r) (x_blk m c t r) (g_blk m c t) (b_blk m c t) d) (fun t h d => ?_) (fun t h d => ?_) t ht d
  · rw [← (zeros_at d).2.2, ← before_at, outsAt0_A m c t h]; frame_out
  · rw [← before_at, outsAt0_B m c t h]; frame_out

theorem arr4 : (dats m 0 c).arrAt 4 cfg0.N = A4 m c := by
  refine (dats m 0 c).arrAt_eq_of_covers 4 _ (by decide +kernel) fun t hf y => ?_
  blk_simp
  rw [after0_4, eq_ix2 y]
  refine (step4 m c t (y 0) (y 1)).trans (congrArg (A4 m c) (a₁ := ix2 (convRow t (y 0)) (y 1)) ?_)
  blk_ext [idx t, convRow]

/-- An index of an array of one row. -/
theorem one_row (y : S1x512.Idx) : ∃ d : Fin 512, y = ix2 0 d := by
  obtain ⟨i, d, rfl⟩ : ∃ (i : Fin 1) (d : Fin 512), y = ix2 i d := ⟨y 0, y 1, eq_ix2 y⟩
  obtain rfl : i = 0 := Subsingleton.elim _ _
  exact ⟨d, rfl⟩

theorem arr5 : (dats m 0 c).arrAt 5 cfg0.N = A5 m c := by
  refine (dats m 0 c).arrAt_eq_of_covers 5 _ (by decide +kernel) fun t hf y => ?_
  blk_simp
  rw [after0_5]
  obtain ⟨d, rfl⟩ := one_row y
  exact (left5 m c t ((flush0_5 t).mp hf) d).trans (congrArg (A5 m c) (a₁ := ix2 0 d) (by blk_ext [idx t]))

theorem arr6 : (dats m 0 c).arrAt 6 cfg0.N = A6 m c := by
  refine (dats m 0 c).arrAt_eq_of_covers 6 _ (by decide +kernel) fun t hf y => ?_
  blk_simp
  rw [after0_6]
  obtain ⟨d, rfl⟩ := one_row y
  exact (left6 m c t ((flush0_6 t).mp hf) d).trans (congrArg (A6 m c) (a₁ := ix2 0 d) (by blk_ext [idx t]))

theorem arr7 : (dats m 0 c).arrAt 7 cfg0.N = A7 m c := by
  refine (dats m 0 c).arrAt_eq_of_covers 7 _ (by decide +kernel) fun t hf y => ?_
  blk_simp
  rw [after0_7]
  obtain ⟨d, rfl⟩ := one_row y
  exact (left7 m c t ((flush0_7 t).mp hf) d).trans (congrArg (A7 m c) (a₁ := ix2 0 d) (by blk_ext [idx t]))

end Cert.ConvNormBwdIdeal.Block

/-! ## The reference -/

namespace Cert.Grad

open Idealize.ShloMosaic Idealize.ShloMosaic.TcCoe Idealize.SL.Sem
open Cert.ConvNormGradIdeal Cert.ConvNormGradIdeal.Read
open scoped BigOperators

section Stages

variable (x0 x1 : Mat 8192 512) (x2 x3 : Mat 1 512)

theorem cn5_at (r : Fin 8192) (d : Fin 512) : val_main_v5 (F := Ideal) x1 (ix2 r d) = rowAt (centredRows cConvWidth x1) r d := by
  show _ = centred cConvWidth (rowAt x1 r) d
  unfold centred
  pointwise [val_main_v5, val_main_v4, val_main_v3, val_main_v2, val_main_v1, val_main_v0,
    val_main_cst, val_main_cst_0]
  rfl

theorem cn12_at (r : Fin 8192) : val_main_v12 (F := Ideal) x1 (ix2 r 0)
    = Ideal.div (∑ d, rowAt (centredRows cConvWidth x1) r d * rowAt (centredRows cConvWidth x1) r d) cConvWidth + cEps := by
  pointwise [val_main_v12, val_main_v11, val_main_v10, val_main_v9, val_main_v8, val_main_v7, val_main_v6, val_main_cst_1,
    val_main_cst_2, val_main_cst_3, cn5_at]

theorem cn13_at (r : Fin 8192) :
    val_main_v13 (F := Ideal) x1 (ix2 r 0) = rstd cConvWidth cEps (rowAt (centredRows cConvWidth x1) r) := by
  unfold rstd
  pointwise [val_main_v13, cn12_at]

theorem cn18_at (r : Fin 8192) (d : Fin 512) :
    val_main_v18 (F := Ideal) x1 (ix2 r d) = hat cConvWidth cEps (rowAt (centredRows cConvWidth x1) r) d := by
  unfold hat
  pointwise [val_main_v18, val_main_v17, cn5_at, cn13_at]

theorem cn22_at (r : Fin 8192) (d : Fin 512) :
    val_main_v22 (F := Ideal) x1 x2 x3 (ix2 r d) = actArg cConvWidth x1 x2 x3 r d := by
  unfold actArg
  pointwise [val_main_v22, val_main_v21, val_main_v20, val_main_v19, cn18_at]

theorem cn23_at (r : Fin 8192) (d : Fin 512) :
    val_main_v23_2 (F := Ideal) x1 x2 x3 (ix2 r d) = Ideal.logistic (actArg cConvWidth x1 x2 x3 r d) := by
  unfold Ideal.logistic
  pointwise [val_main_v23_2, val_main_call0_v4, val_main_call0_v3, val_main_call0_v2, val_main_call0_v1, val_main_call0_v0,
    val_main_call0_cst, val_main_call0_cst_0, cn22_at]

/-- The gradient of the activation's argument, the incoming gradient being real. -/
theorem cn24_at (r : Fin 8192) (d : Fin 512) (hu : ∃ a : ℝ, x0 (ix2 r d) = (a : EReal)) :
    val_main_v24 (F := Ideal) x0 x1 x2 x3 (ix2 r d) = actGrad cConvWidth x0 x1 x2 x3 r d := by
  obtain ⟨a, ha⟩ := hu
  unfold actGrad
  rw [ha, ← (siluBwd_chain _ a).1]
  pointwise [val_main_v24, val_main_call1_v2, val_main_call1_v1, val_main_call1_v0, val_main_v23_1, val_main_call0_v7,
    val_main_call0_v6, val_main_call0_cst_1, cn23_at, cn22_at]
  rw [ha]

variable (hu : ∀ r d, ∃ a : ℝ, x0 (ix2 r d) = (a : EReal))

include hu

theorem cn26_at (d : Fin 512) : val_main_v26 (F := Ideal) x0 x1 x2 x3 (ix2 0 d) = ∑ R, actGrad cConvWidth x0 x1 x2 x3 R d := by
  pointwise [val_main_v26, val_main_v25, val_main_cst_5]
  exact Finset.sum_congr rfl fun R _ => cn24_at _ _ _ _ R d (hu R d)

theorem cn29_at (d : Fin 512) : val_main_v29 (F := Ideal) x0 x1 x2 x3 (ix2 0 d) = ∑ R, layerGain cConvWidth x0 x1 x2 x3 R d := by
  unfold layerGain rowGain
  pointwise [val_main_v29, val_main_v28, val_main_v27, val_main_cst_6, cn18_at]
  exact Finset.sum_congr rfl fun R _ => by rw [cn24_at _ _ _ _ R d (hu R d), mul_comm]

theorem cn31_at (r : Fin 8192) (d : Fin 512) :
    val_main_v31 (F := Ideal) x0 x1 x2 x3 (ix2 r d) = actGrad cConvWidth x0 x1 x2 x3 r d * x2 (ix2 0 d) := by
  rw [← cn24_at _ _ _ _ r d (hu r d)]
  pointwise [val_main_v31, val_main_v30]

theorem cn41_at (r : Fin 8192) (d : Fin 512) : val_main_v41 (F := Ideal) x0 x1 x2 x3 (ix2 r d)
    = rowChain cConvWidth (actGrad cConvWidth x0 x1 x2 x3) (centredRows cConvWidth x1) x2 r := by
  unfold rowChain chainFactor
  pointwise [val_main_v41, val_main_v40, val_main_v39, val_main_v38, val_main_v37, val_main_v34, val_main_v33, val_main_v32,
    val_main_v16, val_main_v15, val_main_v14, val_main_cst_4, val_main_cst_7, val_main_cst_8, val_main_cst_9, cn13_at, cn12_at,
    cn5_at]
  rw [Fin.sum_univ_one, cn13_at, cn12_at]
  simp only [cn31_at x0 x1 x2 x3 hu]

theorem cn45_at (r : Fin 8192) (d : Fin 512) : val_main_v45 (F := Ideal) x0 x1 x2 x3 (ix2 r d)
    = rowGrad cConvWidth (actGrad cConvWidth x0 x1 x2 x3) (centredRows cConvWidth x1) x2 r d := by
  rw [← rowGrad_chain cConvWidth_eq (by norm_num)]
  pointwise [val_main_v45, val_main_v44, val_main_v43, val_main_v42, val_main_v36, val_main_v35, cn5_at, cn13_at]
  rw [cn31_at x0 x1 x2 x3 hu, cn41_at x0 x1 x2 x3 hu]
  rfl

variable (hg : ∀ d, ∃ a : ℝ, x2 (ix2 0 d) = (a : EReal))

include hg

theorem cn53_at (r : Fin 8192) (d : Fin 512) :
    val_main_v53 (F := Ideal) x0 x1 x2 x3 (ix2 r d) = layerGrad cConvWidth x0 x1 x2 x3 r d := by
  rw [← layerGrad_chain cConvWidth_eq (by norm_num) (by norm_num) x0 x1 x2 x3 r (hu r) hg d]
  pointwise [val_main_v53, val_main_v52, val_main_v51, val_main_v50, val_main_v49, val_main_v48, val_main_v47, val_main_v46,
    val_main_cst_10, val_main_cst_11, val_main_cst_12]
  rw [Fin.sum_univ_one]
  simp only [cn45_at x0 x1 x2 x3 hu]

theorem cn59_at (d : Fin 512) : val_main_v59 (F := Ideal) x0 x1 x2 x3 (ix2 0 d) = ∑ R, layerGrad cConvWidth x0 x1 x2 x3 R d := by
  pointwise [val_main_v59, val_main_v58, val_main_cst_15]
  exact Finset.sum_congr rfl fun R _ => cn53_at x0 x1 x2 x3 hu hg R d

end Stages

/-! ## The precondition: the incoming gradient and the gains are real -/

instance convFacts : Cert.Pre_conv_finite.Facts := ⟨by decide, by decide, by decide⟩

/-- Of two conditions whose bits' conjunction is one, both hold. -/
theorem both_of_andi {p q : Prop} [Decidable p] [Decidable q]
    (h : IntOp.andi (BitVec.ofBool (decide p)) (BitVec.ofBool (decide q)) = 1#1) : p ∧ q := by
  by_cases hp : p <;> by_cases hq : q
  · exact ⟨hp, hq⟩
  all_goals
    simp only [hp, hq, decide_true, decide_false] at h
    exact absurd h (by decide)

theorem conv_real (x0 x1 : Mat 8192 512) (x2 x3 : Mat 1 512)
    (h : Cert.Pre_conv_finite.fn (F := Ideal) x0 x1 x2 x3 = fun _ => 1#1) (r : Fin 8192) (d : Fin 512) :
    (∃ a : ℝ, x0 (ix2 r d) = (a : EReal)) ∧ ∃ a : ℝ, x2 (ix2 0 d) = (a : EReal) := by
  have e' : IntOp.andi
      (BitVec.ofBool (decide (FloatOps.absf (F := Ideal) (φ := .f32) (x0 (ix2 r d)) < Ideal.ofBits .f32 0x7F800000#32)))
      (BitVec.ofBool (decide (FloatOps.absf (F := Ideal) (φ := .f32) (x2 (ix2 0 d)) < Ideal.ofBits .f32 0x7F800000#32)))
      = 1#1 := by
    rw [← congrFun h (ix2 r d)]
    pointwise [Cert.Pre_conv_finite.fn]
  obtain ⟨h0, h2⟩ := both_of_andi e'
  exact ⟨real_of_abs_lt _ h0, real_of_abs_lt _ h2⟩

/-- The claim on the gradient of the convolution branch's norm and activation. -/
theorem algebraic_conv_norm : Cert.algebraic_ConvNormBwdIdeal_ConvNormGradIdeal_pre_conv_finite (hPre_conv_finite := convFacts) := by
  intro m g m' g' hpre hargs
  have hr := fun c => conv_real _ _ _ _ (hpre c)
  refine ⟨Cert.ConvNormBwdIdeal.Block.A4 m, Cert.ConvNormBwdIdeal.Block.A5 m, Cert.ConvNormBwdIdeal.Block.A6 m,
    Cert.ConvNormBwdIdeal.Block.A7 m,
    (θ_run _ _ _).mono (fun _ h c => ?_) (Cert.ConvNormBwdIdeal.Value.run_blocks (F := Ideal) m g),
    (θ_run _ _ _).mono (fun _ h c => ?_) (Cert.ConvNormGradIdeal.Value.run (F := Ideal) m' g')⟩
  · obtain ⟨h4, h5, h6, h7, ha⟩ := h c
    exact ⟨h4.trans (Cert.ConvNormBwdIdeal.Block.arr4 m c), h5.trans (Cert.ConvNormBwdIdeal.Block.arr5 m c),
      h6.trans (Cert.ConvNormBwdIdeal.Block.arr6 m c), h7.trans (Cert.ConvNormBwdIdeal.Block.arr7 m c), ha⟩
  · obtain ⟨h0, h1, h2, h3, ha⟩ := h c
    obtain ⟨e0, e1, e2, e3⟩ := hargs c
    have hu := fun r d => (hr c r d).1
    have hg := fun d => (hr c 0 d).2
    refine ⟨h0.trans ?_, h1.trans ?_, h2.trans ?_, h3.trans ?_, ha⟩
    · rw [val_main_v53_eq, e0, e1, e2, e3]
      funext y
      rw [eq_ix2 y]
      exact cn53_at _ _ _ _ hu hg (y 0) (y 1)
    · rw [val_main_v29_eq, e0, e1, e2, e3]
      funext y
      obtain ⟨d, rfl⟩ := Cert.ConvNormBwdIdeal.Block.one_row y
      exact cn29_at _ _ _ _ hu d
    · rw [val_main_v26_eq, e0, e1, e2, e3]
      funext y
      obtain ⟨d, rfl⟩ := Cert.ConvNormBwdIdeal.Block.one_row y
      exact cn26_at _ _ _ _ hu d
    · rw [val_main_v59_eq, e0, e1, e2, e3]
      funext y
      obtain ⟨d, rfl⟩ := Cert.ConvNormBwdIdeal.Block.one_row y
      exact cn59_at _ _ _ _ hu hg d

/-- The reference ends with its arguments unchanged and with every counter at zero. -/
theorem conv_norm_frame : Cert.quiescent_ConvNormGradIdeal := fun m ρ _ =>
  (θ_run _ _ _).mono (fun r h => ⟨fun c => (h c).2.2.2.2, sem_eq_zero_of_no_sems (by decide) r.2⟩) (Cert.ConvNormGradIdeal.Value.run m ρ)

end Cert.Grad

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.UpBwd
public import proofs.«01_k».proof.Proof.Gen.UpBwdIdeal
public import proofs.«01_k».proof.Proof.Gen.UpBwd.Skeleton
public import proofs.«01_k».proof.Proof.Gen.UpBwdIdeal.Skeleton
public import proofs.«01_k».proof.Proof.Gen.UpBwd.Launch
public import proofs.«01_k».proof.Proof.Gen.UpBwdIdeal.Launch
public import proofs.«01_k».proof.Proof.Gen.UpBwd.Points
public import proofs.«01_k».proof.Proof.Gen.UpBwdIdeal.Points
public import proofs.«01_k».proof.Proof.Gen.UpBwd.Frame
public import proofs.«01_k».proof.Proof.Gen.UpBwdIdeal.Frame
public import proofs.«01_k».proof.Proof.Gen.UpGradIdeal
public import proofs.«01_k».proof.Proof.Gen.UpBwdIdeal.Value
public import proofs.«01_k».proof.Proof.Gen.UpGradIdeal.Run
public import proofs.«01_k».proof.Proof.Gen.UpGradIdeal.Read
public import proofs.«01_k».proof.Proof.Gen.DwUp
public import proofs.«01_k».proof.Proof.Gen.DwUpIdeal
public import proofs.«01_k».proof.Proof.Gen.DwUp.Skeleton
public import proofs.«01_k».proof.Proof.Gen.DwUpIdeal.Skeleton
public import proofs.«01_k».proof.Proof.Gen.DwUp.Launch
public import proofs.«01_k».proof.Proof.Gen.DwUpIdeal.Launch
public import proofs.«01_k».proof.Proof.Gen.DwUp.Points
public import proofs.«01_k».proof.Proof.Gen.DwUpIdeal.Points
public import proofs.«01_k».proof.Proof.Gen.DwUp.Frame
public import proofs.«01_k».proof.Proof.Gen.DwUpIdeal.Frame
public import proofs.«01_k».proof.Proof.Gen.UpWeightGradIdeal
public import proofs.«01_k».proof.Proof.Gen.DwUpIdeal.Value
public import proofs.«01_k».proof.Proof.Gen.UpWeightGradIdeal.Run
public import proofs.«01_k».proof.Proof.Gen.UpWeightGradIdeal.Read
public import proofs.«01_k».proof.Proof.Gen.DownBwd
public import proofs.«01_k».proof.Proof.Gen.DownBwdIdeal
public import proofs.«01_k».proof.Proof.Gen.DownBwd.Skeleton
public import proofs.«01_k».proof.Proof.Gen.DownBwdIdeal.Skeleton
public import proofs.«01_k».proof.Proof.Gen.DownBwd.Launch
public import proofs.«01_k».proof.Proof.Gen.DownBwdIdeal.Launch
public import proofs.«01_k».proof.Proof.Gen.DownBwd.Points
public import proofs.«01_k».proof.Proof.Gen.DownBwdIdeal.Points
public import proofs.«01_k».proof.Proof.Gen.DownBwd.Frame
public import proofs.«01_k».proof.Proof.Gen.DownBwdIdeal.Frame
public import proofs.«01_k».proof.Proof.Gen.DownGradIdeal
public import proofs.«01_k».proof.Proof.Gen.DownBwdIdeal.Value
public import proofs.«01_k».proof.Proof.Gen.DownGradIdeal.Run
public import proofs.«01_k».proof.Proof.Gen.DownGradIdeal.Read
public import proofs.«01_k».proof.Proof.Gen.DwDown
public import proofs.«01_k».proof.Proof.Gen.DwDownIdeal
public import proofs.«01_k».proof.Proof.Gen.DwDown.Skeleton
public import proofs.«01_k».proof.Proof.Gen.DwDownIdeal.Skeleton
public import proofs.«01_k».proof.Proof.Gen.DwDown.Launch
public import proofs.«01_k».proof.Proof.Gen.DwDownIdeal.Launch
public import proofs.«01_k».proof.Proof.Gen.DwDown.Points
public import proofs.«01_k».proof.Proof.Gen.DwDownIdeal.Points
public import proofs.«01_k».proof.Proof.Gen.DwDown.Frame
public import proofs.«01_k».proof.Proof.Gen.DwDownIdeal.Frame
public import proofs.«01_k».proof.Proof.Gen.DownWeightGradIdeal
public import proofs.«01_k».proof.Proof.Gen.DwDownIdeal.Value
public import proofs.«01_k».proof.Proof.Gen.DownWeightGradIdeal.Run
public import proofs.«01_k».proof.Proof.Gen.DownWeightGradIdeal.Read
public import proofs.«01_k».proof.Proof.Gen.DownLoss
public import proofs.«01_k».proof.Proof.Gen.DownLossIdeal
public import proofs.«01_k».proof.Proof.Gen.DownLoss.Skeleton
public import proofs.«01_k».proof.Proof.Gen.DownLossIdeal.Skeleton
public import proofs.«01_k».proof.Proof.Gen.DownLoss.Launch
public import proofs.«01_k».proof.Proof.Gen.DownLossIdeal.Launch
public import proofs.«01_k».proof.Proof.Gen.DownLoss.Points
public import proofs.«01_k».proof.Proof.Gen.DownLossIdeal.Points
public import proofs.«01_k».proof.Proof.Gen.DownLoss.Frame
public import proofs.«01_k».proof.Proof.Gen.DownLossIdeal.Frame
public import proofs.«01_k».proof.Proof.Gen.LossGradIdeal
public import proofs.«01_k».proof.Proof.Gen.DownLossIdeal.Value
public import proofs.«01_k».proof.Proof.Gen.LossGradIdeal.Run
public import proofs.«01_k».proof.Proof.Gen.LossGradIdeal.Read
public import proofs.«01_k».proof.Proof.Gen.DwSquare.Frame
public import proofs.«01_k».proof.Proof.Gen.DwSquareIdeal.Frame
public import proofs.«01_k».proof.Proof.Gen.DwSquareIdeal.Value
public import proofs.«01_k».proof.Proof.Gen.SquareWeightGradIdeal.Read
public import proofs.«01_k».proof.Proof.Gen.SquareWeightGradIdeal.Run
public import proofs.«01_k».proof.Proof.Gen.MemoProj.Frame
public import proofs.«01_k».proof.Proof.Gen.MemoProjIdeal.Frame
public import proofs.«01_k».proof.Proof.Gen.MemoProjIdeal.Value
public import proofs.«01_k».proof.Proof.Gen.MemoryOutIdeal.Read
public import proofs.«01_k».proof.Proof.Gen.MemoryOutIdeal.Run
public import proofs.«01_k».proof.Proof.Gen.MemoBwd.Frame
public import proofs.«01_k».proof.Proof.Gen.MemoBwdIdeal.Frame
public import proofs.«01_k».proof.Proof.Gen.MemoBwdIdeal.Value
public import proofs.«01_k».proof.Proof.Gen.MemoryOutGradIdeal.Read
public import proofs.«01_k».proof.Proof.Gen.MemoryOutGradIdeal.Run
public import proofs.«01_k».proof.Proof.Gen.MemqBwd.Frame
public import proofs.«01_k».proof.Proof.Gen.MemqBwdIdeal.Frame
public import proofs.«01_k».proof.Proof.Gen.MemqBwdIdeal.Value
public import proofs.«01_k».proof.Proof.Gen.MemoryQueryGradIdeal.Read
public import proofs.«01_k».proof.Proof.Gen.MemoryQueryGradIdeal.Run
public import proofs.«01_k».proof.Proof.Gen.MemqProj.Frame
public import proofs.«01_k».proof.Proof.Gen.MemqProjIdeal.Frame
public import proofs.«01_k».proof.Proof.Gen.MemqProjIdeal.Value
public import proofs.«01_k».proof.Proof.Gen.MemoryQueryIdeal.Read
public import proofs.«01_k».proof.Proof.Gen.MemoryQueryIdeal.Run
public import proofs.«01_k».proof.Proof.Gen.UpProj.Frame
public import proofs.«01_k».proof.Proof.Gen.UpProjIdeal.Frame
public import proofs.«01_k».proof.Proof.Gen.UpProductIdeal.Read
public import proofs.«01_k».proof.Proof.Gen.UpProductIdeal.Run
public import proofs.«01_k».proof.Proof.Gen.InBwd.Frame
public import proofs.«01_k».proof.Proof.Gen.InBwdIdeal.Frame
public import proofs.«01_k».proof.Proof.Gen.InBwdIdeal.Value
public import proofs.«01_k».proof.Proof.Gen.InGradIdeal.Read
public import proofs.«01_k».proof.Proof.Gen.InGradIdeal.Run
public import proofs.«01_k».proof.Proof.Gen.InProj.Frame
public import proofs.«01_k».proof.Proof.Gen.InProjIdeal.Frame
public import proofs.«01_k».proof.Proof.Gen.InProjIdeal.Value
public import proofs.«01_k».proof.Proof.Gen.InProductIdeal.Read
public import proofs.«01_k».proof.Proof.Gen.InProductIdeal.Run
public import proofs.«01_k».proof.Proof.Gen.OutProj.Frame
public import proofs.«01_k».proof.Proof.Gen.OutProjIdeal.Frame
public import proofs.«01_k».proof.Proof.Gen.OutProjIdeal.Value
public import proofs.«01_k».proof.Proof.Gen.MixOutIdeal.Read
public import proofs.«01_k».proof.Proof.Gen.MixOutIdeal.Run
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInStepIdeal.Read
public import proofs.«01_k».proof.Proof.Gen.AdamInStepIdeal.Run
public import proofs.«01_k».proof.Proof.Gen.AdamUq.Frame
public import proofs.«01_k».proof.Proof.Gen.AdamUqIdeal.Frame
public import proofs.«01_k».proof.Proof.Gen.AdamUqIdeal.Value
public import proofs.«01_k».proof.Proof.Gen.AdamUqStepIdeal.Read
public import proofs.«01_k».proof.Proof.Gen.AdamUqStepIdeal.Run
public import proofs.«01_k».proof.Proof.Gen.AdamUkv.Frame
public import proofs.«01_k».proof.Proof.Gen.AdamUkvIdeal.Frame
public import proofs.«01_k».proof.Proof.Gen.AdamUkvIdeal.Value
public import proofs.«01_k».proof.Proof.Gen.AdamUkvStepIdeal.Read
public import proofs.«01_k».proof.Proof.Gen.AdamUkvStepIdeal.Run
public import proofs.«01_k».proof.Proof.Gen.AdamSquare.Frame
public import proofs.«01_k».proof.Proof.Gen.AdamSquareIdeal.Frame
public import proofs.«01_k».proof.Proof.Gen.AdamSquareIdeal.Value
public import proofs.«01_k».proof.Proof.Gen.AdamSquareStepIdeal.Read
public import proofs.«01_k».proof.Proof.Gen.AdamSquareStepIdeal.Run
public import proofs.«01_k».proof.Proof.Gen.AdamMemKv.Frame
public import proofs.«01_k».proof.Proof.Gen.AdamMemKvIdeal.Frame
public import proofs.«01_k».proof.Proof.Gen.AdamMemKvIdeal.Value
public import proofs.«01_k».proof.Proof.Gen.AdamMemKvStepIdeal.Read
public import proofs.«01_k».proof.Proof.Gen.AdamMemKvStepIdeal.Run
public import proofs.«01_k».proof.Proof.Gen.AdamUp.Frame
public import proofs.«01_k».proof.Proof.Gen.AdamUpIdeal.Frame
public import proofs.«01_k».proof.Proof.Gen.AdamUpIdeal.Value
public import proofs.«01_k».proof.Proof.Gen.AdamUpStepIdeal.Read
public import proofs.«01_k».proof.Proof.Gen.AdamUpStepIdeal.Run
public import proofs.«01_k».proof.Proof.Gen.AdamDown.Frame
public import proofs.«01_k».proof.Proof.Gen.AdamDownIdeal.Frame
public import proofs.«01_k».proof.Proof.Gen.AdamDownIdeal.Value
public import proofs.«01_k».proof.Proof.Gen.AdamDownStepIdeal.Read
public import proofs.«01_k».proof.Proof.Gen.AdamDownStepIdeal.Run
public import proofs.«01_k».proof.Proof.Gen.UpProjIdeal.Skeleton
public import proofs.«01_k».proof.Proof.Gen.DwOutU.Frame
public import proofs.«01_k».proof.Proof.Gen.DwOutUIdeal.Frame
public import proofs.«01_k».proof.Proof.Gen.DwOutUIdeal.Value
public import proofs.«01_k».proof.Proof.Gen.OutUWeightGradIdeal.Read
public import proofs.«01_k».proof.Proof.Gen.OutUWeightGradIdeal.Run
public import proofs.«01_k».proof.Proof.Gen.DwUq.Frame
public import proofs.«01_k».proof.Proof.Gen.DwUqIdeal.Frame
public import proofs.«01_k».proof.Proof.Gen.DwUqIdeal.Value
public import proofs.«01_k».proof.Proof.Gen.UqWeightGradIdeal.Read
public import proofs.«01_k».proof.Proof.Gen.UqWeightGradIdeal.Run
public import proofs.«01_k».proof.Proof.Gen.DwUkv.Frame
public import proofs.«01_k».proof.Proof.Gen.DwUkvIdeal.Frame
public import proofs.«01_k».proof.Proof.Gen.DwUkvIdeal.Value
public import proofs.«01_k».proof.Proof.Gen.UkvWeightGradIdeal.Read
public import proofs.«01_k».proof.Proof.Gen.UkvWeightGradIdeal.Run
public import proofs.«01_k».proof.Proof.Gen.DwInQuery.Frame
public import proofs.«01_k».proof.Proof.Gen.DwInQueryIdeal.Frame
public import proofs.«01_k».proof.Proof.Gen.DwInQueryIdeal.Value
public import proofs.«01_k».proof.Proof.Gen.InQueryWeightGradIdeal.Read
public import proofs.«01_k».proof.Proof.Gen.InQueryWeightGradIdeal.Run
public import proofs.«01_k».proof.Proof.Gen.DwInKv.Frame
public import proofs.«01_k».proof.Proof.Gen.DwInKvIdeal.Frame
public import proofs.«01_k».proof.Proof.Gen.DwInKvIdeal.Value
public import proofs.«01_k».proof.Proof.Gen.InKvWeightGradIdeal.Read
public import proofs.«01_k».proof.Proof.Gen.InKvWeightGradIdeal.Run
public import proofs.«01_k».proof.Proof.Gen.DwInRope.Frame
public import proofs.«01_k».proof.Proof.Gen.DwInRopeIdeal.Frame
public import proofs.«01_k».proof.Proof.Gen.DwInRopeIdeal.Value
public import proofs.«01_k».proof.Proof.Gen.InRopeWeightGradIdeal.Read
public import proofs.«01_k».proof.Proof.Gen.InRopeWeightGradIdeal.Run
public import proofs.«01_k».proof.Proof.Gen.DwMemKv.Frame
public import proofs.«01_k».proof.Proof.Gen.DwMemKvIdeal.Frame
public import proofs.«01_k».proof.Proof.Gen.DwMemKvIdeal.Value
public import proofs.«01_k».proof.Proof.Gen.MemKvWeightGradIdeal.Read
public import proofs.«01_k».proof.Proof.Gen.MemKvWeightGradIdeal.Run
public import proofs.«01_k».proof.Proof.Gen.MemkvBwd.Frame
public import proofs.«01_k».proof.Proof.Gen.MemkvBwdIdeal.Frame
public import proofs.«01_k».proof.Proof.Gen.MemkvBwdIdeal.Value
public import proofs.«01_k».proof.Proof.Gen.MemoryKvGradIdeal.Read
public import proofs.«01_k».proof.Proof.Gen.MemoryKvGradIdeal.Run
public import proofs.«01_k».proof.Proof.Gen.QueryUpBwd.Frame
public import proofs.«01_k».proof.Proof.Gen.QueryUpBwdIdeal.Frame
public import proofs.«01_k».proof.Proof.Gen.QueryUpBwdIdeal.Value
public import proofs.«01_k».proof.Proof.Gen.QueryLatentGradIdeal.Read
public import proofs.«01_k».proof.Proof.Gen.QueryLatentGradIdeal.Run
public import proofs.«01_k».proof.Proof.Gen.KvUpBwd.Frame
public import proofs.«01_k».proof.Proof.Gen.KvUpBwdIdeal.Frame
public import proofs.«01_k».proof.Proof.Gen.KvUpBwdIdeal.Value
public import proofs.«01_k».proof.Proof.Gen.KvLatentGradIdeal.Read
public import proofs.«01_k».proof.Proof.Gen.KvLatentGradIdeal.Run
public import proofs.«01_k».proof.Proof.Gen.ConvNormBwd.Frame
public import proofs.«01_k».proof.Proof.Gen.ConvNormBwdIdeal.Frame
public import proofs.«01_k».proof.Proof.Gen.ConvNormBwdIdeal.Value
public import proofs.«01_k».proof.Proof.Gen.ConvNormGradIdeal.Read
public import proofs.«01_k».proof.Proof.Gen.ConvNormGradIdeal.Run
public import proofs.«01_k».proof.Proof.MemAttnClaim
public import proofs.«01_k».proof.Proof.UpBwd
public import proofs.«01_k».proof.Proof.DwUp
public import proofs.«01_k».proof.Proof.DownBwd
public import proofs.«01_k».proof.Proof.DwDown
public import proofs.«01_k».proof.Proof.DownLoss
public import proofs.«01_k».proof.Proof.DwSquare
public import proofs.«01_k».proof.Proof.MemoLinear
public import proofs.«01_k».proof.Proof.MemqBwd
public import proofs.«01_k».proof.Proof.MemqProj
public import proofs.«01_k».proof.Proof.UpProj
public import proofs.«01_k».proof.Proof.InBwd
public import proofs.«01_k».proof.Proof.InProj
public import proofs.«01_k».proof.Proof.OutProj
public import proofs.«01_k».proof.Proof.Adam
public import Idealize.ShloMosaic.Adequacy
public import Idealize.ShloMosaic.Init
public import proofs.«01_k».proof.Proof.DwMixer
public import proofs.«01_k».proof.Proof.DwInput
public import proofs.«01_k».proof.Proof.DwMemKv
public import proofs.«01_k».proof.Proof.MemkvBwd
public import proofs.«01_k».proof.Proof.LatentBwd
public import proofs.«01_k».proof.Proof.ConvNorm

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.UpBwd.Gen.facts, Cert.UpBwdIdeal.Gen.facts, Cert.UpGradIdeal.Gen.facts,
  Cert.DwUp.Gen.facts, Cert.DwUpIdeal.Gen.facts, Cert.UpWeightGradIdeal.Gen.facts,
  Cert.DownBwd.Gen.facts, Cert.DownBwdIdeal.Gen.facts, Cert.DownGradIdeal.Gen.facts,
  Cert.DwDown.Gen.facts, Cert.DwDownIdeal.Gen.facts, Cert.DownWeightGradIdeal.Gen.facts,
  Cert.DownLoss.Gen.facts, Cert.DownLossIdeal.Gen.facts, Cert.LossGradIdeal.Gen.facts,
  Cert.DwSquare.Gen.facts, Cert.DwSquareIdeal.Gen.facts, Cert.SquareWeightGradIdeal.Gen.facts,
  Cert.MemoProj.Gen.facts, Cert.MemoProjIdeal.Gen.facts, Cert.MemoryOutIdeal.Gen.facts,
  Cert.MemoBwd.Gen.facts, Cert.MemoBwdIdeal.Gen.facts, Cert.MemoryOutGradIdeal.Gen.facts,
  Cert.MemqBwd.Gen.facts, Cert.MemqBwdIdeal.Gen.facts, Cert.MemoryQueryGradIdeal.Gen.facts,
  Cert.MemqProj.Gen.facts, Cert.MemqProjIdeal.Gen.facts, Cert.MemoryQueryIdeal.Gen.facts,
  Cert.UpProj.Gen.facts, Cert.UpProjIdeal.Gen.facts, Cert.UpProductIdeal.Gen.facts,
  Cert.InBwd.Gen.facts, Cert.InBwdIdeal.Gen.facts, Cert.InGradIdeal.Gen.facts,
  Cert.InProj.Gen.facts, Cert.InProjIdeal.Gen.facts, Cert.InProductIdeal.Gen.facts,
  Cert.OutProj.Gen.facts, Cert.OutProjIdeal.Gen.facts, Cert.MixOutIdeal.Gen.facts,
  Cert.AdamIn.Gen.facts, Cert.AdamInIdeal.Gen.facts, Cert.AdamInStepIdeal.Gen.facts,
  Cert.AdamUq.Gen.facts, Cert.AdamUqIdeal.Gen.facts, Cert.AdamUqStepIdeal.Gen.facts,
  Cert.AdamUkv.Gen.facts, Cert.AdamUkvIdeal.Gen.facts, Cert.AdamUkvStepIdeal.Gen.facts,
  Cert.AdamSquare.Gen.facts, Cert.AdamSquareIdeal.Gen.facts, Cert.AdamSquareStepIdeal.Gen.facts,
  Cert.AdamMemKv.Gen.facts, Cert.AdamMemKvIdeal.Gen.facts, Cert.AdamMemKvStepIdeal.Gen.facts,
  Cert.AdamUp.Gen.facts, Cert.AdamUpIdeal.Gen.facts, Cert.AdamUpStepIdeal.Gen.facts,
  Cert.AdamDown.Gen.facts, Cert.AdamDownIdeal.Gen.facts, Cert.AdamDownStepIdeal.Gen.facts,
  Cert.DwOutU.Gen.facts, Cert.DwOutUIdeal.Gen.facts, Cert.OutUWeightGradIdeal.Gen.facts,
  Cert.DwUq.Gen.facts, Cert.DwUqIdeal.Gen.facts, Cert.UqWeightGradIdeal.Gen.facts,
  Cert.DwUkv.Gen.facts, Cert.DwUkvIdeal.Gen.facts, Cert.UkvWeightGradIdeal.Gen.facts,
  Cert.DwInQuery.Gen.facts, Cert.DwInQueryIdeal.Gen.facts, Cert.InQueryWeightGradIdeal.Gen.facts,
  Cert.DwInKv.Gen.facts, Cert.DwInKvIdeal.Gen.facts, Cert.InKvWeightGradIdeal.Gen.facts,
  Cert.DwInRope.Gen.facts, Cert.DwInRopeIdeal.Gen.facts, Cert.InRopeWeightGradIdeal.Gen.facts,
  Cert.DwMemKv.Gen.facts, Cert.DwMemKvIdeal.Gen.facts, Cert.MemKvWeightGradIdeal.Gen.facts,
  Cert.MemkvBwd.Gen.facts, Cert.MemkvBwdIdeal.Gen.facts, Cert.MemoryKvGradIdeal.Gen.facts,
  Cert.QueryUpBwd.Gen.facts, Cert.QueryUpBwdIdeal.Gen.facts, Cert.QueryLatentGradIdeal.Gen.facts,
  Cert.KvUpBwd.Gen.facts, Cert.KvUpBwdIdeal.Gen.facts, Cert.KvLatentGradIdeal.Gen.facts,
  Cert.ConvNormBwd.Gen.facts, Cert.ConvNormBwdIdeal.Gen.facts, Cert.ConvNormGradIdeal.Gen.facts,
  Cert.Grad.gainsFacts, Cert.Grad.convFacts,
  fun m ρ _ => Cert.Kernel.Gen.frame m ρ,
  fun m ρ _ => Cert.KernelIdeal.Gen.frame m ρ,
  fun m ρ _ => Cert.KernelIdeal.Gen.frame m ρ,
  fun m ρ _ => Cert.Grad.reference_frame m ρ,
  fun m ρ _ => Cert.Grad.reference_frame m ρ,
  fun m ρ _ => Cert.UpBwd.Gen.frame m ρ, fun m ρ _ => Cert.UpBwdIdeal.Gen.frame m ρ, Cert.Grad.frame_up,
  fun m ρ _ => Cert.DwUp.Gen.frame m ρ, fun m ρ _ => Cert.DwUpIdeal.Gen.frame m ρ, Cert.Grad.frame_up_weight,
  fun m ρ _ => Cert.DownBwd.Gen.frame m ρ, fun m ρ _ => Cert.DownBwdIdeal.Gen.frame m ρ, Cert.Grad.frame_down_grad,
  fun m ρ _ => Cert.DwDown.Gen.frame m ρ, fun m ρ _ => Cert.DwDownIdeal.Gen.frame m ρ, Cert.Grad.frame_down_weight,
  fun m ρ _ => Cert.DownLoss.Gen.frame m ρ, fun m ρ _ => Cert.DownLossIdeal.Gen.frame m ρ, Cert.Grad.frame_loss,
  fun m ρ _ => Cert.DwSquare.Gen.frame m ρ, fun m ρ _ => Cert.DwSquareIdeal.Gen.frame m ρ, Cert.Grad.frame_square_weight,
  fun m ρ _ => Cert.MemoProj.Gen.frame m ρ, fun m ρ _ => Cert.MemoProjIdeal.Gen.frame m ρ, Cert.Grad.frame_memo,
  fun m ρ _ => Cert.MemoBwd.Gen.frame m ρ, fun m ρ _ => Cert.MemoBwdIdeal.Gen.frame m ρ, Cert.Grad.frame_memo_grad,
  fun m ρ _ => Cert.MemqBwd.Gen.frame m ρ, fun m ρ _ => Cert.MemqBwdIdeal.Gen.frame m ρ, Cert.Grad.frame_memq,
  fun m ρ _ => Cert.MemqProj.Gen.frame m ρ, fun m ρ _ => Cert.MemqProjIdeal.Gen.frame m ρ, Cert.Grad.frame_query,
  Cert.Grad.frame_up_proj, Cert.Grad.frame_up_proj_ideal, Cert.Grad.frame_up_product,
  fun m ρ _ => Cert.InBwd.Gen.frame m ρ, fun m ρ _ => Cert.InBwdIdeal.Gen.frame m ρ, Cert.Grad.frame_in,
  fun m ρ _ => Cert.InProj.Gen.frame m ρ, fun m ρ _ => Cert.InProjIdeal.Gen.frame m ρ, Cert.Grad.frame_input,
  fun m ρ _ => Cert.OutProj.Gen.frame m ρ, fun m ρ _ => Cert.OutProjIdeal.Gen.frame m ρ, Cert.Grad.frame_out,
  fun m ρ _ => Cert.AdamIn.Gen.frame m ρ, fun m ρ _ => Cert.AdamInIdeal.Gen.frame m ρ, Cert.Grad.frame_adam_in,
  fun m ρ _ => Cert.AdamUq.Gen.frame m ρ, fun m ρ _ => Cert.AdamUqIdeal.Gen.frame m ρ, Cert.Grad.frame_adam_uq,
  fun m ρ _ => Cert.AdamUkv.Gen.frame m ρ, fun m ρ _ => Cert.AdamUkvIdeal.Gen.frame m ρ, Cert.Grad.frame_adam_ukv,
  fun m ρ _ => Cert.AdamSquare.Gen.frame m ρ, fun m ρ _ => Cert.AdamSquareIdeal.Gen.frame m ρ, Cert.Grad.frame_adam_square,
  fun m ρ _ => Cert.AdamMemKv.Gen.frame m ρ, fun m ρ _ => Cert.AdamMemKvIdeal.Gen.frame m ρ, Cert.Grad.frame_adam_mem_kv,
  fun m ρ _ => Cert.AdamUp.Gen.frame m ρ, fun m ρ _ => Cert.AdamUpIdeal.Gen.frame m ρ, Cert.Grad.frame_adam_up,
  fun m ρ _ => Cert.AdamDown.Gen.frame m ρ, fun m ρ _ => Cert.AdamDownIdeal.Gen.frame m ρ, Cert.Grad.frame_adam_down,
  fun m ρ _ => Cert.DwOutU.Gen.frame m ρ, fun m ρ _ => Cert.DwOutUIdeal.Gen.frame m ρ, Cert.Grad.frame_out_u_weight,
  fun m ρ _ => Cert.DwUq.Gen.frame m ρ, fun m ρ _ => Cert.DwUqIdeal.Gen.frame m ρ, Cert.Grad.frame_uq_weight,
  fun m ρ _ => Cert.DwUkv.Gen.frame m ρ, fun m ρ _ => Cert.DwUkvIdeal.Gen.frame m ρ, Cert.Grad.frame_ukv_weight,
  fun m ρ _ => Cert.DwInQuery.Gen.frame m ρ, fun m ρ _ => Cert.DwInQueryIdeal.Gen.frame m ρ, Cert.Grad.frame_in_query_weight,
  fun m ρ _ => Cert.DwInKv.Gen.frame m ρ, fun m ρ _ => Cert.DwInKvIdeal.Gen.frame m ρ, Cert.Grad.frame_in_kv_weight,
  fun m ρ _ => Cert.DwInRope.Gen.frame m ρ, fun m ρ _ => Cert.DwInRopeIdeal.Gen.frame m ρ, Cert.Grad.frame_in_rope_weight,
  fun m ρ _ => Cert.DwMemKv.Gen.frame m ρ, fun m ρ _ => Cert.DwMemKvIdeal.Gen.frame m ρ, Cert.Grad.frame_mem_kv_weight,
  fun m ρ _ => Cert.MemkvBwd.Gen.frame m ρ, fun m ρ _ => Cert.MemkvBwdIdeal.Gen.frame m ρ, Cert.Grad.frame_memkv,
  fun m ρ _ => Cert.QueryUpBwd.Gen.frame m ρ, fun m ρ _ => Cert.QueryUpBwdIdeal.Gen.frame m ρ, Cert.Grad.frame_query_up,
  fun m ρ _ => Cert.KvUpBwd.Gen.frame m ρ, fun m ρ _ => Cert.KvUpBwdIdeal.Gen.frame m ρ, Cert.Grad.frame_kv_up,
  fun m ρ _ => Cert.ConvNormBwd.Gen.frame m ρ, fun m ρ _ => Cert.ConvNormBwdIdeal.Gen.frame m ρ,
  fun m ρ _ => Cert.ConvNormBwdIdeal.Gen.frame m ρ, fun m ρ _ => Cert.Grad.conv_norm_frame m ρ trivial,
  fun m ρ _ => Cert.Grad.conv_norm_frame m ρ trivial,
  trivial, Cert.Grad.algebraic_memattn,
  trivial, Cert.Grad.algebraic_up,
  trivial, Cert.Grad.algebraic_up_weight,
  trivial, Cert.Grad.algebraic_down,
  trivial, Cert.Grad.algebraic_down_weight,
  trivial, Cert.Grad.algebraic_loss,
  trivial, Cert.Grad.algebraic_square_weight,
  trivial, Cert.Grad.algebraic_memo,
  trivial, Cert.Grad.algebraic_memo_grad,
  trivial, Cert.Grad.algebraic_memq,
  trivial, Cert.Grad.algebraic_query,
  trivial, Cert.Grad.algebraic_up_product,
  trivial, Cert.Grad.algebraic_in,
  trivial, Cert.Grad.algebraic_input,
  trivial, Cert.Grad.algebraic_out,
  trivial, Cert.Grad.algebraic_adam_in,
  trivial, Cert.Grad.algebraic_adam_uq,
  trivial, Cert.Grad.algebraic_adam_ukv,
  trivial, Cert.Grad.algebraic_adam_square,
  trivial, Cert.Grad.algebraic_adam_mem_kv,
  trivial, Cert.Grad.algebraic_adam_up,
  trivial, Cert.Grad.algebraic_adam_down,
  trivial, Cert.Grad.algebraic_out_u_weight,
  trivial, Cert.Grad.algebraic_uq_weight,
  trivial, Cert.Grad.algebraic_ukv_weight,
  trivial, Cert.Grad.algebraic_in_query_weight,
  trivial, Cert.Grad.algebraic_in_kv_weight,
  trivial, Cert.Grad.algebraic_in_rope_weight,
  trivial, Cert.Grad.algebraic_mem_kv_weight,
  trivial, Cert.Grad.algebraic_memkv,
  trivial, Cert.Grad.algebraic_query_up,
  trivial, Cert.Grad.algebraic_kv_up,
  trivial, Cert.Grad.algebraic_conv_norm⟩

end Cert.Proof

end
